-- ==== Defs.lean ====
def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownRefIdeal (m : (ℓ : Loc Cert.WgDownRefIdeal.nD Cert.WgDownRefIdeal.τ Cert.WgDownRefIdeal.sig) → Buf (Elt Ideal) ℓ) : Prop :=
  True

def Pre_WgUp (m : (ℓ : Loc Cert.WgUp.nD Cert.WgUp.τ Cert.WgUp.sig) → Buf (Elt Bits) ℓ) : Prop :=
  True

def Pre_WgUpIdeal (m : (ℓ : Loc Cert.WgUpIdeal.nD Cert.WgUpIdeal.τ Cert.WgUpIdeal.sig) → Buf (Elt Ideal) ℓ) : Prop :=
  True

def Pre_WgUpRefIdeal (m : (ℓ : Loc Cert.WgUpRefIdeal.nD Cert.WgUpRefIdeal.τ Cert.WgUpRefIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutRefIdeal (m : (ℓ : Loc Cert.WgOutRefIdeal.nD Cert.WgOutRefIdeal.τ Cert.WgOutRefIdeal.sig) → Buf (Elt Ideal) ℓ) : Prop :=
  True

def Pre_DgDown (m : (ℓ : Loc Cert.DgDown.nD Cert.DgDown.τ Cert.DgDown.sig) → Buf (Elt Bits) ℓ) : Prop :=
  True

def Pre_DgDownIdeal (m : (ℓ : Loc Cert.DgDownIdeal.nD Cert.DgDownIdeal.τ Cert.DgDownIdeal.sig) → Buf (Elt Ideal) ℓ) : Prop :=
  True

def Pre_DgDownRefIdeal (m : (ℓ : Loc Cert.DgDownRefIdeal.nD Cert.DgDownRefIdeal.τ Cert.DgDownRefIdeal.sig) → Buf (Elt Ideal) ℓ) : Prop :=
  True

def Pre_DgGate (m : (ℓ : Loc Cert.DgGate.nD Cert.DgGate.τ Cert.DgGate.sig) → Buf (Elt Bits) ℓ) : Prop :=
  True

def Pre_DgGateIdeal (m : (ℓ : Loc Cert.DgGateIdeal.nD Cert.DgGateIdeal.τ Cert.DgGateIdeal.sig) → Buf (Elt Ideal) ℓ) : Prop :=
  True

def Pre_DgGateRefIdeal (m : (ℓ : Loc Cert.DgGateRefIdeal.nD Cert.DgGateRefIdeal.τ Cert.DgGateRefIdeal.sig) → Buf (Elt Ideal) ℓ) : Prop :=
  True

def Pre_DgUp (m : (ℓ : Loc Cert.DgUp.nD Cert.DgUp.τ Cert.DgUp.sig) → Buf (Elt Bits) ℓ) : Prop :=
  True

def Pre_DgUpIdeal (m : (ℓ : Loc Cert.DgUpIdeal.nD Cert.DgUpIdeal.τ Cert.DgUpIdeal.sig) → Buf (Elt Ideal) ℓ) : Prop :=
  True

def Pre_DgUpRefIdeal (m : (ℓ : Loc Cert.DgUpRefIdeal.nD Cert.DgUpRefIdeal.τ Cert.DgUpRefIdeal.sig) → Buf (Elt Ideal) ℓ) : Prop :=
  True

def Pre_DgOut (m : (ℓ : Loc Cert.DgOut.nD Cert.DgOut.τ Cert.DgOut.sig) → Buf (Elt Bits) ℓ) : Prop :=
  True

def Pre_DgOutIdeal (m : (ℓ : Loc Cert.DgOutIdeal.nD Cert.DgOutIdeal.τ Cert.DgOutIdeal.sig) → Buf (Elt Ideal) ℓ) : Prop :=
  True

def Pre_DgOutRefIdeal (m : (ℓ : Loc Cert.DgOutRefIdeal.nD Cert.DgOutRefIdeal.τ Cert.DgOutRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_ResgateBwd (m : (ℓ : Loc Cert.ResgateBwd.nD Cert.ResgateBwd.τ Cert.ResgateBwd.sig) → Buf (Elt Bits) ℓ) : Prop :=
  True

def Pre_ResgateBwdIdeal (m : (ℓ : Loc Cert.ResgateBwdIdeal.nD Cert.ResgateBwdIdeal.τ Cert.ResgateBwdIdeal.sig) → Buf (Elt Ideal) ℓ) : Prop :=
  True

def Pre_ResgateBwdRefIdeal (m : (ℓ : Loc Cert.ResgateBwdRefIdeal.nD Cert.ResgateBwdRefIdeal.τ Cert.ResgateBwdRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmOutDn (m : (ℓ : Loc Cert.MmOutDn.nD Cert.MmOutDn.τ Cert.MmOutDn.sig) → Buf (Elt Bits) ℓ) : Prop :=
  True

def Pre_MmOutDnIdeal (m : (ℓ : Loc Cert.MmOutDnIdeal.nD Cert.MmOutDnIdeal.τ Cert.MmOutDnIdeal.sig) → Buf (Elt Ideal) ℓ) : Prop :=
  True

def Pre_MmOutDnRefIdeal (m : (ℓ : Loc Cert.MmOutDnRefIdeal.nD Cert.MmOutDnRefIdeal.τ Cert.MmOutDnRefIdeal.sig) → Buf (Elt Ideal) ℓ) : Prop :=
  True

def Pre_MmOutAt (m : (ℓ : Loc Cert.MmOutAt.nD Cert.MmOutAt.τ Cert.MmOutAt.sig) → Buf (Elt Bits) ℓ) : Prop :=
  True

def Pre_MmOutAtIdeal (m : (ℓ : Loc Cert.MmOutAtIdeal.nD Cert.MmOutAtIdeal.τ Cert.MmOutAtIdeal.sig) → Buf (Elt Ideal) ℓ) : Prop :=
  True

def Pre_MmOutAtRefIdeal (m : (ℓ : Loc Cert.MmOutAtRefIdeal.nD Cert.MmOutAtRefIdeal.τ Cert.MmOutAtRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_NormmodBwd (m : (ℓ : Loc Cert.NormmodBwd.nD Cert.NormmodBwd.τ Cert.NormmodBwd.sig) → Buf (Elt Bits) ℓ) : Prop :=
  True

def Pre_NormmodBwdIdeal (m : (ℓ : Loc Cert.NormmodBwdIdeal.nD Cert.NormmodBwdIdeal.τ Cert.NormmodBwdIdeal.sig) → Buf (Elt Ideal) ℓ) : Prop :=
  True

def Pre_NormmodBwdRefIdeal (m : (ℓ : Loc Cert.NormmodBwdRefIdeal.nD Cert.NormmodBwdRefIdeal.τ Cert.NormmodBwdRefIdeal.sig) → Buf (Elt Ideal) ℓ) : Prop :=
  True

def Pre_Normmod (m : (ℓ : Loc Cert.Normmod.nD Cert.Normmod.τ Cert.Normmod.sig) → Buf (Elt Bits) ℓ) : Prop :=
  True

def Pre_NormmodIdeal (m : (ℓ : Loc Cert.NormmodIdeal.nD Cert.NormmodIdeal.τ Cert.NormmodIdeal.sig) → Buf (Elt Ideal) ℓ) : Prop :=
  True

def Pre_NormmodRefIdeal (m : (ℓ : Loc Cert.NormmodRefIdeal.nD Cert.NormmodRefIdeal.τ Cert.NormmodRefIdeal.sig) → Buf (Elt Ideal) ℓ) : Prop :=
  True

def Pre_Dnpost (m : (ℓ : Loc Cert.Dnpost.nD Cert.Dnpost.τ Cert.Dnpost.sig) → Buf (Elt Bits) ℓ) : Prop :=
  True

def Pre_DnpostIdeal (m : (ℓ : Loc Cert.DnpostIdeal.nD Cert.DnpostIdeal.τ Cert.DnpostIdeal.sig) → Buf (Elt Ideal) ℓ) : Prop :=
  True

def Pre_DnpostRefIdeal (m : (ℓ : Loc Cert.DnpostRefIdeal.nD Cert.DnpostRefIdeal.τ Cert.DnpostRefIdeal.sig) → Buf (Elt Ideal) ℓ) : Prop :=
  True

def Pre_DnpostBwd (m : (ℓ : Loc Cert.DnpostBwd.nD Cert.DnpostBwd.τ Cert.DnpostBwd.sig) → Buf (Elt Bits) ℓ) : Prop :=
  True

def Pre_DnpostBwdIdeal (m : (ℓ : Loc Cert.DnpostBwdIdeal.nD Cert.DnpostBwdIdeal.τ Cert.DnpostBwdIdeal.sig) → Buf (Elt Ideal) ℓ) : Prop :=
  True

def Pre_DnpostBwdRefIdeal (m : (ℓ : Loc Cert.DnpostBwdRefIdeal.nD Cert.DnpostBwdRefIdeal.τ Cert.DnpostBwdRefIdeal.sig) → Buf (Elt Ideal) ℓ) : Prop :=
  True

def Pre_Dnpre (m : (ℓ : Loc Cert.Dnpre.nD Cert.Dnpre.τ Cert.Dnpre.sig) → Buf (Elt Bits) ℓ) : Prop :=
  True

def Pre_DnpreIdeal (m : (ℓ : Loc Cert.DnpreIdeal.nD Cert.DnpreIdeal.τ Cert.DnpreIdeal.sig) → Buf (Elt Ideal) ℓ) : Prop :=
  True

def Pre_DnpreRefIdeal (m : (ℓ : Loc Cert.DnpreRefIdeal.nD Cert.DnpreRefIdeal.τ Cert.DnpreRefIdeal.sig) → Buf (Elt Ideal) ℓ) : Prop :=
  True

def Pre_DnpreBwd (m : (ℓ : Loc Cert.DnpreBwd.nD Cert.DnpreBwd.τ Cert.DnpreBwd.sig) → Buf (Elt Bits) ℓ) : Prop :=
  True

def Pre_DnpreBwdIdeal (m : (ℓ : Loc Cert.DnpreBwdIdeal.nD Cert.DnpreBwdIdeal.τ Cert.DnpreBwdIdeal.sig) → Buf (Elt Ideal) ℓ) : Prop :=
  True

def Pre_DnpreBwdRefIdeal (m : (ℓ : Loc Cert.DnpreBwdRefIdeal.nD Cert.DnpreBwdRefIdeal.τ Cert.DnpreBwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_KvCombine (m : (ℓ : Loc Cert.KvCombine.nD Cert.KvCombine.τ Cert.KvCombine.sig) → Buf (Elt Bits) ℓ) : Prop :=
  True

def Pre_KvCombineIdeal (m : (ℓ : Loc Cert.KvCombineIdeal.nD Cert.KvCombineIdeal.τ Cert.KvCombineIdeal.sig) → Buf (Elt Ideal) ℓ) : Prop :=
  True

def Pre_KvCombineRefIdeal (m : (ℓ : Loc Cert.KvCombineRefIdeal.nD Cert.KvCombineRefIdeal.τ Cert.KvCombineRefIdeal.sig) → Buf (Elt Ideal) ℓ) : Prop :=
  True

def Pre_Bg (m : (ℓ : Loc Cert.Bg.nD Cert.Bg.τ Cert.Bg.sig) → Buf (Elt Bits) ℓ) : Prop :=
  True

def Pre_BgIdeal (m : (ℓ : Loc Cert.BgIdeal.nD Cert.BgIdeal.τ Cert.BgIdeal.sig) → Buf (Elt Ideal) ℓ) : Prop :=
  True

def Pre_BgRefIdeal (m : (ℓ : Loc Cert.BgRefIdeal.nD Cert.BgRefIdeal.τ Cert.BgRefIdeal.sig) → Buf (Elt Ideal) ℓ) : Prop :=
  True

def Pre_LossRows (m : (ℓ : Loc Cert.LossRows.nD Cert.LossRows.τ Cert.LossRows.sig) → Buf (Elt Bits) ℓ) : Prop :=
  True

def Pre_LossRowsIdeal (m : (ℓ : Loc Cert.LossRowsIdeal.nD Cert.LossRowsIdeal.τ Cert.LossRowsIdeal.sig) → Buf (Elt Ideal) ℓ) : Prop :=
  True

def Pre_LossRowsRefIdeal (m : (ℓ : Loc Cert.LossRowsRefIdeal.nD Cert.LossRowsRefIdeal.τ Cert.LossRowsRefIdeal.sig) → Buf (Elt Ideal) ℓ) : Prop :=
  True

def Pre_AdamwGu (m : (ℓ : Loc Cert.AdamwGu.nD Cert.AdamwGu.τ Cert.AdamwGu.sig) → Buf (Elt Bits) ℓ) : Prop :=
  True

def Pre_AdamwGuIdeal (m : (ℓ : Loc Cert.AdamwGuIdeal.nD Cert.AdamwGuIdeal.τ Cert.AdamwGuIdeal.sig) → Buf (Elt Ideal) ℓ) : Prop :=
  True

def Pre_AdamwGuRefIdeal (m : (ℓ : Loc Cert.AdamwGuRefIdeal.nD Cert.AdamwGuRefIdeal.τ Cert.AdamwGuRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite [hPre_finite : Cert.Pre_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5)) (m ((c.tc : Thread Cert.AttnBwdRefIdeal.nD Cert.AttnBwdRefIdeal.τ).loc Cert.AttnBwdRefIdeal.main_arg6))) = (fun _ => 1#1)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ r.2.sem = fun _ => 0)

def quiescent_WgDownRefIdeal [hWgDownRefIdeal : Cert.WgDownRefIdeal.Facts] : Prop :=
  ∀ (m : (ℓ : Loc Cert.WgDownRefIdeal.nD Cert.WgDownRefIdeal.τ Cert.WgDownRefIdeal.sig) → Buf (Elt Ideal) ℓ) (g : Dev Cert.WgDownRefIdeal.nD → PrngReg), Pre_WgDownRefIdeal m →
    θ_run (Cert.WgDownRefIdeal.defs (F := Ideal)) (onTc (τ := Cert.WgDownRefIdeal.τ) (Cert.WgDownRefIdeal.main (F := Ideal))) ⟨m, fun _ => 0, g⟩ (fun r => (∀ c : Dev Cert.WgDownRefIdeal.nD,
      r.2.mem ((c.tc : Thread Cert.WgDownRefIdeal.nD Cert.WgDownRefIdeal.τ).loc Cert.WgDownRefIdeal.main_arg0) = m ((c.tc : Thread Cert.WgDownRefIdeal.nD Cert.WgDownRefIdeal.τ).loc Cert.WgDownRefIdeal.main_arg0)
      ∧ r.2.mem ((c.tc : Thread Cert.WgDownRefIdeal.nD Cert.WgDownRefIdeal.τ).loc Cert.WgDownRefIdeal.main_arg1) = m ((c.tc : Thread Cert.WgDownRefIdeal.nD Cert.WgDownRefIdeal.τ).loc Cert.WgDownRefIdeal.main_arg1))
      ∧ r.2.sem = fun _ => 0)

def quiescent_WgUp [hWgUp : Cert.WgUp.Facts] : Prop :=
  ∀ (m : (ℓ : Loc Cert.WgUp.nD Cert.WgUp.τ Cert.WgUp.sig) → Buf (Elt Bits) ℓ) (g : Dev Cert.WgUp.nD → PrngReg), Pre_WgUp m →
    θ_run (Cert.WgUp.defs (F := Bits)) (onTc (τ := Cert.WgUp.τ) (Cert.WgUp.main (F := Bits))) ⟨m, fun _ => 0, g⟩ (fun r => (∀ c : Dev Cert.WgUp.nD,
      r.2.mem ((c.tc : Thread Cert.WgUp.nD Cert.WgUp.τ).loc Cert.WgUp.main_arg0) = m ((c.tc : Thread Cert.WgUp.nD Cert.WgUp.τ).loc Cert.WgUp.main_arg0)
      ∧ r.2.mem ((c.tc : Thread Cert.WgUp.nD Cert.WgUp.τ).loc Cert.WgUp.main_arg1) = m ((c.tc : Thread Cert.WgUp.nD Cert.WgUp.τ).loc Cert.WgUp.main_arg1))
      ∧ r.2.sem = fun _ => 0)

def quiescent_WgUpIdeal [hWgUpIdeal : Cert.WgUpIdeal.Facts] : Prop :=
  ∀ (m : (ℓ : Loc Cert.WgUpIdeal.nD Cert.WgUpIdeal.τ Cert.WgUpIdeal.sig) → Buf (Elt Ideal) ℓ) (g : Dev Cert.WgUpIdeal.nD → PrngReg), Pre_WgUpIdeal m →
    θ_run (Cert.WgUpIdeal.defs (F := Ideal)) (onTc (τ := Cert.WgUpIdeal.τ) (Cert.WgUpIdeal.main (F := Ideal))) ⟨m, fun _ => 0, g⟩ (fun r => (∀ c : Dev Cert.WgUpIdeal.nD,
      r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
      ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ r.2.sem = fun _ => 0)

def quiescent_WgUpRefIdeal [hWgUpRefIdeal : Cert.WgUpRefIdeal.Facts] : Prop :=
  ∀ (m : (ℓ : Loc Cert.WgUpRefIdeal.nD Cert.WgUpRefIdeal.τ Cert.WgUpRefIdeal.sig) → Buf (Elt Ideal) ℓ) (g : Dev Cert.WgUpRefIdeal.nD → PrngReg), Pre_WgUpRefIdeal m →
    θ_run (Cert.WgUpRefIdeal.defs (F := Ideal)) (onTc (τ := Cert.WgUpRefIdeal.τ) (Cert.WgUpRefIdeal.main (F := Ideal))) ⟨m, fun _ => 0, g⟩ (fun r => (∀ c : Dev Cert.WgUpRefIdeal.nD,
      r.2.mem ((c.tc : Thread Cert.WgUpRefIdeal.nD Cert.WgUpRefIdeal.τ).loc Cert.WgUpRefIdeal.main_arg0) = m ((c.tc : Thread Cert.WgUpRefIdeal.nD Cert.WgUpRefIdeal.τ).loc Cert.WgUpRefIdeal.main_arg0)
      ∧ r.2.mem ((c.tc : Thread Cert.WgUpRefIdeal.nD Cert.WgUpRefIdeal.τ).loc Cert.WgUpRefIdeal.main_arg1) = m ((c.tc : Thread Cert.WgUpRefIdeal.nD Cert.WgUpRefIdeal.τ).loc Cert.WgUpRefIdeal.main_arg1))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ r.2.sem = fun _ => 0)

def quiescent_WgOutRefIdeal [hWgOutRefIdeal : Cert.WgOutRefIdeal.Facts] : Prop :=
  ∀ (m : (ℓ : Loc Cert.WgOutRefIdeal.nD Cert.WgOutRefIdeal.τ Cert.WgOutRefIdeal.sig) → Buf (Elt Ideal) ℓ) (g : Dev Cert.WgOutRefIdeal.nD → PrngReg), Pre_WgOutRefIdeal m →
    θ_run (Cert.WgOutRefIdeal.defs (F := Ideal)) (onTc (τ := Cert.WgOutRefIdeal.τ) (Cert.WgOutRefIdeal.main (F := Ideal))) ⟨m, fun _ => 0, g⟩ (fun r => (∀ c : Dev Cert.WgOutRefIdeal.nD,
      r.2.mem ((c.tc : Thread Cert.WgOutRefIdeal.nD Cert.WgOutRefIdeal.τ).loc Cert.WgOutRefIdeal.main_arg0) = m ((c.tc : Thread Cert.WgOutRefIdeal.nD Cert.WgOutRefIdeal.τ).loc Cert.WgOutRefIdeal.main_arg0)
      ∧ r.2.mem ((c.tc : Thread Cert.WgOutRefIdeal.nD Cert.WgOutRefIdeal.τ).loc Cert.WgOutRefIdeal.main_arg1) = m ((c.tc : Thread Cert.WgOutRefIdeal.nD Cert.WgOutRefIdeal.τ).loc Cert.WgOutRefIdeal.main_arg1))
      ∧ r.2.sem = fun _ => 0)

def quiescent_DgDown [hDgDown : Cert.DgDown.Facts] : Prop :=
  ∀ (m : (ℓ : Loc Cert.DgDown.nD Cert.DgDown.τ Cert.DgDown.sig) → Buf (Elt Bits) ℓ) (g : Dev Cert.DgDown.nD → PrngReg), Pre_DgDown m →
    θ_run (Cert.DgDown.defs (F := Bits)) (onTc (τ := Cert.DgDown.τ) (Cert.DgDown.main (F := Bits))) ⟨m, fun _ => 0, g⟩ (fun r => (∀ c : Dev Cert.DgDown.nD,
      r.2.mem ((c.tc : Thread Cert.DgDown.nD Cert.DgDown.τ).loc Cert.DgDown.main_arg0) = m ((c.tc : Thread Cert.DgDown.nD Cert.DgDown.τ).loc Cert.DgDown.main_arg0)
      ∧ r.2.mem ((c.tc : Thread Cert.DgDown.nD Cert.DgDown.τ).loc Cert.DgDown.main_arg1) = m ((c.tc : Thread Cert.DgDown.nD Cert.DgDown.τ).loc Cert.DgDown.main_arg1))
      ∧ r.2.sem = fun _ => 0)

def quiescent_DgDownIdeal [hDgDownIdeal : Cert.DgDownIdeal.Facts] : Prop :=
  ∀ (m : (ℓ : Loc Cert.DgDownIdeal.nD Cert.DgDownIdeal.τ Cert.DgDownIdeal.sig) → Buf (Elt Ideal) ℓ) (g : Dev Cert.DgDownIdeal.nD → PrngReg), Pre_DgDownIdeal m →
    θ_run (Cert.DgDownIdeal.defs (F := Ideal)) (onTc (τ := Cert.DgDownIdeal.τ) (Cert.DgDownIdeal.main (F := Ideal))) ⟨m, fun _ => 0, g⟩ (fun r => (∀ c : Dev Cert.DgDownIdeal.nD,
      r.2.mem ((c.tc : Thread Cert.DgDownIdeal.nD Cert.DgDownIdeal.τ).loc Cert.DgDownIdeal.main_arg0) = m ((c.tc : Thread Cert.DgDownIdeal.nD Cert.DgDownIdeal.τ).loc Cert.DgDownIdeal.main_arg0)
      ∧ r.2.mem ((c.tc : Thread Cert.DgDownIdeal.nD Cert.DgDownIdeal.τ).loc Cert.DgDownIdeal.main_arg1) = m ((c.tc : Thread Cert.DgDownIdeal.nD Cert.DgDownIdeal.τ).loc Cert.DgDownIdeal.main_arg1))
      ∧ r.2.sem = fun _ => 0)

def quiescent_DgDownRefIdeal [hDgDownRefIdeal : Cert.DgDownRefIdeal.Facts] : Prop :=
  ∀ (m : (ℓ : Loc Cert.DgDownRefIdeal.nD Cert.DgDownRefIdeal.τ Cert.DgDownRefIdeal.sig) → Buf (Elt Ideal) ℓ) (g : Dev Cert.DgDownRefIdeal.nD → PrngReg), Pre_DgDownRefIdeal m →
    θ_run (Cert.DgDownRefIdeal.defs (F := Ideal)) (onTc (τ := Cert.DgDownRefIdeal.τ) (Cert.DgDownRefIdeal.main (F := Ideal))) ⟨m, fun _ => 0, g⟩ (fun r => (∀ c : Dev Cert.DgDownRefIdeal.nD,
      r.2.mem ((c.tc : Thread Cert.DgDownRefIdeal.nD Cert.DgDownRefIdeal.τ).loc Cert.DgDownRefIdeal.main_arg0) = m ((c.tc : Thread Cert.DgDownRefIdeal.nD Cert.DgDownRefIdeal.τ).loc Cert.DgDownRefIdeal.main_arg0)
      ∧ r.2.mem ((c.tc : Thread Cert.DgDownRefIdeal.nD Cert.DgDownRefIdeal.τ).loc Cert.DgDownRefIdeal.main_arg1) = m ((c.tc : Thread Cert.DgDownRefIdeal.nD Cert.DgDownRefIdeal.τ).loc Cert.DgDownRefIdeal.main_arg1))
      ∧ r.2.sem = fun _ => 0)

def quiescent_DgGate [hDgGate : Cert.DgGate.Facts] : Prop :=
  ∀ (m : (ℓ : Loc Cert.DgGate.nD Cert.DgGate.τ Cert.DgGate.sig) → Buf (Elt Bits) ℓ) (g : Dev Cert.DgGate.nD → PrngReg), Pre_DgGate m →
    θ_run (Cert.DgGate.defs (F := Bits)) (onTc (τ := Cert.DgGate.τ) (Cert.DgGate.main (F := Bits))) ⟨m, fun _ => 0, g⟩ (fun r => (∀ c : Dev Cert.DgGate.nD,
      r.2.mem ((c.tc : Thread Cert.DgGate.nD Cert.DgGate.τ).loc Cert.DgGate.main_arg0) = m ((c.tc : Thread Cert.DgGate.nD Cert.DgGate.τ).loc Cert.DgGate.main_arg0)
      ∧ r.2.mem ((c.tc : Thread Cert.DgGate.nD Cert.DgGate.τ).loc Cert.DgGate.main_arg1) = m ((c.tc : Thread Cert.DgGate.nD Cert.DgGate.τ).loc Cert.DgGate.main_arg1))
      ∧ r.2.sem = fun _ => 0)

def quiescent_DgGateIdeal [hDgGateIdeal : Cert.DgGateIdeal.Facts] : Prop :=
  ∀ (m : (ℓ : Loc Cert.DgGateIdeal.nD Cert.DgGateIdeal.τ Cert.DgGateIdeal.sig) → Buf (Elt Ideal) ℓ) (g : Dev Cert.DgGateIdeal.nD → PrngReg), Pre_DgGateIdeal m →
    θ_run (Cert.DgGateIdeal.defs (F := Ideal)) (onTc (τ := Cert.DgGateIdeal.τ) (Cert.DgGateIdeal.main (F := Ideal))) ⟨m, fun _ => 0, g⟩ (fun r => (∀ c : Dev Cert.DgGateIdeal.nD,
      r.2.mem ((c.tc : Thread Cert.DgGateIdeal.nD Cert.DgGateIdeal.τ).loc Cert.DgGateIdeal.main_arg0) = m ((c.tc : Thread Cert.DgGateIdeal.nD Cert.DgGateIdeal.τ).loc Cert.DgGateIdeal.main_arg0)
      ∧ r.2.mem ((c.tc : Thread Cert.DgGateIdeal.nD Cert.DgGateIdeal.τ).loc Cert.DgGateIdeal.main_arg1) = m ((c.tc : Thread Cert.DgGateIdeal.nD Cert.DgGateIdeal.τ).loc Cert.DgGateIdeal.main_arg1))
      ∧ r.2.sem = fun _ => 0)

def quiescent_DgGateRefIdeal [hDgGateRefIdeal : Cert.DgGateRefIdeal.Facts] : Prop :=
  ∀ (m : (ℓ : Loc Cert.DgGateRefIdeal.nD Cert.DgGateRefIdeal.τ Cert.DgGateRefIdeal.sig) → Buf (Elt Ideal) ℓ) (g : Dev Cert.DgGateRefIdeal.nD → PrngReg), Pre_DgGateRefIdeal m →
    θ_run (Cert.DgGateRefIdeal.defs (F := Ideal)) (onTc (τ := Cert.DgGateRefIdeal.τ) (Cert.DgGateRefIdeal.main (F := Ideal))) ⟨m, fun _ => 0, g⟩ (fun r => (∀ c : Dev Cert.DgGateRefIdeal.nD,
      r.2.mem ((c.tc : Thread Cert.DgGateRefIdeal.nD Cert.DgGateRefIdeal.τ).loc Cert.DgGateRefIdeal.main_arg0) = m ((c.tc : Thread Cert.DgGateRefIdeal.nD Cert.DgGateRefIdeal.τ).loc Cert.DgGateRefIdeal.main_arg0)
      ∧ r.2.mem ((c.tc : Thread Cert.DgGateRefIdeal.nD Cert.DgGateRefIdeal.τ).loc Cert.DgGateRefIdeal.main_arg1) = m ((c.tc : Thread Cert.DgGateRefIdeal.nD Cert.DgGateRefIdeal.τ).loc Cert.DgGateRefIdeal.main_arg1))
      ∧ r.2.sem = fun _ => 0)

def quiescent_DgUp [hDgUp : Cert.DgUp.Facts] : Prop :=
  ∀ (m : (ℓ : Loc Cert.DgUp.nD Cert.DgUp.τ Cert.DgUp.sig) → Buf (Elt Bits) ℓ) (g : Dev Cert.DgUp.nD → PrngReg), Pre_DgUp m →
    θ_run (Cert.DgUp.defs (F := Bits)) (onTc (τ := Cert.DgUp.τ) (Cert.DgUp.main (F := Bits))) ⟨m, fun _ => 0, g⟩ (fun r => (∀ c : Dev Cert.DgUp.nD,
      r.2.mem ((c.tc : Thread Cert.DgUp.nD Cert.DgUp.τ).loc Cert.DgUp.main_arg0) = m ((c.tc : Thread Cert.DgUp.nD Cert.DgUp.τ).loc Cert.DgUp.main_arg0)
      ∧ r.2.mem ((c.tc : Thread Cert.DgUp.nD Cert.DgUp.τ).loc Cert.DgUp.main_arg1) = m ((c.tc : Thread Cert.DgUp.nD Cert.DgUp.τ).loc Cert.DgUp.main_arg1)
      ∧ r.2.mem ((c.tc : Thread Cert.DgUp.nD Cert.DgUp.τ).loc Cert.DgUp.main_arg2) = m ((c.tc : Thread Cert.DgUp.nD Cert.DgUp.τ).loc Cert.DgUp.main_arg2))
      ∧ r.2.sem = fun _ => 0)

def quiescent_DgUpIdeal [hDgUpIdeal : Cert.DgUpIdeal.Facts] : Prop :=
  ∀ (m : (ℓ : Loc Cert.DgUpIdeal.nD Cert.DgUpIdeal.τ Cert.DgUpIdeal.sig) → Buf (Elt Ideal) ℓ) (g : Dev Cert.DgUpIdeal.nD → PrngReg), Pre_DgUpIdeal m →
    θ_run (Cert.DgUpIdeal.defs (F := Ideal)) (onTc (τ := Cert.DgUpIdeal.τ) (Cert.DgUpIdeal.main (F := Ideal))) ⟨m, fun _ => 0, g⟩ (fun r => (∀ c : Dev Cert.DgUpIdeal.nD,
      r.2.mem ((c.tc : Thread Cert.DgUpIdeal.nD Cert.DgUpIdeal.τ).loc Cert.DgUpIdeal.main_arg0) = m ((c.tc : Thread Cert.DgUpIdeal.nD Cert.DgUpIdeal.τ).loc Cert.DgUpIdeal.main_arg0)
      ∧ r.2.mem ((c.tc : Thread Cert.DgUpIdeal.nD Cert.DgUpIdeal.τ).loc Cert.DgUpIdeal.main_arg1) = m ((c.tc : Thread Cert.DgUpIdeal.nD Cert.DgUpIdeal.τ).loc Cert.DgUpIdeal.main_arg1)
      ∧ r.2.mem ((c.tc : Thread Cert.DgUpIdeal.nD Cert.DgUpIdeal.τ).loc Cert.DgUpIdeal.main_arg2) = m ((c.tc : Thread Cert.DgUpIdeal.nD Cert.DgUpIdeal.τ).loc Cert.DgUpIdeal.main_arg2))
      ∧ r.2.sem = fun _ => 0)

def quiescent_DgUpRefIdeal [hDgUpRefIdeal : Cert.DgUpRefIdeal.Facts] : Prop :=
  ∀ (m : (ℓ : Loc Cert.DgUpRefIdeal.nD Cert.DgUpRefIdeal.τ Cert.DgUpRefIdeal.sig) → Buf (Elt Ideal) ℓ) (g : Dev Cert.DgUpRefIdeal.nD → PrngReg), Pre_DgUpRefIdeal m →
    θ_run (Cert.DgUpRefIdeal.defs (F := Ideal)) (onTc (τ := Cert.DgUpRefIdeal.τ) (Cert.DgUpRefIdeal.main (F := Ideal))) ⟨m, fun _ => 0, g⟩ (fun r => (∀ c : Dev Cert.DgUpRefIdeal.nD,
      r.2.mem ((c.tc : Thread Cert.DgUpRefIdeal.nD Cert.DgUpRefIdeal.τ).loc Cert.DgUpRefIdeal.main_arg0) = m ((c.tc : Thread Cert.DgUpRefIdeal.nD Cert.DgUpRefIdeal.τ).loc Cert.DgUpRefIdeal.main_arg0)
      ∧ r.2.mem ((c.tc : Thread Cert.DgUpRefIdeal.nD Cert.DgUpRefIdeal.τ).loc Cert.DgUpRefIdeal.main_arg1) = m ((c.tc : Thread Cert.DgUpRefIdeal.nD Cert.DgUpRefIdeal.τ).loc Cert.DgUpRefIdeal.main_arg1)
      ∧ r.2.mem ((c.tc : Thread Cert.DgUpRefIdeal.nD Cert.DgUpRefIdeal.τ).loc Cert.DgUpRefIdeal.main_arg2) = m ((c.tc : Thread Cert.DgUpRefIdeal.nD Cert.DgUpRefIdeal.τ).loc Cert.DgUpRefIdeal.main_arg2))
      ∧ r.2.sem = fun _ => 0)

def quiescent_DgOut [hDgOut : Cert.DgOut.Facts] : Prop :=
  ∀ (m : (ℓ : Loc Cert.DgOut.nD Cert.DgOut.τ Cert.DgOut.sig) → Buf (Elt Bits) ℓ) (g : Dev Cert.DgOut.nD → PrngReg), Pre_DgOut m →
    θ_run (Cert.DgOut.defs (F := Bits)) (onTc (τ := Cert.DgOut.τ) (Cert.DgOut.main (F := Bits))) ⟨m, fun _ => 0, g⟩ (fun r => (∀ c : Dev Cert.DgOut.nD,
      r.2.mem ((c.tc : Thread Cert.DgOut.nD Cert.DgOut.τ).loc Cert.DgOut.main_arg0) = m ((c.tc : Thread Cert.DgOut.nD Cert.DgOut.τ).loc Cert.DgOut.main_arg0)
      ∧ r.2.mem ((c.tc : Thread Cert.DgOut.nD Cert.DgOut.τ).loc Cert.DgOut.main_arg1) = m ((c.tc : Thread Cert.DgOut.nD Cert.DgOut.τ).loc Cert.DgOut.main_arg1))
      ∧ r.2.sem = fun _ => 0)

def quiescent_DgOutIdeal [hDgOutIdeal : Cert.DgOutIdeal.Facts] : Prop :=
  ∀ (m : (ℓ : Loc Cert.DgOutIdeal.nD Cert.DgOutIdeal.τ Cert.DgOutIdeal.sig) → Buf (Elt Ideal) ℓ) (g : Dev Cert.DgOutIdeal.nD → PrngReg), Pre_DgOutIdeal m →
    θ_run (Cert.DgOutIdeal.defs (F := Ideal)) (onTc (τ := Cert.DgOutIdeal.τ) (Cert.DgOutIdeal.main (F := Ideal))) ⟨m, fun _ => 0, g⟩ (fun r => (∀ c : Dev Cert.DgOutIdeal.nD,
      r.2.mem ((c.tc : Thread Cert.DgOutIdeal.nD Cert.DgOutIdeal.τ).loc Cert.DgOutIdeal.main_arg0) = m ((c.tc : Thread Cert.DgOutIdeal.nD Cert.DgOutIdeal.τ).loc Cert.DgOutIdeal.main_arg0)
      ∧ r.2.mem ((c.tc : Thread Cert.DgOutIdeal.nD Cert.DgOutIdeal.τ).loc Cert.DgOutIdeal.main_arg1) = m ((c.tc : Thread Cert.DgOutIdeal.nD Cert.DgOutIdeal.τ).loc Cert.DgOutIdeal.main_arg1))
      ∧ r.2.sem = fun _ => 0)

def quiescent_DgOutRefIdeal [hDgOutRefIdeal : Cert.DgOutRefIdeal.Facts] : Prop :=
  ∀ (m : (ℓ : Loc Cert.DgOutRefIdeal.nD Cert.DgOutRefIdeal.τ Cert.DgOutRefIdeal.sig) → Buf (Elt Ideal) ℓ) (g : Dev Cert.DgOutRefIdeal.nD → PrngReg), Pre_DgOutRefIdeal m →
    θ_run (Cert.DgOutRefIdeal.defs (F := Ideal)) (onTc (τ := Cert.DgOutRefIdeal.τ) (Cert.DgOutRefIdeal.main (F := Ideal))) ⟨m, fun _ => 0, g⟩ (fun r => (∀ c : Dev Cert.DgOutRefIdeal.nD,
      r.2.mem ((c.tc : Thread Cert.DgOutRefIdeal.nD Cert.DgOutRefIdeal.τ).loc Cert.DgOutRefIdeal.main_arg0) = m ((c.tc : Thread Cert.DgOutRefIdeal.nD Cert.DgOutRefIdeal.τ).loc Cert.DgOutRefIdeal.main_arg0)
      ∧ r.2.mem ((c.tc : Thread Cert.DgOutRefIdeal.nD Cert.DgOutRefIdeal.τ).loc Cert.DgOutRefIdeal.main_arg1) = m ((c.tc : Thread Cert.DgOutRefIdeal.nD Cert.DgOutRefIdeal.τ).loc Cert.DgOutRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_ResgateBwd [hResgateBwd : Cert.ResgateBwd.Facts] : Prop :=
  ∀ (m : (ℓ : Loc Cert.ResgateBwd.nD Cert.ResgateBwd.τ Cert.ResgateBwd.sig) → Buf (Elt Bits) ℓ) (g : Dev Cert.ResgateBwd.nD → PrngReg), Pre_ResgateBwd m →
    θ_run (Cert.ResgateBwd.defs (F := Bits)) (onTc (τ := Cert.ResgateBwd.τ) (Cert.ResgateBwd.main (F := Bits))) ⟨m, fun _ => 0, g⟩ (fun r => (∀ c : Dev Cert.ResgateBwd.nD,
      r.2.mem ((c.tc : Thread Cert.ResgateBwd.nD Cert.ResgateBwd.τ).loc Cert.ResgateBwd.main_arg0) = m ((c.tc : Thread Cert.ResgateBwd.nD Cert.ResgateBwd.τ).loc Cert.ResgateBwd.main_arg0)
      ∧ r.2.mem ((c.tc : Thread Cert.ResgateBwd.nD Cert.ResgateBwd.τ).loc Cert.ResgateBwd.main_arg1) = m ((c.tc : Thread Cert.ResgateBwd.nD Cert.ResgateBwd.τ).loc Cert.ResgateBwd.main_arg1)
      ∧ r.2.mem ((c.tc : Thread Cert.ResgateBwd.nD Cert.ResgateBwd.τ).loc Cert.ResgateBwd.main_arg2) = m ((c.tc : Thread Cert.ResgateBwd.nD Cert.ResgateBwd.τ).loc Cert.ResgateBwd.main_arg2)
      ∧ r.2.mem ((c.tc : Thread Cert.ResgateBwd.nD Cert.ResgateBwd.τ).loc Cert.ResgateBwd.main_arg3) = m ((c.tc : Thread Cert.ResgateBwd.nD Cert.ResgateBwd.τ).loc Cert.ResgateBwd.main_arg3)
      ∧ r.2.mem ((c.tc : Thread Cert.ResgateBwd.nD Cert.ResgateBwd.τ).loc Cert.ResgateBwd.main_arg4) = m ((c.tc : Thread Cert.ResgateBwd.nD Cert.ResgateBwd.τ).loc Cert.ResgateBwd.main_arg4))
      ∧ r.2.sem = fun _ => 0)

def quiescent_ResgateBwdIdeal [hResgateBwdIdeal : Cert.ResgateBwdIdeal.Facts] : Prop :=
  ∀ (m : (ℓ : Loc Cert.ResgateBwdIdeal.nD Cert.ResgateBwdIdeal.τ Cert.ResgateBwdIdeal.sig) → Buf (Elt Ideal) ℓ) (g : Dev Cert.ResgateBwdIdeal.nD → PrngReg), Pre_ResgateBwdIdeal m →
    θ_run (Cert.ResgateBwdIdeal.defs (F := Ideal)) (onTc (τ := Cert.ResgateBwdIdeal.τ) (Cert.ResgateBwdIdeal.main (F := Ideal))) ⟨m, fun _ => 0, g⟩ (fun r => (∀ c : Dev Cert.ResgateBwdIdeal.nD,
      r.2.mem ((c.tc : Thread Cert.ResgateBwdIdeal.nD Cert.ResgateBwdIdeal.τ).loc Cert.ResgateBwdIdeal.main_arg0) = m ((c.tc : Thread Cert.ResgateBwdIdeal.nD Cert.ResgateBwdIdeal.τ).loc Cert.ResgateBwdIdeal.main_arg0)
      ∧ r.2.mem ((c.tc : Thread Cert.ResgateBwdIdeal.nD Cert.ResgateBwdIdeal.τ).loc Cert.ResgateBwdIdeal.main_arg1) = m ((c.tc : Thread Cert.ResgateBwdIdeal.nD Cert.ResgateBwdIdeal.τ).loc Cert.ResgateBwdIdeal.main_arg1)
      ∧ r.2.mem ((c.tc : Thread Cert.ResgateBwdIdeal.nD Cert.ResgateBwdIdeal.τ).loc Cert.ResgateBwdIdeal.main_arg2) = m ((c.tc : Thread Cert.ResgateBwdIdeal.nD Cert.ResgateBwdIdeal.τ).loc Cert.ResgateBwdIdeal.main_arg2)
      ∧ r.2.mem ((c.tc : Thread Cert.ResgateBwdIdeal.nD Cert.ResgateBwdIdeal.τ).loc Cert.ResgateBwdIdeal.main_arg3) = m ((c.tc : Thread Cert.ResgateBwdIdeal.nD Cert.ResgateBwdIdeal.τ).loc Cert.ResgateBwdIdeal.main_arg3)
      ∧ r.2.mem ((c.tc : Thread Cert.ResgateBwdIdeal.nD Cert.ResgateBwdIdeal.τ).loc Cert.ResgateBwdIdeal.main_arg4) = m ((c.tc : Thread Cert.ResgateBwdIdeal.nD Cert.ResgateBwdIdeal.τ).loc Cert.ResgateBwdIdeal.main_arg4))
      ∧ r.2.sem = fun _ => 0)

def quiescent_ResgateBwdRefIdeal [hResgateBwdRefIdeal : Cert.ResgateBwdRefIdeal.Facts] : Prop :=
  ∀ (m : (ℓ : Loc Cert.ResgateBwdRefIdeal.nD Cert.ResgateBwdRefIdeal.τ Cert.ResgateBwdRefIdeal.sig) → Buf (Elt Ideal) ℓ) (g : Dev Cert.ResgateBwdRefIdeal.nD → PrngReg), Pre_ResgateBwdRefIdeal m →
    θ_run (Cert.ResgateBwdRefIdeal.defs (F := Ideal)) (onTc (τ := Cert.ResgateBwdRefIdeal.τ) (Cert.ResgateBwdRefIdeal.main (F := Ideal))) ⟨m, fun _ => 0, g⟩ (fun r => (∀ c : Dev Cert.ResgateBwdRefIdeal.nD,
      r.2.mem ((c.tc : Thread Cert.ResgateBwdRefIdeal.nD Cert.ResgateBwdRefIdeal.τ).loc Cert.ResgateBwdRefIdeal.main_arg0) = m ((c.tc : Thread Cert.ResgateBwdRefIdeal.nD Cert.ResgateBwdRefIdeal.τ).loc Cert.ResgateBwdRefIdeal.main_arg0)
      ∧ r.2.mem ((c.tc : Thread Cert.ResgateBwdRefIdeal.nD Cert.ResgateBwdRefIdeal.τ).loc Cert.ResgateBwdRefIdeal.main_arg1) = m ((c.tc : Thread Cert.ResgateBwdRefIdeal.nD Cert.ResgateBwdRefIdeal.τ).loc Cert.ResgateBwdRefIdeal.main_arg1)
      ∧ r.2.mem ((c.tc : Thread Cert.ResgateBwdRefIdeal.nD Cert.ResgateBwdRefIdeal.τ).loc Cert.ResgateBwdRefIdeal.main_arg2) = m ((c.tc : Thread Cert.ResgateBwdRefIdeal.nD Cert.ResgateBwdRefIdeal.τ).loc Cert.ResgateBwdRefIdeal.main_arg2)
      ∧ r.2.mem ((c.tc : Thread Cert.ResgateBwdRefIdeal.nD Cert.ResgateBwdRefIdeal.τ).loc Cert.ResgateBwdRefIdeal.main_arg3) = m ((c.tc : Thread Cert.ResgateBwdRefIdeal.nD Cert.ResgateBwdRefIdeal.τ).loc Cert.ResgateBwdRefIdeal.main_arg3)
      ∧ r.2.mem ((c.tc : Thread Cert.ResgateBwdRefIdeal.nD Cert.ResgateBwdRefIdeal.τ).loc Cert.ResgateBwdRefIdeal.main_arg4) = m ((c.tc : Thread Cert.ResgateBwdRefIdeal.nD Cert.ResgateBwdRefIdeal.τ).loc Cert.ResgateBwdRefIdeal.main_arg4))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmOutDn [hMmOutDn : Cert.MmOutDn.Facts] : Prop :=
  ∀ (m : (ℓ : Loc Cert.MmOutDn.nD Cert.MmOutDn.τ Cert.MmOutDn.sig) → Buf (Elt Bits) ℓ) (g : Dev Cert.MmOutDn.nD → PrngReg), Pre_MmOutDn m →
    θ_run (Cert.MmOutDn.defs (F := Bits)) (onTc (τ := Cert.MmOutDn.τ) (Cert.MmOutDn.main (F := Bits))) ⟨m, fun _ => 0, g⟩ (fun r => (∀ c : Dev Cert.MmOutDn.nD,
      r.2.mem ((c.tc : Thread Cert.MmOutDn.nD Cert.MmOutDn.τ).loc Cert.MmOutDn.main_arg0) = m ((c.tc : Thread Cert.MmOutDn.nD Cert.MmOutDn.τ).loc Cert.MmOutDn.main_arg0)
      ∧ r.2.mem ((c.tc : Thread Cert.MmOutDn.nD Cert.MmOutDn.τ).loc Cert.MmOutDn.main_arg1) = m ((c.tc : Thread Cert.MmOutDn.nD Cert.MmOutDn.τ).loc Cert.MmOutDn.main_arg1))
      ∧ r.2.sem = fun _ => 0)

def quiescent_MmOutDnIdeal [hMmOutDnIdeal : Cert.MmOutDnIdeal.Facts] : Prop :=
  ∀ (m : (ℓ : Loc Cert.MmOutDnIdeal.nD Cert.MmOutDnIdeal.τ Cert.MmOutDnIdeal.sig) → Buf (Elt Ideal) ℓ) (g : Dev Cert.MmOutDnIdeal.nD → PrngReg), Pre_MmOutDnIdeal m →
    θ_run (Cert.MmOutDnIdeal.defs (F := Ideal)) (onTc (τ := Cert.MmOutDnIdeal.τ) (Cert.MmOutDnIdeal.main (F := Ideal))) ⟨m, fun _ => 0, g⟩ (fun r => (∀ c : Dev Cert.MmOutDnIdeal.nD,
      r.2.mem ((c.tc : Thread Cert.MmOutDnIdeal.nD Cert.MmOutDnIdeal.τ).loc Cert.MmOutDnIdeal.main_arg0) = m ((c.tc : Thread Cert.MmOutDnIdeal.nD Cert.MmOutDnIdeal.τ).loc Cert.MmOutDnIdeal.main_arg0)
      ∧ r.2.mem ((c.tc : Thread Cert.MmOutDnIdeal.nD Cert.MmOutDnIdeal.τ).loc Cert.MmOutDnIdeal.main_arg1) = m ((c.tc : Thread Cert.MmOutDnIdeal.nD Cert.MmOutDnIdeal.τ).loc Cert.MmOutDnIdeal.main_arg1))
      ∧ r.2.sem = fun _ => 0)

def quiescent_MmOutDnRefIdeal [hMmOutDnRefIdeal : Cert.MmOutDnRefIdeal.Facts] : Prop :=
  ∀ (m : (ℓ : Loc Cert.MmOutDnRefIdeal.nD Cert.MmOutDnRefIdeal.τ Cert.MmOutDnRefIdeal.sig) → Buf (Elt Ideal) ℓ) (g : Dev Cert.MmOutDnRefIdeal.nD → PrngReg), Pre_MmOutDnRefIdeal m →
    θ_run (Cert.MmOutDnRefIdeal.defs (F := Ideal)) (onTc (τ := Cert.MmOutDnRefIdeal.τ) (Cert.MmOutDnRefIdeal.main (F := Ideal))) ⟨m, fun _ => 0, g⟩ (fun r => (∀ c : Dev Cert.MmOutDnRefIdeal.nD,
      r.2.mem ((c.tc : Thread Cert.MmOutDnRefIdeal.nD Cert.MmOutDnRefIdeal.τ).loc Cert.MmOutDnRefIdeal.main_arg0) = m ((c.tc : Thread Cert.MmOutDnRefIdeal.nD Cert.MmOutDnRefIdeal.τ).loc Cert.MmOutDnRefIdeal.main_arg0)
      ∧ r.2.mem ((c.tc : Thread Cert.MmOutDnRefIdeal.nD Cert.MmOutDnRefIdeal.τ).loc Cert.MmOutDnRefIdeal.main_arg1) = m ((c.tc : Thread Cert.MmOutDnRefIdeal.nD Cert.MmOutDnRefIdeal.τ).loc Cert.MmOutDnRefIdeal.main_arg1))
      ∧ r.2.sem = fun _ => 0)

def quiescent_MmOutAt [hMmOutAt : Cert.MmOutAt.Facts] : Prop :=
  ∀ (m : (ℓ : Loc Cert.MmOutAt.nD Cert.MmOutAt.τ Cert.MmOutAt.sig) → Buf (Elt Bits) ℓ) (g : Dev Cert.MmOutAt.nD → PrngReg), Pre_MmOutAt m →
    θ_run (Cert.MmOutAt.defs (F := Bits)) (onTc (τ := Cert.MmOutAt.τ) (Cert.MmOutAt.main (F := Bits))) ⟨m, fun _ => 0, g⟩ (fun r => (∀ c : Dev Cert.MmOutAt.nD,
      r.2.mem ((c.tc : Thread Cert.MmOutAt.nD Cert.MmOutAt.τ).loc Cert.MmOutAt.main_arg0) = m ((c.tc : Thread Cert.MmOutAt.nD Cert.MmOutAt.τ).loc Cert.MmOutAt.main_arg0)
      ∧ r.2.mem ((c.tc : Thread Cert.MmOutAt.nD Cert.MmOutAt.τ).loc Cert.MmOutAt.main_arg1) = m ((c.tc : Thread Cert.MmOutAt.nD Cert.MmOutAt.τ).loc Cert.MmOutAt.main_arg1)
      ∧ r.2.mem ((c.tc : Thread Cert.MmOutAt.nD Cert.MmOutAt.τ).loc Cert.MmOutAt.main_arg2) = m ((c.tc : Thread Cert.MmOutAt.nD Cert.MmOutAt.τ).loc Cert.MmOutAt.main_arg2)
      ∧ r.2.mem ((c.tc : Thread Cert.MmOutAt.nD Cert.MmOutAt.τ).loc Cert.MmOutAt.main_arg3) = m ((c.tc : Thread Cert.MmOutAt.nD Cert.MmOutAt.τ).loc Cert.MmOutAt.main_arg3)
      ∧ r.2.mem ((c.tc : Thread Cert.MmOutAt.nD Cert.MmOutAt.τ).loc Cert.MmOutAt.main_arg4) = m ((c.tc : Thread Cert.MmOutAt.nD Cert.MmOutAt.τ).loc Cert.MmOutAt.main_arg4)
      ∧ r.2.mem ((c.tc : Thread Cert.MmOutAt.nD Cert.MmOutAt.τ).loc Cert.MmOutAt.main_arg5) = m ((c.tc : Thread Cert.MmOutAt.nD Cert.MmOutAt.τ).loc Cert.MmOutAt.main_arg5))
      ∧ r.2.sem = fun _ => 0)

def quiescent_MmOutAtIdeal [hMmOutAtIdeal : Cert.MmOutAtIdeal.Facts] : Prop :=
  ∀ (m : (ℓ : Loc Cert.MmOutAtIdeal.nD Cert.MmOutAtIdeal.τ Cert.MmOutAtIdeal.sig) → Buf (Elt Ideal) ℓ) (g : Dev Cert.MmOutAtIdeal.nD → PrngReg), Pre_MmOutAtIdeal m →
    θ_run (Cert.MmOutAtIdeal.defs (F := Ideal)) (onTc (τ := Cert.MmOutAtIdeal.τ) (Cert.MmOutAtIdeal.main (F := Ideal))) ⟨m, fun _ => 0, g⟩ (fun r => (∀ c : Dev Cert.MmOutAtIdeal.nD,
      r.2.mem ((c.tc : Thread Cert.MmOutAtIdeal.nD Cert.MmOutAtIdeal.τ).loc Cert.MmOutAtIdeal.main_arg0) = m ((c.tc : Thread Cert.MmOutAtIdeal.nD Cert.MmOutAtIdeal.τ).loc Cert.MmOutAtIdeal.main_arg0)
      ∧ r.2.mem ((c.tc : Thread Cert.MmOutAtIdeal.nD Cert.MmOutAtIdeal.τ).loc Cert.MmOutAtIdeal.main_arg1) = m ((c.tc : Thread Cert.MmOutAtIdeal.nD Cert.MmOutAtIdeal.τ).loc Cert.MmOutAtIdeal.main_arg1)
      ∧ r.2.mem ((c.tc : Thread Cert.MmOutAtIdeal.nD Cert.MmOutAtIdeal.τ).loc Cert.MmOutAtIdeal.main_arg2) = m ((c.tc : Thread Cert.MmOutAtIdeal.nD Cert.MmOutAtIdeal.τ).loc Cert.MmOutAtIdeal.main_arg2)
      ∧ r.2.mem ((c.tc : Thread Cert.MmOutAtIdeal.nD Cert.MmOutAtIdeal.τ).loc Cert.MmOutAtIdeal.main_arg3) = m ((c.tc : Thread Cert.MmOutAtIdeal.nD Cert.MmOutAtIdeal.τ).loc Cert.MmOutAtIdeal.main_arg3)
      ∧ r.2.mem ((c.tc : Thread Cert.MmOutAtIdeal.nD Cert.MmOutAtIdeal.τ).loc Cert.MmOutAtIdeal.main_arg4) = m ((c.tc : Thread Cert.MmOutAtIdeal.nD Cert.MmOutAtIdeal.τ).loc Cert.MmOutAtIdeal.main_arg4)
      ∧ r.2.mem ((c.tc : Thread Cert.MmOutAtIdeal.nD Cert.MmOutAtIdeal.τ).loc Cert.MmOutAtIdeal.main_arg5) = m ((c.tc : Thread Cert.MmOutAtIdeal.nD Cert.MmOutAtIdeal.τ).loc Cert.MmOutAtIdeal.main_arg5))
      ∧ r.2.sem = fun _ => 0)

def quiescent_MmOutAtRefIdeal [hMmOutAtRefIdeal : Cert.MmOutAtRefIdeal.Facts] : Prop :=
  ∀ (m : (ℓ : Loc Cert.MmOutAtRefIdeal.nD Cert.MmOutAtRefIdeal.τ Cert.MmOutAtRefIdeal.sig) → Buf (Elt Ideal) ℓ) (g : Dev Cert.MmOutAtRefIdeal.nD → PrngReg), Pre_MmOutAtRefIdeal m →
    θ_run (Cert.MmOutAtRefIdeal.defs (F := Ideal)) (onTc (τ := Cert.MmOutAtRefIdeal.τ) (Cert.MmOutAtRefIdeal.main (F := Ideal))) ⟨m, fun _ => 0, g⟩ (fun r => (∀ c : Dev Cert.MmOutAtRefIdeal.nD,
      r.2.mem ((c.tc : Thread Cert.MmOutAtRefIdeal.nD Cert.MmOutAtRefIdeal.τ).loc Cert.MmOutAtRefIdeal.main_arg0) = m ((c.tc : Thread Cert.MmOutAtRefIdeal.nD Cert.MmOutAtRefIdeal.τ).loc Cert.MmOutAtRefIdeal.main_arg0)
      ∧ r.2.mem ((c.tc : Thread Cert.MmOutAtRefIdeal.nD Cert.MmOutAtRefIdeal.τ).loc Cert.MmOutAtRefIdeal.main_arg1) = m ((c.tc : Thread Cert.MmOutAtRefIdeal.nD Cert.MmOutAtRefIdeal.τ).loc Cert.MmOutAtRefIdeal.main_arg1)
      ∧ r.2.mem ((c.tc : Thread Cert.MmOutAtRefIdeal.nD Cert.MmOutAtRefIdeal.τ).loc Cert.MmOutAtRefIdeal.main_arg2) = m ((c.tc : Thread Cert.MmOutAtRefIdeal.nD Cert.MmOutAtRefIdeal.τ).loc Cert.MmOutAtRefIdeal.main_arg2)
      ∧ r.2.mem ((c.tc : Thread Cert.MmOutAtRefIdeal.nD Cert.MmOutAtRefIdeal.τ).loc Cert.MmOutAtRefIdeal.main_arg3) = m ((c.tc : Thread Cert.MmOutAtRefIdeal.nD Cert.MmOutAtRefIdeal.τ).loc Cert.MmOutAtRefIdeal.main_arg3)
      ∧ r.2.mem ((c.tc : Thread Cert.MmOutAtRefIdeal.nD Cert.MmOutAtRefIdeal.τ).loc Cert.MmOutAtRefIdeal.main_arg4) = m ((c.tc : Thread Cert.MmOutAtRefIdeal.nD Cert.MmOutAtRefIdeal.τ).loc Cert.MmOutAtRefIdeal.main_arg4)
      ∧ r.2.mem ((c.tc : Thread Cert.MmOutAtRefIdeal.nD Cert.MmOutAtRefIdeal.τ).loc Cert.MmOutAtRefIdeal.main_arg5) = m ((c.tc : Thread Cert.MmOutAtRefIdeal.nD Cert.MmOutAtRefIdeal.τ).loc Cert.MmOutAtRefIdeal.main_arg5))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2)
      ∧ r.2.mem ((c.tc : Thread Cert.MmDown.nD Cert.MmDown.τ).loc Cert.MmDown.main_arg3) = m ((c.tc : Thread Cert.MmDown.nD Cert.MmDown.τ).loc Cert.MmDown.main_arg3)
      ∧ r.2.mem ((c.tc : Thread Cert.MmDown.nD Cert.MmDown.τ).loc Cert.MmDown.main_arg4) = m ((c.tc : Thread Cert.MmDown.nD Cert.MmDown.τ).loc Cert.MmDown.main_arg4))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
      ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
      ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2)
      ∧ r.2.mem ((c.tc : Thread Cert.MmDownRefIdeal.nD Cert.MmDownRefIdeal.τ).loc Cert.MmDownRefIdeal.main_arg3) = m ((c.tc : Thread Cert.MmDownRefIdeal.nD Cert.MmDownRefIdeal.τ).loc Cert.MmDownRefIdeal.main_arg3)
      ∧ r.2.mem ((c.tc : Thread Cert.MmDownRefIdeal.nD Cert.MmDownRefIdeal.τ).loc Cert.MmDownRefIdeal.main_arg4) = m ((c.tc : Thread Cert.MmDownRefIdeal.nD Cert.MmDownRefIdeal.τ).loc Cert.MmDownRefIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_NormmodBwd [hNormmodBwd : Cert.NormmodBwd.Facts] : Prop :=
  ∀ (m : (ℓ : Loc Cert.NormmodBwd.nD Cert.NormmodBwd.τ Cert.NormmodBwd.sig) → Buf (Elt Bits) ℓ) (g : Dev Cert.NormmodBwd.nD → PrngReg), Pre_NormmodBwd m →
    θ_run (Cert.NormmodBwd.defs (F := Bits)) (onTc (τ := Cert.NormmodBwd.τ) (Cert.NormmodBwd.main (F := Bits))) ⟨m, fun _ => 0, g⟩ (fun r => (∀ c : Dev Cert.NormmodBwd.nD,
      r.2.mem ((c.tc : Thread Cert.NormmodBwd.nD Cert.NormmodBwd.τ).loc Cert.NormmodBwd.main_arg0) = m ((c.tc : Thread Cert.NormmodBwd.nD Cert.NormmodBwd.τ).loc Cert.NormmodBwd.main_arg0)
      ∧ r.2.mem ((c.tc : Thread Cert.NormmodBwd.nD Cert.NormmodBwd.τ).loc Cert.NormmodBwd.main_arg1) = m ((c.tc : Thread Cert.NormmodBwd.nD Cert.NormmodBwd.τ).loc Cert.NormmodBwd.main_arg1)
      ∧ r.2.mem ((c.tc : Thread Cert.NormmodBwd.nD Cert.NormmodBwd.τ).loc Cert.NormmodBwd.main_arg2) = m ((c.tc : Thread Cert.NormmodBwd.nD Cert.NormmodBwd.τ).loc Cert.NormmodBwd.main_arg2)
      ∧ r.2.mem ((c.tc : Thread Cert.NormmodBwd.nD Cert.NormmodBwd.τ).loc Cert.NormmodBwd.main_arg3) = m ((c.tc : Thread Cert.NormmodBwd.nD Cert.NormmodBwd.τ).loc Cert.NormmodBwd.main_arg3)
      ∧ r.2.mem ((c.tc : Thread Cert.NormmodBwd.nD Cert.NormmodBwd.τ).loc Cert.NormmodBwd.main_arg4) = m ((c.tc : Thread Cert.NormmodBwd.nD Cert.NormmodBwd.τ).loc Cert.NormmodBwd.main_arg4)
      ∧ r.2.mem ((c.tc : Thread Cert.NormmodBwd.nD Cert.NormmodBwd.τ).loc Cert.NormmodBwd.main_arg5) = m ((c.tc : Thread Cert.NormmodBwd.nD Cert.NormmodBwd.τ).loc Cert.NormmodBwd.main_arg5)
      ∧ r.2.mem ((c.tc : Thread Cert.NormmodBwd.nD Cert.NormmodBwd.τ).loc Cert.NormmodBwd.main_arg6) = m ((c.tc : Thread Cert.NormmodBwd.nD Cert.NormmodBwd.τ).loc Cert.NormmodBwd.main_arg6)
      ∧ r.2.mem ((c.tc : Thread Cert.NormmodBwd.nD Cert.NormmodBwd.τ).loc Cert.NormmodBwd.main_arg7) = m ((c.tc : Thread Cert.NormmodBwd.nD Cert.NormmodBwd.τ).loc Cert.NormmodBwd.main_arg7))
      ∧ r.2.sem = fun _ => 0)

def quiescent_NormmodBwdIdeal [hNormmodBwdIdeal : Cert.NormmodBwdIdeal.Facts] : Prop :=
  ∀ (m : (ℓ : Loc Cert.NormmodBwdIdeal.nD Cert.NormmodBwdIdeal.τ Cert.NormmodBwdIdeal.sig) → Buf (Elt Ideal) ℓ) (g : Dev Cert.NormmodBwdIdeal.nD → PrngReg), Pre_NormmodBwdIdeal m →
    θ_run (Cert.NormmodBwdIdeal.defs (F := Ideal)) (onTc (τ := Cert.NormmodBwdIdeal.τ) (Cert.NormmodBwdIdeal.main (F := Ideal))) ⟨m, fun _ => 0, g⟩ (fun r => (∀ c : Dev Cert.NormmodBwdIdeal.nD,
      r.2.mem ((c.tc : Thread Cert.NormmodBwdIdeal.nD Cert.NormmodBwdIdeal.τ).loc Cert.NormmodBwdIdeal.main_arg0) = m ((c.tc : Thread Cert.NormmodBwdIdeal.nD Cert.NormmodBwdIdeal.τ).loc Cert.NormmodBwdIdeal.main_arg0)
      ∧ r.2.mem ((c.tc : Thread Cert.NormmodBwdIdeal.nD Cert.NormmodBwdIdeal.τ).loc Cert.NormmodBwdIdeal.main_arg1) = m ((c.tc : Thread Cert.NormmodBwdIdeal.nD Cert.NormmodBwdIdeal.τ).loc Cert.NormmodBwdIdeal.main_arg1)
      ∧ r.2.mem ((c.tc : Thread Cert.NormmodBwdIdeal.nD Cert.NormmodBwdIdeal.τ).loc Cert.NormmodBwdIdeal.main_arg2) = m ((c.tc : Thread Cert.NormmodBwdIdeal.nD Cert.NormmodBwdIdeal.τ).loc Cert.NormmodBwdIdeal.main_arg2)
      ∧ r.2.mem ((c.tc : Thread Cert.NormmodBwdIdeal.nD Cert.NormmodBwdIdeal.τ).loc Cert.NormmodBwdIdeal.main_arg3) = m ((c.tc : Thread Cert.NormmodBwdIdeal.nD Cert.NormmodBwdIdeal.τ).loc Cert.NormmodBwdIdeal.main_arg3)
      ∧ r.2.mem ((c.tc : Thread Cert.NormmodBwdIdeal.nD Cert.NormmodBwdIdeal.τ).loc Cert.NormmodBwdIdeal.main_arg4) = m ((c.tc : Thread Cert.NormmodBwdIdeal.nD Cert.NormmodBwdIdeal.τ).loc Cert.NormmodBwdIdeal.main_arg4)
      ∧ r.2.mem ((c.tc : Thread Cert.NormmodBwdIdeal.nD Cert.NormmodBwdIdeal.τ).loc Cert.NormmodBwdIdeal.main_arg5) = m ((c.tc : Thread Cert.NormmodBwdIdeal.nD Cert.NormmodBwdIdeal.τ).loc Cert.NormmodBwdIdeal.main_arg5)
      ∧ r.2.mem ((c.tc : Thread Cert.NormmodBwdIdeal.nD Cert.NormmodBwdIdeal.τ).loc Cert.NormmodBwdIdeal.main_arg6) = m ((c.tc : Thread Cert.NormmodBwdIdeal.nD Cert.NormmodBwdIdeal.τ).loc Cert.NormmodBwdIdeal.main_arg6)
      ∧ r.2.mem ((c.tc : Thread Cert.NormmodBwdIdeal.nD Cert.NormmodBwdIdeal.τ).loc Cert.NormmodBwdIdeal.main_arg7) = m ((c.tc : Thread Cert.NormmodBwdIdeal.nD Cert.NormmodBwdIdeal.τ).loc Cert.NormmodBwdIdeal.main_arg7))
      ∧ r.2.sem = fun _ => 0)

def quiescent_NormmodBwdRefIdeal [hNormmodBwdRefIdeal : Cert.NormmodBwdRefIdeal.Facts] : Prop :=
  ∀ (m : (ℓ : Loc Cert.NormmodBwdRefIdeal.nD Cert.NormmodBwdRefIdeal.τ Cert.NormmodBwdRefIdeal.sig) → Buf (Elt Ideal) ℓ) (g : Dev Cert.NormmodBwdRefIdeal.nD → PrngReg), Pre_NormmodBwdRefIdeal m →
    θ_run (Cert.NormmodBwdRefIdeal.defs (F := Ideal)) (onTc (τ := Cert.NormmodBwdRefIdeal.τ) (Cert.NormmodBwdRefIdeal.main (F := Ideal))) ⟨m, fun _ => 0, g⟩ (fun r => (∀ c : Dev Cert.NormmodBwdRefIdeal.nD,
      r.2.mem ((c.tc : Thread Cert.NormmodBwdRefIdeal.nD Cert.NormmodBwdRefIdeal.τ).loc Cert.NormmodBwdRefIdeal.main_arg0) = m ((c.tc : Thread Cert.NormmodBwdRefIdeal.nD Cert.NormmodBwdRefIdeal.τ).loc Cert.NormmodBwdRefIdeal.main_arg0)
      ∧ r.2.mem ((c.tc : Thread Cert.NormmodBwdRefIdeal.nD Cert.NormmodBwdRefIdeal.τ).loc Cert.NormmodBwdRefIdeal.main_arg1) = m ((c.tc : Thread Cert.NormmodBwdRefIdeal.nD Cert.NormmodBwdRefIdeal.τ).loc Cert.NormmodBwdRefIdeal.main_arg1)
      ∧ r.2.mem ((c.tc : Thread Cert.NormmodBwdRefIdeal.nD Cert.NormmodBwdRefIdeal.τ).loc Cert.NormmodBwdRefIdeal.main_arg2) = m ((c.tc : Thread Cert.NormmodBwdRefIdeal.nD Cert.NormmodBwdRefIdeal.τ).loc Cert.NormmodBwdRefIdeal.main_arg2)
      ∧ r.2.mem ((c.tc : Thread Cert.NormmodBwdRefIdeal.nD Cert.NormmodBwdRefIdeal.τ).loc Cert.NormmodBwdRefIdeal.main_arg3) = m ((c.tc : Thread Cert.NormmodBwdRefIdeal.nD Cert.NormmodBwdRefIdeal.τ).loc Cert.NormmodBwdRefIdeal.main_arg3)
      ∧ r.2.mem ((c.tc : Thread Cert.NormmodBwdRefIdeal.nD Cert.NormmodBwdRefIdeal.τ).loc Cert.NormmodBwdRefIdeal.main_arg4) = m ((c.tc : Thread Cert.NormmodBwdRefIdeal.nD Cert.NormmodBwdRefIdeal.τ).loc Cert.NormmodBwdRefIdeal.main_arg4)
      ∧ r.2.mem ((c.tc : Thread Cert.NormmodBwdRefIdeal.nD Cert.NormmodBwdRefIdeal.τ).loc Cert.NormmodBwdRefIdeal.main_arg5) = m ((c.tc : Thread Cert.NormmodBwdRefIdeal.nD Cert.NormmodBwdRefIdeal.τ).loc Cert.NormmodBwdRefIdeal.main_arg5)
      ∧ r.2.mem ((c.tc : Thread Cert.NormmodBwdRefIdeal.nD Cert.NormmodBwdRefIdeal.τ).loc Cert.NormmodBwdRefIdeal.main_arg6) = m ((c.tc : Thread Cert.NormmodBwdRefIdeal.nD Cert.NormmodBwdRefIdeal.τ).loc Cert.NormmodBwdRefIdeal.main_arg6)
      ∧ r.2.mem ((c.tc : Thread Cert.NormmodBwdRefIdeal.nD Cert.NormmodBwdRefIdeal.τ).loc Cert.NormmodBwdRefIdeal.main_arg7) = m ((c.tc : Thread Cert.NormmodBwdRefIdeal.nD Cert.NormmodBwdRefIdeal.τ).loc Cert.NormmodBwdRefIdeal.main_arg7))
      ∧ r.2.sem = fun _ => 0)

def quiescent_Normmod [hNormmod : Cert.Normmod.Facts] : Prop :=
  ∀ (m : (ℓ : Loc Cert.Normmod.nD Cert.Normmod.τ Cert.Normmod.sig) → Buf (Elt Bits) ℓ) (g : Dev Cert.Normmod.nD → PrngReg), Pre_Normmod m →
    θ_run (Cert.Normmod.defs (F := Bits)) (onTc (τ := Cert.Normmod.τ) (Cert.Normmod.main (F := Bits))) ⟨m, fun _ => 0, g⟩ (fun r => (∀ c : Dev Cert.Normmod.nD,
      r.2.mem ((c.tc : Thread Cert.Normmod.nD Cert.Normmod.τ).loc Cert.Normmod.main_arg0) = m ((c.tc : Thread Cert.Normmod.nD Cert.Normmod.τ).loc Cert.Normmod.main_arg0)
      ∧ r.2.mem ((c.tc : Thread Cert.Normmod.nD Cert.Normmod.τ).loc Cert.Normmod.main_arg1) = m ((c.tc : Thread Cert.Normmod.nD Cert.Normmod.τ).loc Cert.Normmod.main_arg1)
      ∧ r.2.mem ((c.tc : Thread Cert.Normmod.nD Cert.Normmod.τ).loc Cert.Normmod.main_arg2) = m ((c.tc : Thread Cert.Normmod.nD Cert.Normmod.τ).loc Cert.Normmod.main_arg2)
      ∧ r.2.mem ((c.tc : Thread Cert.Normmod.nD Cert.Normmod.τ).loc Cert.Normmod.main_arg3) = m ((c.tc : Thread Cert.Normmod.nD Cert.Normmod.τ).loc Cert.Normmod.main_arg3)
      ∧ r.2.mem ((c.tc : Thread Cert.Normmod.nD Cert.Normmod.τ).loc Cert.Normmod.main_arg4) = m ((c.tc : Thread Cert.Normmod.nD Cert.Normmod.τ).loc Cert.Normmod.main_arg4)
      ∧ r.2.mem ((c.tc : Thread Cert.Normmod.nD Cert.Normmod.τ).loc Cert.Normmod.main_arg5) = m ((c.tc : Thread Cert.Normmod.nD Cert.Normmod.τ).loc Cert.Normmod.main_arg5))
      ∧ r.2.sem = fun _ => 0)

def quiescent_NormmodIdeal [hNormmodIdeal : Cert.NormmodIdeal.Facts] : Prop :=
  ∀ (m : (ℓ : Loc Cert.NormmodIdeal.nD Cert.NormmodIdeal.τ Cert.NormmodIdeal.sig) → Buf (Elt Ideal) ℓ) (g : Dev Cert.NormmodIdeal.nD → PrngReg), Pre_NormmodIdeal m →
    θ_run (Cert.NormmodIdeal.defs (F := Ideal)) (onTc (τ := Cert.NormmodIdeal.τ) (Cert.NormmodIdeal.main (F := Ideal))) ⟨m, fun _ => 0, g⟩ (fun r => (∀ c : Dev Cert.NormmodIdeal.nD,
      r.2.mem ((c.tc : Thread Cert.NormmodIdeal.nD Cert.NormmodIdeal.τ).loc Cert.NormmodIdeal.main_arg0) = m ((c.tc : Thread Cert.NormmodIdeal.nD Cert.NormmodIdeal.τ).loc Cert.NormmodIdeal.main_arg0)
      ∧ r.2.mem ((c.tc : Thread Cert.NormmodIdeal.nD Cert.NormmodIdeal.τ).loc Cert.NormmodIdeal.main_arg1) = m ((c.tc : Thread Cert.NormmodIdeal.nD Cert.NormmodIdeal.τ).loc Cert.NormmodIdeal.main_arg1)
      ∧ r.2.mem ((c.tc : Thread Cert.NormmodIdeal.nD Cert.NormmodIdeal.τ).loc Cert.NormmodIdeal.main_arg2) = m ((c.tc : Thread Cert.NormmodIdeal.nD Cert.NormmodIdeal.τ).loc Cert.NormmodIdeal.main_arg2)
      ∧ r.2.mem ((c.tc : Thread Cert.NormmodIdeal.nD Cert.NormmodIdeal.τ).loc Cert.NormmodIdeal.main_arg3) = m ((c.tc : Thread Cert.NormmodIdeal.nD Cert.NormmodIdeal.τ).loc Cert.NormmodIdeal.main_arg3)
      ∧ r.2.mem ((c.tc : Thread Cert.NormmodIdeal.nD Cert.NormmodIdeal.τ).loc Cert.NormmodIdeal.main_arg4) = m ((c.tc : Thread Cert.NormmodIdeal.nD Cert.NormmodIdeal.τ).loc Cert.NormmodIdeal.main_arg4)
      ∧ r.2.mem ((c.tc : Thread Cert.NormmodIdeal.nD Cert.NormmodIdeal.τ).loc Cert.NormmodIdeal.main_arg5) = m ((c.tc : Thread Cert.NormmodIdeal.nD Cert.NormmodIdeal.τ).loc Cert.NormmodIdeal.main_arg5))
      ∧ r.2.sem = fun _ => 0)

def quiescent_NormmodRefIdeal [hNormmodRefIdeal : Cert.NormmodRefIdeal.Facts] : Prop :=
  ∀ (m : (ℓ : Loc Cert.NormmodRefIdeal.nD Cert.NormmodRefIdeal.τ Cert.NormmodRefIdeal.sig) → Buf (Elt Ideal) ℓ) (g : Dev Cert.NormmodRefIdeal.nD → PrngReg), Pre_NormmodRefIdeal m →
    θ_run (Cert.NormmodRefIdeal.defs (F := Ideal)) (onTc (τ := Cert.NormmodRefIdeal.τ) (Cert.NormmodRefIdeal.main (F := Ideal))) ⟨m, fun _ => 0, g⟩ (fun r => (∀ c : Dev Cert.NormmodRefIdeal.nD,
      r.2.mem ((c.tc : Thread Cert.NormmodRefIdeal.nD Cert.NormmodRefIdeal.τ).loc Cert.NormmodRefIdeal.main_arg0) = m ((c.tc : Thread Cert.NormmodRefIdeal.nD Cert.NormmodRefIdeal.τ).loc Cert.NormmodRefIdeal.main_arg0)
      ∧ r.2.mem ((c.tc : Thread Cert.NormmodRefIdeal.nD Cert.NormmodRefIdeal.τ).loc Cert.NormmodRefIdeal.main_arg1) = m ((c.tc : Thread Cert.NormmodRefIdeal.nD Cert.NormmodRefIdeal.τ).loc Cert.NormmodRefIdeal.main_arg1)
      ∧ r.2.mem ((c.tc : Thread Cert.NormmodRefIdeal.nD Cert.NormmodRefIdeal.τ).loc Cert.NormmodRefIdeal.main_arg2) = m ((c.tc : Thread Cert.NormmodRefIdeal.nD Cert.NormmodRefIdeal.τ).loc Cert.NormmodRefIdeal.main_arg2)
      ∧ r.2.mem ((c.tc : Thread Cert.NormmodRefIdeal.nD Cert.NormmodRefIdeal.τ).loc Cert.NormmodRefIdeal.main_arg3) = m ((c.tc : Thread Cert.NormmodRefIdeal.nD Cert.NormmodRefIdeal.τ).loc Cert.NormmodRefIdeal.main_arg3)
      ∧ r.2.mem ((c.tc : Thread Cert.NormmodRefIdeal.nD Cert.NormmodRefIdeal.τ).loc Cert.NormmodRefIdeal.main_arg4) = m ((c.tc : Thread Cert.NormmodRefIdeal.nD Cert.NormmodRefIdeal.τ).loc Cert.NormmodRefIdeal.main_arg4)
      ∧ r.2.mem ((c.tc : Thread Cert.NormmodRefIdeal.nD Cert.NormmodRefIdeal.τ).loc Cert.NormmodRefIdeal.main_arg5) = m ((c.tc : Thread Cert.NormmodRefIdeal.nD Cert.NormmodRefIdeal.τ).loc Cert.NormmodRefIdeal.main_arg5))
      ∧ r.2.sem = fun _ => 0)

def quiescent_Dnpost [hDnpost : Cert.Dnpost.Facts] : Prop :=
  ∀ (m : (ℓ : Loc Cert.Dnpost.nD Cert.Dnpost.τ Cert.Dnpost.sig) → Buf (Elt Bits) ℓ) (g : Dev Cert.Dnpost.nD → PrngReg), Pre_Dnpost m →
    θ_run (Cert.Dnpost.defs (F := Bits)) (onTc (τ := Cert.Dnpost.τ) (Cert.Dnpost.main (F := Bits))) ⟨m, fun _ => 0, g⟩ (fun r => (∀ c : Dev Cert.Dnpost.nD,
      r.2.mem ((c.tc : Thread Cert.Dnpost.nD Cert.Dnpost.τ).loc Cert.Dnpost.main_arg0) = m ((c.tc : Thread Cert.Dnpost.nD Cert.Dnpost.τ).loc Cert.Dnpost.main_arg0)
      ∧ r.2.mem ((c.tc : Thread Cert.Dnpost.nD Cert.Dnpost.τ).loc Cert.Dnpost.main_arg1) = m ((c.tc : Thread Cert.Dnpost.nD Cert.Dnpost.τ).loc Cert.Dnpost.main_arg1)
      ∧ r.2.mem ((c.tc : Thread Cert.Dnpost.nD Cert.Dnpost.τ).loc Cert.Dnpost.main_arg2) = m ((c.tc : Thread Cert.Dnpost.nD Cert.Dnpost.τ).loc Cert.Dnpost.main_arg2))
      ∧ r.2.sem = fun _ => 0)

def quiescent_DnpostIdeal [hDnpostIdeal : Cert.DnpostIdeal.Facts] : Prop :=
  ∀ (m : (ℓ : Loc Cert.DnpostIdeal.nD Cert.DnpostIdeal.τ Cert.DnpostIdeal.sig) → Buf (Elt Ideal) ℓ) (g : Dev Cert.DnpostIdeal.nD → PrngReg), Pre_DnpostIdeal m →
    θ_run (Cert.DnpostIdeal.defs (F := Ideal)) (onTc (τ := Cert.DnpostIdeal.τ) (Cert.DnpostIdeal.main (F := Ideal))) ⟨m, fun _ => 0, g⟩ (fun r => (∀ c : Dev Cert.DnpostIdeal.nD,
      r.2.mem ((c.tc : Thread Cert.DnpostIdeal.nD Cert.DnpostIdeal.τ).loc Cert.DnpostIdeal.main_arg0) = m ((c.tc : Thread Cert.DnpostIdeal.nD Cert.DnpostIdeal.τ).loc Cert.DnpostIdeal.main_arg0)
      ∧ r.2.mem ((c.tc : Thread Cert.DnpostIdeal.nD Cert.DnpostIdeal.τ).loc Cert.DnpostIdeal.main_arg1) = m ((c.tc : Thread Cert.DnpostIdeal.nD Cert.DnpostIdeal.τ).loc Cert.DnpostIdeal.main_arg1)
      ∧ r.2.mem ((c.tc : Thread Cert.DnpostIdeal.nD Cert.DnpostIdeal.τ).loc Cert.DnpostIdeal.main_arg2) = m ((c.tc : Thread Cert.DnpostIdeal.nD Cert.DnpostIdeal.τ).loc Cert.DnpostIdeal.main_arg2))
      ∧ r.2.sem = fun _ => 0)

def quiescent_DnpostRefIdeal [hDnpostRefIdeal : Cert.DnpostRefIdeal.Facts] : Prop :=
  ∀ (m : (ℓ : Loc Cert.DnpostRefIdeal.nD Cert.DnpostRefIdeal.τ Cert.DnpostRefIdeal.sig) → Buf (Elt Ideal) ℓ) (g : Dev Cert.DnpostRefIdeal.nD → PrngReg), Pre_DnpostRefIdeal m →
    θ_run (Cert.DnpostRefIdeal.defs (F := Ideal)) (onTc (τ := Cert.DnpostRefIdeal.τ) (Cert.DnpostRefIdeal.main (F := Ideal))) ⟨m, fun _ => 0, g⟩ (fun r => (∀ c : Dev Cert.DnpostRefIdeal.nD,
      r.2.mem ((c.tc : Thread Cert.DnpostRefIdeal.nD Cert.DnpostRefIdeal.τ).loc Cert.DnpostRefIdeal.main_arg0) = m ((c.tc : Thread Cert.DnpostRefIdeal.nD Cert.DnpostRefIdeal.τ).loc Cert.DnpostRefIdeal.main_arg0)
      ∧ r.2.mem ((c.tc : Thread Cert.DnpostRefIdeal.nD Cert.DnpostRefIdeal.τ).loc Cert.DnpostRefIdeal.main_arg1) = m ((c.tc : Thread Cert.DnpostRefIdeal.nD Cert.DnpostRefIdeal.τ).loc Cert.DnpostRefIdeal.main_arg1)
      ∧ r.2.mem ((c.tc : Thread Cert.DnpostRefIdeal.nD Cert.DnpostRefIdeal.τ).loc Cert.DnpostRefIdeal.main_arg2) = m ((c.tc : Thread Cert.DnpostRefIdeal.nD Cert.DnpostRefIdeal.τ).loc Cert.DnpostRefIdeal.main_arg2))
      ∧ r.2.sem = fun _ => 0)

def quiescent_DnpostBwd [hDnpostBwd : Cert.DnpostBwd.Facts] : Prop :=
  ∀ (m : (ℓ : Loc Cert.DnpostBwd.nD Cert.DnpostBwd.τ Cert.DnpostBwd.sig) → Buf (Elt Bits) ℓ) (g : Dev Cert.DnpostBwd.nD → PrngReg), Pre_DnpostBwd m →
    θ_run (Cert.DnpostBwd.defs (F := Bits)) (onTc (τ := Cert.DnpostBwd.τ) (Cert.DnpostBwd.main (F := Bits))) ⟨m, fun _ => 0, g⟩ (fun r => (∀ c : Dev Cert.DnpostBwd.nD,
      r.2.mem ((c.tc : Thread Cert.DnpostBwd.nD Cert.DnpostBwd.τ).loc Cert.DnpostBwd.main_arg0) = m ((c.tc : Thread Cert.DnpostBwd.nD Cert.DnpostBwd.τ).loc Cert.DnpostBwd.main_arg0)
      ∧ r.2.mem ((c.tc : Thread Cert.DnpostBwd.nD Cert.DnpostBwd.τ).loc Cert.DnpostBwd.main_arg1) = m ((c.tc : Thread Cert.DnpostBwd.nD Cert.DnpostBwd.τ).loc Cert.DnpostBwd.main_arg1)
      ∧ r.2.mem ((c.tc : Thread Cert.DnpostBwd.nD Cert.DnpostBwd.τ).loc Cert.DnpostBwd.main_arg2) = m ((c.tc : Thread Cert.DnpostBwd.nD Cert.DnpostBwd.τ).loc Cert.DnpostBwd.main_arg2)
      ∧ r.2.mem ((c.tc : Thread Cert.DnpostBwd.nD Cert.DnpostBwd.τ).loc Cert.DnpostBwd.main_arg3) = m ((c.tc : Thread Cert.DnpostBwd.nD Cert.DnpostBwd.τ).loc Cert.DnpostBwd.main_arg3))
      ∧ r.2.sem = fun _ => 0)

def quiescent_DnpostBwdIdeal [hDnpostBwdIdeal : Cert.DnpostBwdIdeal.Facts] : Prop :=
  ∀ (m : (ℓ : Loc Cert.DnpostBwdIdeal.nD Cert.DnpostBwdIdeal.τ Cert.DnpostBwdIdeal.sig) → Buf (Elt Ideal) ℓ) (g : Dev Cert.DnpostBwdIdeal.nD → PrngReg), Pre_DnpostBwdIdeal m →
    θ_run (Cert.DnpostBwdIdeal.defs (F := Ideal)) (onTc (τ := Cert.DnpostBwdIdeal.τ) (Cert.DnpostBwdIdeal.main (F := Ideal))) ⟨m, fun _ => 0, g⟩ (fun r => (∀ c : Dev Cert.DnpostBwdIdeal.nD,
      r.2.mem ((c.tc : Thread Cert.DnpostBwdIdeal.nD Cert.DnpostBwdIdeal.τ).loc Cert.DnpostBwdIdeal.main_arg0) = m ((c.tc : Thread Cert.DnpostBwdIdeal.nD Cert.DnpostBwdIdeal.τ).loc Cert.DnpostBwdIdeal.main_arg0)
      ∧ r.2.mem ((c.tc : Thread Cert.DnpostBwdIdeal.nD Cert.DnpostBwdIdeal.τ).loc Cert.DnpostBwdIdeal.main_arg1) = m ((c.tc : Thread Cert.DnpostBwdIdeal.nD Cert.DnpostBwdIdeal.τ).loc Cert.DnpostBwdIdeal.main_arg1)
      ∧ r.2.mem ((c.tc : Thread Cert.DnpostBwdIdeal.nD Cert.DnpostBwdIdeal.τ).loc Cert.DnpostBwdIdeal.main_arg2) = m ((c.tc : Thread Cert.DnpostBwdIdeal.nD Cert.DnpostBwdIdeal.τ).loc Cert.DnpostBwdIdeal.main_arg2)
      ∧ r.2.mem ((c.tc : Thread Cert.DnpostBwdIdeal.nD Cert.DnpostBwdIdeal.τ).loc Cert.DnpostBwdIdeal.main_arg3) = m ((c.tc : Thread Cert.DnpostBwdIdeal.nD Cert.DnpostBwdIdeal.τ).loc Cert.DnpostBwdIdeal.main_arg3))
      ∧ r.2.sem = fun _ => 0)

def quiescent_DnpostBwdRefIdeal [hDnpostBwdRefIdeal : Cert.DnpostBwdRefIdeal.Facts] : Prop :=
  ∀ (m : (ℓ : Loc Cert.DnpostBwdRefIdeal.nD Cert.DnpostBwdRefIdeal.τ Cert.DnpostBwdRefIdeal.sig) → Buf (Elt Ideal) ℓ) (g : Dev Cert.DnpostBwdRefIdeal.nD → PrngReg), Pre_DnpostBwdRefIdeal m →
    θ_run (Cert.DnpostBwdRefIdeal.defs (F := Ideal)) (onTc (τ := Cert.DnpostBwdRefIdeal.τ) (Cert.DnpostBwdRefIdeal.main (F := Ideal))) ⟨m, fun _ => 0, g⟩ (fun r => (∀ c : Dev Cert.DnpostBwdRefIdeal.nD,
      r.2.mem ((c.tc : Thread Cert.DnpostBwdRefIdeal.nD Cert.DnpostBwdRefIdeal.τ).loc Cert.DnpostBwdRefIdeal.main_arg0) = m ((c.tc : Thread Cert.DnpostBwdRefIdeal.nD Cert.DnpostBwdRefIdeal.τ).loc Cert.DnpostBwdRefIdeal.main_arg0)
      ∧ r.2.mem ((c.tc : Thread Cert.DnpostBwdRefIdeal.nD Cert.DnpostBwdRefIdeal.τ).loc Cert.DnpostBwdRefIdeal.main_arg1) = m ((c.tc : Thread Cert.DnpostBwdRefIdeal.nD Cert.DnpostBwdRefIdeal.τ).loc Cert.DnpostBwdRefIdeal.main_arg1)
      ∧ r.2.mem ((c.tc : Thread Cert.DnpostBwdRefIdeal.nD Cert.DnpostBwdRefIdeal.τ).loc Cert.DnpostBwdRefIdeal.main_arg2) = m ((c.tc : Thread Cert.DnpostBwdRefIdeal.nD Cert.DnpostBwdRefIdeal.τ).loc Cert.DnpostBwdRefIdeal.main_arg2)
      ∧ r.2.mem ((c.tc : Thread Cert.DnpostBwdRefIdeal.nD Cert.DnpostBwdRefIdeal.τ).loc Cert.DnpostBwdRefIdeal.main_arg3) = m ((c.tc : Thread Cert.DnpostBwdRefIdeal.nD Cert.DnpostBwdRefIdeal.τ).loc Cert.DnpostBwdRefIdeal.main_arg3))
      ∧ r.2.sem = fun _ => 0)

def quiescent_Dnpre [hDnpre : Cert.Dnpre.Facts] : Prop :=
  ∀ (m : (ℓ : Loc Cert.Dnpre.nD Cert.Dnpre.τ Cert.Dnpre.sig) → Buf (Elt Bits) ℓ) (g : Dev Cert.Dnpre.nD → PrngReg), Pre_Dnpre m →
    θ_run (Cert.Dnpre.defs (F := Bits)) (onTc (τ := Cert.Dnpre.τ) (Cert.Dnpre.main (F := Bits))) ⟨m, fun _ => 0, g⟩ (fun r => (∀ c : Dev Cert.Dnpre.nD,
      r.2.mem ((c.tc : Thread Cert.Dnpre.nD Cert.Dnpre.τ).loc Cert.Dnpre.main_arg0) = m ((c.tc : Thread Cert.Dnpre.nD Cert.Dnpre.τ).loc Cert.Dnpre.main_arg0))
      ∧ r.2.sem = fun _ => 0)

def quiescent_DnpreIdeal [hDnpreIdeal : Cert.DnpreIdeal.Facts] : Prop :=
  ∀ (m : (ℓ : Loc Cert.DnpreIdeal.nD Cert.DnpreIdeal.τ Cert.DnpreIdeal.sig) → Buf (Elt Ideal) ℓ) (g : Dev Cert.DnpreIdeal.nD → PrngReg), Pre_DnpreIdeal m →
    θ_run (Cert.DnpreIdeal.defs (F := Ideal)) (onTc (τ := Cert.DnpreIdeal.τ) (Cert.DnpreIdeal.main (F := Ideal))) ⟨m, fun _ => 0, g⟩ (fun r => (∀ c : Dev Cert.DnpreIdeal.nD,
      r.2.mem ((c.tc : Thread Cert.DnpreIdeal.nD Cert.DnpreIdeal.τ).loc Cert.DnpreIdeal.main_arg0) = m ((c.tc : Thread Cert.DnpreIdeal.nD Cert.DnpreIdeal.τ).loc Cert.DnpreIdeal.main_arg0))
      ∧ r.2.sem = fun _ => 0)

def quiescent_DnpreRefIdeal [hDnpreRefIdeal : Cert.DnpreRefIdeal.Facts] : Prop :=
  ∀ (m : (ℓ : Loc Cert.DnpreRefIdeal.nD Cert.DnpreRefIdeal.τ Cert.DnpreRefIdeal.sig) → Buf (Elt Ideal) ℓ) (g : Dev Cert.DnpreRefIdeal.nD → PrngReg), Pre_DnpreRefIdeal m →
    θ_run (Cert.DnpreRefIdeal.defs (F := Ideal)) (onTc (τ := Cert.DnpreRefIdeal.τ) (Cert.DnpreRefIdeal.main (F := Ideal))) ⟨m, fun _ => 0, g⟩ (fun r => (∀ c : Dev Cert.DnpreRefIdeal.nD,
      r.2.mem ((c.tc : Thread Cert.DnpreRefIdeal.nD Cert.DnpreRefIdeal.τ).loc Cert.DnpreRefIdeal.main_arg0) = m ((c.tc : Thread Cert.DnpreRefIdeal.nD Cert.DnpreRefIdeal.τ).loc Cert.DnpreRefIdeal.main_arg0))
      ∧ r.2.sem = fun _ => 0)

def quiescent_DnpreBwd [hDnpreBwd : Cert.DnpreBwd.Facts] : Prop :=
  ∀ (m : (ℓ : Loc Cert.DnpreBwd.nD Cert.DnpreBwd.τ Cert.DnpreBwd.sig) → Buf (Elt Bits) ℓ) (g : Dev Cert.DnpreBwd.nD → PrngReg), Pre_DnpreBwd m →
    θ_run (Cert.DnpreBwd.defs (F := Bits)) (onTc (τ := Cert.DnpreBwd.τ) (Cert.DnpreBwd.main (F := Bits))) ⟨m, fun _ => 0, g⟩ (fun r => (∀ c : Dev Cert.DnpreBwd.nD,
      r.2.mem ((c.tc : Thread Cert.DnpreBwd.nD Cert.DnpreBwd.τ).loc Cert.DnpreBwd.main_arg0) = m ((c.tc : Thread Cert.DnpreBwd.nD Cert.DnpreBwd.τ).loc Cert.DnpreBwd.main_arg0)
      ∧ r.2.mem ((c.tc : Thread Cert.DnpreBwd.nD Cert.DnpreBwd.τ).loc Cert.DnpreBwd.main_arg1) = m ((c.tc : Thread Cert.DnpreBwd.nD Cert.DnpreBwd.τ).loc Cert.DnpreBwd.main_arg1))
      ∧ r.2.sem = fun _ => 0)

def quiescent_DnpreBwdIdeal [hDnpreBwdIdeal : Cert.DnpreBwdIdeal.Facts] : Prop :=
  ∀ (m : (ℓ : Loc Cert.DnpreBwdIdeal.nD Cert.DnpreBwdIdeal.τ Cert.DnpreBwdIdeal.sig) → Buf (Elt Ideal) ℓ) (g : Dev Cert.DnpreBwdIdeal.nD → PrngReg), Pre_DnpreBwdIdeal m →
    θ_run (Cert.DnpreBwdIdeal.defs (F := Ideal)) (onTc (τ := Cert.DnpreBwdIdeal.τ) (Cert.DnpreBwdIdeal.main (F := Ideal))) ⟨m, fun _ => 0, g⟩ (fun r => (∀ c : Dev Cert.DnpreBwdIdeal.nD,
      r.2.mem ((c.tc : Thread Cert.DnpreBwdIdeal.nD Cert.DnpreBwdIdeal.τ).loc Cert.DnpreBwdIdeal.main_arg0) = m ((c.tc : Thread Cert.DnpreBwdIdeal.nD Cert.DnpreBwdIdeal.τ).loc Cert.DnpreBwdIdeal.main_arg0)
      ∧ r.2.mem ((c.tc : Thread Cert.DnpreBwdIdeal.nD Cert.DnpreBwdIdeal.τ).loc Cert.DnpreBwdIdeal.main_arg1) = m ((c.tc : Thread Cert.DnpreBwdIdeal.nD Cert.DnpreBwdIdeal.τ).loc Cert.DnpreBwdIdeal.main_arg1))
      ∧ r.2.sem = fun _ => 0)

def quiescent_DnpreBwdRefIdeal [hDnpreBwdRefIdeal : Cert.DnpreBwdRefIdeal.Facts] : Prop :=
  ∀ (m : (ℓ : Loc Cert.DnpreBwdRefIdeal.nD Cert.DnpreBwdRefIdeal.τ Cert.DnpreBwdRefIdeal.sig) → Buf (Elt Ideal) ℓ) (g : Dev Cert.DnpreBwdRefIdeal.nD → PrngReg), Pre_DnpreBwdRefIdeal m →
    θ_run (Cert.DnpreBwdRefIdeal.defs (F := Ideal)) (onTc (τ := Cert.DnpreBwdRefIdeal.τ) (Cert.DnpreBwdRefIdeal.main (F := Ideal))) ⟨m, fun _ => 0, g⟩ (fun r => (∀ c : Dev Cert.DnpreBwdRefIdeal.nD,
      r.2.mem ((c.tc : Thread Cert.DnpreBwdRefIdeal.nD Cert.DnpreBwdRefIdeal.τ).loc Cert.DnpreBwdRefIdeal.main_arg0) = m ((c.tc : Thread Cert.DnpreBwdRefIdeal.nD Cert.DnpreBwdRefIdeal.τ).loc Cert.DnpreBwdRefIdeal.main_arg0)
      ∧ r.2.mem ((c.tc : Thread Cert.DnpreBwdRefIdeal.nD Cert.DnpreBwdRefIdeal.τ).loc Cert.DnpreBwdRefIdeal.main_arg1) = m ((c.tc : Thread Cert.DnpreBwdRefIdeal.nD Cert.DnpreBwdRefIdeal.τ).loc Cert.DnpreBwdRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_KvCombine [hKvCombine : Cert.KvCombine.Facts] : Prop :=
  ∀ (m : (ℓ : Loc Cert.KvCombine.nD Cert.KvCombine.τ Cert.KvCombine.sig) → Buf (Elt Bits) ℓ) (g : Dev Cert.KvCombine.nD → PrngReg), Pre_KvCombine m →
    θ_run (Cert.KvCombine.defs (F := Bits)) (onTc (τ := Cert.KvCombine.τ) (Cert.KvCombine.main (F := Bits))) ⟨m, fun _ => 0, g⟩ (fun r => (∀ c : Dev Cert.KvCombine.nD,
      r.2.mem ((c.tc : Thread Cert.KvCombine.nD Cert.KvCombine.τ).loc Cert.KvCombine.main_arg0) = m ((c.tc : Thread Cert.KvCombine.nD Cert.KvCombine.τ).loc Cert.KvCombine.main_arg0)
      ∧ r.2.mem ((c.tc : Thread Cert.KvCombine.nD Cert.KvCombine.τ).loc Cert.KvCombine.main_arg1) = m ((c.tc : Thread Cert.KvCombine.nD Cert.KvCombine.τ).loc Cert.KvCombine.main_arg1))
      ∧ r.2.sem = fun _ => 0)

def quiescent_KvCombineIdeal [hKvCombineIdeal : Cert.KvCombineIdeal.Facts] : Prop :=
  ∀ (m : (ℓ : Loc Cert.KvCombineIdeal.nD Cert.KvCombineIdeal.τ Cert.KvCombineIdeal.sig) → Buf (Elt Ideal) ℓ) (g : Dev Cert.KvCombineIdeal.nD → PrngReg), Pre_KvCombineIdeal m →
    θ_run (Cert.KvCombineIdeal.defs (F := Ideal)) (onTc (τ := Cert.KvCombineIdeal.τ) (Cert.KvCombineIdeal.main (F := Ideal))) ⟨m, fun _ => 0, g⟩ (fun r => (∀ c : Dev Cert.KvCombineIdeal.nD,
      r.2.mem ((c.tc : Thread Cert.KvCombineIdeal.nD Cert.KvCombineIdeal.τ).loc Cert.KvCombineIdeal.main_arg0) = m ((c.tc : Thread Cert.KvCombineIdeal.nD Cert.KvCombineIdeal.τ).loc Cert.KvCombineIdeal.main_arg0)
      ∧ r.2.mem ((c.tc : Thread Cert.KvCombineIdeal.nD Cert.KvCombineIdeal.τ).loc Cert.KvCombineIdeal.main_arg1) = m ((c.tc : Thread Cert.KvCombineIdeal.nD Cert.KvCombineIdeal.τ).loc Cert.KvCombineIdeal.main_arg1))
      ∧ r.2.sem = fun _ => 0)

def quiescent_KvCombineRefIdeal [hKvCombineRefIdeal : Cert.KvCombineRefIdeal.Facts] : Prop :=
  ∀ (m : (ℓ : Loc Cert.KvCombineRefIdeal.nD Cert.KvCombineRefIdeal.τ Cert.KvCombineRefIdeal.sig) → Buf (Elt Ideal) ℓ) (g : Dev Cert.KvCombineRefIdeal.nD → PrngReg), Pre_KvCombineRefIdeal m →
    θ_run (Cert.KvCombineRefIdeal.defs (F := Ideal)) (onTc (τ := Cert.KvCombineRefIdeal.τ) (Cert.KvCombineRefIdeal.main (F := Ideal))) ⟨m, fun _ => 0, g⟩ (fun r => (∀ c : Dev Cert.KvCombineRefIdeal.nD,
      r.2.mem ((c.tc : Thread Cert.KvCombineRefIdeal.nD Cert.KvCombineRefIdeal.τ).loc Cert.KvCombineRefIdeal.main_arg0) = m ((c.tc : Thread Cert.KvCombineRefIdeal.nD Cert.KvCombineRefIdeal.τ).loc Cert.KvCombineRefIdeal.main_arg0)
      ∧ r.2.mem ((c.tc : Thread Cert.KvCombineRefIdeal.nD Cert.KvCombineRefIdeal.τ).loc Cert.KvCombineRefIdeal.main_arg1) = m ((c.tc : Thread Cert.KvCombineRefIdeal.nD Cert.KvCombineRefIdeal.τ).loc Cert.KvCombineRefIdeal.main_arg1))
      ∧ r.2.sem = fun _ => 0)

def quiescent_Bg [hBg : Cert.Bg.Facts] : Prop :=
  ∀ (m : (ℓ : Loc Cert.Bg.nD Cert.Bg.τ Cert.Bg.sig) → Buf (Elt Bits) ℓ) (g : Dev Cert.Bg.nD → PrngReg), Pre_Bg m →
    θ_run (Cert.Bg.defs (F := Bits)) (onTc (τ := Cert.Bg.τ) (Cert.Bg.main (F := Bits))) ⟨m, fun _ => 0, g⟩ (fun r => (∀ c : Dev Cert.Bg.nD,
      r.2.mem ((c.tc : Thread Cert.Bg.nD Cert.Bg.τ).loc Cert.Bg.main_arg0) = m ((c.tc : Thread Cert.Bg.nD Cert.Bg.τ).loc Cert.Bg.main_arg0)
      ∧ r.2.mem ((c.tc : Thread Cert.Bg.nD Cert.Bg.τ).loc Cert.Bg.main_arg1) = m ((c.tc : Thread Cert.Bg.nD Cert.Bg.τ).loc Cert.Bg.main_arg1)
      ∧ r.2.mem ((c.tc : Thread Cert.Bg.nD Cert.Bg.τ).loc Cert.Bg.main_arg2) = m ((c.tc : Thread Cert.Bg.nD Cert.Bg.τ).loc Cert.Bg.main_arg2))
      ∧ r.2.sem = fun _ => 0)

def quiescent_BgIdeal [hBgIdeal : Cert.BgIdeal.Facts] : Prop :=
  ∀ (m : (ℓ : Loc Cert.BgIdeal.nD Cert.BgIdeal.τ Cert.BgIdeal.sig) → Buf (Elt Ideal) ℓ) (g : Dev Cert.BgIdeal.nD → PrngReg), Pre_BgIdeal m →
    θ_run (Cert.BgIdeal.defs (F := Ideal)) (onTc (τ := Cert.BgIdeal.τ) (Cert.BgIdeal.main (F := Ideal))) ⟨m, fun _ => 0, g⟩ (fun r => (∀ c : Dev Cert.BgIdeal.nD,
      r.2.mem ((c.tc : Thread Cert.BgIdeal.nD Cert.BgIdeal.τ).loc Cert.BgIdeal.main_arg0) = m ((c.tc : Thread Cert.BgIdeal.nD Cert.BgIdeal.τ).loc Cert.BgIdeal.main_arg0)
      ∧ r.2.mem ((c.tc : Thread Cert.BgIdeal.nD Cert.BgIdeal.τ).loc Cert.BgIdeal.main_arg1) = m ((c.tc : Thread Cert.BgIdeal.nD Cert.BgIdeal.τ).loc Cert.BgIdeal.main_arg1)
      ∧ r.2.mem ((c.tc : Thread Cert.BgIdeal.nD Cert.BgIdeal.τ).loc Cert.BgIdeal.main_arg2) = m ((c.tc : Thread Cert.BgIdeal.nD Cert.BgIdeal.τ).loc Cert.BgIdeal.main_arg2))
      ∧ r.2.sem = fun _ => 0)

def quiescent_BgRefIdeal [hBgRefIdeal : Cert.BgRefIdeal.Facts] : Prop :=
  ∀ (m : (ℓ : Loc Cert.BgRefIdeal.nD Cert.BgRefIdeal.τ Cert.BgRefIdeal.sig) → Buf (Elt Ideal) ℓ) (g : Dev Cert.BgRefIdeal.nD → PrngReg), Pre_BgRefIdeal m →
    θ_run (Cert.BgRefIdeal.defs (F := Ideal)) (onTc (τ := Cert.BgRefIdeal.τ) (Cert.BgRefIdeal.main (F := Ideal))) ⟨m, fun _ => 0, g⟩ (fun r => (∀ c : Dev Cert.BgRefIdeal.nD,
      r.2.mem ((c.tc : Thread Cert.BgRefIdeal.nD Cert.BgRefIdeal.τ).loc Cert.BgRefIdeal.main_arg0) = m ((c.tc : Thread Cert.BgRefIdeal.nD Cert.BgRefIdeal.τ).loc Cert.BgRefIdeal.main_arg0)
      ∧ r.2.mem ((c.tc : Thread Cert.BgRefIdeal.nD Cert.BgRefIdeal.τ).loc Cert.BgRefIdeal.main_arg1) = m ((c.tc : Thread Cert.BgRefIdeal.nD Cert.BgRefIdeal.τ).loc Cert.BgRefIdeal.main_arg1)
      ∧ r.2.mem ((c.tc : Thread Cert.BgRefIdeal.nD Cert.BgRefIdeal.τ).loc Cert.BgRefIdeal.main_arg2) = m ((c.tc : Thread Cert.BgRefIdeal.nD Cert.BgRefIdeal.τ).loc Cert.BgRefIdeal.main_arg2))
      ∧ r.2.sem = fun _ => 0)

def quiescent_LossRows [hLossRows : Cert.LossRows.Facts] : Prop :=
  ∀ (m : (ℓ : Loc Cert.LossRows.nD Cert.LossRows.τ Cert.LossRows.sig) → Buf (Elt Bits) ℓ) (g : Dev Cert.LossRows.nD → PrngReg), Pre_LossRows m →
    θ_run (Cert.LossRows.defs (F := Bits)) (onTc (τ := Cert.LossRows.τ) (Cert.LossRows.main (F := Bits))) ⟨m, fun _ => 0, g⟩ (fun r => (∀ c : Dev Cert.LossRows.nD,
      r.2.mem ((c.tc : Thread Cert.LossRows.nD Cert.LossRows.τ).loc Cert.LossRows.main_arg0) = m ((c.tc : Thread Cert.LossRows.nD Cert.LossRows.τ).loc Cert.LossRows.main_arg0)
      ∧ r.2.mem ((c.tc : Thread Cert.LossRows.nD Cert.LossRows.τ).loc Cert.LossRows.main_arg1) = m ((c.tc : Thread Cert.LossRows.nD Cert.LossRows.τ).loc Cert.LossRows.main_arg1)
      ∧ r.2.mem ((c.tc : Thread Cert.LossRows.nD Cert.LossRows.τ).loc Cert.LossRows.main_arg2) = m ((c.tc : Thread Cert.LossRows.nD Cert.LossRows.τ).loc Cert.LossRows.main_arg2))
      ∧ r.2.sem = fun _ => 0)

def quiescent_LossRowsIdeal [hLossRowsIdeal : Cert.LossRowsIdeal.Facts] : Prop :=
  ∀ (m : (ℓ : Loc Cert.LossRowsIdeal.nD Cert.LossRowsIdeal.τ Cert.LossRowsIdeal.sig) → Buf (Elt Ideal) ℓ) (g : Dev Cert.LossRowsIdeal.nD → PrngReg), Pre_LossRowsIdeal m →
    θ_run (Cert.LossRowsIdeal.defs (F := Ideal)) (onTc (τ := Cert.LossRowsIdeal.τ) (Cert.LossRowsIdeal.main (F := Ideal))) ⟨m, fun _ => 0, g⟩ (fun r => (∀ c : Dev Cert.LossRowsIdeal.nD,
      r.2.mem ((c.tc : Thread Cert.LossRowsIdeal.nD Cert.LossRowsIdeal.τ).loc Cert.LossRowsIdeal.main_arg0) = m ((c.tc : Thread Cert.LossRowsIdeal.nD Cert.LossRowsIdeal.τ).loc Cert.LossRowsIdeal.main_arg0)
      ∧ r.2.mem ((c.tc : Thread Cert.LossRowsIdeal.nD Cert.LossRowsIdeal.τ).loc Cert.LossRowsIdeal.main_arg1) = m ((c.tc : Thread Cert.LossRowsIdeal.nD Cert.LossRowsIdeal.τ).loc Cert.LossRowsIdeal.main_arg1)
      ∧ r.2.mem ((c.tc : Thread Cert.LossRowsIdeal.nD Cert.LossRowsIdeal.τ).loc Cert.LossRowsIdeal.main_arg2) = m ((c.tc : Thread Cert.LossRowsIdeal.nD Cert.LossRowsIdeal.τ).loc Cert.LossRowsIdeal.main_arg2))
      ∧ r.2.sem = fun _ => 0)

def quiescent_LossRowsRefIdeal [hLossRowsRefIdeal : Cert.LossRowsRefIdeal.Facts] : Prop :=
  ∀ (m : (ℓ : Loc Cert.LossRowsRefIdeal.nD Cert.LossRowsRefIdeal.τ Cert.LossRowsRefIdeal.sig) → Buf (Elt Ideal) ℓ) (g : Dev Cert.LossRowsRefIdeal.nD → PrngReg), Pre_LossRowsRefIdeal m →
    θ_run (Cert.LossRowsRefIdeal.defs (F := Ideal)) (onTc (τ := Cert.LossRowsRefIdeal.τ) (Cert.LossRowsRefIdeal.main (F := Ideal))) ⟨m, fun _ => 0, g⟩ (fun r => (∀ c : Dev Cert.LossRowsRefIdeal.nD,
      r.2.mem ((c.tc : Thread Cert.LossRowsRefIdeal.nD Cert.LossRowsRefIdeal.τ).loc Cert.LossRowsRefIdeal.main_arg0) = m ((c.tc : Thread Cert.LossRowsRefIdeal.nD Cert.LossRowsRefIdeal.τ).loc Cert.LossRowsRefIdeal.main_arg0)
      ∧ r.2.mem ((c.tc : Thread Cert.LossRowsRefIdeal.nD Cert.LossRowsRefIdeal.τ).loc Cert.LossRowsRefIdeal.main_arg1) = m ((c.tc : Thread Cert.LossRowsRefIdeal.nD Cert.LossRowsRefIdeal.τ).loc Cert.LossRowsRefIdeal.main_arg1)
      ∧ r.2.mem ((c.tc : Thread Cert.LossRowsRefIdeal.nD Cert.LossRowsRefIdeal.τ).loc Cert.LossRowsRefIdeal.main_arg2) = m ((c.tc : Thread Cert.LossRowsRefIdeal.nD Cert.LossRowsRefIdeal.τ).loc Cert.LossRowsRefIdeal.main_arg2))
      ∧ r.2.sem = fun _ => 0)

def quiescent_AdamwGu [hAdamwGu : Cert.AdamwGu.Facts] : Prop :=
  ∀ (m : (ℓ : Loc Cert.AdamwGu.nD Cert.AdamwGu.τ Cert.AdamwGu.sig) → Buf (Elt Bits) ℓ) (g : Dev Cert.AdamwGu.nD → PrngReg), Pre_AdamwGu m →
    θ_run (Cert.AdamwGu.defs (F := Bits)) (onTc (τ := Cert.AdamwGu.τ) (Cert.AdamwGu.main (F := Bits))) ⟨m, fun _ => 0, g⟩ (fun r => (∀ c : Dev Cert.AdamwGu.nD,
      r.2.mem ((c.tc : Thread Cert.AdamwGu.nD Cert.AdamwGu.τ).loc Cert.AdamwGu.main_arg0) = m ((c.tc : Thread Cert.AdamwGu.nD Cert.AdamwGu.τ).loc Cert.AdamwGu.main_arg0)
      ∧ r.2.mem ((c.tc : Thread Cert.AdamwGu.nD Cert.AdamwGu.τ).loc Cert.AdamwGu.main_arg1) = m ((c.tc : Thread Cert.AdamwGu.nD Cert.AdamwGu.τ).loc Cert.AdamwGu.main_arg1)
      ∧ r.2.mem ((c.tc : Thread Cert.AdamwGu.nD Cert.AdamwGu.τ).loc Cert.AdamwGu.main_arg2) = m ((c.tc : Thread Cert.AdamwGu.nD Cert.AdamwGu.τ).loc Cert.AdamwGu.main_arg2)
      ∧ r.2.mem ((c.tc : Thread Cert.AdamwGu.nD Cert.AdamwGu.τ).loc Cert.AdamwGu.main_arg3) = m ((c.tc : Thread Cert.AdamwGu.nD Cert.AdamwGu.τ).loc Cert.AdamwGu.main_arg3))
      ∧ r.2.sem = fun _ => 0)

def quiescent_AdamwGuIdeal [hAdamwGuIdeal : Cert.AdamwGuIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg), Pre_AdamwGuIdeal m →
    θ_run (Cert.AdamwGuIdeal.defs (F := Ideal)) (onTc (τ := Cert.AdamwGuIdeal.τ) (Cert.AdamwGuIdeal.main (F := Ideal))) ⟨m, fun _ => 0, g⟩ (fun r => (∀ c : Dev Cert.AdamwGuIdeal.nD,
      r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
      ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
      ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
      ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3))
      ∧ r.2.sem = fun _ => 0)

def quiescent_AdamwGuRefIdeal [hAdamwGuRefIdeal : Cert.AdamwGuRefIdeal.Facts] : Prop :=
  ∀ (m : (ℓ : Loc Cert.AdamwGuRefIdeal.nD Cert.AdamwGuRefIdeal.τ Cert.AdamwGuRefIdeal.sig) → Buf (Elt Ideal) ℓ) (g : Dev Cert.AdamwGuRefIdeal.nD → PrngReg), Pre_AdamwGuRefIdeal m →
    θ_run (Cert.AdamwGuRefIdeal.defs (F := Ideal)) (onTc (τ := Cert.AdamwGuRefIdeal.τ) (Cert.AdamwGuRefIdeal.main (F := Ideal))) ⟨m, fun _ => 0, g⟩ (fun r => (∀ c : Dev Cert.AdamwGuRefIdeal.nD,
      r.2.mem ((c.tc : Thread Cert.AdamwGuRefIdeal.nD Cert.AdamwGuRefIdeal.τ).loc Cert.AdamwGuRefIdeal.main_arg0) = m ((c.tc : Thread Cert.AdamwGuRefIdeal.nD Cert.AdamwGuRefIdeal.τ).loc Cert.AdamwGuRefIdeal.main_arg0)
      ∧ r.2.mem ((c.tc : Thread Cert.AdamwGuRefIdeal.nD Cert.AdamwGuRefIdeal.τ).loc Cert.AdamwGuRefIdeal.main_arg1) = m ((c.tc : Thread Cert.AdamwGuRefIdeal.nD Cert.AdamwGuRefIdeal.τ).loc Cert.AdamwGuRefIdeal.main_arg1)
      ∧ r.2.mem ((c.tc : Thread Cert.AdamwGuRefIdeal.nD Cert.AdamwGuRefIdeal.τ).loc Cert.AdamwGuRefIdeal.main_arg2) = m ((c.tc : Thread Cert.AdamwGuRefIdeal.nD Cert.AdamwGuRefIdeal.τ).loc Cert.AdamwGuRefIdeal.main_arg2)
      ∧ r.2.mem ((c.tc : Thread Cert.AdamwGuRefIdeal.nD Cert.AdamwGuRefIdeal.τ).loc Cert.AdamwGuRefIdeal.main_arg3) = m ((c.tc : Thread Cert.AdamwGuRefIdeal.nD Cert.AdamwGuRefIdeal.τ).loc Cert.AdamwGuRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6))
      ∧ r.2.sem = fun _ => 0)

def quiescent_AttnBwdRefIdeal_pre_finite [hAttnBwdRefIdeal : Cert.AttnBwdRefIdeal.Facts] [hPre_finite : Cert.Pre_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6))
      ∧ r.2.sem = fun _ => 0)

def preserves_WgDown_WgDownIdeal : Prop :=
  True

def algebraic_WgDownIdeal_WgDownRefIdeal [hWgDownIdeal : Cert.WgDownIdeal.Facts] [hWgDownRefIdeal : Cert.WgDownRefIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownRefIdeal.nD Cert.WgDownRefIdeal.τ Cert.WgDownRefIdeal.sig) → Buf (Elt Ideal) ℓ) (g' : Dev Cert.WgDownRefIdeal.nD → PrngReg), Pre_WgDownIdeal m →
    (∀ c : Dev Cert.WgDownIdeal.nD,
      m' ((c.tc : Thread Cert.WgDownRefIdeal.nD Cert.WgDownRefIdeal.τ).loc Cert.WgDownRefIdeal.main_arg0) = m ((c.tc : Thread Cert.WgDownIdeal.nD Cert.WgDownIdeal.τ).loc Cert.WgDownIdeal.main_arg0)
      ∧ m' ((c.tc : Thread Cert.WgDownRefIdeal.nD Cert.WgDownRefIdeal.τ).loc Cert.WgDownRefIdeal.main_arg1) = m ((c.tc : Thread Cert.WgDownIdeal.nD Cert.WgDownIdeal.τ).loc Cert.WgDownIdeal.main_arg1)) →
    ∃ (v0 : (c : Dev Cert.WgDownIdeal.nD) → Buf (Elt Ideal) ((c.tc : Thread Cert.WgDownIdeal.nD Cert.WgDownIdeal.τ).loc Cert.WgDownIdeal.main_v0)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v0) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ θ_run (Cert.WgDownRefIdeal.defs (F := Ideal)) (onTc (τ := Cert.WgDownRefIdeal.τ) (Cert.WgDownRefIdeal.main (F := Ideal))) ⟨m', fun _ => 0, g'⟩ (fun r => ∀ c : Dev Cert.WgDownRefIdeal.nD,
          r.2.mem ((c.tc : Thread Cert.WgDownRefIdeal.nD Cert.WgDownRefIdeal.τ).loc Cert.WgDownRefIdeal.main_v6) = v0 c
          ∧ r.2.mem ((c.tc : Thread Cert.WgDownRefIdeal.nD Cert.WgDownRefIdeal.τ).loc Cert.WgDownRefIdeal.main_arg0) = m' ((c.tc : Thread Cert.WgDownRefIdeal.nD Cert.WgDownRefIdeal.τ).loc Cert.WgDownRefIdeal.main_arg0)
          ∧ r.2.mem ((c.tc : Thread Cert.WgDownRefIdeal.nD Cert.WgDownRefIdeal.τ).loc Cert.WgDownRefIdeal.main_arg1) = m' ((c.tc : Thread Cert.WgDownRefIdeal.nD Cert.WgDownRefIdeal.τ).loc Cert.WgDownRefIdeal.main_arg1))

def preserves_WgUp_WgUpIdeal : Prop :=
  True

def algebraic_WgUpIdeal_WgUpRefIdeal [hWgUpIdeal : Cert.WgUpIdeal.Facts] [hWgUpRefIdeal : Cert.WgUpRefIdeal.Facts] : Prop :=
  ∀ (m : (ℓ : Loc Cert.WgUpIdeal.nD Cert.WgUpIdeal.τ Cert.WgUpIdeal.sig) → Buf (Elt Ideal) ℓ) (g : Dev Cert.WgUpIdeal.nD → PrngReg)
    (m' : (ℓ : Loc Cert.WgUpRefIdeal.nD Cert.WgUpRefIdeal.τ Cert.WgUpRefIdeal.sig) → Buf (Elt Ideal) ℓ) (g' : Dev Cert.WgUpRefIdeal.nD → PrngReg), Pre_WgUpIdeal m →
    (∀ c : Dev Cert.WgUpIdeal.nD,
      m' ((c.tc : Thread Cert.WgUpRefIdeal.nD Cert.WgUpRefIdeal.τ).loc Cert.WgUpRefIdeal.main_arg0) = m ((c.tc : Thread Cert.WgUpIdeal.nD Cert.WgUpIdeal.τ).loc Cert.WgUpIdeal.main_arg0)
      ∧ m' ((c.tc : Thread Cert.WgUpRefIdeal.nD Cert.WgUpRefIdeal.τ).loc Cert.WgUpRefIdeal.main_arg1) = m ((c.tc : Thread Cert.WgUpIdeal.nD Cert.WgUpIdeal.τ).loc Cert.WgUpIdeal.main_arg1)) →
    ∃ (v0 : (c : Dev Cert.WgUpIdeal.nD) → Buf (Elt Ideal) ((c.tc : Thread Cert.WgUpIdeal.nD Cert.WgUpIdeal.τ).loc Cert.WgUpIdeal.main_v0)),
      θ_run (Cert.WgUpIdeal.defs (F := Ideal)) (onTc (τ := Cert.WgUpIdeal.τ) (Cert.WgUpIdeal.main (F := Ideal))) ⟨m, fun _ => 0, g⟩ (fun r => ∀ c : Dev Cert.WgUpIdeal.nD,
          r.2.mem ((c.tc : Thread Cert.WgUpIdeal.nD Cert.WgUpIdeal.τ).loc Cert.WgUpIdeal.main_v0) = v0 c
          ∧ r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
          ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ θ_run (Cert.WgUpRefIdeal.defs (F := Ideal)) (onTc (τ := Cert.WgUpRefIdeal.τ) (Cert.WgUpRefIdeal.main (F := Ideal))) ⟨m', fun _ => 0, g'⟩ (fun r => ∀ c : Dev Cert.WgUpRefIdeal.nD,
          r.2.mem ((c.tc : Thread Cert.WgUpRefIdeal.nD Cert.WgUpRefIdeal.τ).loc Cert.WgUpRefIdeal.main_v6) = v0 c
          ∧ r.2.mem ((c.tc : Thread Cert.WgUpRefIdeal.nD Cert.WgUpRefIdeal.τ).loc Cert.WgUpRefIdeal.main_arg0) = m' ((c.tc : Thread Cert.WgUpRefIdeal.nD Cert.WgUpRefIdeal.τ).loc Cert.WgUpRefIdeal.main_arg0)
          ∧ r.2.mem ((c.tc : Thread Cert.WgUpRefIdeal.nD Cert.WgUpRefIdeal.τ).loc Cert.WgUpRefIdeal.main_arg1) = m' ((c.tc : Thread Cert.WgUpRefIdeal.nD Cert.WgUpRefIdeal.τ).loc Cert.WgUpRefIdeal.main_arg1))

def preserves_WgOut_WgOutIdeal : Prop :=
  True

def algebraic_WgOutIdeal_WgOutRefIdeal [hWgOutIdeal : Cert.WgOutIdeal.Facts] [hWgOutRefIdeal : Cert.WgOutRefIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutRefIdeal.nD Cert.WgOutRefIdeal.τ Cert.WgOutRefIdeal.sig) → Buf (Elt Ideal) ℓ) (g' : Dev Cert.WgOutRefIdeal.nD → PrngReg), Pre_WgOutIdeal m →
    (∀ c : Dev Cert.WgOutIdeal.nD,
      m' ((c.tc : Thread Cert.WgOutRefIdeal.nD Cert.WgOutRefIdeal.τ).loc Cert.WgOutRefIdeal.main_arg0) = m ((c.tc : Thread Cert.WgOutIdeal.nD Cert.WgOutIdeal.τ).loc Cert.WgOutIdeal.main_arg0)
      ∧ m' ((c.tc : Thread Cert.WgOutRefIdeal.nD Cert.WgOutRefIdeal.τ).loc Cert.WgOutRefIdeal.main_arg1) = m ((c.tc : Thread Cert.WgOutIdeal.nD Cert.WgOutIdeal.τ).loc Cert.WgOutIdeal.main_arg1)) →
    ∃ (v0 : (c : Dev Cert.WgOutIdeal.nD) → Buf (Elt Ideal) ((c.tc : Thread Cert.WgOutIdeal.nD Cert.WgOutIdeal.τ).loc Cert.WgOutIdeal.main_v0)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v0) = v0 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ θ_run (Cert.WgOutRefIdeal.defs (F := Ideal)) (onTc (τ := Cert.WgOutRefIdeal.τ) (Cert.WgOutRefIdeal.main (F := Ideal))) ⟨m', fun _ => 0, g'⟩ (fun r => ∀ c : Dev Cert.WgOutRefIdeal.nD,
          r.2.mem ((c.tc : Thread Cert.WgOutRefIdeal.nD Cert.WgOutRefIdeal.τ).loc Cert.WgOutRefIdeal.main_v6) = v0 c
          ∧ r.2.mem ((c.tc : Thread Cert.WgOutRefIdeal.nD Cert.WgOutRefIdeal.τ).loc Cert.WgOutRefIdeal.main_arg0) = m' ((c.tc : Thread Cert.WgOutRefIdeal.nD Cert.WgOutRefIdeal.τ).loc Cert.WgOutRefIdeal.main_arg0)
          ∧ r.2.mem ((c.tc : Thread Cert.WgOutRefIdeal.nD Cert.WgOutRefIdeal.τ).loc Cert.WgOutRefIdeal.main_arg1) = m' ((c.tc : Thread Cert.WgOutRefIdeal.nD Cert.WgOutRefIdeal.τ).loc Cert.WgOutRefIdeal.main_arg1))

def preserves_DgDown_DgDownIdeal : Prop :=
  True

def algebraic_DgDownIdeal_DgDownRefIdeal [hDgDownIdeal : Cert.DgDownIdeal.Facts] [hDgDownRefIdeal : Cert.DgDownRefIdeal.Facts] : Prop :=
  ∀ (m : (ℓ : Loc Cert.DgDownIdeal.nD Cert.DgDownIdeal.τ Cert.DgDownIdeal.sig) → Buf (Elt Ideal) ℓ) (g : Dev Cert.DgDownIdeal.nD → PrngReg)
    (m' : (ℓ : Loc Cert.DgDownRefIdeal.nD Cert.DgDownRefIdeal.τ Cert.DgDownRefIdeal.sig) → Buf (Elt Ideal) ℓ) (g' : Dev Cert.DgDownRefIdeal.nD → PrngReg), Pre_DgDownIdeal m →
    (∀ c : Dev Cert.DgDownIdeal.nD,
      m' ((c.tc : Thread Cert.DgDownRefIdeal.nD Cert.DgDownRefIdeal.τ).loc Cert.DgDownRefIdeal.main_arg0) = m ((c.tc : Thread Cert.DgDownIdeal.nD Cert.DgDownIdeal.τ).loc Cert.DgDownIdeal.main_arg0)
      ∧ m' ((c.tc : Thread Cert.DgDownRefIdeal.nD Cert.DgDownRefIdeal.τ).loc Cert.DgDownRefIdeal.main_arg1) = m ((c.tc : Thread Cert.DgDownIdeal.nD Cert.DgDownIdeal.τ).loc Cert.DgDownIdeal.main_arg1)) →
    ∃ (v0 : (c : Dev Cert.DgDownIdeal.nD) → Buf (Elt Ideal) ((c.tc : Thread Cert.DgDownIdeal.nD Cert.DgDownIdeal.τ).loc Cert.DgDownIdeal.main_v0)),
      θ_run (Cert.DgDownIdeal.defs (F := Ideal)) (onTc (τ := Cert.DgDownIdeal.τ) (Cert.DgDownIdeal.main (F := Ideal))) ⟨m, fun _ => 0, g⟩ (fun r => ∀ c : Dev Cert.DgDownIdeal.nD,
          r.2.mem ((c.tc : Thread Cert.DgDownIdeal.nD Cert.DgDownIdeal.τ).loc Cert.DgDownIdeal.main_v0) = v0 c
          ∧ r.2.mem ((c.tc : Thread Cert.DgDownIdeal.nD Cert.DgDownIdeal.τ).loc Cert.DgDownIdeal.main_arg0) = m ((c.tc : Thread Cert.DgDownIdeal.nD Cert.DgDownIdeal.τ).loc Cert.DgDownIdeal.main_arg0)
          ∧ r.2.mem ((c.tc : Thread Cert.DgDownIdeal.nD Cert.DgDownIdeal.τ).loc Cert.DgDownIdeal.main_arg1) = m ((c.tc : Thread Cert.DgDownIdeal.nD Cert.DgDownIdeal.τ).loc Cert.DgDownIdeal.main_arg1))
      ∧ θ_run (Cert.DgDownRefIdeal.defs (F := Ideal)) (onTc (τ := Cert.DgDownRefIdeal.τ) (Cert.DgDownRefIdeal.main (F := Ideal))) ⟨m', fun _ => 0, g'⟩ (fun r => ∀ c : Dev Cert.DgDownRefIdeal.nD,
          r.2.mem ((c.tc : Thread Cert.DgDownRefIdeal.nD Cert.DgDownRefIdeal.τ).loc Cert.DgDownRefIdeal.main_v4) = v0 c
          ∧ r.2.mem ((c.tc : Thread Cert.DgDownRefIdeal.nD Cert.DgDownRefIdeal.τ).loc Cert.DgDownRefIdeal.main_arg0) = m' ((c.tc : Thread Cert.DgDownRefIdeal.nD Cert.DgDownRefIdeal.τ).loc Cert.DgDownRefIdeal.main_arg0)
          ∧ r.2.mem ((c.tc : Thread Cert.DgDownRefIdeal.nD Cert.DgDownRefIdeal.τ).loc Cert.DgDownRefIdeal.main_arg1) = m' ((c.tc : Thread Cert.DgDownRefIdeal.nD Cert.DgDownRefIdeal.τ).loc Cert.DgDownRefIdeal.main_arg1))

def preserves_DgGate_DgGateIdeal : Prop :=
  True

def algebraic_DgGateIdeal_DgGateRefIdeal [hDgGateIdeal : Cert.DgGateIdeal.Facts] [hDgGateRefIdeal : Cert.DgGateRefIdeal.Facts] : Prop :=
  ∀ (m : (ℓ : Loc Cert.DgGateIdeal.nD Cert.DgGateIdeal.τ Cert.DgGateIdeal.sig) → Buf (Elt Ideal) ℓ) (g : Dev Cert.DgGateIdeal.nD → PrngReg)
    (m' : (ℓ : Loc Cert.DgGateRefIdeal.nD Cert.DgGateRefIdeal.τ Cert.DgGateRefIdeal.sig) → Buf (Elt Ideal) ℓ) (g' : Dev Cert.DgGateRefIdeal.nD → PrngReg), Pre_DgGateIdeal m →
    (∀ c : Dev Cert.DgGateIdeal.nD,
      m' ((c.tc : Thread Cert.DgGateRefIdeal.nD Cert.DgGateRefIdeal.τ).loc Cert.DgGateRefIdeal.main_arg0) = m ((c.tc : Thread Cert.DgGateIdeal.nD Cert.DgGateIdeal.τ).loc Cert.DgGateIdeal.main_arg0)
      ∧ m' ((c.tc : Thread Cert.DgGateRefIdeal.nD Cert.DgGateRefIdeal.τ).loc Cert.DgGateRefIdeal.main_arg1) = m ((c.tc : Thread Cert.DgGateIdeal.nD Cert.DgGateIdeal.τ).loc Cert.DgGateIdeal.main_arg1)) →
    ∃ (v0 : (c : Dev Cert.DgGateIdeal.nD) → Buf (Elt Ideal) ((c.tc : Thread Cert.DgGateIdeal.nD Cert.DgGateIdeal.τ).loc Cert.DgGateIdeal.main_v0)),
      θ_run (Cert.DgGateIdeal.defs (F := Ideal)) (onTc (τ := Cert.DgGateIdeal.τ) (Cert.DgGateIdeal.main (F := Ideal))) ⟨m, fun _ => 0, g⟩ (fun r => ∀ c : Dev Cert.DgGateIdeal.nD,
          r.2.mem ((c.tc : Thread Cert.DgGateIdeal.nD Cert.DgGateIdeal.τ).loc Cert.DgGateIdeal.main_v0) = v0 c
          ∧ r.2.mem ((c.tc : Thread Cert.DgGateIdeal.nD Cert.DgGateIdeal.τ).loc Cert.DgGateIdeal.main_arg0) = m ((c.tc : Thread Cert.DgGateIdeal.nD Cert.DgGateIdeal.τ).loc Cert.DgGateIdeal.main_arg0)
          ∧ r.2.mem ((c.tc : Thread Cert.DgGateIdeal.nD Cert.DgGateIdeal.τ).loc Cert.DgGateIdeal.main_arg1) = m ((c.tc : Thread Cert.DgGateIdeal.nD Cert.DgGateIdeal.τ).loc Cert.DgGateIdeal.main_arg1))
      ∧ θ_run (Cert.DgGateRefIdeal.defs (F := Ideal)) (onTc (τ := Cert.DgGateRefIdeal.τ) (Cert.DgGateRefIdeal.main (F := Ideal))) ⟨m', fun _ => 0, g'⟩ (fun r => ∀ c : Dev Cert.DgGateRefIdeal.nD,
          r.2.mem ((c.tc : Thread Cert.DgGateRefIdeal.nD Cert.DgGateRefIdeal.τ).loc Cert.DgGateRefIdeal.main_v4) = v0 c
          ∧ r.2.mem ((c.tc : Thread Cert.DgGateRefIdeal.nD Cert.DgGateRefIdeal.τ).loc Cert.DgGateRefIdeal.main_arg0) = m' ((c.tc : Thread Cert.DgGateRefIdeal.nD Cert.DgGateRefIdeal.τ).loc Cert.DgGateRefIdeal.main_arg0)
          ∧ r.2.mem ((c.tc : Thread Cert.DgGateRefIdeal.nD Cert.DgGateRefIdeal.τ).loc Cert.DgGateRefIdeal.main_arg1) = m' ((c.tc : Thread Cert.DgGateRefIdeal.nD Cert.DgGateRefIdeal.τ).loc Cert.DgGateRefIdeal.main_arg1))

def preserves_DgUp_DgUpIdeal : Prop :=
  True

def algebraic_DgUpIdeal_DgUpRefIdeal [hDgUpIdeal : Cert.DgUpIdeal.Facts] [hDgUpRefIdeal : Cert.DgUpRefIdeal.Facts] : Prop :=
  ∀ (m : (ℓ : Loc Cert.DgUpIdeal.nD Cert.DgUpIdeal.τ Cert.DgUpIdeal.sig) → Buf (Elt Ideal) ℓ) (g : Dev Cert.DgUpIdeal.nD → PrngReg)
    (m' : (ℓ : Loc Cert.DgUpRefIdeal.nD Cert.DgUpRefIdeal.τ Cert.DgUpRefIdeal.sig) → Buf (Elt Ideal) ℓ) (g' : Dev Cert.DgUpRefIdeal.nD → PrngReg), Pre_DgUpIdeal m →
    (∀ c : Dev Cert.DgUpIdeal.nD,
      m' ((c.tc : Thread Cert.DgUpRefIdeal.nD Cert.DgUpRefIdeal.τ).loc Cert.DgUpRefIdeal.main_arg0) = m ((c.tc : Thread Cert.DgUpIdeal.nD Cert.DgUpIdeal.τ).loc Cert.DgUpIdeal.main_arg0)
      ∧ m' ((c.tc : Thread Cert.DgUpRefIdeal.nD Cert.DgUpRefIdeal.τ).loc Cert.DgUpRefIdeal.main_arg1) = m ((c.tc : Thread Cert.DgUpIdeal.nD Cert.DgUpIdeal.τ).loc Cert.DgUpIdeal.main_arg1)
      ∧ m' ((c.tc : Thread Cert.DgUpRefIdeal.nD Cert.DgUpRefIdeal.τ).loc Cert.DgUpRefIdeal.main_arg2) = m ((c.tc : Thread Cert.DgUpIdeal.nD Cert.DgUpIdeal.τ).loc Cert.DgUpIdeal.main_arg2)) →
    ∃ (v0 : (c : Dev Cert.DgUpIdeal.nD) → Buf (Elt Ideal) ((c.tc : Thread Cert.DgUpIdeal.nD Cert.DgUpIdeal.τ).loc Cert.DgUpIdeal.main_v0)),
      θ_run (Cert.DgUpIdeal.defs (F := Ideal)) (onTc (τ := Cert.DgUpIdeal.τ) (Cert.DgUpIdeal.main (F := Ideal))) ⟨m, fun _ => 0, g⟩ (fun r => ∀ c : Dev Cert.DgUpIdeal.nD,
          r.2.mem ((c.tc : Thread Cert.DgUpIdeal.nD Cert.DgUpIdeal.τ).loc Cert.DgUpIdeal.main_v0) = v0 c
          ∧ r.2.mem ((c.tc : Thread Cert.DgUpIdeal.nD Cert.DgUpIdeal.τ).loc Cert.DgUpIdeal.main_arg0) = m ((c.tc : Thread Cert.DgUpIdeal.nD Cert.DgUpIdeal.τ).loc Cert.DgUpIdeal.main_arg0)
          ∧ r.2.mem ((c.tc : Thread Cert.DgUpIdeal.nD Cert.DgUpIdeal.τ).loc Cert.DgUpIdeal.main_arg1) = m ((c.tc : Thread Cert.DgUpIdeal.nD Cert.DgUpIdeal.τ).loc Cert.DgUpIdeal.main_arg1)
          ∧ r.2.mem ((c.tc : Thread Cert.DgUpIdeal.nD Cert.DgUpIdeal.τ).loc Cert.DgUpIdeal.main_arg2) = m ((c.tc : Thread Cert.DgUpIdeal.nD Cert.DgUpIdeal.τ).loc Cert.DgUpIdeal.main_arg2))
      ∧ θ_run (Cert.DgUpRefIdeal.defs (F := Ideal)) (onTc (τ := Cert.DgUpRefIdeal.τ) (Cert.DgUpRefIdeal.main (F := Ideal))) ⟨m', fun _ => 0, g'⟩ (fun r => ∀ c : Dev Cert.DgUpRefIdeal.nD,
          r.2.mem ((c.tc : Thread Cert.DgUpRefIdeal.nD Cert.DgUpRefIdeal.τ).loc Cert.DgUpRefIdeal.main_v5) = v0 c
          ∧ r.2.mem ((c.tc : Thread Cert.DgUpRefIdeal.nD Cert.DgUpRefIdeal.τ).loc Cert.DgUpRefIdeal.main_arg0) = m' ((c.tc : Thread Cert.DgUpRefIdeal.nD Cert.DgUpRefIdeal.τ).loc Cert.DgUpRefIdeal.main_arg0)
          ∧ r.2.mem ((c.tc : Thread Cert.DgUpRefIdeal.nD Cert.DgUpRefIdeal.τ).loc Cert.DgUpRefIdeal.main_arg1) = m' ((c.tc : Thread Cert.DgUpRefIdeal.nD Cert.DgUpRefIdeal.τ).loc Cert.DgUpRefIdeal.main_arg1)
          ∧ r.2.mem ((c.tc : Thread Cert.DgUpRefIdeal.nD Cert.DgUpRefIdeal.τ).loc Cert.DgUpRefIdeal.main_arg2) = m' ((c.tc : Thread Cert.DgUpRefIdeal.nD Cert.DgUpRefIdeal.τ).loc Cert.DgUpRefIdeal.main_arg2))

def preserves_DgOut_DgOutIdeal : Prop :=
  True

def algebraic_DgOutIdeal_DgOutRefIdeal [hDgOutIdeal : Cert.DgOutIdeal.Facts] [hDgOutRefIdeal : Cert.DgOutRefIdeal.Facts] : Prop :=
  ∀ (m : (ℓ : Loc Cert.DgOutIdeal.nD Cert.DgOutIdeal.τ Cert.DgOutIdeal.sig) → Buf (Elt Ideal) ℓ) (g : Dev Cert.DgOutIdeal.nD → PrngReg)
    (m' : (ℓ : Loc Cert.DgOutRefIdeal.nD Cert.DgOutRefIdeal.τ Cert.DgOutRefIdeal.sig) → Buf (Elt Ideal) ℓ) (g' : Dev Cert.DgOutRefIdeal.nD → PrngReg), Pre_DgOutIdeal m →
    (∀ c : Dev Cert.DgOutIdeal.nD,
      m' ((c.tc : Thread Cert.DgOutRefIdeal.nD Cert.DgOutRefIdeal.τ).loc Cert.DgOutRefIdeal.main_arg0) = m ((c.tc : Thread Cert.DgOutIdeal.nD Cert.DgOutIdeal.τ).loc Cert.DgOutIdeal.main_arg0)
      ∧ m' ((c.tc : Thread Cert.DgOutRefIdeal.nD Cert.DgOutRefIdeal.τ).loc Cert.DgOutRefIdeal.main_arg1) = m ((c.tc : Thread Cert.DgOutIdeal.nD Cert.DgOutIdeal.τ).loc Cert.DgOutIdeal.main_arg1)) →
    ∃ (v0 : (c : Dev Cert.DgOutIdeal.nD) → Buf (Elt Ideal) ((c.tc : Thread Cert.DgOutIdeal.nD Cert.DgOutIdeal.τ).loc Cert.DgOutIdeal.main_v0)),
      θ_run (Cert.DgOutIdeal.defs (F := Ideal)) (onTc (τ := Cert.DgOutIdeal.τ) (Cert.DgOutIdeal.main (F := Ideal))) ⟨m, fun _ => 0, g⟩ (fun r => ∀ c : Dev Cert.DgOutIdeal.nD,
          r.2.mem ((c.tc : Thread Cert.DgOutIdeal.nD Cert.DgOutIdeal.τ).loc Cert.DgOutIdeal.main_v0) = v0 c
          ∧ r.2.mem ((c.tc : Thread Cert.DgOutIdeal.nD Cert.DgOutIdeal.τ).loc Cert.DgOutIdeal.main_arg0) = m ((c.tc : Thread Cert.DgOutIdeal.nD Cert.DgOutIdeal.τ).loc Cert.DgOutIdeal.main_arg0)
          ∧ r.2.mem ((c.tc : Thread Cert.DgOutIdeal.nD Cert.DgOutIdeal.τ).loc Cert.DgOutIdeal.main_arg1) = m ((c.tc : Thread Cert.DgOutIdeal.nD Cert.DgOutIdeal.τ).loc Cert.DgOutIdeal.main_arg1))
      ∧ θ_run (Cert.DgOutRefIdeal.defs (F := Ideal)) (onTc (τ := Cert.DgOutRefIdeal.τ) (Cert.DgOutRefIdeal.main (F := Ideal))) ⟨m', fun _ => 0, g'⟩ (fun r => ∀ c : Dev Cert.DgOutRefIdeal.nD,
          r.2.mem ((c.tc : Thread Cert.DgOutRefIdeal.nD Cert.DgOutRefIdeal.τ).loc Cert.DgOutRefIdeal.main_v4) = v0 c
          ∧ r.2.mem ((c.tc : Thread Cert.DgOutRefIdeal.nD Cert.DgOutRefIdeal.τ).loc Cert.DgOutRefIdeal.main_arg0) = m' ((c.tc : Thread Cert.DgOutRefIdeal.nD Cert.DgOutRefIdeal.τ).loc Cert.DgOutRefIdeal.main_arg0)
          ∧ r.2.mem ((c.tc : Thread Cert.DgOutRefIdeal.nD Cert.DgOutRefIdeal.τ).loc Cert.DgOutRefIdeal.main_arg1) = m' ((c.tc : Thread Cert.DgOutRefIdeal.nD Cert.DgOutRefIdeal.τ).loc Cert.DgOutRefIdeal.main_arg1))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v7) = v0 c
          ∧ r.2.mem ((c.tc : Thread Cert.SwigluBwdRefIdeal.nD Cert.SwigluBwdRefIdeal.τ).loc Cert.SwigluBwdRefIdeal.main_v8) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def preserves_ResgateBwd_ResgateBwdIdeal : Prop :=
  True

def algebraic_ResgateBwdIdeal_ResgateBwdRefIdeal [hResgateBwdIdeal : Cert.ResgateBwdIdeal.Facts] [hResgateBwdRefIdeal : Cert.ResgateBwdRefIdeal.Facts] : Prop :=
  ∀ (m : (ℓ : Loc Cert.ResgateBwdIdeal.nD Cert.ResgateBwdIdeal.τ Cert.ResgateBwdIdeal.sig) → Buf (Elt Ideal) ℓ) (g : Dev Cert.ResgateBwdIdeal.nD → PrngReg)
    (m' : (ℓ : Loc Cert.ResgateBwdRefIdeal.nD Cert.ResgateBwdRefIdeal.τ Cert.ResgateBwdRefIdeal.sig) → Buf (Elt Ideal) ℓ) (g' : Dev Cert.ResgateBwdRefIdeal.nD → PrngReg), Pre_ResgateBwdIdeal m →
    (∀ c : Dev Cert.ResgateBwdIdeal.nD,
      m' ((c.tc : Thread Cert.ResgateBwdRefIdeal.nD Cert.ResgateBwdRefIdeal.τ).loc Cert.ResgateBwdRefIdeal.main_arg0) = m ((c.tc : Thread Cert.ResgateBwdIdeal.nD Cert.ResgateBwdIdeal.τ).loc Cert.ResgateBwdIdeal.main_arg0)
      ∧ m' ((c.tc : Thread Cert.ResgateBwdRefIdeal.nD Cert.ResgateBwdRefIdeal.τ).loc Cert.ResgateBwdRefIdeal.main_arg1) = m ((c.tc : Thread Cert.ResgateBwdIdeal.nD Cert.ResgateBwdIdeal.τ).loc Cert.ResgateBwdIdeal.main_arg1)
      ∧ m' ((c.tc : Thread Cert.ResgateBwdRefIdeal.nD Cert.ResgateBwdRefIdeal.τ).loc Cert.ResgateBwdRefIdeal.main_arg2) = m ((c.tc : Thread Cert.ResgateBwdIdeal.nD Cert.ResgateBwdIdeal.τ).loc Cert.ResgateBwdIdeal.main_arg2)
      ∧ m' ((c.tc : Thread Cert.ResgateBwdRefIdeal.nD Cert.ResgateBwdRefIdeal.τ).loc Cert.ResgateBwdRefIdeal.main_arg3) = m ((c.tc : Thread Cert.ResgateBwdIdeal.nD Cert.ResgateBwdIdeal.τ).loc Cert.ResgateBwdIdeal.main_arg3)
      ∧ m' ((c.tc : Thread Cert.ResgateBwdRefIdeal.nD Cert.ResgateBwdRefIdeal.τ).loc Cert.ResgateBwdRefIdeal.main_arg4) = m ((c.tc : Thread Cert.ResgateBwdIdeal.nD Cert.ResgateBwdIdeal.τ).loc Cert.ResgateBwdIdeal.main_arg4)) →
    ∃ (v0 : (c : Dev Cert.ResgateBwdIdeal.nD) → Buf (Elt Ideal) ((c.tc : Thread Cert.ResgateBwdIdeal.nD Cert.ResgateBwdIdeal.τ).loc Cert.ResgateBwdIdeal.main_v0_0)) (v1 : (c : Dev Cert.ResgateBwdIdeal.nD) → Buf (Elt Ideal) ((c.tc : Thread Cert.ResgateBwdIdeal.nD Cert.ResgateBwdIdeal.τ).loc Cert.ResgateBwdIdeal.main_v0_1)),
      θ_run (Cert.ResgateBwdIdeal.defs (F := Ideal)) (onTc (τ := Cert.ResgateBwdIdeal.τ) (Cert.ResgateBwdIdeal.main (F := Ideal))) ⟨m, fun _ => 0, g⟩ (fun r => ∀ c : Dev Cert.ResgateBwdIdeal.nD,
          r.2.mem ((c.tc : Thread Cert.ResgateBwdIdeal.nD Cert.ResgateBwdIdeal.τ).loc Cert.ResgateBwdIdeal.main_v0_0) = v0 c
          ∧ r.2.mem ((c.tc : Thread Cert.ResgateBwdIdeal.nD Cert.ResgateBwdIdeal.τ).loc Cert.ResgateBwdIdeal.main_v0_1) = v1 c
          ∧ r.2.mem ((c.tc : Thread Cert.ResgateBwdIdeal.nD Cert.ResgateBwdIdeal.τ).loc Cert.ResgateBwdIdeal.main_arg0) = m ((c.tc : Thread Cert.ResgateBwdIdeal.nD Cert.ResgateBwdIdeal.τ).loc Cert.ResgateBwdIdeal.main_arg0)
          ∧ r.2.mem ((c.tc : Thread Cert.ResgateBwdIdeal.nD Cert.ResgateBwdIdeal.τ).loc Cert.ResgateBwdIdeal.main_arg1) = m ((c.tc : Thread Cert.ResgateBwdIdeal.nD Cert.ResgateBwdIdeal.τ).loc Cert.ResgateBwdIdeal.main_arg1)
          ∧ r.2.mem ((c.tc : Thread Cert.ResgateBwdIdeal.nD Cert.ResgateBwdIdeal.τ).loc Cert.ResgateBwdIdeal.main_arg2) = m ((c.tc : Thread Cert.ResgateBwdIdeal.nD Cert.ResgateBwdIdeal.τ).loc Cert.ResgateBwdIdeal.main_arg2)
          ∧ r.2.mem ((c.tc : Thread Cert.ResgateBwdIdeal.nD Cert.ResgateBwdIdeal.τ).loc Cert.ResgateBwdIdeal.main_arg3) = m ((c.tc : Thread Cert.ResgateBwdIdeal.nD Cert.ResgateBwdIdeal.τ).loc Cert.ResgateBwdIdeal.main_arg3)
          ∧ r.2.mem ((c.tc : Thread Cert.ResgateBwdIdeal.nD Cert.ResgateBwdIdeal.τ).loc Cert.ResgateBwdIdeal.main_arg4) = m ((c.tc : Thread Cert.ResgateBwdIdeal.nD Cert.ResgateBwdIdeal.τ).loc Cert.ResgateBwdIdeal.main_arg4))
      ∧ θ_run (Cert.ResgateBwdRefIdeal.defs (F := Ideal)) (onTc (τ := Cert.ResgateBwdRefIdeal.τ) (Cert.ResgateBwdRefIdeal.main (F := Ideal))) ⟨m', fun _ => 0, g'⟩ (fun r => ∀ c : Dev Cert.ResgateBwdRefIdeal.nD,
          r.2.mem ((c.tc : Thread Cert.ResgateBwdRefIdeal.nD Cert.ResgateBwdRefIdeal.τ).loc Cert.ResgateBwdRefIdeal.main_v10) = v0 c
          ∧ r.2.mem ((c.tc : Thread Cert.ResgateBwdRefIdeal.nD Cert.ResgateBwdRefIdeal.τ).loc Cert.ResgateBwdRefIdeal.main_v9) = v1 c
          ∧ r.2.mem ((c.tc : Thread Cert.ResgateBwdRefIdeal.nD Cert.ResgateBwdRefIdeal.τ).loc Cert.ResgateBwdRefIdeal.main_arg0) = m' ((c.tc : Thread Cert.ResgateBwdRefIdeal.nD Cert.ResgateBwdRefIdeal.τ).loc Cert.ResgateBwdRefIdeal.main_arg0)
          ∧ r.2.mem ((c.tc : Thread Cert.ResgateBwdRefIdeal.nD Cert.ResgateBwdRefIdeal.τ).loc Cert.ResgateBwdRefIdeal.main_arg1) = m' ((c.tc : Thread Cert.ResgateBwdRefIdeal.nD Cert.ResgateBwdRefIdeal.τ).loc Cert.ResgateBwdRefIdeal.main_arg1)
          ∧ r.2.mem ((c.tc : Thread Cert.ResgateBwdRefIdeal.nD Cert.ResgateBwdRefIdeal.τ).loc Cert.ResgateBwdRefIdeal.main_arg2) = m' ((c.tc : Thread Cert.ResgateBwdRefIdeal.nD Cert.ResgateBwdRefIdeal.τ).loc Cert.ResgateBwdRefIdeal.main_arg2)
          ∧ r.2.mem ((c.tc : Thread Cert.ResgateBwdRefIdeal.nD Cert.ResgateBwdRefIdeal.τ).loc Cert.ResgateBwdRefIdeal.main_arg3) = m' ((c.tc : Thread Cert.ResgateBwdRefIdeal.nD Cert.ResgateBwdRefIdeal.τ).loc Cert.ResgateBwdRefIdeal.main_arg3)
          ∧ r.2.mem ((c.tc : Thread Cert.ResgateBwdRefIdeal.nD Cert.ResgateBwdRefIdeal.τ).loc Cert.ResgateBwdRefIdeal.main_arg4) = m' ((c.tc : Thread Cert.ResgateBwdRefIdeal.nD Cert.ResgateBwdRefIdeal.τ).loc Cert.ResgateBwdRefIdeal.main_arg4))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v2) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v3) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmOutDn_MmOutDnIdeal : Prop :=
  True

def algebraic_MmOutDnIdeal_MmOutDnRefIdeal [hMmOutDnIdeal : Cert.MmOutDnIdeal.Facts] [hMmOutDnRefIdeal : Cert.MmOutDnRefIdeal.Facts] : Prop :=
  ∀ (m : (ℓ : Loc Cert.MmOutDnIdeal.nD Cert.MmOutDnIdeal.τ Cert.MmOutDnIdeal.sig) → Buf (Elt Ideal) ℓ) (g : Dev Cert.MmOutDnIdeal.nD → PrngReg)
    (m' : (ℓ : Loc Cert.MmOutDnRefIdeal.nD Cert.MmOutDnRefIdeal.τ Cert.MmOutDnRefIdeal.sig) → Buf (Elt Ideal) ℓ) (g' : Dev Cert.MmOutDnRefIdeal.nD → PrngReg), Pre_MmOutDnIdeal m →
    (∀ c : Dev Cert.MmOutDnIdeal.nD,
      m' ((c.tc : Thread Cert.MmOutDnRefIdeal.nD Cert.MmOutDnRefIdeal.τ).loc Cert.MmOutDnRefIdeal.main_arg0) = m ((c.tc : Thread Cert.MmOutDnIdeal.nD Cert.MmOutDnIdeal.τ).loc Cert.MmOutDnIdeal.main_arg0)
      ∧ m' ((c.tc : Thread Cert.MmOutDnRefIdeal.nD Cert.MmOutDnRefIdeal.τ).loc Cert.MmOutDnRefIdeal.main_arg1) = m ((c.tc : Thread Cert.MmOutDnIdeal.nD Cert.MmOutDnIdeal.τ).loc Cert.MmOutDnIdeal.main_arg1)) →
    ∃ (v0 : (c : Dev Cert.MmOutDnIdeal.nD) → Buf (Elt Ideal) ((c.tc : Thread Cert.MmOutDnIdeal.nD Cert.MmOutDnIdeal.τ).loc Cert.MmOutDnIdeal.main_v0)),
      θ_run (Cert.MmOutDnIdeal.defs (F := Ideal)) (onTc (τ := Cert.MmOutDnIdeal.τ) (Cert.MmOutDnIdeal.main (F := Ideal))) ⟨m, fun _ => 0, g⟩ (fun r => ∀ c : Dev Cert.MmOutDnIdeal.nD,
          r.2.mem ((c.tc : Thread Cert.MmOutDnIdeal.nD Cert.MmOutDnIdeal.τ).loc Cert.MmOutDnIdeal.main_v0) = v0 c
          ∧ r.2.mem ((c.tc : Thread Cert.MmOutDnIdeal.nD Cert.MmOutDnIdeal.τ).loc Cert.MmOutDnIdeal.main_arg0) = m ((c.tc : Thread Cert.MmOutDnIdeal.nD Cert.MmOutDnIdeal.τ).loc Cert.MmOutDnIdeal.main_arg0)
          ∧ r.2.mem ((c.tc : Thread Cert.MmOutDnIdeal.nD Cert.MmOutDnIdeal.τ).loc Cert.MmOutDnIdeal.main_arg1) = m ((c.tc : Thread Cert.MmOutDnIdeal.nD Cert.MmOutDnIdeal.τ).loc Cert.MmOutDnIdeal.main_arg1))
      ∧ θ_run (Cert.MmOutDnRefIdeal.defs (F := Ideal)) (onTc (τ := Cert.MmOutDnRefIdeal.τ) (Cert.MmOutDnRefIdeal.main (F := Ideal))) ⟨m', fun _ => 0, g'⟩ (fun r => ∀ c : Dev Cert.MmOutDnRefIdeal.nD,
          r.2.mem ((c.tc : Thread Cert.MmOutDnRefIdeal.nD Cert.MmOutDnRefIdeal.τ).loc Cert.MmOutDnRefIdeal.main_v2) = v0 c
          ∧ r.2.mem ((c.tc : Thread Cert.MmOutDnRefIdeal.nD Cert.MmOutDnRefIdeal.τ).loc Cert.MmOutDnRefIdeal.main_arg0) = m' ((c.tc : Thread Cert.MmOutDnRefIdeal.nD Cert.MmOutDnRefIdeal.τ).loc Cert.MmOutDnRefIdeal.main_arg0)
          ∧ r.2.mem ((c.tc : Thread Cert.MmOutDnRefIdeal.nD Cert.MmOutDnRefIdeal.τ).loc Cert.MmOutDnRefIdeal.main_arg1) = m' ((c.tc : Thread Cert.MmOutDnRefIdeal.nD Cert.MmOutDnRefIdeal.τ).loc Cert.MmOutDnRefIdeal.main_arg1))

def preserves_MmOutAt_MmOutAtIdeal : Prop :=
  True

def algebraic_MmOutAtIdeal_MmOutAtRefIdeal [hMmOutAtIdeal : Cert.MmOutAtIdeal.Facts] [hMmOutAtRefIdeal : Cert.MmOutAtRefIdeal.Facts] : Prop :=
  ∀ (m : (ℓ : Loc Cert.MmOutAtIdeal.nD Cert.MmOutAtIdeal.τ Cert.MmOutAtIdeal.sig) → Buf (Elt Ideal) ℓ) (g : Dev Cert.MmOutAtIdeal.nD → PrngReg)
    (m' : (ℓ : Loc Cert.MmOutAtRefIdeal.nD Cert.MmOutAtRefIdeal.τ Cert.MmOutAtRefIdeal.sig) → Buf (Elt Ideal) ℓ) (g' : Dev Cert.MmOutAtRefIdeal.nD → PrngReg), Pre_MmOutAtIdeal m →
    (∀ c : Dev Cert.MmOutAtIdeal.nD,
      m' ((c.tc : Thread Cert.MmOutAtRefIdeal.nD Cert.MmOutAtRefIdeal.τ).loc Cert.MmOutAtRefIdeal.main_arg0) = m ((c.tc : Thread Cert.MmOutAtIdeal.nD Cert.MmOutAtIdeal.τ).loc Cert.MmOutAtIdeal.main_arg0)
      ∧ m' ((c.tc : Thread Cert.MmOutAtRefIdeal.nD Cert.MmOutAtRefIdeal.τ).loc Cert.MmOutAtRefIdeal.main_arg1) = m ((c.tc : Thread Cert.MmOutAtIdeal.nD Cert.MmOutAtIdeal.τ).loc Cert.MmOutAtIdeal.main_arg1)
      ∧ m' ((c.tc : Thread Cert.MmOutAtRefIdeal.nD Cert.MmOutAtRefIdeal.τ).loc Cert.MmOutAtRefIdeal.main_arg2) = m ((c.tc : Thread Cert.MmOutAtIdeal.nD Cert.MmOutAtIdeal.τ).loc Cert.MmOutAtIdeal.main_arg2)
      ∧ m' ((c.tc : Thread Cert.MmOutAtRefIdeal.nD Cert.MmOutAtRefIdeal.τ).loc Cert.MmOutAtRefIdeal.main_arg3) = m ((c.tc : Thread Cert.MmOutAtIdeal.nD Cert.MmOutAtIdeal.τ).loc Cert.MmOutAtIdeal.main_arg3)
      ∧ m' ((c.tc : Thread Cert.MmOutAtRefIdeal.nD Cert.MmOutAtRefIdeal.τ).loc Cert.MmOutAtRefIdeal.main_arg4) = m ((c.tc : Thread Cert.MmOutAtIdeal.nD Cert.MmOutAtIdeal.τ).loc Cert.MmOutAtIdeal.main_arg4)
      ∧ m' ((c.tc : Thread Cert.MmOutAtRefIdeal.nD Cert.MmOutAtRefIdeal.τ).loc Cert.MmOutAtRefIdeal.main_arg5) = m ((c.tc : Thread Cert.MmOutAtIdeal.nD Cert.MmOutAtIdeal.τ).loc Cert.MmOutAtIdeal.main_arg5)) →
    ∃ (v0 : (c : Dev Cert.MmOutAtIdeal.nD) → Buf (Elt Ideal) ((c.tc : Thread Cert.MmOutAtIdeal.nD Cert.MmOutAtIdeal.τ).loc Cert.MmOutAtIdeal.main_v0_0)) (v1 : (c : Dev Cert.MmOutAtIdeal.nD) → Buf (Elt Ideal) ((c.tc : Thread Cert.MmOutAtIdeal.nD Cert.MmOutAtIdeal.τ).loc Cert.MmOutAtIdeal.main_v0_1)),
      θ_run (Cert.MmOutAtIdeal.defs (F := Ideal)) (onTc (τ := Cert.MmOutAtIdeal.τ) (Cert.MmOutAtIdeal.main (F := Ideal))) ⟨m, fun _ => 0, g⟩ (fun r => ∀ c : Dev Cert.MmOutAtIdeal.nD,
          r.2.mem ((c.tc : Thread Cert.MmOutAtIdeal.nD Cert.MmOutAtIdeal.τ).loc Cert.MmOutAtIdeal.main_v0_0) = v0 c
          ∧ r.2.mem ((c.tc : Thread Cert.MmOutAtIdeal.nD Cert.MmOutAtIdeal.τ).loc Cert.MmOutAtIdeal.main_v0_1) = v1 c
          ∧ r.2.mem ((c.tc : Thread Cert.MmOutAtIdeal.nD Cert.MmOutAtIdeal.τ).loc Cert.MmOutAtIdeal.main_arg0) = m ((c.tc : Thread Cert.MmOutAtIdeal.nD Cert.MmOutAtIdeal.τ).loc Cert.MmOutAtIdeal.main_arg0)
          ∧ r.2.mem ((c.tc : Thread Cert.MmOutAtIdeal.nD Cert.MmOutAtIdeal.τ).loc Cert.MmOutAtIdeal.main_arg1) = m ((c.tc : Thread Cert.MmOutAtIdeal.nD Cert.MmOutAtIdeal.τ).loc Cert.MmOutAtIdeal.main_arg1)
          ∧ r.2.mem ((c.tc : Thread Cert.MmOutAtIdeal.nD Cert.MmOutAtIdeal.τ).loc Cert.MmOutAtIdeal.main_arg2) = m ((c.tc : Thread Cert.MmOutAtIdeal.nD Cert.MmOutAtIdeal.τ).loc Cert.MmOutAtIdeal.main_arg2)
          ∧ r.2.mem ((c.tc : Thread Cert.MmOutAtIdeal.nD Cert.MmOutAtIdeal.τ).loc Cert.MmOutAtIdeal.main_arg3) = m ((c.tc : Thread Cert.MmOutAtIdeal.nD Cert.MmOutAtIdeal.τ).loc Cert.MmOutAtIdeal.main_arg3)
          ∧ r.2.mem ((c.tc : Thread Cert.MmOutAtIdeal.nD Cert.MmOutAtIdeal.τ).loc Cert.MmOutAtIdeal.main_arg4) = m ((c.tc : Thread Cert.MmOutAtIdeal.nD Cert.MmOutAtIdeal.τ).loc Cert.MmOutAtIdeal.main_arg4)
          ∧ r.2.mem ((c.tc : Thread Cert.MmOutAtIdeal.nD Cert.MmOutAtIdeal.τ).loc Cert.MmOutAtIdeal.main_arg5) = m ((c.tc : Thread Cert.MmOutAtIdeal.nD Cert.MmOutAtIdeal.τ).loc Cert.MmOutAtIdeal.main_arg5))
      ∧ θ_run (Cert.MmOutAtRefIdeal.defs (F := Ideal)) (onTc (τ := Cert.MmOutAtRefIdeal.τ) (Cert.MmOutAtRefIdeal.main (F := Ideal))) ⟨m', fun _ => 0, g'⟩ (fun r => ∀ c : Dev Cert.MmOutAtRefIdeal.nD,
          r.2.mem ((c.tc : Thread Cert.MmOutAtRefIdeal.nD Cert.MmOutAtRefIdeal.τ).loc Cert.MmOutAtRefIdeal.main_v7) = v0 c
          ∧ r.2.mem ((c.tc : Thread Cert.MmOutAtRefIdeal.nD Cert.MmOutAtRefIdeal.τ).loc Cert.MmOutAtRefIdeal.main_v8) = v1 c
          ∧ r.2.mem ((c.tc : Thread Cert.MmOutAtRefIdeal.nD Cert.MmOutAtRefIdeal.τ).loc Cert.MmOutAtRefIdeal.main_arg0) = m' ((c.tc : Thread Cert.MmOutAtRefIdeal.nD Cert.MmOutAtRefIdeal.τ).loc Cert.MmOutAtRefIdeal.main_arg0)
          ∧ r.2.mem ((c.tc : Thread Cert.MmOutAtRefIdeal.nD Cert.MmOutAtRefIdeal.τ).loc Cert.MmOutAtRefIdeal.main_arg1) = m' ((c.tc : Thread Cert.MmOutAtRefIdeal.nD Cert.MmOutAtRefIdeal.τ).loc Cert.MmOutAtRefIdeal.main_arg1)
          ∧ r.2.mem ((c.tc : Thread Cert.MmOutAtRefIdeal.nD Cert.MmOutAtRefIdeal.τ).loc Cert.MmOutAtRefIdeal.main_arg2) = m' ((c.tc : Thread Cert.MmOutAtRefIdeal.nD Cert.MmOutAtRefIdeal.τ).loc Cert.MmOutAtRefIdeal.main_arg2)
          ∧ r.2.mem ((c.tc : Thread Cert.MmOutAtRefIdeal.nD Cert.MmOutAtRefIdeal.τ).loc Cert.MmOutAtRefIdeal.main_arg3) = m' ((c.tc : Thread Cert.MmOutAtRefIdeal.nD Cert.MmOutAtRefIdeal.τ).loc Cert.MmOutAtRefIdeal.main_arg3)
          ∧ r.2.mem ((c.tc : Thread Cert.MmOutAtRefIdeal.nD Cert.MmOutAtRefIdeal.τ).loc Cert.MmOutAtRefIdeal.main_arg4) = m' ((c.tc : Thread Cert.MmOutAtRefIdeal.nD Cert.MmOutAtRefIdeal.τ).loc Cert.MmOutAtRefIdeal.main_arg4)
          ∧ r.2.mem ((c.tc : Thread Cert.MmOutAtRefIdeal.nD Cert.MmOutAtRefIdeal.τ).loc Cert.MmOutAtRefIdeal.main_arg5) = m' ((c.tc : Thread Cert.MmOutAtRefIdeal.nD Cert.MmOutAtRefIdeal.τ).loc Cert.MmOutAtRefIdeal.main_arg5))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)
      ∧ m' ((c.tc : Thread Cert.MmDownRefIdeal.nD Cert.MmDownRefIdeal.τ).loc Cert.MmDownRefIdeal.main_arg3) = m ((c.tc : Thread Cert.MmDownIdeal.nD Cert.MmDownIdeal.τ).loc Cert.MmDownIdeal.main_arg3)
      ∧ m' ((c.tc : Thread Cert.MmDownRefIdeal.nD Cert.MmDownRefIdeal.τ).loc Cert.MmDownRefIdeal.main_arg4) = m ((c.tc : Thread Cert.MmDownIdeal.nD Cert.MmDownIdeal.τ).loc Cert.MmDownIdeal.main_arg4)) →
    ∃ (v0 : (c : Dev Cert.MmDownIdeal.nD) → Buf (Elt Ideal) ((c.tc : Thread Cert.MmDownIdeal.nD Cert.MmDownIdeal.τ).loc Cert.MmDownIdeal.main_v0_0)) (v1 : (c : Dev Cert.MmDownIdeal.nD) → Buf (Elt Ideal) ((c.tc : Thread Cert.MmDownIdeal.nD Cert.MmDownIdeal.τ).loc Cert.MmDownIdeal.main_v0_1)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0_0) = v0 c
          ∧ r.2.mem ((c.tc : Thread Cert.MmDownIdeal.nD Cert.MmDownIdeal.τ).loc Cert.MmDownIdeal.main_v0_1) = v1 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
          ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
          ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v6) = v0 c
          ∧ r.2.mem ((c.tc : Thread Cert.MmDownRefIdeal.nD Cert.MmDownRefIdeal.τ).loc Cert.MmDownRefIdeal.main_v7) = v1 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2)
          ∧ r.2.mem ((c.tc : Thread Cert.MmDownRefIdeal.nD Cert.MmDownRefIdeal.τ).loc Cert.MmDownRefIdeal.main_arg3) = m' ((c.tc : Thread Cert.MmDownRefIdeal.nD Cert.MmDownRefIdeal.τ).loc Cert.MmDownRefIdeal.main_arg3)
          ∧ r.2.mem ((c.tc : Thread Cert.MmDownRefIdeal.nD Cert.MmDownRefIdeal.τ).loc Cert.MmDownRefIdeal.main_arg4) = m' ((c.tc : Thread Cert.MmDownRefIdeal.nD Cert.MmDownRefIdeal.τ).loc Cert.MmDownRefIdeal.main_arg4))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_NormmodBwd_NormmodBwdIdeal : Prop :=
  True

def algebraic_NormmodBwdIdeal_NormmodBwdRefIdeal [hNormmodBwdIdeal : Cert.NormmodBwdIdeal.Facts] [hNormmodBwdRefIdeal : Cert.NormmodBwdRefIdeal.Facts] : Prop :=
  ∀ (m : (ℓ : Loc Cert.NormmodBwdIdeal.nD Cert.NormmodBwdIdeal.τ Cert.NormmodBwdIdeal.sig) → Buf (Elt Ideal) ℓ) (g : Dev Cert.NormmodBwdIdeal.nD → PrngReg)
    (m' : (ℓ : Loc Cert.NormmodBwdRefIdeal.nD Cert.NormmodBwdRefIdeal.τ Cert.NormmodBwdRefIdeal.sig) → Buf (Elt Ideal) ℓ) (g' : Dev Cert.NormmodBwdRefIdeal.nD → PrngReg), Pre_NormmodBwdIdeal m →
    (∀ c : Dev Cert.NormmodBwdIdeal.nD,
      m' ((c.tc : Thread Cert.NormmodBwdRefIdeal.nD Cert.NormmodBwdRefIdeal.τ).loc Cert.NormmodBwdRefIdeal.main_arg0) = m ((c.tc : Thread Cert.NormmodBwdIdeal.nD Cert.NormmodBwdIdeal.τ).loc Cert.NormmodBwdIdeal.main_arg0)
      ∧ m' ((c.tc : Thread Cert.NormmodBwdRefIdeal.nD Cert.NormmodBwdRefIdeal.τ).loc Cert.NormmodBwdRefIdeal.main_arg1) = m ((c.tc : Thread Cert.NormmodBwdIdeal.nD Cert.NormmodBwdIdeal.τ).loc Cert.NormmodBwdIdeal.main_arg1)
      ∧ m' ((c.tc : Thread Cert.NormmodBwdRefIdeal.nD Cert.NormmodBwdRefIdeal.τ).loc Cert.NormmodBwdRefIdeal.main_arg2) = m ((c.tc : Thread Cert.NormmodBwdIdeal.nD Cert.NormmodBwdIdeal.τ).loc Cert.NormmodBwdIdeal.main_arg2)
      ∧ m' ((c.tc : Thread Cert.NormmodBwdRefIdeal.nD Cert.NormmodBwdRefIdeal.τ).loc Cert.NormmodBwdRefIdeal.main_arg3) = m ((c.tc : Thread Cert.NormmodBwdIdeal.nD Cert.NormmodBwdIdeal.τ).loc Cert.NormmodBwdIdeal.main_arg3)
      ∧ m' ((c.tc : Thread Cert.NormmodBwdRefIdeal.nD Cert.NormmodBwdRefIdeal.τ).loc Cert.NormmodBwdRefIdeal.main_arg4) = m ((c.tc : Thread Cert.NormmodBwdIdeal.nD Cert.NormmodBwdIdeal.τ).loc Cert.NormmodBwdIdeal.main_arg4)
      ∧ m' ((c.tc : Thread Cert.NormmodBwdRefIdeal.nD Cert.NormmodBwdRefIdeal.τ).loc Cert.NormmodBwdRefIdeal.main_arg5) = m ((c.tc : Thread Cert.NormmodBwdIdeal.nD Cert.NormmodBwdIdeal.τ).loc Cert.NormmodBwdIdeal.main_arg5)
      ∧ m' ((c.tc : Thread Cert.NormmodBwdRefIdeal.nD Cert.NormmodBwdRefIdeal.τ).loc Cert.NormmodBwdRefIdeal.main_arg6) = m ((c.tc : Thread Cert.NormmodBwdIdeal.nD Cert.NormmodBwdIdeal.τ).loc Cert.NormmodBwdIdeal.main_arg6)
      ∧ m' ((c.tc : Thread Cert.NormmodBwdRefIdeal.nD Cert.NormmodBwdRefIdeal.τ).loc Cert.NormmodBwdRefIdeal.main_arg7) = m ((c.tc : Thread Cert.NormmodBwdIdeal.nD Cert.NormmodBwdIdeal.τ).loc Cert.NormmodBwdIdeal.main_arg7)) →
    ∃ (v0 : (c : Dev Cert.NormmodBwdIdeal.nD) → Buf (Elt Ideal) ((c.tc : Thread Cert.NormmodBwdIdeal.nD Cert.NormmodBwdIdeal.τ).loc Cert.NormmodBwdIdeal.main_v0_0)) (v1 : (c : Dev Cert.NormmodBwdIdeal.nD) → Buf (Elt Ideal) ((c.tc : Thread Cert.NormmodBwdIdeal.nD Cert.NormmodBwdIdeal.τ).loc Cert.NormmodBwdIdeal.main_v0_1)) (v2 : (c : Dev Cert.NormmodBwdIdeal.nD) → Buf (Elt Ideal) ((c.tc : Thread Cert.NormmodBwdIdeal.nD Cert.NormmodBwdIdeal.τ).loc Cert.NormmodBwdIdeal.main_v0_2)) (v3 : (c : Dev Cert.NormmodBwdIdeal.nD) → Buf (Elt Ideal) ((c.tc : Thread Cert.NormmodBwdIdeal.nD Cert.NormmodBwdIdeal.τ).loc Cert.NormmodBwdIdeal.main_v0_3)),
      θ_run (Cert.NormmodBwdIdeal.defs (F := Ideal)) (onTc (τ := Cert.NormmodBwdIdeal.τ) (Cert.NormmodBwdIdeal.main (F := Ideal))) ⟨m, fun _ => 0, g⟩ (fun r => ∀ c : Dev Cert.NormmodBwdIdeal.nD,
          r.2.mem ((c.tc : Thread Cert.NormmodBwdIdeal.nD Cert.NormmodBwdIdeal.τ).loc Cert.NormmodBwdIdeal.main_v0_0) = v0 c
          ∧ r.2.mem ((c.tc : Thread Cert.NormmodBwdIdeal.nD Cert.NormmodBwdIdeal.τ).loc Cert.NormmodBwdIdeal.main_v0_1) = v1 c
          ∧ r.2.mem ((c.tc : Thread Cert.NormmodBwdIdeal.nD Cert.NormmodBwdIdeal.τ).loc Cert.NormmodBwdIdeal.main_v0_2) = v2 c
          ∧ r.2.mem ((c.tc : Thread Cert.NormmodBwdIdeal.nD Cert.NormmodBwdIdeal.τ).loc Cert.NormmodBwdIdeal.main_v0_3) = v3 c
          ∧ r.2.mem ((c.tc : Thread Cert.NormmodBwdIdeal.nD Cert.NormmodBwdIdeal.τ).loc Cert.NormmodBwdIdeal.main_arg0) = m ((c.tc : Thread Cert.NormmodBwdIdeal.nD Cert.NormmodBwdIdeal.τ).loc Cert.NormmodBwdIdeal.main_arg0)
          ∧ r.2.mem ((c.tc : Thread Cert.NormmodBwdIdeal.nD Cert.NormmodBwdIdeal.τ).loc Cert.NormmodBwdIdeal.main_arg1) = m ((c.tc : Thread Cert.NormmodBwdIdeal.nD Cert.NormmodBwdIdeal.τ).loc Cert.NormmodBwdIdeal.main_arg1)
          ∧ r.2.mem ((c.tc : Thread Cert.NormmodBwdIdeal.nD Cert.NormmodBwdIdeal.τ).loc Cert.NormmodBwdIdeal.main_arg2) = m ((c.tc : Thread Cert.NormmodBwdIdeal.nD Cert.NormmodBwdIdeal.τ).loc Cert.NormmodBwdIdeal.main_arg2)
          ∧ r.2.mem ((c.tc : Thread Cert.NormmodBwdIdeal.nD Cert.NormmodBwdIdeal.τ).loc Cert.NormmodBwdIdeal.main_arg3) = m ((c.tc : Thread Cert.NormmodBwdIdeal.nD Cert.NormmodBwdIdeal.τ).loc Cert.NormmodBwdIdeal.main_arg3)
          ∧ r.2.mem ((c.tc : Thread Cert.NormmodBwdIdeal.nD Cert.NormmodBwdIdeal.τ).loc Cert.NormmodBwdIdeal.main_arg4) = m ((c.tc : Thread Cert.NormmodBwdIdeal.nD Cert.NormmodBwdIdeal.τ).loc Cert.NormmodBwdIdeal.main_arg4)
          ∧ r.2.mem ((c.tc : Thread Cert.NormmodBwdIdeal.nD Cert.NormmodBwdIdeal.τ).loc Cert.NormmodBwdIdeal.main_arg5) = m ((c.tc : Thread Cert.NormmodBwdIdeal.nD Cert.NormmodBwdIdeal.τ).loc Cert.NormmodBwdIdeal.main_arg5)
          ∧ r.2.mem ((c.tc : Thread Cert.NormmodBwdIdeal.nD Cert.NormmodBwdIdeal.τ).loc Cert.NormmodBwdIdeal.main_arg6) = m ((c.tc : Thread Cert.NormmodBwdIdeal.nD Cert.NormmodBwdIdeal.τ).loc Cert.NormmodBwdIdeal.main_arg6)
          ∧ r.2.mem ((c.tc : Thread Cert.NormmodBwdIdeal.nD Cert.NormmodBwdIdeal.τ).loc Cert.NormmodBwdIdeal.main_arg7) = m ((c.tc : Thread Cert.NormmodBwdIdeal.nD Cert.NormmodBwdIdeal.τ).loc Cert.NormmodBwdIdeal.main_arg7))
      ∧ θ_run (Cert.NormmodBwdRefIdeal.defs (F := Ideal)) (onTc (τ := Cert.NormmodBwdRefIdeal.τ) (Cert.NormmodBwdRefIdeal.main (F := Ideal))) ⟨m', fun _ => 0, g'⟩ (fun r => ∀ c : Dev Cert.NormmodBwdRefIdeal.nD,
          r.2.mem ((c.tc : Thread Cert.NormmodBwdRefIdeal.nD Cert.NormmodBwdRefIdeal.τ).loc Cert.NormmodBwdRefIdeal.main_v50) = v0 c
          ∧ r.2.mem ((c.tc : Thread Cert.NormmodBwdRefIdeal.nD Cert.NormmodBwdRefIdeal.τ).loc Cert.NormmodBwdRefIdeal.main_v33) = v1 c
          ∧ r.2.mem ((c.tc : Thread Cert.NormmodBwdRefIdeal.nD Cert.NormmodBwdRefIdeal.τ).loc Cert.NormmodBwdRefIdeal.main_v28) = v2 c
          ∧ r.2.mem ((c.tc : Thread Cert.NormmodBwdRefIdeal.nD Cert.NormmodBwdRefIdeal.τ).loc Cert.NormmodBwdRefIdeal.main_v25) = v3 c
          ∧ r.2.mem ((c.tc : Thread Cert.NormmodBwdRefIdeal.nD Cert.NormmodBwdRefIdeal.τ).loc Cert.NormmodBwdRefIdeal.main_arg0) = m' ((c.tc : Thread Cert.NormmodBwdRefIdeal.nD Cert.NormmodBwdRefIdeal.τ).loc Cert.NormmodBwdRefIdeal.main_arg0)
          ∧ r.2.mem ((c.tc : Thread Cert.NormmodBwdRefIdeal.nD Cert.NormmodBwdRefIdeal.τ).loc Cert.NormmodBwdRefIdeal.main_arg1) = m' ((c.tc : Thread Cert.NormmodBwdRefIdeal.nD Cert.NormmodBwdRefIdeal.τ).loc Cert.NormmodBwdRefIdeal.main_arg1)
          ∧ r.2.mem ((c.tc : Thread Cert.NormmodBwdRefIdeal.nD Cert.NormmodBwdRefIdeal.τ).loc Cert.NormmodBwdRefIdeal.main_arg2) = m' ((c.tc : Thread Cert.NormmodBwdRefIdeal.nD Cert.NormmodBwdRefIdeal.τ).loc Cert.NormmodBwdRefIdeal.main_arg2)
          ∧ r.2.mem ((c.tc : Thread Cert.NormmodBwdRefIdeal.nD Cert.NormmodBwdRefIdeal.τ).loc Cert.NormmodBwdRefIdeal.main_arg3) = m' ((c.tc : Thread Cert.NormmodBwdRefIdeal.nD Cert.NormmodBwdRefIdeal.τ).loc Cert.NormmodBwdRefIdeal.main_arg3)
          ∧ r.2.mem ((c.tc : Thread Cert.NormmodBwdRefIdeal.nD Cert.NormmodBwdRefIdeal.τ).loc Cert.NormmodBwdRefIdeal.main_arg4) = m' ((c.tc : Thread Cert.NormmodBwdRefIdeal.nD Cert.NormmodBwdRefIdeal.τ).loc Cert.NormmodBwdRefIdeal.main_arg4)
          ∧ r.2.mem ((c.tc : Thread Cert.NormmodBwdRefIdeal.nD Cert.NormmodBwdRefIdeal.τ).loc Cert.NormmodBwdRefIdeal.main_arg5) = m' ((c.tc : Thread Cert.NormmodBwdRefIdeal.nD Cert.NormmodBwdRefIdeal.τ).loc Cert.NormmodBwdRefIdeal.main_arg5)
          ∧ r.2.mem ((c.tc : Thread Cert.NormmodBwdRefIdeal.nD Cert.NormmodBwdRefIdeal.τ).loc Cert.NormmodBwdRefIdeal.main_arg6) = m' ((c.tc : Thread Cert.NormmodBwdRefIdeal.nD Cert.NormmodBwdRefIdeal.τ).loc Cert.NormmodBwdRefIdeal.main_arg6)
          ∧ r.2.mem ((c.tc : Thread Cert.NormmodBwdRefIdeal.nD Cert.NormmodBwdRefIdeal.τ).loc Cert.NormmodBwdRefIdeal.main_arg7) = m' ((c.tc : Thread Cert.NormmodBwdRefIdeal.nD Cert.NormmodBwdRefIdeal.τ).loc Cert.NormmodBwdRefIdeal.main_arg7))

def preserves_Normmod_NormmodIdeal : Prop :=
  True

def algebraic_NormmodIdeal_NormmodRefIdeal [hNormmodIdeal : Cert.NormmodIdeal.Facts] [hNormmodRefIdeal : Cert.NormmodRefIdeal.Facts] : Prop :=
  ∀ (m : (ℓ : Loc Cert.NormmodIdeal.nD Cert.NormmodIdeal.τ Cert.NormmodIdeal.sig) → Buf (Elt Ideal) ℓ) (g : Dev Cert.NormmodIdeal.nD → PrngReg)
    (m' : (ℓ : Loc Cert.NormmodRefIdeal.nD Cert.NormmodRefIdeal.τ Cert.NormmodRefIdeal.sig) → Buf (Elt Ideal) ℓ) (g' : Dev Cert.NormmodRefIdeal.nD → PrngReg), Pre_NormmodIdeal m →
    (∀ c : Dev Cert.NormmodIdeal.nD,
      m' ((c.tc : Thread Cert.NormmodRefIdeal.nD Cert.NormmodRefIdeal.τ).loc Cert.NormmodRefIdeal.main_arg0) = m ((c.tc : Thread Cert.NormmodIdeal.nD Cert.NormmodIdeal.τ).loc Cert.NormmodIdeal.main_arg0)
      ∧ m' ((c.tc : Thread Cert.NormmodRefIdeal.nD Cert.NormmodRefIdeal.τ).loc Cert.NormmodRefIdeal.main_arg1) = m ((c.tc : Thread Cert.NormmodIdeal.nD Cert.NormmodIdeal.τ).loc Cert.NormmodIdeal.main_arg1)
      ∧ m' ((c.tc : Thread Cert.NormmodRefIdeal.nD Cert.NormmodRefIdeal.τ).loc Cert.NormmodRefIdeal.main_arg2) = m ((c.tc : Thread Cert.NormmodIdeal.nD Cert.NormmodIdeal.τ).loc Cert.NormmodIdeal.main_arg2)
      ∧ m' ((c.tc : Thread Cert.NormmodRefIdeal.nD Cert.NormmodRefIdeal.τ).loc Cert.NormmodRefIdeal.main_arg3) = m ((c.tc : Thread Cert.NormmodIdeal.nD Cert.NormmodIdeal.τ).loc Cert.NormmodIdeal.main_arg3)
      ∧ m' ((c.tc : Thread Cert.NormmodRefIdeal.nD Cert.NormmodRefIdeal.τ).loc Cert.NormmodRefIdeal.main_arg4) = m ((c.tc : Thread Cert.NormmodIdeal.nD Cert.NormmodIdeal.τ).loc Cert.NormmodIdeal.main_arg4)
      ∧ m' ((c.tc : Thread Cert.NormmodRefIdeal.nD Cert.NormmodRefIdeal.τ).loc Cert.NormmodRefIdeal.main_arg5) = m ((c.tc : Thread Cert.NormmodIdeal.nD Cert.NormmodIdeal.τ).loc Cert.NormmodIdeal.main_arg5)) →
    ∃ (v0 : (c : Dev Cert.NormmodIdeal.nD) → Buf (Elt Ideal) ((c.tc : Thread Cert.NormmodIdeal.nD Cert.NormmodIdeal.τ).loc Cert.NormmodIdeal.main_v0)),
      θ_run (Cert.NormmodIdeal.defs (F := Ideal)) (onTc (τ := Cert.NormmodIdeal.τ) (Cert.NormmodIdeal.main (F := Ideal))) ⟨m, fun _ => 0, g⟩ (fun r => ∀ c : Dev Cert.NormmodIdeal.nD,
          r.2.mem ((c.tc : Thread Cert.NormmodIdeal.nD Cert.NormmodIdeal.τ).loc Cert.NormmodIdeal.main_v0) = v0 c
          ∧ r.2.mem ((c.tc : Thread Cert.NormmodIdeal.nD Cert.NormmodIdeal.τ).loc Cert.NormmodIdeal.main_arg0) = m ((c.tc : Thread Cert.NormmodIdeal.nD Cert.NormmodIdeal.τ).loc Cert.NormmodIdeal.main_arg0)
          ∧ r.2.mem ((c.tc : Thread Cert.NormmodIdeal.nD Cert.NormmodIdeal.τ).loc Cert.NormmodIdeal.main_arg1) = m ((c.tc : Thread Cert.NormmodIdeal.nD Cert.NormmodIdeal.τ).loc Cert.NormmodIdeal.main_arg1)
          ∧ r.2.mem ((c.tc : Thread Cert.NormmodIdeal.nD Cert.NormmodIdeal.τ).loc Cert.NormmodIdeal.main_arg2) = m ((c.tc : Thread Cert.NormmodIdeal.nD Cert.NormmodIdeal.τ).loc Cert.NormmodIdeal.main_arg2)
          ∧ r.2.mem ((c.tc : Thread Cert.NormmodIdeal.nD Cert.NormmodIdeal.τ).loc Cert.NormmodIdeal.main_arg3) = m ((c.tc : Thread Cert.NormmodIdeal.nD Cert.NormmodIdeal.τ).loc Cert.NormmodIdeal.main_arg3)
          ∧ r.2.mem ((c.tc : Thread Cert.NormmodIdeal.nD Cert.NormmodIdeal.τ).loc Cert.NormmodIdeal.main_arg4) = m ((c.tc : Thread Cert.NormmodIdeal.nD Cert.NormmodIdeal.τ).loc Cert.NormmodIdeal.main_arg4)
          ∧ r.2.mem ((c.tc : Thread Cert.NormmodIdeal.nD Cert.NormmodIdeal.τ).loc Cert.NormmodIdeal.main_arg5) = m ((c.tc : Thread Cert.NormmodIdeal.nD Cert.NormmodIdeal.τ).loc Cert.NormmodIdeal.main_arg5))
      ∧ θ_run (Cert.NormmodRefIdeal.defs (F := Ideal)) (onTc (τ := Cert.NormmodRefIdeal.τ) (Cert.NormmodRefIdeal.main (F := Ideal))) ⟨m', fun _ => 0, g'⟩ (fun r => ∀ c : Dev Cert.NormmodRefIdeal.nD,
          r.2.mem ((c.tc : Thread Cert.NormmodRefIdeal.nD Cert.NormmodRefIdeal.τ).loc Cert.NormmodRefIdeal.main_v20) = v0 c
          ∧ r.2.mem ((c.tc : Thread Cert.NormmodRefIdeal.nD Cert.NormmodRefIdeal.τ).loc Cert.NormmodRefIdeal.main_arg0) = m' ((c.tc : Thread Cert.NormmodRefIdeal.nD Cert.NormmodRefIdeal.τ).loc Cert.NormmodRefIdeal.main_arg0)
          ∧ r.2.mem ((c.tc : Thread Cert.NormmodRefIdeal.nD Cert.NormmodRefIdeal.τ).loc Cert.NormmodRefIdeal.main_arg1) = m' ((c.tc : Thread Cert.NormmodRefIdeal.nD Cert.NormmodRefIdeal.τ).loc Cert.NormmodRefIdeal.main_arg1)
          ∧ r.2.mem ((c.tc : Thread Cert.NormmodRefIdeal.nD Cert.NormmodRefIdeal.τ).loc Cert.NormmodRefIdeal.main_arg2) = m' ((c.tc : Thread Cert.NormmodRefIdeal.nD Cert.NormmodRefIdeal.τ).loc Cert.NormmodRefIdeal.main_arg2)
          ∧ r.2.mem ((c.tc : Thread Cert.NormmodRefIdeal.nD Cert.NormmodRefIdeal.τ).loc Cert.NormmodRefIdeal.main_arg3) = m' ((c.tc : Thread Cert.NormmodRefIdeal.nD Cert.NormmodRefIdeal.τ).loc Cert.NormmodRefIdeal.main_arg3)
          ∧ r.2.mem ((c.tc : Thread Cert.NormmodRefIdeal.nD Cert.NormmodRefIdeal.τ).loc Cert.NormmodRefIdeal.main_arg4) = m' ((c.tc : Thread Cert.NormmodRefIdeal.nD Cert.NormmodRefIdeal.τ).loc Cert.NormmodRefIdeal.main_arg4)
          ∧ r.2.mem ((c.tc : Thread Cert.NormmodRefIdeal.nD Cert.NormmodRefIdeal.τ).loc Cert.NormmodRefIdeal.main_arg5) = m' ((c.tc : Thread Cert.NormmodRefIdeal.nD Cert.NormmodRefIdeal.τ).loc Cert.NormmodRefIdeal.main_arg5))

def preserves_Dnpost_DnpostIdeal : Prop :=
  True

def algebraic_DnpostIdeal_DnpostRefIdeal [hDnpostIdeal : Cert.DnpostIdeal.Facts] [hDnpostRefIdeal : Cert.DnpostRefIdeal.Facts] : Prop :=
  ∀ (m : (ℓ : Loc Cert.DnpostIdeal.nD Cert.DnpostIdeal.τ Cert.DnpostIdeal.sig) → Buf (Elt Ideal) ℓ) (g : Dev Cert.DnpostIdeal.nD → PrngReg)
    (m' : (ℓ : Loc Cert.DnpostRefIdeal.nD Cert.DnpostRefIdeal.τ Cert.DnpostRefIdeal.sig) → Buf (Elt Ideal) ℓ) (g' : Dev Cert.DnpostRefIdeal.nD → PrngReg), Pre_DnpostIdeal m →
    (∀ c : Dev Cert.DnpostIdeal.nD,
      m' ((c.tc : Thread Cert.DnpostRefIdeal.nD Cert.DnpostRefIdeal.τ).loc Cert.DnpostRefIdeal.main_arg0) = m ((c.tc : Thread Cert.DnpostIdeal.nD Cert.DnpostIdeal.τ).loc Cert.DnpostIdeal.main_arg0)
      ∧ m' ((c.tc : Thread Cert.DnpostRefIdeal.nD Cert.DnpostRefIdeal.τ).loc Cert.DnpostRefIdeal.main_arg1) = m ((c.tc : Thread Cert.DnpostIdeal.nD Cert.DnpostIdeal.τ).loc Cert.DnpostIdeal.main_arg1)
      ∧ m' ((c.tc : Thread Cert.DnpostRefIdeal.nD Cert.DnpostRefIdeal.τ).loc Cert.DnpostRefIdeal.main_arg2) = m ((c.tc : Thread Cert.DnpostIdeal.nD Cert.DnpostIdeal.τ).loc Cert.DnpostIdeal.main_arg2)) →
    ∃ (v0 : (c : Dev Cert.DnpostIdeal.nD) → Buf (Elt Ideal) ((c.tc : Thread Cert.DnpostIdeal.nD Cert.DnpostIdeal.τ).loc Cert.DnpostIdeal.main_v0)),
      θ_run (Cert.DnpostIdeal.defs (F := Ideal)) (onTc (τ := Cert.DnpostIdeal.τ) (Cert.DnpostIdeal.main (F := Ideal))) ⟨m, fun _ => 0, g⟩ (fun r => ∀ c : Dev Cert.DnpostIdeal.nD,
          r.2.mem ((c.tc : Thread Cert.DnpostIdeal.nD Cert.DnpostIdeal.τ).loc Cert.DnpostIdeal.main_v0) = v0 c
          ∧ r.2.mem ((c.tc : Thread Cert.DnpostIdeal.nD Cert.DnpostIdeal.τ).loc Cert.DnpostIdeal.main_arg0) = m ((c.tc : Thread Cert.DnpostIdeal.nD Cert.DnpostIdeal.τ).loc Cert.DnpostIdeal.main_arg0)
          ∧ r.2.mem ((c.tc : Thread Cert.DnpostIdeal.nD Cert.DnpostIdeal.τ).loc Cert.DnpostIdeal.main_arg1) = m ((c.tc : Thread Cert.DnpostIdeal.nD Cert.DnpostIdeal.τ).loc Cert.DnpostIdeal.main_arg1)
          ∧ r.2.mem ((c.tc : Thread Cert.DnpostIdeal.nD Cert.DnpostIdeal.τ).loc Cert.DnpostIdeal.main_arg2) = m ((c.tc : Thread Cert.DnpostIdeal.nD Cert.DnpostIdeal.τ).loc Cert.DnpostIdeal.main_arg2))
      ∧ θ_run (Cert.DnpostRefIdeal.defs (F := Ideal)) (onTc (τ := Cert.DnpostRefIdeal.τ) (Cert.DnpostRefIdeal.main (F := Ideal))) ⟨m', fun _ => 0, g'⟩ (fun r => ∀ c : Dev Cert.DnpostRefIdeal.nD,
          r.2.mem ((c.tc : Thread Cert.DnpostRefIdeal.nD Cert.DnpostRefIdeal.τ).loc Cert.DnpostRefIdeal.main_v19) = v0 c
          ∧ r.2.mem ((c.tc : Thread Cert.DnpostRefIdeal.nD Cert.DnpostRefIdeal.τ).loc Cert.DnpostRefIdeal.main_arg0) = m' ((c.tc : Thread Cert.DnpostRefIdeal.nD Cert.DnpostRefIdeal.τ).loc Cert.DnpostRefIdeal.main_arg0)
          ∧ r.2.mem ((c.tc : Thread Cert.DnpostRefIdeal.nD Cert.DnpostRefIdeal.τ).loc Cert.DnpostRefIdeal.main_arg1) = m' ((c.tc : Thread Cert.DnpostRefIdeal.nD Cert.DnpostRefIdeal.τ).loc Cert.DnpostRefIdeal.main_arg1)
          ∧ r.2.mem ((c.tc : Thread Cert.DnpostRefIdeal.nD Cert.DnpostRefIdeal.τ).loc Cert.DnpostRefIdeal.main_arg2) = m' ((c.tc : Thread Cert.DnpostRefIdeal.nD Cert.DnpostRefIdeal.τ).loc Cert.DnpostRefIdeal.main_arg2))

def preserves_DnpostBwd_DnpostBwdIdeal : Prop :=
  True

def algebraic_DnpostBwdIdeal_DnpostBwdRefIdeal [hDnpostBwdIdeal : Cert.DnpostBwdIdeal.Facts] [hDnpostBwdRefIdeal : Cert.DnpostBwdRefIdeal.Facts] : Prop :=
  ∀ (m : (ℓ : Loc Cert.DnpostBwdIdeal.nD Cert.DnpostBwdIdeal.τ Cert.DnpostBwdIdeal.sig) → Buf (Elt Ideal) ℓ) (g : Dev Cert.DnpostBwdIdeal.nD → PrngReg)
    (m' : (ℓ : Loc Cert.DnpostBwdRefIdeal.nD Cert.DnpostBwdRefIdeal.τ Cert.DnpostBwdRefIdeal.sig) → Buf (Elt Ideal) ℓ) (g' : Dev Cert.DnpostBwdRefIdeal.nD → PrngReg), Pre_DnpostBwdIdeal m →
    (∀ c : Dev Cert.DnpostBwdIdeal.nD,
      m' ((c.tc : Thread Cert.DnpostBwdRefIdeal.nD Cert.DnpostBwdRefIdeal.τ).loc Cert.DnpostBwdRefIdeal.main_arg0) = m ((c.tc : Thread Cert.DnpostBwdIdeal.nD Cert.DnpostBwdIdeal.τ).loc Cert.DnpostBwdIdeal.main_arg0)
      ∧ m' ((c.tc : Thread Cert.DnpostBwdRefIdeal.nD Cert.DnpostBwdRefIdeal.τ).loc Cert.DnpostBwdRefIdeal.main_arg1) = m ((c.tc : Thread Cert.DnpostBwdIdeal.nD Cert.DnpostBwdIdeal.τ).loc Cert.DnpostBwdIdeal.main_arg1)
      ∧ m' ((c.tc : Thread Cert.DnpostBwdRefIdeal.nD Cert.DnpostBwdRefIdeal.τ).loc Cert.DnpostBwdRefIdeal.main_arg2) = m ((c.tc : Thread Cert.DnpostBwdIdeal.nD Cert.DnpostBwdIdeal.τ).loc Cert.DnpostBwdIdeal.main_arg2)
      ∧ m' ((c.tc : Thread Cert.DnpostBwdRefIdeal.nD Cert.DnpostBwdRefIdeal.τ).loc Cert.DnpostBwdRefIdeal.main_arg3) = m ((c.tc : Thread Cert.DnpostBwdIdeal.nD Cert.DnpostBwdIdeal.τ).loc Cert.DnpostBwdIdeal.main_arg3)) →
    ∃ (v0 : (c : Dev Cert.DnpostBwdIdeal.nD) → Buf (Elt Ideal) ((c.tc : Thread Cert.DnpostBwdIdeal.nD Cert.DnpostBwdIdeal.τ).loc Cert.DnpostBwdIdeal.main_v0_0)) (v1 : (c : Dev Cert.DnpostBwdIdeal.nD) → Buf (Elt Ideal) ((c.tc : Thread Cert.DnpostBwdIdeal.nD Cert.DnpostBwdIdeal.τ).loc Cert.DnpostBwdIdeal.main_v0_1)) (v2 : (c : Dev Cert.DnpostBwdIdeal.nD) → Buf (Elt Ideal) ((c.tc : Thread Cert.DnpostBwdIdeal.nD Cert.DnpostBwdIdeal.τ).loc Cert.DnpostBwdIdeal.main_v0_2)),
      θ_run (Cert.DnpostBwdIdeal.defs (F := Ideal)) (onTc (τ := Cert.DnpostBwdIdeal.τ) (Cert.DnpostBwdIdeal.main (F := Ideal))) ⟨m, fun _ => 0, g⟩ (fun r => ∀ c : Dev Cert.DnpostBwdIdeal.nD,
          r.2.mem ((c.tc : Thread Cert.DnpostBwdIdeal.nD Cert.DnpostBwdIdeal.τ).loc Cert.DnpostBwdIdeal.main_v0_0) = v0 c
          ∧ r.2.mem ((c.tc : Thread Cert.DnpostBwdIdeal.nD Cert.DnpostBwdIdeal.τ).loc Cert.DnpostBwdIdeal.main_v0_1) = v1 c
          ∧ r.2.mem ((c.tc : Thread Cert.DnpostBwdIdeal.nD Cert.DnpostBwdIdeal.τ).loc Cert.DnpostBwdIdeal.main_v0_2) = v2 c
          ∧ r.2.mem ((c.tc : Thread Cert.DnpostBwdIdeal.nD Cert.DnpostBwdIdeal.τ).loc Cert.DnpostBwdIdeal.main_arg0) = m ((c.tc : Thread Cert.DnpostBwdIdeal.nD Cert.DnpostBwdIdeal.τ).loc Cert.DnpostBwdIdeal.main_arg0)
          ∧ r.2.mem ((c.tc : Thread Cert.DnpostBwdIdeal.nD Cert.DnpostBwdIdeal.τ).loc Cert.DnpostBwdIdeal.main_arg1) = m ((c.tc : Thread Cert.DnpostBwdIdeal.nD Cert.DnpostBwdIdeal.τ).loc Cert.DnpostBwdIdeal.main_arg1)
          ∧ r.2.mem ((c.tc : Thread Cert.DnpostBwdIdeal.nD Cert.DnpostBwdIdeal.τ).loc Cert.DnpostBwdIdeal.main_arg2) = m ((c.tc : Thread Cert.DnpostBwdIdeal.nD Cert.DnpostBwdIdeal.τ).loc Cert.DnpostBwdIdeal.main_arg2)
          ∧ r.2.mem ((c.tc : Thread Cert.DnpostBwdIdeal.nD Cert.DnpostBwdIdeal.τ).loc Cert.DnpostBwdIdeal.main_arg3) = m ((c.tc : Thread Cert.DnpostBwdIdeal.nD Cert.DnpostBwdIdeal.τ).loc Cert.DnpostBwdIdeal.main_arg3))
      ∧ θ_run (Cert.DnpostBwdRefIdeal.defs (F := Ideal)) (onTc (τ := Cert.DnpostBwdRefIdeal.τ) (Cert.DnpostBwdRefIdeal.main (F := Ideal))) ⟨m', fun _ => 0, g'⟩ (fun r => ∀ c : Dev Cert.DnpostBwdRefIdeal.nD,
          r.2.mem ((c.tc : Thread Cert.DnpostBwdRefIdeal.nD Cert.DnpostBwdRefIdeal.τ).loc Cert.DnpostBwdRefIdeal.main_v48) = v0 c
          ∧ r.2.mem ((c.tc : Thread Cert.DnpostBwdRefIdeal.nD Cert.DnpostBwdRefIdeal.τ).loc Cert.DnpostBwdRefIdeal.main_v26) = v1 c
          ∧ r.2.mem ((c.tc : Thread Cert.DnpostBwdRefIdeal.nD Cert.DnpostBwdRefIdeal.τ).loc Cert.DnpostBwdRefIdeal.main_v33) = v2 c
          ∧ r.2.mem ((c.tc : Thread Cert.DnpostBwdRefIdeal.nD Cert.DnpostBwdRefIdeal.τ).loc Cert.DnpostBwdRefIdeal.main_arg0) = m' ((c.tc : Thread Cert.DnpostBwdRefIdeal.nD Cert.DnpostBwdRefIdeal.τ).loc Cert.DnpostBwdRefIdeal.main_arg0)
          ∧ r.2.mem ((c.tc : Thread Cert.DnpostBwdRefIdeal.nD Cert.DnpostBwdRefIdeal.τ).loc Cert.DnpostBwdRefIdeal.main_arg1) = m' ((c.tc : Thread Cert.DnpostBwdRefIdeal.nD Cert.DnpostBwdRefIdeal.τ).loc Cert.DnpostBwdRefIdeal.main_arg1)
          ∧ r.2.mem ((c.tc : Thread Cert.DnpostBwdRefIdeal.nD Cert.DnpostBwdRefIdeal.τ).loc Cert.DnpostBwdRefIdeal.main_arg2) = m' ((c.tc : Thread Cert.DnpostBwdRefIdeal.nD Cert.DnpostBwdRefIdeal.τ).loc Cert.DnpostBwdRefIdeal.main_arg2)
          ∧ r.2.mem ((c.tc : Thread Cert.DnpostBwdRefIdeal.nD Cert.DnpostBwdRefIdeal.τ).loc Cert.DnpostBwdRefIdeal.main_arg3) = m' ((c.tc : Thread Cert.DnpostBwdRefIdeal.nD Cert.DnpostBwdRefIdeal.τ).loc Cert.DnpostBwdRefIdeal.main_arg3))

def preserves_Dnpre_DnpreIdeal : Prop :=
  True

def algebraic_DnpreIdeal_DnpreRefIdeal [hDnpreIdeal : Cert.DnpreIdeal.Facts] [hDnpreRefIdeal : Cert.DnpreRefIdeal.Facts] : Prop :=
  ∀ (m : (ℓ : Loc Cert.DnpreIdeal.nD Cert.DnpreIdeal.τ Cert.DnpreIdeal.sig) → Buf (Elt Ideal) ℓ) (g : Dev Cert.DnpreIdeal.nD → PrngReg)
    (m' : (ℓ : Loc Cert.DnpreRefIdeal.nD Cert.DnpreRefIdeal.τ Cert.DnpreRefIdeal.sig) → Buf (Elt Ideal) ℓ) (g' : Dev Cert.DnpreRefIdeal.nD → PrngReg), Pre_DnpreIdeal m →
    (∀ c : Dev Cert.DnpreIdeal.nD,
      m' ((c.tc : Thread Cert.DnpreRefIdeal.nD Cert.DnpreRefIdeal.τ).loc Cert.DnpreRefIdeal.main_arg0) = m ((c.tc : Thread Cert.DnpreIdeal.nD Cert.DnpreIdeal.τ).loc Cert.DnpreIdeal.main_arg0)) →
    ∃ (v0 : (c : Dev Cert.DnpreIdeal.nD) → Buf (Elt Ideal) ((c.tc : Thread Cert.DnpreIdeal.nD Cert.DnpreIdeal.τ).loc Cert.DnpreIdeal.main_v0)),
      θ_run (Cert.DnpreIdeal.defs (F := Ideal)) (onTc (τ := Cert.DnpreIdeal.τ) (Cert.DnpreIdeal.main (F := Ideal))) ⟨m, fun _ => 0, g⟩ (fun r => ∀ c : Dev Cert.DnpreIdeal.nD,
          r.2.mem ((c.tc : Thread Cert.DnpreIdeal.nD Cert.DnpreIdeal.τ).loc Cert.DnpreIdeal.main_v0) = v0 c
          ∧ r.2.mem ((c.tc : Thread Cert.DnpreIdeal.nD Cert.DnpreIdeal.τ).loc Cert.DnpreIdeal.main_arg0) = m ((c.tc : Thread Cert.DnpreIdeal.nD Cert.DnpreIdeal.τ).loc Cert.DnpreIdeal.main_arg0))
      ∧ θ_run (Cert.DnpreRefIdeal.defs (F := Ideal)) (onTc (τ := Cert.DnpreRefIdeal.τ) (Cert.DnpreRefIdeal.main (F := Ideal))) ⟨m', fun _ => 0, g'⟩ (fun r => ∀ c : Dev Cert.DnpreRefIdeal.nD,
          r.2.mem ((c.tc : Thread Cert.DnpreRefIdeal.nD Cert.DnpreRefIdeal.τ).loc Cert.DnpreRefIdeal.main_v26) = v0 c
          ∧ r.2.mem ((c.tc : Thread Cert.DnpreRefIdeal.nD Cert.DnpreRefIdeal.τ).loc Cert.DnpreRefIdeal.main_arg0) = m' ((c.tc : Thread Cert.DnpreRefIdeal.nD Cert.DnpreRefIdeal.τ).loc Cert.DnpreRefIdeal.main_arg0))

def preserves_DnpreBwd_DnpreBwdIdeal : Prop :=
  True

def algebraic_DnpreBwdIdeal_DnpreBwdRefIdeal [hDnpreBwdIdeal : Cert.DnpreBwdIdeal.Facts] [hDnpreBwdRefIdeal : Cert.DnpreBwdRefIdeal.Facts] : Prop :=
  ∀ (m : (ℓ : Loc Cert.DnpreBwdIdeal.nD Cert.DnpreBwdIdeal.τ Cert.DnpreBwdIdeal.sig) → Buf (Elt Ideal) ℓ) (g : Dev Cert.DnpreBwdIdeal.nD → PrngReg)
    (m' : (ℓ : Loc Cert.DnpreBwdRefIdeal.nD Cert.DnpreBwdRefIdeal.τ Cert.DnpreBwdRefIdeal.sig) → Buf (Elt Ideal) ℓ) (g' : Dev Cert.DnpreBwdRefIdeal.nD → PrngReg), Pre_DnpreBwdIdeal m →
    (∀ c : Dev Cert.DnpreBwdIdeal.nD,
      m' ((c.tc : Thread Cert.DnpreBwdRefIdeal.nD Cert.DnpreBwdRefIdeal.τ).loc Cert.DnpreBwdRefIdeal.main_arg0) = m ((c.tc : Thread Cert.DnpreBwdIdeal.nD Cert.DnpreBwdIdeal.τ).loc Cert.DnpreBwdIdeal.main_arg0)
      ∧ m' ((c.tc : Thread Cert.DnpreBwdRefIdeal.nD Cert.DnpreBwdRefIdeal.τ).loc Cert.DnpreBwdRefIdeal.main_arg1) = m ((c.tc : Thread Cert.DnpreBwdIdeal.nD Cert.DnpreBwdIdeal.τ).loc Cert.DnpreBwdIdeal.main_arg1)) →
    ∃ (v0 : (c : Dev Cert.DnpreBwdIdeal.nD) → Buf (Elt Ideal) ((c.tc : Thread Cert.DnpreBwdIdeal.nD Cert.DnpreBwdIdeal.τ).loc Cert.DnpreBwdIdeal.main_v0)),
      θ_run (Cert.DnpreBwdIdeal.defs (F := Ideal)) (onTc (τ := Cert.DnpreBwdIdeal.τ) (Cert.DnpreBwdIdeal.main (F := Ideal))) ⟨m, fun _ => 0, g⟩ (fun r => ∀ c : Dev Cert.DnpreBwdIdeal.nD,
          r.2.mem ((c.tc : Thread Cert.DnpreBwdIdeal.nD Cert.DnpreBwdIdeal.τ).loc Cert.DnpreBwdIdeal.main_v0) = v0 c
          ∧ r.2.mem ((c.tc : Thread Cert.DnpreBwdIdeal.nD Cert.DnpreBwdIdeal.τ).loc Cert.DnpreBwdIdeal.main_arg0) = m ((c.tc : Thread Cert.DnpreBwdIdeal.nD Cert.DnpreBwdIdeal.τ).loc Cert.DnpreBwdIdeal.main_arg0)
          ∧ r.2.mem ((c.tc : Thread Cert.DnpreBwdIdeal.nD Cert.DnpreBwdIdeal.τ).loc Cert.DnpreBwdIdeal.main_arg1) = m ((c.tc : Thread Cert.DnpreBwdIdeal.nD Cert.DnpreBwdIdeal.τ).loc Cert.DnpreBwdIdeal.main_arg1))
      ∧ θ_run (Cert.DnpreBwdRefIdeal.defs (F := Ideal)) (onTc (τ := Cert.DnpreBwdRefIdeal.τ) (Cert.DnpreBwdRefIdeal.main (F := Ideal))) ⟨m', fun _ => 0, g'⟩ (fun r => ∀ c : Dev Cert.DnpreBwdRefIdeal.nD,
          r.2.mem ((c.tc : Thread Cert.DnpreBwdRefIdeal.nD Cert.DnpreBwdRefIdeal.τ).loc Cert.DnpreBwdRefIdeal.main_v67) = v0 c
          ∧ r.2.mem ((c.tc : Thread Cert.DnpreBwdRefIdeal.nD Cert.DnpreBwdRefIdeal.τ).loc Cert.DnpreBwdRefIdeal.main_arg0) = m' ((c.tc : Thread Cert.DnpreBwdRefIdeal.nD Cert.DnpreBwdRefIdeal.τ).loc Cert.DnpreBwdRefIdeal.main_arg0)
          ∧ r.2.mem ((c.tc : Thread Cert.DnpreBwdRefIdeal.nD Cert.DnpreBwdRefIdeal.τ).loc Cert.DnpreBwdRefIdeal.main_arg1) = m' ((c.tc : Thread Cert.DnpreBwdRefIdeal.nD Cert.DnpreBwdRefIdeal.τ).loc Cert.DnpreBwdRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v23) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v62) = v0 c
          ∧ r.2.mem ((c.tc : Thread Cert.ConvBwdRefIdeal.nD Cert.ConvBwdRefIdeal.τ).loc Cert.ConvBwdRefIdeal.main_v58) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_KvCombine_KvCombineIdeal : Prop :=
  True

def algebraic_KvCombineIdeal_KvCombineRefIdeal [hKvCombineIdeal : Cert.KvCombineIdeal.Facts] [hKvCombineRefIdeal : Cert.KvCombineRefIdeal.Facts] : Prop :=
  ∀ (m : (ℓ : Loc Cert.KvCombineIdeal.nD Cert.KvCombineIdeal.τ Cert.KvCombineIdeal.sig) → Buf (Elt Ideal) ℓ) (g : Dev Cert.KvCombineIdeal.nD → PrngReg)
    (m' : (ℓ : Loc Cert.KvCombineRefIdeal.nD Cert.KvCombineRefIdeal.τ Cert.KvCombineRefIdeal.sig) → Buf (Elt Ideal) ℓ) (g' : Dev Cert.KvCombineRefIdeal.nD → PrngReg), Pre_KvCombineIdeal m →
    (∀ c : Dev Cert.KvCombineIdeal.nD,
      m' ((c.tc : Thread Cert.KvCombineRefIdeal.nD Cert.KvCombineRefIdeal.τ).loc Cert.KvCombineRefIdeal.main_arg0) = m ((c.tc : Thread Cert.KvCombineIdeal.nD Cert.KvCombineIdeal.τ).loc Cert.KvCombineIdeal.main_arg0)
      ∧ m' ((c.tc : Thread Cert.KvCombineRefIdeal.nD Cert.KvCombineRefIdeal.τ).loc Cert.KvCombineRefIdeal.main_arg1) = m ((c.tc : Thread Cert.KvCombineIdeal.nD Cert.KvCombineIdeal.τ).loc Cert.KvCombineIdeal.main_arg1)) →
    ∃ (v0 : (c : Dev Cert.KvCombineIdeal.nD) → Buf (Elt Ideal) ((c.tc : Thread Cert.KvCombineIdeal.nD Cert.KvCombineIdeal.τ).loc Cert.KvCombineIdeal.main_v0)),
      θ_run (Cert.KvCombineIdeal.defs (F := Ideal)) (onTc (τ := Cert.KvCombineIdeal.τ) (Cert.KvCombineIdeal.main (F := Ideal))) ⟨m, fun _ => 0, g⟩ (fun r => ∀ c : Dev Cert.KvCombineIdeal.nD,
          r.2.mem ((c.tc : Thread Cert.KvCombineIdeal.nD Cert.KvCombineIdeal.τ).loc Cert.KvCombineIdeal.main_v0) = v0 c
          ∧ r.2.mem ((c.tc : Thread Cert.KvCombineIdeal.nD Cert.KvCombineIdeal.τ).loc Cert.KvCombineIdeal.main_arg0) = m ((c.tc : Thread Cert.KvCombineIdeal.nD Cert.KvCombineIdeal.τ).loc Cert.KvCombineIdeal.main_arg0)
          ∧ r.2.mem ((c.tc : Thread Cert.KvCombineIdeal.nD Cert.KvCombineIdeal.τ).loc Cert.KvCombineIdeal.main_arg1) = m ((c.tc : Thread Cert.KvCombineIdeal.nD Cert.KvCombineIdeal.τ).loc Cert.KvCombineIdeal.main_arg1))
      ∧ θ_run (Cert.KvCombineRefIdeal.defs (F := Ideal)) (onTc (τ := Cert.KvCombineRefIdeal.τ) (Cert.KvCombineRefIdeal.main (F := Ideal))) ⟨m', fun _ => 0, g'⟩ (fun r => ∀ c : Dev Cert.KvCombineRefIdeal.nD,
          r.2.mem ((c.tc : Thread Cert.KvCombineRefIdeal.nD Cert.KvCombineRefIdeal.τ).loc Cert.KvCombineRefIdeal.main_v8) = v0 c
          ∧ r.2.mem ((c.tc : Thread Cert.KvCombineRefIdeal.nD Cert.KvCombineRefIdeal.τ).loc Cert.KvCombineRefIdeal.main_arg0) = m' ((c.tc : Thread Cert.KvCombineRefIdeal.nD Cert.KvCombineRefIdeal.τ).loc Cert.KvCombineRefIdeal.main_arg0)
          ∧ r.2.mem ((c.tc : Thread Cert.KvCombineRefIdeal.nD Cert.KvCombineRefIdeal.τ).loc Cert.KvCombineRefIdeal.main_arg1) = m' ((c.tc : Thread Cert.KvCombineRefIdeal.nD Cert.KvCombineRefIdeal.τ).loc Cert.KvCombineRefIdeal.main_arg1))

def preserves_Bg_BgIdeal : Prop :=
  True

def algebraic_BgIdeal_BgRefIdeal [hBgIdeal : Cert.BgIdeal.Facts] [hBgRefIdeal : Cert.BgRefIdeal.Facts] : Prop :=
  ∀ (m : (ℓ : Loc Cert.BgIdeal.nD Cert.BgIdeal.τ Cert.BgIdeal.sig) → Buf (Elt Ideal) ℓ) (g : Dev Cert.BgIdeal.nD → PrngReg)
    (m' : (ℓ : Loc Cert.BgRefIdeal.nD Cert.BgRefIdeal.τ Cert.BgRefIdeal.sig) → Buf (Elt Ideal) ℓ) (g' : Dev Cert.BgRefIdeal.nD → PrngReg), Pre_BgIdeal m →
    (∀ c : Dev Cert.BgIdeal.nD,
      m' ((c.tc : Thread Cert.BgRefIdeal.nD Cert.BgRefIdeal.τ).loc Cert.BgRefIdeal.main_arg0) = m ((c.tc : Thread Cert.BgIdeal.nD Cert.BgIdeal.τ).loc Cert.BgIdeal.main_arg0)
      ∧ m' ((c.tc : Thread Cert.BgRefIdeal.nD Cert.BgRefIdeal.τ).loc Cert.BgRefIdeal.main_arg1) = m ((c.tc : Thread Cert.BgIdeal.nD Cert.BgIdeal.τ).loc Cert.BgIdeal.main_arg1)
      ∧ m' ((c.tc : Thread Cert.BgRefIdeal.nD Cert.BgRefIdeal.τ).loc Cert.BgRefIdeal.main_arg2) = m ((c.tc : Thread Cert.BgIdeal.nD Cert.BgIdeal.τ).loc Cert.BgIdeal.main_arg2)) →
    ∃ (v0 : (c : Dev Cert.BgIdeal.nD) → Buf (Elt Ideal) ((c.tc : Thread Cert.BgIdeal.nD Cert.BgIdeal.τ).loc Cert.BgIdeal.main_v0)),
      θ_run (Cert.BgIdeal.defs (F := Ideal)) (onTc (τ := Cert.BgIdeal.τ) (Cert.BgIdeal.main (F := Ideal))) ⟨m, fun _ => 0, g⟩ (fun r => ∀ c : Dev Cert.BgIdeal.nD,
          r.2.mem ((c.tc : Thread Cert.BgIdeal.nD Cert.BgIdeal.τ).loc Cert.BgIdeal.main_v0) = v0 c
          ∧ r.2.mem ((c.tc : Thread Cert.BgIdeal.nD Cert.BgIdeal.τ).loc Cert.BgIdeal.main_arg0) = m ((c.tc : Thread Cert.BgIdeal.nD Cert.BgIdeal.τ).loc Cert.BgIdeal.main_arg0)
          ∧ r.2.mem ((c.tc : Thread Cert.BgIdeal.nD Cert.BgIdeal.τ).loc Cert.BgIdeal.main_arg1) = m ((c.tc : Thread Cert.BgIdeal.nD Cert.BgIdeal.τ).loc Cert.BgIdeal.main_arg1)
          ∧ r.2.mem ((c.tc : Thread Cert.BgIdeal.nD Cert.BgIdeal.τ).loc Cert.BgIdeal.main_arg2) = m ((c.tc : Thread Cert.BgIdeal.nD Cert.BgIdeal.τ).loc Cert.BgIdeal.main_arg2))
      ∧ θ_run (Cert.BgRefIdeal.defs (F := Ideal)) (onTc (τ := Cert.BgRefIdeal.τ) (Cert.BgRefIdeal.main (F := Ideal))) ⟨m', fun _ => 0, g'⟩ (fun r => ∀ c : Dev Cert.BgRefIdeal.nD,
          r.2.mem ((c.tc : Thread Cert.BgRefIdeal.nD Cert.BgRefIdeal.τ).loc Cert.BgRefIdeal.main_v18) = v0 c
          ∧ r.2.mem ((c.tc : Thread Cert.BgRefIdeal.nD Cert.BgRefIdeal.τ).loc Cert.BgRefIdeal.main_arg0) = m' ((c.tc : Thread Cert.BgRefIdeal.nD Cert.BgRefIdeal.τ).loc Cert.BgRefIdeal.main_arg0)
          ∧ r.2.mem ((c.tc : Thread Cert.BgRefIdeal.nD Cert.BgRefIdeal.τ).loc Cert.BgRefIdeal.main_arg1) = m' ((c.tc : Thread Cert.BgRefIdeal.nD Cert.BgRefIdeal.τ).loc Cert.BgRefIdeal.main_arg1)
          ∧ r.2.mem ((c.tc : Thread Cert.BgRefIdeal.nD Cert.BgRefIdeal.τ).loc Cert.BgRefIdeal.main_arg2) = m' ((c.tc : Thread Cert.BgRefIdeal.nD Cert.BgRefIdeal.τ).loc Cert.BgRefIdeal.main_arg2))

def preserves_LossRows_LossRowsIdeal : Prop :=
  True

def algebraic_LossRowsIdeal_LossRowsRefIdeal [hLossRowsIdeal : Cert.LossRowsIdeal.Facts] [hLossRowsRefIdeal : Cert.LossRowsRefIdeal.Facts] : Prop :=
  ∀ (m : (ℓ : Loc Cert.LossRowsIdeal.nD Cert.LossRowsIdeal.τ Cert.LossRowsIdeal.sig) → Buf (Elt Ideal) ℓ) (g : Dev Cert.LossRowsIdeal.nD → PrngReg)
    (m' : (ℓ : Loc Cert.LossRowsRefIdeal.nD Cert.LossRowsRefIdeal.τ Cert.LossRowsRefIdeal.sig) → Buf (Elt Ideal) ℓ) (g' : Dev Cert.LossRowsRefIdeal.nD → PrngReg), Pre_LossRowsIdeal m →
    (∀ c : Dev Cert.LossRowsIdeal.nD,
      m' ((c.tc : Thread Cert.LossRowsRefIdeal.nD Cert.LossRowsRefIdeal.τ).loc Cert.LossRowsRefIdeal.main_arg0) = m ((c.tc : Thread Cert.LossRowsIdeal.nD Cert.LossRowsIdeal.τ).loc Cert.LossRowsIdeal.main_arg0)
      ∧ m' ((c.tc : Thread Cert.LossRowsRefIdeal.nD Cert.LossRowsRefIdeal.τ).loc Cert.LossRowsRefIdeal.main_arg1) = m ((c.tc : Thread Cert.LossRowsIdeal.nD Cert.LossRowsIdeal.τ).loc Cert.LossRowsIdeal.main_arg1)
      ∧ m' ((c.tc : Thread Cert.LossRowsRefIdeal.nD Cert.LossRowsRefIdeal.τ).loc Cert.LossRowsRefIdeal.main_arg2) = m ((c.tc : Thread Cert.LossRowsIdeal.nD Cert.LossRowsIdeal.τ).loc Cert.LossRowsIdeal.main_arg2)) →
    ∃ (v0 : (c : Dev Cert.LossRowsIdeal.nD) → Buf (Elt Ideal) ((c.tc : Thread Cert.LossRowsIdeal.nD Cert.LossRowsIdeal.τ).loc Cert.LossRowsIdeal.main_v0)),
      θ_run (Cert.LossRowsIdeal.defs (F := Ideal)) (onTc (τ := Cert.LossRowsIdeal.τ) (Cert.LossRowsIdeal.main (F := Ideal))) ⟨m, fun _ => 0, g⟩ (fun r => ∀ c : Dev Cert.LossRowsIdeal.nD,
          r.2.mem ((c.tc : Thread Cert.LossRowsIdeal.nD Cert.LossRowsIdeal.τ).loc Cert.LossRowsIdeal.main_v0) = v0 c
          ∧ r.2.mem ((c.tc : Thread Cert.LossRowsIdeal.nD Cert.LossRowsIdeal.τ).loc Cert.LossRowsIdeal.main_arg0) = m ((c.tc : Thread Cert.LossRowsIdeal.nD Cert.LossRowsIdeal.τ).loc Cert.LossRowsIdeal.main_arg0)
          ∧ r.2.mem ((c.tc : Thread Cert.LossRowsIdeal.nD Cert.LossRowsIdeal.τ).loc Cert.LossRowsIdeal.main_arg1) = m ((c.tc : Thread Cert.LossRowsIdeal.nD Cert.LossRowsIdeal.τ).loc Cert.LossRowsIdeal.main_arg1)
          ∧ r.2.mem ((c.tc : Thread Cert.LossRowsIdeal.nD Cert.LossRowsIdeal.τ).loc Cert.LossRowsIdeal.main_arg2) = m ((c.tc : Thread Cert.LossRowsIdeal.nD Cert.LossRowsIdeal.τ).loc Cert.LossRowsIdeal.main_arg2))
      ∧ θ_run (Cert.LossRowsRefIdeal.defs (F := Ideal)) (onTc (τ := Cert.LossRowsRefIdeal.τ) (Cert.LossRowsRefIdeal.main (F := Ideal))) ⟨m', fun _ => 0, g'⟩ (fun r => ∀ c : Dev Cert.LossRowsRefIdeal.nD,
          r.2.mem ((c.tc : Thread Cert.LossRowsRefIdeal.nD Cert.LossRowsRefIdeal.τ).loc Cert.LossRowsRefIdeal.main_v20) = v0 c
          ∧ r.2.mem ((c.tc : Thread Cert.LossRowsRefIdeal.nD Cert.LossRowsRefIdeal.τ).loc Cert.LossRowsRefIdeal.main_arg0) = m' ((c.tc : Thread Cert.LossRowsRefIdeal.nD Cert.LossRowsRefIdeal.τ).loc Cert.LossRowsRefIdeal.main_arg0)
          ∧ r.2.mem ((c.tc : Thread Cert.LossRowsRefIdeal.nD Cert.LossRowsRefIdeal.τ).loc Cert.LossRowsRefIdeal.main_arg1) = m' ((c.tc : Thread Cert.LossRowsRefIdeal.nD Cert.LossRowsRefIdeal.τ).loc Cert.LossRowsRefIdeal.main_arg1)
          ∧ r.2.mem ((c.tc : Thread Cert.LossRowsRefIdeal.nD Cert.LossRowsRefIdeal.τ).loc Cert.LossRowsRefIdeal.main_arg2) = m' ((c.tc : Thread Cert.LossRowsRefIdeal.nD Cert.LossRowsRefIdeal.τ).loc Cert.LossRowsRefIdeal.main_arg2))

def preserves_AdamwGu_AdamwGuIdeal : Prop :=
  True

def algebraic_AdamwGuIdeal_AdamwGuRefIdeal [hAdamwGuIdeal : Cert.AdamwGuIdeal.Facts] [hAdamwGuRefIdeal : Cert.AdamwGuRefIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg)
    (m' : (ℓ : Loc Cert.AdamwGuRefIdeal.nD Cert.AdamwGuRefIdeal.τ Cert.AdamwGuRefIdeal.sig) → Buf (Elt Ideal) ℓ) (g' : Dev Cert.AdamwGuRefIdeal.nD → PrngReg), Pre_AdamwGuIdeal m →
    (∀ c : Dev Cert.AdamwGuIdeal.nD,
      m' ((c.tc : Thread Cert.AdamwGuRefIdeal.nD Cert.AdamwGuRefIdeal.τ).loc Cert.AdamwGuRefIdeal.main_arg0) = m ((c.tc : Thread Cert.AdamwGuIdeal.nD Cert.AdamwGuIdeal.τ).loc Cert.AdamwGuIdeal.main_arg0)
      ∧ m' ((c.tc : Thread Cert.AdamwGuRefIdeal.nD Cert.AdamwGuRefIdeal.τ).loc Cert.AdamwGuRefIdeal.main_arg1) = m ((c.tc : Thread Cert.AdamwGuIdeal.nD Cert.AdamwGuIdeal.τ).loc Cert.AdamwGuIdeal.main_arg1)
      ∧ m' ((c.tc : Thread Cert.AdamwGuRefIdeal.nD Cert.AdamwGuRefIdeal.τ).loc Cert.AdamwGuRefIdeal.main_arg2) = m ((c.tc : Thread Cert.AdamwGuIdeal.nD Cert.AdamwGuIdeal.τ).loc Cert.AdamwGuIdeal.main_arg2)
      ∧ m' ((c.tc : Thread Cert.AdamwGuRefIdeal.nD Cert.AdamwGuRefIdeal.τ).loc Cert.AdamwGuRefIdeal.main_arg3) = m ((c.tc : Thread Cert.AdamwGuIdeal.nD Cert.AdamwGuIdeal.τ).loc Cert.AdamwGuIdeal.main_arg3)) →
    ∃ (v0 : (c : Dev Cert.AdamwGuIdeal.nD) → Buf (Elt Ideal) ((c.tc : Thread Cert.AdamwGuIdeal.nD Cert.AdamwGuIdeal.τ).loc Cert.AdamwGuIdeal.main_v0_0)) (v1 : (c : Dev Cert.AdamwGuIdeal.nD) → Buf (Elt Ideal) ((c.tc : Thread Cert.AdamwGuIdeal.nD Cert.AdamwGuIdeal.τ).loc Cert.AdamwGuIdeal.main_v0_1)) (v2 : (c : Dev Cert.AdamwGuIdeal.nD) → Buf (Elt Ideal) ((c.tc : Thread Cert.AdamwGuIdeal.nD Cert.AdamwGuIdeal.τ).loc Cert.AdamwGuIdeal.main_v0_2)) (v3 : (c : Dev Cert.AdamwGuIdeal.nD) → Buf (Elt Ideal) ((c.tc : Thread Cert.AdamwGuIdeal.nD Cert.AdamwGuIdeal.τ).loc Cert.AdamwGuIdeal.main_v0_3)),
      θ_run (Cert.AdamwGuIdeal.defs (F := Ideal)) (onTc (τ := Cert.AdamwGuIdeal.τ) (Cert.AdamwGuIdeal.main (F := Ideal))) ⟨m, fun _ => 0, g⟩ (fun r => ∀ c : Dev Cert.AdamwGuIdeal.nD,
          r.2.mem ((c.tc : Thread Cert.AdamwGuIdeal.nD Cert.AdamwGuIdeal.τ).loc Cert.AdamwGuIdeal.main_v0_0) = v0 c
          ∧ r.2.mem ((c.tc : Thread Cert.AdamwGuIdeal.nD Cert.AdamwGuIdeal.τ).loc Cert.AdamwGuIdeal.main_v0_1) = v1 c
          ∧ r.2.mem ((c.tc : Thread Cert.AdamwGuIdeal.nD Cert.AdamwGuIdeal.τ).loc Cert.AdamwGuIdeal.main_v0_2) = v2 c
          ∧ r.2.mem ((c.tc : Thread Cert.AdamwGuIdeal.nD Cert.AdamwGuIdeal.τ).loc Cert.AdamwGuIdeal.main_v0_3) = v3 c
          ∧ r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
          ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
          ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
          ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3))
      ∧ θ_run (Cert.AdamwGuRefIdeal.defs (F := Ideal)) (onTc (τ := Cert.AdamwGuRefIdeal.τ) (Cert.AdamwGuRefIdeal.main (F := Ideal))) ⟨m', fun _ => 0, g'⟩ (fun r => ∀ c : Dev Cert.AdamwGuRefIdeal.nD,
          r.2.mem ((c.tc : Thread Cert.AdamwGuRefIdeal.nD Cert.AdamwGuRefIdeal.τ).loc Cert.AdamwGuRefIdeal.main_v1) = v0 c
          ∧ r.2.mem ((c.tc : Thread Cert.AdamwGuRefIdeal.nD Cert.AdamwGuRefIdeal.τ).loc Cert.AdamwGuRefIdeal.main_v25) = v1 c
          ∧ r.2.mem ((c.tc : Thread Cert.AdamwGuRefIdeal.nD Cert.AdamwGuRefIdeal.τ).loc Cert.AdamwGuRefIdeal.main_v6) = v2 c
          ∧ r.2.mem ((c.tc : Thread Cert.AdamwGuRefIdeal.nD Cert.AdamwGuRefIdeal.τ).loc Cert.AdamwGuRefIdeal.main_v12) = v3 c
          ∧ r.2.mem ((c.tc : Thread Cert.AdamwGuRefIdeal.nD Cert.AdamwGuRefIdeal.τ).loc Cert.AdamwGuRefIdeal.main_arg0) = m' ((c.tc : Thread Cert.AdamwGuRefIdeal.nD Cert.AdamwGuRefIdeal.τ).loc Cert.AdamwGuRefIdeal.main_arg0)
          ∧ r.2.mem ((c.tc : Thread Cert.AdamwGuRefIdeal.nD Cert.AdamwGuRefIdeal.τ).loc Cert.AdamwGuRefIdeal.main_arg1) = m' ((c.tc : Thread Cert.AdamwGuRefIdeal.nD Cert.AdamwGuRefIdeal.τ).loc Cert.AdamwGuRefIdeal.main_arg1)
          ∧ r.2.mem ((c.tc : Thread Cert.AdamwGuRefIdeal.nD Cert.AdamwGuRefIdeal.τ).loc Cert.AdamwGuRefIdeal.main_arg2) = m' ((c.tc : Thread Cert.AdamwGuRefIdeal.nD Cert.AdamwGuRefIdeal.τ).loc Cert.AdamwGuRefIdeal.main_arg2)
          ∧ r.2.mem ((c.tc : Thread Cert.AdamwGuRefIdeal.nD Cert.AdamwGuRefIdeal.τ).loc Cert.AdamwGuRefIdeal.main_arg3) = m' ((c.tc : Thread Cert.AdamwGuRefIdeal.nD Cert.AdamwGuRefIdeal.τ).loc Cert.AdamwGuRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v1) = v0 c
          ∧ r.2.mem ((c.tc : Thread Cert.AdamwInRefIdeal.nD Cert.AdamwInRefIdeal.τ).loc Cert.AdamwInRefIdeal.main_v25) = v1 c
          ∧ r.2.mem ((c.tc : Thread Cert.AdamwInRefIdeal.nD Cert.AdamwInRefIdeal.τ).loc Cert.AdamwInRefIdeal.main_v6) = v2 c
          ∧ r.2.mem ((c.tc : Thread Cert.AdamwInRefIdeal.nD Cert.AdamwInRefIdeal.τ).loc Cert.AdamwInRefIdeal.main_v12) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v1) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v6) = v2 c
          ∧ r.2.mem ((c.tc : Thread Cert.AdamwOutRefIdeal.nD Cert.AdamwOutRefIdeal.τ).loc Cert.AdamwOutRefIdeal.main_v12) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v1) = v0 c
          ∧ r.2.mem ((c.tc : Thread Cert.AdamwDownRefIdeal.nD Cert.AdamwDownRefIdeal.τ).loc Cert.AdamwDownRefIdeal.main_v25) = v1 c
          ∧ r.2.mem ((c.tc : Thread Cert.AdamwDownRefIdeal.nD Cert.AdamwDownRefIdeal.τ).loc Cert.AdamwDownRefIdeal.main_v6) = v2 c
          ∧ r.2.mem ((c.tc : Thread Cert.AdamwDownRefIdeal.nD Cert.AdamwDownRefIdeal.τ).loc Cert.AdamwDownRefIdeal.main_v12) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3))

def preserves_AttnBwd_AttnBwdIdeal : Prop :=
  IdealRules.named_const.Statement Cert.AttnBwdIdeal.κ "mask" .f32 0xF149F2CA#32 ⊥

def algebraic_AttnBwdIdeal_AttnBwdRefIdeal_pre_finite [hAttnBwdIdeal : Cert.AttnBwdIdeal.Facts] [hAttnBwdRefIdeal : Cert.AttnBwdRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)
      ∧ m' ((c.tc : Thread Cert.AttnBwdRefIdeal.nD Cert.AttnBwdRefIdeal.τ).loc Cert.AttnBwdRefIdeal.main_arg6) = m ((c.tc : Thread Cert.AttnBwdIdeal.nD Cert.AttnBwdIdeal.τ).loc Cert.AttnBwdIdeal.main_arg6)) →
    ∃ (v0 : (c : Dev Cert.AttnBwdIdeal.nD) → Buf (Elt Ideal) ((c.tc : Thread Cert.AttnBwdIdeal.nD Cert.AttnBwdIdeal.τ).loc Cert.AttnBwdIdeal.main_v21_0)) (v1 : (c : Dev Cert.AttnBwdIdeal.nD) → Buf (Elt Ideal) ((c.tc : Thread Cert.AttnBwdIdeal.nD Cert.AttnBwdIdeal.τ).loc Cert.AttnBwdIdeal.main_v21_1)) (v2 : (c : Dev Cert.AttnBwdIdeal.nD) → Buf (Elt Ideal) ((c.tc : Thread Cert.AttnBwdIdeal.nD Cert.AttnBwdIdeal.τ).loc Cert.AttnBwdIdeal.main_v21_2)) (v3 : (c : Dev Cert.AttnBwdIdeal.nD) → Buf (Elt Ideal) ((c.tc : Thread Cert.AttnBwdIdeal.nD Cert.AttnBwdIdeal.τ).loc Cert.AttnBwdIdeal.main_v21_3)) (v4 : (c : Dev Cert.AttnBwdIdeal.nD) → Buf (Elt Ideal) ((c.tc : Thread Cert.AttnBwdIdeal.nD Cert.AttnBwdIdeal.τ).loc Cert.AttnBwdIdeal.main_v21_4)) (v5 : (c : Dev Cert.AttnBwdIdeal.nD) → Buf (Elt Ideal) ((c.tc : Thread Cert.AttnBwdIdeal.nD Cert.AttnBwdIdeal.τ).loc Cert.AttnBwdIdeal.main_v21_5)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v21_0) = v0 c
          ∧ r.2.mem ((c.tc : Thread Cert.AttnBwdIdeal.nD Cert.AttnBwdIdeal.τ).loc Cert.AttnBwdIdeal.main_v21_1) = v1 c
          ∧ r.2.mem ((c.tc : Thread Cert.AttnBwdIdeal.nD Cert.AttnBwdIdeal.τ).loc Cert.AttnBwdIdeal.main_v21_2) = v2 c
          ∧ r.2.mem ((c.tc : Thread Cert.AttnBwdIdeal.nD Cert.AttnBwdIdeal.τ).loc Cert.AttnBwdIdeal.main_v21_3) = v3 c
          ∧ r.2.mem ((c.tc : Thread Cert.AttnBwdIdeal.nD Cert.AttnBwdIdeal.τ).loc Cert.AttnBwdIdeal.main_v21_4) = v4 c
          ∧ r.2.mem ((c.tc : Thread Cert.AttnBwdIdeal.nD Cert.AttnBwdIdeal.τ).loc Cert.AttnBwdIdeal.main_v21_5) = v5 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v254) = v0 c
          ∧ r.2.mem ((c.tc : Thread Cert.AttnBwdRefIdeal.nD Cert.AttnBwdRefIdeal.τ).loc Cert.AttnBwdRefIdeal.main_v237) = v1 c
          ∧ r.2.mem ((c.tc : Thread Cert.AttnBwdRefIdeal.nD Cert.AttnBwdRefIdeal.τ).loc Cert.AttnBwdRefIdeal.main_v220) = v2 c
          ∧ r.2.mem ((c.tc : Thread Cert.AttnBwdRefIdeal.nD Cert.AttnBwdRefIdeal.τ).loc Cert.AttnBwdRefIdeal.main_v201) = v3 c
          ∧ r.2.mem ((c.tc : Thread Cert.AttnBwdRefIdeal.nD Cert.AttnBwdRefIdeal.τ).loc Cert.AttnBwdRefIdeal.main_v200) = v4 c
          ∧ r.2.mem ((c.tc : Thread Cert.AttnBwdRefIdeal.nD Cert.AttnBwdRefIdeal.τ).loc Cert.AttnBwdRefIdeal.main_v190) = v5 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5)
          ∧ r.2.mem ((c.tc : Thread Cert.AttnBwdRefIdeal.nD Cert.AttnBwdRefIdeal.τ).loc Cert.AttnBwdRefIdeal.main_arg6) = m' ((c.tc : Thread Cert.AttnBwdRefIdeal.nD Cert.AttnBwdRefIdeal.τ).loc Cert.AttnBwdRefIdeal.main_arg6))

def Claim : Prop :=
  ∃ (hWgDown : Cert.WgDown.Facts) (hWgDownIdeal : Cert.WgDownIdeal.Facts) (hWgDownRefIdeal : Cert.WgDownRefIdeal.Facts) (hWgUp : Cert.WgUp.Facts) (hWgUpIdeal : Cert.WgUpIdeal.Facts) (hWgUpRefIdeal : Cert.WgUpRefIdeal.Facts) (hWgOut : Cert.WgOut.Facts) (hWgOutIdeal : Cert.WgOutIdeal.Facts) (hWgOutRefIdeal : Cert.WgOutRefIdeal.Facts) (hDgDown : Cert.DgDown.Facts) (hDgDownIdeal : Cert.DgDownIdeal.Facts) (hDgDownRefIdeal : Cert.DgDownRefIdeal.Facts) (hDgGate : Cert.DgGate.Facts) (hDgGateIdeal : Cert.DgGateIdeal.Facts) (hDgGateRefIdeal : Cert.DgGateRefIdeal.Facts) (hDgUp : Cert.DgUp.Facts) (hDgUpIdeal : Cert.DgUpIdeal.Facts) (hDgUpRefIdeal : Cert.DgUpRefIdeal.Facts) (hDgOut : Cert.DgOut.Facts) (hDgOutIdeal : Cert.DgOutIdeal.Facts) (hDgOutRefIdeal : Cert.DgOutRefIdeal.Facts) (hSwigluBwd : Cert.SwigluBwd.Facts) (hSwigluBwdIdeal : Cert.SwigluBwdIdeal.Facts) (hSwigluBwdRefIdeal : Cert.SwigluBwdRefIdeal.Facts) (hResgateBwd : Cert.ResgateBwd.Facts) (hResgateBwdIdeal : Cert.ResgateBwdIdeal.Facts) (hResgateBwdRefIdeal : Cert.ResgateBwdRefIdeal.Facts) (hMmIn : Cert.MmIn.Facts) (hMmInIdeal : Cert.MmInIdeal.Facts) (hMmInRefIdeal : Cert.MmInRefIdeal.Facts) (hMmGate : Cert.MmGate.Facts) (hMmGateIdeal : Cert.MmGateIdeal.Facts) (hMmGateRefIdeal : Cert.MmGateRefIdeal.Facts) (hMmOutDn : Cert.MmOutDn.Facts) (hMmOutDnIdeal : Cert.MmOutDnIdeal.Facts) (hMmOutDnRefIdeal : Cert.MmOutDnRefIdeal.Facts) (hMmOutAt : Cert.MmOutAt.Facts) (hMmOutAtIdeal : Cert.MmOutAtIdeal.Facts) (hMmOutAtRefIdeal : Cert.MmOutAtRefIdeal.Facts) (hMmDown : Cert.MmDown.Facts) (hMmDownIdeal : Cert.MmDownIdeal.Facts) (hMmDownRefIdeal : Cert.MmDownRefIdeal.Facts) (hSwiglu : Cert.Swiglu.Facts) (hSwigluIdeal : Cert.SwigluIdeal.Facts) (hSwigluRefIdeal : Cert.SwigluRefIdeal.Facts) (hNormmodBwd : Cert.NormmodBwd.Facts) (hNormmodBwdIdeal : Cert.NormmodBwdIdeal.Facts) (hNormmodBwdRefIdeal : Cert.NormmodBwdRefIdeal.Facts) (hNormmod : Cert.Normmod.Facts) (hNormmodIdeal : Cert.NormmodIdeal.Facts) (hNormmodRefIdeal : Cert.NormmodRefIdeal.Facts) (hDnpost : Cert.Dnpost.Facts) (hDnpostIdeal : Cert.DnpostIdeal.Facts) (hDnpostRefIdeal : Cert.DnpostRefIdeal.Facts) (hDnpostBwd : Cert.DnpostBwd.Facts) (hDnpostBwdIdeal : Cert.DnpostBwdIdeal.Facts) (hDnpostBwdRefIdeal : Cert.DnpostBwdRefIdeal.Facts) (hDnpre : Cert.Dnpre.Facts) (hDnpreIdeal : Cert.DnpreIdeal.Facts) (hDnpreRefIdeal : Cert.DnpreRefIdeal.Facts) (hDnpreBwd : Cert.DnpreBwd.Facts) (hDnpreBwdIdeal : Cert.DnpreBwdIdeal.Facts) (hDnpreBwdRefIdeal : Cert.DnpreBwdRefIdeal.Facts) (hConv : Cert.Conv.Facts) (hConvIdeal : Cert.ConvIdeal.Facts) (hConvRefIdeal : Cert.ConvRefIdeal.Facts) (hConvBwd : Cert.ConvBwd.Facts) (hConvBwdIdeal : Cert.ConvBwdIdeal.Facts) (hConvBwdRefIdeal : Cert.ConvBwdRefIdeal.Facts) (hKvCombine : Cert.KvCombine.Facts) (hKvCombineIdeal : Cert.KvCombineIdeal.Facts) (hKvCombineRefIdeal : Cert.KvCombineRefIdeal.Facts) (hBg : Cert.Bg.Facts) (hBgIdeal : Cert.BgIdeal.Facts) (hBgRefIdeal : Cert.BgRefIdeal.Facts) (hLossRows : Cert.LossRows.Facts) (hLossRowsIdeal : Cert.LossRowsIdeal.Facts) (hLossRowsRefIdeal : Cert.LossRowsRefIdeal.Facts) (hAdamwGu : Cert.AdamwGu.Facts) (hAdamwGuIdeal : Cert.AdamwGuIdeal.Facts) (hAdamwGuRefIdeal : Cert.AdamwGuRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamwDown : Cert.AdamwDown.Facts) (hAdamwDownIdeal : Cert.AdamwDownIdeal.Facts) (hAdamwDownRefIdeal : Cert.AdamwDownRefIdeal.Facts) (hAttnBwd : Cert.AttnBwd.Facts) (hAttnBwdIdeal : Cert.AttnBwdIdeal.Facts) (hAttnBwdRefIdeal : Cert.AttnBwdRefIdeal.Facts) (hPre_finite : Cert.Pre_finite.Facts),
    quiescent_WgDown (hWgDown := hWgDown)
    ∧ quiescent_WgDownIdeal (hWgDownIdeal := hWgDownIdeal)
    ∧ quiescent_WgDownRefIdeal (hWgDownRefIdeal := hWgDownRefIdeal)
    ∧ quiescent_WgUp (hWgUp := hWgUp)
    ∧ quiescent_WgUpIdeal (hWgUpIdeal := hWgUpIdeal)
    ∧ quiescent_WgUpRefIdeal (hWgUpRefIdeal := hWgUpRefIdeal)
    ∧ quiescent_WgOut (hWgOut := hWgOut)
    ∧ quiescent_WgOutIdeal (hWgOutIdeal := hWgOutIdeal)
    ∧ quiescent_WgOutRefIdeal (hWgOutRefIdeal := hWgOutRefIdeal)
    ∧ quiescent_DgDown (hDgDown := hDgDown)
    ∧ quiescent_DgDownIdeal (hDgDownIdeal := hDgDownIdeal)
    ∧ quiescent_DgDownRefIdeal (hDgDownRefIdeal := hDgDownRefIdeal)
    ∧ quiescent_DgGate (hDgGate := hDgGate)
    ∧ quiescent_DgGateIdeal (hDgGateIdeal := hDgGateIdeal)
    ∧ quiescent_DgGateRefIdeal (hDgGateRefIdeal := hDgGateRefIdeal)
    ∧ quiescent_DgUp (hDgUp := hDgUp)
    ∧ quiescent_DgUpIdeal (hDgUpIdeal := hDgUpIdeal)
    ∧ quiescent_DgUpRefIdeal (hDgUpRefIdeal := hDgUpRefIdeal)
    ∧ quiescent_DgOut (hDgOut := hDgOut)
    ∧ quiescent_DgOutIdeal (hDgOutIdeal := hDgOutIdeal)
    ∧ quiescent_DgOutRefIdeal (hDgOutRefIdeal := hDgOutRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_ResgateBwd (hResgateBwd := hResgateBwd)
    ∧ quiescent_ResgateBwdIdeal (hResgateBwdIdeal := hResgateBwdIdeal)
    ∧ quiescent_ResgateBwdRefIdeal (hResgateBwdRefIdeal := hResgateBwdRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmOutDn (hMmOutDn := hMmOutDn)
    ∧ quiescent_MmOutDnIdeal (hMmOutDnIdeal := hMmOutDnIdeal)
    ∧ quiescent_MmOutDnRefIdeal (hMmOutDnRefIdeal := hMmOutDnRefIdeal)
    ∧ quiescent_MmOutAt (hMmOutAt := hMmOutAt)
    ∧ quiescent_MmOutAtIdeal (hMmOutAtIdeal := hMmOutAtIdeal)
    ∧ quiescent_MmOutAtRefIdeal (hMmOutAtRefIdeal := hMmOutAtRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_NormmodBwd (hNormmodBwd := hNormmodBwd)
    ∧ quiescent_NormmodBwdIdeal (hNormmodBwdIdeal := hNormmodBwdIdeal)
    ∧ quiescent_NormmodBwdRefIdeal (hNormmodBwdRefIdeal := hNormmodBwdRefIdeal)
    ∧ quiescent_Normmod (hNormmod := hNormmod)
    ∧ quiescent_NormmodIdeal (hNormmodIdeal := hNormmodIdeal)
    ∧ quiescent_NormmodRefIdeal (hNormmodRefIdeal := hNormmodRefIdeal)
    ∧ quiescent_Dnpost (hDnpost := hDnpost)
    ∧ quiescent_DnpostIdeal (hDnpostIdeal := hDnpostIdeal)
    ∧ quiescent_DnpostRefIdeal (hDnpostRefIdeal := hDnpostRefIdeal)
    ∧ quiescent_DnpostBwd (hDnpostBwd := hDnpostBwd)
    ∧ quiescent_DnpostBwdIdeal (hDnpostBwdIdeal := hDnpostBwdIdeal)
    ∧ quiescent_DnpostBwdRefIdeal (hDnpostBwdRefIdeal := hDnpostBwdRefIdeal)
    ∧ quiescent_Dnpre (hDnpre := hDnpre)
    ∧ quiescent_DnpreIdeal (hDnpreIdeal := hDnpreIdeal)
    ∧ quiescent_DnpreRefIdeal (hDnpreRefIdeal := hDnpreRefIdeal)
    ∧ quiescent_DnpreBwd (hDnpreBwd := hDnpreBwd)
    ∧ quiescent_DnpreBwdIdeal (hDnpreBwdIdeal := hDnpreBwdIdeal)
    ∧ quiescent_DnpreBwdRefIdeal (hDnpreBwdRefIdeal := hDnpreBwdRefIdeal)
    ∧ quiescent_Conv (hConv := hConv)
    ∧ quiescent_ConvIdeal (hConvIdeal := hConvIdeal)
    ∧ quiescent_ConvRefIdeal (hConvRefIdeal := hConvRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_KvCombine (hKvCombine := hKvCombine)
    ∧ quiescent_KvCombineIdeal (hKvCombineIdeal := hKvCombineIdeal)
    ∧ quiescent_KvCombineRefIdeal (hKvCombineRefIdeal := hKvCombineRefIdeal)
    ∧ quiescent_Bg (hBg := hBg)
    ∧ quiescent_BgIdeal (hBgIdeal := hBgIdeal)
    ∧ quiescent_BgRefIdeal (hBgRefIdeal := hBgRefIdeal)
    ∧ quiescent_LossRows (hLossRows := hLossRows)
    ∧ quiescent_LossRowsIdeal (hLossRowsIdeal := hLossRowsIdeal)
    ∧ quiescent_LossRowsRefIdeal (hLossRowsRefIdeal := hLossRowsRefIdeal)
    ∧ quiescent_AdamwGu (hAdamwGu := hAdamwGu)
    ∧ quiescent_AdamwGuIdeal (hAdamwGuIdeal := hAdamwGuIdeal)
    ∧ quiescent_AdamwGuRefIdeal (hAdamwGuRefIdeal := hAdamwGuRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnBwdRefIdeal (hAttnBwdRefIdeal := hAttnBwdRefIdeal)
    ∧ quiescent_AttnBwdRefIdeal_pre_finite (hAttnBwdRefIdeal := hAttnBwdRefIdeal) (hPre_finite := hPre_finite)
    ∧ preserves_WgDown_WgDownIdeal
    ∧ algebraic_WgDownIdeal_WgDownRefIdeal (hWgDownIdeal := hWgDownIdeal) (hWgDownRefIdeal := hWgDownRefIdeal)
    ∧ preserves_WgUp_WgUpIdeal
    ∧ algebraic_WgUpIdeal_WgUpRefIdeal (hWgUpIdeal := hWgUpIdeal) (hWgUpRefIdeal := hWgUpRefIdeal)
    ∧ preserves_WgOut_WgOutIdeal
    ∧ algebraic_WgOutIdeal_WgOutRefIdeal (hWgOutIdeal := hWgOutIdeal) (hWgOutRefIdeal := hWgOutRefIdeal)
    ∧ preserves_DgDown_DgDownIdeal
    ∧ algebraic_DgDownIdeal_DgDownRefIdeal (hDgDownIdeal := hDgDownIdeal) (hDgDownRefIdeal := hDgDownRefIdeal)
    ∧ preserves_DgGate_DgGateIdeal
    ∧ algebraic_DgGateIdeal_DgGateRefIdeal (hDgGateIdeal := hDgGateIdeal) (hDgGateRefIdeal := hDgGateRefIdeal)
    ∧ preserves_DgUp_DgUpIdeal
    ∧ algebraic_DgUpIdeal_DgUpRefIdeal (hDgUpIdeal := hDgUpIdeal) (hDgUpRefIdeal := hDgUpRefIdeal)
    ∧ preserves_DgOut_DgOutIdeal
    ∧ algebraic_DgOutIdeal_DgOutRefIdeal (hDgOutIdeal := hDgOutIdeal) (hDgOutRefIdeal := hDgOutRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_ResgateBwd_ResgateBwdIdeal
    ∧ algebraic_ResgateBwdIdeal_ResgateBwdRefIdeal (hResgateBwdIdeal := hResgateBwdIdeal) (hResgateBwdRefIdeal := hResgateBwdRefIdeal)
    ∧ preserves_MmIn_MmInIdeal
    ∧ algebraic_MmInIdeal_MmInRefIdeal (hMmInIdeal := hMmInIdeal) (hMmInRefIdeal := hMmInRefIdeal)
    ∧ preserves_MmGate_MmGateIdeal
    ∧ algebraic_MmGateIdeal_MmGateRefIdeal (hMmGateIdeal := hMmGateIdeal) (hMmGateRefIdeal := hMmGateRefIdeal)
    ∧ preserves_MmOutDn_MmOutDnIdeal
    ∧ algebraic_MmOutDnIdeal_MmOutDnRefIdeal (hMmOutDnIdeal := hMmOutDnIdeal) (hMmOutDnRefIdeal := hMmOutDnRefIdeal)
    ∧ preserves_MmOutAt_MmOutAtIdeal
    ∧ algebraic_MmOutAtIdeal_MmOutAtRefIdeal (hMmOutAtIdeal := hMmOutAtIdeal) (hMmOutAtRefIdeal := hMmOutAtRefIdeal)
    ∧ preserves_MmDown_MmDownIdeal
    ∧ algebraic_MmDownIdeal_MmDownRefIdeal (hMmDownIdeal := hMmDownIdeal) (hMmDownRefIdeal := hMmDownRefIdeal)
    ∧ preserves_Swiglu_SwigluIdeal
    ∧ algebraic_SwigluIdeal_SwigluRefIdeal (hSwigluIdeal := hSwigluIdeal) (hSwigluRefIdeal := hSwigluRefIdeal)
    ∧ preserves_NormmodBwd_NormmodBwdIdeal
    ∧ algebraic_NormmodBwdIdeal_NormmodBwdRefIdeal (hNormmodBwdIdeal := hNormmodBwdIdeal) (hNormmodBwdRefIdeal := hNormmodBwdRefIdeal)
    ∧ preserves_Normmod_NormmodIdeal
    ∧ algebraic_NormmodIdeal_NormmodRefIdeal (hNormmodIdeal := hNormmodIdeal) (hNormmodRefIdeal := hNormmodRefIdeal)
    ∧ preserves_Dnpost_DnpostIdeal
    ∧ algebraic_DnpostIdeal_DnpostRefIdeal (hDnpostIdeal := hDnpostIdeal) (hDnpostRefIdeal := hDnpostRefIdeal)
    ∧ preserves_DnpostBwd_DnpostBwdIdeal
    ∧ algebraic_DnpostBwdIdeal_DnpostBwdRefIdeal (hDnpostBwdIdeal := hDnpostBwdIdeal) (hDnpostBwdRefIdeal := hDnpostBwdRefIdeal)
    ∧ preserves_Dnpre_DnpreIdeal
    ∧ algebraic_DnpreIdeal_DnpreRefIdeal (hDnpreIdeal := hDnpreIdeal) (hDnpreRefIdeal := hDnpreRefIdeal)
    ∧ preserves_DnpreBwd_DnpreBwdIdeal
    ∧ algebraic_DnpreBwdIdeal_DnpreBwdRefIdeal (hDnpreBwdIdeal := hDnpreBwdIdeal) (hDnpreBwdRefIdeal := hDnpreBwdRefIdeal)
    ∧ preserves_Conv_ConvIdeal
    ∧ algebraic_ConvIdeal_ConvRefIdeal (hConvIdeal := hConvIdeal) (hConvRefIdeal := hConvRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_KvCombine_KvCombineIdeal
    ∧ algebraic_KvCombineIdeal_KvCombineRefIdeal (hKvCombineIdeal := hKvCombineIdeal) (hKvCombineRefIdeal := hKvCombineRefIdeal)
    ∧ preserves_Bg_BgIdeal
    ∧ algebraic_BgIdeal_BgRefIdeal (hBgIdeal := hBgIdeal) (hBgRefIdeal := hBgRefIdeal)
    ∧ preserves_LossRows_LossRowsIdeal
    ∧ algebraic_LossRowsIdeal_LossRowsRefIdeal (hLossRowsIdeal := hLossRowsIdeal) (hLossRowsRefIdeal := hLossRowsRefIdeal)
    ∧ preserves_AdamwGu_AdamwGuIdeal
    ∧ algebraic_AdamwGuIdeal_AdamwGuRefIdeal (hAdamwGuIdeal := hAdamwGuIdeal) (hAdamwGuRefIdeal := hAdamwGuRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AttnBwd_AttnBwdIdeal
    ∧ algebraic_AttnBwdIdeal_AttnBwdRefIdeal_pre_finite (hAttnBwdIdeal := hAttnBwdIdeal) (hAttnBwdRefIdeal := hAttnBwdRefIdeal) (hPre_finite := hPre_finite)
-- ==== Pre_finite.lean ====
abbrev S16x8192x64 : Shape := ⟨3, ![16, 8192, 64]⟩
abbrev S2x8192x64 : Shape := ⟨3, ![2, 8192, 64]⟩
abbrev S16x1x128 : Shape := ⟨3, ![16, 1, 128]⟩
abbrev S8192x32 : Shape := ⟨2, ![8192, 32]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S2x8192x64 : S_.BroadcastsInDim S2x8192x64 (![] : Fin 0 → Fin S2x8192x64.rank)
  reducesTo_S2x8192x64_S_d0_1_2 : S2x8192x64.ReducesTo [0, 1, 2] S_
  bcast_S_S16x1x128 : S_.BroadcastsInDim S16x1x128 (![] : Fin 0 → Fin S16x1x128.rank)
  reducesTo_S16x1x128_S_d0_1_2 : S16x1x128.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg4 : FVec F S8192x32 .f32) (main_arg5 : FVec F S8192x32 .f32) (main_arg6 : FVec F S16x8192x64 .f32) (main_v13 : IVec S_ 1) (main_v16 : IVec S16x1x128 1) : IVec S_ 1 :=
  let main_c_5 : IVec S_ 1 := constantI S_ 1 1#1
  let main_v17 : IVec S_ 1 := (fun x v => Host.reduce IntOp.andi x v reducesTo_S16x1x128_S_d0_1_2 h_S_) main_v16 main_c_5
  let main_v18 : IVec S_ 1 := andi main_v13 main_v17
  let main_v19 : FVec F S8192x32 .f32 := Host.absf main_arg4
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192x32 .f32 := Host.absf main_arg5
  let main_cst_8 : FVec F S_ .f32 := constant S_ .f32 0x7F800000#32
  let main_v25 : FVec F S8192x32 .f32 := broadcastInDim S8192x32 ![] bcast_S_S8192x32 main_cst_8
  let main_v26 : IVec S8192x32 1 := cmpf .olt main_v24 main_v25
  let main_c_9 : IVec S_ 1 := constantI S_ 1 1#1
  let main_v27 : IVec S_ 1 := (fun x v => Host.reduce IntOp.andi x v reducesTo_S8192x32_S_d0_1 h_S_) main_v26 main_c_9
  let main_v28 : IVec S_ 1 := andi main_v23 main_v27
  let main_v29 : FVec F S16x8192x64 .f32 := Host.absf main_arg6
  let main_cst_10 : FVec F S_ .f32 := constant S_ .f32 0x7F800000#32
  let main_v30 : FVec F S16x8192x64 .f32 := broadcastInDim S16x8192x64 ![] bcast_S_S16x8192x64 main_cst_10
  let main_v31 : IVec S16x8192x64 1 := cmpf .olt main_v29 main_v30
  let main_c_11 : IVec S_ 1 := constantI S_ 1 1#1
  let main_v32 : IVec S_ 1 := (fun x v => Host.reduce IntOp.andi x v reducesTo_S16x8192x64_S_d0_1_2 h_S_) main_v31 main_c_11
  let main_v33 : IVec S_ 1 := andi main_v28 main_v32
  main_v33

def fn {F : FTy → Type} [FloatOps F] (main_arg0 : FVec F S16x8192x64 .f32) (main_arg1 : FVec F S2x8192x64 .f32) (main_arg2 : FVec F S2x8192x64 .f32) (main_arg3 : FVec F S16x1x128 .f32) (main_arg4 : FVec F S8192x32 .f32) (main_arg5 : FVec F S8192x32 .f32) (main_arg6 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S2x8192x64 .f32 := Host.absf main_arg1
  let main_cst_0 : FVec F S_ .f32 := constant S_ .f32 0x7F800000#32
  let main_v5 : FVec F S2x8192x64 .f32 := broadcastInDim S2x8192x64 ![] bcast_S_S2x8192x64 main_cst_0
  let main_v6 : IVec S2x8192x64 1 := cmpf .olt main_v4 main_v5
  let main_c_1 : IVec S_ 1 := constantI S_ 1 1#1
  let main_v7 : IVec S_ 1 := (fun x v => Host.reduce IntOp.andi x v reducesTo_S2x8192x64_S_d0_1_2 h_S_) main_v6 main_c_1
  let main_v8 : IVec S_ 1 := andi main_v3 main_v7
  let main_v9 : FVec F S2x8192x64 .f32 := Host.absf main_arg2
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  let main_c_3 : IVec S_ 1 := constantI S_ 1 1#1
  let main_v12 : IVec S_ 1 := (fun x v => Host.reduce IntOp.andi x v reducesTo_S2x8192x64_S_d0_1_2 h_S_) main_v11 main_c_3
  let main_v13 : IVec S_ 1 := andi main_v8 main_v12
  let main_v14 : FVec F S16x1x128 .f32 := Host.absf main_arg3
  let main_cst_4 : FVec F S_ .f32 := constant S_ .f32 0x7F800000#32
  let main_v15 : FVec F S16x1x128 .f32 := broadcastInDim S16x1x128 ![] bcast_S_S16x1x128 main_cst_4
  let main_v16 : IVec S16x1x128 1 := cmpf .olt main_v14 main_v15
  fn_part1 (F := F) main_arg4 main_arg5 main_arg6 main_v13 main_v16
-- ==== WgDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownIdeal.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgUp.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgUpIdeal.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgUpRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgOut.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgOutIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgOutRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DgDown.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgDownIdeal.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgDownRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgGate.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgGateIdeal.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgGateRefIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S_, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgUp.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgUpIdeal.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgUpRefIdeal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DgOut.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgOutIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgOutRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SwigluBwd.lean ====
abbrev S8192x5632 : Shape := ⟨2, ![8192, 5632]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .bf16⟩
  | .hbm, ⟨4, _⟩ => ⟨S8192x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdIdeal.lean ====
abbrev S8192x5632 : Shape := ⟨2, ![8192, 5632]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .bf16⟩
  | .hbm, ⟨4, _⟩ => ⟨S8192x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S8192x5632 : Shape := ⟨2, ![8192, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .bf16⟩
  | .hbm, ⟨26, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== ResgateBwd.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ResgateBwdIdeal.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ResgateBwdRefIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== MmIn.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInIdeal.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmGate.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateIdeal.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmOutDn.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDnIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDnRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOutAt.lean ====
abbrev S8192x1024 : Shape := ⟨2, ![8192, 1024]⟩
abbrev S1024x2048 : Shape := ⟨2, ![1024, 2048]⟩
abbrev S8192x2048 : Shape := ⟨2, ![8192, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MmOutAtIdeal.lean ====
abbrev S8192x1024 : Shape := ⟨2, ![8192, 1024]⟩
abbrev S1024x2048 : Shape := ⟨2, ![1024, 2048]⟩
abbrev S8192x2048 : Shape := ⟨2, ![8192, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MmOutAtRefIdeal.lean ====
abbrev S8192x1024 : Shape := ⟨2, ![8192, 1024]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MmDown.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MmDownIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MmDownRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Swiglu.lean ====
abbrev S8192x5632 : Shape := ⟨2, ![8192, 5632]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluIdeal.lean ====
abbrev S8192x5632 : Shape := ⟨2, ![8192, 5632]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S8192x5632 : Shape := ⟨2, ![8192, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== NormmodBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== NormmodBwdIdeal.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== NormmodBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Normmod.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== NormmodIdeal.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== NormmodRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Dnpost.lean ====
abbrev S8192x1024 : Shape := ⟨2, ![8192, 1024]⟩
abbrev S8192x5632 : Shape := ⟨2, ![8192, 5632]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnpostIdeal.lean ====
abbrev S8192x1024 : Shape := ⟨2, ![8192, 1024]⟩
abbrev S8192x5632 : Shape := ⟨2, ![8192, 5632]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnpostRefIdeal.lean ====
abbrev S8192x1024 : Shape := ⟨2, ![8192, 1024]⟩
abbrev S8192x5632 : Shape := ⟨2, ![8192, 5632]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x1x128, .f32⟩
  | .hbm, ⟨19, _⟩ => ⟨S8192x8x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== DnpostBwd.lean ====
abbrev S8192x1024 : Shape := ⟨2, ![8192, 1024]⟩
abbrev S8192x5632 : Shape := ⟨2, ![8192, 5632]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DnpostBwdIdeal.lean ====
abbrev S8192x1024 : Shape := ⟨2, ![8192, 1024]⟩
abbrev S8192x5632 : Shape := ⟨2, ![8192, 5632]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DnpostBwdRefIdeal.lean ====
abbrev S8192x1024 : Shape := ⟨2, ![8192, 1024]⟩
abbrev S8192x5632 : Shape := ⟨2, ![8192, 5632]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S128 : Shape := ⟨1, ![128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1x128, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x128, .f32⟩
  | .hbm, ⟨22, _⟩ => ⟨S8192x8x128, .f32⟩
  | .hbm, ⟨23, _⟩ => ⟨S1x1x128, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8192x8x128, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S8192x8x128, .f32⟩
  | .hbm, ⟨41, _⟩ => ⟨S8192x1024, .f32⟩
  | .hbm, ⟨42, _⟩ => ⟨S8192x8x128, .f32⟩
  | .hbm, ⟨43, _⟩ => ⟨S8192x8x128, .f32⟩
  | .hbm, ⟨44, _⟩ => ⟨S8192x8x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x1024, .f32⟩
  | .hbm, ⟨50, _⟩ => ⟨S8192x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S8192x8x128, .f32⟩
  | .hbm, ⟨55, _⟩ => ⟨S8192x8x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S8192x8x128, .f32⟩
  | .hbm, ⟨60, _⟩ => ⟨S_, .f32⟩
  | .hbm, ⟨61, _⟩ => ⟨S8192x8, .f32⟩
  | .hbm, ⟨62, _⟩ => ⟨S8192x8x1, .f32⟩
  | .hbm, ⟨63, _⟩ => ⟨S8192x8x128, .f32⟩
  | .hbm, ⟨64, _⟩ => ⟨S8192x8x128, .f32⟩
  | .hbm, ⟨65, _⟩ => ⟨S8192x8x1, .f32⟩
  | .hbm, ⟨66, _⟩ => ⟨S_, .f32⟩
  | .hbm, ⟨67, _⟩ => ⟨S8192x8x1, .f32⟩
  | .hbm, ⟨68, _⟩ => ⟨S8192x8x1, .f32⟩
  | .hbm, ⟨69, _⟩ => ⟨S_, .f32⟩
  | .hbm, ⟨70, _⟩ => ⟨S8192x8, .f32⟩
  | .hbm, ⟨71, _⟩ => ⟨S8192x8x128, .f32⟩
  | .hbm, ⟨72, _⟩ => ⟨S8192x8x128, .f32⟩
  | .hbm, ⟨73, _⟩ => ⟨S8192x8x128, .f32⟩
  | .hbm, ⟨74, _⟩ => ⟨S8192x8x128, .f32⟩
  | .hbm, ⟨75, _⟩ => ⟨S8192x8x128, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Dnpre.lean ====
abbrev S8192x3072 : Shape := ⟨2, ![8192, 3072]⟩
abbrev S4096x128 : Shape := ⟨2, ![4096, 128]⟩
abbrev S4096 : Shape := ⟨1, ![4096]⟩
abbrev S4096x1 : Shape := ⟨2, ![4096, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DnpreIdeal.lean ====
abbrev S8192x3072 : Shape := ⟨2, ![8192, 3072]⟩
abbrev S4096x128 : Shape := ⟨2, ![4096, 128]⟩
abbrev S4096 : Shape := ⟨1, ![4096]⟩
abbrev S4096x1 : Shape := ⟨2, ![4096, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DnpreRefIdeal.lean ====
abbrev S8192x3072 : Shape := ⟨2, ![8192, 3072]⟩
abbrev S_ : Shape := ⟨0, ![]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S_, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8x128, .f32⟩
  | .hbm, ⟨14, _⟩ => ⟨S8192x8x128, .f32⟩
  | .hbm, ⟨15, _⟩ => ⟨S_, .f32⟩
  | .hbm, ⟨16, _⟩ => ⟨S8192x8, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x128, .f32⟩
  | .hbm, ⟨37, _⟩ => ⟨S8192x8x128, .f32⟩
  | .hbm, ⟨38, _⟩ => ⟨S8192x1024, .f32⟩
  | .hbm, ⟨39, _⟩ => ⟨S8192x1024, .f32⟩
  | .hbm, ⟨40, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== DnpreBwd.lean ====
abbrev S8192x3072 : Shape := ⟨2, ![8192, 3072]⟩
abbrev S4096x128 : Shape := ⟨2, ![4096, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnpreBwdIdeal.lean ====
abbrev S8192x3072 : Shape := ⟨2, ![8192, 3072]⟩
abbrev S4096x128 : Shape := ⟨2, ![4096, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnpreBwdRefIdeal.lean ====
abbrev S8192x3072 : Shape := ⟨2, ![8192, 3072]⟩
abbrev S_ : Shape := ⟨0, ![]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x8x128, .f32⟩
  | .hbm, ⟨19, _⟩ => ⟨S8192x8x128, .f32⟩
  | .hbm, ⟨20, _⟩ => ⟨S_, .f32⟩
  | .hbm, ⟨21, _⟩ => ⟨S8192x8, .f32⟩
  | .hbm, ⟨22, _⟩ => ⟨S8192x8x1, .f32⟩
  | .hbm, ⟨23, _⟩ => ⟨S_, .f32⟩
  | .hbm, ⟨24, _⟩ => ⟨S8192x8x1, .f32⟩
  | .hbm, ⟨25, _⟩ => ⟨S8192x8x1, .f32⟩
  | .hbm, ⟨26, _⟩ => ⟨S8192x8x1, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S8192x8x128, .f32⟩
  | .hbm, ⟨32, _⟩ => ⟨S8192x8x128, .f32⟩
  | .hbm, ⟨33, _⟩ => ⟨S_, .f32⟩
  | .hbm, ⟨34, _⟩ => ⟨S8192x8x128, .f32⟩
  | .hbm, ⟨35, _⟩ => ⟨S8192x8x128, .f32⟩
  | .hbm, ⟨36, _⟩ => ⟨S8192x8x128, .f32⟩
  | .hbm, ⟨37, _⟩ => ⟨S8192x8x128, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S8192x8x1, .f32⟩
  | .hbm, ⟨45, _⟩ => ⟨S8192x8x1, .f32⟩
  | .hbm, ⟨46, _⟩ => ⟨S_, .f32⟩
  | .hbm, ⟨47, _⟩ => ⟨S8192x8x1, .f32⟩
  | .hbm, ⟨48, _⟩ => ⟨S8192x8x1, .f32⟩
  | .hbm, ⟨49, _⟩ => ⟨S8192x8x128, .f32⟩
  | .hbm, ⟨50, _⟩ => ⟨S8192x8x128, .f32⟩
  | .hbm, ⟨51, _⟩ => ⟨S8192x1024, .f32⟩
  | .hbm, ⟨52, _⟩ => ⟨S8192x1024, .f32⟩
  | .hbm, ⟨53, _⟩ => ⟨S8192x3072, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x8x128, .f32⟩
  | .hbm, ⟨58, _⟩ => ⟨S8192x8x128, .f32⟩
  | .hbm, ⟨59, _⟩ => ⟨S8192x8x128, .f32⟩
  | .hbm, ⟨60, _⟩ => ⟨S_, .f32⟩
  | .hbm, ⟨61, _⟩ => ⟨S8192x8, .f32⟩
  | .hbm, ⟨62, _⟩ => ⟨S8192x8x1, .f32⟩
  | .hbm, ⟨63, _⟩ => ⟨S8192x8x128, .f32⟩
  | .hbm, ⟨64, _⟩ => ⟨S8192x8x128, .f32⟩
  | .hbm, ⟨65, _⟩ => ⟨S8192x8x1, .f32⟩
  | .hbm, ⟨66, _⟩ => ⟨S_, .f32⟩
  | .hbm, ⟨67, _⟩ => ⟨S8192x8, .f32⟩
  | .hbm, ⟨68, _⟩ => ⟨S8192x8x128, .f32⟩
  | .hbm, ⟨69, _⟩ => ⟨S8192x8x128, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S8192x1024, .f32⟩
  | .hbm, ⟨74, _⟩ => ⟨S_, .f32⟩
  | .hbm, ⟨75, _⟩ => ⟨S8192x8x128, .f32⟩
  | .hbm, ⟨76, _⟩ => ⟨S8192x8x128, .f32⟩
  | .hbm, ⟨77, _⟩ => ⟨S8192x8x128, .f32⟩
  | .hbm, ⟨78, _⟩ => ⟨S_, .f32⟩
  | .hbm, ⟨79, _⟩ => ⟨S8192x8, .f32⟩
  | .hbm, ⟨80, _⟩ => ⟨S8192x8x1, .f32⟩
  | .hbm, ⟨81, _⟩ => ⟨S8192x8x128, .f32⟩
  | .hbm, ⟨82, _⟩ => ⟨S8192x8x128, .f32⟩
  | .hbm, ⟨83, _⟩ => ⟨S8192x8x1, .f32⟩
  | .hbm, ⟨84, _⟩ => ⟨S_, .f32⟩
  | .hbm, ⟨85, _⟩ => ⟨S8192x8, .f32⟩
  | .hbm, ⟨86, _⟩ => ⟨S8192x8x128, .f32⟩
  | .hbm, ⟨87, _⟩ => ⟨S8192x8x128, .f32⟩
  | .hbm, ⟨88, _⟩ => ⟨S8192x8x128, .f32⟩
  | .hbm, ⟨89, _⟩ => ⟨S8192x8x128, .f32⟩
  | .hbm, ⟨90, _⟩ => ⟨S8192x8x128, .f32⟩
  | .hbm, ⟨91, _⟩ => ⟨S8192x1024, .f32⟩
  | .hbm, ⟨92, _⟩ => ⟨S8192x3072, .f32⟩
  | .hbm, ⟨93, _⟩ => ⟨S8192x3072, .f32⟩
  | .hbm, ⟨94, _⟩ => ⟨S8192x3072, .f32⟩
  | .hbm, ⟨95, _⟩ => ⟨S8192x3072, .f32⟩
  | .hbm, ⟨96, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Conv.lean ====
abbrev S8192x5632 : Shape := ⟨2, ![8192, 5632]⟩
abbrev S4x3072 : Shape := ⟨2, ![4, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvIdeal.lean ====
abbrev S8192x5632 : Shape := ⟨2, ![8192, 5632]⟩
abbrev S4x3072 : Shape := ⟨2, ![4, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S8192x5632 : Shape := ⟨2, ![8192, 5632]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S8192x3072, .f32⟩
  | .hbm, ⟨7, _⟩ => ⟨S1x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== ConvBwd.lean ====
abbrev S8192x5632 : Shape := ⟨2, ![8192, 5632]⟩
abbrev S4x3072 : Shape := ⟨2, ![4, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S512 : Shape := ⟨1, ![512]⟩
abbrev S1016x512 : Shape := ⟨2, ![1016, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .hbm, ⟨3, _⟩ => ⟨S8192x3072, .f32⟩
  | .hbm, ⟨4, _⟩ => ⟨S4x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S1024x512, .f32⟩
  | .local _ .vmem, ⟨11, _⟩ => ⟨S1024x512, .f32⟩
  | .local _ .vmem, ⟨12, _⟩ => ⟨S4x512, .f32⟩
  | .local _ .vmem, ⟨13, _⟩ => ⟨S4x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdIdeal.lean ====
abbrev S8192x5632 : Shape := ⟨2, ![8192, 5632]⟩
abbrev S4x3072 : Shape := ⟨2, ![4, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S512 : Shape := ⟨1, ![512]⟩
abbrev S1016x512 : Shape := ⟨2, ![1016, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .hbm, ⟨3, _⟩ => ⟨S8192x3072, .f32⟩
  | .hbm, ⟨4, _⟩ => ⟨S4x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S1024x512, .f32⟩
  | .local _ .vmem, ⟨11, _⟩ => ⟨S1024x512, .f32⟩
  | .local _ .vmem, ⟨12, _⟩ => ⟨S4x512, .f32⟩
  | .local _ .vmem, ⟨13, _⟩ => ⟨S4x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S8192x5632 : Shape := ⟨2, ![8192, 5632]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 81
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S4x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S_, .f32⟩
  | .hbm, ⟨8, _⟩ => ⟨S3x3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S3072, .f32⟩
  | .hbm, ⟨36, _⟩ => ⟨S1x3072, .f32⟩
  | .hbm, ⟨37, _⟩ => ⟨S8192x3072, .f32⟩
  | .hbm, ⟨38, _⟩ => ⟨S8192x3072, .f32⟩
  | .hbm, ⟨39, _⟩ => ⟨S_, .f32⟩
  | .hbm, ⟨40, _⟩ => ⟨S4x3072, .f32⟩
  | .hbm, ⟨41, _⟩ => ⟨S_, .f32⟩
  | .hbm, ⟨42, _⟩ => ⟨S8195x3072, .f32⟩
  | .hbm, ⟨43, _⟩ => ⟨S8192x3072, .f32⟩
  | .hbm, ⟨44, _⟩ => ⟨S_, .f32⟩
  | .hbm, ⟨45, _⟩ => ⟨S3072, .f32⟩
  | .hbm, ⟨46, _⟩ => ⟨S1x3072, .f32⟩
  | .hbm, ⟨47, _⟩ => ⟨S8192x3072, .f32⟩
  | .hbm, ⟨48, _⟩ => ⟨S8192x3072, .f32⟩
  | .hbm, ⟨49, _⟩ => ⟨S_, .f32⟩
  | .hbm, ⟨50, _⟩ => ⟨S4x3072, .f32⟩
  | .hbm, ⟨51, _⟩ => ⟨S4x3072, .f32⟩
  | .hbm, ⟨52, _⟩ => ⟨S_, .f32⟩
  | .hbm, ⟨53, _⟩ => ⟨S8195x3072, .f32⟩
  | .hbm, ⟨54, _⟩ => ⟨S8195x3072, .f32⟩
  | .hbm, ⟨55, _⟩ => ⟨S8192x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S8192x3072, .f32⟩
  | .hbm, ⟨60, _⟩ => ⟨S8192x3072, .f32⟩
  | .hbm, ⟨61, _⟩ => ⟨S_, .f32⟩
  | .hbm, ⟨62, _⟩ => ⟨S4x3072, .f32⟩
  | .hbm, ⟨63, _⟩ => ⟨S4x3072, .f32⟩
  | .hbm, ⟨64, _⟩ => ⟨S_, .f32⟩
  | .hbm, ⟨65, _⟩ => ⟨S8195x3072, .f32⟩
  | .hbm, ⟨66, _⟩ => ⟨S8195x3072, .f32⟩
  | .hbm, ⟨67, _⟩ => ⟨S8192x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S8192x3072, .f32⟩
  | .hbm, ⟨72, _⟩ => ⟨S8192x3072, .f32⟩
  | .hbm, ⟨73, _⟩ => ⟨S_, .f32⟩
  | .hbm, ⟨74, _⟩ => ⟨S4x3072, .f32⟩
  | .hbm, ⟨75, _⟩ => ⟨S4x3072, .f32⟩
  | .hbm, ⟨76, _⟩ => ⟨S_, .f32⟩
  | .hbm, ⟨77, _⟩ => ⟨S8195x3072, .f32⟩
  | .hbm, ⟨78, _⟩ => ⟨S8195x3072, .f32⟩
  | .hbm, ⟨79, _⟩ => ⟨S3x3072, .f32⟩
  | .hbm, ⟨80, _⟩ => ⟨S8192x3072, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== KvCombine.lean ====
abbrev S2x8192x64 : Shape := ⟨3, ![2, 8192, 64]⟩
abbrev S1x1024x64 : Shape := ⟨3, ![1, 1024, 64]⟩
abbrev S1x128x64 : Shape := ⟨3, ![1, 128, 64]⟩
abbrev S128x64 : Shape := ⟨2, ![128, 64]⟩
abbrev S1024x64 : Shape := ⟨2, ![1024, 64]⟩
abbrev S1x896x64 : Shape := ⟨3, ![1, 896, 64]⟩
abbrev S896x64 : Shape := ⟨2, ![896, 64]⟩

abbrev nBuf : Space → Nat
  | .hbm => 3
  | .vmem => 8
  | .smem => 0
  | _ => 0

abbrev bufTy : (tb : Table) → Fin (tcTables nBuf tb) → BufTy
  | .hbm, ⟨0, _⟩ => ⟨S2x8192x64, .f32⟩
  | .hbm, ⟨1, _⟩ => ⟨S2x8192x64, .f32⟩
  | .hbm, ⟨2, _⟩ => ⟨S2x8192x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x128x64, .f32⟩
  | .local _ .vmem, ⟨5, _⟩ => ⟨S1x128x64, .f32⟩
  | .local _ .vmem, ⟨6, _⟩ => ⟨S1x1024x64, .f32⟩
  | .local _ .vmem, ⟨7, _⟩ => ⟨S1x1024x64, .f32⟩
  | _, _ => ⟨S2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvCombineIdeal.lean ====
abbrev S2x8192x64 : Shape := ⟨3, ![2, 8192, 64]⟩
abbrev S1x1024x64 : Shape := ⟨3, ![1, 1024, 64]⟩
abbrev S1x128x64 : Shape := ⟨3, ![1, 128, 64]⟩
abbrev S128x64 : Shape := ⟨2, ![128, 64]⟩
abbrev S1024x64 : Shape := ⟨2, ![1024, 64]⟩
abbrev S1x896x64 : Shape := ⟨3, ![1, 896, 64]⟩
abbrev S896x64 : Shape := ⟨2, ![896, 64]⟩

abbrev nBuf : Space → Nat
  | .hbm => 3
  | .vmem => 8
  | .smem => 0
  | _ => 0

abbrev bufTy : (tb : Table) → Fin (tcTables nBuf tb) → BufTy
  | .hbm, ⟨0, _⟩ => ⟨S2x8192x64, .f32⟩
  | .hbm, ⟨1, _⟩ => ⟨S2x8192x64, .f32⟩
  | .hbm, ⟨2, _⟩ => ⟨S2x8192x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x128x64, .f32⟩
  | .local _ .vmem, ⟨5, _⟩ => ⟨S1x128x64, .f32⟩
  | .local _ .vmem, ⟨6, _⟩ => ⟨S1x1024x64, .f32⟩
  | .local _ .vmem, ⟨7, _⟩ => ⟨S1x1024x64, .f32⟩
  | _, _ => ⟨S2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvCombineRefIdeal.lean ====
abbrev S2x8192x64 : Shape := ⟨3, ![2, 8192, 64]⟩
abbrev S_ : Shape := ⟨0, ![]⟩
abbrev S2x128x64 : Shape := ⟨3, ![2, 128, 64]⟩
abbrev S2x8064x64 : Shape := ⟨3, ![2, 8064, 64]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x64, .f32⟩
  | .hbm, ⟨1, _⟩ => ⟨S2x8192x64, .f32⟩
  | .hbm, ⟨2, _⟩ => ⟨S_, .f32⟩
  | .hbm, ⟨3, _⟩ => ⟨S2x8192x64, .f32⟩
  | .hbm, ⟨4, _⟩ => ⟨S_, .f32⟩
  | .hbm, ⟨5, _⟩ => ⟨S2x128x64, .f32⟩
  | .hbm, ⟨6, _⟩ => ⟨S2x8064x64, .f32⟩
  | .hbm, ⟨7, _⟩ => ⟨S2x8192x64, .f32⟩
  | .hbm, ⟨8, _⟩ => ⟨S_, .f32⟩
  | .hbm, ⟨9, _⟩ => ⟨S2x128x64, .f32⟩
  | .hbm, ⟨10, _⟩ => ⟨S2x128x64, .f32⟩
  | .hbm, ⟨11, _⟩ => ⟨S2x8064x64, .f32⟩
  | .hbm, ⟨12, _⟩ => ⟨S_, .f32⟩
  | .hbm, ⟨13, _⟩ => ⟨S2x8192x64, .f32⟩
  | .hbm, ⟨14, _⟩ => ⟨S2x8192x64, .f32⟩
  | _, _ => ⟨S2x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Bg.lean ====
abbrev S8192x5632 : Shape := ⟨2, ![8192, 5632]⟩
abbrev S1x128 : Shape := ⟨2, ![1, 128]⟩
abbrev S8192x128 : Shape := ⟨2, ![8192, 128]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1x128, .f32⟩
  | .hbm, ⟨2, _⟩ => ⟨S1x128, .f32⟩
  | .hbm, ⟨3, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg1.toNat, c42_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== BgIdeal.lean ====
abbrev S8192x5632 : Shape := ⟨2, ![8192, 5632]⟩
abbrev S1x128 : Shape := ⟨2, ![1, 128]⟩
abbrev S8192x128 : Shape := ⟨2, ![8192, 128]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1x128, .f32⟩
  | .hbm, ⟨2, _⟩ => ⟨S1x128, .f32⟩
  | .hbm, ⟨3, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg1.toNat, c42_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== BgRefIdeal.lean ====
abbrev S8192x5632 : Shape := ⟨2, ![8192, 5632]⟩
abbrev S1x128 : Shape := ⟨2, ![1, 128]⟩
abbrev S8192x8 : Shape := ⟨2, ![8192, 8]⟩
abbrev S_ : Shape := ⟨0, ![]⟩
abbrev S1x8 : Shape := ⟨2, ![1, 8]⟩
abbrev S8192x112 : Shape := ⟨2, ![8192, 112]⟩
abbrev S8192x128 : Shape := ⟨2, ![8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x128, .f32⟩
  | .hbm, ⟨2, _⟩ => ⟨S1x128, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S_, .f32⟩
  | .hbm, ⟨11, _⟩ => ⟨S8192x8, .f32⟩
  | .hbm, ⟨12, _⟩ => ⟨S8192x8, .f32⟩
  | .hbm, ⟨13, _⟩ => ⟨S1x8, .f32⟩
  | .hbm, ⟨14, _⟩ => ⟨S1x8, .f32⟩
  | .hbm, ⟨15, _⟩ => ⟨S1x8, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S_, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .i1⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S8192x112, .f32⟩
  | .hbm, ⟨37, _⟩ => ⟨S8192x128, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== LossRows.lean ====
abbrev S8192x2048 : Shape := ⟨2, ![8192, 2048]⟩
abbrev S1x2048 : Shape := ⟨2, ![1, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x128, .f32⟩
  | .local _ .vmem, ⟨6, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== LossRowsIdeal.lean ====
abbrev S8192x2048 : Shape := ⟨2, ![8192, 2048]⟩
abbrev S1x2048 : Shape := ⟨2, ![1, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x128, .f32⟩
  | .local _ .vmem, ⟨6, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== LossRowsRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x128 : Shape := ⟨2, ![8192, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== AdamwGu.lean ====
abbrev S4096x1408 : Shape := ⟨2, ![4096, 1408]⟩
abbrev S4x4096x1408 : Shape := ⟨3, ![4, 4096, 1408]⟩
abbrev S256x1408 : Shape := ⟨2, ![256, 1408]⟩
abbrev S4x256x1408 : Shape := ⟨3, ![4, 256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4x4096x1408, .bf16⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S4x256x1408, .bf16⟩
  | .local _ .vmem, ⟨7, _⟩ => ⟨S4x256x1408, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwGuIdeal.lean ====
abbrev S4096x1408 : Shape := ⟨2, ![4096, 1408]⟩
abbrev S4x4096x1408 : Shape := ⟨3, ![4, 4096, 1408]⟩
abbrev S256x1408 : Shape := ⟨2, ![256, 1408]⟩
abbrev S4x256x1408 : Shape := ⟨3, ![4, 256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4x4096x1408, .bf16⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S4x256x1408, .bf16⟩
  | .local _ .vmem, ⟨7, _⟩ => ⟨S4x256x1408, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwGuRefIdeal.lean ====
abbrev S4096x1408 : Shape := ⟨2, ![4096, 1408]⟩
abbrev S4x4096x1408 : Shape := ⟨3, ![4, 4096, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4x4096x1408, .bf16⟩
  | .hbm, ⟨4, _⟩ => ⟨S4x4096x1408, .f32⟩
  | .hbm, ⟨5, _⟩ => ⟨S_, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S_, .f32⟩
  | .hbm, ⟨11, _⟩ => ⟨S4096x1408, .f32⟩
  | .hbm, ⟨12, _⟩ => ⟨S4096x1408, .f32⟩
  | .hbm, ⟨13, _⟩ => ⟨S4096x1408, .f32⟩
  | .hbm, ⟨14, _⟩ => ⟨S_, .f32⟩
  | .hbm, ⟨15, _⟩ => ⟨S4096x1408, .f32⟩
  | .hbm, ⟨16, _⟩ => ⟨S4096x1408, .f32⟩
  | .hbm, ⟨17, _⟩ => ⟨S4096x1408, .f32⟩
  | .hbm, ⟨18, _⟩ => ⟨S_, .f32⟩
  | .hbm, ⟨19, _⟩ => ⟨S4096x1408, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S_, .f32⟩
  | .hbm, ⟨26, _⟩ => ⟨S4096x1408, .f32⟩
  | .hbm, ⟨27, _⟩ => ⟨S4096x1408, .f32⟩
  | .hbm, ⟨28, _⟩ => ⟨S4096x1408, .f32⟩
  | .hbm, ⟨29, _⟩ => ⟨S_, .f32⟩
  | .hbm, ⟨30, _⟩ => ⟨S4096x1408, .f32⟩
  | .hbm, ⟨31, _⟩ => ⟨S4096x1408, .f32⟩
  | .hbm, ⟨32, _⟩ => ⟨S4096x1408, .f32⟩
  | .hbm, ⟨33, _⟩ => ⟨S_, .f32⟩
  | .hbm, ⟨34, _⟩ => ⟨S4096x1408, .f32⟩
  | .hbm, ⟨35, _⟩ => ⟨S4096x1408, .f32⟩
  | .hbm, ⟨36, _⟩ => ⟨S4096x1408, .f32⟩
  | .hbm, ⟨37, _⟩ => ⟨S_, .f32⟩
  | .hbm, ⟨38, _⟩ => ⟨S4096x1408, .f32⟩
  | .hbm, ⟨39, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwIn.lean ====
abbrev S4096x674 : Shape := ⟨2, ![4096, 674]⟩
abbrev S4x4096x674 : Shape := ⟨3, ![4, 4096, 674]⟩
abbrev S256x674 : Shape := ⟨2, ![256, 674]⟩
abbrev S4x256x674 : Shape := ⟨3, ![4, 256, 674]⟩
abbrev S1x256x674 : Shape := ⟨3, ![1, 256, 674]⟩

abbrev nBuf : Space → Nat
  | .hbm => 8
  | .vmem => 16
  | .smem => 0
  | _ => 0

abbrev bufTy : (tb : Table) → Fin (tcTables nBuf tb) → BufTy
  | .hbm, ⟨0, _⟩ => ⟨S4096x674, .f32⟩
  | .hbm, ⟨1, _⟩ => ⟨S4096x674, .f32⟩
  | .hbm, ⟨2, _⟩ => ⟨S4096x674, .f32⟩
  | .hbm, ⟨3, _⟩ => ⟨S4x4096x674, .bf16⟩
  | .hbm, ⟨4, _⟩ => ⟨S4096x674, .f32⟩
  | .hbm, ⟨5, _⟩ => ⟨S4096x674, .f32⟩
  | .hbm, ⟨6, _⟩ => ⟨S4096x674, .f32⟩
  | .hbm, ⟨7, _⟩ => ⟨S4096x674, .f32⟩
  | .local _ .vmem, ⟨0, _⟩ => ⟨S256x674, .f32⟩
  | .local _ .vmem, ⟨1, _⟩ => ⟨S256x674, .f32⟩
  | .local _ .vmem, ⟨2, _⟩ => ⟨S256x674, .f32⟩
  | .local _ .vmem, ⟨3, _⟩ => ⟨S256x674, .f32⟩
  | .local _ .vmem, ⟨4, _⟩ => ⟨S256x674, .f32⟩
  | .local _ .vmem, ⟨5, _⟩ => ⟨S256x674, .f32⟩
  | .local _ .vmem, ⟨6, _⟩ => ⟨S4x256x674, .bf16⟩
  | .local _ .vmem, ⟨7, _⟩ => ⟨S4x256x674, .bf16⟩
  | .local _ .vmem, ⟨8, _⟩ => ⟨S256x674, .f32⟩
  | .local _ .vmem, ⟨9, _⟩ => ⟨S256x674, .f32⟩
  | .local _ .vmem, ⟨10, _⟩ => ⟨S256x674, .f32⟩
  | .local _ .vmem, ⟨11, _⟩ => ⟨S256x674, .f32⟩
  | .local _ .vmem, ⟨12, _⟩ => ⟨S256x674, .f32⟩
  | .local _ .vmem, ⟨13, _⟩ => ⟨S256x674, .f32⟩
  | .local _ .vmem, ⟨14, _⟩ => ⟨S256x674, .f32⟩
  | .local _ .vmem, ⟨15, _⟩ => ⟨S256x674, .f32⟩
  | _, _ => ⟨S4096x674, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x674 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x674 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x674 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x674 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x674 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x674 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x674 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x674 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInIdeal.lean ====
abbrev S4096x674 : Shape := ⟨2, ![4096, 674]⟩
abbrev S4x4096x674 : Shape := ⟨3, ![4, 4096, 674]⟩
abbrev S256x674 : Shape := ⟨2, ![256, 674]⟩
abbrev S4x256x674 : Shape := ⟨3, ![4, 256, 674]⟩
abbrev S1x256x674 : Shape := ⟨3, ![1, 256, 674]⟩

abbrev nBuf : Space → Nat
  | .hbm => 8
  | .vmem => 16
  | .smem => 0
  | _ => 0

abbrev bufTy : (tb : Table) → Fin (tcTables nBuf tb) → BufTy
  | .hbm, ⟨0, _⟩ => ⟨S4096x674, .f32⟩
  | .hbm, ⟨1, _⟩ => ⟨S4096x674, .f32⟩
  | .hbm, ⟨2, _⟩ => ⟨S4096x674, .f32⟩
  | .hbm, ⟨3, _⟩ => ⟨S4x4096x674, .bf16⟩
  | .hbm, ⟨4, _⟩ => ⟨S4096x674, .f32⟩
  | .hbm, ⟨5, _⟩ => ⟨S4096x674, .f32⟩
  | .hbm, ⟨6, _⟩ => ⟨S4096x674, .f32⟩
  | .hbm, ⟨7, _⟩ => ⟨S4096x674, .f32⟩
  | .local _ .vmem, ⟨0, _⟩ => ⟨S256x674, .f32⟩
  | .local _ .vmem, ⟨1, _⟩ => ⟨S256x674, .f32⟩
  | .local _ .vmem, ⟨2, _⟩ => ⟨S256x674, .f32⟩
  | .local _ .vmem, ⟨3, _⟩ => ⟨S256x674, .f32⟩
  | .local _ .vmem, ⟨4, _⟩ => ⟨S256x674, .f32⟩
  | .local _ .vmem, ⟨5, _⟩ => ⟨S256x674, .f32⟩
  | .local _ .vmem, ⟨6, _⟩ => ⟨S4x256x674, .bf16⟩
  | .local _ .vmem, ⟨7, _⟩ => ⟨S4x256x674, .bf16⟩
  | .local _ .vmem, ⟨8, _⟩ => ⟨S256x674, .f32⟩
  | .local _ .vmem, ⟨9, _⟩ => ⟨S256x674, .f32⟩
  | .local _ .vmem, ⟨10, _⟩ => ⟨S256x674, .f32⟩
  | .local _ .vmem, ⟨11, _⟩ => ⟨S256x674, .f32⟩
  | .local _ .vmem, ⟨12, _⟩ => ⟨S256x674, .f32⟩
  | .local _ .vmem, ⟨13, _⟩ => ⟨S256x674, .f32⟩
  | .local _ .vmem, ⟨14, _⟩ => ⟨S256x674, .f32⟩
  | .local _ .vmem, ⟨15, _⟩ => ⟨S256x674, .f32⟩
  | _, _ => ⟨S4096x674, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x674 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x674 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x674 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x674 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x674 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x674 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x674 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x674 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInRefIdeal.lean ====
abbrev S4096x674 : Shape := ⟨2, ![4096, 674]⟩
abbrev S4x4096x674 : Shape := ⟨3, ![4, 4096, 674]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x674, .f32⟩
  | .hbm, ⟨1, _⟩ => ⟨S4096x674, .f32⟩
  | .hbm, ⟨2, _⟩ => ⟨S4096x674, .f32⟩
  | .hbm, ⟨3, _⟩ => ⟨S4x4096x674, .bf16⟩
  | .hbm, ⟨4, _⟩ => ⟨S4x4096x674, .f32⟩
  | .hbm, ⟨5, _⟩ => ⟨S_, .f32⟩
  | .hbm, ⟨6, _⟩ => ⟨S4096x674, .f32⟩
  | .hbm, ⟨7, _⟩ => ⟨S_, .f32⟩
  | .hbm, ⟨8, _⟩ => ⟨S4096x674, .f32⟩
  | .hbm, ⟨9, _⟩ => ⟨S4096x674, .f32⟩
  | .hbm, ⟨10, _⟩ => ⟨S_, .f32⟩
  | .hbm, ⟨11, _⟩ => ⟨S4096x674, .f32⟩
  | .hbm, ⟨12, _⟩ => ⟨S4096x674, .f32⟩
  | .hbm, ⟨13, _⟩ => ⟨S4096x674, .f32⟩
  | .hbm, ⟨14, _⟩ => ⟨S_, .f32⟩
  | .hbm, ⟨15, _⟩ => ⟨S4096x674, .f32⟩
  | .hbm, ⟨16, _⟩ => ⟨S4096x674, .f32⟩
  | .hbm, ⟨17, _⟩ => ⟨S4096x674, .f32⟩
  | .hbm, ⟨18, _⟩ => ⟨S_, .f32⟩
  | .hbm, ⟨19, _⟩ => ⟨S4096x674, .f32⟩
  | .hbm, ⟨20, _⟩ => ⟨S4096x674, .f32⟩
  | .hbm, ⟨21, _⟩ => ⟨S4096x674, .f32⟩
  | .hbm, ⟨22, _⟩ => ⟨S_, .f32⟩
  | .hbm, ⟨23, _⟩ => ⟨S4096x674, .f32⟩
  | .hbm, ⟨24, _⟩ => ⟨S4096x674, .f32⟩
  | .hbm, ⟨25, _⟩ => ⟨S_, .f32⟩
  | .hbm, ⟨26, _⟩ => ⟨S4096x674, .f32⟩
  | .hbm, ⟨27, _⟩ => ⟨S4096x674, .f32⟩
  | .hbm, ⟨28, _⟩ => ⟨S4096x674, .f32⟩
  | .hbm, ⟨29, _⟩ => ⟨S_, .f32⟩
  | .hbm, ⟨30, _⟩ => ⟨S4096x674, .f32⟩
  | .hbm, ⟨31, _⟩ => ⟨S4096x674, .f32⟩
  | .hbm, ⟨32, _⟩ => ⟨S4096x674, .f32⟩
  | .hbm, ⟨33, _⟩ => ⟨S_, .f32⟩
  | .hbm, ⟨34, _⟩ => ⟨S4096x674, .f32⟩
  | .hbm, ⟨35, _⟩ => ⟨S4096x674, .f32⟩
  | .hbm, ⟨36, _⟩ => ⟨S4096x674, .f32⟩
  | .hbm, ⟨37, _⟩ => ⟨S_, .f32⟩
  | .hbm, ⟨38, _⟩ => ⟨S4096x674, .f32⟩
  | .hbm, ⟨39, _⟩ => ⟨S4096x674, .f32⟩
  | _, _ => ⟨S4096x674, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwOut.lean ====
abbrev S512x2048 : Shape := ⟨2, ![512, 2048]⟩
abbrev S4x512x2048 : Shape := ⟨3, ![4, 512, 2048]⟩
abbrev S256x2048 : Shape := ⟨2, ![256, 2048]⟩
abbrev S4x256x2048 : Shape := ⟨3, ![4, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S4x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S4x256x2048, .bf16⟩
  | .local _ .vmem, ⟨7, _⟩ => ⟨S4x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutIdeal.lean ====
abbrev S512x2048 : Shape := ⟨2, ![512, 2048]⟩
abbrev S4x512x2048 : Shape := ⟨3, ![4, 512, 2048]⟩
abbrev S256x2048 : Shape := ⟨2, ![256, 2048]⟩
abbrev S4x256x2048 : Shape := ⟨3, ![4, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S4x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S4x256x2048, .bf16⟩
  | .local _ .vmem, ⟨7, _⟩ => ⟨S4x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutRefIdeal.lean ====
abbrev S512x2048 : Shape := ⟨2, ![512, 2048]⟩
abbrev S4x512x2048 : Shape := ⟨3, ![4, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S4x512x2048, .bf16⟩
  | .hbm, ⟨4, _⟩ => ⟨S4x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwDown.lean ====
abbrev S1408x2048 : Shape := ⟨2, ![1408, 2048]⟩
abbrev S4x1408x2048 : Shape := ⟨3, ![4, 1408, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S4x1408x2048, .bf16⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwDownRefIdeal.lean ====
abbrev S1408x2048 : Shape := ⟨2, ![1408, 2048]⟩
abbrev S4x1408x2048 : Shape := ⟨3, ![4, 1408, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S4x1408x2048, .bf16⟩
  | .hbm, ⟨4, _⟩ => ⟨S4x1408x2048, .f32⟩
  | .hbm, ⟨5, _⟩ => ⟨S_, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S_, .f32⟩
  | .hbm, ⟨11, _⟩ => ⟨S1408x2048, .f32⟩
  | .hbm, ⟨12, _⟩ => ⟨S1408x2048, .f32⟩
  | .hbm, ⟨13, _⟩ => ⟨S1408x2048, .f32⟩
  | .hbm, ⟨14, _⟩ => ⟨S_, .f32⟩
  | .hbm, ⟨15, _⟩ => ⟨S1408x2048, .f32⟩
  | .hbm, ⟨16, _⟩ => ⟨S1408x2048, .f32⟩
  | .hbm, ⟨17, _⟩ => ⟨S1408x2048, .f32⟩
  | .hbm, ⟨18, _⟩ => ⟨S_, .f32⟩
  | .hbm, ⟨19, _⟩ => ⟨S1408x2048, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S1408x2048, .f32⟩
  | .hbm, ⟨33, _⟩ => ⟨S_, .f32⟩
  | .hbm, ⟨34, _⟩ => ⟨S1408x2048, .f32⟩
  | .hbm, ⟨35, _⟩ => ⟨S1408x2048, .f32⟩
  | .hbm, ⟨36, _⟩ => ⟨S1408x2048, .f32⟩
  | .hbm, ⟨37, _⟩ => ⟨S_, .f32⟩
  | .hbm, ⟨38, _⟩ => ⟨S1408x2048, .f32⟩
  | .hbm, ⟨39, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AttnBwd.lean ====
abbrev S16x8192x64 : Shape := ⟨3, ![16, 8192, 64]⟩
abbrev S2x8192x64 : Shape := ⟨3, ![2, 8192, 64]⟩
abbrev S16x1x128 : Shape := ⟨3, ![16, 1, 128]⟩
abbrev S8192x32 : Shape := ⟨2, ![8192, 32]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S8192x64 : Shape := ⟨2, ![8192, 64]⟩
abbrev S8x128x64 : Shape := ⟨3, ![8, 128, 64]⟩
abbrev S1x128x64 : Shape := ⟨3, ![1, 128, 64]⟩
abbrev S8x1x128 : Shape := ⟨3, ![8, 1, 128]⟩
abbrev S128x64 : Shape := ⟨2, ![128, 64]⟩
abbrev S1x1x128 : Shape := ⟨3, ![1, 1, 128]⟩
abbrev S1x128 : Shape := ⟨2, ![1, 128]⟩
abbrev S128x128 : Shape := ⟨2, ![128, 128]⟩
abbrev S1 : Shape := ⟨1, ![1]⟩
abbrev S1x1 : Shape := ⟨2, ![1, 1]⟩
abbrev S128 : Shape := ⟨1, ![128]⟩
abbrev S128x1 : Shape := ⟨2, ![128, 1]⟩
abbrev S64x128 : Shape := ⟨2, ![64, 128]⟩
abbrev S1x128x1 : Shape := ⟨3, ![1, 128, 1]⟩
abbrev S1x1x1 : Shape := ⟨3, ![1, 1, 1]⟩

abbrev nBuf : Space → Nat
  | .hbm => 44
  | .vmem => 35
  | .smem => 0
  | _ => 0

abbrev bufTy : (tb : Table) → Fin (tcTables nBuf tb) → BufTy
  | .hbm, ⟨0, _⟩ => ⟨S16x8192x64, .f32⟩
  | .hbm, ⟨1, _⟩ => ⟨S2x8192x64, .f32⟩
  | .hbm, ⟨2, _⟩ => ⟨S2x8192x64, .f32⟩
  | .hbm, ⟨3, _⟩ => ⟨S16x1x128, .f32⟩
  | .hbm, ⟨4, _⟩ => ⟨S8192x32, .f32⟩
  | .hbm, ⟨5, _⟩ => ⟨S8192x32, .f32⟩
  | .hbm, ⟨6, _⟩ => ⟨S16x8192x64, .f32⟩
  | .hbm, ⟨7, _⟩ => ⟨S64, .i32⟩
  | .hbm, ⟨8, _⟩ => ⟨S64x1, .i32⟩
  | .hbm, ⟨9, _⟩ => ⟨S1x64, .i32⟩
  | .hbm, ⟨10, _⟩ => ⟨S_, .i32⟩
  | .hbm, ⟨11, _⟩ => ⟨S1x64, .i32⟩
  | .hbm, ⟨12, _⟩ => ⟨S1x64, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S_, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S1x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S8192x64, .f32⟩
  | .hbm, ⟨37, _⟩ => ⟨S8192x64, .f32⟩
  | .hbm, ⟨38, _⟩ => ⟨S16x8192x64, .f32⟩
  | .hbm, ⟨39, _⟩ => ⟨S2x8192x64, .f32⟩
  | .hbm, ⟨40, _⟩ => ⟨S2x8192x64, .f32⟩
  | .hbm, ⟨41, _⟩ => ⟨S2x8192x64, .f32⟩
  | .hbm, ⟨42, _⟩ => ⟨S2x8192x64, .f32⟩
  | .hbm, ⟨43, _⟩ => ⟨S16x1x128, .f32⟩
  | .local _ .vmem, ⟨0, _⟩ => ⟨S8x128x64, .f32⟩
  | .local _ .vmem, ⟨1, _⟩ => ⟨S8x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S8x1x128, .f32⟩
  | .local _ .vmem, ⟨11, _⟩ => ⟨S8x1x128, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | .local _ .vmem, ⟨18, _⟩ => ⟨S128x64, .f32⟩
  | .local _ .vmem, ⟨19, _⟩ => ⟨S128x64, .f32⟩
  | .local _ .vmem, ⟨20, _⟩ => ⟨S64x64, .f32⟩
  | .local _ .vmem, ⟨21, _⟩ => ⟨S8x128x64, .f32⟩
  | .local _ .vmem, ⟨22, _⟩ => ⟨S8x128x64, .f32⟩
  | .local _ .vmem, ⟨23, _⟩ => ⟨S8x128x64, .f32⟩
  | .local _ .vmem, ⟨24, _⟩ => ⟨S8x128x64, .f32⟩
  | .local _ .vmem, ⟨25, _⟩ => ⟨S1x128x64, .f32⟩
  | .local _ .vmem, ⟨26, _⟩ => ⟨S1x128x64, .f32⟩
  | .local _ .vmem, ⟨27, _⟩ => ⟨S1x128x64, .f32⟩
  | .local _ .vmem, ⟨28, _⟩ => ⟨S1x128x64, .f32⟩
  | .local _ .vmem, ⟨29, _⟩ => ⟨S1x128x64, .f32⟩
  | .local _ .vmem, ⟨30, _⟩ => ⟨S1x128x64, .f32⟩
  | .local _ .vmem, ⟨31, _⟩ => ⟨S1x128x64, .f32⟩
  | .local _ .vmem, ⟨32, _⟩ => ⟨S1x128x64, .f32⟩
  | .local _ .vmem, ⟨33, _⟩ => ⟨S8x1x128, .f32⟩
  | .local _ .vmem, ⟨34, _⟩ => ⟨S8x1x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev main_v21_4 : Ref sig .tc := ⟨.hbm, 42, rfl⟩
abbrev main_v21_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== AttnBwdIdeal.lean ====
variable {F : FTy → Type} [FloatOps F] [Named F]
def κ : String → Option EReal := fun
  | "mask" => some ⊥
  | _ => none
-- ==== AttnBwdRefIdeal.lean ====
abbrev S16x8192x64 : Shape := ⟨3, ![16, 8192, 64]⟩
abbrev S2x8192x64 : Shape := ⟨3, ![2, 8192, 64]⟩
abbrev S16x1x128 : Shape := ⟨3, ![16, 1, 128]⟩
abbrev S8192x32 : Shape := ⟨2, ![8192, 32]⟩
abbrev S2x128x64 : Shape := ⟨3, ![2, 128, 64]⟩
abbrev S2x8064x64 : Shape := ⟨3, ![2, 8064, 64]⟩
abbrev S16x8192x32 : Shape := ⟨3, ![16, 8192, 32]⟩
abbrev S1x8192x32 : Shape := ⟨3, ![1, 8192, 32]⟩
abbrev S2x8x64x128x64 : Shape := ⟨5, ![2, 8, 64, 128, 64]⟩
abbrev S128x32 : Shape := ⟨2, ![128, 32]⟩
abbrev S8064x32 : Shape := ⟨2, ![8064, 32]⟩
abbrev S2x8192x32 : Shape := ⟨3, ![2, 8192, 32]⟩
abbrev S2x64x128x64 : Shape := ⟨4, ![2, 64, 128, 64]⟩
abbrev S2x64x256x64 : Shape := ⟨4, ![2, 64, 256, 64]⟩
abbrev S2x64x256x8x128 : Shape := ⟨5, ![2, 64, 256, 8, 128]⟩
abbrev S2x8x64x128x256 : Shape := ⟨5, ![2, 8, 64, 128, 256]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x64x128x256 : Shape := ⟨5, ![1, 1, 64, 128, 256]⟩
abbrev S16x1x1 : Shape := ⟨3, ![16, 1, 1]⟩
abbrev S16 : Shape := ⟨1, ![16]⟩
abbrev S2x8 : Shape := ⟨2, ![2, 8]⟩
abbrev S2x8x1x1x1 : Shape := ⟨5, ![2, 8, 1, 1, 1]⟩
abbrev S2x8x64x128 : Shape := ⟨4, ![2, 8, 64, 128]⟩
abbrev S2x8x64x128x1 : Shape := ⟨5, ![2, 8, 64, 128, 1]⟩
abbrev S2x64x64x8x128 : Shape := ⟨5, ![2, 64, 64, 8, 128]⟩
abbrev S2x64x8x128x256 : Shape := ⟨5, ![2, 64, 8, 128, 256]⟩
abbrev S2x64x64x256 : Shape := ⟨4, ![2, 64, 64, 256]⟩
abbrev S2x8x1 : Shape := ⟨3, ![2, 8, 1]⟩
abbrev S2x64x8x128x64 : Shape := ⟨5, ![2, 64, 8, 128, 64]⟩

abbrev nBuf : Space → Nat
  | .hbm => 299
  | .vmem => 0
  | .smem => 0
  | _ => 0

abbrev hbmTy0_0 (i : Nat) : BufTy := match i % 128 with
  | 0 => ⟨S16x8192x64, .f32⟩
  | 1 => ⟨S2x8192x64, .f32⟩
  | 2 => ⟨S2x8192x64, .f32⟩
  | 3 => ⟨S16x1x128, .f32⟩
  | 4 => ⟨S8192x32, .f32⟩
  | 5 => ⟨S8192x32, .f32⟩
  | 6 => ⟨S16x8192x64, .f32⟩
  | 7 => ⟨S2x128x64, .f32⟩
  | 8 => ⟨S2x8064x64, .f32⟩
  | 9 => ⟨S2x8192x64, .f32⟩
  | 10 => ⟨S2x128x64, .f32⟩
  | 11 => ⟨S2x8064x64, .f32⟩
  | 12 => ⟨S2x8192x64, .f32⟩
  | 13 => ⟨S16x8192x32, .f32⟩
  | 14 => ⟨S16x8192x32, .f32⟩
  | 15 => ⟨S1x8192x32, .f32⟩
  | 16 => ⟨S16x8192x32, .f32⟩
  | 17 => ⟨S16x8192x32, .f32⟩
  | 18 => ⟨S1x8192x32, .f32⟩
  | 19 => ⟨S16x8192x32, .f32⟩
  | 20 => ⟨S16x8192x32, .f32⟩
  | 21 => ⟨S16x8192x32, .f32⟩
  | 22 => ⟨S1x8192x32, .f32⟩
  | 23 => ⟨S16x8192x32, .f32⟩
  | 24 => ⟨S16x8192x32, .f32⟩
  | 25 => ⟨S1x8192x32, .f32⟩
  | 26 => ⟨S16x8192x32, .f32⟩
  | 27 => ⟨S16x8192x32, .f32⟩
  | 28 => ⟨S16x8192x32, .f32⟩
  | 29 => ⟨S16x8192x64, .f32⟩
  | 30 => ⟨S2x8x64x128x64, .f32⟩
  | 31 => ⟨S128x32, .f32⟩
  | 32 => ⟨S8064x32, .f32⟩
  | 33 => ⟨S8192x32, .f32⟩
  | 34 => ⟨S128x32, .f32⟩
  | 35 => ⟨S8064x32, .f32⟩
  | 36 => ⟨S8192x32, .f32⟩
  | 37 => ⟨S2x8192x32, .f32⟩
  | 38 => ⟨S2x8192x32, .f32⟩
  | 39 => ⟨S1x8192x32, .f32⟩
  | 40 => ⟨S2x8192x32, .f32⟩
  | 41 => ⟨S2x8192x32, .f32⟩
  | 42 => ⟨S1x8192x32, .f32⟩
  | 43 => ⟨S2x8192x32, .f32⟩
  | 44 => ⟨S2x8192x32, .f32⟩
  | 45 => ⟨S2x8192x32, .f32⟩
  | 46 => ⟨S1x8192x32, .f32⟩
  | 47 => ⟨S2x8192x32, .f32⟩
  | 48 => ⟨S2x8192x32, .f32⟩
  | 49 => ⟨S1x8192x32, .f32⟩
  | 50 => ⟨S2x8192x32, .f32⟩
  | 51 => ⟨S2x8192x32, .f32⟩
  | 52 => ⟨S2x8192x32, .f32⟩
  | 53 => ⟨S2x8192x64, .f32⟩
  | 54 => ⟨S2x64x128x64, .f32⟩
  | 55 => ⟨S2x8192x32, .f32⟩
  | 56 => ⟨S2x8192x32, .f32⟩
  | 57 => ⟨S1x8192x32, .f32⟩
  | 58 => ⟨S2x8192x32, .f32⟩
  | 59 => ⟨S2x8192x32, .f32⟩
  | 60 => ⟨S1x8192x32, .f32⟩
  | 61 => ⟨S2x8192x32, .f32⟩
  | 62 => ⟨S2x8192x32, .f32⟩
  | 63 => ⟨S2x8192x32, .f32⟩
  | 64 => ⟨S1x8192x32, .f32⟩
  | 65 => ⟨S2x8192x32, .f32⟩
  | 66 => ⟨S2x8192x32, .f32⟩
  | 67 => ⟨S1x8192x32, .f32⟩
  | 68 => ⟨S2x8192x32, .f32⟩
  | 69 => ⟨S2x8192x32, .f32⟩
  | 70 => ⟨S2x8192x32, .f32⟩
  | 71 => ⟨S2x8192x64, .f32⟩
  | 72 => ⟨S2x64x128x64, .f32⟩
  | 73 => ⟨S2x64x256x64, .f32⟩
  | 74 => ⟨S2x64x128x64, .f32⟩
  | 75 => ⟨S2x64x128x64, .f32⟩
  | 76 => ⟨S2x64x256x64, .f32⟩
  | 77 => ⟨S2x64x256x8x128, .f32⟩
  | 78 => ⟨S2x8x64x128x256, .f32⟩
  | 79 => ⟨S_, .f32⟩
  | 80 => ⟨S2x8x64x128x256, .f32⟩
  | 81 => ⟨S2x8x64x128x256, .f32⟩
  | 82 => ⟨S128, .i32⟩
  | 83 => ⟨S128x1, .i32⟩
  | 84 => ⟨S256, .i32⟩
  | 85 => ⟨S1x256, .i32⟩
  | 86 => ⟨S128x256, .i32⟩
  | 87 => ⟨S128x256, .i32⟩
  | 88 => ⟨S128x256, .i1⟩
  | 89 => ⟨S_, .i32⟩
  | 90 => ⟨S128x1, .i32⟩
  | 91 => ⟨S128x1, .i32⟩
  | 92 => ⟨S128x256, .i32⟩
  | 93 => ⟨S128x256, .i32⟩
  | 94 => ⟨S128x256, .i1⟩
  | 95 => ⟨S128x256, .i1⟩
  | 96 => ⟨S64, .i32⟩
  | 97 => ⟨S64x1x1, .i32⟩
  | 98 => ⟨S_, .i32⟩
  | 99 => ⟨S64x1x1, .i32⟩
  | 100 => ⟨S64x1x1, .i1⟩
  | 101 => ⟨S_, .i32⟩
  | 102 => ⟨S1x256, .i32⟩
  | 103 => ⟨S1x256, .i1⟩
  | 104 => ⟨S1x1x256, .i1⟩
  | 105 => ⟨S64x1x256, .i1⟩
  | 106 => ⟨S64x1x256, .i1⟩
  | 107 => ⟨S64x1x256, .i1⟩
  | 108 => ⟨S1x128x256, .i1⟩
  | 109 => ⟨S64x128x256, .i1⟩
  | 110 => ⟨S64x128x256, .i1⟩
  | 111 => ⟨S64x128x256, .i1⟩
  | 112 => ⟨S1x1x64x128x256, .i1⟩
  | 113 => ⟨S_, .f32⟩
  | 114 => ⟨S_, .f32⟩
  | 115 => ⟨S2x8x64x128x256, .i1⟩
  | 116 => ⟨S2x8x64x128x256, .f32⟩
  | 117 => ⟨S2x8x64x128x256, .f32⟩
  | 118 => ⟨S_, .f32⟩
  | 119 => ⟨S2x8x64x128x256, .f32⟩
  | 120 => ⟨S16x1x1, .f32⟩
  | 121 => ⟨S16, .f32⟩
  | 122 => ⟨S2x8, .f32⟩
  | 123 => ⟨S2x8x1x1x1, .f32⟩
  | 124 => ⟨S_, .f32⟩
  | 125 => ⟨S2x8x64x128, .f32⟩
  | 126 => ⟨S2x8x64x128x1, .f32⟩
  | 127 => ⟨S2x8x64x128x256, .f32⟩
  | _ => ⟨S16x8192x64, .f32⟩

abbrev hbmTy0_1 (i : Nat) : BufTy := match i % 128 with
  | 0 => ⟨S2x8x64x128x256, .i1⟩
  | 1 => ⟨S2x8x64x128x256, .f32⟩
  | 2 => ⟨S_, .f32⟩
  | 3 => ⟨S2x8x64x128, .f32⟩
  | 4 => ⟨S2x8x64x128x1, .f32⟩
  | 5 => ⟨S2x8x64x128x1, .f32⟩
  | 6 => ⟨S2x8x64x128x1, .f32⟩
  | 7 => ⟨S2x8x64x128x1, .f32⟩
  | 8 => ⟨S2x8x64x128x1, .i1⟩
  | 9 => ⟨S2x8x64x128x1, .f32⟩
  | 10 => ⟨S2x8x64x128x1, .i1⟩
  | 11 => ⟨S_, .f32⟩
  | 12 => ⟨S2x8x64x128x1, .f32⟩
  | 13 => ⟨S_, .f32⟩
  | 14 => ⟨S2x8x64x128x1, .f32⟩
  | 15 => ⟨S_, .f32⟩
  | 16 => ⟨S2x8x64x128x1, .f32⟩
  | 17 => ⟨S2x8x64x128x1, .f32⟩
  | 18 => ⟨S2x8x64x128x1, .f32⟩
  | 19 => ⟨S2x8x64x128x1, .f32⟩
  | 20 => ⟨S2x8x64x128x1, .i1⟩
  | 21 => ⟨S2x8x64x128x1, .f32⟩
  | 22 => ⟨S2x8x64x128x1, .i1⟩
  | 23 => ⟨S_, .f32⟩
  | 24 => ⟨S2x8x64x128x1, .f32⟩
  | 25 => ⟨S_, .f32⟩
  | 26 => ⟨S2x8x64x128x1, .f32⟩
  | 27 => ⟨S_, .f32⟩
  | 28 => ⟨S2x8x64x128x1, .f32⟩
  | 29 => ⟨S2x8x64x128x1, .f32⟩
  | 30 => ⟨S2x8x64x128x1, .f32⟩
  | 31 => ⟨S2x8x64x128x256, .f32⟩
  | 32 => ⟨S2x8x64x128x256, .f32⟩
  | 33 => ⟨S2x8x64x128x256, .f32⟩
  | 34 => ⟨S_, .f32⟩
  | 35 => ⟨S2x8x64x128, .f32⟩
  | 36 => ⟨S2x8x64x128x1, .f32⟩
  | 37 => ⟨S2x8x64x128x1, .f32⟩
  | 38 => ⟨S2x8x64x128x1, .f32⟩
  | 39 => ⟨S2x8x64x128x1, .f32⟩
  | 40 => ⟨S2x8x64x128x1, .f32⟩
  | 41 => ⟨S2x8x64x128x256, .f32⟩
  | 42 => ⟨S2x8x64x128x256, .f32⟩
  | 43 => ⟨S2x8x64x128x1, .f32⟩
  | 44 => ⟨S_, .f32⟩
  | 45 => ⟨S2x8x64x128x1, .f32⟩
  | 46 => ⟨S2x8x64x128x1, .f32⟩
  | 47 => ⟨S2x64x64x8x128, .f32⟩
  | 48 => ⟨S2x8x64x128x64, .f32⟩
  | 49 => ⟨S16x8192x64, .f32⟩
  | 50 => ⟨S2x8x64x128x64, .f32⟩
  | 51 => ⟨S2x64x64x8x128, .f32⟩
  | 52 => ⟨S2x64x8x128x256, .f32⟩
  | 53 => ⟨S2x8x64x128x256, .f32⟩
  | 54 => ⟨S2x64x64x256, .f32⟩
  | 55 => ⟨S2x64x256x64, .f32⟩
  | 56 => ⟨S2x8x64x128x256, .f32⟩
  | 57 => ⟨S2x8x64x128x256, .f32⟩
  | 58 => ⟨S2x8x64x128x256, .f32⟩
  | 59 => ⟨S_, .f32⟩
  | 60 => ⟨S2x8x64x128, .f32⟩
  | 61 => ⟨S2x8x64x128x1, .f32⟩
  | 62 => ⟨S2x8x64x128x1, .f32⟩
  | 63 => ⟨S2x8x64x128x256, .f32⟩
  | 64 => ⟨S2x8x64x128x256, .f32⟩
  | 65 => ⟨S2x8x64x128x1, .f32⟩
  | 66 => ⟨S_, .f32⟩
  | 67 => ⟨S2x8x1, .f32⟩
  | 68 => ⟨S2x8x1x1x1, .f32⟩
  | 69 => ⟨S2x8x64x128x1, .f32⟩
  | 70 => ⟨S_, .f32⟩
  | 71 => ⟨S2x8x64x128, .f32⟩
  | 72 => ⟨S2x8x64x128x256, .f32⟩
  | 73 => ⟨S2x8x64x128x256, .f32⟩
  | 74 => ⟨S2x8x64x128x256, .f32⟩
  | 75 => ⟨S2x8x64x128x256, .f32⟩
  | 76 => ⟨S_, .f32⟩
  | 77 => ⟨S2x8x64x128, .f32⟩
  | 78 => ⟨S2x8x64x128x1, .f32⟩
  | 79 => ⟨S2x8x64x128x1, .f32⟩
  | 80 => ⟨S2x8x64x128x1, .f32⟩
  | 81 => ⟨S_, .f32⟩
  | 82 => ⟨S2x8x1, .f32⟩
  | 83 => ⟨S2x8x1x1x1, .f32⟩
  | 84 => ⟨S2x8x1x1x1, .f32⟩
  | 85 => ⟨S2x8x64x128x1, .f32⟩
  | 86 => ⟨S_, .f32⟩
  | 87 => ⟨S2x8x64x128, .f32⟩
  | 88 => ⟨S2x8x64x128, .f32⟩
  | 89 => ⟨S2x8x64x128x256, .f32⟩
  | 90 => ⟨S2x8x64x128x256, .f32⟩
  | 91 => ⟨S2x8x64x128x256, .f32⟩
  | 92 => ⟨S_, .f32⟩
  | 93 => ⟨S2x8, .f32⟩
  | 94 => ⟨S16, .f32⟩
  | 95 => ⟨S16x1x1, .f32⟩
  | 96 => ⟨S_, .f32⟩
  | 97 => ⟨S16x1x128, .f32⟩
  | 98 => ⟨S_, .f32⟩
  | 99 => ⟨S2x8x64x128x256, .f32⟩
  | 100 => ⟨S2x8x64x128x256, .f32⟩
  | 101 => ⟨S_, .f32⟩
  | 102 => ⟨S2x8x64x128x256, .f32⟩
  | 103 => ⟨S2x8x64x128x256, .f32⟩
  | 104 => ⟨S2x64x256x8x128, .f32⟩
  | 105 => ⟨S2x64x8x128x64, .f32⟩
  | 106 => ⟨S2x8x64x128x64, .f32⟩
  | 107 => ⟨S2x64x256x64, .f32⟩
  | 108 => ⟨S2x64x128x64, .f32⟩
  | 109 => ⟨S2x64x128x64, .f32⟩
  | 110 => ⟨S2x8192x64, .f32⟩
  | 111 => ⟨S2x8192x64, .f32⟩
  | 112 => ⟨S2x64x128x64, .f32⟩
  | 113 => ⟨S2x64x128x64, .f32⟩
  | 114 => ⟨S2x8192x64, .f32⟩
  | 115 => ⟨S2x8192x32, .f32⟩
  | 116 => ⟨S2x8192x32, .f32⟩
  | 117 => ⟨S2x8192x32, .f32⟩
  | 118 => ⟨S2x8192x32, .f32⟩
  | 119 => ⟨S2x8192x32, .f32⟩
  | 120 => ⟨S2x8192x32, .f32⟩
  | 121 => ⟨S2x8192x32, .f32⟩
  | 122 => ⟨S2x8192x32, .f32⟩
  | 123 => ⟨S2x8192x32, .f32⟩
  | 124 => ⟨S2x8192x32, .f32⟩
  | 125 => ⟨S2x8192x32, .f32⟩
  | 126 => ⟨S2x8192x32, .f32⟩
  | 127 => ⟨S2x8192x32, .f32⟩
  | _ => ⟨S16x8192x64, .f32⟩

abbrev hbmTy0_2 (i : Nat) : BufTy := match i % 128 with
  | 0 => ⟨S_, .f32⟩
  | 1 => ⟨S2x8192x64, .f32⟩
  | 2 => ⟨S_, .f32⟩
  | 3 => ⟨S2x8192x64, .f32⟩
  | 4 => ⟨S2x8192x64, .f32⟩
  | 5 => ⟨S2x8192x64, .f32⟩
  | 6 => ⟨S2x8192x32, .f32⟩
  | 7 => ⟨S2x8192x32, .f32⟩
  | 8 => ⟨S2x8192x32, .f32⟩
  | 9 => ⟨S2x8192x32, .f32⟩
  | 10 => ⟨S2x8192x32, .f32⟩
  | 11 => ⟨S2x8192x32, .f32⟩
  | 12 => ⟨S2x8192x32, .f32⟩
  | 13 => ⟨S2x8192x32, .f32⟩
  | 14 => ⟨S2x8192x32, .f32⟩
  | 15 => ⟨S2x8192x32, .f32⟩
  | 16 => ⟨S2x8192x32, .f32⟩
  | 17 => ⟨S2x8192x32, .f32⟩
  | 18 => ⟨S2x8192x32, .f32⟩
  | 19 => ⟨S_, .f32⟩
  | 20 => ⟨S2x8192x64, .f32⟩
  | 21 => ⟨S_, .f32⟩
  | 22 => ⟨S2x8192x64, .f32⟩
  | 23 => ⟨S2x8192x64, .f32⟩
  | 24 => ⟨S16x8192x64, .f32⟩
  | 25 => ⟨S16x8192x32, .f32⟩
  | 26 => ⟨S16x8192x32, .f32⟩
  | 27 => ⟨S16x8192x32, .f32⟩
  | 28 => ⟨S16x8192x32, .f32⟩
  | 29 => ⟨S16x8192x32, .f32⟩
  | 30 => ⟨S16x8192x32, .f32⟩
  | 31 => ⟨S16x8192x32, .f32⟩
  | 32 => ⟨S16x8192x32, .f32⟩
  | 33 => ⟨S16x8192x32, .f32⟩
  | 34 => ⟨S16x8192x32, .f32⟩
  | 35 => ⟨S16x8192x32, .f32⟩
  | 36 => ⟨S16x8192x32, .f32⟩
  | 37 => ⟨S16x8192x32, .f32⟩
  | 38 => ⟨S_, .f32⟩
  | 39 => ⟨S16x8192x64, .f32⟩
  | 40 => ⟨S_, .f32⟩
  | 41 => ⟨S16x8192x64, .f32⟩
  | 42 => ⟨S16x8192x64, .f32⟩
  | _ => ⟨S16x8192x64, .f32⟩

abbrev hbmTy (i : Nat) : BufTy := match i / 128 with
  | 0 => hbmTy0_0 i
  | 1 => hbmTy0_1 i
  | 2 => hbmTy0_2 i
  | _ => ⟨S16x8192x64, .f32⟩

abbrev bufTy : (tb : Table) → Fin (tcTables nBuf tb) → BufTy
  | .hbm, ⟨i, _⟩ => hbmTy i
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_c : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_c_0 : Ref sig .tc := ⟨.hbm, 98, rfl⟩
abbrev main_v89 : Ref sig .tc := ⟨.hbm, 99, rfl⟩
abbrev main_v90 : Ref sig .tc := ⟨.hbm, 100, rfl⟩
abbrev main_c_1 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_2 : Ref sig .tc := ⟨.hbm, 113, rfl⟩
abbrev main_call0_v0 : Ref sig .tc := ⟨.hbm, 114, rfl⟩
abbrev main_v102_1 : Ref sig .tc := ⟨.hbm, 115, rfl⟩
abbrev main_call0_v2 : Ref sig .tc := ⟨.hbm, 116, rfl⟩
abbrev main_v102_0 : Ref sig .tc := ⟨.hbm, 117, rfl⟩
abbrev main_call0_cst : Ref sig .tc := ⟨.hbm, 118, rfl⟩
abbrev main_v102_2 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_3 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_4 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_5 : Ref sig .tc := ⟨.hbm, 139, rfl⟩
abbrev main_v120 : Ref sig .tc := ⟨.hbm, 140, rfl⟩
abbrev main_cst_6 : Ref sig .tc := ⟨.hbm, 141, rfl⟩
abbrev main_v121 : Ref sig .tc := ⟨.hbm, 142, rfl⟩
abbrev main_cst_7 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_8 : Ref sig .tc := ⟨.hbm, 151, rfl⟩
abbrev main_v129 : Ref sig .tc := ⟨.hbm, 152, rfl⟩
abbrev main_cst_9 : Ref sig .tc := ⟨.hbm, 153, rfl⟩
abbrev main_v130 : Ref sig .tc := ⟨.hbm, 154, rfl⟩
abbrev main_cst_10 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_11 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_12 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_13 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_cst_14 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_cst_15 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_16 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_cst_17 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_cst_18 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_cst_19 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_cst_20 : Ref sig .tc := ⟨.hbm, 224, rfl⟩
abbrev main_v190 : Ref sig .tc := ⟨.hbm, 225, rfl⟩
abbrev main_call1_cst : Ref sig .tc := ⟨.hbm, 226, rfl⟩
abbrev main_call1_v0 : Ref sig .tc := ⟨.hbm, 227, rfl⟩
abbrev main_v191 : Ref sig .tc := ⟨.hbm, 228, rfl⟩
abbrev main_cst_21 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_cst_22 : Ref sig .tc := ⟨.hbm, 256, rfl⟩
abbrev main_v218 : Ref sig .tc := ⟨.hbm, 257, rfl⟩
abbrev main_cst_23 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_cst_24 : Ref sig .tc := ⟨.hbm, 275, rfl⟩
abbrev main_v235 : Ref sig .tc := ⟨.hbm, 276, rfl⟩
abbrev main_cst_25 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_cst_26 : Ref sig .tc := ⟨.hbm, 294, rfl⟩
abbrev main_v252 : Ref sig .tc := ⟨.hbm, 295, rfl⟩
abbrev main_cst_27 : Ref sig .tc := ⟨.hbm, 296, rfl⟩
abbrev main_v253 : Ref sig .tc := ⟨.hbm, 297, rfl⟩
abbrev main_v254 : Ref sig .tc := ⟨.hbm, 298, rfl⟩

abbrev nD : Nat := 1
abbrev τ : Topo := Topo.v7x

variable {F : FTy → Type} [FloatOps F]
-- ==== Proof.WgDown.lean ====
/- The weight gradient of the down product: the activations transposed times the incoming gradient, accumulated over the tokens. -/
module

public import proofs.«01_k».proof.Defs
public import proofs.«01_k».proof.Proof.Gen.WgDownIdeal.Frame
public import proofs.«01_k».proof.Proof.Gen.WgDownRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.WgDownRefIdeal.Grad

open Cert.WgDownRefIdeal Cert.WgDownRefIdeal.Gen Idealize.ShloMosaic.StableHlo

/-- The reference's result over its arguments. -/
abbrev REF (a0 : FVec Ideal S8192x5632 .bf16) (a1 : FVec Ideal S8192x2048 .bf16) : FVec Ideal S5632x2048 .bf16 :=
  truncf .bf16 (transpose S5632x2048 [1, 0] (Host.dotGeneral dot_S8192x2048_S8192x5632_S2048x5632_0_0_1_1_n_n none (extf .f32 a1 bitsLt_bf16_f32 : FVec Ideal S8192x2048 .f32) (extf .f32 a0 bitsLt_bf16_f32 : FVec Ideal S8192x5632 .f32)) transposes_S2048x5632_S5632x2048_1_0) bitsLt_bf16_f32

end Cert.WgDownRefIdeal.Grad

namespace Cert.WgDownIdeal.Grad

open Cert.WgDownIdeal Cert.WgDownIdeal.Gen Cert.WgDownRefIdeal.Grad

variable (m : (ℓ : Loc nD τ sig) → Buf (Elt Ideal) ℓ)

/-- The block indices of the windows at every grid point. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- One block product, read at an index. -/
theorem part (x0 : Vec Ideal S2048x512 .bf16) (x1 : Vec Ideal S2048x1024 .bf16) (j : S512x1024.Idx) :
    k0_pay1 x0 x1 j = ∑ k : Fin 2048, x0 (ix2 k (j 0)) * x1 (ix2 k (j 1)) := by
  pointwise [k0_pay1]

/-- The accumulator at the first point of a run holds the first block product. -/
theorem acc_first (c : Dev nD) (t : Fin cfg0.N) (h : t.val % 4 = 0) (j : S512x1024.Idx) :
    (outsAt0 m c t.val t.isLt).2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 4 = 0) (j : S512x1024.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  by_cases h3 : t.val % 4 = 3
  · rw [outsAt0_C m c t h (by omega) h3]
    frame_out
    rw [(Memref.isWhole_whole _).read_unread]
    pointwise [k0_pay3]
  · rw [outsAt0_B m c t h (by omega) h3]
    frame_out
    rw [(Memref.isWhole_whole _).read_unread]
    pointwise [k0_pay3]

/-- The accumulator at the last point of a run: the sum of the run's block products. -/
theorem acc_sum (c : Dev nD) (t : Fin cfg0.N) (h3 : t.val % 4 = 3) (j : S512x1024.Idx) :
    (outsAt0 m c t.val t.isLt).2 j = ∑ s : Fin 4, ∑ k : Fin 2048,
      (show FVec Ideal S2048x512 .bf16 from iblk m c 0 ⟨4 * (t.val / 4) + s.val, Pipeline.run_point_lt_of_flush t h3 s⟩) (ix2 k (j 0))
        * (show FVec Ideal S2048x1024 .bf16 from iblk m c 1 ⟨4 * (t.val / 4) + s.val, Pipeline.run_point_lt_of_flush t h3 s⟩) (ix2 k (j 1)) := by
  rw [Pipeline.eq_sum_fin_of_reset_step_apply_of_flush (fun n h => (outsAt0 m c n h).2) 4 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference at an index: the contraction. -/
theorem ref_at (a0 : FVec Ideal S8192x5632 .bf16) (a1 : FVec Ideal S8192x2048 .bf16) (j : S5632x2048.Idx) :
    REF a0 a1 j = ∑ k : Fin 8192, a0 (ix2 k (j 0)) * a1 (ix2 k (j 1)) := by
  pointwise [REF]
  exact Finset.sum_congr rfl fun k _ => mul_comm _ _

/-- The last point of a run writes the accumulator back. -/
theorem out_last (c : Dev nD) (t : Fin cfg0.N) (h3 : t.val % 4 = 3) (j : S512x1024.Idx) :
    (outsAt0 m c t.val t.isLt).1 j = (outsAt0 m c t.val t.isLt).2 j := by
  rw [outsAt0_C m c t (by omega) (by omega) h3]
  frame_out
  rfl

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, out_last m c t h3, acc_sum m c t h3, ref_at]
  refine Fin.sum_mul_add_congr fun s k hl => ?_
  blk_point [iblk, V, idx t, idx ⟨_, Pipeline.run_point_lt_of_flush t h3 s⟩]

end Cert.WgDownIdeal.Grad

namespace Cert.Proof

/-- The kernel's result is the reference's, on the same arguments. -/
theorem algebraic_WgDown : Cert.algebraic_WgDownIdeal_WgDownRefIdeal := by
  pair_intro
  · run_from Cert.WgDownIdeal.Gen.run_main m g
  · run_from Cert.WgDownRefIdeal.Value.run (F := Ideal) m' g'
    exact (Cert.WgDownIdeal.Grad.final m c).symm

end Cert.Proof
-- ==== Proof.WgUp.lean ====
/- The weight gradient of the gate, up and input products. -/
module

public import proofs.«01_k».proof.Defs
public import proofs.«01_k».proof.Proof.Gen.WgUpIdeal.Frame
public import proofs.«01_k».proof.Proof.Gen.WgUpRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.WgUpRefIdeal.Grad

open Cert.WgUpRefIdeal Cert.WgUpRefIdeal.Gen Idealize.ShloMosaic.StableHlo

/-- The reference's result over its arguments. -/
abbrev REF (a0 : FVec Ideal S8192x2048 .bf16) (a1 : FVec Ideal S8192x5632 .bf16) : FVec Ideal S2048x5632 .bf16 :=
  truncf .bf16 (transpose S2048x5632 [1, 0] (Host.dotGeneral dot_S8192x5632_S8192x2048_S5632x2048_0_0_1_1_n_n none (extf .f32 a1 bitsLt_bf16_f32 : FVec Ideal S8192x5632 .f32) (extf .f32 a0 bitsLt_bf16_f32 : FVec Ideal S8192x2048 .f32)) transposes_S5632x2048_S2048x5632_1_0) bitsLt_bf16_f32

end Cert.WgUpRefIdeal.Grad

namespace Cert.WgUpIdeal.Grad

open Cert.WgUpIdeal Cert.WgUpIdeal.Gen Cert.WgUpRefIdeal.Grad

variable (m : (ℓ : Loc nD τ sig) → Buf (Elt Ideal) ℓ)

/-- The block indices of the windows at every grid point. -/
theorem idx : ∀ t : Fin cfg0.N, win0_0.index t = ![t.val % 4, t.val / 44]
    ∧ win0_1.index t = ![t.val % 4, t.val / 4 % 11]
    ∧ win0_2.index t = ![t.val / 44, t.val / 4 % 11] :=
  (by decide +kernel : ∀ t : Fin grid0.N, _)

/-- One block product, read at an index. -/
theorem part (x0 : Vec Ideal S2048x1024 .bf16) (x1 : Vec Ideal S2048x512 .bf16) (j : S1024x512.Idx) :
    k0_pay1 x0 x1 j = ∑ k : Fin 2048, x0 (ix2 k (j 0)) * x1 (ix2 k (j 1)) := by
  pointwise [k0_pay1]

/-- The accumulator at the first point of a run holds the first block product. -/
theorem acc_first (c : Dev nD) (t : Fin cfg0.N) (h : t.val % 4 = 0) (j : S1024x512.Idx) :
    (outsAt0 m c t.val t.isLt).2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 4 = 0) (j : S1024x512.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  by_cases h3 : t.val % 4 = 3
  · rw [outsAt0_C m c t h (by omega) h3]
    frame_out
    rw [(Memref.isWhole_whole _).read_unread]
    pointwise [k0_pay3]
  · rw [outsAt0_B m c t h (by omega) h3]
    frame_out
    rw [(Memref.isWhole_whole _).read_unread]
    pointwise [k0_pay3]

/-- The accumulator at the last point of a run: the sum of the run's block products. -/
theorem acc_sum (c : Dev nD) (t : Fin cfg0.N) (h3 : t.val % 4 = 3) (j : S1024x512.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t h3 s⟩) (ix2 k (j 0))
        * (show FVec Ideal S2048x512 .bf16 from iblk m c 1 ⟨4 * (t.val / 4) + s.val, Pipeline.run_point_lt_of_flush t h3 s⟩) (ix2 k (j 1)) := by
  rw [Pipeline.eq_sum_fin_of_reset_step_apply_of_flush (fun n h => (outsAt0 m c n h).2) 4 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference at an index: the contraction. -/
theorem ref_at (a0 : FVec Ideal S8192x2048 .bf16) (a1 : FVec Ideal S8192x5632 .bf16) (j : S2048x5632.Idx) :
    REF a0 a1 j = ∑ k : Fin 8192, a0 (ix2 k (j 0)) * a1 (ix2 k (j 1)) := by
  pointwise [REF]
  exact Finset.sum_congr rfl fun k _ => mul_comm _ _

/-- The last point of a run writes the accumulator back. -/
theorem out_last (c : Dev nD) (t : Fin cfg0.N) (h3 : t.val % 4 = 3) (j : S1024x512.Idx) :
    (outsAt0 m c t.val t.isLt).1 j = (outsAt0 m c t.val t.isLt).2 j := by
  rw [outsAt0_C m c t (by omega) (by omega) h3]
  frame_out
  rfl

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, out_last m c t h3, acc_sum m c t h3, ref_at]
  refine Fin.sum_mul_add_congr fun s k hl => ?_
  blk_point [iblk, V, idx t, idx ⟨_, Pipeline.run_point_lt_of_flush t h3 s⟩]

end Cert.WgUpIdeal.Grad

namespace Cert.Proof

/-- The kernel's result is the reference's, on the same arguments. -/
theorem algebraic_WgUp : Cert.algebraic_WgUpIdeal_WgUpRefIdeal := by
  pair_intro
  · run_from Cert.WgUpIdeal.Gen.run_main m g
  · run_from Cert.WgUpRefIdeal.Value.run (F := Ideal) m' g'
    exact (Cert.WgUpIdeal.Grad.final m c).symm

end Cert.Proof
-- ==== Proof.WgOut.lean ====
/- The weight gradient of the output products. -/
module

public import proofs.«01_k».proof.Defs
public import proofs.«01_k».proof.Proof.Gen.WgOutIdeal.Frame
public import proofs.«01_k».proof.Proof.Gen.WgOutRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.WgOutRefIdeal.Grad

open Cert.WgOutRefIdeal Cert.WgOutRefIdeal.Gen Idealize.ShloMosaic.StableHlo

/-- The reference's result over its arguments. -/
abbrev REF (a0 : FVec Ideal S8192x1024 .bf16) (a1 : FVec Ideal S8192x2048 .bf16) : FVec Ideal S1024x2048 .bf16 :=
  truncf .bf16 (transpose S1024x2048 [1, 0] (Host.dotGeneral dot_S8192x2048_S8192x1024_S2048x1024_0_0_1_1_n_n none (extf .f32 a1 bitsLt_bf16_f32 : FVec Ideal S8192x2048 .f32) (extf .f32 a0 bitsLt_bf16_f32 : FVec Ideal S8192x1024 .f32)) transposes_S2048x1024_S1024x2048_1_0) bitsLt_bf16_f32

end Cert.WgOutRefIdeal.Grad

namespace Cert.WgOutIdeal.Grad

open Cert.WgOutIdeal Cert.WgOutIdeal.Gen Cert.WgOutRefIdeal.Grad

variable (m : (ℓ : Loc nD τ sig) → Buf (Elt Ideal) ℓ)

/-- The block indices of the windows at every grid point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- One block product, read at an index. -/
theorem part (x0 : Vec Ideal S2048x1024 .bf16) (x1 : Vec Ideal S2048x1024 .bf16) (j : S1024x1024.Idx) :
    k0_pay1 x0 x1 j = ∑ k : Fin 2048, x0 (ix2 k (j 0)) * x1 (ix2 k (j 1)) := by
  pointwise [k0_pay1]

/-- The accumulator at the first point of a run holds the first block product. -/
theorem acc_first (c : Dev nD) (t : Fin cfg0.N) (h : t.val % 4 = 0) (j : S1024x1024.Idx) :
    (outsAt0 m c t.val t.isLt).2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  by_cases h3 : t.val % 4 = 3
  · rw [outsAt0_C m c t h (by omega) h3]
    frame_out
    rw [(Memref.isWhole_whole _).read_unread]
    pointwise [k0_pay3]
  · rw [outsAt0_B m c t h (by omega) h3]
    frame_out
    rw [(Memref.isWhole_whole _).read_unread]
    pointwise [k0_pay3]

/-- The accumulator at the last point of a run: the sum of the run's block products. -/
theorem acc_sum (c : Dev nD) (t : Fin cfg0.N) (h3 : t.val % 4 = 3) (j : S1024x1024.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t h3 s⟩) (ix2 k (j 0))
        * (show FVec Ideal S2048x1024 .bf16 from iblk m c 1 ⟨4 * (t.val / 4) + s.val, Pipeline.run_point_lt_of_flush t h3 s⟩) (ix2 k (j 1)) := by
  rw [Pipeline.eq_sum_fin_of_reset_step_apply_of_flush (fun n h => (outsAt0 m c n h).2) 4 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference at an index: the contraction. -/
theorem ref_at (a0 : FVec Ideal S8192x1024 .bf16) (a1 : FVec Ideal S8192x2048 .bf16) (j : S1024x2048.Idx) :
    REF a0 a1 j = ∑ k : Fin 8192, a0 (ix2 k (j 0)) * a1 (ix2 k (j 1)) := by
  pointwise [REF]
  exact Finset.sum_congr rfl fun k _ => mul_comm _ _

/-- The last point of a run writes the accumulator back. -/
theorem out_last (c : Dev nD) (t : Fin cfg0.N) (h3 : t.val % 4 = 3) (j : S1024x1024.Idx) :
    (outsAt0 m c t.val t.isLt).1 j = (outsAt0 m c t.val t.isLt).2 j := by
  rw [outsAt0_C m c t (by omega) (by omega) h3]
  frame_out
  rfl

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, out_last m c t h3, acc_sum m c t h3, ref_at]
  refine Fin.sum_mul_add_congr fun s k hl => ?_
  blk_point [iblk, V, idx t, idx ⟨_, Pipeline.run_point_lt_of_flush t h3 s⟩]

end Cert.WgOutIdeal.Grad

namespace Cert.Proof

/-- The kernel's result is the reference's, on the same arguments. -/
theorem algebraic_WgOut : Cert.algebraic_WgOutIdeal_WgOutRefIdeal := by
  pair_intro
  · run_from Cert.WgOutIdeal.Gen.run_main m g
  · run_from Cert.WgOutRefIdeal.Value.run (F := Ideal) m' g'
    exact (Cert.WgOutIdeal.Grad.final m c).symm

end Cert.Proof
-- ==== Proof.DgDown.lean ====
/- The gradient of the down projection's product towards its input. -/
module

public import proofs.«01_k».proof.Defs
public import proofs.«01_k».proof.Proof.Gen.DgDownIdeal.Frame
public import proofs.«01_k».proof.Proof.Gen.DgDownRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DgDownRefIdeal.Grad

open Cert.DgDownRefIdeal Cert.DgDownRefIdeal.Gen Idealize.ShloMosaic.StableHlo

/-- The reference's result over its arguments. -/
abbrev REF (a0 : FVec Ideal S8192x2048 .bf16) (a1 : FVec Ideal S5632x2048 .bf16) : FVec Ideal S8192x5632 .f32 :=
  Host.dotGeneral dot_S8192x2048_S5632x2048_S8192x5632_1_1_0_0_n_n none (extf .f32 a0 bitsLt_bf16_f32 : FVec Ideal S8192x2048 .f32) (extf .f32 a1 bitsLt_bf16_f32 : FVec Ideal S5632x2048 .f32)

end Cert.DgDownRefIdeal.Grad

namespace Cert.DgDownIdeal.Grad

open Cert.DgDownIdeal Cert.DgDownIdeal.Gen Cert.DgDownRefIdeal.Grad

variable (m : (ℓ : Loc nD τ sig) → Buf (Elt Ideal) ℓ)

/-- The block indices of the windows at every grid point. -/
theorem idx : ∀ t : Fin cfg0.N, win0_0.index t = ![t.val / 11, 0]
    ∧ win0_1.index t = ![t.val % 11, 0]
    ∧ win0_2.index t = ![t.val / 11, t.val % 11] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.DgDownIdeal.Grad

namespace Cert.Proof

/-- The kernel's result is the reference's, on the same arguments. -/
theorem algebraic_DgDown : Cert.algebraic_DgDownIdeal_DgDownRefIdeal := by
  pair_intro
  · run_from Cert.DgDownIdeal.Gen.run_main m g
  · run_from Cert.DgDownRefIdeal.Value.run (F := Ideal) m' g'
    exact (Cert.DgDownIdeal.Grad.final m c).symm

end Cert.Proof
-- ==== Proof.DgGate.lean ====
/- The gradient of the gate and input products towards their input. -/
module

public import proofs.«01_k».proof.Defs
public import proofs.«01_k».proof.Proof.Gen.DgGateIdeal.Frame
public import proofs.«01_k».proof.Proof.Gen.DgGateRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DgGateRefIdeal.Grad

open Cert.DgGateRefIdeal Cert.DgGateRefIdeal.Gen Idealize.ShloMosaic.StableHlo

/-- The reference's result over its arguments. -/
abbrev REF (a0 : FVec Ideal S8192x5632 .bf16) (a1 : FVec Ideal S2048x5632 .bf16) : FVec Ideal S8192x2048 .f32 :=
  Host.dotGeneral dot_S8192x5632_S2048x5632_S8192x2048_1_1_0_0_n_n none (extf .f32 a0 bitsLt_bf16_f32 : FVec Ideal S8192x5632 .f32) (extf .f32 a1 bitsLt_bf16_f32 : FVec Ideal S2048x5632 .f32)

end Cert.DgGateRefIdeal.Grad

namespace Cert.DgGateIdeal.Grad

open Cert.DgGateIdeal Cert.DgGateIdeal.Gen Cert.DgGateRefIdeal.Grad

variable (m : (ℓ : Loc nD τ sig) → Buf (Elt Ideal) ℓ)

/-- The block indices of the windows at every grid point. -/
theorem idx : ∀ t : Fin cfg0.N, win0_0.index t = ![t.val / 4, t.val % 2]
    ∧ win0_1.index t = ![t.val / 2 % 2, t.val % 2]
    ∧ win0_2.index t = ![t.val / 4, t.val / 2 % 2] :=
  (by decide +kernel : ∀ t : Fin grid0.N, _)

/-- One block product, read at an index. -/
theorem part (x0 : Vec Ideal S1024x2816 .bf16) (x1 : Vec Ideal S1024x2816 .bf16) (j : S1024x1024.Idx) :
    k0_pay1 x0 x1 j = ∑ k : Fin 2816, x0 (ix2 (j 0) k) * x1 (ix2 (j 1) k) := by
  pointwise [k0_pay1]

/-- The accumulator at the first point of a run holds the first block product. -/
theorem acc_first (c : Dev nD) (t : Fin cfg0.N) (h : t.val % 2 = 0) (j : S1024x1024.Idx) :
    (outsAt0 m c t.val t.isLt).2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  rw [outsAt0_B m c t h (by omega) (by omega)]
  frame_out
  rw [(Memref.isWhole_whole _).read_unread]
  pointwise [k0_pay3]

/-- The accumulator at the last point of a run: the sum of the run's block products. -/
theorem acc_sum (c : Dev nD) (t : Fin cfg0.N) (h3 : t.val % 2 = 1) (j : S1024x1024.Idx) :
    (outsAt0 m c t.val t.isLt).2 j = ∑ s : Fin 2, ∑ k : Fin 2816,
      (show FVec Ideal S1024x2816 .bf16 from iblk m c 0 ⟨2 * (t.val / 2) + s.val, Pipeline.run_point_lt_of_flush t h3 s⟩) (ix2 (j 0) k)
        * (show FVec Ideal S1024x2816 .bf16 from iblk m c 1 ⟨2 * (t.val / 2) + s.val, Pipeline.run_point_lt_of_flush t h3 s⟩) (ix2 (j 1) k) := by
  rw [Pipeline.eq_sum_fin_of_reset_step_apply_of_flush (fun n h => (outsAt0 m c n h).2) 2 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference at an index: the contraction. -/
theorem ref_at (a0 : FVec Ideal S8192x5632 .bf16) (a1 : FVec Ideal S2048x5632 .bf16) (j : S8192x2048.Idx) :
    REF a0 a1 j = ∑ k : Fin 5632, a0 (ix2 (j 0) k) * a1 (ix2 (j 1) k) := by
  pointwise [REF]

/-- The last point of a run writes the accumulator back. -/
theorem out_last (c : Dev nD) (t : Fin cfg0.N) (h3 : t.val % 2 = 1) (j : S1024x1024.Idx) :
    (outsAt0 m c t.val t.isLt).1 j = (outsAt0 m c t.val t.isLt).2 j := by
  rw [outsAt0_B m c t (by omega) (by omega) h3]
  frame_out

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, out_last m c t h3, acc_sum m c t h3, ref_at]
  refine Fin.sum_mul_add_congr fun s k hl => ?_
  blk_point [iblk, V, idx t, idx ⟨_, Pipeline.run_point_lt_of_flush t h3 s⟩]

end Cert.DgGateIdeal.Grad

namespace Cert.Proof

/-- The kernel's result is the reference's, on the same arguments. -/
theorem algebraic_DgGate : Cert.algebraic_DgGateIdeal_DgGateRefIdeal := by
  pair_intro
  · run_from Cert.DgGateIdeal.Gen.run_main m g
  · run_from Cert.DgGateRefIdeal.Value.run (F := Ideal) m' g'
    exact (Cert.DgGateIdeal.Grad.final m c).symm

end Cert.Proof
-- ==== Proof.DgUp.lean ====
/- The gradient of the up product towards its input, added to the gate product's. -/
module

public import proofs.«01_k».proof.Defs
public import proofs.«01_k».proof.Proof.Gen.DgUpIdeal.Frame
public import proofs.«01_k».proof.Proof.Gen.DgUpRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DgUpRefIdeal.Grad

open Cert.DgUpRefIdeal Cert.DgUpRefIdeal.Gen Idealize.ShloMosaic.StableHlo

/-- The reference's result over its arguments. -/
abbrev REF (a0 : FVec Ideal S8192x5632 .bf16) (a1 : FVec Ideal S2048x5632 .bf16) (a2 : FVec Ideal S8192x2048 .f32) : FVec Ideal S8192x2048 .f32 :=
  addf a2 (Host.dotGeneral dot_S8192x5632_S2048x5632_S8192x2048_1_1_0_0_n_n none (extf .f32 a0 bitsLt_bf16_f32 : FVec Ideal S8192x5632 .f32) (extf .f32 a1 bitsLt_bf16_f32 : FVec Ideal S2048x5632 .f32))

end Cert.DgUpRefIdeal.Grad

namespace Cert.DgUpIdeal.Grad

open Cert.DgUpIdeal Cert.DgUpIdeal.Gen Cert.DgUpRefIdeal.Grad

variable (m : (ℓ : Loc nD τ sig) → Buf (Elt Ideal) ℓ)

/-- The block indices of the windows at every grid point. -/
theorem idx : ∀ t : Fin cfg0.N, win0_0.index t = ![t.val / 4, t.val % 2]
    ∧ win0_1.index t = ![t.val / 2 % 2, t.val % 2]
    ∧ win0_2.index t = ![t.val / 4, t.val / 2 % 2]
    ∧ win0_3.index t = ![t.val / 4, t.val / 2 % 2] :=
  (by decide +kernel : ∀ t : Fin grid0.N, _)

/-- One block product, read at an index. -/
theorem part (x0 : Vec Ideal S1024x2816 .bf16) (x1 : Vec Ideal S1024x2816 .bf16) (j : S1024x1024.Idx) :
    k0_pay1 x0 x1 j = ∑ k : Fin 2816, x0 (ix2 (j 0) k) * x1 (ix2 (j 1) k) := by
  pointwise [k0_pay1]

/-- The accumulator at the first point of a run holds the first block product. -/
theorem acc_first (c : Dev nD) (t : Fin cfg0.N) (h : t.val % 2 = 0) (j : S1024x1024.Idx) :
    (outsAt0 m c t.val t.isLt).2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j
        + k0_pay1 (iblk m c 0 t) (iblk m c 1 t) j := by
  rw [outsAt0_B m c t h (by omega) (by omega)]
  frame_out
  rw [(Memref.isWhole_whole _).read_unread]
  pointwise [k0_pay3]

/-- The accumulator at the last point of a run: the sum of the run's block products. -/
theorem acc_sum (c : Dev nD) (t : Fin cfg0.N) (h3 : t.val % 2 = 1) (j : S1024x1024.Idx) :
    (outsAt0 m c t.val t.isLt).2 j = ∑ s : Fin 2, ∑ k : Fin 2816,
      (show FVec Ideal S1024x2816 .bf16 from iblk m c 0 ⟨2 * (t.val / 2) + s.val, Pipeline.run_point_lt_of_flush t h3 s⟩) (ix2 (j 0) k)
        * (show FVec Ideal S1024x2816 .bf16 from iblk m c 1 ⟨2 * (t.val / 2) + s.val, Pipeline.run_point_lt_of_flush t h3 s⟩) (ix2 (j 1) k) := by
  rw [Pipeline.eq_sum_fin_of_reset_step_apply_of_flush (fun n h => (outsAt0 m c n h).2) 2 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference at an index: the incoming gradient plus the contraction. -/
theorem ref_at (a0 : FVec Ideal S8192x5632 .bf16) (a1 : FVec Ideal S2048x5632 .bf16) (a2 : FVec Ideal S8192x2048 .f32)
    (j : S8192x2048.Idx) : REF a0 a1 a2 j = a2 j + ∑ k : Fin 5632, a0 (ix2 (j 0) k) * a1 (ix2 (j 1) k) := by
  pointwise [REF]

/-- The last point of a run writes the incoming gradient plus the accumulator. -/
theorem out_last (c : Dev nD) (t : Fin cfg0.N) (h3 : t.val % 2 = 1) (j : S1024x1024.Idx) :
    (outsAt0 m c t.val t.isLt).1 j
      = (show FVec Ideal S1024x1024 .f32 from iblk m c 2 t) j + (outsAt0 m c t.val t.isLt).2 j := by
  rw [outsAt0_B m c t (by omega) (by omega) h3]
  frame_out
  rw [(Memref.isWhole_whole _).read_unread]
  pointwise [k0_pay4]
  exact add_comm _ _

/-- The result array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 := (flush0_3 t).mp hf
  rw [after0_3, out_last m c t h3, acc_sum m c t h3, ref_at]
  refine congrArg₂ (· + ·) ?_ (Fin.sum_mul_add_congr fun s k hl => ?_)
  · blk_point [iblk, V, idx t]
  · blk_point [iblk, V, idx t, idx ⟨_, Pipeline.run_point_lt_of_flush t h3 s⟩]

end Cert.DgUpIdeal.Grad

namespace Cert.Proof

/-- The kernel's result is the reference's, on the same arguments. -/
theorem algebraic_DgUp : Cert.algebraic_DgUpIdeal_DgUpRefIdeal := by
  pair_intro
  · run_from Cert.DgUpIdeal.Gen.run_main m g
  · run_from Cert.DgUpRefIdeal.Value.run (F := Ideal) m' g'
    exact (Cert.DgUpIdeal.Grad.final m c).symm

end Cert.Proof
-- ==== Proof.DgOut.lean ====
/- The gradient of the attention output product towards its input. -/
module

public import proofs.«01_k».proof.Defs
public import proofs.«01_k».proof.Proof.Gen.DgOutIdeal.Frame
public import proofs.«01_k».proof.Proof.Gen.DgOutRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DgOutRefIdeal.Grad

open Cert.DgOutRefIdeal Cert.DgOutRefIdeal.Gen Idealize.ShloMosaic.StableHlo

/-- The reference's result over its arguments. -/
abbrev REF (a0 : FVec Ideal S8192x2048 .bf16) (a1 : FVec Ideal S1024x2048 .bf16) : FVec Ideal S8192x1024 .f32 :=
  Host.dotGeneral dot_S8192x2048_S1024x2048_S8192x1024_1_1_0_0_n_n none (extf .f32 a0 bitsLt_bf16_f32 : FVec Ideal S8192x2048 .f32) (extf .f32 a1 bitsLt_bf16_f32 : FVec Ideal S1024x2048 .f32)

end Cert.DgOutRefIdeal.Grad

namespace Cert.DgOutIdeal.Grad

open Cert.DgOutIdeal Cert.DgOutIdeal.Gen Cert.DgOutRefIdeal.Grad

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.DgOutIdeal.Grad

namespace Cert.Proof

/-- The kernel's result is the reference's, on the same arguments. -/
theorem algebraic_DgOut : Cert.algebraic_DgOutIdeal_DgOutRefIdeal := by
  pair_intro
  · run_from Cert.DgOutIdeal.Gen.run_main m g
  · run_from Cert.DgOutRefIdeal.Value.run (F := Ideal) m' g'
    exact (Cert.DgOutIdeal.Grad.final m c).symm

end Cert.Proof
-- ==== Proof.SwigluBwd.lean ====
/- The gradient of the gated activation. -/
module

public import proofs.«01_k».proof.Defs
public import proofs.«01_k».proof.Proof.Gen.SwigluBwdIdeal.Frame
public import proofs.«01_k».proof.Proof.Gen.SwigluBwdRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.SwigluBwdRefIdeal.Grad

open Cert.SwigluBwdRefIdeal Cert.SwigluBwdRefIdeal.Gen Idealize.ShloMosaic.StableHlo

/-- The reference's result 0 over its arguments. -/
abbrev REF0 (a0 : FVec Ideal S8192x5632 .bf16) (a1 : FVec Ideal S8192x5632 .bf16) (a2 : FVec Ideal S8192x5632 .f32) : FVec Ideal S8192x5632 .bf16 :=
  truncf .bf16 (addf (mulf (mulf a2 (extf .f32 a1 bitsLt_bf16_f32 : FVec Ideal S8192x5632 .f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a0 bitsLt_bf16_f32 : FVec Ideal S8192x5632 .f32)))))) (mulf (mulf (extf .f32 a0 bitsLt_bf16_f32 : FVec Ideal S8192x5632 .f32) (mulf a2 (extf .f32 a1 bitsLt_bf16_f32 : FVec Ideal S8192x5632 .f32))) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a0 bitsLt_bf16_f32 : FVec Ideal S8192x5632 .f32))))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a0 bitsLt_bf16_f32 : FVec Ideal S8192x5632 .f32))))))))) bitsLt_bf16_f32

/-- The reference's result 1 over its arguments. -/
abbrev REF1 (a0 : FVec Ideal S8192x5632 .bf16) (a2 : FVec Ideal S8192x5632 .f32) : FVec Ideal S8192x5632 .bf16 :=
  truncf .bf16 (mulf (mulf (extf .f32 a0 bitsLt_bf16_f32 : FVec Ideal S8192x5632 .f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a0 bitsLt_bf16_f32 : FVec Ideal S8192x5632 .f32)))))) a2) bitsLt_bf16_f32

end Cert.SwigluBwdRefIdeal.Grad

namespace Cert.SwigluBwdIdeal.Grad

open Cert.SwigluBwdIdeal Cert.SwigluBwdIdeal.Gen Cert.SwigluBwdRefIdeal.Grad

variable (m : (ℓ : Loc nD τ sig) → Buf (Elt Ideal) ℓ)

/-- The block indices of the windows at every grid point. -/
theorem idx : ∀ t : Fin cfg0.N, win0_0.index t = ![t.val % 4, t.val / 4]
    ∧ win0_1.index t = ![t.val % 4, t.val / 4]
    ∧ win0_2.index t = ![t.val % 4, t.val / 4]
    ∧ win0_3.index t = ![t.val % 4, t.val / 4]
    ∧ win0_4.index t = ![t.val % 4, t.val / 4] :=
  (by decide +kernel : ∀ t : Fin grid0.N, _)

/-- The result array after the run is the reference's. -/
theorem final3 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay3, k0_pay1, k0_pay2, REF0]
  have e0 : (iblk m c 0 t : FVec Ideal S2048x512 _) y = m ((c : Thread nD τ).loc main_arg0) (((View.whole main_v0_0).slice (win0_3.rect t)).emb y) := by
    blk_point [iblk, V, idx t]
  have e1 : (iblk m c 1 t : FVec Ideal S2048x512 _) y = m ((c : Thread nD τ).loc main_arg1) (((View.whole main_v0_0).slice (win0_3.rect t)).emb y) := by
    blk_point [iblk, V, idx t]
  have e2 : (iblk m c 2 t : FVec Ideal S2048x512 _) y = m ((c : Thread nD τ).loc main_arg2) (((View.whole main_v0_0).slice (win0_3.rect t)).emb y) := by
    blk_point [iblk, V, idx t]
  simp only [Ideal.logistic, e0, e1, e2]

/-- The result array after the run is the reference's. -/
theorem final4 (c : Dev nD) : (dats m 0 c).arrAt 4 (cfgs 0).N = REF1 (m ((c : Thread nD τ).loc main_arg0)) (m ((c : Thread nD τ).loc main_arg2)) := by
  refine (dats m 0 c).arrAt_eq_of_covers 4 _ (by decide +kernel) fun t _ y => ?_
  blk_simp
  rw [after0_4]
  frame_out
  pointwise [k0_pay4, k0_pay1, k0_pay2, REF1]
  have e0 : (iblk m c 0 t : FVec Ideal S2048x512 _) y = m ((c : Thread nD τ).loc main_arg0) (((View.whole main_v0_1).slice (win0_4.rect t)).emb y) := by
    blk_point [iblk, V, idx t]
  have e2 : (iblk m c 2 t : FVec Ideal S2048x512 _) y = m ((c : Thread nD τ).loc main_arg2) (((View.whole main_v0_1).slice (win0_4.rect t)).emb y) := by
    blk_point [iblk, V, idx t]
  simp only [Ideal.logistic, e0, e2]

end Cert.SwigluBwdIdeal.Grad

namespace Cert.Proof

/-- The kernel's result is the reference's, on the same arguments. -/
theorem algebraic_SwigluBwd : Cert.algebraic_SwigluBwdIdeal_SwigluBwdRefIdeal := by
  pair_intro
  · run_from Cert.SwigluBwdIdeal.Gen.run_main m g
  · run_from Cert.SwigluBwdRefIdeal.Value.run (F := Ideal) m' g'
    · exact (Cert.SwigluBwdIdeal.Grad.final3 m c).symm
    · exact (Cert.SwigluBwdIdeal.Grad.final4 m c).symm

end Cert.Proof
-- ==== Proof.ResgateBwd.lean ====
/- The gradient of a gated residual: towards the branch, and towards the gate, summed over the tokens. -/
module

public import proofs.«01_k».proof.Defs
public import proofs.«01_k».proof.Proof.Gen.ResgateBwdIdeal.Frame
public import proofs.«01_k».proof.Proof.Gen.ResgateBwdRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.ResgateBwdRefIdeal.Grad

open Cert.ResgateBwdRefIdeal Cert.ResgateBwdRefIdeal.Gen Idealize.ShloMosaic.StableHlo

/-- The reference's result 0 over its arguments. -/
abbrev REF0 (a2 : FVec Ideal S1x2048 .f32) (a3 : FVec Ideal S1x2048 .f32) (a4 : FVec Ideal S8192x2048 .f32) : FVec Ideal S8192x2048 .bf16 :=
  truncf .bf16 (mulf (broadcastInDim S8192x2048 ![0, 1] bcast_S1x2048_S8192x2048_0_1 (addf a2 a3)) a4) bitsLt_bf16_f32

/-- The reference's result 1 over its arguments. -/
abbrev REF1 (a1 : FVec Ideal S8192x2048 .bf16) (a4 : FVec Ideal S8192x2048 .f32) : FVec Ideal S1x2048 .f32 :=
  shapeCast _ (Host.reduceAdd (mulf a4 (extf .f32 a1 bitsLt_bf16_f32 : FVec Ideal S8192x2048 .f32)) (constant S_ .f32 0x00000000#32) reducesTo_S8192x2048_S2048_d0 h_S_) shapeCasts_S2048_S1x2048

end Cert.ResgateBwdRefIdeal.Grad

namespace Cert.ResgateBwdIdeal.Grad

open Cert.ResgateBwdIdeal Cert.ResgateBwdIdeal.Gen Cert.ResgateBwdRefIdeal.Grad

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The sum over a block's rows that a point adds to the gate gradient. -/
abbrev rows (x0 : Vec Ideal S256x2048 .bf16) (x1 : Vec Ideal S256x2048 .f32) (j : S1x2048.Idx) : Ideal .f32 :=
  ∑ k : Fin 256, x1 (ix2 k (j 1)) * x0 (ix2 k (j 1))

/-- What a point leaves of the gate gradient: what it found and the sum over the block's rows. -/
theorem add_at (x0 : Vec Ideal S256x2048 .bf16) (x1 : Vec Ideal S256x2048 .f32) (x2 : Vec Ideal S1x2048 .f32) (j : S1x2048.Idx) :
    k0_pay3 x0 x1 x2 j = x2 j + rows x0 x1 j := by
  pointwise [k0_pay3]

/-- The gate gradient starts at zero at the first point. -/
theorem acc_first (c : Dev nD) (t : Fin cfg0.N) (h : t.val % 32 = 0) (j : S1x2048.Idx) :
    (outsAt0 m c t.val t.isLt).2 j = 0 + rows (iblk m c 1 t) (iblk m c 4 t) j := by
  rw [outsAt0_A m c t h]
  frame_out
  try rw [(Memref.isWhole_whole _).read_unread]
  rw [add_at]
  pointwise [k0_pay2]

/-- Every other point adds its block's rows. -/
theorem acc_next (c : Dev nD) (t : Fin cfg0.N) (h : ¬t.val % 32 = 0) (j : S1x2048.Idx) :
    (outsAt0 m c t.val t.isLt).2 j
      = (outsAt0 m c (t.val - 1) (Nat.lt_of_le_of_lt (Nat.sub_le _ _) t.isLt)).2 j + rows (iblk m c 1 t) (iblk m c 4 t) j := by
  rw [outsAt0_B m c t h]
  frame_out
  try rw [(Memref.isWhole_whole _).read_unread]
  rw [add_at]

/-- The branch gradient of a block, at either kind of point. -/
theorem branch (c : Dev nD) (t : Fin cfg0.N) :
    (outsAt0 m c t.val t.isLt).1 = k0_pay1 (iblk m c 2 t) (iblk m c 3 t) (iblk m c 4 t) := by
  by_cases h : t.val % 32 = 0
  · rw [outsAt0_A m c t h]
    frame_out
  · rw [outsAt0_B m c t h]
    frame_out

/-- The gate gradient at the last point: the sum over all the points' rows. -/
theorem out_sum (c : Dev nD) (t : Fin cfg0.N) (h3 : t.val % 32 = 31) (j : S1x2048.Idx) :
    (outsAt0 m c t.val t.isLt).2 j = ∑ s : Fin 32, ∑ k : Fin 256,
      (show FVec Ideal S256x2048 .f32 from iblk m c 4 ⟨32 * (t.val / 32) + s.val, Pipeline.run_point_lt_of_flush t h3 s⟩) (ix2 k (j 1))
        * (show FVec Ideal S256x2048 .bf16 from iblk m c 1 ⟨32 * (t.val / 32) + s.val, Pipeline.run_point_lt_of_flush t h3 s⟩) (ix2 k (j 1)) := by
  rw [Pipeline.eq_sum_fin_of_reset_step_apply_of_flush (fun n h => (outsAt0 m c n h).2) 32 (fun _ => 0)
    (fun t => rows (iblk m c 1 t) (iblk m c 4 t))
    (fun t h j => acc_first m c t h j) (fun t h j => acc_next m c t h j) t h3 j, zero_add]

/-- The reference's gate gradient at an index: the sum over the tokens. -/
theorem ref_at (a1 : FVec Ideal S8192x2048 .bf16) (a4 : FVec Ideal S8192x2048 .f32) (j : S1x2048.Idx) :
    REF1 a1 a4 j = ∑ k : Fin 8192, a4 (ix2 k (j 1)) * a1 (ix2 k (j 1)) := by
  pointwise [REF1]

/-- The branch gradient after the run is the reference's. -/
theorem final5 (c : Dev nD) : (dats m 0 c).arrAt 5 (cfgs 0).N = REF0 (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, branch]
  pointwise [k0_pay1, REF0]
  blk_point [iblk, V, idx t]

/-- The gate gradient after the run is the reference's. -/
theorem final6 (c : Dev nD) : (dats m 0 c).arrAt 6 (cfgs 0).N = REF1 (m ((c : Thread nD τ).loc main_arg1)) (m ((c : Thread nD τ).loc main_arg4)) := by
  refine (dats m 0 c).arrAt_eq_of_covers 6 _ (by decide +kernel) fun t hf y => ?_
  blk_simp
  have h3 := (flush0_6 t).mp hf
  rw [after0_6, out_sum m c t h3, ref_at]
  refine Fin.sum_mul_add_congr fun s k hl => ?_
  blk_point [iblk, V, idx t, idx ⟨_, Pipeline.run_point_lt_of_flush t h3 s⟩]

/-- The kernel's run: both results are the reference's, and the arguments end unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = REF0 (m ((c.tc : Thread nD τ).loc main_arg2)) (m ((c.tc : Thread nD τ).loc main_arg3)) (m ((c.tc : Thread nD τ).loc main_arg4))
      ∧ r.2.mem ((c.tc : Thread nD τ).loc main_v0_1) = REF1 (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m g) (unchanged m g)) fun r h c =>
    ⟨((h.1 c).1 5).trans (final5 m c), ((h.1 c).1 6).trans (final6 m c), h.2 c⟩

end Cert.ResgateBwdIdeal.Grad

namespace Cert.Proof

/-- The kernel's result is the reference's, on the same arguments. -/
theorem algebraic_ResgateBwd : Cert.algebraic_ResgateBwdIdeal_ResgateBwdRefIdeal := by
  pair_intro
  · run_from Cert.ResgateBwdIdeal.Grad.run m g
  · refine θ_run_mono (Cert.ResgateBwdRefIdeal.Value.run (F := Ideal) m' g') fun r h c => ?_
    obtain ⟨h0, h1, h2⟩ := h c
    obtain ⟨e0, e1, e2, e3, e4⟩ := hagree c
    rw [e2, e3, e4] at h0
    rw [e1, e4] at h1
    exact ⟨h0, h1, h2⟩

end Cert.Proof
-- ==== Proof.MmIn.lean ====
/- The input product of the first layer. -/
module

public import proofs.«01_k».proof.Defs
public import proofs.«01_k».proof.Proof.Gen.MmInIdeal.Frame
public import proofs.«01_k».proof.Proof.Gen.MmInRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MmInRefIdeal.Grad

open Cert.MmInRefIdeal Cert.MmInRefIdeal.Gen Idealize.ShloMosaic.StableHlo

/-- The reference's result over its arguments. -/
abbrev REF (a0 : FVec Ideal S8192x2048 .bf16) (a1 : FVec Ideal S2048x5632 .bf16) : FVec Ideal S8192x5632 .f32 :=
  Host.dotGeneral dot_S8192x2048_S2048x5632_S8192x5632_1_0_0_1_n_n none (extf .f32 a0 bitsLt_bf16_f32 : FVec Ideal S8192x2048 .f32) (extf .f32 a1 bitsLt_bf16_f32 : FVec Ideal S2048x5632 .f32)

end Cert.MmInRefIdeal.Grad

namespace Cert.MmInIdeal.Grad

open Cert.MmInIdeal Cert.MmInIdeal.Gen Cert.MmInRefIdeal.Grad

variable (m : (ℓ : Loc nD τ sig) → Buf (Elt Ideal) ℓ)

/-- The block indices of the windows at every grid point. -/
theorem idx : ∀ t : Fin cfg0.N, win0_0.index t = ![t.val / 11, 0]
    ∧ win0_1.index t = ![0, t.val % 11]
    ∧ win0_2.index t = ![t.val / 11, t.val % 11] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.MmInIdeal.Grad

namespace Cert.Proof

/-- The kernel's result is the reference's, on the same arguments. -/
theorem algebraic_MmIn : Cert.algebraic_MmInIdeal_MmInRefIdeal := by
  pair_intro
  · run_from Cert.MmInIdeal.Gen.run_main m g
  · run_from Cert.MmInRefIdeal.Value.run (F := Ideal) m' g'
    exact (Cert.MmInIdeal.Grad.final m c).symm

end Cert.Proof
-- ==== Proof.MmGate.lean ====
/- The gate and up products. -/
module

public import proofs.«01_k».proof.Defs
public import proofs.«01_k».proof.Proof.Gen.MmGateIdeal.Frame
public import proofs.«01_k».proof.Proof.Gen.MmGateRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MmGateRefIdeal.Grad

open Cert.MmGateRefIdeal Cert.MmGateRefIdeal.Gen Idealize.ShloMosaic.StableHlo

/-- The reference's result over its arguments. -/
abbrev REF (a0 : FVec Ideal S8192x2048 .bf16) (a1 : FVec Ideal S2048x5632 .bf16) : FVec Ideal S8192x5632 .bf16 :=
  truncf .bf16 (Host.dotGeneral dot_S8192x2048_S2048x5632_S8192x5632_1_0_0_1_n_n none (extf .f32 a0 bitsLt_bf16_f32 : FVec Ideal S8192x2048 .f32) (extf .f32 a1 bitsLt_bf16_f32 : FVec Ideal S2048x5632 .f32)) bitsLt_bf16_f32

end Cert.MmGateRefIdeal.Grad

namespace Cert.MmGateIdeal.Grad

open Cert.MmGateIdeal Cert.MmGateIdeal.Gen Cert.MmGateRefIdeal.Grad

variable (m : (ℓ : Loc nD τ sig) → Buf (Elt Ideal) ℓ)

/-- The block indices of the windows at every grid point. -/
theorem idx : ∀ t : Fin cfg0.N, win0_0.index t = ![t.val / 11, 0]
    ∧ win0_1.index t = ![0, t.val % 11]
    ∧ win0_2.index t = ![t.val / 11, t.val % 11] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.MmGateIdeal.Grad

namespace Cert.Proof

/-- The kernel's result is the reference's, on the same arguments. -/
theorem algebraic_MmGate : Cert.algebraic_MmGateIdeal_MmGateRefIdeal := by
  pair_intro
  · run_from Cert.MmGateIdeal.Gen.run_main m g
  · run_from Cert.MmGateRefIdeal.Value.run (F := Ideal) m' g'
    exact (Cert.MmGateIdeal.Grad.final m c).symm

end Cert.Proof
-- ==== Proof.MmOutDn.lean ====
/- The output product. -/
module

public import proofs.«01_k».proof.Defs
public import proofs.«01_k».proof.Proof.Gen.MmOutDnIdeal.Frame
public import proofs.«01_k».proof.Proof.Gen.MmOutDnRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MmOutDnRefIdeal.Grad

open Cert.MmOutDnRefIdeal Cert.MmOutDnRefIdeal.Gen Idealize.ShloMosaic.StableHlo

/-- The reference's result over its arguments. -/
abbrev REF (a0 : FVec Ideal S8192x1024 .bf16) (a1 : FVec Ideal S1024x2048 .bf16) : FVec Ideal S8192x2048 .bf16 :=
  Host.dotGeneral dot_S8192x1024_S1024x2048_S8192x2048_1_0_0_1_n_n none (extf .f32 a0 bitsLt_bf16_f32 : FVec Ideal S8192x1024 .f32) (extf .f32 a1 bitsLt_bf16_f32 : FVec Ideal S1024x2048 .f32)

end Cert.MmOutDnRefIdeal.Grad

namespace Cert.MmOutDnIdeal.Grad

open Cert.MmOutDnIdeal Cert.MmOutDnIdeal.Gen Cert.MmOutDnRefIdeal.Grad

variable (m : (ℓ : Loc nD τ sig) → Buf (Elt Ideal) ℓ)

/-- The block indices of the windows at every grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.MmOutDnIdeal.Grad

namespace Cert.Proof

/-- The kernel's result is the reference's, on the same arguments. -/
theorem algebraic_MmOutDn : Cert.algebraic_MmOutDnIdeal_MmOutDnRefIdeal := by
  pair_intro
  · run_from Cert.MmOutDnIdeal.Gen.run_main m g
  · run_from Cert.MmOutDnRefIdeal.Value.run (F := Ideal) m' g'
    exact (Cert.MmOutDnIdeal.Grad.final m c).symm

end Cert.Proof
-- ==== Proof.MmOutAt.lean ====
/- The attention output product with its gated residual. -/
module

public import proofs.«01_k».proof.Defs
public import proofs.«01_k».proof.Proof.Gen.MmOutAtIdeal.Frame
public import proofs.«01_k».proof.Proof.Gen.MmOutAtRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MmOutAtRefIdeal.Grad

open Cert.MmOutAtRefIdeal Cert.MmOutAtRefIdeal.Gen Idealize.ShloMosaic.StableHlo

/-- The reference's result 0 over its arguments. -/
abbrev REF0 (a0 : FVec Ideal S8192x1024 .bf16) (a1 : FVec Ideal S1024x2048 .bf16) (a2 : FVec Ideal S8192x2048 .f32) (a3 : FVec Ideal S8192x2048 .f32) (a4 : FVec Ideal S1x2048 .f32) (a5 : FVec Ideal S1x2048 .f32) : FVec Ideal S8192x2048 .f32 :=
  addf a3 (mulf (broadcastInDim S8192x2048 ![0, 1] bcast_S1x2048_S8192x2048_0_1 (addf a4 a5)) (addf a2 (Host.dotGeneral dot_S8192x1024_S1024x2048_S8192x2048_1_0_0_1_n_n none (extf .f32 a0 bitsLt_bf16_f32 : FVec Ideal S8192x1024 .f32) (extf .f32 a1 bitsLt_bf16_f32 : FVec Ideal S1024x2048 .f32))))

/-- The reference's result 1 over its arguments. -/
abbrev REF1 (a0 : FVec Ideal S8192x1024 .bf16) (a1 : FVec Ideal S1024x2048 .bf16) (a2 : FVec Ideal S8192x2048 .f32) : FVec Ideal S8192x2048 .bf16 :=
  truncf .bf16 (addf a2 (Host.dotGeneral dot_S8192x1024_S1024x2048_S8192x2048_1_0_0_1_n_n none (extf .f32 a0 bitsLt_bf16_f32 : FVec Ideal S8192x1024 .f32) (extf .f32 a1 bitsLt_bf16_f32 : FVec Ideal S1024x2048 .f32))) bitsLt_bf16_f32

end Cert.MmOutAtRefIdeal.Grad

namespace Cert.MmOutAtIdeal.Grad

open Cert.MmOutAtIdeal Cert.MmOutAtIdeal.Gen Cert.MmOutAtRefIdeal.Grad

variable (m : (ℓ : Loc nD τ sig) → Buf (Elt Ideal) ℓ)

/-- The block indices of the windows at every grid point. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2]
    ∧ win0_4.index t = ![0, t.val % 2]
    ∧ win0_5.index t = ![0, t.val % 2]
    ∧ win0_6.index t = ![t.val / 2, t.val % 2]
    ∧ win0_7.index t = ![t.val / 2, t.val % 2] :=
  (by decide +kernel : ∀ t : Fin grid0.N, _)

/-- The result array after the run is the reference's. -/
theorem final6 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  pointwise [k0_pay2, k0_pay1, REF0]
  blk_point [iblk, V, idx t]

/-- The result array after the run is the reference's. -/
theorem final7 (c : Dev nD) : (dats m 0 c).arrAt 7 (cfgs 0).N = REF1 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  pointwise [k0_pay3, k0_pay1, REF1]
  blk_point [iblk, V, idx t]

end Cert.MmOutAtIdeal.Grad

namespace Cert.Proof

/-- The kernel's result is the reference's, on the same arguments. -/
theorem algebraic_MmOutAt : Cert.algebraic_MmOutAtIdeal_MmOutAtRefIdeal := by
  pair_intro
  · run_from Cert.MmOutAtIdeal.Gen.run_main m g
  · run_from Cert.MmOutAtRefIdeal.Value.run (F := Ideal) m' g'
    · exact (Cert.MmOutAtIdeal.Grad.final6 m c).symm
    · exact (Cert.MmOutAtIdeal.Grad.final7 m c).symm

end Cert.Proof
-- ==== Proof.MmDown.lean ====
/- The down product with its gated residual. -/
module

public import proofs.«01_k».proof.Defs
public import proofs.«01_k».proof.Proof.Gen.MmDownIdeal.Frame
public import proofs.«01_k».proof.Proof.Gen.MmDownRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MmDownRefIdeal.Grad

open Cert.MmDownRefIdeal Cert.MmDownRefIdeal.Gen Idealize.ShloMosaic.StableHlo

/-- The reference's result 0 over its arguments. -/
abbrev REF0 (a0 : FVec Ideal S8192x5632 .bf16) (a1 : FVec Ideal S5632x2048 .bf16) (a2 : FVec Ideal S8192x2048 .f32) (a3 : FVec Ideal S1x2048 .f32) (a4 : FVec Ideal S1x2048 .f32) : FVec Ideal S8192x2048 .f32 :=
  addf a2 (mulf (broadcastInDim S8192x2048 ![0, 1] bcast_S1x2048_S8192x2048_0_1 (addf a3 a4)) (Host.dotGeneral dot_S8192x5632_S5632x2048_S8192x2048_1_0_0_1_n_n none (extf .f32 a0 bitsLt_bf16_f32 : FVec Ideal S8192x5632 .f32) (extf .f32 a1 bitsLt_bf16_f32 : FVec Ideal S5632x2048 .f32)))

/-- The reference's result 1 over its arguments. -/
abbrev REF1 (a0 : FVec Ideal S8192x5632 .bf16) (a1 : FVec Ideal S5632x2048 .bf16) : FVec Ideal S8192x2048 .bf16 :=
  truncf .bf16 (Host.dotGeneral dot_S8192x5632_S5632x2048_S8192x2048_1_0_0_1_n_n none (extf .f32 a0 bitsLt_bf16_f32 : FVec Ideal S8192x5632 .f32) (extf .f32 a1 bitsLt_bf16_f32 : FVec Ideal S5632x2048 .f32)) bitsLt_bf16_f32

end Cert.MmDownRefIdeal.Grad

namespace Cert.MmDownIdeal.Grad

open Cert.MmDownIdeal Cert.MmDownIdeal.Gen Cert.MmDownRefIdeal.Grad

variable (m : (ℓ : Loc nD τ sig) → Buf (Elt Ideal) ℓ)

/-- The block indices of the windows at every grid point. -/
theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![0, t.val / 2 % 2]
    ∧ win0_4.index t = ![0, t.val / 2 % 2]
    ∧ win0_5.index t = ![t.val / 4, t.val / 2 % 2]
    ∧ win0_6.index t = ![t.val / 4, t.val / 2 % 2] :=
  (by decide +kernel : ∀ t : Fin grid0.N, _)

/-- One block product, read at an index. -/
theorem part (x0 : Vec Ideal S1024x2816 .bf16) (x1 : Vec Ideal S2816x1024 .bf16) (j : S1024x1024.Idx) :
    k0_pay1 x0 x1 j = ∑ k : Fin 2816, x0 (ix2 (j 0) k) * x1 (ix2 k (j 1)) := by
  pointwise [k0_pay1]

/-- The accumulator at the first point of a run holds the first block product. -/
theorem acc_first (c : Dev nD) (t : Fin cfg0.N) (h : t.val % 2 = 0) (j : S1024x1024.Idx) :
    (outsAt0 m c t.val t.isLt).2.2 j = 0 + k0_pay1 (iblk m c 0 t) (iblk m c 1 t) j := by
  rw [outsAt0_A m c t h (by omega) (by omega)]
  frame_out
  pointwise [k0_pay2]

/-- At every other point the accumulator gains that point's block product. -/
theorem acc_next (c : Dev nD) (t : Fin cfg0.N) (h : ¬t.val % 2 = 0) (j : S1024x1024.Idx) :
    (outsAt0 m c t.val t.isLt).2.2 j
      = (outsAt0 m c (t.val - 1) (Nat.lt_of_le_of_lt (Nat.sub_le _ _) t.isLt)).2.2 j
        + k0_pay1 (iblk m c 0 t) (iblk m c 1 t) j := by
  rw [outsAt0_B m c t h (by omega) (by omega)]
  frame_out
  rw [(Memref.isWhole_whole _).read_unread]
  pointwise [k0_pay3]

/-- The accumulator at the last point of a run: the sum of the run's block products. -/
theorem acc_sum (c : Dev nD) (t : Fin cfg0.N) (h3 : t.val % 2 = 1) (j : S1024x1024.Idx) :
    (outsAt0 m c t.val t.isLt).2.2 j = ∑ s : Fin 2, ∑ k : Fin 2816,
      (show FVec Ideal S1024x2816 .bf16 from iblk m c 0 ⟨2 * (t.val / 2) + s.val, Pipeline.run_point_lt_of_flush t h3 s⟩) (ix2 (j 0) k)
        * (show FVec Ideal S2816x1024 .bf16 from iblk m c 1 ⟨2 * (t.val / 2) + s.val, Pipeline.run_point_lt_of_flush t h3 s⟩) (ix2 k (j 1)) := by
  rw [Pipeline.eq_sum_fin_of_reset_step_apply_of_flush (fun n h => (outsAt0 m c n h).2.2) 2 (fun _ => 0)
    (fun t => k0_pay1 (F := Ideal) (iblk m c 0 t) (iblk m c 1 t))
    (fun t h j => acc_first m c t h j) (fun t h j => acc_next m c t h j) t h3 j, zero_add]
  exact Finset.sum_congr rfl fun s _ => part _ _ j

/-- The reference's contraction at an index. -/
theorem ref_at (a0 : FVec Ideal S8192x5632 .bf16) (a1 : FVec Ideal S5632x2048 .bf16) (j : S8192x2048.Idx) :
    REF1 a0 a1 j = ∑ k : Fin 5632, a0 (ix2 (j 0) k) * a1 (ix2 k (j 1)) := by
  pointwise [REF1]

/-- The reference's gated residual over its own contraction. -/
theorem ref_gate (a0 : FVec Ideal S8192x5632 .bf16) (a1 : FVec Ideal S5632x2048 .bf16) (a2 : FVec Ideal S8192x2048 .f32)
    (a3 a4 : FVec Ideal S1x2048 .f32) (j : S8192x2048.Idx) :
    REF0 a0 a1 a2 a3 a4 j = a2 j + (a3 (ix2 0 (j 1)) + a4 (ix2 0 (j 1))) * REF1 a0 a1 j := by
  pointwise [REF0, REF1]

/-- The last point of a run writes the accumulator, cast, to the second result. -/
theorem prod_last (c : Dev nD) (t : Fin cfg0.N) (h3 : t.val % 2 = 1) (j : S1024x1024.Idx) :
    (outsAt0 m c t.val t.isLt).2.1 j = (outsAt0 m c t.val t.isLt).2.2 j := by
  rw [outsAt0_B m c t (by omega) (by omega) h3]
  frame_out
  rw [(Memref.isWhole_whole _).read_unread]
  pointwise [k0_pay5]

/-- The last point of a run writes the gated residual of the accumulator to the first result. -/
theorem gate_last (c : Dev nD) (t : Fin cfg0.N) (h3 : t.val % 2 = 1) (j : S1024x1024.Idx) :
    (outsAt0 m c t.val t.isLt).1 j
      = (show FVec Ideal S1024x1024 .f32 from iblk m c 2 t) j
        + ((show FVec Ideal S1x1024 .f32 from iblk m c 3 t) (ix2 0 (j 1))
            + (show FVec Ideal S1x1024 .f32 from iblk m c 4 t) (ix2 0 (j 1))) * (outsAt0 m c t.val t.isLt).2.2 j := by
  rw [outsAt0_B m c t (by omega) (by omega) h3]
  frame_out
  rw [(Memref.isWhole_whole _).read_unread]
  pointwise [k0_pay4]

/-- The accumulator of a last point is the reference's contraction. -/
theorem acc_ref (c : Dev nD) (t : Fin cfg0.N) (h3 : t.val % 2 = 1) (j : S1024x1024.Idx) (i : S8192x2048.Idx)
    (h0 : (i 0).val = t.val / 4 * 1024 + (j 0).val) (h1 : (i 1).val = t.val / 2 % 2 * 1024 + (j 1).val) :
    (outsAt0 m c t.val t.isLt).2.2 j = REF1 (m ((c : Thread nD τ).loc main_arg0)) (m ((c : Thread nD τ).loc main_arg1)) i := by
  rw [acc_sum m c t h3, ref_at]
  refine Fin.sum_mul_add_congr fun s k hl => ?_
  blk_point [iblk, V, idx t, idx ⟨_, Pipeline.run_point_lt_of_flush t h3 s⟩]

/-- The first result array after the run is the reference's. -/
theorem final5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5, gate_last m c t h3, ref_gate, acc_ref m c t h3 _ ((win0_5.blk t).view.emb y)]
  · blk_point [iblk, V, idx t]
  · blk_point [idx t]
  · blk_point [idx t]

/-- The second result array after the run is the reference's. -/
theorem final6 (c : Dev nD) : (dats m 0 c).arrAt 6 (cfgs 0).N = REF1 (m ((c : Thread nD τ).loc main_arg0)) (m ((c : Thread nD τ).loc main_arg1)) := by
  refine (dats m 0 c).arrAt_eq_of_covers 6 _ (by decide +kernel) fun t hf y => ?_
  blk_simp
  have h3 := (flush0_6 t).mp hf
  rw [after0_6, prod_last m c t h3, acc_ref m c t h3 _ ((win0_6.blk t).view.emb y)]
  · blk_point [idx t]
  · blk_point [idx t]

end Cert.MmDownIdeal.Grad

namespace Cert.Proof

/-- The kernel's result is the reference's, on the same arguments. -/
theorem algebraic_MmDown : Cert.algebraic_MmDownIdeal_MmDownRefIdeal := by
  pair_intro
  · run_from Cert.MmDownIdeal.Gen.run_main m g
  · run_from Cert.MmDownRefIdeal.Value.run (F := Ideal) m' g'
    · exact (Cert.MmDownIdeal.Grad.final5 m c).symm
    · exact (Cert.MmDownIdeal.Grad.final6 m c).symm

end Cert.Proof
-- ==== Proof.Swiglu.lean ====
/- The gated activation. -/
module

public import proofs.«01_k».proof.Defs
public import proofs.«01_k».proof.Proof.Gen.SwigluIdeal.Frame
public import proofs.«01_k».proof.Proof.Gen.SwigluRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.SwigluRefIdeal.Grad

open Cert.SwigluRefIdeal Cert.SwigluRefIdeal.Gen Idealize.ShloMosaic.StableHlo

/-- The reference's result over its arguments. -/
abbrev REF (a0 : FVec Ideal S8192x5632 .bf16) (a1 : FVec Ideal S8192x5632 .bf16) : FVec Ideal S8192x5632 .bf16 :=
  truncf .bf16 (mulf (mulf (extf .f32 a0 bitsLt_bf16_f32 : FVec Ideal S8192x5632 .f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a0 bitsLt_bf16_f32 : FVec Ideal S8192x5632 .f32)))))) (extf .f32 a1 bitsLt_bf16_f32 : FVec Ideal S8192x5632 .f32)) bitsLt_bf16_f32

end Cert.SwigluRefIdeal.Grad

namespace Cert.SwigluIdeal.Grad

open Cert.SwigluIdeal Cert.SwigluIdeal.Gen Cert.SwigluRefIdeal.Grad

variable (m : (ℓ : Loc nD τ sig) → Buf (Elt Ideal) ℓ)

/-- The block indices of the windows at every grid point. -/
theorem idx : ∀ t : Fin cfg0.N, win0_0.index t = ![t.val % 4, t.val / 4]
    ∧ win0_1.index t = ![t.val % 4, t.val / 4]
    ∧ win0_2.index t = ![t.val % 4, t.val / 4] :=
  (by decide +kernel : ∀ t : Fin grid0.N, _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  have e0 : (iblk m c 0 t : FVec Ideal S2048x512 _) y = m ((c : Thread nD τ).loc main_arg0) (((View.whole main_v0).slice (win0_2.rect t)).emb y) := by
    blk_point [iblk, V, idx t]
  have e1 : (iblk m c 1 t : FVec Ideal S2048x512 _) y = m ((c : Thread nD τ).loc main_arg1) (((View.whole main_v0).slice (win0_2.rect t)).emb y) := by
    blk_point [iblk, V, idx t]
  simp only [Ideal.logistic, e0, e1]

end Cert.SwigluIdeal.Grad

namespace Cert.Proof

/-- The kernel's result is the reference's, on the same arguments. -/
theorem algebraic_Swiglu : Cert.algebraic_SwigluIdeal_SwigluRefIdeal := by
  pair_intro
  · run_from Cert.SwigluIdeal.Gen.run_main m g
  · run_from Cert.SwigluRefIdeal.Value.run (F := Ideal) m' g'
    exact (Cert.SwigluIdeal.Grad.final m c).symm

end Cert.Proof
-- ==== Proof.NormmodBwd.lean ====
/- The gradient of the modulated norm: towards its input, and towards the gain, the scale and the shift, summed over the tokens. -/
module

public import proofs.«01_k».proof.Defs
public import proofs.«01_k».proof.Proof.Gen.NormmodBwdIdeal.Frame
public import proofs.«01_k».proof.Proof.Gen.NormmodBwdRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.NormmodBwdRefIdeal.Grad

open Cert.NormmodBwdRefIdeal Cert.NormmodBwdRefIdeal.Gen Idealize.ShloMosaic.StableHlo

/-- The mean square of each row, with the norm's epsilon. -/
abbrev MEAN (a0 : FVec Ideal S8192x2048 .f32) : FVec Ideal S8192x1 .f32 :=
  addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

/-- The cotangent times the modulation: the gradient of the norm with its gain. -/
abbrev GY (a2 a3 : FVec Ideal S1x2048 .f32) (a6 : FVec Ideal S8192x2048 .f32) : FVec Ideal S8192x2048 .f32 :=
  mulf (shapeCast _ a6 shapeCasts_S8192x2048_S8192x2048) (broadcastInDim S8192x2048 ![0, 1] bcast_S1x2048_S8192x2048_0_1 (addf (broadcastInDim S1x2048 ![] bcast_S_S1x2048 (constant S_ .f32 0x3F800000#32)) (addf a2 a3)))

/-- The part of the input's gradient that goes through the row's mean square, one number per row. -/
abbrev THRU (a0 : FVec Ideal S8192x2048 .f32) (a1 a2 a3 : FVec Ideal S1x2048 .f32) (a6 : FVec Ideal S8192x2048 .f32) : FVec Ideal S8192 .f32 :=
  Host.reduceAdd (Host.divf (mulf (shapeCast _ (Host.reduceAdd (mulf a0 (mulf (GY a2 a3 a6) (broadcastInDim S8192x2048 ![0, 1] bcast_S1x2048_S8192x2048_0_1 a1))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (MEAN a0)) (MEAN a0)))) (broadcastInDim S8192x1 ![] bcast_S_S8192x1 (constant S_ .f32 0x45000000#32))) (constant S_ .f32 0x00000000#32) reducesTo_S8192x1_S8192_d1 h_S_

/-- The reference's gradient of the input. -/
abbrev REF0 (a0 : FVec Ideal S8192x2048 .f32) (a1 a2 a3 : FVec Ideal S1x2048 .f32) (a6 a7 : FVec Ideal S8192x2048 .f32) : FVec Ideal S8192x2048 .f32 :=
  addf (addf (addf (mulf (mulf (GY a2 a3 a6) (broadcastInDim S8192x2048 ![0, 1] bcast_S1x2048_S8192x2048_0_1 a1)) (broadcastInDim S8192x2048 ![0, 1] bcast_S8192x1_S8192x2048_0_1 (Host.rsqrt (MEAN a0)))) (mulf a0 (broadcastInDim S8192x2048 ![0] bcast_S8192_S8192x2048_0 (THRU a0 a1 a2 a3 a6)))) (mulf (broadcastInDim S8192x2048 ![0] bcast_S8192_S8192x2048_0 (THRU a0 a1 a2 a3 a6)) a0)) a7

/-- What a token adds to the gradient of the gain. -/
def GAIN (a0 : FVec Ideal S8192x2048 .f32) (a2 a3 : FVec Ideal S1x2048 .f32) (a6 : FVec Ideal S8192x2048 .f32) : FVec Ideal S8192x2048 .f32 :=
  mulf (mulf a0 (broadcastInDim S8192x2048 ![0, 1] bcast_S8192x1_S8192x2048_0_1 (Host.rsqrt (MEAN a0)))) (GY a2 a3 a6)

/-- What a token adds to the gradient of the scale. -/
def SCALE (a0 : FVec Ideal S8192x2048 .f32) (a1 : FVec Ideal S1x2048 .f32) (a6 : FVec Ideal S8192x2048 .f32) : FVec Ideal S8192x2048 .f32 :=
  mulf (mulf (mulf a0 (broadcastInDim S8192x2048 ![0, 1] bcast_S8192x1_S8192x2048_0_1 (Host.rsqrt (MEAN a0)))) (broadcastInDim S8192x2048 ![0, 1] bcast_S1x2048_S8192x2048_0_1 a1)) (shapeCast _ a6 shapeCasts_S8192x2048_S8192x2048)

/-- What a token adds to the gradient of the shift: its cotangent. -/
def SHIFT (a6 : FVec Ideal S8192x2048 .f32) : FVec Ideal S8192x2048 .f32 := a6

/-- The sum over the tokens. -/
def TOTAL (a : FVec Ideal S8192x2048 .f32) : FVec Ideal S1x2048 .f32 :=
  shapeCast _ (Host.reduceAdd a (constant S_ .f32 0x00000000#32) reducesTo_S8192x2048_S2048_d0 h_S_) shapeCasts_S2048_S1x2048

/-- The sum over the tokens, at a column. -/
theorem total_at (a : FVec Ideal S8192x2048 .f32) (j : S1x2048.Idx) : TOTAL a j = ∑ k : Fin 8192, a (ix2 k (j 1)) := by
  pointwise [TOTAL]

end Cert.NormmodBwdRefIdeal.Grad

namespace Cert.NormmodBwdIdeal.Grad

open Cert.NormmodBwdIdeal Cert.NormmodBwdIdeal.Gen Cert.NormmodBwdRefIdeal.Grad

/-- The input's gradient in a row, over that row alone. -/
theorem dx_row (x dh dx : FVec Ideal S256x2048 .f32) (X DH DX : FVec Ideal S8192x2048 .f32) (a1 a2 a3 : FVec Ideal S1x2048 .f32)
    (r : Fin 256) (R : Fin 8192) (hx : ∀ k : Fin 2048, x (ix2 r k) = X (ix2 R k)) (hh : ∀ k : Fin 2048, dh (ix2 r k) = DH (ix2 R k))
    (hd : ∀ k : Fin 2048, dx (ix2 r k) = DX (ix2 R k)) (l : Fin 2048) :
    k0_pay14 x (k0_pay4 x) (k0_pay5 x) dx (k0_pay12 a1 a2 a3 dh) (k0_pay13 x a1 a2 a3 dh) (ix2 r l) = REF0 X a1 a2 a3 DH DX (ix2 R l) := by
  pointwise [k0_pay14, k0_pay4, k0_pay5, k0_pay3, k0_pay12, k0_pay13, k0_pay10, k0_pay7, REF0]
  simp only [hx, hh, hd]
  ac_rfl

/-- What a block's rows add to the gradient of the gain. -/
theorem gain_rows (x dh : FVec Ideal S256x2048 .f32) (X DH : FVec Ideal S8192x2048 .f32) (a2 a3 : FVec Ideal S1x2048 .f32)
    (f : Fin 256 → Fin 8192) (hx : ∀ (r : Fin 256) (k : Fin 2048), x (ix2 r k) = X (ix2 (f r) k))
    (hh : ∀ (r : Fin 256) (k : Fin 2048), dh (ix2 r k) = DH (ix2 (f r) k)) (l : Fin 2048) :
    k0_pay11 x a2 a3 dh (ix2 0 l) = ∑ r : Fin 256, GAIN X a2 a3 DH (ix2 (f r) l) := by
  pointwise [k0_pay11, k0_pay6, k0_pay4, k0_pay3, k0_pay10, k0_pay7, GAIN]
  simp only [hx, hh]

/-- What a block's rows add to the gradient of the scale. -/
theorem scale_rows (x dh : FVec Ideal S256x2048 .f32) (X DH : FVec Ideal S8192x2048 .f32) (a1 : FVec Ideal S1x2048 .f32)
    (f : Fin 256 → Fin 8192) (hx : ∀ (r : Fin 256) (k : Fin 2048), x (ix2 r k) = X (ix2 (f r) k))
    (hh : ∀ (r : Fin 256) (k : Fin 2048), dh (ix2 r k) = DH (ix2 (f r) k)) (l : Fin 2048) :
    k0_pay9 x a1 dh (ix2 0 l) = ∑ r : Fin 256, SCALE X a1 DH (ix2 (f r) l) := by
  pointwise [k0_pay9, k0_pay6, k0_pay4, k0_pay3, k0_pay7, SCALE]
  simp only [hx, hh]

/-- What a block's rows add to the gradient of the shift. -/
theorem shift_rows (dh : FVec Ideal S256x2048 .f32) (DH : FVec Ideal S8192x2048 .f32)
    (f : Fin 256 → Fin 8192) (hh : ∀ (r : Fin 256) (k : Fin 2048), dh (ix2 r k) = DH (ix2 (f r) k)) (l : Fin 2048) :
    k0_pay8 dh (ix2 0 l) = ∑ r : Fin 256, SHIFT DH (ix2 (f r) l) := by
  pointwise [k0_pay8, SHIFT]
  simp only [hh]

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0] :=
  (by decide +kernel : ∀ t : Fin grid0.N, _)

/-- The token of a block's row. -/
def tok (t : Fin cfg0.N) (r : Fin 256) : Fin 8192 := ⟨256 * t.val + r.val, by have h : t.val < 32 := t.isLt; omega⟩

/-- The input's block holds the array's rows. -/
theorem x_blk (c : Dev nD) (t : Fin cfg0.N) (r : Fin 256) (k : Fin 2048) :
    (iblk m c 0 t : FVec Ideal S256x2048 .f32) (ix2 r k) = m ((c : Thread nD τ).loc main_arg0) (ix2 (tok t r) k) := by
  blk_point [iblk, V, idx t, tok]

/-- The cotangent's block holds the array's rows. -/
theorem dh_blk (c : Dev nD) (t : Fin cfg0.N) (r : Fin 256) (k : Fin 2048) :
    (iblk m c 6 t : FVec Ideal S256x2048 .f32) (ix2 r k) = m ((c : Thread nD τ).loc main_arg6) (ix2 (tok t r) k) := by
  blk_point [iblk, V, idx t, tok]

/-- The other cotangent's block holds the array's rows. -/
theorem dx_blk (c : Dev nD) (t : Fin cfg0.N) (r : Fin 256) (k : Fin 2048) :
    (iblk m c 7 t : FVec Ideal S256x2048 .f32) (ix2 r k) = m ((c : Thread nD τ).loc main_arg7) (ix2 (tok t r) k) := by
  blk_point [iblk, V, idx t, tok]

/-- The gain's block is the gain. -/
theorem ln_blk (c : Dev nD) (t : Fin cfg0.N) : (iblk m c 1 t : FVec Ideal S1x2048 .f32) = m ((c : Thread nD τ).loc main_arg1) := by
  funext y
  blk_point [iblk, V, idx t]

/-- The scale's block is the scale. -/
theorem sc_blk (c : Dev nD) (t : Fin cfg0.N) : (iblk m c 2 t : FVec Ideal S1x2048 .f32) = m ((c : Thread nD τ).loc main_arg2) := by
  funext y
  blk_point [iblk, V, idx t]

/-- The scale bias's block is the scale bias. -/
theorem bsc_blk (c : Dev nD) (t : Fin cfg0.N) : (iblk m c 3 t : FVec Ideal S1x2048 .f32) = m ((c : Thread nD τ).loc main_arg3) := by
  funext y
  blk_point [iblk, V, idx t]

/-- A block's row at its place in the array. -/
theorem place (t : Fin cfg0.N) (r : Fin 256) (l : Fin 2048) : ((cfg0.win 8).blk t).view.emb (ix2 r l) = ix2 (tok t r) l := by
  blk_point [idx t, tok]

/-- The input's gradient of a block, at either kind of point. -/
theorem out8 (c : Dev nD) (t : Fin cfg0.N) : (outsAt0 m c t.val t.isLt).1
    = k0_pay14 (iblk m c 0 t) (k0_pay4 (iblk m c 0 t)) (k0_pay5 (iblk m c 0 t)) (iblk m c 7 t)
        (k0_pay12 (iblk m c 1 t) (iblk m c 2 t) (iblk m c 3 t) (iblk m c 6 t))
        (k0_pay13 (iblk m c 0 t) (iblk m c 1 t) (iblk m c 2 t) (iblk m c 3 t) (iblk m c 6 t)) := by
  by_cases h : t.val % 32 = 0
  · rw [outsAt0_A m c t h h h]
    frame_out
  · rw [outsAt0_B m c t h h h]
    frame_out

/-- The input's gradient after the run is the reference's. -/
theorem final8 (c : Dev nD) : (dats m 0 c).arrAt 8 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 8 _ (by decide +kernel) fun t hf y => ?_
  obtain ⟨r, l, rfl⟩ : ∃ (r : Fin 256) (l : Fin 2048), y = ix2 r l := ⟨y 0, y 1, eq_ix2 y⟩
  refine Eq.trans ?_ (congrArg _ (place t r l)).symm
  rw [after0_8, out8, ln_blk, sc_blk, bsc_blk]
  exact dx_row _ _ _ _ _ _ _ _ _ r (tok t r) (x_blk m c t r) (dh_blk m c t r) (dx_blk m c t r) l

/-- The accumulated block 9 is the whole array. -/
theorem place9 (t : Fin cfg0.N) (l : Fin 2048) : ((cfg0.win 9).blk t).view.emb (ix2 0 l) = ix2 0 l := by
  blk_point [idx t]

/-- The accumulated block 10 is the whole array. -/
theorem place10 (t : Fin cfg0.N) (l : Fin 2048) : ((cfg0.win 10).blk t).view.emb (ix2 0 l) = ix2 0 l := by
  blk_point [idx t]

/-- The accumulated block 11 is the whole array. -/
theorem place11 (t : Fin cfg0.N) (l : Fin 2048) : ((cfg0.win 11).blk t).view.emb (ix2 0 l) = ix2 0 l := by
  blk_point [idx t]

/-- The sum over the points of a run and their rows is the sum over the tokens. -/
theorem tokens_sum (A : FVec Ideal S8192x2048 .f32) (t : Fin cfg0.N) (h3 : t.val % 32 = 31) (l : Fin 2048) :
    ∑ s : Fin 32, ∑ r : Fin 256, A (ix2 (tok ⟨32 * (t.val / 32) + s.val, Pipeline.run_point_lt_of_flush t h3 s⟩ r) l) = ∑ k : Fin 8192, A (ix2 k l) := by
  refine Fin.sum_mul_add_congr fun s k hl => ?_
  have h : t.val < 32 := t.isLt
  refine congrArg (fun z => A (ix2 z l)) (Fin.ext ?_)
  simp only [tok]
  omega

/-- What the first point leaves of the gradient of the gain. -/
theorem gain_first (c : Dev nD) (t : Fin cfg0.N) (h : t.val % 32 = 0) (l : Fin 2048) : (outsAt0 m c t.val t.isLt).2.1 (ix2 0 l)
    = 0 + ∑ r : Fin 256, GAIN (m ((c : Thread nD τ).loc main_arg0)) (m ((c : Thread nD τ).loc main_arg2)) (m ((c : Thread nD τ).loc main_arg3)) (m ((c : Thread nD τ).loc main_arg6)) (ix2 (tok t r) l) := by
  rw [outsAt0_A m c t h h h, ← gain_rows _ _ _ _ _ _ (tok t) (x_blk m c t) (dh_blk m c t) l]
  frame_out
  try rw [(Memref.isWhole_whole _).read_unread]
  try rw [ln_blk]
  try rw [sc_blk, bsc_blk]
  generalize k0_pay11 (F := Ideal) _ _ _ _ = G
  pointwise [k0_pay16, k0_pay15]

/-- Every other point adds its block's rows to the gradient of the gain. -/
theorem gain_next (c : Dev nD) (t : Fin cfg0.N) (h : ¬t.val % 32 = 0) (l : Fin 2048) : (outsAt0 m c t.val t.isLt).2.1 (ix2 0 l)
    = (outsAt0 m c (t.val - 1) (Nat.lt_of_le_of_lt (Nat.sub_le _ _) t.isLt)).2.1 (ix2 0 l)
      + ∑ r : Fin 256, GAIN (m ((c : Thread nD τ).loc main_arg0)) (m ((c : Thread nD τ).loc main_arg2)) (m ((c : Thread nD τ).loc main_arg3)) (m ((c : Thread nD τ).loc main_arg6)) (ix2 (tok t r) l) := by
  rw [outsAt0_B m c t h h h, ← gain_rows _ _ _ _ _ _ (tok t) (x_blk m c t) (dh_blk m c t) l]
  frame_out
  try rw [(Memref.isWhole_whole _).read_unread]
  try rw [ln_blk]
  try rw [sc_blk, bsc_blk]
  generalize k0_pay11 (F := Ideal) _ _ _ _ = G
  pointwise [k0_pay16]

/-- The gradient of the gain after the run is the reference's. -/
theorem final9 (c : Dev nD) : (dats m 0 c).arrAt 9 (cfgs 0).N = TOTAL (GAIN (m ((c : Thread nD τ).loc main_arg0)) (m ((c : Thread nD τ).loc main_arg2)) (m ((c : Thread nD τ).loc main_arg3)) (m ((c : Thread nD τ).loc main_arg6))) := by
  refine (dats m 0 c).arrAt_eq_of_covers 9 _ (by decide +kernel) fun t hf y => ?_
  obtain ⟨z, l, rfl⟩ : ∃ (z : Fin 1) (l : Fin 2048), y = ix2 z l := ⟨y 0, y 1, eq_ix2 y⟩
  obtain rfl : z = 0 := Subsingleton.elim _ _
  have h3 := (flush0_9 t).mp hf
  refine Eq.trans ?_ (congrArg _ (place9 t l)).symm
  rw [after0_9, total_at]
  refine (Pipeline.eq_sum_fin_of_reset_step_apply_of_flush (fun n h (l : Fin 2048) => (outsAt0 m c n h).2.1 (ix2 0 l)) 32 (fun _ => 0)
    (fun t l => ∑ r : Fin 256, GAIN (m ((c : Thread nD τ).loc main_arg0)) (m ((c : Thread nD τ).loc main_arg2)) (m ((c : Thread nD τ).loc main_arg3)) (m ((c : Thread nD τ).loc main_arg6)) (ix2 (tok t r) l)) (fun t h l => gain_first m c t h l) (fun t h l => gain_next m c t h l) t h3 l).trans ?_
  rw [zero_add]
  exact tokens_sum _ t h3 l

/-- What the first point leaves of the gradient of the scale. -/
theorem scale_first (c : Dev nD) (t : Fin cfg0.N) (h : t.val % 32 = 0) (l : Fin 2048) : (outsAt0 m c t.val t.isLt).2.2.1 (ix2 0 l)
    = 0 + ∑ r : Fin 256, SCALE (m ((c : Thread nD τ).loc main_arg0)) (m ((c : Thread nD τ).loc main_arg1)) (m ((c : Thread nD τ).loc main_arg6)) (ix2 (tok t r) l) := by
  rw [outsAt0_A m c t h h h, ← scale_rows _ _ _ _ _ (tok t) (x_blk m c t) (dh_blk m c t) l]
  frame_out
  try rw [(Memref.isWhole_whole _).read_unread]
  try rw [ln_blk]
  try rw [sc_blk, bsc_blk]
  generalize k0_pay9 (F := Ideal) _ _ _ = G
  pointwise [k0_pay18, k0_pay17]

/-- Every other point adds its block's rows to the gradient of the scale. -/
theorem scale_next (c : Dev nD) (t : Fin cfg0.N) (h : ¬t.val % 32 = 0) (l : Fin 2048) : (outsAt0 m c t.val t.isLt).2.2.1 (ix2 0 l)
    = (outsAt0 m c (t.val - 1) (Nat.lt_of_le_of_lt (Nat.sub_le _ _) t.isLt)).2.2.1 (ix2 0 l)
      + ∑ r : Fin 256, SCALE (m ((c : Thread nD τ).loc main_arg0)) (m ((c : Thread nD τ).loc main_arg1)) (m ((c : Thread nD τ).loc main_arg6)) (ix2 (tok t r) l) := by
  rw [outsAt0_B m c t h h h, ← scale_rows _ _ _ _ _ (tok t) (x_blk m c t) (dh_blk m c t) l]
  frame_out
  try rw [(Memref.isWhole_whole _).read_unread]
  try rw [ln_blk]
  try rw [sc_blk, bsc_blk]
  generalize k0_pay9 (F := Ideal) _ _ _ = G
  pointwise [k0_pay18]

/-- The gradient of the scale after the run is the reference's. -/
theorem final10 (c : Dev nD) : (dats m 0 c).arrAt 10 (cfgs 0).N = TOTAL (SCALE (m ((c : Thread nD τ).loc main_arg0)) (m ((c : Thread nD τ).loc main_arg1)) (m ((c : Thread nD τ).loc main_arg6))) := by
  refine (dats m 0 c).arrAt_eq_of_covers 10 _ (by decide +kernel) fun t hf y => ?_
  obtain ⟨z, l, rfl⟩ : ∃ (z : Fin 1) (l : Fin 2048), y = ix2 z l := ⟨y 0, y 1, eq_ix2 y⟩
  obtain rfl : z = 0 := Subsingleton.elim _ _
  have h3 := (flush0_10 t).mp hf
  refine Eq.trans ?_ (congrArg _ (place10 t l)).symm
  rw [after0_10, total_at]
  refine (Pipeline.eq_sum_fin_of_reset_step_apply_of_flush (fun n h (l : Fin 2048) => (outsAt0 m c n h).2.2.1 (ix2 0 l)) 32 (fun _ => 0)
    (fun t l => ∑ r : Fin 256, SCALE (m ((c : Thread nD τ).loc main_arg0)) (m ((c : Thread nD τ).loc main_arg1)) (m ((c : Thread nD τ).loc main_arg6)) (ix2 (tok t r) l)) (fun t h l => scale_first m c t h l) (fun t h l => scale_next m c t h l) t h3 l).trans ?_
  rw [zero_add]
  exact tokens_sum _ t h3 l

/-- What the first point leaves of the gradient of the shift. -/
theorem shift_first (c : Dev nD) (t : Fin cfg0.N) (h : t.val % 32 = 0) (l : Fin 2048) : (outsAt0 m c t.val t.isLt).2.2.2 (ix2 0 l)
    = 0 + ∑ r : Fin 256, SHIFT (m ((c : Thread nD τ).loc main_arg6)) (ix2 (tok t r) l) := by
  rw [outsAt0_A m c t h h h, ← shift_rows _ _ (tok t) (dh_blk m c t) l]
  frame_out
  try rw [(Memref.isWhole_whole _).read_unread]
  try rw [ln_blk]
  try rw [sc_blk, bsc_blk]
  generalize k0_pay8 (F := Ideal) _ = G
  pointwise [k0_pay2, k0_pay1]

/-- Every other point adds its block's rows to the gradient of the shift. -/
theorem shift_next (c : Dev nD) (t : Fin cfg0.N) (h : ¬t.val % 32 = 0) (l : Fin 2048) : (outsAt0 m c t.val t.isLt).2.2.2 (ix2 0 l)
    = (outsAt0 m c (t.val - 1) (Nat.lt_of_le_of_lt (Nat.sub_le _ _) t.isLt)).2.2.2 (ix2 0 l)
      + ∑ r : Fin 256, SHIFT (m ((c : Thread nD τ).loc main_arg6)) (ix2 (tok t r) l) := by
  rw [outsAt0_B m c t h h h, ← shift_rows _ _ (tok t) (dh_blk m c t) l]
  frame_out
  try rw [(Memref.isWhole_whole _).read_unread]
  try rw [ln_blk]
  try rw [sc_blk, bsc_blk]
  generalize k0_pay8 (F := Ideal) _ = G
  pointwise [k0_pay2]

/-- The gradient of the shift after the run is the reference's. -/
theorem final11 (c : Dev nD) : (dats m 0 c).arrAt 11 (cfgs 0).N = TOTAL (SHIFT (m ((c : Thread nD τ).loc main_arg6))) := by
  refine (dats m 0 c).arrAt_eq_of_covers 11 _ (by decide +kernel) fun t hf y => ?_
  obtain ⟨z, l, rfl⟩ : ∃ (z : Fin 1) (l : Fin 2048), y = ix2 z l := ⟨y 0, y 1, eq_ix2 y⟩
  obtain rfl : z = 0 := Subsingleton.elim _ _
  have h3 := (flush0_11 t).mp hf
  refine Eq.trans ?_ (congrArg _ (place11 t l)).symm
  rw [after0_11, total_at]
  refine (Pipeline.eq_sum_fin_of_reset_step_apply_of_flush (fun n h (l : Fin 2048) => (outsAt0 m c n h).2.2.2 (ix2 0 l)) 32 (fun _ => 0)
    (fun t l => ∑ r : Fin 256, SHIFT (m ((c : Thread nD τ).loc main_arg6)) (ix2 (tok t r) l)) (fun t h l => shift_first m c t h l) (fun t h l => shift_next m c t h l) t h3 l).trans ?_
  rw [zero_add]
  exact tokens_sum _ t h3 l

/-- The kernel's run: the four results are the reference's, and the arguments end unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v0_1) = TOTAL (GAIN (m ((c.tc : Thread nD τ).loc main_arg0)) (m ((c.tc : Thread nD τ).loc main_arg2)) (m ((c.tc : Thread nD τ).loc main_arg3)) (m ((c.tc : Thread nD τ).loc main_arg6)))
      ∧ r.2.mem ((c.tc : Thread nD τ).loc main_v0_2) = TOTAL (SCALE (m ((c.tc : Thread nD τ).loc main_arg0)) (m ((c.tc : Thread nD τ).loc main_arg1)) (m ((c.tc : Thread nD τ).loc main_arg6)))
      ∧ r.2.mem ((c.tc : Thread nD τ).loc main_v0_3) = TOTAL (SHIFT (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (run_main m g) (unchanged m g)) fun r h c =>
    ⟨((h.1 c).1 8).trans (final8 m c), ((h.1 c).1 9).trans (final9 m c), ((h.1 c).1 10).trans (final10 m c), ((h.1 c).1 11).trans (final11 m c), h.2 c⟩

end Cert.NormmodBwdIdeal.Grad

namespace Cert.Proof

/-- The kernel's results are the reference's, on the same arguments. -/
theorem algebraic_NormmodBwd : Cert.algebraic_NormmodBwdIdeal_NormmodBwdRefIdeal := by
  pair_intro
  · run_from Cert.NormmodBwdIdeal.Grad.run m g
  · refine θ_run_mono (Cert.NormmodBwdRefIdeal.Value.run (F := Ideal) m' g') fun r h c => ?_
    obtain ⟨h0, h1, h2, h3, h4⟩ := h c
    obtain ⟨e0, e1, e2, e3, e4, e5, e6, e7⟩ := hagree c
    unfold Cert.NormmodBwdRefIdeal.Value.res_main_v50 at h0
    rw [e0, e1, e2, e3, e6, e7] at h0
    rw [e0, e2, e3, e6] at h1
    rw [e0, e1, e6] at h2
    rw [e6] at h3
    exact ⟨h0, h1, h2, h3, h4⟩

end Cert.Proof
-- ==== Proof.Normmod.lean ====
/- The norm with its modulation. -/
module

public import proofs.«01_k».proof.Defs
public import proofs.«01_k».proof.Proof.Gen.NormmodIdeal.Frame
public import proofs.«01_k».proof.Proof.Gen.NormmodRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.NormmodRefIdeal.Grad

open Cert.NormmodRefIdeal Cert.NormmodRefIdeal.Gen Idealize.ShloMosaic.StableHlo

/-- The reference's result. -/
abbrev REF (a0 : FVec Ideal S8192x2048 .f32) (a1 a2 a3 a4 a5 : FVec Ideal S1x2048 .f32) : FVec Ideal S8192x2048 .bf16 :=
  truncf .bf16 (addf (mulf (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a1)) (broadcastInDim S8192x2048 ![0, 1] bcast_S1x2048_S8192x2048_0_1 (addf (broadcastInDim S1x2048 ![] bcast_S_S1x2048 (constant S_ .f32 0x3F800000#32)) (addf a2 a3)))) (broadcastInDim S8192x2048 ![0, 1] bcast_S1x2048_S8192x2048_0_1 (addf a4 a5))) bitsLt_bf16_f32

end Cert.NormmodRefIdeal.Grad

namespace Cert.NormmodIdeal.Grad

open Cert.NormmodIdeal Cert.NormmodIdeal.Gen Cert.NormmodRefIdeal.Grad

/-- The result in a row, over that row alone. -/
theorem row (x : FVec Ideal S256x2048 .f32) (X : FVec Ideal S8192x2048 .f32) (a1 a2 a3 a4 a5 : FVec Ideal S1x2048 .f32)
    (r : Fin 256) (R : Fin 8192) (hx : ∀ k : Fin 2048, x (ix2 r k) = X (ix2 R k)) (l : Fin 2048) :
    k0_pay1 x a1 a2 a3 a4 a5 (ix2 r l) = REF X a1 a2 a3 a4 a5 (ix2 R l) := by
  pointwise [k0_pay1, REF]
  simp only [hx]

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

/-- The token of a block's row. -/
def tok (t : Fin cfg0.N) (r : Fin 256) : Fin 8192 := ⟨256 * t.val + r.val, by have h : t.val < 32 := t.isLt; omega⟩

/-- The input's block holds the array's rows. -/
theorem x_blk (c : Dev nD) (t : Fin cfg0.N) (r : Fin 256) (k : Fin 2048) :
    (iblk m c 0 t : FVec Ideal S256x2048 .f32) (ix2 r k) = m ((c : Thread nD τ).loc main_arg0) (ix2 (tok t r) k) := by
  blk_point [iblk, V, idx t, tok]

/-- The gain's block is the gain. -/
theorem p1_blk (c : Dev nD) (t : Fin cfg0.N) : (iblk m c 1 t : FVec Ideal S1x2048 .f32) = m ((c : Thread nD τ).loc main_arg1) := by
  funext y
  blk_point [iblk, V, idx t]

/-- The scale's block is the scale. -/
theorem p2_blk (c : Dev nD) (t : Fin cfg0.N) : (iblk m c 2 t : FVec Ideal S1x2048 .f32) = m ((c : Thread nD τ).loc main_arg2) := by
  funext y
  blk_point [iblk, V, idx t]

/-- The scale bias's block is the scale bias. -/
theorem p3_blk (c : Dev nD) (t : Fin cfg0.N) : (iblk m c 3 t : FVec Ideal S1x2048 .f32) = m ((c : Thread nD τ).loc main_arg3) := by
  funext y
  blk_point [iblk, V, idx t]

/-- The shift's block is the shift. -/
theorem p4_blk (c : Dev nD) (t : Fin cfg0.N) : (iblk m c 4 t : FVec Ideal S1x2048 .f32) = m ((c : Thread nD τ).loc main_arg4) := by
  funext y
  blk_point [iblk, V, idx t]

/-- The shift bias's block is the shift bias. -/
theorem p5_blk (c : Dev nD) (t : Fin cfg0.N) : (iblk m c 5 t : FVec Ideal S1x2048 .f32) = m ((c : Thread nD τ).loc main_arg5) := by
  funext y
  blk_point [iblk, V, idx t]

/-- A block's row at its place in the array. -/
theorem place (t : Fin cfg0.N) (r : Fin 256) (l : Fin 2048) : ((cfg0.win 6).blk t).view.emb (ix2 r l) = ix2 (tok t r) l := by
  blk_point [idx t, tok]

/-- The result after the run is the reference's. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, l, rfl⟩ : ∃ (r : Fin 256) (l : Fin 2048), y = ix2 r l := ⟨y 0, y 1, eq_ix2 y⟩
  refine Eq.trans ?_ (congrArg _ (place t r l)).symm
  rw [after0_6]
  frame_out
  rw [p1_blk, p2_blk, p3_blk, p4_blk, p5_blk]
  exact row _ _ _ _ _ _ _ r (tok t r) (x_blk m c t r) l

end Cert.NormmodIdeal.Grad

namespace Cert.Proof

/-- The kernel's result is the reference's, on the same arguments. -/
theorem algebraic_Normmod : Cert.algebraic_NormmodIdeal_NormmodRefIdeal := by
  pair_intro
  · run_from Cert.NormmodIdeal.Gen.run_main m g
  · run_from Cert.NormmodRefIdeal.Value.run (F := Ideal) m' g'
    exact (Cert.NormmodIdeal.Grad.final m c).symm

end Cert.Proof
-- ==== Proof.Dnpost.lean ====
/- The gated norm of the delta rule's output. -/
module

public import proofs.«01_k».proof.Defs
public import proofs.«01_k».proof.Proof.Gen.DnpostIdeal.Frame
public import proofs.«01_k».proof.Proof.Gen.DnpostRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DnpostRefIdeal.Grad

open Cert.DnpostRefIdeal Cert.DnpostRefIdeal.Gen Idealize.ShloMosaic.StableHlo

/-- The input by heads. -/
abbrev O3 (a0 : FVec Ideal S8192x1024 .f32) : FVec Ideal S8192x8x128 .f32 :=
  shapeCast _ a0 shapeCasts_S8192x1024_S8192x8x128

/-- The gate by heads. -/
abbrev Z3 (a1 : FVec Ideal S8192x5632 .f32) : FVec Ideal S8192x8x128 .f32 :=
  shapeCast _ (extractStridedSlice S8192x1024 ![0, 3072] a1 slices_S8192x5632_S8192x1024_0_3072) shapeCasts_S8192x1024_S8192x8x128

/-- The logistic function of the gate. -/
abbrev SG (a1 : FVec Ideal S8192x5632 .f32) : FVec Ideal S8192x8x128 .f32 :=
  Host.divf (broadcastInDim S8192x8x128 ![] bcast_S_S8192x8x128 (constant S_ .f32 0x3F800000#32)) (addf (broadcastInDim S8192x8x128 ![] bcast_S_S8192x8x128 (constant S_ .f32 0x3F800000#32)) (Host.exp (Host.negf (Z3 a1))))

/-- The mean square of every head, with the epsilon of the norm. -/
abbrev MEAN (a0 : FVec Ideal S8192x1024 .f32) : FVec Ideal S8192x8x1 .f32 :=
  addf (Host.divf (broadcastInDim S8192x8x1 ![0, 1] bcast_S8192x8_S8192x8x1_0_1 (Host.reduceAdd (mulf (O3 a0) (O3 a0)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32))

/-- The norm of every head. -/
abbrev N3 (a0 : FVec Ideal S8192x1024 .f32) : FVec Ideal S8192x8x128 .f32 :=
  mulf (O3 a0) (broadcastInDim S8192x8x128 ![0, 1, 2] bcast_S8192x8x1_S8192x8x128_0_1_2 (Host.rsqrt (MEAN a0)))

/-- The gain, the same for every head. -/
abbrev W3 (a2 : FVec Ideal S1x128 .f32) : FVec Ideal S8192x8x128 .f32 :=
  broadcastInDim S8192x8x128 ![0, 1, 2] bcast_S1x1x128_S8192x8x128_0_1_2 (broadcastInDim S1x1x128 ![1, 2] bcast_S1x128_S1x1x128_1_2 a2)

/-- The reference's result. -/
abbrev REF (a0 : FVec Ideal S8192x1024 .f32) (a1 : FVec Ideal S8192x5632 .f32) (a2 : FVec Ideal S1x128 .f32) : FVec Ideal S8192x1024 .bf16 :=
  truncf .bf16 (shapeCast _ (mulf (mulf (N3 a0) (W3 a2)) (mulf (Z3 a1) (SG a1))) shapeCasts_S8192x8x128_S8192x1024) bitsLt_bf16_f32

end Cert.DnpostRefIdeal.Grad

namespace Cert.DnpostIdeal.Grad

open Cert.DnpostIdeal Cert.DnpostIdeal.Gen Cert.DnpostRefIdeal.Grad

/-- The result in a row and head, over that row and head alone. -/
theorem row (o z : FVec Ideal S2048x128 .f32) (w : FVec Ideal S1x128 .f32) (O : FVec Ideal S8192x1024 .f32) (Z : FVec Ideal S8192x5632 .f32)
    (r : Fin 2048) (R : Fin 8192) (C : Fin 1024)
    (ho : ∀ k : Fin 128, o (ix2 r k) = O (ix2 R ⟨C.val / 128 * 128 + k.val, by omega⟩))
    (hz : ∀ k : Fin 128, z (ix2 r k) = Z (ix2 R ⟨3072 + (C.val / 128 * 128 + k.val), by omega⟩)) (l : Fin 128) (hl : C.val % 128 = l.val) :
    k0_pay1 o z w (ix2 r l) = REF O Z w (ix2 R C) := by
  obtain rfl : l = ⟨C.val % 128, Nat.mod_lt _ (by decide)⟩ := Fin.ext hl.symm
  pointwise [k0_pay1, REF]
  simp only [ho, hz, Ideal.logistic, Nat.div_add_mod', Fin.eta]

variable (m : (ℓ : Loc nD τ sig) → Buf (Elt Ideal) ℓ)

/-- The block indices of the windows at every grid point. -/
theorem idx : ∀ t : Fin cfg0.N, win0_0.index t = ![t.val % 4, t.val / 4]
    ∧ win0_1.index t = ![t.val % 4, 24 + t.val / 4]
    ∧ win0_2.index t = ![0, 0]
    ∧ win0_3.index t = ![t.val % 4, t.val / 4] :=
  (by decide +kernel : ∀ t : Fin grid0.N, _)

/-- The token of a block's row. -/
def tok (t : Fin cfg0.N) (r : Fin 2048) : Fin 8192 := ⟨2048 * (t.val % 4) + r.val, by omega⟩

/-- The head of a block. -/
def hd (t : Fin cfg0.N) : Fin 8 := ⟨t.val / 4, by have h : t.val < 32 := t.isLt; omega⟩

/-- The column of the array that a block's column is. -/
def col (t : Fin cfg0.N) (l : Fin 128) : Fin 1024 := ⟨(hd t).val * 128 + l.val, by omega⟩

/-- The input's block holds one head of a block of tokens. -/
theorem o_blk (c : Dev nD) (t : Fin cfg0.N) (r : Fin 2048) (k : Fin 128) : (iblk m c 0 t : FVec Ideal S2048x128 .f32) (ix2 r k)
    = m ((c : Thread nD τ).loc main_arg0) (ix2 (tok t r) ⟨(hd t).val * 128 + k.val, by omega⟩) := by
  blk_point [iblk, V, idx t, tok, hd]

/-- The gate's block holds one head of a block of tokens. -/
theorem z_blk (c : Dev nD) (t : Fin cfg0.N) (r : Fin 2048) (k : Fin 128) : (iblk m c 1 t : FVec Ideal S2048x128 .f32) (ix2 r k)
    = m ((c : Thread nD τ).loc main_arg1) (ix2 (tok t r) ⟨3072 + ((hd t).val * 128 + k.val), by omega⟩) := by
  blk_point [iblk, V, idx t, tok, hd]

/-- The gain's block is the gain. -/
theorem w_blk (c : Dev nD) (t : Fin cfg0.N) : (iblk m c 2 t : FVec Ideal S1x128 .f32) = m ((c : Thread nD τ).loc main_arg2) := by
  funext y
  blk_point [iblk, V, idx t]

/-- A block's row and column at their place in the array 3. -/
theorem place3 (t : Fin cfg0.N) (r : Fin 2048) (l : Fin 128) : ((cfg0.win 3).blk t).view.emb (ix2 r l) = ix2 (tok t r) (col t l) := by
  blk_point [idx t, tok, col, hd]

/-- The result after the run is the reference's. -/
theorem final3 (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 2048) (l : Fin 128), y = ix2 r l := ⟨y 0, y 1, eq_ix2 y⟩
  refine Eq.trans ?_ (congrArg _ (place3 t r l)).symm
  have hc : (col t l).val / 128 = (hd t).val := by simp only [col]; omega
  rw [after0_3]
  frame_out
  rw [w_blk]
  refine row _ _ _ _ _ r (tok t r) (col t l) (fun k => ?_) (fun k => ?_) l (by simp only [col]; omega)
  · simp only [hc]; exact o_blk m c t r k
  · simp only [hc]; exact z_blk m c t r k

end Cert.DnpostIdeal.Grad

namespace Cert.Proof

/-- The kernel's result is the reference's, on the same arguments. -/
theorem algebraic_Dnpost : Cert.algebraic_DnpostIdeal_DnpostRefIdeal := by
  pair_intro
  · run_from Cert.DnpostIdeal.Gen.run_main m g
  · run_from Cert.DnpostRefIdeal.Value.run (F := Ideal) m' g'
    exact (Cert.DnpostIdeal.Grad.final3 m c).symm

end Cert.Proof
-- ==== Proof.DnpostBwd.lean ====
/- The gradient of the gated norm of the delta rule's output. -/
module

public import proofs.«01_k».proof.Defs
public import proofs.«01_k».proof.Proof.Gen.DnpostBwdIdeal.Frame
public import proofs.«01_k».proof.Proof.Gen.DnpostBwdRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DnpostBwdRefIdeal.Grad

open Cert.DnpostBwdRefIdeal Cert.DnpostBwdRefIdeal.Gen Idealize.ShloMosaic.StableHlo

/-- The input by heads. -/
abbrev O3 (a0 : FVec Ideal S8192x1024 .f32) : FVec Ideal S8192x8x128 .f32 :=
  shapeCast _ a0 shapeCasts_S8192x1024_S8192x8x128

/-- The gate by heads. -/
abbrev Z3 (a1 : FVec Ideal S8192x5632 .f32) : FVec Ideal S8192x8x128 .f32 :=
  shapeCast _ (extractStridedSlice S8192x1024 ![0, 3072] a1 slices_S8192x5632_S8192x1024_0_3072) shapeCasts_S8192x1024_S8192x8x128

/-- The logistic function of the gate. -/
abbrev SG (a1 : FVec Ideal S8192x5632 .f32) : FVec Ideal S8192x8x128 .f32 :=
  Host.divf (broadcastInDim S8192x8x128 ![] bcast_S_S8192x8x128 (constant S_ .f32 0x3F800000#32)) (addf (broadcastInDim S8192x8x128 ![] bcast_S_S8192x8x128 (constant S_ .f32 0x3F800000#32)) (Host.exp (Host.negf (Z3 a1))))

/-- The mean square of every head, with the epsilon of the norm. -/
abbrev MEAN (a0 : FVec Ideal S8192x1024 .f32) : FVec Ideal S8192x8x1 .f32 :=
  addf (Host.divf (broadcastInDim S8192x8x1 ![0, 1] bcast_S8192x8_S8192x8x1_0_1 (Host.reduceAdd (mulf (O3 a0) (O3 a0)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32))

/-- The norm of every head. -/
abbrev N3 (a0 : FVec Ideal S8192x1024 .f32) : FVec Ideal S8192x8x128 .f32 :=
  mulf (O3 a0) (broadcastInDim S8192x8x128 ![0, 1, 2] bcast_S8192x8x1_S8192x8x128_0_1_2 (Host.rsqrt (MEAN a0)))

/-- The gain, the same for every head. -/
abbrev W3 (a2 : FVec Ideal S1x128 .f32) : FVec Ideal S8192x8x128 .f32 :=
  broadcastInDim S8192x8x128 ![0, 1, 2] bcast_S1x1x128_S8192x8x128_0_1_2 (broadcastInDim S1x1x128 ![1, 2] bcast_S1x128_S1x1x128_1_2 a2)

/-- The cotangent by heads. -/
abbrev D3 (a3 : FVec Ideal S8192x1024 .f32) : FVec Ideal S8192x8x128 .f32 :=
  shapeCast _ a3 shapeCasts_S8192x1024_S8192x8x128

/-- The cotangent times the gated activation. -/
abbrev GY (a1 : FVec Ideal S8192x5632 .f32) (a3 : FVec Ideal S8192x1024 .f32) : FVec Ideal S8192x8x128 .f32 :=
  mulf (D3 a3) (mulf (Z3 a1) (SG a1))

/-- The part of the gradient that goes through the mean square, one number per head. -/
abbrev THRU (a0 : FVec Ideal S8192x1024 .f32) (a1 : FVec Ideal S8192x5632 .f32) (a2 : FVec Ideal S1x128 .f32) (a3 : FVec Ideal S8192x1024 .f32) : FVec Ideal S8192x8 .f32 :=
  Host.reduceAdd (Host.divf (mulf (shapeCast _ (Host.reduceAdd (mulf (O3 a0) (mulf (GY a1 a3) (W3 a2))) (constant S_ .f32 0x00000000#32) reducesTo_S8192x8x128_S8192x8_d2 h_S_) shapeCasts_S8192x8_S8192x8x1) (mulf (broadcastInDim S8192x8x1 ![] bcast_S_S8192x8x1 (constant S_ .f32 0xBF000000#32)) (Host.divf (Host.rsqrt (MEAN a0)) (MEAN a0)))) (broadcastInDim S8192x8x1 ![] bcast_S_S8192x8x1 (constant S_ .f32 0x43000000#32))) (constant S_ .f32 0x00000000#32) reducesTo_S8192x8x1_S8192x8_d2 h_S_

/-- The reference's gradient of the input. -/
abbrev REF0 (a0 : FVec Ideal S8192x1024 .f32) (a1 : FVec Ideal S8192x5632 .f32) (a2 : FVec Ideal S1x128 .f32) (a3 : FVec Ideal S8192x1024 .f32) : FVec Ideal S8192x1024 .f32 :=
  shapeCast _ (addf (addf (mulf (mulf (GY a1 a3) (W3 a2)) (broadcastInDim S8192x8x128 ![0, 1, 2] bcast_S8192x8x1_S8192x8x128_0_1_2 (Host.rsqrt (MEAN a0)))) (mulf (O3 a0) (broadcastInDim S8192x8x128 ![0, 1] bcast_S8192x8_S8192x8x128_0_1 (THRU a0 a1 a2 a3)))) (mulf (broadcastInDim S8192x8x128 ![0, 1] bcast_S8192x8_S8192x8x128_0_1 (THRU a0 a1 a2 a3)) (O3 a0))) shapeCasts_S8192x8x128_S8192x1024

/-- The reference's gradient of the gate. -/
abbrev REF1 (a0 : FVec Ideal S8192x1024 .f32) (a1 : FVec Ideal S8192x5632 .f32) (a2 : FVec Ideal S1x128 .f32) (a3 : FVec Ideal S8192x1024 .f32) : FVec Ideal S8192x1024 .f32 :=
  shapeCast _ (addf (mulf (mulf (mulf (N3 a0) (W3 a2)) (D3 a3)) (SG a1)) (mulf (mulf (Z3 a1) (mulf (mulf (N3 a0) (W3 a2)) (D3 a3))) (mulf (SG a1) (subf (broadcastInDim S8192x8x128 ![] bcast_S_S8192x8x128 (constant S_ .f32 0x3F800000#32)) (SG a1))))) shapeCasts_S8192x8x128_S8192x1024

/-- What a token and head add to the gradient of the gain. -/
def GAIN (a0 : FVec Ideal S8192x1024 .f32) (a1 : FVec Ideal S8192x5632 .f32) (a3 : FVec Ideal S8192x1024 .f32) : FVec Ideal S8192x8x128 .f32 :=
  mulf (N3 a0) (GY a1 a3)

/-- The sum over the tokens and the heads. -/
def TOTAL (a : FVec Ideal S8192x8x128 .f32) : FVec Ideal S1x128 .f32 :=
  broadcastInDim S1x128 ![1] bcast_S128_S1x128_1 (Host.reduceAdd (shapeCast _ (Host.reduceAdd a (constant S_ .f32 0x00000000#32) reducesTo_S8192x8x128_S128_d0_1 h_S_) shapeCasts_S128_S1x1x128) (constant S_ .f32 0x00000000#32) reducesTo_S1x1x128_S128_d0_1 h_S_)

/-- The host's sum over the first two of three axes, as sums along them. -/
theorem sum_a01 {n0 n1 n2 : Nat} (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ k1 : Fin n1, ∑ k0 : Fin n0, v (ix3 k0 k1 l) := by
  refine congrArg (init + ·) ?_
  refine (Finset.sum_filter_eq_sum_of_fiber _ (fun k : Fin n1 × Fin n0 => ix3 k.2 k.1 l)
    (fun _ _ e => Prod.ext (congrFun e 1) (congrFun e 0)) (fun i => ?_) v).trans ?_
  · constructor
    · intro e
      refine ⟨(i 1, i 0), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The sum over the tokens and the heads, at a column. -/
theorem total_at (a : FVec Ideal S8192x8x128 .f32) (l : Fin 128) : TOTAL a (ix2 0 l) = ∑ h : Fin 8, ∑ k : Fin 8192, a (ix3 k h l) := by
  have e : ∀ b : FVec Ideal S1x1x128 .f32, (broadcastInDim S1x128 ![1] bcast_S128_S1x128_1 (Host.reduceAdd b (constant S_ .f32 0x00000000#32) reducesTo_S1x1x128_S128_d0_1 h_S_) : FVec Ideal S1x128 .f32) (ix2 0 l) = b (ix3 0 0 l) := by
    intro b
    pointwise []
    rw [sum_a01]
    simp
  rw [TOTAL, e]
  pointwise []
  rw [sum_a01, zero_add]

end Cert.DnpostBwdRefIdeal.Grad

namespace Cert.DnpostBwdIdeal.Grad

open Cert.DnpostBwdIdeal Cert.DnpostBwdIdeal.Gen Cert.DnpostBwdRefIdeal.Grad

/-- The input's gradient in a row and head, over that row and head alone. -/
theorem do_row (o z d : FVec Ideal S2048x128 .f32) (w : FVec Ideal S1x128 .f32) (O D : FVec Ideal S8192x1024 .f32) (Z : FVec Ideal S8192x5632 .f32)
    (r : Fin 2048) (R : Fin 8192) (C : Fin 1024)
    (ho : ∀ k : Fin 128, o (ix2 r k) = O (ix2 R ⟨C.val / 128 * 128 + k.val, by omega⟩))
    (hz : ∀ k : Fin 128, z (ix2 r k) = Z (ix2 R ⟨3072 + (C.val / 128 * 128 + k.val), by omega⟩))
    (hd : ∀ k : Fin 128, d (ix2 r k) = D (ix2 R ⟨C.val / 128 * 128 + k.val, by omega⟩)) (l : Fin 128) (hl : C.val % 128 = l.val) :
    k0_pay1 o (k0_pay12 o z w d) (k0_pay13 o z w d) k0_pay14 (ix2 r l) = REF0 O Z w D (ix2 R C) := by
  obtain rfl : l = ⟨C.val % 128, Nat.mod_lt _ (by decide)⟩ := Fin.ext hl.symm
  pointwise [k0_pay1, k0_pay12, k0_pay13, k0_pay14, k0_pay11, k0_pay8, k0_pay7, k0_pay5, k0_pay4, REF0]
  simp only [ho, hz, hd, Ideal.logistic, Nat.div_add_mod', Fin.eta]

/-- The gate's gradient in a row and head, over that row and head alone. -/
theorem dz_row (o z d : FVec Ideal S2048x128 .f32) (w : FVec Ideal S1x128 .f32) (O D : FVec Ideal S8192x1024 .f32) (Z : FVec Ideal S8192x5632 .f32)
    (r : Fin 2048) (R : Fin 8192) (C : Fin 1024)
    (ho : ∀ k : Fin 128, o (ix2 r k) = O (ix2 R ⟨C.val / 128 * 128 + k.val, by omega⟩))
    (hz : ∀ k : Fin 128, z (ix2 r k) = Z (ix2 R ⟨3072 + (C.val / 128 * 128 + k.val), by omega⟩))
    (hd : ∀ k : Fin 128, d (ix2 r k) = D (ix2 R ⟨C.val / 128 * 128 + k.val, by omega⟩)) (l : Fin 128) (hl : C.val % 128 = l.val) :
    k0_pay9 o z w d (ix2 r l) = REF1 O Z w D (ix2 R C) := by
  obtain rfl : l = ⟨C.val % 128, Nat.mod_lt _ (by decide)⟩ := Fin.ext hl.symm
  pointwise [k0_pay9, k0_pay6, k0_pay7, k0_pay5, k0_pay4, REF1]
  simp only [ho, hz, hd, Ideal.logistic, Nat.div_add_mod', Fin.eta]

/-- What a block's rows add to the gradient of the gain. -/
theorem gain_rows (o z d : FVec Ideal S2048x128 .f32) (O D : FVec Ideal S8192x1024 .f32) (Z : FVec Ideal S8192x5632 .f32)
    (f : Fin 2048 → Fin 8192) (h : Fin 8)
    (ho : ∀ (r : Fin 2048) (k : Fin 128), o (ix2 r k) = O (ix2 (f r) ⟨h.val * 128 + k.val, by omega⟩))
    (hz : ∀ (r : Fin 2048) (k : Fin 128), z (ix2 r k) = Z (ix2 (f r) ⟨3072 + (h.val * 128 + k.val), by omega⟩))
    (hd : ∀ (r : Fin 2048) (k : Fin 128), d (ix2 r k) = D (ix2 (f r) ⟨h.val * 128 + k.val, by omega⟩)) (l : Fin 128) :
    k0_pay10 o z d (ix2 0 l) = ∑ r : Fin 2048, GAIN O Z D (ix3 (f r) h l) := by
  pointwise [k0_pay10, k0_pay8, k0_pay6, k0_pay7, k0_pay5, k0_pay4, GAIN]
  simp only [ho, hz, hd, Ideal.logistic]

variable (m : (ℓ : Loc nD τ sig) → Buf (Elt Ideal) ℓ)

/-- The block indices of the windows at every grid point. -/
theorem idx : ∀ t : Fin cfg0.N, win0_0.index t = ![t.val % 4, t.val / 4]
    ∧ win0_1.index t = ![t.val % 4, 24 + t.val / 4]
    ∧ win0_2.index t = ![0, 0]
    ∧ win0_3.index t = ![t.val % 4, t.val / 4]
    ∧ win0_4.index t = ![t.val % 4, t.val / 4]
    ∧ win0_5.index t = ![t.val % 4, t.val / 4]
    ∧ win0_6.index t = ![0, 0] :=
  (by decide +kernel : ∀ t : Fin grid0.N, _)

/-- The token of a block's row. -/
def tok (t : Fin cfg0.N) (r : Fin 2048) : Fin 8192 := ⟨2048 * (t.val % 4) + r.val, by omega⟩

/-- The head of a block. -/
def hd (t : Fin cfg0.N) : Fin 8 := ⟨t.val / 4, by have h : t.val < 32 := t.isLt; omega⟩

/-- The column of the array that a block's column is. -/
def col (t : Fin cfg0.N) (l : Fin 128) : Fin 1024 := ⟨(hd t).val * 128 + l.val, by omega⟩

/-- The input's block holds one head of a block of tokens. -/
theorem o_blk (c : Dev nD) (t : Fin cfg0.N) (r : Fin 2048) (k : Fin 128) : (iblk m c 0 t : FVec Ideal S2048x128 .f32) (ix2 r k)
    = m ((c : Thread nD τ).loc main_arg0) (ix2 (tok t r) ⟨(hd t).val * 128 + k.val, by omega⟩) := by
  blk_point [iblk, V, idx t, tok, hd]

/-- The gate's block holds one head of a block of tokens. -/
theorem z_blk (c : Dev nD) (t : Fin cfg0.N) (r : Fin 2048) (k : Fin 128) : (iblk m c 1 t : FVec Ideal S2048x128 .f32) (ix2 r k)
    = m ((c : Thread nD τ).loc main_arg1) (ix2 (tok t r) ⟨3072 + ((hd t).val * 128 + k.val), by omega⟩) := by
  blk_point [iblk, V, idx t, tok, hd]

/-- The gain's block is the gain. -/
theorem w_blk (c : Dev nD) (t : Fin cfg0.N) : (iblk m c 2 t : FVec Ideal S1x128 .f32) = m ((c : Thread nD τ).loc main_arg2) := by
  funext y
  blk_point [iblk, V, idx t]

/-- The cotangent's block holds one head of a block of tokens. -/
theorem d_blk (c : Dev nD) (t : Fin cfg0.N) (r : Fin 2048) (k : Fin 128) : (iblk m c 3 t : FVec Ideal S2048x128 .f32) (ix2 r k)
    = m ((c : Thread nD τ).loc main_arg3) (ix2 (tok t r) ⟨(hd t).val * 128 + k.val, by omega⟩) := by
  blk_point [iblk, V, idx t, tok, hd]

/-- A block's row and column at their place in the array 4. -/
theorem place4 (t : Fin cfg0.N) (r : Fin 2048) (l : Fin 128) : ((cfg0.win 4).blk t).view.emb (ix2 r l) = ix2 (tok t r) (col t l) := by
  blk_point [idx t, tok, col, hd]

/-- A block's row and column at their place in the array 5. -/
theorem place5 (t : Fin cfg0.N) (r : Fin 2048) (l : Fin 128) : ((cfg0.win 5).blk t).view.emb (ix2 r l) = ix2 (tok t r) (col t l) := by
  blk_point [idx t, tok, col, hd]

/-- The gradient 4 of a block, at either kind of point. -/
theorem out4 (c : Dev nD) (t : Fin cfg0.N) : (outsAt0 m c t.val t.isLt).1 = k0_pay1 (iblk m c 0 t) (k0_pay12 (iblk m c 0 t) (iblk m c 1 t) (iblk m c 2 t) (iblk m c 3 t)) (k0_pay13 (iblk m c 0 t) (iblk m c 1 t) (iblk m c 2 t) (iblk m c 3 t)) k0_pay14 := by
  by_cases h : t.val % 32 = 0
  · rw [outsAt0_A m c t h]
    frame_out
  · rw [outsAt0_B m c t h]
    frame_out

/-- The gradient 5 of a block, at either kind of point. -/
theorem out5 (c : Dev nD) (t : Fin cfg0.N) : (outsAt0 m c t.val t.isLt).2.1 = k0_pay9 (iblk m c 0 t) (iblk m c 1 t) (iblk m c 2 t) (iblk m c 3 t) := by
  by_cases h : t.val % 32 = 0
  · rw [outsAt0_A m c t h]
    frame_out
  · rw [outsAt0_B m c t h]
    frame_out

/-- The gradient of the input after the run is the reference's. -/
theorem final4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 2048) (l : Fin 128), y = ix2 r l := ⟨y 0, y 1, eq_ix2 y⟩
  refine Eq.trans ?_ (congrArg _ (place4 t r l)).symm
  have hc : (col t l).val / 128 = (hd t).val := by simp only [col]; omega
  rw [after0_4, out4, w_blk]
  refine do_row _ _ _ _ _ _ _ r (tok t r) (col t l) (fun k => ?_) (fun k => ?_) (fun k => ?_) l (by simp only [col]; omega)
  · simp only [hc]; exact o_blk m c t r k
  · simp only [hc]; exact z_blk m c t r k
  · simp only [hc]; exact d_blk m c t r k

/-- The gradient of the gate after the run is the reference's. -/
theorem final5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 2048) (l : Fin 128), y = ix2 r l := ⟨y 0, y 1, eq_ix2 y⟩
  refine Eq.trans ?_ (congrArg _ (place5 t r l)).symm
  have hc : (col t l).val / 128 = (hd t).val := by simp only [col]; omega
  rw [after0_5, out5, w_blk]
  refine dz_row _ _ _ _ _ _ _ r (tok t r) (col t l) (fun k => ?_) (fun k => ?_) (fun k => ?_) l (by simp only [col]; omega)
  · simp only [hc]; exact o_blk m c t r k
  · simp only [hc]; exact z_blk m c t r k
  · simp only [hc]; exact d_blk m c t r k

/-- The accumulated block is the whole array. -/
theorem place6 (t : Fin cfg0.N) (l : Fin 128) : ((cfg0.win 6).blk t).view.emb (ix2 0 l) = ix2 0 l := by
  blk_point [idx t]

/-- The sum over the points of a run and their rows is the sum over the heads and the tokens. -/
theorem tokens_sum (A : FVec Ideal Cert.DnpostBwdRefIdeal.S8192x8x128 .f32) (t : Fin cfg0.N) (h3 : t.val % 32 = 31) (l : Fin 128) :
    ∑ s : Fin 32, ∑ r : Fin 2048, A (ix3 (tok ⟨32 * (t.val / 32) + s.val, Pipeline.run_point_lt_of_flush t h3 s⟩ r) (hd ⟨32 * (t.val / 32) + s.val, Pipeline.run_point_lt_of_flush t h3 s⟩) l)
      = ∑ h : Fin 8, ∑ k : Fin 8192, A (ix3 k h l) := by
  have h : t.val < 32 := t.isLt
  have e : ∀ h : Fin 8, ∑ k : Fin 8192, A (ix3 k h l) = ∑ b : Fin 4, ∑ r : Fin 2048, A (ix3 (⟨2048 * b.val + r.val, by omega⟩ : Fin 8192) h l) := fun h =>
    (Fin.sum_mul_add_congr fun b r hl => congrArg (fun z : Fin 8192 => A (ix3 z h l)) (Fin.ext (by show 2048 * b.val + r.val = b.val * 2048 + r.val; omega))).symm
  simp only [e]
  refine (Fin.sum_mul_add_congr fun h b hl => ?_).symm
  refine Finset.sum_congr rfl fun r _ => ?_
  refine congrArg₂ (fun z w => A (ix3 z w l)) (Fin.ext ?_) (Fin.ext ?_) <;> simp only [tok, hd] <;> omega

/-- What the first point leaves of the gradient of the gain. -/
theorem gain_first (c : Dev nD) (t : Fin cfg0.N) (h : t.val % 32 = 0) (l : Fin 128) : (outsAt0 m c t.val t.isLt).2.2 (ix2 0 l)
    = 0 + ∑ r : Fin 2048, GAIN (m ((c : Thread nD τ).loc main_arg0)) (m ((c : Thread nD τ).loc main_arg1)) (m ((c : Thread nD τ).loc main_arg3)) (ix3 (tok t r) (hd t) l) := by
  rw [outsAt0_A m c t h, ← gain_rows _ _ _ _ _ _ (tok t) (hd t) (o_blk m c t) (z_blk m c t) (d_blk m c t) l]
  frame_out
  try rw [(Memref.isWhole_whole _).read_unread]

  generalize k0_pay10 (F := Ideal) _ _ _ = G
  pointwise [k0_pay3, k0_pay2]

/-- Every other point adds its block's rows to the gradient of the gain. -/
theorem gain_next (c : Dev nD) (t : Fin cfg0.N) (h : ¬t.val % 32 = 0) (l : Fin 128) : (outsAt0 m c t.val t.isLt).2.2 (ix2 0 l)
    = (outsAt0 m c (t.val - 1) (Nat.lt_of_le_of_lt (Nat.sub_le _ _) t.isLt)).2.2 (ix2 0 l)
      + ∑ r : Fin 2048, GAIN (m ((c : Thread nD τ).loc main_arg0)) (m ((c : Thread nD τ).loc main_arg1)) (m ((c : Thread nD τ).loc main_arg3)) (ix3 (tok t r) (hd t) l) := by
  rw [outsAt0_B m c t h, ← gain_rows _ _ _ _ _ _ (tok t) (hd t) (o_blk m c t) (z_blk m c t) (d_blk m c t) l]
  frame_out
  try rw [(Memref.isWhole_whole _).read_unread]

  generalize k0_pay10 (F := Ideal) _ _ _ = G
  pointwise [k0_pay3]

/-- The gradient of the gain after the run is the reference's. -/
theorem final6 (c : Dev nD) : (dats m 0 c).arrAt 6 (cfgs 0).N = TOTAL (GAIN (m ((c : Thread nD τ).loc main_arg0)) (m ((c : Thread nD τ).loc main_arg1)) (m ((c : Thread nD τ).loc main_arg3))) := by
  refine (dats m 0 c).arrAt_eq_of_covers 6 _ (by decide +kernel) fun t hf y => ?_
  obtain ⟨z, l, rfl⟩ : ∃ (z : Fin 1) (l : Fin 128), y = ix2 z l := ⟨y 0, y 1, eq_ix2 y⟩
  obtain rfl : z = 0 := Subsingleton.elim _ _
  have h3 := (flush0_6 t).mp hf
  refine Eq.trans ?_ (congrArg _ (place6 t l)).symm
  rw [after0_6, total_at]
  refine (Pipeline.eq_sum_fin_of_reset_step_apply_of_flush (fun n h (l : Fin 128) => (outsAt0 m c n h).2.2 (ix2 0 l)) 32 (fun _ => 0)
    (fun t l => ∑ r : Fin 2048, GAIN (m ((c : Thread nD τ).loc main_arg0)) (m ((c : Thread nD τ).loc main_arg1)) (m ((c : Thread nD τ).loc main_arg3)) (ix3 (tok t r) (hd t) l)) (fun t h l => gain_first m c t h l) (fun t h l => gain_next m c t h l) t h3 l).trans ?_
  rw [zero_add]
  exact tokens_sum _ t h3 l

/-- The kernel's run: the results are the reference's, and the arguments end unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = REF0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = REF1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_2) = TOTAL (GAIN (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (run_main m g) (unchanged m g)) fun r h c =>
    ⟨((h.1 c).1 4).trans (final4 m c), ((h.1 c).1 5).trans (final5 m c), ((h.1 c).1 6).trans (final6 m c), h.2 c⟩

end Cert.DnpostBwdIdeal.Grad

namespace Cert.Proof

/-- The kernel's results are the reference's, on the same arguments. -/
theorem algebraic_DnpostBwd : Cert.algebraic_DnpostBwdIdeal_DnpostBwdRefIdeal := by
  pair_intro
  · run_from Cert.DnpostBwdIdeal.Grad.run m g
  · refine θ_run_mono (Cert.DnpostBwdRefIdeal.Value.run (F := Ideal) m' g') fun r h c => ?_
    obtain ⟨h0, h1, h2, h3⟩ := h c
    obtain ⟨e0, e1, e2, e3⟩ := hagree c
    unfold Cert.DnpostBwdRefIdeal.Value.res_main_v48 at h0
    rw [e0, e1, e2, e3] at h0
    rw [e0, e1, e2, e3] at h1
    rw [e0, e1, e3] at h2
    exact ⟨h0, h1, h2, h3⟩

end Cert.Proof
-- ==== Proof.Dnpre.lean ====
/- The normalisation before the delta rule. -/
module

public import proofs.«01_k».proof.Defs
public import proofs.«01_k».proof.Proof.Gen.DnpreIdeal.Frame
public import proofs.«01_k».proof.Proof.Gen.DnpreRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DnpreRefIdeal.Grad

open Cert.DnpreRefIdeal Cert.DnpreRefIdeal.Gen Idealize.ShloMosaic.StableHlo

/-- The logistic function of the convolution. -/
abbrev SG (a0 : FVec Ideal S8192x3072 .f32) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf a0)))

/-- The gated convolution. -/
abbrev SILU (a0 : FVec Ideal S8192x3072 .f32) : FVec Ideal S8192x3072 .f32 :=
  mulf a0 (SG a0)

/-- The queries by heads. -/
abbrev Q3 (a0 : FVec Ideal S8192x3072 .f32) : FVec Ideal S8192x8x128 .f32 :=
  shapeCast _ (extractStridedSlice S8192x1024 ![0, 0] (SILU a0) slices_S8192x3072_S8192x1024_0_0) shapeCasts_S8192x1024_S8192x8x128

/-- The sum of the squares of the queries of every head, with the epsilon. -/
abbrev QS (a0 : FVec Ideal S8192x3072 .f32) : FVec Ideal S8192x8x1 .f32 :=
  addf (broadcastInDim S8192x8x1 ![0, 1] bcast_S8192x8_S8192x8x1_0_1 (Host.reduceAdd (mulf (Q3 a0) (Q3 a0)) (constant S_ .f32 0x00000000#32) reducesTo_S8192x8x128_S8192x8_d2 h_S_)) (broadcastInDim S8192x8x1 ![] bcast_S_S8192x8x1 (constant S_ .f32 0x358637BD#32))

/-- The keys by heads. -/
abbrev K3 (a0 : FVec Ideal S8192x3072 .f32) : FVec Ideal S8192x8x128 .f32 :=
  shapeCast _ (extractStridedSlice S8192x1024 ![0, 1024] (SILU a0) slices_S8192x3072_S8192x1024_0_1024) shapeCasts_S8192x1024_S8192x8x128

/-- The sum of the squares of the keys of every head, with the epsilon. -/
abbrev KS (a0 : FVec Ideal S8192x3072 .f32) : FVec Ideal S8192x8x1 .f32 :=
  addf (broadcastInDim S8192x8x1 ![0, 1] bcast_S8192x8_S8192x8x1_0_1 (Host.reduceAdd (mulf (K3 a0) (K3 a0)) (constant S_ .f32 0x00000000#32) reducesTo_S8192x8x128_S8192x8_d2 h_S_)) (broadcastInDim S8192x8x1 ![] bcast_S_S8192x8x1 (constant S_ .f32 0x358637BD#32))

/-- The normalised and scaled queries. -/
abbrev QO (a0 : FVec Ideal S8192x3072 .f32) : FVec Ideal S8192x1024 .f32 :=
  shapeCast _ (mulf (mulf (Q3 a0) (broadcastInDim S8192x8x128 ![0, 1, 2] bcast_S8192x8x1_S8192x8x128_0_1_2 (Host.rsqrt (QS a0)))) (broadcastInDim S8192x8x128 ![] bcast_S_S8192x8x128 (constant S_ .f32 0x3DB504F3#32))) shapeCasts_S8192x8x128_S8192x1024

/-- The normalised keys. -/
abbrev KO (a0 : FVec Ideal S8192x3072 .f32) : FVec Ideal S8192x1024 .f32 :=
  shapeCast _ (mulf (K3 a0) (broadcastInDim S8192x8x128 ![0, 1, 2] bcast_S8192x8x1_S8192x8x128_0_1_2 (Host.rsqrt (KS a0)))) shapeCasts_S8192x8x128_S8192x1024

/-- Three arrays side by side. -/
def CAT (a b d : FVec Ideal S8192x1024 .f32) : FVec Ideal S8192x3072 .f32 :=
  concatenate S8192x3072 1 [⟨S8192x1024, a⟩, ⟨S8192x1024, b⟩, ⟨S8192x1024, d⟩] concatenates_S8192x1024_S8192x1024_S8192x1024_S8192x3072_d1

/-- The first of the three. -/
theorem cat_q (a b d : FVec Ideal S8192x1024 .f32) (R : Fin 8192) (C : Fin 1024) (h : C.val < 3072) : CAT a b d (ix2 R ⟨C.val, h⟩) = a (ix2 R C) := by
  pointwise [CAT]

/-- The second of the three. -/
theorem cat_k (a b d : FVec Ideal S8192x1024 .f32) (R : Fin 8192) (C : Fin 1024) (h : 1024 + C.val < 3072) : CAT a b d (ix2 R ⟨1024 + C.val, h⟩) = b (ix2 R C) := by
  pointwise [CAT]

/-- The third of the three. -/
theorem cat_v (a b d : FVec Ideal S8192x1024 .f32) (R : Fin 8192) (C : Fin 1024) (h : 2048 + C.val < 3072) : CAT a b d (ix2 R ⟨2048 + C.val, h⟩) = d (ix2 R C) := by
  pointwise [CAT]
  rw [dif_neg (by omega), dif_neg (by omega)]
  exact congrArg (fun z => d (ix2 R z)) (Fin.ext (by simp only; omega))

/-- The reference's result. -/
abbrev REF (a0 : FVec Ideal S8192x3072 .f32) : FVec Ideal S8192x3072 .f32 :=
  (CAT (QO a0) (KO a0) (extractStridedSlice S8192x1024 ![0, 2048] (SILU a0) slices_S8192x3072_S8192x1024_0_2048))

end Cert.DnpreRefIdeal.Grad

namespace Cert.DnpreIdeal.Grad

open Cert.DnpreIdeal Cert.DnpreIdeal.Gen Cert.DnpreRefIdeal.Grad

/-- The queries in a row and head, over that row and head alone. -/
theorem q_row (i : grid0.Coords) (h1 : Scalar.cmpi .slt (BitVec.ofNat 32 (i 0).val) 16#32 = 1#1) (h2 : Scalar.cmpi .slt (BitVec.ofNat 32 (i 0).val) 8#32 = 1#1)
    (x : FVec Ideal S4096x128 .f32) (X : FVec Ideal S8192x3072 .f32) (r : Fin 4096) (R : Fin 8192) (C : Fin 1024)
    (hx : ∀ k : Fin 128, x (ix2 r k) = X (ix2 R ⟨(C.val / 128 * 128 + k.val), by omega⟩)) (l : Fin 128) (hl : C.val % 128 = l.val) :
    k0_pay1 i x (ix2 r l) = REF X (ix2 R ⟨C.val, by omega⟩) := by
  obtain rfl : l = ⟨C.val % 128, Nat.mod_lt _ (by decide)⟩ := Fin.ext hl.symm
  pointwise [k0_pay1, REF, h1, h2, cat_q]
  simp only [hx, Ideal.logistic, Nat.div_add_mod', Fin.eta]
/-- The keys in a row and head, over that row and head alone. -/
theorem k_row (i : grid0.Coords) (h1 : Scalar.cmpi .slt (BitVec.ofNat 32 (i 0).val) 16#32 = 1#1) (h2 : Scalar.cmpi .slt (BitVec.ofNat 32 (i 0).val) 8#32 = 0#1)
    (x : FVec Ideal S4096x128 .f32) (X : FVec Ideal S8192x3072 .f32) (r : Fin 4096) (R : Fin 8192) (C : Fin 1024)
    (hx : ∀ k : Fin 128, x (ix2 r k) = X (ix2 R ⟨1024 + (C.val / 128 * 128 + k.val), by omega⟩)) (l : Fin 128) (hl : C.val % 128 = l.val) :
    k0_pay1 i x (ix2 r l) = REF X (ix2 R ⟨1024 + C.val, by omega⟩) := by
  obtain rfl : l = ⟨C.val % 128, Nat.mod_lt _ (by decide)⟩ := Fin.ext hl.symm
  pointwise [k0_pay1, REF, h1, h2, cat_k]
  simp only [hx, Ideal.logistic, Nat.div_add_mod', Fin.eta]
/-- The values in a row and head, over that row and head alone. -/
theorem v_row (i : grid0.Coords) (h1 : Scalar.cmpi .slt (BitVec.ofNat 32 (i 0).val) 16#32 = 0#1) (h2 : Scalar.cmpi .slt (BitVec.ofNat 32 (i 0).val) 8#32 = 0#1)
    (x : FVec Ideal S4096x128 .f32) (X : FVec Ideal S8192x3072 .f32) (r : Fin 4096) (R : Fin 8192) (C : Fin 1024)
    (hx : ∀ k : Fin 128, x (ix2 r k) = X (ix2 R ⟨2048 + (C.val / 128 * 128 + k.val), by omega⟩)) (l : Fin 128) (hl : C.val % 128 = l.val) :
    k0_pay1 i x (ix2 r l) = REF X (ix2 R ⟨2048 + C.val, by omega⟩) := by
  obtain rfl : l = ⟨C.val % 128, Nat.mod_lt _ (by decide)⟩ := Fin.ext hl.symm
  pointwise [k0_pay1, REF, h1, h2, cat_v]
  simp only [hx, Ideal.logistic, Nat.div_add_mod', Fin.eta]
variable (m : (ℓ : Loc nD τ sig) → Buf (Elt Ideal) ℓ)

/-- The block indices of the windows at every grid point. -/
theorem idx : ∀ t : Fin cfg0.N, win0_0.index t = ![t.val % 2, t.val / 2]
    ∧ win0_1.index t = ![t.val % 2, t.val / 2] :=
  (by decide +kernel : ∀ t : Fin grid0.N, _)

/-- Whether a point's head is one of the queries or keys, and whether it is one of the queries. -/
theorem kinds : ∀ t : Fin cfg0.N, Scalar.cmpi .slt (BitVec.ofNat 32 ((grid0.coords t) 0).val) 16#32 = (if t.val < 32 then 1#1 else 0#1)
    ∧ Scalar.cmpi .slt (BitVec.ofNat 32 ((grid0.coords t) 0).val) 8#32 = (if t.val < 16 then 1#1 else 0#1) :=
  (by decide +kernel : ∀ t : Fin grid0.N, _)

/-- The token of a block's row. -/
def tok (t : Fin cfg0.N) (r : Fin 4096) : Fin 8192 := ⟨4096 * (t.val % 2) + r.val, by omega⟩

/-- The column of the array that a block's column is. -/
def col (t : Fin cfg0.N) (l : Fin 128) : Fin 3072 := ⟨t.val / 2 * 128 + l.val, by have h : t.val < 48 := t.isLt; omega⟩

/-- The convolution's block holds one head of a block of tokens. -/
theorem x_blk (c : Dev nD) (t : Fin cfg0.N) (r : Fin 4096) (k : Fin 128) : (iblk m c 0 t : FVec Ideal S4096x128 .f32) (ix2 r k)
    = m ((c : Thread nD τ).loc main_arg0) (ix2 (tok t r) (col t k)) := by
  blk_point [iblk, V, idx t, tok, col]

/-- A block's row and column at their place in the result. -/
theorem place (t : Fin cfg0.N) (r : Fin 4096) (l : Fin 128) : ((cfg0.win 1).blk t).view.emb (ix2 r l) = ix2 (tok t r) (col t l) := by
  blk_point [idx t, tok, col]

/-- The result array after the run is the reference's. -/
theorem final (c : Dev nD) : (dats m 0 c).arrAt 1 (cfgs 0).N = REF (m ((c : Thread nD τ).loc main_arg0)) := by
  refine (dats m 0 c).arrAt_eq_of_covers 1 _ (by decide +kernel) fun t _ y => ?_
  obtain ⟨r, l, rfl⟩ : ∃ (r : Fin 4096) (l : Fin 128), y = ix2 r l := ⟨y 0, y 1, eq_ix2 y⟩
  refine Eq.trans ?_ (congrArg _ (place t r l)).symm
  rw [after0_1]
  frame_out
  have h : t.val < 48 := t.isLt
  obtain ⟨h1, h2⟩ := kinds t
  by_cases hq : t.val < 16
  · rw [if_pos (by omega)] at h1 h2
    have e : col t l = ⟨(t.val / 2 * 128 + l.val - 0), by omega⟩ := Fin.ext (by simp only [col]; omega)
    rw [e]
    refine q_row (grid0.coords t) h1 h2 _ _ r (tok t r) ⟨t.val / 2 * 128 + l.val - 0, by omega⟩ (fun k => ?_) l (by simp only; omega)
    · exact (x_blk m c t r k).trans (congrArg (fun z => m ((c : Thread nD τ).loc main_arg0) (ix2 (tok t r) z)) (Fin.ext (by simp only [col]; omega)))
  by_cases hk : t.val < 32
  · rw [if_pos hk] at h1
    rw [if_neg hq] at h2
    have e : col t l = ⟨1024 + (t.val / 2 * 128 + l.val - 1024), by omega⟩ := Fin.ext (by simp only [col]; omega)
    rw [e]
    refine k_row (grid0.coords t) h1 h2 _ _ r (tok t r) ⟨t.val / 2 * 128 + l.val - 1024, by omega⟩ (fun k => ?_) l (by simp only; omega)
    · exact (x_blk m c t r k).trans (congrArg (fun z => m ((c : Thread nD τ).loc main_arg0) (ix2 (tok t r) z)) (Fin.ext (by simp only [col]; omega)))
  · rw [if_neg (by omega)] at h1 h2
    have e : col t l = ⟨2048 + (t.val / 2 * 128 + l.val - 2048), by omega⟩ := Fin.ext (by simp only [col]; omega)
    rw [e]
    refine v_row (grid0.coords t) h1 h2 _ _ r (tok t r) ⟨t.val / 2 * 128 + l.val - 2048, by omega⟩ (fun k => ?_) l (by simp only; omega)
    · exact (x_blk m c t r k).trans (congrArg (fun z => m ((c : Thread nD τ).loc main_arg0) (ix2 (tok t r) z)) (Fin.ext (by simp only [col]; omega)))

end Cert.DnpreIdeal.Grad

namespace Cert.Proof

/-- The kernel's result is the reference's, on the same arguments. -/
theorem algebraic_Dnpre : Cert.algebraic_DnpreIdeal_DnpreRefIdeal := by
  pair_intro
  · run_from Cert.DnpreIdeal.Gen.run_main m g
  · refine θ_run_mono (Cert.DnpreRefIdeal.Value.run (F := Ideal) m' g') fun r h c => ?_
    obtain ⟨h0, h1⟩ := h c
    have e := hagree c
    unfold Cert.DnpreRefIdeal.Value.res_main_v26 at h0
    rw [e] at h0
    exact ⟨h0.trans (Cert.DnpreIdeal.Grad.final m c).symm, h1⟩

end Cert.Proof
-- ==== Proof.DnpreBwd.lean ====
/- The gradient of the normalisation before the delta rule. -/
module

public import proofs.«01_k».proof.Defs
public import proofs.«01_k».proof.Proof.Gen.DnpreBwdIdeal.Frame
public import proofs.«01_k».proof.Proof.Gen.DnpreBwdRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DnpreBwdRefIdeal.Grad

open Cert.DnpreBwdRefIdeal Cert.DnpreBwdRefIdeal.Gen Idealize.ShloMosaic.StableHlo

/-- The logistic function of the convolution. -/
abbrev SG (a0 : FVec Ideal S8192x3072 .f32) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf a0)))

/-- The gated convolution. -/
abbrev SILU (a0 : FVec Ideal S8192x3072 .f32) : FVec Ideal S8192x3072 .f32 :=
  mulf a0 (SG a0)

/-- The queries by heads. -/
abbrev Q3 (a0 : FVec Ideal S8192x3072 .f32) : FVec Ideal S8192x8x128 .f32 :=
  shapeCast _ (extractStridedSlice S8192x1024 ![0, 0] (SILU a0) slices_S8192x3072_S8192x1024_0_0) shapeCasts_S8192x1024_S8192x8x128

/-- The sum of the squares of the queries of every head, with the epsilon. -/
abbrev QS (a0 : FVec Ideal S8192x3072 .f32) : FVec Ideal S8192x8x1 .f32 :=
  addf (broadcastInDim S8192x8x1 ![0, 1] bcast_S8192x8_S8192x8x1_0_1 (Host.reduceAdd (mulf (Q3 a0) (Q3 a0)) (constant S_ .f32 0x00000000#32) reducesTo_S8192x8x128_S8192x8_d2 h_S_)) (broadcastInDim S8192x8x1 ![] bcast_S_S8192x8x1 (constant S_ .f32 0x358637BD#32))

/-- The cotangent of the scaled queries by heads. -/
abbrev QD (a1 : FVec Ideal S8192x3072 .f32) : FVec Ideal S8192x8x128 .f32 :=
  mulf (shapeCast _ (extractStridedSlice S8192x1024 ![0, 0] a1 slices_S8192x3072_S8192x1024_0_0) shapeCasts_S8192x1024_S8192x8x128) (broadcastInDim S8192x8x128 ![] bcast_S_S8192x8x128 (constant S_ .f32 0x3DB504F3#32))

/-- The part of the gradient of the queries that goes through the sum of the squares. -/
abbrev QT (a0 : FVec Ideal S8192x3072 .f32) (a1 : FVec Ideal S8192x3072 .f32) : FVec Ideal S8192x8 .f32 :=
  Host.reduceAdd (mulf (shapeCast _ (Host.reduceAdd (mulf (Q3 a0) (QD a1)) (constant S_ .f32 0x00000000#32) reducesTo_S8192x8x128_S8192x8_d2 h_S_) shapeCasts_S8192x8_S8192x8x1) (mulf (broadcastInDim S8192x8x1 ![] bcast_S_S8192x8x1 (constant S_ .f32 0xBF000000#32)) (Host.divf (Host.rsqrt (QS a0)) (QS a0)))) (constant S_ .f32 0x00000000#32) reducesTo_S8192x8x1_S8192x8_d2 h_S_

/-- The keys by heads. -/
abbrev K3 (a0 : FVec Ideal S8192x3072 .f32) : FVec Ideal S8192x8x128 .f32 :=
  shapeCast _ (extractStridedSlice S8192x1024 ![0, 1024] (SILU a0) slices_S8192x3072_S8192x1024_0_1024) shapeCasts_S8192x1024_S8192x8x128

/-- The sum of the squares of the keys of every head, with the epsilon. -/
abbrev KS (a0 : FVec Ideal S8192x3072 .f32) : FVec Ideal S8192x8x1 .f32 :=
  addf (broadcastInDim S8192x8x1 ![0, 1] bcast_S8192x8_S8192x8x1_0_1 (Host.reduceAdd (mulf (K3 a0) (K3 a0)) (constant S_ .f32 0x00000000#32) reducesTo_S8192x8x128_S8192x8_d2 h_S_)) (broadcastInDim S8192x8x1 ![] bcast_S_S8192x8x1 (constant S_ .f32 0x358637BD#32))

/-- The cotangent of the keys by heads. -/
abbrev KD (a1 : FVec Ideal S8192x3072 .f32) : FVec Ideal S8192x8x128 .f32 :=
  shapeCast _ (extractStridedSlice S8192x1024 ![0, 1024] a1 slices_S8192x3072_S8192x1024_0_1024) shapeCasts_S8192x1024_S8192x8x128

/-- The part of the gradient of the keys that goes through the sum of the squares. -/
abbrev KT (a0 : FVec Ideal S8192x3072 .f32) (a1 : FVec Ideal S8192x3072 .f32) : FVec Ideal S8192x8 .f32 :=
  Host.reduceAdd (mulf (shapeCast _ (Host.reduceAdd (mulf (K3 a0) (KD a1)) (constant S_ .f32 0x00000000#32) reducesTo_S8192x8x128_S8192x8_d2 h_S_) shapeCasts_S8192x8_S8192x8x1) (mulf (broadcastInDim S8192x8x1 ![] bcast_S_S8192x8x1 (constant S_ .f32 0xBF000000#32)) (Host.divf (Host.rsqrt (KS a0)) (KS a0)))) (constant S_ .f32 0x00000000#32) reducesTo_S8192x8x1_S8192x8_d2 h_S_

/-- The gradient of the gated queries. -/
abbrev DQ (a0 : FVec Ideal S8192x3072 .f32) (a1 : FVec Ideal S8192x3072 .f32) : FVec Ideal S8192x1024 .f32 :=
  shapeCast _ (addf (addf (mulf (QD a1) (broadcastInDim S8192x8x128 ![0, 1, 2] bcast_S8192x8x1_S8192x8x128_0_1_2 (Host.rsqrt (QS a0)))) (mulf (Q3 a0) (broadcastInDim S8192x8x128 ![0, 1] bcast_S8192x8_S8192x8x128_0_1 (QT a0 a1)))) (mulf (broadcastInDim S8192x8x128 ![0, 1] bcast_S8192x8_S8192x8x128_0_1 (QT a0 a1)) (Q3 a0))) shapeCasts_S8192x8x128_S8192x1024

/-- The gradient of the gated keys. -/
abbrev DK (a0 : FVec Ideal S8192x3072 .f32) (a1 : FVec Ideal S8192x3072 .f32) : FVec Ideal S8192x1024 .f32 :=
  shapeCast _ (addf (addf (mulf (KD a1) (broadcastInDim S8192x8x128 ![0, 1, 2] bcast_S8192x8x1_S8192x8x128_0_1_2 (Host.rsqrt (KS a0)))) (mulf (K3 a0) (broadcastInDim S8192x8x128 ![0, 1] bcast_S8192x8_S8192x8x128_0_1 (KT a0 a1)))) (mulf (broadcastInDim S8192x8x128 ![0, 1] bcast_S8192x8_S8192x8x128_0_1 (KT a0 a1)) (K3 a0))) shapeCasts_S8192x8x128_S8192x1024

/-- Three arrays side by side. -/
def CAT (a b d : FVec Ideal S8192x1024 .f32) : FVec Ideal S8192x3072 .f32 :=
  concatenate S8192x3072 1 [⟨S8192x1024, a⟩, ⟨S8192x1024, b⟩, ⟨S8192x1024, d⟩] concatenates_S8192x1024_S8192x1024_S8192x1024_S8192x3072_d1

/-- The first of the three. -/
theorem cat_q (a b d : FVec Ideal S8192x1024 .f32) (R : Fin 8192) (C : Fin 1024) (h : C.val < 3072) : CAT a b d (ix2 R ⟨C.val, h⟩) = a (ix2 R C) := by
  pointwise [CAT]

/-- The second of the three. -/
theorem cat_k (a b d : FVec Ideal S8192x1024 .f32) (R : Fin 8192) (C : Fin 1024) (h : 1024 + C.val < 3072) : CAT a b d (ix2 R ⟨1024 + C.val, h⟩) = b (ix2 R C) := by
  pointwise [CAT]

/-- The third of the three. -/
theorem cat_v (a b d : FVec Ideal S8192x1024 .f32) (R : Fin 8192) (C : Fin 1024) (h : 2048 + C.val < 3072) : CAT a b d (ix2 R ⟨2048 + C.val, h⟩) = d (ix2 R C) := by
  pointwise [CAT]
  rw [dif_neg (by omega), dif_neg (by omega)]
  exact congrArg (fun z => d (ix2 R z)) (Fin.ext (by simp only; omega))

/-- The reference's result. -/
abbrev REF (a0 : FVec Ideal S8192x3072 .f32) (a1 : FVec Ideal S8192x3072 .f32) : FVec Ideal S8192x3072 .f32 :=
  addf (mulf ((CAT (DQ a0 a1) (DK a0 a1) (extractStridedSlice S8192x1024 ![0, 2048] a1 slices_S8192x3072_S8192x1024_0_2048))) (SG a0)) (mulf (mulf a0 ((CAT (DQ a0 a1) (DK a0 a1) (extractStridedSlice S8192x1024 ![0, 2048] a1 slices_S8192x3072_S8192x1024_0_2048)))) (mulf (SG a0) (subf (broadcastInDim S8192x3072 ![] bcast_S_S8192x3072 (constant S_ .f32 0x3F800000#32)) (SG a0))))

end Cert.DnpreBwdRefIdeal.Grad

namespace Cert.DnpreBwdIdeal.Grad

open Cert.DnpreBwdIdeal Cert.DnpreBwdIdeal.Gen Cert.DnpreBwdRefIdeal.Grad

/-- The queries in a row and head, over that row and head alone. -/
theorem q_row (i : grid0.Coords) (h1 : Scalar.cmpi .slt (BitVec.ofNat 32 (i 0).val) 16#32 = 1#1) (h2 : Scalar.cmpi .slt (BitVec.ofNat 32 (i 0).val) 8#32 = 1#1)
    (x d : FVec Ideal S4096x128 .f32) (X D : FVec Ideal S8192x3072 .f32) (r : Fin 4096) (R : Fin 8192) (C : Fin 1024)
    (hx : ∀ k : Fin 128, x (ix2 r k) = X (ix2 R ⟨(C.val / 128 * 128 + k.val), by omega⟩))
    (hd : ∀ k : Fin 128, d (ix2 r k) = D (ix2 R ⟨(C.val / 128 * 128 + k.val), by omega⟩)) (l : Fin 128) (hl : C.val % 128 = l.val) :
    k0_pay1 i x d (ix2 r l) = REF X D (ix2 R ⟨C.val, by omega⟩) := by
  obtain rfl : l = ⟨C.val % 128, Nat.mod_lt _ (by decide)⟩ := Fin.ext hl.symm
  pointwise [k0_pay1, REF, h1, h2, cat_q]
  simp only [hx, hd, Ideal.logistic, Nat.div_add_mod', Fin.eta, zero_add, mul_one, zero_mul, mul_zero, Finset.sum_const_zero, add_zero]
/-- The keys in a row and head, over that row and head alone. -/
theorem k_row (i : grid0.Coords) (h1 : Scalar.cmpi .slt (BitVec.ofNat 32 (i 0).val) 16#32 = 1#1) (h2 : Scalar.cmpi .slt (BitVec.ofNat 32 (i 0).val) 8#32 = 0#1)
    (x d : FVec Ideal S4096x128 .f32) (X D : FVec Ideal S8192x3072 .f32) (r : Fin 4096) (R : Fin 8192) (C : Fin 1024)
    (hx : ∀ k : Fin 128, x (ix2 r k) = X (ix2 R ⟨1024 + (C.val / 128 * 128 + k.val), by omega⟩))
    (hd : ∀ k : Fin 128, d (ix2 r k) = D (ix2 R ⟨1024 + (C.val / 128 * 128 + k.val), by omega⟩)) (l : Fin 128) (hl : C.val % 128 = l.val) :
    k0_pay1 i x d (ix2 r l) = REF X D (ix2 R ⟨1024 + C.val, by omega⟩) := by
  obtain rfl : l = ⟨C.val % 128, Nat.mod_lt _ (by decide)⟩ := Fin.ext hl.symm
  pointwise [k0_pay1, REF, h1, h2, cat_k]
  simp only [hx, hd, Ideal.logistic, Nat.div_add_mod', Fin.eta, zero_add, mul_one, zero_mul, mul_zero, Finset.sum_const_zero, add_zero]
/-- The values in a row and head, over that row and head alone. -/
theorem v_row (i : grid0.Coords) (h1 : Scalar.cmpi .slt (BitVec.ofNat 32 (i 0).val) 16#32 = 0#1) (h2 : Scalar.cmpi .slt (BitVec.ofNat 32 (i 0).val) 8#32 = 0#1)
    (x d : FVec Ideal S4096x128 .f32) (X D : FVec Ideal S8192x3072 .f32) (r : Fin 4096) (R : Fin 8192) (C : Fin 1024)
    (hx : ∀ k : Fin 128, x (ix2 r k) = X (ix2 R ⟨2048 + (C.val / 128 * 128 + k.val), by omega⟩))
    (hd : ∀ k : Fin 128, d (ix2 r k) = D (ix2 R ⟨2048 + (C.val / 128 * 128 + k.val), by omega⟩)) (l : Fin 128) (hl : C.val % 128 = l.val) :
    k0_pay1 i x d (ix2 r l) = REF X D (ix2 R ⟨2048 + C.val, by omega⟩) := by
  obtain rfl : l = ⟨C.val % 128, Nat.mod_lt _ (by decide)⟩ := Fin.ext hl.symm
  pointwise [k0_pay1, REF, h1, h2, cat_v]
  simp only [hx, hd, Ideal.logistic, Nat.div_add_mod', Fin.eta, zero_add, mul_one, zero_mul, mul_zero, Finset.sum_const_zero, add_zero]
variable (m : (ℓ : Loc nD τ sig) → Buf (Elt Ideal) ℓ)

/-- The block indices of the windows at every grid point. -/
theorem idx : ∀ t : Fin cfg0.N, win0_0.index t = ![t.val % 2, t.val / 2]
    ∧ win0_1.index t = ![t.val % 2, t.val / 2]
    ∧ win0_2.index t = ![t.val % 2, t.val / 2] :=
  (by decide +kernel : ∀ t : Fin grid0.N, _)

/-- Whether a point's head is one of the queries or keys, and whether it is one of the queries. -/
theorem kinds : ∀ t : Fin cfg0.N, Scalar.cmpi .slt (BitVec.ofNat 32 ((grid0.coords t) 0).val) 16#32 = (if t.val < 32 then 1#1 else 0#1)
    ∧ Scalar.cmpi .slt (BitVec.ofNat 32 ((grid0.coords t) 0).val) 8#32 = (if t.val < 16 then 1#1 else 0#1) :=
  (by decide +kernel : ∀ t : Fin grid0.N, _)

/-- The token of a block's row. -/
def tok (t : Fin cfg0.N) (r : Fin 4096) : Fin 8192 := ⟨4096 * (t.val % 2) + r.val, by omega⟩

/-- The column of the array that a block's column is. -/
def col (t : Fin cfg0.N) (l : Fin 128) : Fin 3072 := ⟨t.val / 2 * 128 + l.val, by have h : t.val < 48 := t.isLt; omega⟩

/-- The convolution's block holds one head of a block of tokens. -/
theorem x_blk (c : Dev nD) (t : Fin cfg0.N) (r : Fin 4096) (k : Fin 128) : (iblk m c 0 t : FVec Ideal S4096x128 .f32) (ix2 r k)
    = m ((c : Thread nD τ).loc main_arg0) (ix2 (tok t r) (col t k)) := by
  blk_point [iblk, V, idx t, tok, col]

/-- The cotangent's block holds one head of a block of tokens. -/
theorem d_blk (c : Dev nD) (t : Fin cfg0.N) (r : Fin 4096) (k : Fin 128) : (iblk m c 1 t : FVec Ideal S4096x128 .f32) (ix2 r k)
    = m ((c : Thread nD τ).loc main_arg1) (ix2 (tok t r) (col t k)) := by
  blk_point [iblk, V, idx t, tok, col]

/-- A block's row and column at their place in the result. -/
theorem place (t : Fin cfg0.N) (r : Fin 4096) (l : Fin 128) : ((cfg0.win 2).blk t).view.emb (ix2 r l) = ix2 (tok t r) (col t l) := by
  blk_point [idx t, tok, col]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  obtain ⟨r, l, rfl⟩ : ∃ (r : Fin 4096) (l : Fin 128), y = ix2 r l := ⟨y 0, y 1, eq_ix2 y⟩
  refine Eq.trans ?_ (congrArg _ (place t r l)).symm
  rw [after0_2]
  frame_out
  have h : t.val < 48 := t.isLt
  obtain ⟨h1, h2⟩ := kinds t
  by_cases hq : t.val < 16
  · rw [if_pos (by omega)] at h1 h2
    have e : col t l = ⟨(t.val / 2 * 128 + l.val - 0), by omega⟩ := Fin.ext (by simp only [col]; omega)
    rw [e]
    refine q_row (grid0.coords t) h1 h2 _ _ _ _ r (tok t r) ⟨t.val / 2 * 128 + l.val - 0, by omega⟩ (fun k => ?_) (fun k => ?_) l (by simp only; omega)
    · exact (x_blk m c t r k).trans (congrArg (fun z => m ((c : Thread nD τ).loc main_arg0) (ix2 (tok t r) z)) (Fin.ext (by simp only [col]; omega)))
    · exact (d_blk m c t r k).trans (congrArg (fun z => m ((c : Thread nD τ).loc main_arg1) (ix2 (tok t r) z)) (Fin.ext (by simp only [col]; omega)))
  by_cases hk : t.val < 32
  · rw [if_pos hk] at h1
    rw [if_neg hq] at h2
    have e : col t l = ⟨1024 + (t.val / 2 * 128 + l.val - 1024), by omega⟩ := Fin.ext (by simp only [col]; omega)
    rw [e]
    refine k_row (grid0.coords t) h1 h2 _ _ _ _ r (tok t r) ⟨t.val / 2 * 128 + l.val - 1024, by omega⟩ (fun k => ?_) (fun k => ?_) l (by simp only; omega)
    · exact (x_blk m c t r k).trans (congrArg (fun z => m ((c : Thread nD τ).loc main_arg0) (ix2 (tok t r) z)) (Fin.ext (by simp only [col]; omega)))
    · exact (d_blk m c t r k).trans (congrArg (fun z => m ((c : Thread nD τ).loc main_arg1) (ix2 (tok t r) z)) (Fin.ext (by simp only [col]; omega)))
  · rw [if_neg (by omega)] at h1 h2
    have e : col t l = ⟨2048 + (t.val / 2 * 128 + l.val - 2048), by omega⟩ := Fin.ext (by simp only [col]; omega)
    rw [e]
    refine v_row (grid0.coords t) h1 h2 _ _ _ _ r (tok t r) ⟨t.val / 2 * 128 + l.val - 2048, by omega⟩ (fun k => ?_) (fun k => ?_) l (by simp only; omega)
    · exact (x_blk m c t r k).trans (congrArg (fun z => m ((c : Thread nD τ).loc main_arg0) (ix2 (tok t r) z)) (Fin.ext (by simp only [col]; omega)))
    · exact (d_blk m c t r k).trans (congrArg (fun z => m ((c : Thread nD τ).loc main_arg1) (ix2 (tok t r) z)) (Fin.ext (by simp only [col]; omega)))

end Cert.DnpreBwdIdeal.Grad

namespace Cert.Proof

/-- The kernel's result is the reference's, on the same arguments. -/
theorem algebraic_DnpreBwd : Cert.algebraic_DnpreBwdIdeal_DnpreBwdRefIdeal := by
  pair_intro
  · run_from Cert.DnpreBwdIdeal.Gen.run_main m g
  · refine θ_run_mono (Cert.DnpreBwdRefIdeal.Value.run (F := Ideal) m' g') fun r h c => ?_
    obtain ⟨h0, h1⟩ := h c
    have e := hagree c
    unfold Cert.DnpreBwdRefIdeal.Value.res_main_v67 at h0
    rw [e.1, e.2] at h0
    exact ⟨h0.trans (Cert.DnpreBwdIdeal.Grad.final m c).symm, h1⟩

end Cert.Proof
-- ==== Proof.Conv.lean ====
/- The short convolution: every block of rows, with the eight rows before it, gives its rows of the sum over the four taps. -/
module

public import proofs.«01_k».proof.Defs
public import proofs.«01_k».proof.Proof.Gen.ConvIdeal.Frame
public import proofs.«01_k».proof.Proof.Gen.ConvRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.ConvRefIdeal.Grad

open Cert.ConvRefIdeal Cert.ConvRefIdeal.Gen Idealize.ShloMosaic.StableHlo

/-- The reference's result. -/
abbrev REF (a0 : FVec Ideal S8192x5632 .f32) (a1 : FVec Ideal S4x3072 .f32) : FVec Ideal S8192x3072 .f32 :=
  addf (addf (addf (addf (broadcastInDim S8192x3072 ![] bcast_S_S8192x3072 (constant S_ .f32 0x00000000#32)) (mulf (extractStridedSlice S8192x3072 ![0, 0] (concatenate S8195x3072 0 [⟨S3x3072, (broadcastInDim S3x3072 ![] bcast_S_S3x3072 (constant S_ .f32 0x00000000#32))⟩, ⟨S8192x3072, (extractStridedSlice S8192x3072 ![0, 0] a0 slices_S8192x5632_S8192x3072_0_0)⟩] concatenates_S3x3072_S8192x3072_S8195x3072_d0) slices_S8195x3072_S8192x3072_0_0) (broadcastInDim S8192x3072 ![0, 1] bcast_S1x3072_S8192x3072_0_1 (extractStridedSlice S1x3072 ![0, 0] a1 slices_S4x3072_S1x3072_0_0)))) (mulf (extractStridedSlice S8192x3072 ![1, 0] (concatenate S8195x3072 0 [⟨S3x3072, (broadcastInDim S3x3072 ![] bcast_S_S3x3072 (constant S_ .f32 0x00000000#32))⟩, ⟨S8192x3072, (extractStridedSlice S8192x3072 ![0, 0] a0 slices_S8192x5632_S8192x3072_0_0)⟩] concatenates_S3x3072_S8192x3072_S8195x3072_d0) slices_S8195x3072_S8192x3072_1_0) (broadcastInDim S8192x3072 ![0, 1] bcast_S1x3072_S8192x3072_0_1 (extractStridedSlice S1x3072 ![1, 0] a1 slices_S4x3072_S1x3072_1_0)))) (mulf (extractStridedSlice S8192x3072 ![2, 0] (concatenate S8195x3072 0 [⟨S3x3072, (broadcastInDim S3x3072 ![] bcast_S_S3x3072 (constant S_ .f32 0x00000000#32))⟩, ⟨S8192x3072, (extractStridedSlice S8192x3072 ![0, 0] a0 slices_S8192x5632_S8192x3072_0_0)⟩] concatenates_S3x3072_S8192x3072_S8195x3072_d0) slices_S8195x3072_S8192x3072_2_0) (broadcastInDim S8192x3072 ![0, 1] bcast_S1x3072_S8192x3072_0_1 (extractStridedSlice S1x3072 ![2, 0] a1 slices_S4x3072_S1x3072_2_0)))) (mulf (extractStridedSlice S8192x3072 ![3, 0] (concatenate S8195x3072 0 [⟨S3x3072, (broadcastInDim S3x3072 ![] bcast_S_S3x3072 (constant S_ .f32 0x00000000#32))⟩, ⟨S8192x3072, (extractStridedSlice S8192x3072 ![0, 0] a0 slices_S8192x5632_S8192x3072_0_0)⟩] concatenates_S3x3072_S8192x3072_S8195x3072_d0) slices_S8195x3072_S8192x3072_3_0) (broadcastInDim S8192x3072 ![0, 1] bcast_S1x3072_S8192x3072_0_1 (extractStridedSlice S1x3072 ![3, 0] a1 slices_S4x3072_S1x3072_3_0)))

end Cert.ConvRefIdeal.Grad

namespace Cert.ConvIdeal.Grad

open Cert.ConvIdeal Cert.ConvIdeal.Gen Cert.ConvRefIdeal.Grad

/-- Choosing by an order of small numbers. -/
theorem select_lt {α : Type} (a b : α) : ∀ (r : Fin 8) (s : Fin 4),
    Scalar.select (IntOp.cmpi CmpIPredicate.slt (BitVec.ofNat 32 r.val) (BitVec.ofNat 32 s.val)) a b = if r.val < s.val then a else b := by
  intro r s
  have h : (IntOp.cmpi CmpIPredicate.slt (BitVec.ofNat 32 r.val) (BitVec.ofNat 32 s.val) = 1) ↔ r.val < s.val := by revert r s; decide
  simp only [Scalar.select, h]

/-- Choosing by whether a block is the first. -/
theorem select_pos {α : Type} (a b : α) : ∀ n : Fin 8,
    Scalar.select (Scalar.cmpi CmpIPredicate.sgt (BitVec.ofNat 32 n.val) 0#32) a b = if n.val = 0 then b else a := by
  intro n
  have h : (Scalar.cmpi CmpIPredicate.sgt (BitVec.ofNat 32 n.val) 0#32 = 1) ↔ ¬ n.val = 0 := by revert n; decide
  simp only [Scalar.select, h, ite_not]

/-- A column moved down by `s` rows, from a block of it and the eight rows before the block. -/
theorem tap (X : Fin 8192 → EReal) (x : Fin 1024 → EReal) (p : Fin 8 → EReal) (b : Fin 8)
    (hx : ∀ k : Fin 1024, x k = X ⟨1024 * b.val + k.val, by omega⟩)
    (hp : ∀ k : Fin 8, p k = if h : b.val = 0 then 0 else X ⟨1024 * b.val - 8 + k.val, by omega⟩)
    (s : ℕ) (hs : 0 < s) (hs' : s < 4) (r : Fin 1024) :
    (if h : r.val < 8 then Scalar.select (IntOp.cmpi CmpIPredicate.slt (BitVec.ofNat 32 r.val) (BitVec.ofNat 32 s)) (p ⟨(r.val + 8 - s) % 8, Nat.mod_lt _ (by decide)⟩)
        (x ⟨(r.val + 1024 - s) % 1024, Nat.mod_lt _ (by decide)⟩)
      else x ⟨(8 + (r.val - 8) + 1024 - s) % 1024, Nat.mod_lt _ (by decide)⟩)
    = if h : 1024 * b.val + r.val < s then 0 else X ⟨1024 * b.val + r.val - s, by omega⟩ := by
  simp only [hx, hp]
  split
  · rename_i h
    rw [select_lt _ _ ⟨r.val, h⟩ ⟨s, hs'⟩]
    dsimp only
    by_cases hr : r.val < s
    · rw [if_pos hr]
      by_cases hb : b.val = 0
      · rw [dif_pos hb, dif_pos (by omega)]
      · rw [dif_neg hb, dif_neg (by omega)]
        exact congrArg X (Fin.ext (by dsimp only; omega))
    · rw [if_neg hr, dif_neg (by omega)]
      exact congrArg X (Fin.ext (by dsimp only; omega))
  · rw [dif_neg (by omega)]
    exact congrArg X (Fin.ext (by dsimp only; omega))

/-- The eight rows before a block, zero before the first. -/
theorem before (i : grid0.Coords) (h : FVec Ideal S8x512 .f32) (k : Fin 8) (l : Fin 512) :
    (k0_pay2 (F := Ideal) i h : FVec Ideal S8x512 .f32) (ix2 k l) = if (i 1).val = 0 then 0 else h (ix2 k l) := by
  unfold k0_pay2
  rw [select_pos _ _ (i 1)]
  split
  · pointwise
  · rfl

/-- The result in a row and column, over that column of the block and of the rows before it. -/
theorem row (i : grid0.Coords) (x : FVec Ideal S1024x512 .f32) (h : FVec Ideal S8x512 .f32) (w : FVec Ideal S4x512 .f32)
    (X : FVec Ideal Cert.ConvRefIdeal.S8192x5632 .f32) (W : FVec Ideal Cert.ConvRefIdeal.S4x3072 .f32)
    (b : Fin 8) (hb : (i 1).val = b.val) (r : Fin 1024) (l : Fin 512) (C : Fin 3072)
    (hx : ∀ k : Fin 1024, x (ix2 k l) = X (ix2 ⟨1024 * b.val + k.val, by omega⟩ ⟨C.val, by omega⟩))
    (hh : ∀ k : Fin 8, ¬ b.val = 0 → h (ix2 k l) = X (ix2 ⟨1024 * b.val - 8 + k.val, by omega⟩ ⟨C.val, by omega⟩))
    (hw : ∀ k : Fin 4, w (ix2 k l) = W (ix2 k C)) :
    k0_pay1 (F := Ideal) (k0_pay3 (F := Ideal) i x h w) (k0_pay4 (F := Ideal) x) (k0_pay5 (F := Ideal) i x h) (k0_pay6 (F := Ideal) w) (ix2 r l)
      = REF X W (ix2 ⟨1024 * b.val + r.val, by omega⟩ C) := by
  have hp : ∀ k : Fin 8, (k0_pay2 (F := Ideal) i h : FVec Ideal S8x512 .f32) (ix2 k l) = if h : b.val = 0 then 0 else X (ix2 ⟨1024 * b.val - 8 + k.val, by omega⟩ ⟨C.val, by omega⟩) := by
    intro k
    rw [before, hb]
    by_cases h0 : b.val = 0
    · rw [if_pos h0, dif_pos h0]
    · rw [if_neg h0, dif_neg h0, hh k h0]
  have t := fun s h1 h2 => tap (fun R => X (ix2 R ⟨C.val, by omega⟩)) (fun k => x (ix2 k l)) (fun k => (k0_pay2 (F := Ideal) i h : FVec Ideal S8x512 .f32) (ix2 k l)) b hx hp s h1 h2 r
  have t1 := t 1 (by decide) (by decide)
  have t2 := t 2 (by decide) (by decide)
  have t3 := t 3 (by decide) (by decide)
  pointwise [k0_pay1, k0_pay3, k0_pay4, k0_pay5, k0_pay6, REF]
  rw [t1, t2, t3, hx, hw, hw, hw, hw]
  have e1 : (1 + (1024 * b.val + r.val) < 3) ↔ 1024 * b.val + r.val < 2 := by omega
  have e2 : (2 + (1024 * b.val + r.val) < 3) ↔ 1024 * b.val + r.val < 1 := by omega
  have f1 : 1 + (1024 * b.val + r.val) - 3 = 1024 * b.val + r.val - 2 := by omega
  have f2 : 2 + (1024 * b.val + r.val) - 3 = 1024 * b.val + r.val - 1 := by omega
  simp only [e1, e2, f1, f2]
  ac_rfl

variable (m : (ℓ : Loc nD τ sig) → Buf (Elt Ideal) ℓ)

/-- The block indices of the windows at every grid point. -/
theorem idx : ∀ t : Fin cfg0.N, win0_0.index t = ![t.val % 8, t.val / 8]
    ∧ win0_1.index t = ![t.val % 8 * 128 - 1, t.val / 8]
    ∧ win0_2.index t = ![0, t.val / 8]
    ∧ win0_3.index t = ![t.val % 8, t.val / 8] :=
  (by decide +kernel : ∀ t : Fin grid0.N, _)

/-- The block of rows of a grid point. -/
def rb (t : Fin cfg0.N) : Fin 8 := ⟨t.val % 8, Nat.mod_lt _ (by decide)⟩

/-- The grid's second coordinate is the block of rows. -/
theorem coord (t : Fin cfg0.N) : (cfg0.grid.coords t 1).val = (rb t).val :=
  (by decide +kernel : ∀ t : Fin grid0.N, (grid0.coords t 1).val = t.val % 8) t

/-- The column of the array that a block's column is. -/
def col (t : Fin cfg0.N) (l : Fin 512) : Fin 3072 := ⟨t.val / 8 * 512 + l.val, by have h : t.val < 48 := t.isLt; omega⟩

/-- The input's block. -/
theorem x_blk (c : Dev nD) (t : Fin cfg0.N) (k : Fin 1024) (l : Fin 512) : (iblk m c 0 t : FVec Ideal S1024x512 .f32) (ix2 k l)
    = m ((c : Thread nD τ).loc main_arg0) (ix2 ⟨1024 * (rb t).val + k.val, by omega⟩ ⟨(col t l).val, by omega⟩) := by
  blk_point [iblk, V, idx t, rb, col]

/-- The rows before the input's block. -/
theorem h_blk (c : Dev nD) (t : Fin cfg0.N) (k : Fin 8) (l : Fin 512) (h0 : ¬ (rb t).val = 0) : (iblk m c 1 t : FVec Ideal S8x512 .f32) (ix2 k l)
    = m ((c : Thread nD τ).loc main_arg0) (ix2 ⟨1024 * (rb t).val - 8 + k.val, by omega⟩ ⟨(col t l).val, by omega⟩) := by
  simp only [rb] at h0
  blk_point [iblk, V, idx t, rb, col]

/-- The taps' block. -/
theorem w_blk (c : Dev nD) (t : Fin cfg0.N) (k : Fin 4) (l : Fin 512) : (iblk m c 2 t : FVec Ideal S4x512 .f32) (ix2 k l)
    = m ((c : Thread nD τ).loc main_arg1) (ix2 k (col t l)) := by
  blk_point [iblk, V, idx t, col]

/-- A block's row and column at their place in the result. -/
theorem place3 (t : Fin cfg0.N) (r : Fin 1024) (l : Fin 512) : ((cfg0.win 3).blk t).view.emb (ix2 r l) = ix2 ⟨1024 * (rb t).val + r.val, by omega⟩ (col t l) := by
  blk_point [idx t, rb, col]

/-- The result after the run is the reference's. -/
theorem final3 (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t hf y => ?_
  obtain ⟨r, l, rfl⟩ : ∃ (r : Fin 1024) (l : Fin 512), y = ix2 r l := ⟨y 0, y 1, eq_ix2 y⟩
  refine Eq.trans ?_ (congrArg _ (place3 t r l)).symm
  rw [after0_3]
  frame_out
  exact row _ _ _ _ _ _ (rb t) (coord t) r l (col t l) (fun k => x_blk m c t k l) (fun k h0 => h_blk m c t k l h0) (fun k => w_blk m c t k l)

end Cert.ConvIdeal.Grad

namespace Cert.Proof

/-- The kernel's result is the reference's, on the same arguments. -/
theorem algebraic_Conv : Cert.algebraic_ConvIdeal_ConvRefIdeal := by
  pair_intro
  · run_from Cert.ConvIdeal.Gen.run_main m g
  · run_from Cert.ConvRefIdeal.Value.run (F := Ideal) m' g'
    exact (Cert.ConvIdeal.Grad.final3 m c).symm

end Cert.Proof
-- ==== Proof.ConvBwd.lean ====
/- The gradient of the short convolution: every block of rows, with the eight rows before and after it, gives its rows of the gradient of the
   input and adds its rows to the gradient of the four taps. -/
module

public import proofs.«01_k».proof.Defs
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Pipeline.ReadBack
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.ConvBwdRefIdeal.Grad

open Cert.ConvBwdRefIdeal Cert.ConvBwdRefIdeal.Gen Idealize.ShloMosaic.StableHlo

/-- The gradient of the input. -/
abbrev REF0 (a1 : FVec Ideal S4x3072 .f32) (a2 : FVec Ideal S8192x3072 .f32) : FVec Ideal S8192x3072 .f32 :=
  extractStridedSlice S8192x3072 ![3, 0] (addf (addf (addf (pad S8195x3072 ![3, 0] ![0, 0] ![0, 0] (mulf (shapeCast _ a2 shapeCasts_S8192x3072_S8192x3072) (broadcastInDim S8192x3072 ![0, 1] bcast_S1x3072_S8192x3072_0_1 (extractStridedSlice S1x3072 ![3, 0] a1 slices_S4x3072_S1x3072_3_0))) (constant S_ .f32 0x00000000#32) pads_S8192x3072_S8195x3072_300_000 h_S_) (pad S8195x3072 ![2, 0] ![1, 0] ![0, 0] (mulf (shapeCast _ a2 shapeCasts_S8192x3072_S8192x3072) (broadcastInDim S8192x3072 ![0, 1] bcast_S1x3072_S8192x3072_0_1 (extractStridedSlice S1x3072 ![2, 0] a1 slices_S4x3072_S1x3072_2_0))) (constant S_ .f32 0x00000000#32) pads_S8192x3072_S8195x3072_210_000 h_S_)) (pad S8195x3072 ![1, 0] ![2, 0] ![0, 0] (mulf (shapeCast _ a2 shapeCasts_S8192x3072_S8192x3072) (broadcastInDim S8192x3072 ![0, 1] bcast_S1x3072_S8192x3072_0_1 (extractStridedSlice S1x3072 ![1, 0] a1 slices_S4x3072_S1x3072_1_0))) (constant S_ .f32 0x00000000#32) pads_S8192x3072_S8195x3072_120_000 h_S_)) (pad S8195x3072 ![0, 0] ![3, 0] ![0, 0] (mulf (shapeCast _ a2 shapeCasts_S8192x3072_S8192x3072) (broadcastInDim S8192x3072 ![0, 1] bcast_S1x3072_S8192x3072_0_1 (extractStridedSlice S1x3072 ![0, 0] a1 slices_S4x3072_S1x3072_0_0))) (constant S_ .f32 0x00000000#32) pads_S8192x3072_S8195x3072_030_000 h_S_)) slices_S8195x3072_S8192x3072_3_0

/-- The columns that are convolved, after three rows of zeros. -/
def PADX (a0 : FVec Ideal S8192x5632 .f32) : FVec Ideal S8195x3072 .f32 :=
  concatenate S8195x3072 0 [⟨S3x3072, (broadcastInDim S3x3072 ![] bcast_S_S3x3072 (constant S_ .f32 0x00000000#32))⟩, ⟨S8192x3072, (extractStridedSlice S8192x3072 ![0, 0] a0 slices_S8192x5632_S8192x3072_0_0)⟩] concatenates_S3x3072_S8192x3072_S8195x3072_d0

/-- The gradient of the taps. -/
abbrev REF1 (a0 : FVec Ideal S8192x5632 .f32) (a2 : FVec Ideal S8192x3072 .f32) : FVec Ideal S4x3072 .f32 :=
  addf (addf (addf (pad S4x3072 ![3, 0] ![0, 0] ![0, 0] (shapeCast _ (Host.reduceAdd (mulf (extractStridedSlice S8192x3072 ![3, 0] (PADX a0) slices_S8195x3072_S8192x3072_3_0) (shapeCast _ a2 shapeCasts_S8192x3072_S8192x3072)) (constant S_ .f32 0x00000000#32) reducesTo_S8192x3072_S3072_d0 h_S_) shapeCasts_S3072_S1x3072) (constant S_ .f32 0x00000000#32) pads_S1x3072_S4x3072_300_000 h_S_) (pad S4x3072 ![2, 0] ![1, 0] ![0, 0] (shapeCast _ (Host.reduceAdd (mulf (extractStridedSlice S8192x3072 ![2, 0] (PADX a0) slices_S8195x3072_S8192x3072_2_0) (shapeCast _ a2 shapeCasts_S8192x3072_S8192x3072)) (constant S_ .f32 0x00000000#32) reducesTo_S8192x3072_S3072_d0 h_S_) shapeCasts_S3072_S1x3072) (constant S_ .f32 0x00000000#32) pads_S1x3072_S4x3072_210_000 h_S_)) (pad S4x3072 ![1, 0] ![2, 0] ![0, 0] (shapeCast _ (Host.reduceAdd (mulf (extractStridedSlice S8192x3072 ![1, 0] (PADX a0) slices_S8195x3072_S8192x3072_1_0) (shapeCast _ a2 shapeCasts_S8192x3072_S8192x3072)) (constant S_ .f32 0x00000000#32) reducesTo_S8192x3072_S3072_d0 h_S_) shapeCasts_S3072_S1x3072) (constant S_ .f32 0x00000000#32) pads_S1x3072_S4x3072_120_000 h_S_)) (pad S4x3072 ![0, 0] ![3, 0] ![0, 0] (shapeCast _ (Host.reduceAdd (mulf (extractStridedSlice S8192x3072 ![0, 0] (PADX a0) slices_S8195x3072_S8192x3072_0_0) (shapeCast _ a2 shapeCasts_S8192x3072_S8192x3072)) (constant S_ .f32 0x00000000#32) reducesTo_S8192x3072_S3072_d0 h_S_) shapeCasts_S3072_S1x3072) (constant S_ .f32 0x00000000#32) pads_S1x3072_S4x3072_030_000 h_S_)

/-- The gradient of a tap is the sum over the tokens. -/
theorem tap_sum (X : FVec Ideal S8192x5632 .f32) (D : FVec Ideal S8192x3072 .f32) (k : Fin 4) (C : Fin 3072) :
    REF1 X D (ix2 k C) = ∑ n : Fin 8192, PADX X (ix2 ⟨k.val + n.val, by omega⟩ C) * D (ix2 n C) := by
  match k with
  | ⟨0, _⟩ =>
    refine Eq.trans (by pointwise [REF1] : REF1 X D (ix2 0 C) = ∑ n : Fin 8192, PADX X (ix2 ⟨n.val, by omega⟩ C) * D (ix2 n C)) ?_
    simp only [Nat.zero_add]
  | ⟨1, _⟩ => exact (by pointwise [REF1]; rfl : REF1 X D (ix2 1 C) = _)
  | ⟨2, _⟩ => exact (by pointwise [REF1]; rfl : REF1 X D (ix2 2 C) = _)
  | ⟨3, _⟩ => exact (by pointwise [REF1]; rfl : REF1 X D (ix2 3 C) = _)

end Cert.ConvBwdRefIdeal.Grad

namespace Cert.ConvBwdIdeal.Grad

open Cert.ConvBwdIdeal Cert.ConvBwdIdeal.Gen Cert.ConvBwdRefIdeal.Grad

/-- Choosing by an order of small numbers. -/
theorem select_lt {α : Type} (a b : α) : ∀ (r : Fin 8) (s : Fin 4),
    Scalar.select (IntOp.cmpi CmpIPredicate.slt (BitVec.ofNat 32 r.val) (BitVec.ofNat 32 s.val)) a b = if r.val < s.val then a else b := by
  intro r s
  have h : (IntOp.cmpi CmpIPredicate.slt (BitVec.ofNat 32 r.val) (BitVec.ofNat 32 s.val) = 1) ↔ r.val < s.val := by revert r s; decide
  simp only [Scalar.select, h]

/-- Choosing by whether a block is the first. -/
theorem select_pos {α : Type} (a b : α) : ∀ n : Fin 8,
    Scalar.select (Scalar.cmpi CmpIPredicate.sgt (BitVec.ofNat 32 n.val) 0#32) a b = if n.val = 0 then b else a := by
  intro n
  have h : (Scalar.cmpi CmpIPredicate.sgt (BitVec.ofNat 32 n.val) 0#32 = 1) ↔ ¬ n.val = 0 := by revert n; decide
  simp only [Scalar.select, h, ite_not]

/-- A column moved down by `s` rows, from a block of it and the eight rows before the block. -/
theorem tap (X : Fin 8192 → EReal) (x : Fin 1024 → EReal) (p : Fin 8 → EReal) (b : Fin 8)
    (hx : ∀ k : Fin 1024, x k = X ⟨1024 * b.val + k.val, by omega⟩)
    (hp : ∀ k : Fin 8, p k = if h : b.val = 0 then 0 else X ⟨1024 * b.val - 8 + k.val, by omega⟩)
    (s : ℕ) (hs : 0 < s) (hs' : s < 4) (r : Fin 1024) :
    (if h : r.val < 8 then Scalar.select (IntOp.cmpi CmpIPredicate.slt (BitVec.ofNat 32 r.val) (BitVec.ofNat 32 s)) (p ⟨(r.val + 8 - s) % 8, Nat.mod_lt _ (by decide)⟩)
        (x ⟨(r.val + 1024 - s) % 1024, Nat.mod_lt _ (by decide)⟩)
      else x ⟨(8 + (r.val - 8) + 1024 - s) % 1024, Nat.mod_lt _ (by decide)⟩)
    = if h : 1024 * b.val + r.val < s then 0 else X ⟨1024 * b.val + r.val - s, by omega⟩ := by
  simp only [hx, hp]
  split
  · rename_i h
    rw [select_lt _ _ ⟨r.val, h⟩ ⟨s, hs'⟩]
    dsimp only
    by_cases hr : r.val < s
    · rw [if_pos hr]
      by_cases hb : b.val = 0
      · rw [dif_pos hb, dif_pos (by omega)]
      · rw [dif_neg hb, dif_neg (by omega)]
        exact congrArg X (Fin.ext (by dsimp only; omega))
    · rw [if_neg hr, dif_neg (by omega)]
      exact congrArg X (Fin.ext (by dsimp only; omega))
  · rw [dif_neg (by omega)]
    exact congrArg X (Fin.ext (by dsimp only; omega))

/-- Choosing by an order of small numbers, the other way. -/
theorem select_ge {α : Type} (a b : α) : ∀ (r : Fin 8) (s : Fin 8),
    Scalar.select (IntOp.cmpi CmpIPredicate.sge (BitVec.ofNat 32 r.val) (BitVec.ofNat 32 s.val)) a b = if s.val ≤ r.val then a else b := by
  intro r s
  have h : (IntOp.cmpi CmpIPredicate.sge (BitVec.ofNat 32 r.val) (BitVec.ofNat 32 s.val) = 1) ↔ s.val ≤ r.val := by revert r s; decide
  simp only [Scalar.select, h]

/-- Choosing by whether a block is the last. -/
theorem select_last {α : Type} (a b : α) : ∀ n : Fin 8,
    Scalar.select (Scalar.cmpi CmpIPredicate.slt (BitVec.ofNat 32 n.val) 7#32) a b = if n.val = 7 then b else a := by
  intro n
  have h : (Scalar.cmpi CmpIPredicate.slt (BitVec.ofNat 32 n.val) 7#32 = 1) ↔ ¬ n.val = 7 := by revert n; decide
  simp only [Scalar.select, h, ite_not]

/-- A column moved up by `s` rows, from a block of it and the eight rows after the block. -/
theorem lift (X : Fin 8192 → EReal) (x : Fin 1024 → EReal) (p : Fin 8 → EReal) (b : Fin 8)
    (hx : ∀ k : Fin 1024, x k = X ⟨1024 * b.val + k.val, by omega⟩)
    (hp : ∀ k : Fin 8, p k = if h : b.val = 7 then 0 else X ⟨1024 * (b.val + 1) + k.val, by omega⟩)
    (s : ℕ) (hs : 0 < s) (hs' : s < 4) (r : Fin 1024) :
    (if h : r.val < 1016 then x ⟨(r.val + 1024 - (1024 - s)) % 1024, Nat.mod_lt _ (by decide)⟩
      else Scalar.select (IntOp.cmpi CmpIPredicate.sge (BitVec.ofNat 32 (r.val - 1016)) (BitVec.ofNat 32 (8 - s))) (p ⟨(r.val - 1016 + 8 - (8 - s)) % 8, Nat.mod_lt _ (by decide)⟩)
        (x ⟨(1016 + (r.val - 1016) + 1024 - (1024 - s)) % 1024, Nat.mod_lt _ (by decide)⟩))
    = if h : 1024 * b.val + r.val + s < 8192 then X ⟨1024 * b.val + r.val + s, h⟩ else 0 := by
  simp only [hx, hp]
  split
  · rw [dif_pos (by omega)]
    exact congrArg X (Fin.ext (by dsimp only; omega))
  · rename_i h
    rw [select_ge _ _ ⟨r.val - 1016, by omega⟩ ⟨8 - s, by omega⟩]
    dsimp only
    by_cases hr : 8 - s ≤ r.val - 1016
    · rw [if_pos hr]
      by_cases hb : b.val = 7
      · rw [dif_pos hb, dif_neg (by omega)]
      · rw [dif_neg hb, dif_pos (by omega)]
        exact congrArg X (Fin.ext (by dsimp only; omega))
    · rw [if_neg hr, dif_pos (by omega)]
      exact congrArg X (Fin.ext (by dsimp only; omega))

/-- The eight rows before a block, zero before the first. -/
theorem before (i : grid0.Coords) (h : FVec Ideal S8x512 .f32) (k : Fin 8) (l : Fin 512) :
    (k0_pay3 (F := Ideal) i h : FVec Ideal S8x512 .f32) (ix2 k l) = if (i 1).val = 0 then 0 else h (ix2 k l) := by
  unfold k0_pay3
  rw [select_pos _ _ (i 1)]
  split
  · pointwise
  · rfl

/-- The eight rows after a block, zero after the last. -/
theorem after (i : grid0.Coords) (h : FVec Ideal S8x512 .f32) (k : Fin 8) (l : Fin 512) :
    (k0_pay4 (F := Ideal) i h : FVec Ideal S8x512 .f32) (ix2 k l) = if (i 1).val = 7 then 0 else h (ix2 k l) := by
  unfold k0_pay4
  rw [select_last _ _ (i 1)]
  split
  · pointwise
  · rfl

/-- A block's rows moved down by `n`, the rows before it filling the first. -/
def DOWN (n : BitVec 32) (x : FVec Ideal S1024x512 .f32) (p : FVec Ideal S8x512 .f32) : FVec Ideal S1024x512 .f32 :=
  concatenate S1024x512 0 [⟨S8x512, select (cmpi .slt (iota .tc S8x512 32 [0] iota_S8x512_d0_w32) (broadcast S8x512 n)) (dynamicRotate 0 n none p rotates_S8x512_d0)
      (extractStridedSlice S8x512 ![0, 0] (dynamicRotate 0 n none x rotates_S1024x512_d0) slices_S1024x512_o0_0_S8x512)⟩,
    ⟨S1016x512, extractStridedSlice S1016x512 ![8, 0] (dynamicRotate 0 n none x rotates_S1024x512_d0) slices_S1024x512_o8_0_S1016x512⟩] concatenates_S8x512_S1016x512_S1024x512_d0

section Rows

variable (i : grid0.Coords) (x d : FVec Ideal S1024x512 .f32) (p n : FVec Ideal S8x512 .f32) (w : FVec Ideal S4x512 .f32)
  (X : FVec Ideal Cert.ConvBwdRefIdeal.S8192x5632 .f32) (D : FVec Ideal Cert.ConvBwdRefIdeal.S8192x3072 .f32) (W : FVec Ideal Cert.ConvBwdRefIdeal.S4x3072 .f32)
  (b : Fin 8) (hb : (i 1).val = b.val) (l : Fin 512) (C : Fin 3072)
  (hx : ∀ k : Fin 1024, x (ix2 k l) = X (ix2 ⟨1024 * b.val + k.val, by omega⟩ ⟨C.val, by omega⟩))
  (hp : ∀ k : Fin 8, ¬ b.val = 0 → p (ix2 k l) = X (ix2 ⟨1024 * b.val - 8 + k.val, by omega⟩ ⟨C.val, by omega⟩))
  (hd : ∀ k : Fin 1024, d (ix2 k l) = D (ix2 ⟨1024 * b.val + k.val, by omega⟩ C))
  (hn : ∀ (k : Fin 8) (h : ¬ b.val = 7), n (ix2 k l) = D (ix2 ⟨1024 * (b.val + 1) + k.val, by omega⟩ C))
  (hw : ∀ k : Fin 4, w (ix2 k l) = W (ix2 k C))

include hb hp in
/-- The rows before the block, as rows of the array. -/
theorem before_rows (k : Fin 8) : (k0_pay3 (F := Ideal) i p : FVec Ideal S8x512 .f32) (ix2 k l)
    = if h : b.val = 0 then 0 else X (ix2 ⟨1024 * b.val - 8 + k.val, by omega⟩ ⟨C.val, by omega⟩) := by
  rw [before, hb]
  by_cases h0 : b.val = 0
  · rw [if_pos h0, dif_pos h0]
  · rw [if_neg h0, dif_neg h0, hp k h0]

include hb hn in
/-- The rows after the block, as rows of the array. -/
theorem after_rows (k : Fin 8) : (k0_pay4 (F := Ideal) i n : FVec Ideal S8x512 .f32) (ix2 k l)
    = if h : b.val = 7 then 0 else D (ix2 ⟨1024 * (b.val + 1) + k.val, by omega⟩ C) := by
  rw [after, hb]
  by_cases h0 : b.val = 7
  · rw [if_pos h0, dif_pos h0]
  · rw [if_neg h0, dif_neg h0, hn k h0]

include hb hx hp in
/-- The block's rows moved down by `k`, as rows of the padded array. -/
theorem down_rows (k : ℕ) (h0 : 0 < k) (h3 : k < 4) (r : Fin 1024) : DOWN (BitVec.ofNat 32 k) x (k0_pay3 (F := Ideal) i p) (ix2 r l)
    = PADX X (ix2 ⟨3 - k + (1024 * b.val + r.val), by omega⟩ C) := by
  have t := tap (fun R => X (ix2 R ⟨C.val, by omega⟩)) (fun k => x (ix2 k l)) (fun k => (k0_pay3 (F := Ideal) i p : FVec Ideal S8x512 .f32) (ix2 k l)) b hx
    (before_rows i p X b hb l C hp) k h0 h3 r
  have e : PADX X (ix2 ⟨3 - k + (1024 * b.val + r.val), by omega⟩ C)
      = if h : 1024 * b.val + r.val < k then 0 else X (ix2 ⟨1024 * b.val + r.val - k, by omega⟩ ⟨C.val, by omega⟩) := by
    pointwise [PADX]
    have e1 : (3 - k + (1024 * b.val + r.val) < 3) ↔ 1024 * b.val + r.val < k := by omega
    have e2 : 3 - k + (1024 * b.val + r.val) - 3 = 1024 * b.val + r.val - k := by omega
    simp only [e1, e2]
  rw [e, ← t]
  match k, h0, h3 with
  | 1, _, _ => pointwise [DOWN]
  | 2, _, _ => pointwise [DOWN]
  | 3, _, _ => pointwise [DOWN]

include hx in
/-- The block's rows, as rows of the padded array. -/
theorem still_rows (r : Fin 1024) : x (ix2 r l) = PADX X (ix2 ⟨3 + (1024 * b.val + r.val), by omega⟩ C) := by
  rw [hx]
  pointwise [PADX]

include hb hd hn hw in
/-- The gradient of the input in a row and column. -/
theorem dx_row (r : Fin 1024) :
    k0_pay2 (F := Ideal) d w (k0_pay4 (F := Ideal) i n) (iota .tc S8x512 32 [0] iota_S8x512_d0_w32)
        (k0_pay12 (F := Ideal) d w (k0_pay4 (F := Ideal) i n) (iota .tc S8x512 32 [0] iota_S8x512_d0_w32) (k0_pay6 (F := Ideal) d w))
        (k0_pay14 (F := Ideal) d) (k0_pay15 (iota .tc S8x512 32 [0] iota_S8x512_d0_w32)) (k0_pay16 (F := Ideal) (k0_pay4 (F := Ideal) i n)) (ix2 r l)
      = REF0 W D (ix2 ⟨1024 * b.val + r.val, by omega⟩ C) := by
  have t := fun s h1 h2 => lift (fun R => D (ix2 R C)) (fun k => d (ix2 k l)) (fun k => (k0_pay4 (F := Ideal) i n : FVec Ideal S8x512 .f32) (ix2 k l)) b hd
    (after_rows i n D b hb l C hn) s h1 h2 r
  have t1 := t 1 (by decide) (by decide)
  have t2 := t 2 (by decide) (by decide)
  have t3 := t 3 (by decide) (by decide)
  simp only [Nat.reduceSub] at t1 t2 t3
  pointwise [k0_pay2, k0_pay12, k0_pay6, k0_pay14, k0_pay15, k0_pay16, REF0]
  rw [t1, t2, t3, hd, hw, hw, hw, hw]
  have e1 : (1 ≤ 3 + (1024 * b.val + r.val) ∧ 3 + (1024 * b.val + r.val) - 1 < 8192) ↔ 1024 * b.val + r.val + 2 < 8192 := by omega
  have e2 : (2 ≤ 3 + (1024 * b.val + r.val) ∧ 3 + (1024 * b.val + r.val) - 2 < 8192) ↔ 1024 * b.val + r.val + 1 < 8192 := by omega
  have e3 : 3 + (1024 * b.val + r.val) < 8192 ↔ 1024 * b.val + r.val + 3 < 8192 := by omega
  have f1 : 3 + (1024 * b.val + r.val) - 1 = 1024 * b.val + r.val + 2 := by omega
  have f2 : 3 + (1024 * b.val + r.val) - 2 = 1024 * b.val + r.val + 1 := by omega
  have f3 : 3 + (1024 * b.val + r.val) = 1024 * b.val + r.val + 3 := by omega
  have e0 : 1024 * b.val + r.val < 8192 := by omega
  simp only [e1, e2, f1, f2, mul_dite, mul_zero, dif_pos e0]
  have g1 : 1 ≤ 1024 * b.val + r.val + 3 := by omega
  have g2 : 2 ≤ 1024 * b.val + r.val + 3 := by omega
  simp only [e3, f3, g1, g2, true_and]
  simp only [mul_comm (W (ix2 _ C))]

end Rows

/-- A row added to the sum of a block's rows. -/
def ROWSUM (v : FVec Ideal S1x512 .f32) (x : FVec Ideal S1024x512 .f32) : FVec Ideal S1x512 .f32 :=
  addf (shapeCast S1x512 v shapeCasts_S1x512_S1x512)
    (shapeCast S1x512 (multiReduction .add [0] S512 x 0x00000000#32 reduces_S1024x512_S512 (.inl rfl) rfl : FVec Ideal S512 .f32) shapeCasts_S512_S1x512)

/-- Its value at a column. -/
theorem rowsum_at (v : FVec Ideal S1x512 .f32) (x : FVec Ideal S1024x512 .f32) (l : Fin 512) : ROWSUM v x (ix2 0 l) = v (ix2 0 l) + ∑ r : Fin 1024, x (ix2 r l) := by
  pointwise [ROWSUM]

/-- Under the last row stored, and off it. -/
theorem canon_row (o : ℕ) (inb : ∀ a, ![o, 0] a + ![1, 512] a ≤ S4x512.size a) (w : FVec Ideal S1x512 .f32) (L : List (View.Piece (Elt Ideal) S4x512 .f32)) (k : Fin 4) (l : Fin 512) :
    View.canon (⟨Rect.unit (s := S4x512) ![o, 0] ![1, 512] inb, w⟩ :: L) (ix2 k l) = if k.val = o then w (ix2 0 l) else View.canon L (ix2 k l) := by
  split
  · rename_i h
    subst h
    refine Eq.trans (congrArg _ ?_) (View.canon_cons_emb (Rect.unit (s := S4x512) ![k.val, 0] ![1, 512] inb) w L (ix2 0 l))
    funext a; apply Fin.ext
    match a with
    | ⟨0, _⟩ => show k.val = k.val + 1 * 0; omega
    | ⟨1, _⟩ => show l.val = 0 + 1 * l.val; omega
  · rename_i h
    refine View.canon_cons_of_not_mem (⟨Rect.unit (s := S4x512) ![o, 0] ![1, 512] inb, w⟩ : View.Piece (Elt Ideal) S4x512 .f32) L ?_
    intro hm
    obtain ⟨j, hj, he⟩ := (LoadRect.mem_set _).mp hm (0 : Fin 2)
    have hj' : j < 1 := hj
    have he' : k.val = o + 1 * j := he
    omega

/-- A row that is read back. -/
theorem ld_row (o : ℕ) (inb : ∀ a, ![o, 0] a + ![1, 512] a ≤ S4x512.size a) (ho : o < 4) (G : FVec Ideal S4x512 .f32) (l : Fin 512) :
    View.ld (Val := Elt Ideal) (e' := .f32) G (Rect.unit (s := S4x512) ![o, 0] ![1, 512] inb) (ix2 (0 : Fin 1) l) = G (ix2 ⟨o, ho⟩ l) := by
  refine congrArg G ?_
  funext a; apply Fin.ext
  match a with
  | ⟨0, _⟩ => show o + 1 * 0 = o; omega
  | ⟨1, _⟩ => show 0 + 1 * l.val = l.val; omega

variable (m : (ℓ : Loc nD τ sig) → Buf (Elt Ideal) ℓ)

/-- The block indices of the windows at every grid point. -/
theorem idx : ∀ t : Fin cfg0.N, win0_0.index t = ![t.val % 8, t.val / 8]
    ∧ win0_1.index t = ![t.val % 8 * 128 - 1, t.val / 8]
    ∧ win0_2.index t = ![t.val % 8, t.val / 8]
    ∧ win0_3.index t = ![min ((t.val % 8 + 1) * 128) 1023, t.val / 8]
    ∧ win0_4.index t = ![0, t.val / 8]
    ∧ win0_5.index t = ![t.val % 8, t.val / 8]
    ∧ win0_6.index t = ![0, t.val / 8] :=
  (by decide +kernel : ∀ t : Fin grid0.N, _)

/-- The block of rows of a grid point. -/
def rb (t : Fin cfg0.N) : Fin 8 := ⟨t.val % 8, Nat.mod_lt _ (by decide)⟩

/-- The grid's second coordinate is the block of rows. -/
theorem coord (t : Fin cfg0.N) : (grid0.coords t 1).val = (rb t).val :=
  (by decide +kernel : ∀ t : Fin grid0.N, (grid0.coords t 1).val = t.val % 8) t

/-- The column of the array that a block's column is. -/
def col (t : Fin cfg0.N) (l : Fin 512) : Fin 3072 := ⟨t.val / 8 * 512 + l.val, by have h : t.val < 48 := t.isLt; omega⟩

/-- The input's block. -/
theorem x_blk (c : Dev nD) (t : Fin cfg0.N) (l : Fin 512) (k : Fin 1024) : (iblk m c 0 t : FVec Ideal S1024x512 .f32) (ix2 k l)
    = m ((c : Thread nD τ).loc main_arg0) (ix2 ⟨1024 * (rb t).val + k.val, by omega⟩ ⟨(col t l).val, by omega⟩) := by
  blk_point [iblk, V, idx t, rb, col]

/-- The rows before the input's block. -/
theorem p_blk (c : Dev nD) (t : Fin cfg0.N) (l : Fin 512) (k : Fin 8) (h0 : ¬ (rb t).val = 0) : (iblk m c 1 t : FVec Ideal S8x512 .f32) (ix2 k l)
    = m ((c : Thread nD τ).loc main_arg0) (ix2 ⟨1024 * (rb t).val - 8 + k.val, by omega⟩ ⟨(col t l).val, by omega⟩) := by
  simp only [rb] at h0
  blk_point [iblk, V, idx t, rb, col]

/-- The cotangent's block. -/
theorem d_blk (c : Dev nD) (t : Fin cfg0.N) (l : Fin 512) (k : Fin 1024) : (iblk m c 2 t : FVec Ideal S1024x512 .f32) (ix2 k l)
    = m ((c : Thread nD τ).loc main_arg2) (ix2 ⟨1024 * (rb t).val + k.val, by omega⟩ (col t l)) := by
  blk_point [iblk, V, idx t, rb, col]

/-- The rows after the cotangent's block. -/
theorem n_blk (c : Dev nD) (t : Fin cfg0.N) (l : Fin 512) (k : Fin 8) (h0 : ¬ (rb t).val = 7) : (iblk m c 3 t : FVec Ideal S8x512 .f32) (ix2 k l)
    = m ((c : Thread nD τ).loc main_arg2) (ix2 ⟨1024 * ((rb t).val + 1) + k.val, by omega⟩ (col t l)) := by
  simp only [rb] at h0
  blk_point [iblk, V, idx t, rb, col]

/-- The taps' block. -/
theorem w_blk (c : Dev nD) (t : Fin cfg0.N) (l : Fin 512) (k : Fin 4) : (iblk m c 4 t : FVec Ideal S4x512 .f32) (ix2 k l)
    = m ((c : Thread nD τ).loc main_arg1) (ix2 k (col t l)) := by
  blk_point [iblk, V, idx t, col]

/-- A block's row and column at their place in the gradient of the input. -/
theorem place5 (t : Fin cfg0.N) (r : Fin 1024) (l : Fin 512) : ((cfg0.win 5).blk t).view.emb (ix2 r l) = ix2 ⟨1024 * (rb t).val + r.val, by omega⟩ (col t l) := by
  blk_point [idx t, rb, col]

/-- A block's row and column at their place in the gradient of the taps. -/
theorem place6 (t : Fin cfg0.N) (k : Fin 4) (l : Fin 512) : ((cfg0.win 6).blk t).view.emb (ix2 k l) = ix2 k (col t l) := by
  blk_point [idx t, col]

/-- A block of the gradient of the input, at either kind of point. -/
theorem out5 (c : Dev nD) (t : Fin cfg0.N) : (outsAt0 m c t.val t.isLt).1 =
    k0_pay2 (F := Ideal) (iblk m c 2 t) (iblk m c 4 t) (k0_pay4 (F := Ideal) (grid0.coords t) (iblk m c 3 t)) (iota .tc S8x512 32 [0] iota_S8x512_d0_w32)
        (k0_pay12 (F := Ideal) (iblk m c 2 t) (iblk m c 4 t) (k0_pay4 (F := Ideal) (grid0.coords t) (iblk m c 3 t)) (iota .tc S8x512 32 [0] iota_S8x512_d0_w32) (k0_pay6 (F := Ideal) (iblk m c 2 t) (iblk m c 4 t)))
        (k0_pay14 (F := Ideal) (iblk m c 2 t)) (k0_pay15 (iota .tc S8x512 32 [0] iota_S8x512_d0_w32)) (k0_pay16 (F := Ideal) (k0_pay4 (F := Ideal) (grid0.coords t) (iblk m c 3 t))) := by
  by_cases h : t.val % 8 = 0
  · rw [outsAt0_A m c t h]
    frame_out
  · rw [outsAt0_B m c t h]
    frame_out

/-- The gradient of the input after the run is the reference's. -/
theorem final5 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  obtain ⟨r, l, rfl⟩ : ∃ (r : Fin 1024) (l : Fin 512), y = ix2 r l := ⟨y 0, y 1, eq_ix2 y⟩
  refine Eq.trans ?_ (congrArg _ (place5 t r l)).symm
  have e := dx_row (grid0.coords t) (iblk m c 2 t) (iblk m c 3 t) (iblk m c 4 t) (m ((c : Thread nD τ).loc main_arg2)) (m ((c : Thread nD τ).loc main_arg1)) (rb t) (coord t) l (col t l) (d_blk m c t l) (n_blk m c t l) (w_blk m c t l) r
  rw [after0_5, out5]
  exact e

/-- What a block's rows add to the gradient of a tap. -/
def TERM (c : Dev nD) (t : Fin cfg0.N) (k : Fin 4) (l : Fin 512) : EReal :=
  ∑ r : Fin 1024, PADX (m ((c : Thread nD τ).loc main_arg0)) (ix2 ⟨k.val + (1024 * (rb t).val + r.val), by omega⟩ (col t l)) * ((m ((c : Thread nD τ).loc main_arg2)) : FVec Ideal Cert.ConvBwdRefIdeal.S8192x3072 .f32) (ix2 ⟨1024 * (rb t).val + r.val, by omega⟩ (col t l))

/-- A row of the taps' gradient and the sum that is added to it, for the three taps that move the rows. -/
theorem moved (c : Dev nD) (t : Fin cfg0.N) (v : FVec Ideal S1x512 .f32) (k : Fin 4) (hk : k.val < 3) (l : Fin 512) :
    ROWSUM v (mulf (iblk m c 2 t : FVec Ideal S1024x512 .f32) (DOWN (BitVec.ofNat 32 (3 - k.val)) (iblk m c 0 t) (k0_pay3 (F := Ideal) (grid0.coords t) (iblk m c 1 t)))) (ix2 0 l)
      = v (ix2 0 l) + TERM m c t k l := by
  rw [rowsum_at, TERM]
  refine congrArg (v (ix2 0 l) + ·) (Finset.sum_congr rfl fun r _ => ?_)
  refine (congrArg₂ (fun a b : EReal => a * b) (d_blk m c t l r)
    (down_rows (grid0.coords t) (iblk m c 0 t) (iblk m c 1 t) (m ((c : Thread nD τ).loc main_arg0)) (rb t) (coord t) l (col t l) (x_blk m c t l) (p_blk m c t l) (3 - k.val) (by omega) (by omega) r)).trans ?_
  refine (mul_comm _ _).trans ?_
  refine congrArg₂ (· * ·) (congrArg (PADX (m ((c : Thread nD τ).loc main_arg0))) (congrArg (fun z => ix2 z (col t l)) (Fin.ext ?_))) rfl
  dsimp only
  omega

/-- The same for the tap that leaves the rows in place. -/
theorem unmoved (c : Dev nD) (t : Fin cfg0.N) (v : FVec Ideal S1x512 .f32) (l : Fin 512) :
    ROWSUM v (mulf (iblk m c 2 t : FVec Ideal S1024x512 .f32) (iblk m c 0 t)) (ix2 0 l) = v (ix2 0 l) + TERM m c t 3 l := by
  rw [rowsum_at, TERM]
  refine congrArg (v (ix2 0 l) + ·) (Finset.sum_congr rfl fun r _ => ?_)
  refine (congrArg₂ (fun a b : EReal => a * b) (d_blk m c t l r) (still_rows (grid0.coords t) (iblk m c 0 t) (m ((c : Thread nD τ).loc main_arg0)) (rb t) (coord t) l (col t l) (x_blk m c t l) r)).trans ?_
  exact mul_comm _ _

/-- What the first point of a run leaves of the taps' gradient. -/
theorem taps_first (c : Dev nD) (t : Fin cfg0.N) (h : t.val % 8 = 0) (k : Fin 4) (l : Fin 512) : (outsAt0 m c t.val t.isLt).2 (ix2 k l) = 0 + TERM m c t k l := by
  have z : ∀ y, (k0_pay5 (F := Ideal)) y = 0 := fun y => by pointwise [k0_pay5]
  rw [outsAt0_A m c t h]
  frame_out
  simp (discharger := decide) only [↓View.readCov_skip, ↓View.readCov_fill]
  match k with
  | ⟨0, _⟩ =>
    rw [canon_row, if_pos rfl]
    exact (moved m c t _ 0 (by decide) l).trans (by rw [ld_row _ _ (by decide), z]; rfl)
  | ⟨1, _⟩ =>
    rw [canon_row, if_neg (by simp), canon_row, if_pos rfl]
    exact (moved m c t _ 1 (by decide) l).trans (by rw [ld_row _ _ (by decide), z]; rfl)
  | ⟨2, _⟩ =>
    rw [canon_row, if_neg (by simp), canon_row, if_neg (by simp), canon_row, if_pos rfl]
    exact (moved m c t _ 2 (by decide) l).trans (by rw [ld_row _ _ (by decide), z]; rfl)
  | ⟨3, _⟩ =>
    rw [canon_row, if_neg (by simp), canon_row, if_neg (by simp), canon_row, if_neg (by simp), canon_row, if_pos rfl]
    exact (unmoved m c t _ l).trans (by rw [ld_row _ _ (by decide), z]; rfl)

/-- Every other point adds its block's rows. -/
theorem taps_next (c : Dev nD) (t : Fin cfg0.N) (h : ¬t.val % 8 = 0) (k : Fin 4) (l : Fin 512) : (outsAt0 m c t.val t.isLt).2 (ix2 k l)
    = (outsAt0 m c (t.val - 1) (Nat.lt_of_le_of_lt (Nat.sub_le _ _) t.isLt)).2 (ix2 k l) + TERM m c t k l := by
  rw [outsAt0_B m c t h]
  frame_out
  match k with
  | ⟨0, _⟩ =>
    rw [canon_row, if_pos rfl]
    exact (moved m c t _ 0 (by decide) l).trans (by rw [ld_row _ _ (by decide)]; rfl)
  | ⟨1, _⟩ =>
    rw [canon_row, if_neg (by simp), canon_row, if_pos rfl]
    exact (moved m c t _ 1 (by decide) l).trans (by rw [ld_row _ _ (by decide)]; rfl)
  | ⟨2, _⟩ =>
    rw [canon_row, if_neg (by simp), canon_row, if_neg (by simp), canon_row, if_pos rfl]
    exact (moved m c t _ 2 (by decide) l).trans (by rw [ld_row _ _ (by decide)]; rfl)
  | ⟨3, _⟩ =>
    rw [canon_row, if_neg (by simp), canon_row, if_neg (by simp), canon_row, if_neg (by simp), canon_row, if_pos rfl]
    exact (unmoved m c t _ l).trans (by rw [ld_row _ _ (by decide)]; rfl)

/-- The gradient of the taps after the run is the reference's. -/
theorem final6 (c : Dev nD) : (dats m 0 c).arrAt 6 (cfgs 0).N = REF1 (m ((c : Thread nD τ).loc main_arg0)) (m ((c : Thread nD τ).loc main_arg2)) := by
  refine (dats m 0 c).arrAt_eq_of_covers 6 _ (by decide +kernel) fun t hf y => ?_
  obtain ⟨k, l, rfl⟩ : ∃ (k : Fin 4) (l : Fin 512), y = ix2 k l := ⟨y 0, y 1, eq_ix2 y⟩
  have h3 := (flush0_6 t).mp hf
  refine Eq.trans ?_ (congrArg _ (place6 t k l)).symm
  rw [after0_6, tap_sum]
  refine (Pipeline.eq_sum_fin_of_reset_step_apply_of_flush (fun n h (p : Fin 4 × Fin 512) => (outsAt0 m c n h).2 (ix2 p.1 p.2)) 8 (fun _ => 0)
    (fun t p => TERM m c t p.1 p.2) (fun t h p => taps_first m c t h p.1 p.2) (fun t h p => taps_next m c t h p.1 p.2) t h3 (k, l)).trans ?_
  rw [zero_add]
  simp only [TERM]
  refine Fin.sum_mul_add_congr fun s r hl => ?_
  have h : t.val < 48 := t.isLt
  have hs := s.isLt
  have e1 : (rb ⟨8 * (t.val / 8) + s.val, Pipeline.run_point_lt_of_flush t h3 s⟩).val = s.val := by simp only [rb]; omega
  have e2 : col ⟨8 * (t.val / 8) + s.val, Pipeline.run_point_lt_of_flush t h3 s⟩ l = col t l := Fin.ext (by simp only [col]; omega)
  rw [e2]
  refine congrArg₂ (· * ·) (congrArg (PADX _) (congrArg (fun z => ix2 z (col t l)) (Fin.ext ?_))) (congrArg _ (congrArg (fun z => ix2 z (col t l)) (Fin.ext ?_)))
  · dsimp only; rw [e1]; omega
  · dsimp only; rw [e1]; omega

/-- The kernel's run: the results are the reference's, and the arguments end unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = REF0 (m ((c.tc : Thread nD τ).loc main_arg1)) (m ((c.tc : Thread nD τ).loc main_arg2))
      ∧ r.2.mem ((c.tc : Thread nD τ).loc main_v0_1) = REF1 (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m g) (unchanged m g)) fun r h c =>
    ⟨((h.1 c).1 5).trans (final5 m c), ((h.1 c).1 6).trans (final6 m c), h.2 c⟩

end Cert.ConvBwdIdeal.Grad

namespace Cert.Proof

/-- The kernel's results are the reference's, on the same arguments. -/
theorem algebraic_ConvBwd : Cert.algebraic_ConvBwdIdeal_ConvBwdRefIdeal := by
  pair_intro
  · run_from Cert.ConvBwdIdeal.Grad.run m g
  · refine θ_run_mono (Cert.ConvBwdRefIdeal.Value.run (F := Ideal) m' g') fun r h c => ?_
    obtain ⟨h0, h1, h2⟩ := h c
    obtain ⟨e0, e1, e2⟩ := hagree c
    rw [e1, e2] at h0
    rw [e0, e2] at h1
    exact ⟨h0, h1, h2⟩

end Cert.Proof
-- ==== Proof.KvCombine.lean ====
/- The sum of the two gradients of keys or values: every row's own, and that of the row one window below it. -/
module

public import proofs.«01_k».proof.Defs
public import proofs.«01_k».proof.Proof.Gen.KvCombineIdeal.Frame
public import proofs.«01_k».proof.Proof.Gen.KvCombineRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.KvCombineRefIdeal.Grad

open Cert.KvCombineRefIdeal Cert.KvCombineRefIdeal.Gen Idealize.ShloMosaic.StableHlo

/-- The reference's result. -/
abbrev REF (a0 a1 : FVec Ideal S2x8192x64 .f32) : FVec Ideal S2x8192x64 .f32 :=
  addf a0 (pad S2x8192x64 ![0, 0, 0] ![0, 128, 0] ![0, 0, 0] (extractStridedSlice S2x8064x64 ![0, 128, 0] a1 slices_S2x8192x64_S2x8064x64_0_128_0) (constant S_ .f32 0x00000000#32) pads_S2x8064x64_S2x8192x64_000_01280_000 h_S_)

/-- The reference's result, entry by entry. -/
theorem ref_apply (a0 a1 : FVec Ideal S2x8192x64 .f32) (g : Fin 2) (r : Fin 8192) (l : Fin 64) :
    REF a0 a1 (ix3 g r l) = a0 (ix3 g r l) + if h : r.val + 128 < 8192 then a1 (ix3 g ⟨r.val + 128, h⟩ l) else 0 := by
  pointwise [REF]
  by_cases h : r.val < 8064
  · rw [dif_pos h, dif_pos (by omega)]
    exact congrArg (fun k => a0 (ix3 g r l) + a1 (ix3 g k l)) (Fin.ext (Nat.add_comm _ _))
  · rw [dif_neg h, dif_neg (by omega)]

end Cert.KvCombineRefIdeal.Grad

namespace Cert.KvCombineIdeal.Grad

open Cert.KvCombineIdeal Cert.KvCombineIdeal.Gen Cert.KvCombineRefIdeal.Grad

/-- Choosing by whether a block is before the last. -/
theorem select_last {α : Type} (a b : α) : ∀ n : Fin 8,
    Scalar.select (Scalar.cmpi CmpIPredicate.slt (BitVec.ofNat 32 n.val) 7#32) a b = if n.val < 7 then a else b := by
  intro n
  have h : (Scalar.cmpi CmpIPredicate.slt (BitVec.ofNat 32 n.val) 7#32 = 1) ↔ n.val < 7 := by revert n; decide
  simp only [Scalar.select, h]

/-- The kernel's block, entry by entry. -/
theorem row (i : grid0.Coords) (q : FVec Ideal S1x128x64 .f32) (x : FVec Ideal S1x1024x64 .f32) (p' : FVec Ideal S1x896x64 .f32) (r : Fin 1024) (l : Fin 64) :
    k0_pay1 (F := Ideal) i q x p' (ix3 0 r l) = x (ix3 0 r l) + if h : r.val < 896 then p' (ix3 0 ⟨r.val, h⟩ l) else if (i 1).val < 7 then q (ix3 0 ⟨r.val - 896, by omega⟩ l) else 0 := by
  unfold k0_pay1
  rw [select_last _ _ (i 1)]
  by_cases h : (i 1).val < 7
  · pointwise
    refine congrArg (x (ix3 0 r l) + ·) ?_
    split
    · rfl
    · pointwise
  · pointwise
    refine congrArg (x (ix3 0 r l) + ·) ?_
    split
    · rfl
    · pointwise

variable (m : (ℓ : Loc nD τ sig) → Buf (Elt Ideal) ℓ)

/-- The block indices of the windows at every grid point. -/
theorem idx : ∀ t : Fin cfg0.N, win0_0.index t = ![t.val / 8, t.val % 8, 0]
    ∧ win0_1.index t = ![t.val / 8, t.val % 8, 0]
    ∧ win0_2.index t = ![t.val / 8, min (t.val % 8 * 8 + 8) 63, 0]
    ∧ win0_3.index t = ![t.val / 8, t.val % 8, 0] :=
  (by decide +kernel : ∀ t : Fin grid0.N, _)

/-- The block of rows of a grid point. -/
def rb (t : Fin cfg0.N) : Fin 8 := ⟨t.val % 8, Nat.mod_lt _ (by decide)⟩

/-- The group of heads of a grid point. -/
def gr (t : Fin cfg0.N) : Fin 2 := ⟨t.val / 8, by have h : t.val < 16 := t.isLt; omega⟩

/-- The grid's second coordinate is the block of rows. -/
theorem coord (t : Fin cfg0.N) : (cfg0.grid.coords t 1).val = (rb t).val :=
  (by decide +kernel : ∀ t : Fin grid0.N, (grid0.coords t 1).val = t.val % 8) t

/-- The block of the rows' own gradient. -/
theorem x_blk (c : Dev nD) (t : Fin cfg0.N) (k : Fin 1024) (l : Fin 64) : (iblk m c 0 t : FVec Ideal S1x1024x64 .f32) (ix3 0 k l)
    = m ((c : Thread nD τ).loc main_arg0) (ix3 (gr t) ⟨1024 * (rb t).val + k.val, by omega⟩ l) := by
  blk_point [iblk, V, idx t, rb, gr]

/-- The block of the gradient from the window above. -/
theorem p_blk (c : Dev nD) (t : Fin cfg0.N) (k : Fin 1024) (l : Fin 64) : (iblk m c 1 t : FVec Ideal S1x1024x64 .f32) (ix3 0 k l)
    = m ((c : Thread nD τ).loc main_arg1) (ix3 (gr t) ⟨1024 * (rb t).val + k.val, by omega⟩ l) := by
  blk_point [iblk, V, idx t, rb, gr]

/-- The first window of the next block of that gradient. -/
theorem q_blk (c : Dev nD) (t : Fin cfg0.N) (k : Fin 128) (l : Fin 64) (h : (rb t).val < 7) : (iblk m c 2 t : FVec Ideal S1x128x64 .f32) (ix3 0 k l)
    = m ((c : Thread nD τ).loc main_arg1) (ix3 (gr t) ⟨1024 * (rb t).val + 1024 + k.val, by omega⟩ l) := by
  simp only [rb] at h
  blk_point [iblk, V, idx t, rb, gr]

/-- A block's row at its place in the result. -/
theorem place3 (t : Fin cfg0.N) (r : Fin 1024) (l : Fin 64) : ((cfg0.win 3).blk t).view.emb (ix3 0 r l) = ix3 (gr t) ⟨1024 * (rb t).val + r.val, by omega⟩ l := by
  blk_point [idx t, rb, gr]

/-- The result after the run is the reference's. -/
theorem final3 (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t hf y => ?_
  obtain ⟨r, l, rfl⟩ : ∃ (r : Fin 1024) (l : Fin 64), y = ix3 0 r l := ⟨y 1, y 2, (eq_ix3 y).trans (congrArg (fun k : Fin 1 => ix3 k (y 1) (y 2)) (Subsingleton.elim (α := Fin 1) (y 0) 0))⟩
  refine Eq.trans ?_ (congrArg _ (place3 t r l)).symm
  rw [after0_3]
  frame_out
  refine (row _ _ _ _ r l).trans ?_
  refine Eq.trans ?_ (ref_apply _ _ (gr t) ⟨1024 * (rb t).val + r.val, by omega⟩ l).symm
  rw [x_blk, coord]
  congr 1
  by_cases h : r.val < 896
  · rw [dif_pos h, dif_pos (by dsimp only; omega)]
    refine Eq.trans (b := (iblk m c 1 t : FVec Ideal S1x1024x64 .f32) (ix3 0 ⟨128 + r.val, by omega⟩ l)) ?_ ?_
    · pointwise
    · rw [p_blk]
      exact congrArg (fun k => m ((c : Thread nD τ).loc main_arg1) (ix3 (gr t) k l)) (Fin.ext (by dsimp only; omega))
  · rw [dif_neg h]
    by_cases hb : (rb t).val < 7
    · rw [if_pos hb, dif_pos (by dsimp only; omega), q_blk m c t _ l hb]
      exact congrArg (fun k => m ((c : Thread nD τ).loc main_arg1) (ix3 (gr t) k l)) (Fin.ext (by dsimp only; omega))
    · rw [if_neg hb, dif_neg (by dsimp only; omega)]

end Cert.KvCombineIdeal.Grad

namespace Cert.Proof

/-- The kernel's result is the reference's, on the same arguments. -/
theorem algebraic_KvCombine : Cert.algebraic_KvCombineIdeal_KvCombineRefIdeal := by
  pair_intro
  · run_from Cert.KvCombineIdeal.Gen.run_main m g
  · run_from Cert.KvCombineRefIdeal.Value.run (F := Ideal) m' g'
    exact (Cert.KvCombineIdeal.Grad.final3 m c).symm

end Cert.Proof
-- ==== Proof.Bg.lean ====
/- The decay gates: the logistic function in the first eight lanes, the decay in the next eight, zero in the rest. -/
module

public import proofs.«01_k».proof.Defs
public import proofs.«01_k».proof.Proof.Gen.BgIdeal.Frame
public import proofs.«01_k».proof.Proof.Gen.BgRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.BgRefIdeal.Grad

open Cert.BgRefIdeal Cert.BgRefIdeal.Gen Idealize.ShloMosaic.StableHlo

/-- The decay's argument: the projection with its bias. -/
abbrev ZZ (a0 : FVec Ideal S8192x5632 .f32) (a2 : FVec Ideal S1x128 .f32) : FVec Ideal S8192x8 .f32 :=
  addf (extractStridedSlice S8192x8 ![0, 5384] a0 slices_S8192x5632_S8192x8_0_5384) (broadcastInDim S8192x8 ![0, 1] bcast_S1x8_S8192x8_0_1 (extractStridedSlice S1x8 ![0, 8] a2 slices_S1x128_S1x8_0_8))

/-- Zero in every entry. -/
abbrev OO : FVec Ideal S8192x8 .f32 := broadcastInDim S8192x8 ![] bcast_S_S8192x8 (constant S_ .f32 0x00000000#32)

/-- The logarithm of one plus the exponential. -/
abbrev SP (z : FVec Ideal S8192x8 .f32) : FVec Ideal S8192x8 .f32 :=
  select (cmpf .une (subf z OO) (subf z OO)) (addf z OO) (addf (maximumf z OO) (Host.log1p (Host.exp (Host.negf (Host.absf (subf z OO))))))

/-- The decay. -/
abbrev DEC (a0 : FVec Ideal S8192x5632 .f32) (a1 a2 : FVec Ideal S1x128 .f32) : FVec Ideal S8192x8 .f32 :=
  mulf (broadcastInDim S8192x8 ![0, 1] bcast_S1x8_S8192x8_0_1 (Host.negf (Host.exp (extractStridedSlice S1x8 ![0, 8] a1 slices_S1x128_S1x8_0_8)))) (SP (ZZ a0 a2))

/-- The logistic function of the first eight lanes. -/
abbrev BETA (a0 : FVec Ideal S8192x5632 .f32) : FVec Ideal S8192x8 .f32 :=
  Host.divf (broadcastInDim S8192x8 ![] bcast_S_S8192x8 (constant S_ .f32 0x3F800000#32)) (addf (broadcastInDim S8192x8 ![] bcast_S_S8192x8 (constant S_ .f32 0x3F800000#32)) (Host.exp (Host.negf (extractStridedSlice S8192x8 ![0, 5376] a0 slices_S8192x5632_S8192x8_0_5376))))

/-- The reference's result. -/
abbrev REF (a0 : FVec Ideal S8192x5632 .f32) (a1 a2 : FVec Ideal S1x128 .f32) : FVec Ideal S8192x128 .f32 :=
  concatenate S8192x128 1 [⟨S8192x8, BETA a0⟩, ⟨S8192x8, DEC a0 a1 a2⟩, ⟨S8192x112, (broadcastInDim S8192x112 ![] bcast_S_S8192x112 (constant S_ .f32 0x00000000#32))⟩] concatenates_S8192x8_S8192x8_S8192x112_S8192x128_d1

end Cert.BgRefIdeal.Grad

namespace Cert.BgIdeal.Grad

open Cert.BgIdeal Cert.BgIdeal.Gen Cert.BgRefIdeal.Grad

/-- Choosing by the lane. -/
theorem select_lane {α : Type} (a b c : α) : ∀ l : Fin 128,
    Scalar.select (IntOp.cmpi CmpIPredicate.slt (BitVec.ofNat 32 l.val) 8#32) a (Scalar.select (IntOp.cmpi CmpIPredicate.slt (BitVec.ofNat 32 l.val) 16#32) b c)
      = if l.val < 8 then a else if l.val < 16 then b else c := by
  intro l
  have h : (IntOp.cmpi CmpIPredicate.slt (BitVec.ofNat 32 l.val) 8#32 = 1) ↔ l.val < 8 := by revert l; decide
  have h' : (IntOp.cmpi CmpIPredicate.slt (BitVec.ofNat 32 l.val) 16#32 = 1) ↔ l.val < 16 := by revert l; decide
  simp only [Scalar.select, h, h']

/-- The gates in a row, over that row alone. -/
theorem row (x : FVec Ideal S1024x128 .f32) (X : FVec Ideal S8192x5632 .f32) (a1 a2 : FVec Ideal S1x128 .f32)
    (r : Fin 1024) (R : Fin 8192) (hx : ∀ k : Fin 128, x (ix2 r k) = X (ix2 R ⟨5376 + k.val, by omega⟩)) (l : Fin 128) :
    k0_pay1 x a1 a2 (ix2 r l) = REF X a1 a2 (ix2 R l) := by
  pointwise [k0_pay1, REF]
  refine (select_lane _ _ _ l).trans ?_
  simp only [hx]
  by_cases h : l.val < 8
  · rw [if_pos h, dif_pos h]
    simp only [Ideal.logistic]
  · rw [if_neg h, dif_neg h]
    by_cases h' : l.val < 16
    · rw [if_pos h', dif_pos (by omega)]
      have e : (⟨8 + (l.val - 8), by omega⟩ : Fin 128) = l := Fin.ext (by dsimp only; omega)
      have e' : (⟨5384 + (l.val - 8), by omega⟩ : Fin 5632) = ⟨5376 + l.val, by omega⟩ := Fin.ext (by dsimp only; omega)
      rw [e, e']
      simp only [ne_eq, not_true_eq_false, if_false, zero_sub, Ideal.log1p]
    · rw [if_neg h', dif_neg (by omega)]

variable (m : (ℓ : Loc nD τ sig) → Buf (Elt Ideal) ℓ)

/-- The block indices of the windows at every grid point. -/
theorem idx : ∀ t : Fin cfg0.N, win0_0.index t = ![t.val, 42]
    ∧ win0_1.index t = ![0, 0]
    ∧ win0_2.index t = ![0, 0]
    ∧ win0_3.index t = ![t.val, 0] :=
  (by decide +kernel : ∀ t : Fin grid0.N, _)

/-- The token of a block's row. -/
def tok (t : Fin cfg0.N) (r : Fin 1024) : Fin 8192 := ⟨1024 * t.val + r.val, by have h : t.val < 8 := t.isLt; omega⟩

/-- The projection's block holds the gates' lanes of its rows. -/
theorem x_blk (c : Dev nD) (t : Fin cfg0.N) (r : Fin 1024) (k : Fin 128) :
    (iblk m c 0 t : FVec Ideal S1024x128 .f32) (ix2 r k) = m ((c : Thread nD τ).loc main_arg0) (ix2 (tok t r) ⟨5376 + k.val, by omega⟩) := by
  blk_point [iblk, V, idx t, tok]

/-- The decay rates' block is the decay rates. -/
theorem a_blk (c : Dev nD) (t : Fin cfg0.N) : (iblk m c 1 t : FVec Ideal S1x128 .f32) = m ((c : Thread nD τ).loc main_arg1) := by
  funext y
  blk_point [iblk, V, idx t]

/-- The bias's block is the bias. -/
theorem d_blk (c : Dev nD) (t : Fin cfg0.N) : (iblk m c 2 t : FVec Ideal S1x128 .f32) = m ((c : Thread nD τ).loc main_arg2) := by
  funext y
  blk_point [iblk, V, idx t]

/-- A block's row at its place in the array. -/
theorem place (t : Fin cfg0.N) (r : Fin 1024) (l : Fin 128) : ((cfg0.win 3).blk t).view.emb (ix2 r l) = ix2 (tok t r) l := by
  blk_point [idx t, tok]

/-- The result after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 1024) (l : Fin 128), y = ix2 r l := ⟨y 0, y 1, eq_ix2 y⟩
  refine Eq.trans ?_ (congrArg _ (place t r l)).symm
  rw [after0_3]
  frame_out
  rw [a_blk, d_blk]
  exact row _ _ _ _ r (tok t r) (x_blk m c t r) l

end Cert.BgIdeal.Grad

namespace Cert.Proof

/-- The kernel's result is the reference's, on the same arguments. -/
theorem algebraic_Bg : Cert.algebraic_BgIdeal_BgRefIdeal := by
  pair_intro
  · run_from Cert.BgIdeal.Gen.run_main m g
  · refine θ_run_mono (Cert.BgRefIdeal.Value.run (F := Ideal) m' g') fun r h c => ?_
    obtain ⟨h0, h1⟩ := h c
    obtain ⟨e0, e1, e2⟩ := hagree c
    have e : ∀ a0 a1 a2 b0 b1 b2, a0 = b0 → a1 = b1 → a2 = b2 → Cert.BgRefIdeal.Grad.REF a0 a1 a2 = Cert.BgRefIdeal.Grad.REF b0 b1 b2 := by
      rintro _ _ _ _ _ _ rfl rfl rfl
      rfl
    exact ⟨h0.trans ((e _ _ _ _ _ _ e0 e1 e2).trans (Cert.BgIdeal.Grad.final m c).symm), h1⟩

end Cert.Proof
-- ==== Proof.LossRows.lean ====
/- The loss of every token: half the mean square of the last norm's distance from the target. -/
module

public import proofs.«01_k».proof.Defs
public import proofs.«01_k».proof.Proof.Gen.LossRowsIdeal.Frame
public import proofs.«01_k».proof.Proof.Gen.LossRowsRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.LossRowsRefIdeal.Grad

open Cert.LossRowsRefIdeal Cert.LossRowsRefIdeal.Gen Idealize.ShloMosaic.StableHlo

/-- The reference's result. -/
abbrev REF (a0 a1 : FVec Ideal S8192x2048 .f32) (a2 : FVec Ideal S1x2048 .f32) : FVec Ideal S8192x128 .f32 :=
  broadcastInDim S8192x128 ![0, 1] bcast_S8192x1_S8192x128_0_1 (mulf (broadcastInDim S8192x1 ![] bcast_S_S8192x1 (constant S_ .f32 0x3F000000#32)) (Host.divf (broadcastInDim S8192x1 ![0] bcast_S8192_S8192x1_0 (Host.reduceAdd (mulf (subf (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a2)) a1) (subf (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a2)) a1)) (constant S_ .f32 0x00000000#32) reducesTo_S8192x2048_S8192_d1 h_S_)) (broadcastInDim S8192x1 ![] bcast_S_S8192x1 (constant S_ .f32 0x45000000#32))))

end Cert.LossRowsRefIdeal.Grad

namespace Cert.LossRowsIdeal.Grad

open Cert.LossRowsIdeal Cert.LossRowsIdeal.Gen Cert.LossRowsRefIdeal.Grad

/-- The loss in a row, over that row alone. -/
theorem row (x y : FVec Ideal S256x2048 .f32) (X Y : FVec Ideal S8192x2048 .f32) (w : FVec Ideal S1x2048 .f32)
    (r : Fin 256) (R : Fin 8192) (hx : ∀ k : Fin 2048, x (ix2 r k) = X (ix2 R k)) (hy : ∀ k : Fin 2048, y (ix2 r k) = Y (ix2 R k)) (l : Fin 128) :
    k0_pay1 x y w (ix2 r l) = REF X Y w (ix2 R l) := by
  pointwise [k0_pay1, REF]
  simp only [hx, hy]

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The token of a block's row. -/
def tok (t : Fin cfg0.N) (r : Fin 256) : Fin 8192 := ⟨256 * t.val + r.val, by have h : t.val < 32 := t.isLt; omega⟩

/-- The input's block holds the array's rows. -/
theorem x_blk (c : Dev nD) (t : Fin cfg0.N) (r : Fin 256) (k : Fin 2048) :
    (iblk m c 0 t : FVec Ideal S256x2048 .f32) (ix2 r k) = m ((c : Thread nD τ).loc main_arg0) (ix2 (tok t r) k) := by
  blk_point [iblk, V, idx t, tok]

/-- The target's block holds the target's rows. -/
theorem y_blk (c : Dev nD) (t : Fin cfg0.N) (r : Fin 256) (k : Fin 2048) :
    (iblk m c 1 t : FVec Ideal S256x2048 .f32) (ix2 r k) = m ((c : Thread nD τ).loc main_arg1) (ix2 (tok t r) k) := by
  blk_point [iblk, V, idx t, tok]

/-- The gain's block is the gain. -/
theorem w_blk (c : Dev nD) (t : Fin cfg0.N) : (iblk m c 2 t : FVec Ideal S1x2048 .f32) = m ((c : Thread nD τ).loc main_arg2) := by
  funext y
  blk_point [iblk, V, idx t]

/-- A block's row at its place in the array. -/
theorem place (t : Fin cfg0.N) (r : Fin 256) (l : Fin 128) : ((cfg0.win 3).blk t).view.emb (ix2 r l) = ix2 (tok t r) l := by
  blk_point [idx t, tok]

/-- The result after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 256) (l : Fin 128), y = ix2 r l := ⟨y 0, y 1, eq_ix2 y⟩
  refine Eq.trans ?_ (congrArg _ (place t r l)).symm
  rw [after0_3]
  frame_out
  rw [w_blk]
  exact row _ _ _ _ _ r (tok t r) (x_blk m c t r) (y_blk m c t r) l

end Cert.LossRowsIdeal.Grad

namespace Cert.Proof

/-- The kernel's result is the reference's, on the same arguments. -/
theorem algebraic_LossRows : Cert.algebraic_LossRowsIdeal_LossRowsRefIdeal := by
  pair_intro
  · run_from Cert.LossRowsIdeal.Gen.run_main m g
  · run_from Cert.LossRowsRefIdeal.Value.run (F := Ideal) m' g'
    exact (Cert.LossRowsIdeal.Grad.final m c).symm

end Cert.Proof
-- ==== Proof.Adamw.lean ====
/- The optimiser's step: the four chips' gradients added, the moments and the weights' change, entry by entry. -/
module

public import proofs.«01_k».proof.Defs
public import proofs.«01_k».proof.Proof.Gen.AdamwGuIdeal.Frame
public import proofs.«01_k».proof.Proof.Gen.AdamwGuRefIdeal.Run
public import proofs.«01_k».proof.Proof.Gen.AdamwInIdeal.Frame
public import proofs.«01_k».proof.Proof.Gen.AdamwInRefIdeal.Run
public import proofs.«01_k».proof.Proof.Gen.AdamwOutIdeal.Frame
public import proofs.«01_k».proof.Proof.Gen.AdamwOutRefIdeal.Run
public import proofs.«01_k».proof.Proof.Gen.AdamwDownIdeal.Frame
public import proofs.«01_k».proof.Proof.Gen.AdamwDownRefIdeal.Run
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.AdamwGuRefIdeal.Grad

open Cert.AdamwGuRefIdeal Cert.AdamwGuRefIdeal.Gen Idealize.ShloMosaic.StableHlo

/-- A constant in every entry. -/
abbrev K (b : BitVec 32) : FVec Ideal S4096x1408 .f32 := broadcastInDim S4096x1408 ![] bcast_S_S4096x1408 (constant S_ .f32 b)

/-- The gradient: the sum over the chips. -/
abbrev G (p : FVec Ideal S4x4096x1408 .bf16) : FVec Ideal S4096x1408 .f32 :=
  Host.reduceAdd (extf .f32 p bitsLt_bf16_f32) (constant S_ .f32 0x00000000#32) reducesTo_S4x4096x1408_S4096x1408_d0 h_S_

/-- The new first moment. -/
abbrev M1 (m : FVec Ideal S4096x1408 .f32) (p : FVec Ideal S4x4096x1408 .bf16) : FVec Ideal S4096x1408 .f32 :=
  addf (mulf (K 0x3F666666#32) m) (mulf (K 0x3DCCCCCD#32) (G p))

/-- The new second moment. -/
abbrev M2 (v : FVec Ideal S4096x1408 .f32) (p : FVec Ideal S4x4096x1408 .bf16) : FVec Ideal S4096x1408 .f32 :=
  addf (mulf (K 0x3F7FBE77#32) v) (mulf (K 0x3A83126F#32) (mulf (G p) (G p)))

/-- The weights' change. -/
abbrev DW (w m v : FVec Ideal S4096x1408 .f32) (p : FVec Ideal S4x4096x1408 .bf16) : FVec Ideal S4096x1408 .f32 :=
  mulf (K 0xBA83126F#32) (addf (Host.divf (Host.divf (M1 m p) (K 0x3F26BD02#32)) (addf (Host.sqrt (Host.divf (M2 v p) (K 0x3C231ACC#32))) (K 0x322BCC77#32))) (mulf (K 0x3C23D70A#32) w))

end Cert.AdamwGuRefIdeal.Grad

namespace Cert.AdamwGuIdeal.Grad

open Cert.AdamwGuIdeal Cert.AdamwGuIdeal.Gen Cert.AdamwGuRefIdeal.Grad

/-- The sum of the four chips' gradients. -/
theorem grad (q : FVec Ideal S4x256x1408 .bf16) (P : FVec Ideal Cert.AdamwGuRefIdeal.S4x4096x1408 .bf16) (r : Fin 256) (R : Fin 4096) (l : Fin 1408)
    (hp : ∀ k : Fin 4, q (ix3 k r l) = P (ix3 k R l)) :
    k0_pay2 (F := Ideal) (View.ld q r0_0) (View.ld q r0_1) (View.ld q r0_2) (View.ld q r0_3) (ix2 r l) = G P (ix2 R l) := by
  pointwise [k0_pay2, G]
  simp only [Fin.sum_univ_four, zero_add]
  rw [← hp 0, ← hp 1, ← hp 2, ← hp 3]

/-- The first moment. -/
theorem mom1 (q : FVec Ideal S4x256x1408 .bf16) (P : FVec Ideal Cert.AdamwGuRefIdeal.S4x4096x1408 .bf16) (r : Fin 256) (R : Fin 4096) (l : Fin 1408)
    (hp : ∀ k : Fin 4, q (ix3 k r l) = P (ix3 k R l)) (y : FVec Ideal S256x1408 .f32) (Y : FVec Ideal Cert.AdamwGuRefIdeal.S4096x1408 .f32) (hy : y (ix2 r l) = Y (ix2 R l)) :
    k0_pay3 (F := Ideal) (View.ld q r0_0) (View.ld q r0_1) (View.ld q r0_2) (View.ld q r0_3) y (ix2 r l) = M1 Y P (ix2 R l) := by
  have g := grad q P r R l hp
  pointwise [k0_pay3]
  rw [g, hy]
  pointwise

/-- The second moment. -/
theorem mom2 (q : FVec Ideal S4x256x1408 .bf16) (P : FVec Ideal Cert.AdamwGuRefIdeal.S4x4096x1408 .bf16) (r : Fin 256) (R : Fin 4096) (l : Fin 1408)
    (hp : ∀ k : Fin 4, q (ix3 k r l) = P (ix3 k R l)) (y : FVec Ideal S256x1408 .f32) (Y : FVec Ideal Cert.AdamwGuRefIdeal.S4096x1408 .f32) (hy : y (ix2 r l) = Y (ix2 R l)) :
    k0_pay4 (F := Ideal) (View.ld q r0_0) (View.ld q r0_1) (View.ld q r0_2) (View.ld q r0_3) y (ix2 r l) = M2 Y P (ix2 R l) := by
  have g := grad q P r R l hp
  pointwise [k0_pay4]
  rw [g, hy]
  pointwise

/-- The weights' change, from the moments. -/
theorem change (x y1 y2 : FVec Ideal S256x1408 .f32) (X Y1 Y2 : FVec Ideal Cert.AdamwGuRefIdeal.S4096x1408 .f32) (P : FVec Ideal Cert.AdamwGuRefIdeal.S4x4096x1408 .bf16) (r : Fin 256) (R : Fin 4096) (l : Fin 1408)
    (hx : x (ix2 r l) = X (ix2 R l)) (h1 : y1 (ix2 r l) = M1 Y1 P (ix2 R l)) (h2 : y2 (ix2 r l) = M2 Y2 P (ix2 R l)) :
    k0_pay1 (F := Ideal) x y1 y2 (ix2 r l) = DW X Y1 Y2 P (ix2 R l) := by
  pointwise [k0_pay1]
  rw [hx, h1, h2]
  pointwise

/-- The second moment's value with the whole block read. -/
theorem pay5 (x0 x1 x2 : FVec Ideal S256x1408 .f32) (q : FVec Ideal S4x256x1408 .bf16) :
    k0_pay5 (F := Ideal) x0 x1 x2 q = k0_pay4 (F := Ideal) (View.ld q r0_0) (View.ld q r0_1) (View.ld q r0_2) (View.ld q r0_3) x2 := by
  have e : (View.ld (Val := Elt Ideal) (S := S256x1408) (e' := .f32) x2 r0_4 : FVec Ideal S256x1408 .f32) = x2 := by frame_out
  unfold k0_pay5
  rw [e]

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![t.val, 0]
    ∧ win0_3.index t = ![0, t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the array that a block's row is. -/
def row (t : Fin cfg0.N) (r : Fin 256) : Fin 4096 := ⟨256 * t.val + r.val, by have h : t.val < 16 := t.isLt; omega⟩

/-- The block of the weights. -/
theorem blk0 (c : Dev nD) (t : Fin cfg0.N) (r : Fin 256) (l : Fin 1408) :
    (iblk m c 0 t : FVec Ideal S256x1408 .f32) (ix2 r l) = m ((c : Thread nD τ).loc main_arg0) (ix2 (row t r) l) := by
  blk_point [iblk, V, idx t, row]

/-- The block of the first moment. -/
theorem blk1 (c : Dev nD) (t : Fin cfg0.N) (r : Fin 256) (l : Fin 1408) :
    (iblk m c 1 t : FVec Ideal S256x1408 .f32) (ix2 r l) = m ((c : Thread nD τ).loc main_arg1) (ix2 (row t r) l) := by
  blk_point [iblk, V, idx t, row]

/-- The block of the second moment. -/
theorem blk2 (c : Dev nD) (t : Fin cfg0.N) (r : Fin 256) (l : Fin 1408) :
    (iblk m c 2 t : FVec Ideal S256x1408 .f32) (ix2 r l) = m ((c : Thread nD τ).loc main_arg2) (ix2 (row t r) l) := by
  blk_point [iblk, V, idx t, row]

/-- The block of the chips' gradients. -/
theorem blk3 (c : Dev nD) (t : Fin cfg0.N) (k : Fin 4) (r : Fin 256) (l : Fin 1408) :
    (iblk m c 3 t : FVec Ideal S4x256x1408 .bf16) (ix3 k r l) = m ((c : Thread nD τ).loc main_arg3) (ix3 k (row t r) l) := by
  blk_point [iblk, V, idx t, row]

/-- The gradient after the run is the reference's. -/
theorem final4 (c : Dev nD) : (dats m 0 c).arrAt 4 (cfgs 0).N = G (m ((c : Thread nD τ).loc main_arg3)) := by
  refine (dats m 0 c).arrAt_eq_of_covers 4 _ (by decide +kernel) fun t hf y => ?_
  obtain ⟨r, l, rfl⟩ : ∃ (r : Fin 256) (l : Fin 1408), y = ix2 r l := ⟨y 0, y 1, eq_ix2 y⟩
  have e : ((cfg0.win 4).blk t).view.emb (ix2 r l) = ix2 (row t r) l := by blk_point [idx t, row]
  refine Eq.trans ?_ (congrArg _ e).symm
  rw [after0_4]
  frame_out
  exact grad _ _ r (row t r) l (fun k => blk3 m c t k r l)

/-- The weights' change after the run is the reference's. -/
theorem final5 (c : Dev nD) : (dats m 0 c).arrAt 5 (cfgs 0).N = DW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 1408), y = ix2 r l := ⟨y 0, y 1, eq_ix2 y⟩
  have e : ((cfg0.win 5).blk t).view.emb (ix2 r l) = ix2 (row t r) l := by blk_point [idx t, row]
  refine Eq.trans ?_ (congrArg _ e).symm
  rw [after0_5]
  frame_out
  rw [pay5]
  exact change _ _ _ _ _ _ _ r (row t r) l (blk0 m c t r l) (mom1 _ _ r (row t r) l (fun k => blk3 m c t k r l) _ _ (blk1 m c t r l))
    (mom2 _ _ r (row t r) l (fun k => blk3 m c t k r l) _ _ (blk2 m c t r l))

/-- The first moment after the run is the reference's. -/
theorem final6 (c : Dev nD) : (dats m 0 c).arrAt 6 (cfgs 0).N = M1 (m ((c : Thread nD τ).loc main_arg1)) (m ((c : Thread nD τ).loc main_arg3)) := by
  refine (dats m 0 c).arrAt_eq_of_covers 6 _ (by decide +kernel) fun t hf y => ?_
  obtain ⟨r, l, rfl⟩ : ∃ (r : Fin 256) (l : Fin 1408), y = ix2 r l := ⟨y 0, y 1, eq_ix2 y⟩
  have e : ((cfg0.win 6).blk t).view.emb (ix2 r l) = ix2 (row t r) l := by blk_point [idx t, row]
  refine Eq.trans ?_ (congrArg _ e).symm
  rw [after0_6]
  frame_out
  exact mom1 _ _ r (row t r) l (fun k => blk3 m c t k r l) _ _ (blk1 m c t r l)

/-- The second moment after the run is the reference's. -/
theorem final7 (c : Dev nD) : (dats m 0 c).arrAt 7 (cfgs 0).N = M2 (m ((c : Thread nD τ).loc main_arg2)) (m ((c : Thread nD τ).loc main_arg3)) := by
  refine (dats m 0 c).arrAt_eq_of_covers 7 _ (by decide +kernel) fun t hf y => ?_
  obtain ⟨r, l, rfl⟩ : ∃ (r : Fin 256) (l : Fin 1408), y = ix2 r l := ⟨y 0, y 1, eq_ix2 y⟩
  have e : ((cfg0.win 7).blk t).view.emb (ix2 r l) = ix2 (row t r) l := by blk_point [idx t, row]
  refine Eq.trans ?_ (congrArg _ e).symm
  rw [after0_7]
  frame_out
  rw [pay5]
  exact mom2 _ _ r (row t r) l (fun k => blk3 m c t k r l) _ _ (blk2 m c t r l)

end Cert.AdamwGuIdeal.Grad

namespace Cert.Proof

/-- The kernel's results are the reference's, on the same arguments. -/
theorem algebraic_AdamwGu : Cert.algebraic_AdamwGuIdeal_AdamwGuRefIdeal := by
  pair_intro
  · run_from Cert.AdamwGuIdeal.Gen.run_main m g
  · refine θ_run_mono (Cert.AdamwGuRefIdeal.Value.run (F := Ideal) m' g') fun r h c => ?_
    obtain ⟨h0, h1, h2, h3, h4⟩ := h c
    obtain ⟨e0, e1, e2, e3⟩ := hagree c
    rw [e3] at h0
    rw [e0, e1, e2, e3] at h1
    rw [e1, e3] at h2
    rw [e2, e3] at h3
    exact ⟨h0.trans (Cert.AdamwGuIdeal.Grad.final4 m c).symm, h1.trans (Cert.AdamwGuIdeal.Grad.final5 m c).symm, h2.trans (Cert.AdamwGuIdeal.Grad.final6 m c).symm,
      h3.trans (Cert.AdamwGuIdeal.Grad.final7 m c).symm, h4⟩

end Cert.Proof

namespace Cert.AdamwInRefIdeal.Grad

open Cert.AdamwInRefIdeal Cert.AdamwInRefIdeal.Gen Idealize.ShloMosaic.StableHlo

/-- A constant in every entry. -/
abbrev K (b : BitVec 32) : FVec Ideal S4096x674 .f32 := broadcastInDim S4096x674 ![] bcast_S_S4096x674 (constant S_ .f32 b)

/-- The gradient: the sum over the chips. -/
abbrev G (p : FVec Ideal S4x4096x674 .bf16) : FVec Ideal S4096x674 .f32 :=
  Host.reduceAdd (extf .f32 p bitsLt_bf16_f32) (constant S_ .f32 0x00000000#32) reducesTo_S4x4096x674_S4096x674_d0 h_S_

/-- The new first moment. -/
abbrev M1 (m : FVec Ideal S4096x674 .f32) (p : FVec Ideal S4x4096x674 .bf16) : FVec Ideal S4096x674 .f32 :=
  addf (mulf (K 0x3F666666#32) m) (mulf (K 0x3DCCCCCD#32) (G p))

/-- The new second moment. -/
abbrev M2 (v : FVec Ideal S4096x674 .f32) (p : FVec Ideal S4x4096x674 .bf16) : FVec Ideal S4096x674 .f32 :=
  addf (mulf (K 0x3F7FBE77#32) v) (mulf (K 0x3A83126F#32) (mulf (G p) (G p)))

/-- The weights' change. -/
abbrev DW (w m v : FVec Ideal S4096x674 .f32) (p : FVec Ideal S4x4096x674 .bf16) : FVec Ideal S4096x674 .f32 :=
  mulf (K 0xBA83126F#32) (addf (Host.divf (Host.divf (M1 m p) (K 0x3F26BD02#32)) (addf (Host.sqrt (Host.divf (M2 v p) (K 0x3C231ACC#32))) (K 0x322BCC77#32))) (mulf (K 0x3C23D70A#32) w))

end Cert.AdamwInRefIdeal.Grad

namespace Cert.AdamwInIdeal.Grad

open Cert.AdamwInIdeal Cert.AdamwInIdeal.Gen Cert.AdamwInRefIdeal.Grad

/-- The sum of the four chips' gradients. -/
theorem grad (q : FVec Ideal S4x256x674 .bf16) (P : FVec Ideal Cert.AdamwInRefIdeal.S4x4096x674 .bf16) (r : Fin 256) (R : Fin 4096) (l : Fin 674)
    (hp : ∀ k : Fin 4, q (ix3 k r l) = P (ix3 k R l)) :
    k0_pay2 (F := Ideal) (View.ld q r0_0) (View.ld q r0_1) (View.ld q r0_2) (View.ld q r0_3) (ix2 r l) = G P (ix2 R l) := by
  pointwise [k0_pay2, G]
  simp only [Fin.sum_univ_four, zero_add]
  rw [← hp 0, ← hp 1, ← hp 2, ← hp 3]

/-- The first moment. -/
theorem mom1 (q : FVec Ideal S4x256x674 .bf16) (P : FVec Ideal Cert.AdamwInRefIdeal.S4x4096x674 .bf16) (r : Fin 256) (R : Fin 4096) (l : Fin 674)
    (hp : ∀ k : Fin 4, q (ix3 k r l) = P (ix3 k R l)) (y : FVec Ideal S256x674 .f32) (Y : FVec Ideal Cert.AdamwInRefIdeal.S4096x674 .f32) (hy : y (ix2 r l) = Y (ix2 R l)) :
    k0_pay3 (F := Ideal) (View.ld q r0_0) (View.ld q r0_1) (View.ld q r0_2) (View.ld q r0_3) y (ix2 r l) = M1 Y P (ix2 R l) := by
  have g := grad q P r R l hp
  pointwise [k0_pay3]
  rw [g, hy]
  pointwise

/-- The second moment. -/
theorem mom2 (q : FVec Ideal S4x256x674 .bf16) (P : FVec Ideal Cert.AdamwInRefIdeal.S4x4096x674 .bf16) (r : Fin 256) (R : Fin 4096) (l : Fin 674)
    (hp : ∀ k : Fin 4, q (ix3 k r l) = P (ix3 k R l)) (y : FVec Ideal S256x674 .f32) (Y : FVec Ideal Cert.AdamwInRefIdeal.S4096x674 .f32) (hy : y (ix2 r l) = Y (ix2 R l)) :
    k0_pay4 (F := Ideal) (View.ld q r0_0) (View.ld q r0_1) (View.ld q r0_2) (View.ld q r0_3) y (ix2 r l) = M2 Y P (ix2 R l) := by
  have g := grad q P r R l hp
  pointwise [k0_pay4]
  rw [g, hy]
  pointwise

/-- The weights' change, from the moments. -/
theorem change (x y1 y2 : FVec Ideal S256x674 .f32) (X Y1 Y2 : FVec Ideal Cert.AdamwInRefIdeal.S4096x674 .f32) (P : FVec Ideal Cert.AdamwInRefIdeal.S4x4096x674 .bf16) (r : Fin 256) (R : Fin 4096) (l : Fin 674)
    (hx : x (ix2 r l) = X (ix2 R l)) (h1 : y1 (ix2 r l) = M1 Y1 P (ix2 R l)) (h2 : y2 (ix2 r l) = M2 Y2 P (ix2 R l)) :
    k0_pay1 (F := Ideal) x y1 y2 (ix2 r l) = DW X Y1 Y2 P (ix2 R l) := by
  pointwise [k0_pay1]
  rw [hx, h1, h2]
  pointwise

/-- The second moment's value with the whole block read. -/
theorem pay5 (x0 x1 x2 : FVec Ideal S256x674 .f32) (q : FVec Ideal S4x256x674 .bf16) :
    k0_pay5 (F := Ideal) x0 x1 x2 q = k0_pay4 (F := Ideal) (View.ld q r0_0) (View.ld q r0_1) (View.ld q r0_2) (View.ld q r0_3) x2 := by
  have e : (View.ld (Val := Elt Ideal) (S := S256x674) (e' := .f32) x2 r0_4 : FVec Ideal S256x674 .f32) = x2 := by frame_out
  unfold k0_pay5
  rw [e]

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![t.val, 0]
    ∧ win0_3.index t = ![0, t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the array that a block's row is. -/
def row (t : Fin cfg0.N) (r : Fin 256) : Fin 4096 := ⟨256 * t.val + r.val, by have h : t.val < 16 := t.isLt; omega⟩

/-- The block of the weights. -/
theorem blk0 (c : Dev nD) (t : Fin cfg0.N) (r : Fin 256) (l : Fin 674) :
    (iblk m c 0 t : FVec Ideal S256x674 .f32) (ix2 r l) = m ((c : Thread nD τ).loc main_arg0) (ix2 (row t r) l) := by
  blk_point [iblk, V, idx t, row]

/-- The block of the first moment. -/
theorem blk1 (c : Dev nD) (t : Fin cfg0.N) (r : Fin 256) (l : Fin 674) :
    (iblk m c 1 t : FVec Ideal S256x674 .f32) (ix2 r l) = m ((c : Thread nD τ).loc main_arg1) (ix2 (row t r) l) := by
  blk_point [iblk, V, idx t, row]

/-- The block of the second moment. -/
theorem blk2 (c : Dev nD) (t : Fin cfg0.N) (r : Fin 256) (l : Fin 674) :
    (iblk m c 2 t : FVec Ideal S256x674 .f32) (ix2 r l) = m ((c : Thread nD τ).loc main_arg2) (ix2 (row t r) l) := by
  blk_point [iblk, V, idx t, row]

/-- The block of the chips' gradients. -/
theorem blk3 (c : Dev nD) (t : Fin cfg0.N) (k : Fin 4) (r : Fin 256) (l : Fin 674) :
    (iblk m c 3 t : FVec Ideal S4x256x674 .bf16) (ix3 k r l) = m ((c : Thread nD τ).loc main_arg3) (ix3 k (row t r) l) := by
  blk_point [iblk, V, idx t, row]

/-- The gradient after the run is the reference's. -/
theorem final4 (c : Dev nD) : (dats m 0 c).arrAt 4 (cfgs 0).N = G (m ((c : Thread nD τ).loc main_arg3)) := by
  refine (dats m 0 c).arrAt_eq_of_covers 4 _ (by decide +kernel) fun t hf y => ?_
  obtain ⟨r, l, rfl⟩ : ∃ (r : Fin 256) (l : Fin 674), y = ix2 r l := ⟨y 0, y 1, eq_ix2 y⟩
  have e : ((cfg0.win 4).blk t).view.emb (ix2 r l) = ix2 (row t r) l := by blk_point [idx t, row]
  refine Eq.trans ?_ (congrArg _ e).symm
  rw [after0_4]
  frame_out
  exact grad _ _ r (row t r) l (fun k => blk3 m c t k r l)

/-- The weights' change after the run is the reference's. -/
theorem final5 (c : Dev nD) : (dats m 0 c).arrAt 5 (cfgs 0).N = DW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 674), y = ix2 r l := ⟨y 0, y 1, eq_ix2 y⟩
  have e : ((cfg0.win 5).blk t).view.emb (ix2 r l) = ix2 (row t r) l := by blk_point [idx t, row]
  refine Eq.trans ?_ (congrArg _ e).symm
  rw [after0_5]
  frame_out
  rw [pay5]
  exact change _ _ _ _ _ _ _ r (row t r) l (blk0 m c t r l) (mom1 _ _ r (row t r) l (fun k => blk3 m c t k r l) _ _ (blk1 m c t r l))
    (mom2 _ _ r (row t r) l (fun k => blk3 m c t k r l) _ _ (blk2 m c t r l))

/-- The first moment after the run is the reference's. -/
theorem final6 (c : Dev nD) : (dats m 0 c).arrAt 6 (cfgs 0).N = M1 (m ((c : Thread nD τ).loc main_arg1)) (m ((c : Thread nD τ).loc main_arg3)) := by
  refine (dats m 0 c).arrAt_eq_of_covers 6 _ (by decide +kernel) fun t hf y => ?_
  obtain ⟨r, l, rfl⟩ : ∃ (r : Fin 256) (l : Fin 674), y = ix2 r l := ⟨y 0, y 1, eq_ix2 y⟩
  have e : ((cfg0.win 6).blk t).view.emb (ix2 r l) = ix2 (row t r) l := by blk_point [idx t, row]
  refine Eq.trans ?_ (congrArg _ e).symm
  rw [after0_6]
  frame_out
  exact mom1 _ _ r (row t r) l (fun k => blk3 m c t k r l) _ _ (blk1 m c t r l)

/-- The second moment after the run is the reference's. -/
theorem final7 (c : Dev nD) : (dats m 0 c).arrAt 7 (cfgs 0).N = M2 (m ((c : Thread nD τ).loc main_arg2)) (m ((c : Thread nD τ).loc main_arg3)) := by
  refine (dats m 0 c).arrAt_eq_of_covers 7 _ (by decide +kernel) fun t hf y => ?_
  obtain ⟨r, l, rfl⟩ : ∃ (r : Fin 256) (l : Fin 674), y = ix2 r l := ⟨y 0, y 1, eq_ix2 y⟩
  have e : ((cfg0.win 7).blk t).view.emb (ix2 r l) = ix2 (row t r) l := by blk_point [idx t, row]
  refine Eq.trans ?_ (congrArg _ e).symm
  rw [after0_7]
  frame_out
  rw [pay5]
  exact mom2 _ _ r (row t r) l (fun k => blk3 m c t k r l) _ _ (blk2 m c t r l)

end Cert.AdamwInIdeal.Grad

namespace Cert.Proof

/-- The kernel's results are the reference's, on the same arguments. -/
theorem algebraic_AdamwIn : Cert.algebraic_AdamwInIdeal_AdamwInRefIdeal := by
  pair_intro
  · run_from Cert.AdamwInIdeal.Gen.run_main m g
  · refine θ_run_mono (Cert.AdamwInRefIdeal.Value.run (F := Ideal) m' g') fun r h c => ?_
    obtain ⟨h0, h1, h2, h3, h4⟩ := h c
    obtain ⟨e0, e1, e2, e3⟩ := hagree c
    rw [e3] at h0
    rw [e0, e1, e2, e3] at h1
    rw [e1, e3] at h2
    rw [e2, e3] at h3
    exact ⟨h0.trans (Cert.AdamwInIdeal.Grad.final4 m c).symm, h1.trans (Cert.AdamwInIdeal.Grad.final5 m c).symm, h2.trans (Cert.AdamwInIdeal.Grad.final6 m c).symm,
      h3.trans (Cert.AdamwInIdeal.Grad.final7 m c).symm, h4⟩

end Cert.Proof

namespace Cert.AdamwOutRefIdeal.Grad

open Cert.AdamwOutRefIdeal Cert.AdamwOutRefIdeal.Gen Idealize.ShloMosaic.StableHlo

/-- A constant in every entry. -/
abbrev K (b : BitVec 32) : FVec Ideal S512x2048 .f32 := broadcastInDim S512x2048 ![] bcast_S_S512x2048 (constant S_ .f32 b)

/-- The gradient: the sum over the chips. -/
abbrev G (p : FVec Ideal S4x512x2048 .bf16) : FVec Ideal S512x2048 .f32 :=
  Host.reduceAdd (extf .f32 p bitsLt_bf16_f32) (constant S_ .f32 0x00000000#32) reducesTo_S4x512x2048_S512x2048_d0 h_S_

/-- The new first moment. -/
abbrev M1 (m : FVec Ideal S512x2048 .f32) (p : FVec Ideal S4x512x2048 .bf16) : FVec Ideal S512x2048 .f32 :=
  addf (mulf (K 0x3F666666#32) m) (mulf (K 0x3DCCCCCD#32) (G p))

/-- The new second moment. -/
abbrev M2 (v : FVec Ideal S512x2048 .f32) (p : FVec Ideal S4x512x2048 .bf16) : FVec Ideal S512x2048 .f32 :=
  addf (mulf (K 0x3F7FBE77#32) v) (mulf (K 0x3A83126F#32) (mulf (G p) (G p)))

/-- The weights' change. -/
abbrev DW (w m v : FVec Ideal S512x2048 .f32) (p : FVec Ideal S4x512x2048 .bf16) : FVec Ideal S512x2048 .f32 :=
  mulf (K 0xBA83126F#32) (addf (Host.divf (Host.divf (M1 m p) (K 0x3F26BD02#32)) (addf (Host.sqrt (Host.divf (M2 v p) (K 0x3C231ACC#32))) (K 0x322BCC77#32))) (mulf (K 0x3C23D70A#32) w))

end Cert.AdamwOutRefIdeal.Grad

namespace Cert.AdamwOutIdeal.Grad

open Cert.AdamwOutIdeal Cert.AdamwOutIdeal.Gen Cert.AdamwOutRefIdeal.Grad

/-- The sum of the four chips' gradients. -/
theorem grad (q : FVec Ideal S4x256x2048 .bf16) (P : FVec Ideal Cert.AdamwOutRefIdeal.S4x512x2048 .bf16) (r : Fin 256) (R : Fin 512) (l : Fin 2048)
    (hp : ∀ k : Fin 4, q (ix3 k r l) = P (ix3 k R l)) :
    k0_pay2 (F := Ideal) (View.ld q r0_0) (View.ld q r0_1) (View.ld q r0_2) (View.ld q r0_3) (ix2 r l) = G P (ix2 R l) := by
  pointwise [k0_pay2, G]
  simp only [Fin.sum_univ_four, zero_add]
  rw [← hp 0, ← hp 1, ← hp 2, ← hp 3]

/-- The first moment. -/
theorem mom1 (q : FVec Ideal S4x256x2048 .bf16) (P : FVec Ideal Cert.AdamwOutRefIdeal.S4x512x2048 .bf16) (r : Fin 256) (R : Fin 512) (l : Fin 2048)
    (hp : ∀ k : Fin 4, q (ix3 k r l) = P (ix3 k R l)) (y : FVec Ideal S256x2048 .f32) (Y : FVec Ideal Cert.AdamwOutRefIdeal.S512x2048 .f32) (hy : y (ix2 r l) = Y (ix2 R l)) :
    k0_pay3 (F := Ideal) (View.ld q r0_0) (View.ld q r0_1) (View.ld q r0_2) (View.ld q r0_3) y (ix2 r l) = M1 Y P (ix2 R l) := by
  have g := grad q P r R l hp
  pointwise [k0_pay3]
  rw [g, hy]
  pointwise

/-- The second moment. -/
theorem mom2 (q : FVec Ideal S4x256x2048 .bf16) (P : FVec Ideal Cert.AdamwOutRefIdeal.S4x512x2048 .bf16) (r : Fin 256) (R : Fin 512) (l : Fin 2048)
    (hp : ∀ k : Fin 4, q (ix3 k r l) = P (ix3 k R l)) (y : FVec Ideal S256x2048 .f32) (Y : FVec Ideal Cert.AdamwOutRefIdeal.S512x2048 .f32) (hy : y (ix2 r l) = Y (ix2 R l)) :
    k0_pay4 (F := Ideal) (View.ld q r0_0) (View.ld q r0_1) (View.ld q r0_2) (View.ld q r0_3) y (ix2 r l) = M2 Y P (ix2 R l) := by
  have g := grad q P r R l hp
  pointwise [k0_pay4]
  rw [g, hy]
  pointwise

/-- The weights' change, from the moments. -/
theorem change (x y1 y2 : FVec Ideal S256x2048 .f32) (X Y1 Y2 : FVec Ideal Cert.AdamwOutRefIdeal.S512x2048 .f32) (P : FVec Ideal Cert.AdamwOutRefIdeal.S4x512x2048 .bf16) (r : Fin 256) (R : Fin 512) (l : Fin 2048)
    (hx : x (ix2 r l) = X (ix2 R l)) (h1 : y1 (ix2 r l) = M1 Y1 P (ix2 R l)) (h2 : y2 (ix2 r l) = M2 Y2 P (ix2 R l)) :
    k0_pay1 (F := Ideal) x y1 y2 (ix2 r l) = DW X Y1 Y2 P (ix2 R l) := by
  pointwise [k0_pay1]
  rw [hx, h1, h2]
  pointwise

/-- The second moment's value with the whole block read. -/
theorem pay5 (x0 x1 x2 : FVec Ideal S256x2048 .f32) (q : FVec Ideal S4x256x2048 .bf16) :
    k0_pay5 (F := Ideal) x0 x1 x2 q = k0_pay4 (F := Ideal) (View.ld q r0_0) (View.ld q r0_1) (View.ld q r0_2) (View.ld q r0_3) x2 := by
  have e : (View.ld (Val := Elt Ideal) (S := S256x2048) (e' := .f32) x2 r0_4 : FVec Ideal S256x2048 .f32) = x2 := by frame_out
  unfold k0_pay5
  rw [e]

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![t.val, 0]
    ∧ win0_3.index t = ![0, t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the array that a block's row is. -/
def row (t : Fin cfg0.N) (r : Fin 256) : Fin 512 := ⟨256 * t.val + r.val, by have h : t.val < 2 := t.isLt; omega⟩

/-- The block of the weights. -/
theorem blk0 (c : Dev nD) (t : Fin cfg0.N) (r : Fin 256) (l : Fin 2048) :
    (iblk m c 0 t : FVec Ideal S256x2048 .f32) (ix2 r l) = m ((c : Thread nD τ).loc main_arg0) (ix2 (row t r) l) := by
  blk_point [iblk, V, idx t, row]

/-- The block of the first moment. -/
theorem blk1 (c : Dev nD) (t : Fin cfg0.N) (r : Fin 256) (l : Fin 2048) :
    (iblk m c 1 t : FVec Ideal S256x2048 .f32) (ix2 r l) = m ((c : Thread nD τ).loc main_arg1) (ix2 (row t r) l) := by
  blk_point [iblk, V, idx t, row]

/-- The block of the second moment. -/
theorem blk2 (c : Dev nD) (t : Fin cfg0.N) (r : Fin 256) (l : Fin 2048) :
    (iblk m c 2 t : FVec Ideal S256x2048 .f32) (ix2 r l) = m ((c : Thread nD τ).loc main_arg2) (ix2 (row t r) l) := by
  blk_point [iblk, V, idx t, row]

/-- The block of the chips' gradients. -/
theorem blk3 (c : Dev nD) (t : Fin cfg0.N) (k : Fin 4) (r : Fin 256) (l : Fin 2048) :
    (iblk m c 3 t : FVec Ideal S4x256x2048 .bf16) (ix3 k r l) = m ((c : Thread nD τ).loc main_arg3) (ix3 k (row t r) l) := by
  blk_point [iblk, V, idx t, row]

/-- The gradient after the run is the reference's. -/
theorem final4 (c : Dev nD) : (dats m 0 c).arrAt 4 (cfgs 0).N = G (m ((c : Thread nD τ).loc main_arg3)) := by
  refine (dats m 0 c).arrAt_eq_of_covers 4 _ (by decide +kernel) fun t hf y => ?_
  obtain ⟨r, l, rfl⟩ : ∃ (r : Fin 256) (l : Fin 2048), y = ix2 r l := ⟨y 0, y 1, eq_ix2 y⟩
  have e : ((cfg0.win 4).blk t).view.emb (ix2 r l) = ix2 (row t r) l := by blk_point [idx t, row]
  refine Eq.trans ?_ (congrArg _ e).symm
  rw [after0_4]
  frame_out
  exact grad _ _ r (row t r) l (fun k => blk3 m c t k r l)

/-- The weights' change after the run is the reference's. -/
theorem final5 (c : Dev nD) : (dats m 0 c).arrAt 5 (cfgs 0).N = DW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 2048), y = ix2 r l := ⟨y 0, y 1, eq_ix2 y⟩
  have e : ((cfg0.win 5).blk t).view.emb (ix2 r l) = ix2 (row t r) l := by blk_point [idx t, row]
  refine Eq.trans ?_ (congrArg _ e).symm
  rw [after0_5]
  frame_out
  rw [pay5]
  exact change _ _ _ _ _ _ _ r (row t r) l (blk0 m c t r l) (mom1 _ _ r (row t r) l (fun k => blk3 m c t k r l) _ _ (blk1 m c t r l))
    (mom2 _ _ r (row t r) l (fun k => blk3 m c t k r l) _ _ (blk2 m c t r l))

/-- The first moment after the run is the reference's. -/
theorem final6 (c : Dev nD) : (dats m 0 c).arrAt 6 (cfgs 0).N = M1 (m ((c : Thread nD τ).loc main_arg1)) (m ((c : Thread nD τ).loc main_arg3)) := by
  refine (dats m 0 c).arrAt_eq_of_covers 6 _ (by decide +kernel) fun t hf y => ?_
  obtain ⟨r, l, rfl⟩ : ∃ (r : Fin 256) (l : Fin 2048), y = ix2 r l := ⟨y 0, y 1, eq_ix2 y⟩
  have e : ((cfg0.win 6).blk t).view.emb (ix2 r l) = ix2 (row t r) l := by blk_point [idx t, row]
  refine Eq.trans ?_ (congrArg _ e).symm
  rw [after0_6]
  frame_out
  exact mom1 _ _ r (row t r) l (fun k => blk3 m c t k r l) _ _ (blk1 m c t r l)

/-- The second moment after the run is the reference's. -/
theorem final7 (c : Dev nD) : (dats m 0 c).arrAt 7 (cfgs 0).N = M2 (m ((c : Thread nD τ).loc main_arg2)) (m ((c : Thread nD τ).loc main_arg3)) := by
  refine (dats m 0 c).arrAt_eq_of_covers 7 _ (by decide +kernel) fun t hf y => ?_
  obtain ⟨r, l, rfl⟩ : ∃ (r : Fin 256) (l : Fin 2048), y = ix2 r l := ⟨y 0, y 1, eq_ix2 y⟩
  have e : ((cfg0.win 7).blk t).view.emb (ix2 r l) = ix2 (row t r) l := by blk_point [idx t, row]
  refine Eq.trans ?_ (congrArg _ e).symm
  rw [after0_7]
  frame_out
  rw [pay5]
  exact mom2 _ _ r (row t r) l (fun k => blk3 m c t k r l) _ _ (blk2 m c t r l)

end Cert.AdamwOutIdeal.Grad

namespace Cert.Proof

/-- The kernel's results are the reference's, on the same arguments. -/
theorem algebraic_AdamwOut : Cert.algebraic_AdamwOutIdeal_AdamwOutRefIdeal := by
  pair_intro
  · run_from Cert.AdamwOutIdeal.Gen.run_main m g
  · refine θ_run_mono (Cert.AdamwOutRefIdeal.Value.run (F := Ideal) m' g') fun r h c => ?_
    obtain ⟨h0, h1, h2, h3, h4⟩ := h c
    obtain ⟨e0, e1, e2, e3⟩ := hagree c
    rw [e3] at h0
    rw [e0, e1, e2, e3] at h1
    rw [e1, e3] at h2
    rw [e2, e3] at h3
    exact ⟨h0.trans (Cert.AdamwOutIdeal.Grad.final4 m c).symm, h1.trans (Cert.AdamwOutIdeal.Grad.final5 m c).symm, h2.trans (Cert.AdamwOutIdeal.Grad.final6 m c).symm,
      h3.trans (Cert.AdamwOutIdeal.Grad.final7 m c).symm, h4⟩

end Cert.Proof

namespace Cert.AdamwDownRefIdeal.Grad

open Cert.AdamwDownRefIdeal Cert.AdamwDownRefIdeal.Gen Idealize.ShloMosaic.StableHlo

/-- A constant in every entry. -/
abbrev K (b : BitVec 32) : FVec Ideal S1408x2048 .f32 := broadcastInDim S1408x2048 ![] bcast_S_S1408x2048 (constant S_ .f32 b)

/-- The gradient: the sum over the chips. -/
abbrev G (p : FVec Ideal S4x1408x2048 .bf16) : FVec Ideal S1408x2048 .f32 :=
  Host.reduceAdd (extf .f32 p bitsLt_bf16_f32) (constant S_ .f32 0x00000000#32) reducesTo_S4x1408x2048_S1408x2048_d0 h_S_

/-- The new first moment. -/
abbrev M1 (m : FVec Ideal S1408x2048 .f32) (p : FVec Ideal S4x1408x2048 .bf16) : FVec Ideal S1408x2048 .f32 :=
  addf (mulf (K 0x3F666666#32) m) (mulf (K 0x3DCCCCCD#32) (G p))

/-- The new second moment. -/
abbrev M2 (v : FVec Ideal S1408x2048 .f32) (p : FVec Ideal S4x1408x2048 .bf16) : FVec Ideal S1408x2048 .f32 :=
  addf (mulf (K 0x3F7FBE77#32) v) (mulf (K 0x3A83126F#32) (mulf (G p) (G p)))

/-- The weights' change. -/
abbrev DW (w m v : FVec Ideal S1408x2048 .f32) (p : FVec Ideal S4x1408x2048 .bf16) : FVec Ideal S1408x2048 .f32 :=
  mulf (K 0xBA83126F#32) (addf (Host.divf (Host.divf (M1 m p) (K 0x3F26BD02#32)) (addf (Host.sqrt (Host.divf (M2 v p) (K 0x3C231ACC#32))) (K 0x322BCC77#32))) (mulf (K 0x3C23D70A#32) w))

end Cert.AdamwDownRefIdeal.Grad

namespace Cert.AdamwDownIdeal.Grad

open Cert.AdamwDownIdeal Cert.AdamwDownIdeal.Gen Cert.AdamwDownRefIdeal.Grad

/-- The sum of the four chips' gradients. -/
theorem grad (q : FVec Ideal S4x128x2048 .bf16) (P : FVec Ideal Cert.AdamwDownRefIdeal.S4x1408x2048 .bf16) (r : Fin 128) (R : Fin 1408) (l : Fin 2048)
    (hp : ∀ k : Fin 4, q (ix3 k r l) = P (ix3 k R l)) :
    k0_pay2 (F := Ideal) (View.ld q r0_0) (View.ld q r0_1) (View.ld q r0_2) (View.ld q r0_3) (ix2 r l) = G P (ix2 R l) := by
  pointwise [k0_pay2, G]
  simp only [Fin.sum_univ_four, zero_add]
  rw [← hp 0, ← hp 1, ← hp 2, ← hp 3]

/-- The first moment. -/
theorem mom1 (q : FVec Ideal S4x128x2048 .bf16) (P : FVec Ideal Cert.AdamwDownRefIdeal.S4x1408x2048 .bf16) (r : Fin 128) (R : Fin 1408) (l : Fin 2048)
    (hp : ∀ k : Fin 4, q (ix3 k r l) = P (ix3 k R l)) (y : FVec Ideal S128x2048 .f32) (Y : FVec Ideal Cert.AdamwDownRefIdeal.S1408x2048 .f32) (hy : y (ix2 r l) = Y (ix2 R l)) :
    k0_pay3 (F := Ideal) (View.ld q r0_0) (View.ld q r0_1) (View.ld q r0_2) (View.ld q r0_3) y (ix2 r l) = M1 Y P (ix2 R l) := by
  have g := grad q P r R l hp
  pointwise [k0_pay3]
  rw [g, hy]
  pointwise

/-- The second moment. -/
theorem mom2 (q : FVec Ideal S4x128x2048 .bf16) (P : FVec Ideal Cert.AdamwDownRefIdeal.S4x1408x2048 .bf16) (r : Fin 128) (R : Fin 1408) (l : Fin 2048)
    (hp : ∀ k : Fin 4, q (ix3 k r l) = P (ix3 k R l)) (y : FVec Ideal S128x2048 .f32) (Y : FVec Ideal Cert.AdamwDownRefIdeal.S1408x2048 .f32) (hy : y (ix2 r l) = Y (ix2 R l)) :
    k0_pay4 (F := Ideal) (View.ld q r0_0) (View.ld q r0_1) (View.ld q r0_2) (View.ld q r0_3) y (ix2 r l) = M2 Y P (ix2 R l) := by
  have g := grad q P r R l hp
  pointwise [k0_pay4]
  rw [g, hy]
  pointwise

/-- The weights' change, from the moments. -/
theorem change (x y1 y2 : FVec Ideal S128x2048 .f32) (X Y1 Y2 : FVec Ideal Cert.AdamwDownRefIdeal.S1408x2048 .f32) (P : FVec Ideal Cert.AdamwDownRefIdeal.S4x1408x2048 .bf16) (r : Fin 128) (R : Fin 1408) (l : Fin 2048)
    (hx : x (ix2 r l) = X (ix2 R l)) (h1 : y1 (ix2 r l) = M1 Y1 P (ix2 R l)) (h2 : y2 (ix2 r l) = M2 Y2 P (ix2 R l)) :
    k0_pay1 (F := Ideal) x y1 y2 (ix2 r l) = DW X Y1 Y2 P (ix2 R l) := by
  pointwise [k0_pay1]
  rw [hx, h1, h2]
  pointwise

/-- The second moment's value with the whole block read. -/
theorem pay5 (x0 x1 x2 : FVec Ideal S128x2048 .f32) (q : FVec Ideal S4x128x2048 .bf16) :
    k0_pay5 (F := Ideal) x0 x1 x2 q = k0_pay4 (F := Ideal) (View.ld q r0_0) (View.ld q r0_1) (View.ld q r0_2) (View.ld q r0_3) x2 := by
  have e : (View.ld (Val := Elt Ideal) (S := S128x2048) (e' := .f32) x2 r0_4 : FVec Ideal S128x2048 .f32) = x2 := by frame_out
  unfold k0_pay5
  rw [e]

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![t.val, 0]
    ∧ win0_3.index t = ![0, t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the array that a block's row is. -/
def row (t : Fin cfg0.N) (r : Fin 128) : Fin 1408 := ⟨128 * t.val + r.val, by have h : t.val < 11 := t.isLt; omega⟩

/-- The block of the weights. -/
theorem blk0 (c : Dev nD) (t : Fin cfg0.N) (r : Fin 128) (l : Fin 2048) :
    (iblk m c 0 t : FVec Ideal S128x2048 .f32) (ix2 r l) = m ((c : Thread nD τ).loc main_arg0) (ix2 (row t r) l) := by
  blk_point [iblk, V, idx t, row]

/-- The block of the first moment. -/
theorem blk1 (c : Dev nD) (t : Fin cfg0.N) (r : Fin 128) (l : Fin 2048) :
    (iblk m c 1 t : FVec Ideal S128x2048 .f32) (ix2 r l) = m ((c : Thread nD τ).loc main_arg1) (ix2 (row t r) l) := by
  blk_point [iblk, V, idx t, row]

/-- The block of the second moment. -/
theorem blk2 (c : Dev nD) (t : Fin cfg0.N) (r : Fin 128) (l : Fin 2048) :
    (iblk m c 2 t : FVec Ideal S128x2048 .f32) (ix2 r l) = m ((c : Thread nD τ).loc main_arg2) (ix2 (row t r) l) := by
  blk_point [iblk, V, idx t, row]

/-- The block of the chips' gradients. -/
theorem blk3 (c : Dev nD) (t : Fin cfg0.N) (k : Fin 4) (r : Fin 128) (l : Fin 2048) :
    (iblk m c 3 t : FVec Ideal S4x128x2048 .bf16) (ix3 k r l) = m ((c : Thread nD τ).loc main_arg3) (ix3 k (row t r) l) := by
  blk_point [iblk, V, idx t, row]

/-- The gradient after the run is the reference's. -/
theorem final4 (c : Dev nD) : (dats m 0 c).arrAt 4 (cfgs 0).N = G (m ((c : Thread nD τ).loc main_arg3)) := by
  refine (dats m 0 c).arrAt_eq_of_covers 4 _ (by decide +kernel) fun t hf y => ?_
  obtain ⟨r, l, rfl⟩ : ∃ (r : Fin 128) (l : Fin 2048), y = ix2 r l := ⟨y 0, y 1, eq_ix2 y⟩
  have e : ((cfg0.win 4).blk t).view.emb (ix2 r l) = ix2 (row t r) l := by blk_point [idx t, row]
  refine Eq.trans ?_ (congrArg _ e).symm
  rw [after0_4]
  frame_out
  exact grad _ _ r (row t r) l (fun k => blk3 m c t k r l)

/-- The weights' change after the run is the reference's. -/
theorem final5 (c : Dev nD) : (dats m 0 c).arrAt 5 (cfgs 0).N = DW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 128) (l : Fin 2048), y = ix2 r l := ⟨y 0, y 1, eq_ix2 y⟩
  have e : ((cfg0.win 5).blk t).view.emb (ix2 r l) = ix2 (row t r) l := by blk_point [idx t, row]
  refine Eq.trans ?_ (congrArg _ e).symm
  rw [after0_5]
  frame_out
  rw [pay5]
  exact change _ _ _ _ _ _ _ r (row t r) l (blk0 m c t r l) (mom1 _ _ r (row t r) l (fun k => blk3 m c t k r l) _ _ (blk1 m c t r l))
    (mom2 _ _ r (row t r) l (fun k => blk3 m c t k r l) _ _ (blk2 m c t r l))

/-- The first moment after the run is the reference's. -/
theorem final6 (c : Dev nD) : (dats m 0 c).arrAt 6 (cfgs 0).N = M1 (m ((c : Thread nD τ).loc main_arg1)) (m ((c : Thread nD τ).loc main_arg3)) := by
  refine (dats m 0 c).arrAt_eq_of_covers 6 _ (by decide +kernel) fun t hf y => ?_
  obtain ⟨r, l, rfl⟩ : ∃ (r : Fin 128) (l : Fin 2048), y = ix2 r l := ⟨y 0, y 1, eq_ix2 y⟩
  have e : ((cfg0.win 6).blk t).view.emb (ix2 r l) = ix2 (row t r) l := by blk_point [idx t, row]
  refine Eq.trans ?_ (congrArg _ e).symm
  rw [after0_6]
  frame_out
  exact mom1 _ _ r (row t r) l (fun k => blk3 m c t k r l) _ _ (blk1 m c t r l)

/-- The second moment after the run is the reference's. -/
theorem final7 (c : Dev nD) : (dats m 0 c).arrAt 7 (cfgs 0).N = M2 (m ((c : Thread nD τ).loc main_arg2)) (m ((c : Thread nD τ).loc main_arg3)) := by
  refine (dats m 0 c).arrAt_eq_of_covers 7 _ (by decide +kernel) fun t hf y => ?_
  obtain ⟨r, l, rfl⟩ : ∃ (r : Fin 128) (l : Fin 2048), y = ix2 r l := ⟨y 0, y 1, eq_ix2 y⟩
  have e : ((cfg0.win 7).blk t).view.emb (ix2 r l) = ix2 (row t r) l := by blk_point [idx t, row]
  refine Eq.trans ?_ (congrArg _ e).symm
  rw [after0_7]
  frame_out
  rw [pay5]
  exact mom2 _ _ r (row t r) l (fun k => blk3 m c t k r l) _ _ (blk2 m c t r l)

end Cert.AdamwDownIdeal.Grad

namespace Cert.Proof

/-- The kernel's results are the reference's, on the same arguments. -/
theorem algebraic_AdamwDown : Cert.algebraic_AdamwDownIdeal_AdamwDownRefIdeal := by
  pair_intro
  · run_from Cert.AdamwDownIdeal.Gen.run_main m g
  · refine θ_run_mono (Cert.AdamwDownRefIdeal.Value.run (F := Ideal) m' g') fun r h c => ?_
    obtain ⟨h0, h1, h2, h3, h4⟩ := h c
    obtain ⟨e0, e1, e2, e3⟩ := hagree c
    rw [e3] at h0
    rw [e0, e1, e2, e3] at h1
    rw [e1, e3] at h2
    rw [e2, e3] at h3
    exact ⟨h0.trans (Cert.AdamwDownIdeal.Grad.final4 m c).symm, h1.trans (Cert.AdamwDownIdeal.Grad.final5 m c).symm, h2.trans (Cert.AdamwDownIdeal.Grad.final6 m c).symm,
      h3.trans (Cert.AdamwDownIdeal.Grad.final7 m c).symm, h4⟩

end Cert.Proof
-- ==== Proof.AttnMath.lean ====
/- One row of softmax attention with a sink, and its gradient, over the reals. -/
module

public import Idealize.ShloMosaic.Lib.WordCmp
public import Idealize.ShloMosaic.Lib.Pipeline.ValueKit

@[expose] public section

noncomputable section

open Idealize.ShloMosaic
open scoped BigOperators

namespace Cert.Attn

section Row

variable {ι : Type} [Fintype ι] (ok : ι → Prop) [DecidablePred ok] (s : ι → ℝ) (z : ℝ)

/-- A key's weight before the division, with `m` taken off the scores. -/
def wt (m : ℝ) (j : ι) : ℝ := if ok j then Real.exp (s j - m) else 0

/-- The row's denominator, with `m` taken off the scores. -/
def den (m : ℝ) : ℝ := ∑ j, wt ok s m j + Real.exp (z - m)

/-- A key's probability. -/
def prob (j : ι) : ℝ := wt ok s 0 j / den ok s z 0

/-- What is left for the sink. -/
def rest : ℝ := Real.exp z / den ok s z 0

theorem wt_nonneg (m : ℝ) (j : ι) : 0 ≤ wt ok s m j := by
  unfold wt; split
  · exact (Real.exp_pos _).le
  · exact le_rfl

theorem den_pos (m : ℝ) : 0 < den ok s z m :=
  add_pos_of_nonneg_of_pos (Finset.sum_nonneg fun j _ => wt_nonneg ok s m j) (Real.exp_pos _)

theorem wt_eq (m : ℝ) (j : ι) : wt ok s m j = wt ok s 0 j * Real.exp (-m) := by
  unfold wt; split
  · rw [← Real.exp_add]; congr 1; ring
  · ring

theorem den_eq (m : ℝ) : den ok s z m = den ok s z 0 * Real.exp (-m) := by
  unfold den
  rw [add_mul, Finset.sum_mul, ← Real.exp_add]
  congr 1
  · exact Finset.sum_congr rfl fun j _ => wt_eq ok s m j
  · congr 1; ring

theorem prob_eq (m : ℝ) (j : ι) : wt ok s m j / den ok s z m = prob ok s z j := by
  rw [wt_eq, den_eq, prob, mul_div_mul_right _ _ (Real.exp_ne_zero _)]

theorem rest_eq (m : ℝ) : Real.exp (z - m) / den ok s z m = rest ok s z := by
  rw [den_eq, rest, sub_eq_add_neg, Real.exp_add, mul_div_mul_right _ _ (Real.exp_ne_zero _)]

theorem prob_of_not {j : ι} (h : ¬ ok j) : prob ok s z j = 0 := by
  rw [prob, wt, if_neg h, zero_div]

theorem total_one : ∑ j, prob ok s z j + rest ok s z = 1 := by
  unfold prob rest
  rw [← Finset.sum_div, ← add_div]
  have h : ∑ j, wt ok s 0 j + Real.exp z = den ok s z 0 := by rw [den, sub_zero]
  rw [h, div_self (den_pos ok s z 0).ne']

variable (e : ι → ℝ)

/-- The probabilities' mean of their cotangents. -/
def mean : ℝ := ∑ k, prob ok s z k * e k

/-- The gradient of a score. -/
def dsc (j : ι) : ℝ := prob ok s z j * (e j - mean ok s z e)

/-- The gradient through the denominator, as a sum over the keys. -/
theorem through (m : ℝ) : ∑ k, e k * (1 / (den ok s z m * den ok s z m)) * wt ok s m k = mean ok s z e / den ok s z m := by
  have h := (den_pos ok s z m).ne'
  unfold mean
  rw [Finset.sum_div]
  refine Finset.sum_congr rfl fun k _ => ?_
  rw [← prob_eq ok s z m k]; field_simp

/-- The gradient through the denominator, as the kernel sums it: over the head's dimensions first. -/
theorem through' {δ : Type} [Fintype δ] (m : ℝ) (g : δ → ℝ) (v : ι → δ → ℝ) (he : ∀ j, e j = ∑ d, g d * v j d) :
    ∑ d, g d * (1 / (den ok s z m * den ok s z m)) * ∑ j, wt ok s m j * v j d = mean ok s z e / den ok s z m := by
  rw [← through]
  simp only [he, Finset.mul_sum, Finset.sum_mul]
  rw [Finset.sum_comm]
  exact Finset.sum_congr rfl fun j _ => Finset.sum_congr rfl fun d _ => by ring

theorem dsc_eq (m : ℝ) (j : ι) :
    (e j / den ok s z m + -(mean ok s z e / den ok s z m)) * wt ok s m j = dsc ok s z e j := by
  have h := (den_pos ok s z m).ne'
  rw [dsc, ← prob_eq ok s z m j]; field_simp; ring

theorem dsink_eq (m : ℝ) : -(mean ok s z e / den ok s z m) * Real.exp (z - m) = -(rest ok s z * mean ok s z e) := by
  have h := (den_pos ok s z m).ne'
  rw [← rest_eq ok s z m]; field_simp

/-- Nothing flows back through the row's largest score. -/
theorem through_max : - -(rest ok s z * mean ok s z e) + ∑ j, -dsc ok s z e j = 0 := by
  have h := total_one ok s z
  have : ∑ j, -dsc ok s z e j = -mean ok s z e + mean ok s z e * ∑ j, prob ok s z j := by
    unfold dsc
    rw [Finset.mul_sum, mean, ← Finset.sum_neg_distrib, ← Finset.sum_add_distrib]
    exact Finset.sum_congr rfl fun j _ => by ring
  rw [this]
  linear_combination (mean ok s z e) * h

end Row

/-- The rotary embedding of one head vector: its two halves turned by the angles. -/
def rot (x : Fin 64 → ℝ) (c s : Fin 32 → ℝ) (d : Fin 64) : ℝ :=
  if h : d.val < 32 then x d * c ⟨d, h⟩ - x ⟨d + 32, by omega⟩ * s ⟨d, h⟩
  else x d * c ⟨d - 32, by omega⟩ + x ⟨d - 32, by omega⟩ * s ⟨d - 32, by omega⟩

/-- Its transpose. -/
def tor (x : Fin 64 → ℝ) (c s : Fin 32 → ℝ) (d : Fin 64) : ℝ :=
  if h : d.val < 32 then x d * c ⟨d, h⟩ + x ⟨d + 32, by omega⟩ * s ⟨d, h⟩
  else x d * c ⟨d - 32, by omega⟩ - x ⟨d - 32, by omega⟩ * s ⟨d - 32, by omega⟩

theorem rot_lt (x : Fin 64 → ℝ) (c s : Fin 32 → ℝ) (d : Fin 64) (h : d.val < 32) :
    (rot x c s d : EReal) = x d * c ⟨d.val, h⟩ - x ⟨32 + d.val, by omega⟩ * s ⟨d.val, h⟩ := by
  have e : (⟨32 + d.val, by omega⟩ : Fin 64) = ⟨d.val + 32, by omega⟩ := Fin.ext (Nat.add_comm _ _)
  rw [e, rot, dif_pos h, EReal.coe_sub, EReal.coe_mul, EReal.coe_mul]

theorem rot_ge (x : Fin 64 → ℝ) (c s : Fin 32 → ℝ) (d : Fin 64) (h : ¬ d.val < 32) :
    (rot x c s d : EReal) = x ⟨32 + (d.val - 32), by omega⟩ * c ⟨d.val - 32, by omega⟩ + x ⟨d.val - 32, by omega⟩ * s ⟨d.val - 32, by omega⟩ := by
  have e : (⟨32 + (d.val - 32), by omega⟩ : Fin 64) = d := Fin.ext (by dsimp only; omega)
  rw [e, rot, dif_neg h, EReal.coe_add, EReal.coe_mul, EReal.coe_mul]

theorem tor_lt (x : Fin 64 → ℝ) (c s : Fin 32 → ℝ) (d : Fin 64) (h : d.val < 32) :
    (tor x c s d : EReal) = x ⟨d.val, d.isLt⟩ * c ⟨d.val, h⟩ + x ⟨d.val + 32, by omega⟩ * s ⟨d.val, h⟩ := by
  rw [tor, dif_pos h, EReal.coe_add, EReal.coe_mul, EReal.coe_mul]

theorem tor_ge (x : Fin 64 → ℝ) (c s : Fin 32 → ℝ) (d : Fin 64) (h : ¬ d.val < 32) :
    (tor x c s d : EReal) = x ⟨d.val - 32 + 32, by omega⟩ * c ⟨d.val - 32, by omega⟩ + -(x ⟨d.val - 32, by omega⟩ : EReal) * s ⟨d.val - 32, by omega⟩ := by
  have e : (⟨d.val - 32 + 32, by omega⟩ : Fin 64) = d := Fin.ext (by dsimp only; omega)
  rw [e, tor, dif_neg h, ← EReal.coe_neg, ← EReal.coe_mul, ← EReal.coe_mul, ← EReal.coe_add]
  congr 1; ring

/-- The call's arguments, as reals: queries, keys, values, the sinks' first lane, the angles and the cotangent. -/
structure Args where
  q : Fin 16 → Fin 8192 → Fin 64 → ℝ
  k : Fin 2 → Fin 8192 → Fin 64 → ℝ
  v : Fin 2 → Fin 8192 → Fin 64 → ℝ
  z : Fin 16 → ℝ
  c : Fin 8192 → Fin 32 → ℝ
  s : Fin 8192 → Fin 32 → ℝ
  g : Fin 16 → Fin 8192 → Fin 64 → ℝ

/-- Head `h` of key head `a`. -/
def hd (a : Fin 2) (h : Fin 8) : Fin 16 := ⟨a.val * 8 + h.val, by omega⟩

/-- Token `r` of window `n`. -/
def tk (n : Fin 64) (r : Fin 128) : Fin 8192 := ⟨n.val * 128 + r.val, by omega⟩

/-- Token `r` of the window before `n`; of the first one at `n = 0`. -/
def tp (n : Fin 64) (r : Fin 128) : Fin 8192 := ⟨(n.val - 1) * 128 + r.val, by omega⟩

/-- The token behind key `j` of window `n`'s band. -/
def tj (n : Fin 64) (j : Fin 256) : Fin 8192 :=
  if h : j.val < 128 then tp n ⟨j.val, h⟩ else tk n ⟨j.val - 128, by omega⟩

/-- The first half of a band. -/
def lo (j : Fin 128) : Fin 256 := ⟨j.val, by omega⟩

/-- Its second half. -/
def hi (j : Fin 128) : Fin 256 := ⟨128 + j.val, by omega⟩

theorem sum_band {M : Type} [AddCommMonoid M] (f : Fin 256 → M) : ∑ j, f (hi j) + ∑ j, f (lo j) = ∑ j, f j := by
  rw [add_comm]
  exact (Fin.sum_univ_add (a := 128) (b := 128) f).symm

/-- Query `r` of window `n` sees key `j` of the band. -/
def ok (n : Fin 64) (r : Fin 128) (j : Fin 256) : Prop := (r.val < j.val ∧ j.val ≤ r.val + 128) ∧ (0 < n.val ∨ 128 ≤ j.val)

instance (n : Fin 64) (r : Fin 128) : DecidablePred (ok n r) := fun j => by unfold ok; infer_instance

namespace Args

variable (A : Args)

/-- The turned queries. -/
def Q (a : Fin 2) (h : Fin 8) (n : Fin 64) (r : Fin 128) : Fin 64 → ℝ := rot (A.q (hd a h) (tk n r)) (A.c (tk n r)) (A.s (tk n r))

/-- The turned keys of a band. -/
def K (a : Fin 2) (n : Fin 64) (j : Fin 256) : Fin 64 → ℝ := rot (A.k a (tj n j)) (A.c (tj n j)) (A.s (tj n j))

/-- The values of a band. -/
def V (a : Fin 2) (n : Fin 64) (j : Fin 256) : Fin 64 → ℝ := A.v a (tj n j)

/-- The cotangent. -/
def G (a : Fin 2) (h : Fin 8) (n : Fin 64) (r : Fin 128) : Fin 64 → ℝ := A.g (hd a h) (tk n r)

/-- The scores. -/
def S (a : Fin 2) (h : Fin 8) (n : Fin 64) (r : Fin 128) (j : Fin 256) : ℝ := (∑ d, A.Q a h n r d * A.K a n j d) * (1 / 8)

/-- The probabilities. -/
def P (a : Fin 2) (h : Fin 8) (n : Fin 64) (r : Fin 128) (j : Fin 256) : ℝ := prob (ok n r) (A.S a h n r) (A.z (hd a h)) j

/-- The probabilities' cotangents. -/
def E (a : Fin 2) (h : Fin 8) (n : Fin 64) (r : Fin 128) (j : Fin 256) : ℝ := ∑ d, A.G a h n r d * A.V a n j d

/-- The gradient of the unscaled scores. -/
def D (a : Fin 2) (h : Fin 8) (n : Fin 64) (r : Fin 128) (j : Fin 256) : ℝ :=
  dsc (ok n r) (A.S a h n r) (A.z (hd a h)) (A.E a h n r) j * (1 / 8)

/-- The gradient of the turned queries. -/
def dQ (a : Fin 2) (h : Fin 8) (n : Fin 64) (r : Fin 128) (d : Fin 64) : ℝ := ∑ j, A.D a h n r j * A.K a n j d

/-- The gradient of the turned keys of a band. -/
def dK (a : Fin 2) (n : Fin 64) (j : Fin 256) (d : Fin 64) : ℝ := ∑ h, ∑ r, A.D a h n r j * A.Q a h n r d

/-- The gradient of the values of a band. -/
def dV (a : Fin 2) (n : Fin 64) (j : Fin 256) (d : Fin 64) : ℝ := ∑ h, ∑ r, A.P a h n r j * A.G a h n r d

/-- What a query adds to the gradient of its head's sink. -/
def dZ (a : Fin 2) (h : Fin 8) (n : Fin 64) (r : Fin 128) : ℝ :=
  -(rest (ok n r) (A.S a h n r) (A.z (hd a h)) * mean (ok n r) (A.S a h n r) (A.z (hd a h)) (A.E a h n r))

end Args

/-- A finite sum of reals, read in the extended reals. -/
theorem coe_sum {ι : Type} (t : Finset ι) (f : ι → ℝ) : ((∑ i ∈ t, f i : ℝ) : EReal) = ∑ i ∈ t, (f i : EReal) := by
  classical
  refine Finset.induction_on t (by simp) fun a t ha ih => ?_
  rw [Finset.sum_insert ha, Finset.sum_insert ha, EReal.coe_add, ih]

theorem eighth : Ideal.ofBits .f32 0x3E000000#32 = ((1 / 8 : ℝ) : EReal) := by
  simp [Ideal.ofBits, Ideal.ieee, -EReal.coe_mul]; norm_num

theorem select_one {α : Type} (p : Prop) [Decidable p] (x y : α) : Scalar.select (if p then 1#1 else 0#1) x y = if p then x else y := by
  unfold Scalar.select
  split
  · rfl
  · exact if_neg (by decide)

theorem bits_bot : Ideal.ofBits .f32 0xFF800000#32 = ⊥ := by simp [Ideal.ofBits, Ideal.ieee]

/-- The exponential of a masked score. -/
theorem exp_masked (p : Prop) [Decidable p] (x m : ℝ) : Ideal.exp ((if p then (x : EReal) else ⊥) - (m : EReal)) = ((if p then Real.exp (x - m) else 0 : ℝ) : EReal) := by
  split
  · rw [← EReal.coe_sub, Ideal.exp_coe]
  · rw [EReal.bot_sub, Ideal.exp_bot]; rfl

/-- The largest of masked scores is not infinite. -/
theorem fold_lt_top {ι : Type} (t : Finset ι) (f : ι → EReal) (h : ∀ i, f i < ⊤) : t.fold max ⊥ f < ⊤ :=
  (Finset.fold_max_lt _).mpr ⟨bot_lt_top, fun i _ => h i⟩

theorem masked_lt_top (p : Prop) [Decidable p] (x : ℝ) : (if p then (x : EReal) else ⊥) < ⊤ := by
  split
  · exact EReal.coe_lt_top x
  · exact bot_lt_top

/-- A largest score that is no less than the sink is real. -/
theorem real_of_ge (x : EReal) (z : ℝ) (hl : (z : EReal) ≤ x) (hu : x < ⊤) : ∃ m : ℝ, x = (m : EReal) :=
  ⟨x.toReal, (EReal.coe_toReal hu.ne (ne_of_gt (lt_of_lt_of_le (EReal.bot_lt_coe z) hl))).symm⟩

theorem cotangent {ι : Type} [Fintype ι] (f v : ι → ℝ) (d : ℝ) : ∑ x, f x * (1 / d) * v x = (∑ x, f x * v x) / d := by
  rw [Finset.sum_div]
  exact Finset.sum_congr rfl fun x _ => by ring

/-- A score's gradient is zero where the query does not see the key. -/
theorem masked_scaled {ι : Type} [Fintype ι] (ok : ι → Prop) [DecidablePred ok] (s : ι → ℝ) (z : ℝ) (e : ι → ℝ) (j : ι) :
    (if ok j then (dsc ok s z e j : EReal) * ((1 / 8 : ℝ) : EReal) else 0) = ((dsc ok s z e j * (1 / 8) : ℝ) : EReal) := by
  split
  case isTrue h => rw [EReal.coe_mul]
  case isFalse h => rw [dsc, prob_of_not ok s z h, zero_mul, zero_mul]; rfl

theorem sgt_word {a b : ℕ} (ha : a < 1024) (hb : b < 1024) : IntOp.cmpi .sgt (BitVec.ofNat 32 a) (BitVec.ofNat 32 b) = if b < a then 1#1 else 0#1 := by
  have h1 : (BitVec.ofNat 32 a).toInt = (a : Int) := WordCmp.toInt_ofNat_of_lt (by norm_num; omega)
  have h2 : (BitVec.ofNat 32 b).toInt = (b : Int) := WordCmp.toInt_ofNat_of_lt (by norm_num; omega)
  unfold IntOp.cmpi
  dsimp only
  rw [BitVec.slt, h1, h2]
  by_cases h : b < a <;> simp [h]

theorem sle_word {a b : ℕ} (ha : a < 1024) (hb : b < 1024) : IntOp.cmpi .sle (BitVec.ofNat 32 a) (BitVec.ofNat 32 b) = if a ≤ b then 1#1 else 0#1 := by
  have h1 : (BitVec.ofNat 32 a).toInt = (a : Int) := WordCmp.toInt_ofNat_of_lt (by norm_num; omega)
  have h2 : (BitVec.ofNat 32 b).toInt = (b : Int) := WordCmp.toInt_ofNat_of_lt (by norm_num; omega)
  unfold IntOp.cmpi
  dsimp only
  rw [BitVec.sle, h1, h2]
  by_cases h : a ≤ b <;> simp [h]

theorem sge_word {a b : ℕ} (ha : a < 1024) (hb : b < 1024) : IntOp.cmpi .sge (BitVec.ofNat 32 a) (BitVec.ofNat 32 b) = if b ≤ a then 1#1 else 0#1 := by
  have h1 : (BitVec.ofNat 32 a).toInt = (a : Int) := WordCmp.toInt_ofNat_of_lt (by norm_num; omega)
  have h2 : (BitVec.ofNat 32 b).toInt = (b : Int) := WordCmp.toInt_ofNat_of_lt (by norm_num; omega)
  unfold IntOp.cmpi
  dsimp only
  rw [BitVec.sle, h1, h2]
  by_cases h : b ≤ a <;> simp [h]

theorem andi_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

theorem ori_ite (p q : Prop) [Decidable p] [Decidable q] : IntOp.ori (if p then 1#1 else 0#1) (if q then 1#1 else 0#1) = if p ∨ q then 1#1 else 0#1 := by
  by_cases hp : p <;> by_cases hq : q <;> simp [hp, hq, IntOp.ori]

/-- The reference's mask. -/
theorem band_word (n : Fin 64) (r : Fin 128) (j : Fin 256) :
    IntOp.andi (IntOp.andi (IntOp.cmpi CmpIPredicate.sgt (BitVec.ofNat 32 j.val) (BitVec.ofNat 32 r.val))
        (IntOp.cmpi CmpIPredicate.sle (BitVec.ofNat 32 j.val) (IntOp.addi (BitVec.ofNat 32 r.val) 128#32)))
      (IntOp.ori (IntOp.cmpi CmpIPredicate.sgt (BitVec.ofNat 32 n.val) 0#32) (IntOp.cmpi CmpIPredicate.sge (BitVec.ofNat 32 j.val) 128#32))
      = if ok n r j then 1#1 else 0#1 := by
  have e : IntOp.addi (BitVec.ofNat 32 r.val) 128#32 = BitVec.ofNat 32 (r.val + 128) := (BitVec.ofNat_add _ _).symm
  have h1 := sgt_word (a := j.val) (b := r.val) (by omega) (by omega)
  have h2 := sle_word (a := j.val) (b := r.val + 128) (by omega) (by omega)
  have h3 := sgt_word (a := n.val) (b := 0) (by omega) (by omega)
  have h4 := sge_word (a := j.val) (b := 128) (by omega) (by omega)
  rw [e, h1, h2]
  refine (congrArg (IntOp.andi _) ((congrArg₂ IntOp.ori h3 h4).trans (ori_ite _ _))).trans ?_
  rw [andi_ite, andi_ite]
  rfl

/-- No cotangent for the largest score leaves none to share among the keys that attain it. -/
theorem no_share {ι : Type} [Fintype ι] (f : ι → ℝ) (h : ∀ i, f i = 0 ∨ f i = 1) (j : ι) :
    Ideal.div 0 (∑ i, (f i : EReal)) * (f j : EReal) = 0 := by
  rcases h j with e | e
  · rw [e, EReal.coe_zero, mul_zero]
  · have h0 : ∀ i ∈ Finset.univ, 0 ≤ f i := fun i _ => by rcases h i with e | e <;> rw [e] <;> norm_num
    have hs : (∑ i, f i) ≠ 0 := (lt_of_lt_of_le (by rw [e]; exact one_pos) (Finset.single_le_sum h0 (Finset.mem_univ j))).ne'
    rw [← coe_sum, Ideal.div_coe hs, zero_mul, zero_mul]

end Cert.Attn

end
-- ==== Proof.AttnBlk.lean ====
/- One window of the attention's gradient, as the kernel computes it, as functions of real arguments. -/
module

public import proofs.«01_k».proof.Proof.AttnMath
public import proofs.«01_k».proof.Proof.Gen.AttnBwdIdeal.Skeleton

set_option maxRecDepth 16384

@[expose] public section

noncomputable section

open Idealize.ShloMosaic Idealize.ShloMosaic.TcCoe Idealize.SL.Sem
open scoped BigOperators

namespace Cert.AttnBwdIdeal.Grad

open Cert.AttnBwdIdeal Cert.AttnBwdIdeal.Gen Cert.Attn

abbrev M64 := FVec Ideal S128x64 .f32
abbrev M128 := FVec Ideal S128x128 .f32
abbrev C1 := FVec Ideal S128x1 .f32
abbrev N1 := FVec Ideal S1x1 .f32

/-- The rotation as a matrix. -/
def turner (i j : Fin 64) : ℝ := if i.val = j.val + 32 then -1 else if i.val + 32 = j.val then 1 else 0

/-- The rotary embedding of a block's rows. -/
def turn (c s : M64) (w : FVec Ideal S64x64 .f32) (x : M64) : M64 := k0_pay29 c s w x

/-- Its transpose. -/
def back (c s : M64) (w : FVec Ideal S64x64 .f32) (x : M64) : M64 :=
  addf (matmul dot_S128x64_S64x64_S128x64_1_1_0_0_n_n (some .bf16x3) (mulf x s) w (constant S128x64 .f32 0x00000000#32)) (mulf x c)

theorem sum_turner (f : Fin 64 → ℝ) (d : Fin 64) :
    ∑ i, f i * turner i d = if h : d.val < 32 then - f ⟨d.val + 32, by omega⟩ else f ⟨d.val - 32, by omega⟩ := by
  split
  case isTrue h =>
    rw [Finset.sum_eq_single (⟨d.val + 32, by omega⟩ : Fin 64)]
    · simp [turner]
    · intro b _ hb
      have : b.val ≠ d.val + 32 := fun e => hb (Fin.ext e)
      rw [turner, if_neg this, if_neg (by omega), mul_zero]
    · intro h; exact absurd (Finset.mem_univ _) h
  case isFalse h =>
    rw [Finset.sum_eq_single (⟨d.val - 32, by omega⟩ : Fin 64)]
    · rw [turner, if_neg (by dsimp only; omega), if_pos (by dsimp only; omega), mul_one]
    · intro b _ hb
      have : b.val ≠ d.val - 32 := fun e => hb (Fin.ext e)
      rw [turner, if_neg (by omega), if_neg (by omega), mul_zero]
    · intro h; exact absurd (Finset.mem_univ _) h

theorem sum_turner' (f : Fin 64 → ℝ) (d : Fin 64) :
    ∑ i, f i * turner d i = if h : d.val < 32 then f ⟨d.val + 32, by omega⟩ else - f ⟨d.val - 32, by omega⟩ := by
  split
  case isTrue h =>
    rw [Finset.sum_eq_single (⟨d.val + 32, by omega⟩ : Fin 64)]
    · rw [turner, if_neg (by dsimp only; omega), if_pos (by dsimp only), mul_one]
    · intro b _ hb
      have : b.val ≠ d.val + 32 := fun e => hb (Fin.ext e)
      rw [turner, if_neg (by omega), if_neg (by omega), mul_zero]
    · intro h; exact absurd (Finset.mem_univ _) h
  case isFalse h =>
    rw [Finset.sum_eq_single (⟨d.val - 32, by omega⟩ : Fin 64)]
    · rw [turner, if_pos (by dsimp only; omega)]; ring
    · intro b _ hb
      have : b.val ≠ d.val - 32 := fun e => hb (Fin.ext e)
      rw [turner, if_neg (by omega), if_neg (by omega), mul_zero]
    · intro h; exact absurd (Finset.mem_univ _) h

/-- A table's column for a head dimension. -/
def col (f : Fin 32 → ℝ) (d : Fin 64) : ℝ := f ⟨d.val % 32, by omega⟩

section Turn

variable {c s : M64} {w : FVec Ideal S64x64 .f32} {x : M64} {C T : Fin 128 → Fin 32 → ℝ} {X : Fin 128 → Fin 64 → ℝ}
  (hc : ∀ r d, c (ix2 r d) = (col (C r) d : EReal)) (hs : ∀ r d, s (ix2 r d) = (col (T r) d : EReal))
  (hw : ∀ i j, w (ix2 i j) = (turner i j : EReal)) (hx : ∀ r d, x (ix2 r d) = (X r d : EReal))
include hc hs hw hx

theorem turn_at (r : Fin 128) (d : Fin 64) : turn c s w x (ix2 r d) = (rot (X r) (C r) (T r) d : EReal) := by
  pointwise [turn, k0_pay29]
  simp only [hc, hs, hw, hx, ← EReal.coe_mul, ← coe_sum, ← EReal.coe_add]
  rw [sum_turner]
  congr 1
  unfold rot
  split
  case isTrue h =>
    have e : (⟨d.val % 32, by omega⟩ : Fin 32) = ⟨d.val, h⟩ := Fin.ext (Nat.mod_eq_of_lt h)
    simp only [col, e]; ring
  case isFalse h =>
    have e : (⟨d.val % 32, by omega⟩ : Fin 32) = ⟨d.val - 32, by omega⟩ := Fin.ext (by dsimp only; omega)
    simp only [col, e]

theorem back_at (r : Fin 128) (d : Fin 64) : back c s w x (ix2 r d) = (tor (X r) (C r) (T r) d : EReal) := by
  pointwise [back]
  simp only [hc, hs, hw, hx, ← EReal.coe_mul, ← coe_sum, ← EReal.coe_add]
  rw [sum_turner' (fun k => X r k * col (T r) k)]
  congr 1
  unfold tor
  split
  case isTrue h =>
    have e : (⟨d.val % 32, by omega⟩ : Fin 32) = ⟨d.val, h⟩ := Fin.ext (Nat.mod_eq_of_lt h)
    have e' : (⟨(d.val + 32) % 32, by omega⟩ : Fin 32) = ⟨d.val, h⟩ := Fin.ext (by dsimp only; omega)
    simp only [col, e, e']; ring
  case isFalse h =>
    have e : (⟨d.val % 32, by omega⟩ : Fin 32) = ⟨d.val - 32, by omega⟩ := Fin.ext (by dsimp only; omega)
    have e' : (⟨(d.val - 32) % 32, by omega⟩ : Fin 32) = ⟨d.val - 32, by omega⟩ := Fin.ext (by dsimp only; omega)
    simp only [col, e, e']; ring

end Turn

/-- What the heads of a window share: the turned keys and the values of the window before and of its own, and which of them a query sees. -/
structure Win where
  kp : M64
  kc : M64
  vp : M64
  vc : M64
  okp : IVec S128x128 1
  okc : IVec S128x128 1

namespace Win

variable (W : Win) (q g : M64) (z : N1)

/-- The masked scores. -/
def sc (k : M64) (ok : IVec S128x128 1) : M128 :=
  select ok (mulf (matmul dot_S128x64_S128x64_S128x128_1_1_0_0_n_n none (truncf .bf16 q bitsLt_bf16_f32) (truncf .bf16 k bitsLt_bf16_f32) (constant S128x128 .f32 0x00000000#32))
    (broadcast S128x128 (Scalar.ofBits .f32 0x3E000000#32))) (broadcast S128x128 (Named.named κ "mask" 0xF149F2CA#32))

def sp : M128 := sc q W.kp W.okp
def so : M128 := sc q W.kc W.okc

/-- The largest score of a row, the sink included. -/
def top : C1 := k0_pay108 z (k0_pay107 (W.so q) (W.sp q))

/-- The weights. -/
def ep : M128 := k0_pay125 (W.sp q) (W.top q z)
def eo : M128 := k0_pay117 (W.so q) (W.top q z)

/-- The sink's weight. -/
def ez : C1 := k0_pay134 z (W.top q z)

/-- The denominator. -/
def dn : C1 := k0_pay135 z (W.top q z) (k0_pay133 (W.so q) (W.sp q) (W.top q z))

/-- The gradient of the denominator. -/
def th : C1 := k0_pay243 (k0_pay154 W.vp W.vc (W.eo q z) (W.ep q z)) (k0_pay155 (W.dn q z)) g

/-- The gradient of the scores before the mask. -/
def rp : M128 := k0_pay280 (W.ep q z) (W.th q g z) (k0_pay246 (W.dn q z) (k0_pay153 W.vp) g)
def ro : M128 := k0_pay288 (W.eo q z) (W.th q g z) (k0_pay248 (W.dn q z) (k0_pay151 W.vc) g)

/-- Behind the mask and scaled. -/
def dp : M128 := k0_pay314 W.okp (W.rp q g z)
def do_ : M128 := k0_pay335 W.okc (W.ro q g z)

/-- The gradient of the turned queries. -/
def dq : M64 := addf (k0_pay316 W.okp (k0_pay66 W.kp) (W.rp q g z)) (k0_pay337 W.okc (k0_pay40 W.kc) (W.ro q g z))

/-- What the head adds to the gradient of the turned keys. -/
def dk (d : M128) : M64 := matmul dot_S128x128_S128x64_S128x64_0_0_1_1_n_n none d (truncf .bf16 q bitsLt_bf16_f32) (constant S128x64 .f32 0x00000000#32)

/-- What the head adds to the gradient of the values. -/
def dv (e : M128) : M64 :=
  transpose S128x64 [1, 0] (matmul dot_S128x64_S128x128_S64x128_0_0_1_1_n_n none (divf g (broadcastTo S128x64 (W.dn q z) broadcasts_S128x1_S128x64))
    (truncf .bf16 e bitsLt_bf16_f32) (constant S64x128 .f32 0x00000000#32)) transposes_S64x128_p1_0_S128x64

/-- What the window adds to the gradient of the head's sink. -/
def dz : N1 := k0_pay272 (k0_pay271 (W.ez q z) (W.th q g z))

end Win

/-- The window's blocks hold the arguments of key head `a`. -/
structure Band (W : Win) (A : Args) (a : Fin 2) (n : Fin 64) : Prop where
  kp : ∀ (j : Fin 128) (d : Fin 64), W.kp (ix2 j d) = (A.K a n (lo j) d : EReal)
  kc : ∀ (j : Fin 128) (d : Fin 64), W.kc (ix2 j d) = (A.K a n (hi j) d : EReal)
  vp : ∀ (j : Fin 128) (d : Fin 64), W.vp (ix2 j d) = (A.V a n (lo j) d : EReal)
  vc : ∀ (j : Fin 128) (d : Fin 64), W.vc (ix2 j d) = (A.V a n (hi j) d : EReal)
  okp : ∀ r j : Fin 128, W.okp (ix2 r j) = if ok n r (lo j) then 1#1 else 0#1
  okc : ∀ r j : Fin 128, W.okc (ix2 r j) = if ok n r (hi j) then 1#1 else 0#1

section Head

theorem mask_bot : (Named.named κ "mask" (φ := .f32) 0xF149F2CA#32 : Ideal .f32) = (⊥ : EReal) := rfl

variable {W : Win} {A : Args} {a : Fin 2} {n : Fin 64} (H : Band W A a n) {q g : M64} {z : N1} {h : Fin 8}
  (hq : ∀ r d, q (ix2 r d) = (A.Q a h n r d : EReal)) (hz : z (ix2 0 0) = (A.z (hd a h) : EReal))

section
include H hq

theorem so_at (r j : Fin 128) : W.so q (ix2 r j) = if ok n r (hi j) then (A.S a h n r (hi j) : EReal) else ⊥ := by
  pointwise [Win.so, Win.sc]
  simp only [H.okc, H.kc, hq, mask_bot, eighth, ← EReal.coe_mul, ← coe_sum, select_one, Args.S]

theorem sp_at (r j : Fin 128) : W.sp q (ix2 r j) = if ok n r (lo j) then (A.S a h n r (lo j) : EReal) else ⊥ := by
  pointwise [Win.sp, Win.sc]
  simp only [H.okp, H.kp, hq, mask_bot, eighth, ← EReal.coe_mul, ← coe_sum, select_one, Args.S]

include hz

theorem top_at : ∃ m : Fin 128 → ℝ, ∀ r, W.top q z (ix2 r 0) = (m r : EReal) := by
  have key : ∀ r, ∃ m : ℝ, W.top q z (ix2 r 0) = (m : EReal) := fun r => by
    pointwise [Win.top, k0_pay108, k0_pay107]
    simp only [so_at H hq, sp_at H hq, hz, bits_bot]
    exact real_of_ge _ _ (le_max_right _ _) (max_lt (max_lt (fold_lt_top _ _ fun _ => masked_lt_top _ _) (fold_lt_top _ _ fun _ => masked_lt_top _ _)) (EReal.coe_lt_top _))
  exact ⟨fun r => (key r).choose, fun r => (key r).choose_spec⟩
end

variable {m : Fin 128 → ℝ} (hm : ∀ r, W.top q z (ix2 r 0) = (m r : EReal)) (hg : ∀ r d, g (ix2 r d) = (A.G a h n r d : EReal))

section
include H hq hm

theorem eo_at (r j : Fin 128) : W.eo q z (ix2 r j) = (wt (ok n r) (A.S a h n r) (m r) (hi j) : EReal) := by
  pointwise [Win.eo, k0_pay117]
  rw [so_at H hq, hm, exp_masked]; rfl

theorem ep_at (r j : Fin 128) : W.ep q z (ix2 r j) = (wt (ok n r) (A.S a h n r) (m r) (lo j) : EReal) := by
  pointwise [Win.ep, k0_pay125]
  rw [sp_at H hq, hm, exp_masked]; rfl

include hz

theorem ez_at (r : Fin 128) : W.ez q z (ix2 r 0) = (Real.exp (A.z (hd a h) - m r) : EReal) := by
  pointwise [Win.ez, k0_pay134]
  rw [hz, hm, ← EReal.coe_sub, Ideal.exp_coe]

theorem dn_at (r : Fin 128) : W.dn q z (ix2 r 0) = (den (ok n r) (A.S a h n r) (A.z (hd a h)) (m r) : EReal) := by
  have e1 := eo_at H hq hm
  have e2 := ep_at H hq hm
  have e3 := ez_at H hq hz hm
  unfold Win.eo at e1; unfold Win.ep at e2; unfold Win.ez at e3
  pointwise [Win.dn, k0_pay135, k0_pay133]
  simp only [e1, e2, e3, ← coe_sum, ← EReal.coe_add]
  rw [sum_band]; rfl

include hg

theorem th_at (r : Fin 128) : W.th q g z (ix2 r 0)
    = ((-(mean (ok n r) (A.S a h n r) (A.z (hd a h)) (A.E a h n r) / den (ok n r) (A.S a h n r) (A.z (hd a h)) (m r)) : ℝ) : EReal) := by
  have hd' := (den_pos (ok n r) (A.S a h n r) (A.z (hd a h)) (m r)).ne'
  pointwise [Win.th, k0_pay243, k0_pay155, k0_pay154, k0_pay150, k0_pay151, k0_pay152, k0_pay153]
  simp only [eo_at H hq hm, ep_at H hq hm, dn_at H hq hz hm, H.vp, H.vc, hg]
  have sb : ∀ d : Fin 64, ∑ j, wt (ok n r) (A.S a h n r) (m r) (hi j) * A.V a n (hi j) d + ∑ j, wt (ok n r) (A.S a h n r) (m r) (lo j) * A.V a n (lo j) d
      = ∑ j, wt (ok n r) (A.S a h n r) (m r) j * A.V a n j d := fun d => sum_band (fun j => wt (ok n r) (A.S a h n r) (m r) j * A.V a n j d)
  simp only [← EReal.coe_mul, ← coe_sum, ← EReal.coe_add, Ideal.div_coe (mul_ne_zero hd' hd'), one_mul, sb]
  rw [zero_sub, ← EReal.coe_neg, through' (ok n r) (A.S a h n r) (A.z (hd a h)) (A.E a h n r) (m r) (A.G a h n r) (A.V a n) (fun j => rfl)]

theorem ro_at (r j : Fin 128) : W.ro q g z (ix2 r j) = (dsc (ok n r) (A.S a h n r) (A.z (hd a h)) (A.E a h n r) (hi j) : EReal) := by
  have hd' := (den_pos (ok n r) (A.S a h n r) (A.z (hd a h)) (m r)).ne'
  pointwise [Win.ro, k0_pay288, k0_pay248, k0_pay151, k0_pay244]
  simp only [Fin.sum_univ_one, eo_at H hq hm, th_at H hq hz hm hg, dn_at H hq hz hm, H.vc, hg]
  simp only [← EReal.coe_mul, ← coe_sum, ← EReal.coe_add, Ideal.div_coe hd']
  rw [← dsc_eq _ _ _ _ (m r), cotangent]; rfl

theorem rp_at (r j : Fin 128) : W.rp q g z (ix2 r j) = (dsc (ok n r) (A.S a h n r) (A.z (hd a h)) (A.E a h n r) (lo j) : EReal) := by
  have hd' := (den_pos (ok n r) (A.S a h n r) (A.z (hd a h)) (m r)).ne'
  pointwise [Win.rp, k0_pay280, k0_pay246, k0_pay153, k0_pay244]
  simp only [Fin.sum_univ_one, ep_at H hq hm, th_at H hq hz hm hg, dn_at H hq hz hm, H.vp, hg]
  simp only [← EReal.coe_mul, ← coe_sum, ← EReal.coe_add, Ideal.div_coe hd']
  rw [← dsc_eq _ _ _ _ (m r), cotangent]; rfl

theorem do_at (r j : Fin 128) : W.do_ q g z (ix2 r j) = (A.D a h n r (hi j) : EReal) := by
  have e := ro_at H hq hz hm hg
  pointwise [Win.do_, k0_pay335]
  simp only [e, H.okc, eighth, select_one]
  exact masked_scaled _ _ _ _ _

theorem dp_at (r j : Fin 128) : W.dp q g z (ix2 r j) = (A.D a h n r (lo j) : EReal) := by
  have e := rp_at H hq hz hm hg
  pointwise [Win.dp, k0_pay314]
  simp only [e, H.okp, eighth, select_one]
  exact masked_scaled _ _ _ _ _

theorem dq_at (r : Fin 128) (d : Fin 64) : W.dq q g z (ix2 r d) = (A.dQ a h n r d : EReal) := by
  have e1 := do_at H hq hz hm hg
  have e2 := dp_at H hq hz hm hg
  unfold Win.do_ at e1; unfold Win.dp at e2
  pointwise [Win.dq, k0_pay316, k0_pay337, k0_pay40, k0_pay66]
  simp only [e1, e2, H.kp, H.kc]
  simp only [← EReal.coe_mul, ← coe_sum, ← EReal.coe_add]
  rw [add_comm, sum_band (fun j => A.D a h n r j * A.K a n j d)]; rfl

theorem dko_at (j : Fin 128) (d : Fin 64) : Win.dk q (W.do_ q g z) (ix2 j d) = ((∑ r, A.D a h n r (hi j) * A.Q a h n r d : ℝ) : EReal) := by
  pointwise [Win.dk]
  simp only [do_at H hq hz hm hg, hq, ← EReal.coe_mul, ← coe_sum]

theorem dkp_at (j : Fin 128) (d : Fin 64) : Win.dk q (W.dp q g z) (ix2 j d) = ((∑ r, A.D a h n r (lo j) * A.Q a h n r d : ℝ) : EReal) := by
  pointwise [Win.dk]
  simp only [dp_at H hq hz hm hg, hq, ← EReal.coe_mul, ← coe_sum]

theorem dvo_at (j : Fin 128) (d : Fin 64) : W.dv q g z (W.eo q z) (ix2 j d) = ((∑ r, A.P a h n r (hi j) * A.G a h n r d : ℝ) : EReal) := by
  have hd' := fun r => (den_pos (ok n r) (A.S a h n r) (A.z (hd a h)) (m r)).ne'
  pointwise [Win.dv]
  simp only [eo_at H hq hm, dn_at H hq hz hm, hg]
  simp only [← EReal.coe_mul, ← coe_sum, Ideal.div_coe (hd' _)]
  congr 1
  refine Finset.sum_congr rfl fun r _ => ?_
  rw [Args.P, ← prob_eq _ _ _ (m r)]; ring

theorem dvp_at (j : Fin 128) (d : Fin 64) : W.dv q g z (W.ep q z) (ix2 j d) = ((∑ r, A.P a h n r (lo j) * A.G a h n r d : ℝ) : EReal) := by
  have hd' := fun r => (den_pos (ok n r) (A.S a h n r) (A.z (hd a h)) (m r)).ne'
  pointwise [Win.dv]
  simp only [ep_at H hq hm, dn_at H hq hz hm, hg]
  simp only [← EReal.coe_mul, ← coe_sum, Ideal.div_coe (hd' _)]
  congr 1
  refine Finset.sum_congr rfl fun r _ => ?_
  rw [Args.P, ← prob_eq _ _ _ (m r)]; ring

theorem dz_at : W.dz q g z (ix2 0 0) = ((∑ r, A.dZ a h n r : ℝ) : EReal) := by
  pointwise [Win.dz, k0_pay272, k0_pay271]
  simp only [Fin.sum_univ_one, ez_at H hq hz hm, th_at H hq hz hm hg, ← EReal.coe_mul, dsink_eq, ← coe_sum]
  rfl
end

end Head
-- ==== Proof.AttnOut.lean ====
module

public import proofs.«01_k».proof.Proof.AttnBlk
public import proofs.«01_k».proof.Proof.Gen.AttnBwdIdeal.Frame
public import Idealize.ShloMosaic.Lib.Pipeline.ValueKit

set_option maxRecDepth 16384

@[expose] public section

noncomputable section

open Idealize.ShloMosaic Idealize.ShloMosaic.TcCoe Idealize.SL.Sem
open Idealize.ShloMosaic.Pipeline (Dat)
open scoped BigOperators

namespace Cert.AttnBwdIdeal.Grad
open Cert.AttnBwdIdeal Cert.AttnBwdIdeal.Gen

variable (m : (ℓ : Loc nD τ sig) → Buf (Elt Ideal) ℓ)

section Outputs

/-- What the kernel works on at one grid point: the shared part of the window, the tables of the window and of the one before, the rotation, and each head's turned queries, cotangent and sink. -/
structure Point where
  W : Win
  c : M64
  s : M64
  cp : M64
  sp : M64
  w : FVec Ideal S64x64 .f32
  q : Fin 8 → M64
  g : Fin 8 → M64
  z : Fin 8 → N1

/-- Rounded and widened again. -/
def thru (x : M64) : M64 := extf .f32 (truncf .bf16 x bitsLt_bf16_f32) bitsLt_bf16_f32

/-- The heads' parts in the order the kernel adds them. -/
def total (f : Fin 8 → M64) : M64 :=
  addf (addf (addf (addf (addf (addf (addf (thru (f 7)) (thru (f 6))) (thru (f 5))) (thru (f 4))) (thru (f 3))) (thru (f 2))) (thru (f 1))) (thru (f 0))

namespace Point

variable (p : Point)

def dq (e : Fin 8) : M64 :=
  back p.c p.s p.w (addf (k0_pay316 p.W.okp (k0_pay66 p.W.kp) (p.W.rp (p.q e) (p.g e) (p.z e))) (thru (k0_pay337 p.W.okc (k0_pay40 p.W.kc) (p.W.ro (p.q e) (p.g e) (p.z e)))))
def dkp : M64 := back p.cp p.sp p.w (total fun e => Win.dk (p.q e) (p.W.dp (p.q e) (p.g e) (p.z e)))
def dkc : M64 := back p.c p.s p.w (total fun e => Win.dk (p.q e) (p.W.do_ (p.q e) (p.g e) (p.z e)))
def dvp : M64 := total fun e => p.W.dv (p.q e) (p.g e) (p.z e) (p.W.ep (p.q e) (p.z e))
def dvc : M64 := total fun e => p.W.dv (p.q e) (p.g e) (p.z e) (p.W.eo (p.q e) (p.z e))

/-- The number of each lane. -/
def lane : IVec S1x128 32 := iota Kind.tc S1x128 32 [1] iota_S1x128_d1_w32

def dsk (e : Fin 8) : FVec Ideal S1x128 .f32 := k0_pay297 (k0_pay91 lane) (p.W.dz (p.q e) (p.g e) (p.z e))

end Point

/-- Eight blocks of queries, one after the other. -/
theorem inb_q (e : Fin 8) : ∀ a, (![e.val, 0, 0] : Fin 3 → ℕ) a + S1x128x64.size a ≤ S8x128x64.size a := by
  revert e; decide

theorem inb_z (e : Fin 8) : ∀ a, (![e.val, 0, 0] : Fin 3 → ℕ) a + S1x1x128.size a ≤ S8x1x128.size a := by
  revert e; decide

def wide (x : Memref sig .tc .vmem S128x64 .f32) (hx : x.IsWhole) (b : FVec Ideal S128x64 .f32) : M64 :=
  k0_pay2 (View.readAt (Elt Ideal) x.view (Rect.unit ![0, 0] S128x64.size inb_S128x64_S128x64_0_0).toLoadRect (hx.unread b))

def single (x : Memref sig .tc .vmem S1x128x64 .f32) (hx : x.IsWhole) (b : FVec Ideal S1x128x64 .f32) : M64 :=
  k0_pay15 (View.readAt (Elt Ideal) x.view (Rect.unit ![0, 0, 0] S1x128x64.size inb_S1x128x64_S1x128x64_0_0_0).toLoadRect (hx.unread b))

def head (x : Memref sig .tc .vmem S8x128x64 .f32) (hx : x.IsWhole) (b : FVec Ideal S8x128x64 .f32) (e : Fin 8) : M64 :=
  k0_pay7 (View.readAt (Elt Ideal) x.view (Rect.unit ![e.val, 0, 0] S1x128x64.size (inb_q e) : Rect S8x128x64).toLoadRect (hx.unread b))

def sinkrow (x : Memref sig .tc .vmem S8x1x128 .f32) (hx : x.IsWhole) (b : FVec Ideal S8x1x128 .f32) (e : Fin 8) : FVec Ideal S1x128 .f32 :=
  k0_pay19 (View.readAt (Elt Ideal) x.view (Rect.unit ![e.val, 0, 0] S1x1x128.size (inb_z e) : Rect S8x1x128).toLoadRect (hx.unread b))

def square (x : Memref sig .tc .vmem S64x64 .f32) (hx : x.IsWhole) (b : FVec Ideal S64x64 .f32) : FVec Ideal S64x64 .f32 :=
  k0_pay6 (View.readAt (Elt Ideal) x.view (Rect.unit ![0, 0] S64x64.size inb_S64x64_S64x64_0_0).toLoadRect (hx.unread b))

variable (c : Dev nD) (i : grid0.Coords) (a0 : Memref sig .tc .vmem S8x128x64 .f32) (h0 : a0.IsWhole) (a1 : Memref sig .tc .vmem S1x128x64 .f32) (h1 : a1.IsWhole) (a2 : Memref sig .tc .vmem S1x128x64 .f32) (h2 : a2.IsWhole) (a3 : Memref sig .tc .vmem S1x128x64 .f32) (h3 : a3.IsWhole) (a4 : Memref sig .tc .vmem S1x128x64 .f32) (h4 : a4.IsWhole) (a5 : Memref sig .tc .vmem S8x1x128 .f32) (h5 : a5.IsWhole) (a6 : Memref sig .tc .vmem S128x64 .f32) (h6 : a6.IsWhole) (a7 : Memref sig .tc .vmem S128x64 .f32) (h7 : a7.IsWhole) (a8 : Memref sig .tc .vmem S128x64 .f32) (h8 : a8.IsWhole) (a9 : Memref sig .tc .vmem S128x64 .f32) (h9 : a9.IsWhole) (a10 : Memref sig .tc .vmem S64x64 .f32) (h10 : a10.IsWhole) (a11 : Memref sig .tc .vmem S8x128x64 .f32) (h11 : a11.IsWhole)
  (x0 : FVec Ideal S8x128x64 .f32) (x1 : FVec Ideal S1x128x64 .f32) (x2 : FVec Ideal S1x128x64 .f32) (x3 : FVec Ideal S1x128x64 .f32) (x4 : FVec Ideal S1x128x64 .f32) (x5 : FVec Ideal S8x1x128 .f32) (x6 : FVec Ideal S128x64 .f32) (x7 : FVec Ideal S128x64 .f32) (x8 : FVec Ideal S128x64 .f32) (x9 : FVec Ideal S128x64 .f32) (x10 : FVec Ideal S64x64 .f32) (x11 : FVec Ideal S8x128x64 .f32)

/-- The kernel's operands over the blocks of a grid point. -/
def point : Point where
  c := wide a6 h6 x6
  s := wide a7 h7 x7
  cp := wide a8 h8 x8
  sp := wide a9 h9 x9
  w := square a10 h10 x10
  W :=
    { kp := turn (wide a8 h8 x8) (wide a9 h9 x9) (square a10 h10 x10) (single a1 h1 x1)
      kc := turn (wide a6 h6 x6) (wide a7 h7 x7) (square a10 h10 x10) (single a2 h2 x2)
      vp := single a3 h3 x3
      vc := single a4 h4 x4
      okp := k0_pay38 (Scalar.cmpi CmpIPredicate.sgt (BitVec.ofNat 32 (i 1).val) 0#32)
      okc := k0_pay37 }
  q := fun e => turn (wide a6 h6 x6) (wide a7 h7 x7) (square a10 h10 x10) (head a0 h0 x0 e)
  g := head a11 h11 x11
  z := fun e => k0_pay92 (sinkrow a5 h5 x5 e) Point.lane

/-- A head's block of queries and its row of the sinks' gradient. -/
abbrev qRect (e : Fin 8) : Rect S8x128x64 := Rect.unit ![e.val, 0, 0] S1x128x64.size (inb_q e)
abbrev zRect (e : Fin 8) : Rect S8x1x128 := Rect.unit ![e.val, 0, 0] S1x1x128.size (inb_z e)

/-- The eight blocks of the queries' gradient, the last one stored first. -/
def dqs (p : Point) : List (View.Piece (Elt Ideal) S8x128x64 .f32) :=
  [⟨qRect 7, k0_pay353 (p.dq 7)⟩, ⟨qRect 6, k0_pay353 (p.dq 6)⟩, ⟨qRect 5, k0_pay353 (p.dq 5)⟩, ⟨qRect 4, k0_pay353 (p.dq 4)⟩,
    ⟨qRect 3, k0_pay353 (p.dq 3)⟩, ⟨qRect 2, k0_pay353 (p.dq 2)⟩, ⟨qRect 1, k0_pay353 (p.dq 1)⟩, ⟨qRect 0, k0_pay353 (p.dq 0)⟩]

/-- A block of one key head. -/
def one (x : M64) : List (View.Piece (Elt Ideal) S1x128x64 .f32) :=
  [⟨Rect.unit ![0, 0, 0] S1x128x64.size inb_S1x128x64_S1x128x64_0_0_0, k0_pay348 x⟩]

/-- A head's sum, added to what is stored there. -/
def more (p : Point) (v : View sig .tc .vmem S8x1x128 .f32) (e : Fin 8) (L : List (View.Piece (Elt Ideal) S8x1x128 .f32)) : List (View.Piece (Elt Ideal) S8x1x128 .f32) :=
  ⟨zRect e, k0_pay354 (p.dsk e) (v.readCov L (zRect e).toLoadRect)⟩ :: L

/-- The sums of a first window: over zeros. -/
def firsts (p : Point) (v : View sig .tc .vmem S8x1x128 .f32) : List (View.Piece (Elt Ideal) S8x1x128 .f32) :=
  more p v 7 (more p v 6 (more p v 5 (more p v 4 (more p v 3 (more p v 2 (more p v 1 (more p v 0
    [⟨Rect.unit ![0, 0, 0] S8x1x128.size inb_S8x1x128_S8x1x128_0_0_0, k0_pay352 (F := Ideal)⟩])))))))

/-- A head's sum in any other window. -/
def later (p : Point) (a : Memref sig .tc .vmem S8x1x128 .f32) (h : a.IsWhole) (b : FVec Ideal S8x1x128 .f32) (e : Fin 8) : View.Piece (Elt Ideal) S8x1x128 .f32 :=
  ⟨zRect e, k0_pay354 (p.dsk e) (View.readAt (Elt Ideal) a.view (zRect e).toLoadRect (h.unread b))⟩

def laters (p : Point) (a : Memref sig .tc .vmem S8x1x128 .f32) (h : a.IsWhole) (b : FVec Ideal S8x1x128 .f32) : List (View.Piece (Elt Ideal) S8x1x128 .f32) :=
  [later p a h b 7, later p a h b 6, later p a h b 5, later p a h b 4, later p a h b 3, later p a h b 2, later p a h b 1, later p a h b 0]

/-- The kernel's operands at a grid point. -/
def pt (c : Dev nD) (t : Fin cfg0.N) : Point :=
  point (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the first window of a key head stores. -/
theorem outs_A (c : Dev nD) (t : Fin cfg0.N) (h : t.val % 64 = 0) : outsAt0 m c t.val t.isLt =
    (View.read (Elt Ideal) VO0_12 (VO0_12.writes (Elt Ideal) VO0_12.junk (dqs (pt m c t))),
      View.read (Elt Ideal) VO0_13 (VO0_13.writes (Elt Ideal) VO0_13.junk (one (pt m c t).dkp)),
      View.read (Elt Ideal) VO0_14 (VO0_14.writes (Elt Ideal) VO0_14.junk (one (pt m c t).dkc)),
      View.read (Elt Ideal) VO0_15 (VO0_15.writes (Elt Ideal) VO0_15.junk (one (pt m c t).dvp)),
      View.read (Elt Ideal) VO0_16 (VO0_16.writes (Elt Ideal) VO0_16.junk (one (pt m c t).dvc)),
      View.read (Elt Ideal) VO0_17 (VO0_17.writes (Elt Ideal) VO0_17.junk (firsts (pt m c t) (ms0_17 t).view))) := by
  rw [outsAt0_A m c t h]
  delta out0_A_12 out0_A_13 out0_A_14 out0_A_15 out0_A_16 out0_A_17 kernelRun0_A kernelRun0_A.sl.r_1 kernelRun0_A.sl.r_2 kernelRun0_A.sl.r_3 kernelRun0_A.sl.r_4 kernelRun0_A.sl.r_5 kernelRun0_A.sl.r_6
    kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15
    kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24
    kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33
    kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42
    kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51
    kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60
    kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69
    kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78
    kernelRun0_A.sl.r_79 kernelRun0_A.sl.r_80 kernelRun0_A.sl.r_81 kernelRun0_A.sl.r_82 kernelRun0_A.sl.r_83 kernelRun0_A.sl.r_84 kernelRun0_A.sl.r_85 kernelRun0_A.sl.r_86 kernelRun0_A.sl.r_87
    kernelRun0_A.sl.r_88 kernelRun0_A.sl.r_89 kernelRun0_A.sl.r_90 kernelRun0_A.sl.r_91 kernelRun0_A.sl.r_92 kernelRun0_A.sl.r_93 kernelRun0_A.sl.r_94 kernelRun0_A.sl.r_95 kernelRun0_A.sl.r_96
    kernelRun0_A.sl.r_97 kernelRun0_A.sl.r_98 kernelRun0_A.sl.r_99 kernelRun0_A.sl.r_100 kernelRun0_A.sl.r_101 kernelRun0_A.sl.r_102 kernelRun0_A.sl.r_103 kernelRun0_A.sl.r_104 kernelRun0_A.sl.r_105
    kernelRun0_A.sl.r_106 kernelRun0_A.sl.r_107 kernelRun0_A.sl.r_108 kernelRun0_A.sl.r_109 kernelRun0_A.sl.r_110 kernelRun0_A.sl.r_111 kernelRun0_A.sl.r_112 kernelRun0_A.sl.r_113 kernelRun0_A.sl.r_114
    kernelRun0_A.sl.r_115 kernelRun0_A.sl.r_116 kernelRun0_A.sl.r_117 kernelRun0_A.sl.r_118 kernelRun0_A.sl.r_119 kernelRun0_A.sl.r_120 kernelRun0_A.sl.r_121 kernelRun0_A.sl.r_122 kernelRun0_A.sl.r_123
    kernelRun0_A.sl.r_124 kernelRun0_A.sl.r_125 kernelRun0_A.sl.r_126 kernelRun0_A.sl.r_127 kernelRun0_A.sl.r_128 kernelRun0_A.sl.r_129 kernelRun0_A.sl.r_130 kernelRun0_A.sl.r_131 kernelRun0_A.sl.r_132
    kernelRun0_A.sl.r_133 kernelRun0_A.sl.r_134 kernelRun0_A.sl.r_135 kernelRun0_A.sl.r_136 kernelRun0_A.sl.r_137 kernelRun0_A.sl.r_138 kernelRun0_A.sl.r_139 kernelRun0_A.sl.r_140 kernelRun0_A.sl.r_141
    kernelRun0_A.sl.r_142 kernelRun0_A.sl.r_143 kernelRun0_A.sl.r_144 kernelRun0_A.sl.r_145 kernelRun0_A.sl.r_146 kernelRun0_A.sl.r_147 kernelRun0_A.sl.r_148 kernelRun0_A.sl.r_149 kernelRun0_A.sl.r_150
    kernelRun0_A.sl.r_151 kernelRun0_A.sl.r_152 kernelRun0_A.sl.r_153 kernelRun0_A.sl.r_154 kernelRun0_A.sl.r_155 kernelRun0_A.sl.r_156 kernelRun0_A.sl.r_157 kernelRun0_A.sl.r_158 kernelRun0_A.sl.r_159
    kernelRun0_A.sl.r_160 kernelRun0_A.sl.r_161 kernelRun0_A.sl.r_162 kernelRun0_A.sl.r_163 kernelRun0_A.sl.r_164 kernelRun0_A.sl.r_165 kernelRun0_A.sl.r_166 kernelRun0_A.sl.r_167 kernelRun0_A.sl.r_168
    kernelRun0_A.sl.r_169 kernelRun0_A.sl.r_170 kernelRun0_A.sl.r_171 kernelRun0_A.sl.r_172 kernelRun0_A.sl.r_173 kernelRun0_A.sl.r_174 kernelRun0_A.sl.r_175 kernelRun0_A.sl.r_176 kernelRun0_A.sl.r_177
    kernelRun0_A.sl.r_178 kernelRun0_A.sl.r_179 kernelRun0_A.sl.r_180 kernelRun0_A.sl.r_181 kernelRun0_A.sl.r_182 kernelRun0_A.sl.r_183 kernelRun0_A.sl.r_184 kernelRun0_A.sl.r_185 kernelRun0_A.sl.r_186
    kernelRun0_A.sl.r_187 kernelRun0_A.sl.r_188 kernelRun0_A.sl.r_189 kernelRun0_A.sl.r_190 kernelRun0_A.sl.r_191 kernelRun0_A.sl.r_192 kernelRun0_A.sl.r_193 kernelRun0_A.sl.r_194 kernelRun0_A.sl.r_195
    kernelRun0_A.sl.r_196 kernelRun0_A.sl.r_197 kernelRun0_A.sl.r_198 kernelRun0_A.sl.r_199 kernelRun0_A.sl.r_200 kernelRun0_A.sl.r_201 kernelRun0_A.sl.r_202 kernelRun0_A.sl.r_203 kernelRun0_A.sl.r_204
    kernelRun0_A.sl.r_205 kernelRun0_A.sl.r_206 kernelRun0_A.sl.r_207 kernelRun0_A.sl.r_208 kernelRun0_A.sl.r_209 kernelRun0_A.sl.r_210 kernelRun0_A.sl.r_211 kernelRun0_A.sl.r_212 kernelRun0_A.sl.r_213
    kernelRun0_A.sl.r_214 kernelRun0_A.sl.r_215 kernelRun0_A.sl.r_216 kernelRun0_A.sl.r_217 kernelRun0_A.sl.r_218 kernelRun0_A.sl.r_219 kernelRun0_A.sl.r_220 kernelRun0_A.sl.r_221 kernelRun0_A.sl.r_222
    kernelRun0_A.sl.r_223 kernelRun0_A.sl.r_224 kernelRun0_A.sl.r_225 kernelRun0_A.sl.r_226 kernelRun0_A.sl.r_227 kernelRun0_A.sl.r_228 kernelRun0_A.sl.r_229 kernelRun0_A.sl.r_230 kernelRun0_A.sl.r_231
    kernelRun0_A.sl.r_232 kernelRun0_A.sl.r_233 kernelRun0_A.sl.r_234 kernelRun0_A.sl.r_235 kernelRun0_A.sl.r_236 kernelRun0_A.sl.r_237 kernelRun0_A.sl.r_238 kernelRun0_A.sl.r_239 kernelRun0_A.sl.r_240
    kernelRun0_A.sl.r_241 kernelRun0_A.sl.r_242 kernelRun0_A.sl.r_243 kernelRun0_A.sl.r_244 kernelRun0_A.sl.r_245 kernelRun0_A.sl.r_246 kernelRun0_A.sl.r_247 kernelRun0_A.sl.r_248 kernelRun0_A.sl.r_249
    kernelRun0_A.sl.r_250 kernelRun0_A.sl.r_251 kernelRun0_A.sl.r_252 kernelRun0_A.sl.r_253 kernelRun0_A.sl.r_254 kernelRun0_A.sl.r_255 kernelRun0_A.sl.r_256 kernelRun0_A.sl.r_257 kernelRun0_A.sl.r_258
    kernelRun0_A.sl.r_259 kernelRun0_A.sl.r_260 kernelRun0_A.sl.r_261 kernelRun0_A.sl.r_262 kernelRun0_A.sl.r_263 kernelRun0_A.sl.r_264 kernelRun0_A.sl.r_265 kernelRun0_A.sl.r_266 kernelRun0_A.sl.r_267
    kernelRun0_A.sl.r_268 kernelRun0_A.sl.r_269 kernelRun0_A.sl.r_270 kernelRun0_A.sl.r_271 kernelRun0_A.sl.r_272 kernelRun0_A.sl.r_273 kernelRun0_A.sl.r_274 kernelRun0_A.sl.r_275 kernelRun0_A.sl.r_276
    kernelRun0_A.sl.r_277 kernelRun0_A.sl.r_278 kernelRun0_A.sl.r_279 kernelRun0_A.sl.r_280 kernelRun0_A.sl.r_281 kernelRun0_A.sl.r_282 kernelRun0_A.sl.r_283 kernelRun0_A.sl.r_284 kernelRun0_A.sl.r_285
    kernelRun0_A.sl.r_286 kernelRun0_A.sl.r_287 kernelRun0_A.sl.r_288 kernelRun0_A.sl.r_289 kernelRun0_A.sl.r_290 kernelRun0_A.sl.r_291 kernelRun0_A.sl.r_292 kernelRun0_A.sl.r_293 kernelRun0_A.sl.r_294
    kernelRun0_A.sl.r_295 kernelRun0_A.sl.r_296 kernelRun0_A.sl.r_297 kernelRun0_A.sl.r_298 kernelRun0_A.sl.r_299 kernelRun0_A.sl.r_300 kernelRun0_A.sl.r_301 kernelRun0_A.sl.r_302 kernelRun0_A.sl.r_303
    kernelRun0_A.sl.r_304 kernelRun0_A.sl.r_305 kernelRun0_A.sl.r_306 kernelRun0_A.sl.r_307 kernelRun0_A.sl.r_308 kernelRun0_A.sl.r_309 kernelRun0_A.sl.r_310 kernelRun0_A.sl.r_311 kernelRun0_A.sl.r_312
    kernelRun0_A.sl.r kernelRun0_A.sl.v kernelRun0_A.sl.v_1 kernelRun0_A.sl.v_2 kernelRun0_A.sl.H17_1 kernelRun0_A.sl.H17_2 kernelRun0_A.sl.H17_3 kernelRun0_A.sl.H17_4 kernelRun0_A.sl.H17_5
    kernelRun0_A.sl.H17_6 kernelRun0_A.sl.H17_7 kernelRun0_A.sl.H17_8 kernelRun0_A.sl.v1176 kernelRun0_A.sl.v1194 kernelRun0_A.sl.v1203 kernelRun0_A.sl.v1221 kernelRun0_A.sl.v1230 kernelRun0_A.sl.v10
    kernelRun0_A.sl.v97 kernelRun0_A.sl.cst_311 k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18
    k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40
    k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62
    k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84
    k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105
    k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125
    k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145
    k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165
    k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185
    k0_pay186 k0_pay187 k0_pay188 k0_pay189 k0_pay190 k0_pay191 k0_pay192 k0_pay193 k0_pay194 k0_pay195 k0_pay196 k0_pay197 k0_pay198 k0_pay199 k0_pay200 k0_pay201 k0_pay202 k0_pay203 k0_pay204 k0_pay205
    k0_pay206 k0_pay207 k0_pay208 k0_pay209 k0_pay210 k0_pay211 k0_pay212 k0_pay213 k0_pay214 k0_pay215 k0_pay216 k0_pay217 k0_pay218 k0_pay219 k0_pay220 k0_pay221 k0_pay222 k0_pay223 k0_pay224 k0_pay225
    k0_pay226 k0_pay227 k0_pay228 k0_pay229 k0_pay230 k0_pay231 k0_pay232 k0_pay233 k0_pay234 k0_pay235 k0_pay236 k0_pay237 k0_pay238 k0_pay239 k0_pay240 k0_pay241 k0_pay242 k0_pay243 k0_pay244 k0_pay245
    k0_pay246 k0_pay247 k0_pay248 k0_pay249 k0_pay250 k0_pay251 k0_pay252 k0_pay253 k0_pay254 k0_pay255 k0_pay256 k0_pay257 k0_pay258 k0_pay259 k0_pay260 k0_pay261 k0_pay262 k0_pay263 k0_pay264 k0_pay265
    k0_pay266 k0_pay267 k0_pay268 k0_pay269 k0_pay270 k0_pay271 k0_pay272 k0_pay273 k0_pay274 k0_pay275 k0_pay276 k0_pay277 k0_pay278 k0_pay279 k0_pay280 k0_pay281 k0_pay282 k0_pay283 k0_pay284 k0_pay285
    k0_pay286 k0_pay287 k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305
    k0_pay306 k0_pay307 k0_pay308 k0_pay309 k0_pay310 k0_pay311 k0_pay312 k0_pay313 k0_pay314 k0_pay315 k0_pay316 k0_pay317 k0_pay318 k0_pay319 k0_pay320 k0_pay321 k0_pay322 k0_pay323 k0_pay324 k0_pay325
    k0_pay326 k0_pay327 k0_pay328 k0_pay329 k0_pay330 k0_pay331 k0_pay332 k0_pay333 k0_pay334 k0_pay335 k0_pay336 k0_pay337 k0_pay338 k0_pay339 k0_pay340 k0_pay341 k0_pay342 k0_pay343 k0_pay344 k0_pay345
    k0_pay346 k0_pay347 k0_pay348 k0_pay349 k0_pay350 k0_pay351 k0_pay352 k0_pay353 k0_pay354 k0_pay355 k0_pay356 k0_pay357 k0_pay358 k0_pay359 k0_pay360 k0_pay361 k0_pay362 k0_pay363 k0_pay364 k0_pay365
    k0_pay366 k0_pay367 Point.dq Point.dkp Point.dkc Point.dvp Point.dvc Point.dsk Point.lane total thru back turn point wide single head square sinkrow Win.sc Win.sp Win.so Win.top Win.ep Win.eo Win.ez
    Win.dn Win.th Win.rp Win.ro Win.dp Win.do_ Win.dq Win.dk Win.dv Win.dz dqs one more firsts later laters pt qRect zRect
  dsimp only
  rfl

/-- What every other window stores. -/
theorem outs_B (c : Dev nD) (t : Fin cfg0.N) (h : ¬ t.val % 64 = 0) : outsAt0 m c t.val t.isLt =
    (View.read (Elt Ideal) VO0_12 (VO0_12.writes (Elt Ideal) VO0_12.junk (dqs (pt m c t))),
      View.read (Elt Ideal) VO0_13 (VO0_13.writes (Elt Ideal) VO0_13.junk (one (pt m c t).dkp)),
      View.read (Elt Ideal) VO0_14 (VO0_14.writes (Elt Ideal) VO0_14.junk (one (pt m c t).dkc)),
      View.read (Elt Ideal) VO0_15 (VO0_15.writes (Elt Ideal) VO0_15.junk (one (pt m c t).dvp)),
      View.read (Elt Ideal) VO0_16 (VO0_16.writes (Elt Ideal) VO0_16.junk (one (pt m c t).dvc)),
      View.read (Elt Ideal) VO0_17 (VO0_17.writes (Elt Ideal) VO0_17.junk (laters (pt m c t) (ms0_17 t) (hs0_17 t) (outsAt0 m c (t.val - 1) (Nat.lt_of_le_of_lt (Nat.sub_le _ _) t.isLt)).2.2.2.2.2))) := by
  rw [outsAt0_B m c t h]
  delta out0_B_12 out0_B_13 out0_B_14 out0_B_15 out0_B_16 out0_B_17 kernelRun0_B kernelRun0_B.sl.r_1 kernelRun0_B.sl.r_2 kernelRun0_B.sl.r_3 kernelRun0_B.sl.r_4 kernelRun0_B.sl.r_5 kernelRun0_B.sl.r_6
    kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14 kernelRun0_B.sl.r_15
    kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24
    kernelRun0_B.sl.r_25 kernelRun0_B.sl.r_26 kernelRun0_B.sl.r_27 kernelRun0_B.sl.r_28 kernelRun0_B.sl.r_29 kernelRun0_B.sl.r_30 kernelRun0_B.sl.r_31 kernelRun0_B.sl.r_32 kernelRun0_B.sl.r_33
    kernelRun0_B.sl.r_34 kernelRun0_B.sl.r_35 kernelRun0_B.sl.r_36 kernelRun0_B.sl.r_37 kernelRun0_B.sl.r_38 kernelRun0_B.sl.r_39 kernelRun0_B.sl.r_40 kernelRun0_B.sl.r_41 kernelRun0_B.sl.r_42
    kernelRun0_B.sl.r_43 kernelRun0_B.sl.r_44 kernelRun0_B.sl.r_45 kernelRun0_B.sl.r_46 kernelRun0_B.sl.r_47 kernelRun0_B.sl.r_48 kernelRun0_B.sl.r_49 kernelRun0_B.sl.r_50 kernelRun0_B.sl.r_51
    kernelRun0_B.sl.r_52 kernelRun0_B.sl.r_53 kernelRun0_B.sl.r_54 kernelRun0_B.sl.r_55 kernelRun0_B.sl.r_56 kernelRun0_B.sl.r_57 kernelRun0_B.sl.r_58 kernelRun0_B.sl.r_59 kernelRun0_B.sl.r_60
    kernelRun0_B.sl.r_61 kernelRun0_B.sl.r_62 kernelRun0_B.sl.r_63 kernelRun0_B.sl.r_64 kernelRun0_B.sl.r_65 kernelRun0_B.sl.r_66 kernelRun0_B.sl.r_67 kernelRun0_B.sl.r_68 kernelRun0_B.sl.r_69
    kernelRun0_B.sl.r_70 kernelRun0_B.sl.r_71 kernelRun0_B.sl.r_72 kernelRun0_B.sl.r_73 kernelRun0_B.sl.r_74 kernelRun0_B.sl.r_75 kernelRun0_B.sl.r_76 kernelRun0_B.sl.r_77 kernelRun0_B.sl.r_78
    kernelRun0_B.sl.r_79 kernelRun0_B.sl.r_80 kernelRun0_B.sl.r_81 kernelRun0_B.sl.r_82 kernelRun0_B.sl.r_83 kernelRun0_B.sl.r_84 kernelRun0_B.sl.r_85 kernelRun0_B.sl.r_86 kernelRun0_B.sl.r_87
    kernelRun0_B.sl.r_88 kernelRun0_B.sl.r_89 kernelRun0_B.sl.r_90 kernelRun0_B.sl.r_91 kernelRun0_B.sl.r_92 kernelRun0_B.sl.r_93 kernelRun0_B.sl.r_94 kernelRun0_B.sl.r_95 kernelRun0_B.sl.r_96
    kernelRun0_B.sl.r_97 kernelRun0_B.sl.r_98 kernelRun0_B.sl.r_99 kernelRun0_B.sl.r_100 kernelRun0_B.sl.r_101 kernelRun0_B.sl.r_102 kernelRun0_B.sl.r_103 kernelRun0_B.sl.r_104 kernelRun0_B.sl.r_105
    kernelRun0_B.sl.r_106 kernelRun0_B.sl.r_107 kernelRun0_B.sl.r_108 kernelRun0_B.sl.r_109 kernelRun0_B.sl.r_110 kernelRun0_B.sl.r_111 kernelRun0_B.sl.r_112 kernelRun0_B.sl.r_113 kernelRun0_B.sl.r_114
    kernelRun0_B.sl.r_115 kernelRun0_B.sl.r_116 kernelRun0_B.sl.r_117 kernelRun0_B.sl.r_118 kernelRun0_B.sl.r_119 kernelRun0_B.sl.r_120 kernelRun0_B.sl.r_121 kernelRun0_B.sl.r_122 kernelRun0_B.sl.r_123
    kernelRun0_B.sl.r_124 kernelRun0_B.sl.r_125 kernelRun0_B.sl.r_126 kernelRun0_B.sl.r_127 kernelRun0_B.sl.r_128 kernelRun0_B.sl.r_129 kernelRun0_B.sl.r_130 kernelRun0_B.sl.r_131 kernelRun0_B.sl.r_132
    kernelRun0_B.sl.r_133 kernelRun0_B.sl.r_134 kernelRun0_B.sl.r_135 kernelRun0_B.sl.r_136 kernelRun0_B.sl.r_137 kernelRun0_B.sl.r_138 kernelRun0_B.sl.r_139 kernelRun0_B.sl.r_140 kernelRun0_B.sl.r_141
    kernelRun0_B.sl.r_142 kernelRun0_B.sl.r_143 kernelRun0_B.sl.r_144 kernelRun0_B.sl.r_145 kernelRun0_B.sl.r_146 kernelRun0_B.sl.r_147 kernelRun0_B.sl.r_148 kernelRun0_B.sl.r_149 kernelRun0_B.sl.r_150
    kernelRun0_B.sl.r_151 kernelRun0_B.sl.r_152 kernelRun0_B.sl.r_153 kernelRun0_B.sl.r_154 kernelRun0_B.sl.r_155 kernelRun0_B.sl.r_156 kernelRun0_B.sl.r_157 kernelRun0_B.sl.r_158 kernelRun0_B.sl.r_159
    kernelRun0_B.sl.r_160 kernelRun0_B.sl.r_161 kernelRun0_B.sl.r_162 kernelRun0_B.sl.r_163 kernelRun0_B.sl.r_164 kernelRun0_B.sl.r_165 kernelRun0_B.sl.r_166 kernelRun0_B.sl.r_167 kernelRun0_B.sl.r_168
    kernelRun0_B.sl.r_169 kernelRun0_B.sl.r_170 kernelRun0_B.sl.r_171 kernelRun0_B.sl.r_172 kernelRun0_B.sl.r_173 kernelRun0_B.sl.r_174 kernelRun0_B.sl.r_175 kernelRun0_B.sl.r_176 kernelRun0_B.sl.r_177
    kernelRun0_B.sl.r_178 kernelRun0_B.sl.r_179 kernelRun0_B.sl.r_180 kernelRun0_B.sl.r_181 kernelRun0_B.sl.r_182 kernelRun0_B.sl.r_183 kernelRun0_B.sl.r_184 kernelRun0_B.sl.r_185 kernelRun0_B.sl.r_186
    kernelRun0_B.sl.r_187 kernelRun0_B.sl.r_188 kernelRun0_B.sl.r_189 kernelRun0_B.sl.r_190 kernelRun0_B.sl.r_191 kernelRun0_B.sl.r_192 kernelRun0_B.sl.r_193 kernelRun0_B.sl.r_194 kernelRun0_B.sl.r_195
    kernelRun0_B.sl.r_196 kernelRun0_B.sl.r_197 kernelRun0_B.sl.r_198 kernelRun0_B.sl.r_199 kernelRun0_B.sl.r_200 kernelRun0_B.sl.r_201 kernelRun0_B.sl.r_202 kernelRun0_B.sl.r_203 kernelRun0_B.sl.r_204
    kernelRun0_B.sl.r_205 kernelRun0_B.sl.r_206 kernelRun0_B.sl.r_207 kernelRun0_B.sl.r_208 kernelRun0_B.sl.r_209 kernelRun0_B.sl.r_210 kernelRun0_B.sl.r_211 kernelRun0_B.sl.r_212 kernelRun0_B.sl.r_213
    kernelRun0_B.sl.r_214 kernelRun0_B.sl.r_215 kernelRun0_B.sl.r_216 kernelRun0_B.sl.r_217 kernelRun0_B.sl.r_218 kernelRun0_B.sl.r_219 kernelRun0_B.sl.r_220 kernelRun0_B.sl.r_221 kernelRun0_B.sl.r_222
    kernelRun0_B.sl.r_223 kernelRun0_B.sl.r_224 kernelRun0_B.sl.r_225 kernelRun0_B.sl.r_226 kernelRun0_B.sl.r_227 kernelRun0_B.sl.r_228 kernelRun0_B.sl.r_229 kernelRun0_B.sl.r_230 kernelRun0_B.sl.r_231
    kernelRun0_B.sl.r_232 kernelRun0_B.sl.r_233 kernelRun0_B.sl.r_234 kernelRun0_B.sl.r_235 kernelRun0_B.sl.r_236 kernelRun0_B.sl.r_237 kernelRun0_B.sl.r_238 kernelRun0_B.sl.r_239 kernelRun0_B.sl.r_240
    kernelRun0_B.sl.r_241 kernelRun0_B.sl.r_242 kernelRun0_B.sl.r_243 kernelRun0_B.sl.r_244 kernelRun0_B.sl.r_245 kernelRun0_B.sl.r_246 kernelRun0_B.sl.r_247 kernelRun0_B.sl.r_248 kernelRun0_B.sl.r_249
    kernelRun0_B.sl.r_250 kernelRun0_B.sl.r_251 kernelRun0_B.sl.r_252 kernelRun0_B.sl.r_253 kernelRun0_B.sl.r_254 kernelRun0_B.sl.r_255 kernelRun0_B.sl.r_256 kernelRun0_B.sl.r_257 kernelRun0_B.sl.r_258
    kernelRun0_B.sl.r_259 kernelRun0_B.sl.r_260 kernelRun0_B.sl.r_261 kernelRun0_B.sl.r_262 kernelRun0_B.sl.r_263 kernelRun0_B.sl.r_264 kernelRun0_B.sl.r_265 kernelRun0_B.sl.r_266 kernelRun0_B.sl.r_267
    kernelRun0_B.sl.r_268 kernelRun0_B.sl.r_269 kernelRun0_B.sl.r_270 kernelRun0_B.sl.r_271 kernelRun0_B.sl.r_272 kernelRun0_B.sl.r_273 kernelRun0_B.sl.r_274 kernelRun0_B.sl.r_275 kernelRun0_B.sl.r_276
    kernelRun0_B.sl.r_277 kernelRun0_B.sl.r_278 kernelRun0_B.sl.r_279 kernelRun0_B.sl.r_280 kernelRun0_B.sl.r_281 kernelRun0_B.sl.r_282 kernelRun0_B.sl.r_283 kernelRun0_B.sl.r_284 kernelRun0_B.sl.r_285
    kernelRun0_B.sl.r_286 kernelRun0_B.sl.r_287 kernelRun0_B.sl.r_288 kernelRun0_B.sl.r_289 kernelRun0_B.sl.r_290 kernelRun0_B.sl.r_291 kernelRun0_B.sl.r_292 kernelRun0_B.sl.r_293 kernelRun0_B.sl.r_294
    kernelRun0_B.sl.r_295 kernelRun0_B.sl.r_296 kernelRun0_B.sl.r_297 kernelRun0_B.sl.r_298 kernelRun0_B.sl.r_299 kernelRun0_B.sl.r_300 kernelRun0_B.sl.r_301 kernelRun0_B.sl.r_302 kernelRun0_B.sl.r_303
    kernelRun0_B.sl.r_304 kernelRun0_B.sl.r_305 kernelRun0_B.sl.r_306 kernelRun0_B.sl.r_307 kernelRun0_B.sl.r_308 kernelRun0_B.sl.r_309 kernelRun0_B.sl.r_310 kernelRun0_B.sl.r_311 kernelRun0_B.sl.r_312
    kernelRun0_B.sl.r kernelRun0_B.sl.v kernelRun0_B.sl.v_1 kernelRun0_B.sl.v_2 kernelRun0_B.sl.v1194 kernelRun0_B.sl.v1203 kernelRun0_B.sl.v1221 kernelRun0_B.sl.v10 kernelRun0_B.sl.v97
    kernelRun0_B.sl.cst_311 k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20
    k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42
    k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64
    k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86
    k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107
    k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127
    k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147
    k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167
    k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187
    k0_pay188 k0_pay189 k0_pay190 k0_pay191 k0_pay192 k0_pay193 k0_pay194 k0_pay195 k0_pay196 k0_pay197 k0_pay198 k0_pay199 k0_pay200 k0_pay201 k0_pay202 k0_pay203 k0_pay204 k0_pay205 k0_pay206 k0_pay207
    k0_pay208 k0_pay209 k0_pay210 k0_pay211 k0_pay212 k0_pay213 k0_pay214 k0_pay215 k0_pay216 k0_pay217 k0_pay218 k0_pay219 k0_pay220 k0_pay221 k0_pay222 k0_pay223 k0_pay224 k0_pay225 k0_pay226 k0_pay227
    k0_pay228 k0_pay229 k0_pay230 k0_pay231 k0_pay232 k0_pay233 k0_pay234 k0_pay235 k0_pay236 k0_pay237 k0_pay238 k0_pay239 k0_pay240 k0_pay241 k0_pay242 k0_pay243 k0_pay244 k0_pay245 k0_pay246 k0_pay247
    k0_pay248 k0_pay249 k0_pay250 k0_pay251 k0_pay252 k0_pay253 k0_pay254 k0_pay255 k0_pay256 k0_pay257 k0_pay258 k0_pay259 k0_pay260 k0_pay261 k0_pay262 k0_pay263 k0_pay264 k0_pay265 k0_pay266 k0_pay267
    k0_pay268 k0_pay269 k0_pay270 k0_pay271 k0_pay272 k0_pay273 k0_pay274 k0_pay275 k0_pay276 k0_pay277 k0_pay278 k0_pay279 k0_pay280 k0_pay281 k0_pay282 k0_pay283 k0_pay284 k0_pay285 k0_pay286 k0_pay287
    k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305 k0_pay306 k0_pay307
    k0_pay308 k0_pay309 k0_pay310 k0_pay311 k0_pay312 k0_pay313 k0_pay314 k0_pay315 k0_pay316 k0_pay317 k0_pay318 k0_pay319 k0_pay320 k0_pay321 k0_pay322 k0_pay323 k0_pay324 k0_pay325 k0_pay326 k0_pay327
    k0_pay328 k0_pay329 k0_pay330 k0_pay331 k0_pay332 k0_pay333 k0_pay334 k0_pay335 k0_pay336 k0_pay337 k0_pay338 k0_pay339 k0_pay340 k0_pay341 k0_pay342 k0_pay343 k0_pay344 k0_pay345 k0_pay346 k0_pay347
    k0_pay348 k0_pay349 k0_pay350 k0_pay351 k0_pay352 k0_pay353 k0_pay354 k0_pay355 k0_pay356 k0_pay357 k0_pay358 k0_pay359 k0_pay360 k0_pay361 k0_pay362 k0_pay363 k0_pay364 k0_pay365 k0_pay366 k0_pay367
    Point.dq Point.dkp Point.dkc Point.dvp Point.dvc Point.dsk Point.lane total thru back turn point wide single head square sinkrow Win.sc Win.sp Win.so Win.top Win.ep Win.eo Win.ez Win.dn Win.th Win.rp
    Win.ro Win.dp Win.do_ Win.dq Win.dk Win.dv Win.dz dqs one more firsts later laters pt qRect zRect
  dsimp only
  rfl

end Outputs

end Cert.AttnBwdIdeal.Grad

end
-- ==== Proof.AttnRun.lean ====
/- The attention's gradient, from its blocks to the arrays it leaves. -/
module

public import proofs.«01_k».proof.Proof.AttnOut
public import Idealize.ShloMosaic.Lib.Pipeline.ReadBack

set_option maxRecDepth 16384

@[expose] public section

noncomputable section

open Idealize.ShloMosaic Idealize.ShloMosaic.TcCoe Idealize.SL.Sem
open scoped BigOperators

namespace Cert.AttnBwdIdeal.Grad

open Cert.AttnBwdIdeal Cert.AttnBwdIdeal.Gen Cert.Attn

section Loads

theorem wide_at (x : Memref sig .tc .vmem S128x64 .f32) (hx : x.IsWhole) (b : FVec Ideal S128x64 .f32) (r : Fin 128) (d : Fin 64) :
    wide x hx b (ix2 r d) = b (ix2 r d) := by
  unfold wide
  rw [View.readAt_eq_ld, hx.read_unread]
  pointwise [k0_pay2]

theorem square_at (x : Memref sig .tc .vmem S64x64 .f32) (hx : x.IsWhole) (b : FVec Ideal S64x64 .f32) (r d : Fin 64) :
    square x hx b (ix2 r d) = b (ix2 r d) := by
  unfold square
  rw [View.readAt_eq_ld, hx.read_unread]
  pointwise [k0_pay6]

theorem single_at (x : Memref sig .tc .vmem S1x128x64 .f32) (hx : x.IsWhole) (b : FVec Ideal S1x128x64 .f32) (r : Fin 128) (d : Fin 64) :
    single x hx b (ix2 r d) = b (ix3 0 r d) := by
  unfold single
  rw [View.readAt_eq_ld, hx.read_unread]
  pointwise [k0_pay15]

theorem head_at (x : Memref sig .tc .vmem S8x128x64 .f32) (hx : x.IsWhole) (b : FVec Ideal S8x128x64 .f32) (e : Fin 8) (r : Fin 128) (d : Fin 64) :
    head x hx b e (ix2 r d) = b (ix3 e r d) := by
  unfold head
  rw [View.readAt_eq_ld, hx.read_unread]
  pointwise [k0_pay7]

theorem row_ld (b : FVec Ideal S8x1x128 .f32) (e : Fin 8) (l : Fin 128) : View.ld (Val := Elt Ideal) (e' := .f32) b (zRect e) (ix3 0 0 l) = b (ix3 e 0 l) := by
  refine congrArg b ?_
  funext a; apply Fin.ext
  match a with
  | ⟨0, _⟩ => show e.val + 1 * 0 = e.val; omega
  | ⟨1, _⟩ => show 0 + 1 * 0 = 0; omega
  | ⟨2, _⟩ => show 0 + 1 * l.val = l.val; omega

theorem sinkrow_at (x : Memref sig .tc .vmem S8x1x128 .f32) (hx : x.IsWhole) (b : FVec Ideal S8x1x128 .f32) (e : Fin 8) (l : Fin 128) :
    sinkrow x hx b e (ix2 0 l) = b (ix3 e 0 l) := by
  unfold sinkrow
  rw [View.readAt_eq_ld, hx.read_unread]
  pointwise [k0_pay19]

theorem eq_word {a b : ℕ} (ha : a < 1024) (hb : b < 1024) : IntOp.cmpi .eq (BitVec.ofNat 32 a) (BitVec.ofNat 32 b) = if a = b then 1#1 else 0#1 := by
  have h := WordCmp.ofNat_eq_ofNat_iff (w := 32) (a := a) (b := b) (by norm_num; omega) (by norm_num; omega)
  rw [WordCmp.cmpi_eq_eq]
  by_cases e : a = b <;> simp [e, h]

theorem select_word {a b : ℕ} (ha : a < 1024) (hb : b < 1024) (x y : EReal) :
    Scalar.select (IntOp.cmpi .eq (BitVec.ofNat 32 a) (BitVec.ofNat 32 b)) x y = if a = b then x else y := by
  rw [eq_word ha hb]
  by_cases e : a = b <;> simp [e, Scalar.select]

/-- The first lane of a head's row. -/
theorem first_lane (x : FVec Ideal S1x128 .f32) : k0_pay92 (F := Ideal) x Point.lane (ix2 0 0) = x (ix2 0 0) := by
  pointwise [k0_pay92, k0_pay91, Point.lane]
  have e := fun l : Fin 128 => select_word (a := l.val) (b := 0) (by omega) (by omega) (x (ix2 0 l)) 0
  refine (Finset.sum_congr rfl fun l _ => e l).trans ?_
  rw [Finset.sum_eq_single (0 : Fin 128)]
  · rfl
  · intro l _ hl
    exact if_neg fun h => hl (Fin.ext h)
  · intro h; exact absurd (Finset.mem_univ _) h

theorem dsk_lane (p : Point) (e : Fin 8) (l : Fin 128) : p.dsk e (ix2 0 l) = if l.val = 0 then p.W.dz (p.q e) (p.g e) (p.z e) (ix2 0 0) else 0 := by
  unfold Point.dsk
  generalize p.W.dz (p.q e) (p.g e) (p.z e) = X
  pointwise [k0_pay297, k0_pay91, Point.lane]
  simp only [Fin.sum_univ_one]
  exact select_word (a := l.val) (b := 0) (by omega) (by omega) _ _

end Loads
section Stores

/-- Under the last block stored, and off it. -/
theorem canon_q (e : Fin 8) (w : FVec Ideal S1x128x64 .f32) (L : List (View.Piece (Elt Ideal) S8x128x64 .f32)) (k : Fin 8) (r : Fin 128) (d : Fin 64) :
    View.canon (⟨qRect e, w⟩ :: L) (ix3 k r d) = if k = e then w (ix3 0 r d) else View.canon L (ix3 k r d) := by
  split
  · rename_i h
    subst h
    refine Eq.trans (congrArg _ ?_) (View.canon_cons_emb (qRect k) w L (ix3 0 r d))
    funext a; apply Fin.ext
    match a with
    | ⟨0, _⟩ => show k.val = k.val + 1 * 0; omega
    | ⟨1, _⟩ => show r.val = 0 + 1 * r.val; omega
    | ⟨2, _⟩ => show d.val = 0 + 1 * d.val; omega
  · rename_i h
    refine View.canon_cons_of_not_mem (⟨qRect e, w⟩ : View.Piece (Elt Ideal) S8x128x64 .f32) L ?_
    intro hm
    obtain ⟨j, hj, he⟩ := (LoadRect.mem_set _).mp hm (0 : Fin 3)
    have hj' : j < 1 := hj
    have he' : k.val = e.val + 1 * j := he
    exact h (Fin.ext (by omega))

theorem canon_z (e : Fin 8) (w : FVec Ideal S1x1x128 .f32) (L : List (View.Piece (Elt Ideal) S8x1x128 .f32)) (k : Fin 8) (l : Fin 128) :
    View.canon (⟨zRect e, w⟩ :: L) (ix3 k 0 l) = if k = e then w (ix3 0 0 l) else View.canon L (ix3 k 0 l) := by
  split
  · rename_i h
    subst h
    refine Eq.trans (congrArg _ ?_) (View.canon_cons_emb (zRect k) w L (ix3 0 0 l))
    funext a; apply Fin.ext
    match a with
    | ⟨0, _⟩ => show k.val = k.val + 1 * 0; omega
    | ⟨1, _⟩ => show 0 = 0 + 1 * 0; omega
    | ⟨2, _⟩ => show l.val = 0 + 1 * l.val; omega
  · rename_i h
    refine View.canon_cons_of_not_mem (⟨zRect e, w⟩ : View.Piece (Elt Ideal) S8x1x128 .f32) L ?_
    intro hm
    obtain ⟨j, hj, he⟩ := (LoadRect.mem_set _).mp hm (0 : Fin 3)
    have hj' : j < 1 := hj
    have he' : k.val = e.val + 1 * j := he
    exact h (Fin.ext (by omega))

theorem dqs_at (p : Point) (e : Fin 8) (r : Fin 128) (d : Fin 64) : View.canon (dqs p) (ix3 e r d) = p.dq e (ix2 r d) := by
  have flat : ∀ X : M64, k0_pay353 (F := Ideal) X (ix3 0 r d) = X (ix2 r d) := fun X => by pointwise [k0_pay353]
  unfold dqs
  simp only [canon_q, flat]
  match e with
  | 0 => rfl
  | 1 => rfl
  | 2 => rfl
  | 3 => rfl
  | 4 => rfl
  | 5 => rfl
  | 6 => rfl
  | 7 => rfl

theorem one_at (X : M64) (r : Fin 128) (d : Fin 64) : View.canon (one X) (ix3 0 r d) = X (ix2 r d) := by
  have flat : k0_pay348 (F := Ideal) X (ix3 0 r d) = X (ix2 r d) := by pointwise [k0_pay348]
  unfold one
  simp (disch := decide) only [View.canon_cons_unit_lit']
  exact flat

theorem laters_at (p : Point) (a : Memref sig .tc .vmem S8x1x128 .f32) (h : a.IsWhole) (b : FVec Ideal S8x1x128 .f32) (e : Fin 8) (l : Fin 128) :
    View.canon (laters p a h b) (ix3 e 0 l) = b (ix3 e 0 l) + p.dsk e (ix2 0 l) := by
  have flat : ∀ (X : FVec Ideal S1x128 .f32) (Y : FVec Ideal S1x1x128 .f32), k0_pay354 (F := Ideal) X Y (ix3 0 0 l) = Y (ix3 0 0 l) + X (ix2 0 l) := fun X Y => by
    pointwise [k0_pay354]
  have rd : ∀ e : Fin 8, View.ld (Val := Elt Ideal) (e' := .f32) b (zRect e) (ix3 0 0 l) = b (ix3 e 0 l) := fun e => row_ld b e l
  unfold laters later
  simp only [View.readAt_eq_ld, h.read_unread, canon_z, flat, rd]
  match e with
  | 0 => rfl
  | 1 => rfl
  | 2 => rfl
  | 3 => rfl
  | 4 => rfl
  | 5 => rfl
  | 6 => rfl
  | 7 => rfl

theorem firsts_at (p : Point) (v : View sig .tc .vmem S8x1x128 .f32) (e : Fin 8) (l : Fin 128) :
    View.canon (firsts p v) (ix3 e 0 l) = 0 + p.dsk e (ix2 0 l) := by
  have flat : ∀ (X : FVec Ideal S1x128 .f32) (Y : FVec Ideal S1x1x128 .f32), k0_pay354 (F := Ideal) X Y (ix3 0 0 l) = Y (ix3 0 0 l) + X (ix2 0 l) := fun X Y => by
    pointwise [k0_pay354]
  have zero : ∀ y, k0_pay352 (F := Ideal) y = 0 := fun y => by
    pointwise [k0_pay352]
  have fill : ∀ e : Fin 8, View.ld (Val := Elt Ideal) (e' := .f32) (k0_pay352 (F := Ideal)) (zRect e) (ix3 0 0 l) = 0 := fun e => zero _
  unfold firsts more
  simp (discharger := decide) only [↓View.readCov_skip, ↓View.readCov_fill]
  simp only [canon_z, flat, fill]
  match e with
  | 0 => rfl
  | 1 => rfl
  | 2 => rfl
  | 3 => rfl
  | 4 => rfl
  | 5 => rfl
  | 6 => rfl
  | 7 => rfl

end Stores
section Blocks

variable (m : (ℓ : Loc nD τ sig) → Buf (Elt Ideal) ℓ)

/-- The key head and the window of a grid point. -/
def kh (t : Fin cfg0.N) : Fin 2 := ⟨t.val / 64, by have h : t.val < 128 := t.isLt; omega⟩
def wn (t : Fin cfg0.N) : Fin 64 := ⟨t.val % 64, Nat.mod_lt _ (by decide)⟩

/-- The block indices of the windows at every grid point. -/
theorem idx : ∀ t : Fin cfg0.N, win0_0.index t = ![t.val / 64, t.val % 64, 0]
    ∧ win0_1.index t = ![t.val / 64, t.val % 64 - 1, 0]
    ∧ win0_2.index t = ![t.val / 64, t.val % 64, 0]
    ∧ win0_3.index t = ![t.val / 64, t.val % 64 - 1, 0]
    ∧ win0_4.index t = ![t.val / 64, t.val % 64, 0]
    ∧ win0_5.index t = ![t.val / 64, 0, 0]
    ∧ win0_6.index t = ![t.val % 64, 0]
    ∧ win0_7.index t = ![t.val % 64, 0]
    ∧ win0_8.index t = ![t.val % 64 - 1, 0]
    ∧ win0_9.index t = ![t.val % 64 - 1, 0]
    ∧ win0_10.index t = ![0, 0]
    ∧ win0_11.index t = ![t.val / 64, t.val % 64, 0]
    ∧ win0_12.index t = ![t.val / 64, t.val % 64, 0]
    ∧ win0_13.index t = ![t.val / 64, t.val % 64, 0]
    ∧ win0_14.index t = ![t.val / 64, t.val % 64, 0]
    ∧ win0_15.index t = ![t.val / 64, t.val % 64, 0]
    ∧ win0_16.index t = ![t.val / 64, t.val % 64, 0]
    ∧ win0_17.index t = ![t.val / 64, 0, 0] :=
  (by decide +kernel : ∀ t : Fin grid0.N, _)

theorem coord (t : Fin cfg0.N) : (grid0.coords t 1).val = (wn t).val :=
  (by decide +kernel : ∀ t : Fin grid0.N, (grid0.coords t 1).val = t.val % 64) t

theorem q_blk (c : Dev nD) (t : Fin cfg0.N) (e : Fin 8) (r : Fin 128) (d : Fin 64) : (iblk m c 0 t : FVec Ideal S8x128x64 .f32) (ix3 e r d)
    = m ((c : Thread nD τ).loc main_arg0) (ix3 (hd (kh t) e) (tk (wn t) r) d) := by
  blk_point [iblk, V, idx t, kh, wn, hd, tk]

theorem g_blk (c : Dev nD) (t : Fin cfg0.N) (e : Fin 8) (r : Fin 128) (d : Fin 64) : (iblk m c 11 t : FVec Ideal S8x128x64 .f32) (ix3 e r d)
    = m ((c : Thread nD τ).loc main_arg6) (ix3 (hd (kh t) e) (tk (wn t) r) d) := by
  blk_point [iblk, V, idx t, kh, wn, hd, tk]

theorem kp_blk (c : Dev nD) (t : Fin cfg0.N) (r : Fin 128) (d : Fin 64) : (iblk m c 1 t : FVec Ideal S1x128x64 .f32) (ix3 0 r d)
    = m ((c : Thread nD τ).loc main_arg1) (ix3 (kh t) (tp (wn t) r) d) := by
  blk_point [iblk, V, idx t, kh, wn, tp]

theorem kc_blk (c : Dev nD) (t : Fin cfg0.N) (r : Fin 128) (d : Fin 64) : (iblk m c 2 t : FVec Ideal S1x128x64 .f32) (ix3 0 r d)
    = m ((c : Thread nD τ).loc main_arg1) (ix3 (kh t) (tk (wn t) r) d) := by
  blk_point [iblk, V, idx t, kh, wn, tk]

theorem vp_blk (c : Dev nD) (t : Fin cfg0.N) (r : Fin 128) (d : Fin 64) : (iblk m c 3 t : FVec Ideal S1x128x64 .f32) (ix3 0 r d)
    = m ((c : Thread nD τ).loc main_arg2) (ix3 (kh t) (tp (wn t) r) d) := by
  blk_point [iblk, V, idx t, kh, wn, tp]

theorem vc_blk (c : Dev nD) (t : Fin cfg0.N) (r : Fin 128) (d : Fin 64) : (iblk m c 4 t : FVec Ideal S1x128x64 .f32) (ix3 0 r d)
    = m ((c : Thread nD τ).loc main_arg2) (ix3 (kh t) (tk (wn t) r) d) := by
  blk_point [iblk, V, idx t, kh, wn, tk]

theorem z_blk (c : Dev nD) (t : Fin cfg0.N) (e : Fin 8) (l : Fin 128) : (iblk m c 5 t : FVec Ideal S8x1x128 .f32) (ix3 e 0 l)
    = m ((c : Thread nD τ).loc main_arg3) (ix3 (hd (kh t) e) 0 l) := by
  blk_point [iblk, V, idx t, kh, hd]

theorem place12 (t : Fin cfg0.N) (e : Fin 8) (r : Fin 128) (d : Fin 64) : ((cfg0.win 12).blk t).view.emb (ix3 e r d) = ix3 (hd (kh t) e) (tk (wn t) r) d := by
  blk_point [idx t, kh, wn, hd, tk]

theorem place13 (t : Fin cfg0.N) (r : Fin 128) (d : Fin 64) : ((cfg0.win 13).blk t).view.emb (ix3 0 r d) = ix3 (kh t) (tk (wn t) r) d := by
  blk_point [idx t, kh, wn, tk]

theorem place14 (t : Fin cfg0.N) (r : Fin 128) (d : Fin 64) : ((cfg0.win 14).blk t).view.emb (ix3 0 r d) = ix3 (kh t) (tk (wn t) r) d := by
  blk_point [idx t, kh, wn, tk]

theorem place15 (t : Fin cfg0.N) (r : Fin 128) (d : Fin 64) : ((cfg0.win 15).blk t).view.emb (ix3 0 r d) = ix3 (kh t) (tk (wn t) r) d := by
  blk_point [idx t, kh, wn, tk]

theorem place16 (t : Fin cfg0.N) (r : Fin 128) (d : Fin 64) : ((cfg0.win 16).blk t).view.emb (ix3 0 r d) = ix3 (kh t) (tk (wn t) r) d := by
  blk_point [idx t, kh, wn, tk]

theorem place17 (t : Fin cfg0.N) (e : Fin 8) (l : Fin 128) : ((cfg0.win 17).blk t).view.emb (ix3 e 0 l) = ix3 (hd (kh t) e) 0 l := by
  blk_point [idx t, kh, hd]

end Blocks
section Tables

variable (m : (ℓ : Loc nD τ sig) → Buf (Elt Ideal) ℓ)

/-- A table of the angles, each written twice. -/
def twice (X : FVec Ideal S8192x32 .f32) : FVec Ideal S8192x64 .f32 :=
  concatenate S8192x64 1 [⟨S8192x32, X⟩, ⟨S8192x32, X⟩] concatenates_S8192x32_S8192x32_S8192x64_d1

theorem twice_at (X : FVec Ideal S8192x32 .f32) (t : Fin 8192) (d : Fin 64) : twice X (ix2 t d) = X (ix2 t ⟨d.val % 32, by omega⟩) := by
  pointwise [twice]
  by_cases h : d.val < 32
  · simp only [h, dif_pos]
    refine congrArg X (congrArg (ix2 t) (Fin.ext ?_))
    show d.val = d.val % 32
    omega
  · simp only [h, dif_neg, not_false_eq_true]
    refine congrArg X (congrArg (ix2 t) (Fin.ext ?_))
    show d.val - 32 = d.val % 32
    omega

/-- The matrix of the rotation, as the program builds it. -/
def rotation : FVec Ideal S64x64 .f32 :=
  addf
    (select
      (cmpi CmpIPredicate.eq
        (broadcastInDim S64x64 ![0, 1] bcast_S64x1_S64x64_0_1 (broadcastInDim S64x1 ![0] bcast_S64_S64x1_0 (iotaInDim S64 32 0)))
        (broadcastInDim S64x64 ![0, 1] bcast_S1x64_S64x64_0_1
          (addi (broadcastInDim S1x64 ![1] bcast_S64_S1x64_1 (iotaInDim S64 32 0)) (broadcastInDim S1x64 ![] bcast_S_S1x64 (constantI S_ 32 32#32)))))
      (broadcastInDim S64x64 ![] bcast_S_S64x64 (constant S_ .f32 0xBF800000#32))
      (broadcastInDim S64x64 ![] bcast_S_S64x64 (constant S_ .f32 0x00000000#32)))
    (select
      (cmpi CmpIPredicate.eq
        (broadcastInDim S64x64 ![0, 1] bcast_S64x1_S64x64_0_1
          (addi (broadcastInDim S64x1 ![0] bcast_S64_S64x1_0 (iotaInDim S64 32 0)) (broadcastInDim S64x1 ![] bcast_S_S64x1 (constantI S_ 32 32#32))))
        (broadcastInDim S64x64 ![0, 1] bcast_S1x64_S64x64_0_1 (broadcastInDim S1x64 ![1] bcast_S64_S1x64_1 (iotaInDim S64 32 0))))
      (broadcastInDim S64x64 ![] bcast_S_S64x64 (constant S_ .f32 0x3F800000#32))
      (broadcastInDim S64x64 ![] bcast_S_S64x64 (constant S_ .f32 0x00000000#32)))

theorem rotation_at (i j : Fin 64) : rotation (ix2 i j) = (turner i j : EReal) := by
  pointwise [rotation]
  have e1 : IntOp.addi (BitVec.ofNat 32 j.val) 32#32 = BitVec.ofNat 32 (j.val + 32) := (BitVec.ofNat_add _ _).symm
  have e2 : IntOp.addi (BitVec.ofNat 32 i.val) 32#32 = BitVec.ofNat 32 (i.val + 32) := (BitVec.ofNat_add _ _).symm
  rw [e1, e2, select_word (by omega) (by omega), select_word (by omega) (by omega), turner]
  have e3 : Ideal.ofBits .f32 0xBF800000#32 = -1 := IdealRules.sign_bit.ideal_negOnePat .f32
  rw [e3]
  split_ifs with h1 h2
  · omega
  · norm_num
  · norm_num
  · norm_num

theorem table_c (c : Dev nD) : (V m c main_v19 : FVec Ideal S8192x64 .f32) = twice (m ((c : Thread nD τ).loc main_arg4)) := by
  rfl

theorem table_s (c : Dev nD) : (V m c main_v20 : FVec Ideal S8192x64 .f32) = twice (m ((c : Thread nD τ).loc main_arg5)) := by
  rfl

theorem table_w (c : Dev nD) : (V m c main_v18 : FVec Ideal S64x64 .f32) = rotation := by
  rfl

theorem c_blk (c : Dev nD) (t : Fin cfg0.N) (r : Fin 128) (d : Fin 64) : (iblk m c 6 t : FVec Ideal S128x64 .f32) (ix2 r d)
    = (V m c main_v19 : FVec Ideal S8192x64 .f32) (ix2 (tk (wn t) r) d) := by
  blk_point [iblk, idx t, wn, tk]

theorem s_blk (c : Dev nD) (t : Fin cfg0.N) (r : Fin 128) (d : Fin 64) : (iblk m c 7 t : FVec Ideal S128x64 .f32) (ix2 r d)
    = (V m c main_v20 : FVec Ideal S8192x64 .f32) (ix2 (tk (wn t) r) d) := by
  blk_point [iblk, idx t, wn, tk]

theorem cp_blk (c : Dev nD) (t : Fin cfg0.N) (r : Fin 128) (d : Fin 64) : (iblk m c 8 t : FVec Ideal S128x64 .f32) (ix2 r d)
    = (V m c main_v19 : FVec Ideal S8192x64 .f32) (ix2 (tp (wn t) r) d) := by
  blk_point [iblk, idx t, wn, tp]

theorem sp_blk (c : Dev nD) (t : Fin cfg0.N) (r : Fin 128) (d : Fin 64) : (iblk m c 9 t : FVec Ideal S128x64 .f32) (ix2 r d)
    = (V m c main_v20 : FVec Ideal S8192x64 .f32) (ix2 (tp (wn t) r) d) := by
  blk_point [iblk, idx t, wn, tp]

theorem w_blk (c : Dev nD) (t : Fin cfg0.N) (i j : Fin 64) : (iblk m c 10 t : FVec Ideal S64x64 .f32) (ix2 i j)
    = (V m c main_v18 : FVec Ideal S64x64 .f32) (ix2 i j) := by
  blk_point [iblk, idx t]

end Tables
section Values

theorem tj_lo (n : Fin 64) (j : Fin 128) : tj n (lo j) = tp n j := dif_pos j.isLt

theorem tj_hi (n : Fin 64) (j : Fin 128) : tj n (hi j) = tk n j := by
  unfold tj
  rw [dif_neg (by simp only [hi]; omega)]
  exact congrArg (tk n) (Fin.ext (by simp only [hi]; omega))

variable (m : (ℓ : Loc nD τ sig) → Buf (Elt Ideal) ℓ)

/-- The call's arguments on a device are the reals `A`. -/
structure Held (A : Args) (u : Dev nD) : Prop where
  q : ∀ (a : Fin 16) (t : Fin 8192) (d : Fin 64), (m ((u : Thread nD τ).loc main_arg0) : FVec Ideal S16x8192x64 .f32) (ix3 a t d) = (A.q a t d : EReal)
  k : ∀ (a : Fin 2) (t : Fin 8192) (d : Fin 64), (m ((u : Thread nD τ).loc main_arg1) : FVec Ideal S2x8192x64 .f32) (ix3 a t d) = (A.k a t d : EReal)
  v : ∀ (a : Fin 2) (t : Fin 8192) (d : Fin 64), (m ((u : Thread nD τ).loc main_arg2) : FVec Ideal S2x8192x64 .f32) (ix3 a t d) = (A.v a t d : EReal)
  z : ∀ (a : Fin 16), (m ((u : Thread nD τ).loc main_arg3) : FVec Ideal S16x1x128 .f32) (ix3 a (0 : Fin 1) (0 : Fin 128)) = (A.z a : EReal)
  c : ∀ (t : Fin 8192) (d : Fin 32), (m ((u : Thread nD τ).loc main_arg4) : FVec Ideal S8192x32 .f32) (ix2 t d) = (A.c t d : EReal)
  s : ∀ (t : Fin 8192) (d : Fin 32), (m ((u : Thread nD τ).loc main_arg5) : FVec Ideal S8192x32 .f32) (ix2 t d) = (A.s t d : EReal)
  g : ∀ (a : Fin 16) (t : Fin 8192) (d : Fin 64), (m ((u : Thread nD τ).loc main_arg6) : FVec Ideal S16x8192x64 .f32) (ix3 a t d) = (A.g a t d : EReal)

variable {m} {A : Args} {c : Dev nD} (H : Held m A c) (t : Fin cfg0.N)
include H

theorem c_at (r : Fin 128) (d : Fin 64) : (pt m c t).c (ix2 r d) = (col (A.c (tk (wn t) r)) d : EReal) := by
  refine (wide_at _ _ _ r d).trans ?_
  rw [c_blk, table_c, twice_at]
  exact H.c _ _

theorem s_at (r : Fin 128) (d : Fin 64) : (pt m c t).s (ix2 r d) = (col (A.s (tk (wn t) r)) d : EReal) := by
  refine (wide_at _ _ _ r d).trans ?_
  rw [s_blk, table_s, twice_at]
  exact H.s _ _

theorem cp_at (r : Fin 128) (d : Fin 64) : (pt m c t).cp (ix2 r d) = (col (A.c (tp (wn t) r)) d : EReal) := by
  refine (wide_at _ _ _ r d).trans ?_
  rw [cp_blk, table_c, twice_at]
  exact H.c _ _

theorem sp_at' (r : Fin 128) (d : Fin 64) : (pt m c t).sp (ix2 r d) = (col (A.s (tp (wn t) r)) d : EReal) := by
  refine (wide_at _ _ _ r d).trans ?_
  rw [sp_blk, table_s, twice_at]
  exact H.s _ _

omit H in
theorem w_at (i j : Fin 64) : (pt m c t).w (ix2 i j) = (turner i j : EReal) := by
  refine (square_at _ _ _ i j).trans ?_
  rw [w_blk, table_w, rotation_at]

theorem q_at (e : Fin 8) (r : Fin 128) (d : Fin 64) : (pt m c t).q e (ix2 r d) = (A.Q (kh t) e (wn t) r d : EReal) :=
  turn_at (c_at H t) (s_at H t) (w_at t) (fun r d => (head_at _ _ _ e r d).trans ((q_blk m c t e r d).trans (H.q _ _ _))) r d

theorem g_at (e : Fin 8) (r : Fin 128) (d : Fin 64) : (pt m c t).g e (ix2 r d) = (A.G (kh t) e (wn t) r d : EReal) :=
  (head_at _ _ _ e r d).trans ((g_blk m c t e r d).trans (H.g _ _ _))

theorem z_at (e : Fin 8) : (pt m c t).z e (ix2 0 0) = (A.z (hd (kh t) e) : EReal) :=
  (first_lane _).trans ((sinkrow_at _ _ _ e 0).trans ((z_blk m c t e 0).trans (H.z _)))

theorem band : Band (pt m c t).W A (kh t) (wn t) where
  kp j d := by
    unfold Args.K
    rw [tj_lo]
    exact turn_at (cp_at H t) (sp_at' H t) (w_at t) (fun r d => (single_at _ _ _ r d).trans ((kp_blk m c t r d).trans (H.k _ _ _))) j d
  kc j d := by
    unfold Args.K
    rw [tj_hi]
    exact turn_at (c_at H t) (s_at H t) (w_at t) (fun r d => (single_at _ _ _ r d).trans ((kc_blk m c t r d).trans (H.k _ _ _))) j d
  vp j d := by
    unfold Args.V
    rw [tj_lo]
    exact (single_at _ _ _ j d).trans ((vp_blk m c t j d).trans (H.v _ _ _))
  vc j d := by
    unfold Args.V
    rw [tj_hi]
    exact (single_at _ _ _ j d).trans ((vc_blk m c t j d).trans (H.v _ _ _))
  okp r j := by
    have h1 := sgt_word (a := j.val) (b := r.val) (by omega) (by omega)
    have h2 := sgt_word (a := (wn t).val) (b := 0) (by omega) (by omega)
    show k0_pay38 (Scalar.cmpi CmpIPredicate.sgt (BitVec.ofNat 32 (grid0.coords t 1).val) 0#32) (ix2 r j) = _
    rw [coord]
    pointwise [k0_pay38]
    rw [h1]
    refine (congrArg (IntOp.andi _) h2).trans ((andi_ite _ _).trans ?_)
    refine if_congr ?_ rfl rfl
    unfold ok
    simp only [lo]
    omega
  okc r j := by
    have h1 := sle_word (a := j.val) (b := r.val) (by omega) (by omega)
    show k0_pay37 (ix2 r j) = _
    pointwise [k0_pay37]
    rw [h1]
    refine if_congr ?_ rfl rfl
    unfold ok
    simp only [hi]
    omega

theorem top (e : Fin 8) : ∃ f : Fin 128 → ℝ, ∀ r, (pt m c t).W.top ((pt m c t).q e) ((pt m c t).z e) (ix2 r 0) = (f r : EReal) :=
  top_at (band H t) (q_at H t e) (z_at H t e)

omit H in
/-- The heads' parts, added up. -/
theorem total_at {f : Fin 8 → M64} {x : Fin 8 → ℝ} {r : Fin 128} {d : Fin 64} (h : ∀ e, f e (ix2 r d) = (x e : EReal)) : total f (ix2 r d) = ((∑ e, x e : ℝ) : EReal) := by
  pointwise [total, thru]
  simp only [h, ← EReal.coe_add, Fin.sum_univ_eight]
  congr 1
  ring

theorem dq_pt (e : Fin 8) (r : Fin 128) (d : Fin 64) : (pt m c t).dq e (ix2 r d) = (tor (A.dQ (kh t) e (wn t) r) (A.c (tk (wn t) r)) (A.s (tk (wn t) r)) d : EReal) := by
  obtain ⟨f, hf⟩ := top H t e
  exact back_at (c_at H t) (s_at H t) (w_at t) (fun r d => dq_at (band H t) (q_at H t e) (z_at H t e) hf (g_at H t e) r d) r d

theorem dkp_pt (j : Fin 128) (d : Fin 64) : (pt m c t).dkp (ix2 j d) = (tor (A.dK (kh t) (wn t) (lo j)) (A.c (tp (wn t) j)) (A.s (tp (wn t) j)) d : EReal) :=
  back_at (cp_at H t) (sp_at' H t) (w_at t) (fun j d => total_at fun e => dkp_at (band H t) (q_at H t e) (z_at H t e) (top H t e).choose_spec (g_at H t e) j d) j d

theorem dkc_pt (j : Fin 128) (d : Fin 64) : (pt m c t).dkc (ix2 j d) = (tor (A.dK (kh t) (wn t) (hi j)) (A.c (tk (wn t) j)) (A.s (tk (wn t) j)) d : EReal) :=
  back_at (c_at H t) (s_at H t) (w_at t) (fun j d => total_at fun e => dko_at (band H t) (q_at H t e) (z_at H t e) (top H t e).choose_spec (g_at H t e) j d) j d

theorem dvp_pt (j : Fin 128) (d : Fin 64) : (pt m c t).dvp (ix2 j d) = (A.dV (kh t) (wn t) (lo j) d : EReal) :=
  total_at fun e => dvp_at (band H t) (q_at H t e) (z_at H t e) (top H t e).choose_spec (g_at H t e) j d

theorem dvc_pt (j : Fin 128) (d : Fin 64) : (pt m c t).dvc (ix2 j d) = (A.dV (kh t) (wn t) (hi j) d : EReal) :=
  total_at fun e => dvo_at (band H t) (q_at H t e) (z_at H t e) (top H t e).choose_spec (g_at H t e) j d

theorem dsk_pt (e : Fin 8) (l : Fin 128) : (pt m c t).dsk e (ix2 0 l) = if l.val = 0 then ((∑ r, A.dZ (kh t) e (wn t) r : ℝ) : EReal) else 0 := by
  rw [dsk_lane, dz_at (band H t) (q_at H t e) (z_at H t e) (top H t e).choose_spec (g_at H t e)]

end Values

end Cert.AttnBwdIdeal.Grad

end
-- ==== Proof.AttnRef.lean ====
/- The reference's gradient of the sliding-window attention with sinks, as functions of real arguments. -/
module

public import proofs.«01_k».proof.Proof.AttnMath
public import proofs.«01_k».proof.Proof.Gen.AttnBwdRefIdeal.Run

set_option maxRecDepth 16384

@[expose] public section

noncomputable section

open Idealize.ShloMosaic Idealize.ShloMosaic.TcCoe Idealize.SL.Sem
open scoped BigOperators

namespace Cert.AttnBwdRefIdeal.Grad

open Cert.Attn
open Cert.AttnBwdRefIdeal Cert.AttnBwdRefIdeal.Gen Cert.AttnBwdRefIdeal.Value Idealize.ShloMosaic.StableHlo

/-- The arguments hold the reals `A`. -/
structure Holds (W : Valuation τ sig (Elt Ideal)) (A : Args) : Prop where
  q : ∀ (a : Fin 16) (t : Fin 8192) (d : Fin 64), (W (Proc.devRef .tc main_arg0) : FVec Ideal S16x8192x64 .f32) (ix3 a t d) = (A.q a t d : EReal)
  k : ∀ (a : Fin 2) (t : Fin 8192) (d : Fin 64), (W (Proc.devRef .tc main_arg1) : FVec Ideal S2x8192x64 .f32) (ix3 a t d) = (A.k a t d : EReal)
  v : ∀ (a : Fin 2) (t : Fin 8192) (d : Fin 64), (W (Proc.devRef .tc main_arg2) : FVec Ideal S2x8192x64 .f32) (ix3 a t d) = (A.v a t d : EReal)
  z : ∀ (a : Fin 16), (W (Proc.devRef .tc main_arg3) : FVec Ideal S16x1x128 .f32) (ix3 a (0 : Fin 1) (0 : Fin 128)) = (A.z a : EReal)
  c : ∀ (t : Fin 8192) (d : Fin 32), (W (Proc.devRef .tc main_arg4) : FVec Ideal S8192x32 .f32) (ix2 t d) = (A.c t d : EReal)
  s : ∀ (t : Fin 8192) (d : Fin 32), (W (Proc.devRef .tc main_arg5) : FVec Ideal S8192x32 .f32) (ix2 t d) = (A.s t d : EReal)
  g : ∀ (a : Fin 16) (t : Fin 8192) (d : Fin 64), (W (Proc.devRef .tc main_arg6) : FVec Ideal S16x8192x64 .f32) (ix3 a t d) = (A.g a t d : EReal)

variable {W : Valuation τ sig (Elt Ideal)} {A : Args} (H : Holds W A)
include H

theorem r23 (a : Fin 2) (h : Fin 8) (n : Fin 64) (r : Fin 128) (d : Fin 64) : (res_main_v23 W : FVec Ideal S2x8x64x128x64 .f32) (ix5 a h n r d) = (A.Q a h n r d : EReal) := by
  pointwise [res_main_v23, res_main_v6, res_main_v7, res_main_v8, res_main_v11, res_main_v15, res_main_v18]
  split
  case isTrue h' =>
    simp only [H.q, H.c, H.s]
    exact (rot_lt (A.q (hd a h) (tk n r)) (A.c (tk n r)) (A.s (tk n r)) d h').symm
  case isFalse h' =>
    simp only [H.q, H.c, H.s]
    exact (rot_ge (A.q (hd a h) (tk n r)) (A.c (tk n r)) (A.s (tk n r)) d h').symm

omit H in
/-- The token a window's length before. -/
def bef (t : Fin 8192) : Fin 8192 := if h : t.val < 128 then t else ⟨t.val - 128, by omega⟩

omit H in
theorem bef_tk (n : Fin 64) (j : Fin 128) : bef (tk n j) = tp n j := by
  unfold bef
  split
  case isTrue h => exact Fin.ext (by dsimp only [tk, tp] at h ⊢; omega)
  case isFalse h => exact Fin.ext (by dsimp only [tk, tp] at h ⊢; omega)

theorem r2 (a : Fin 2) (t : Fin 8192) (d : Fin 64) : (res_main_v2 W : FVec Ideal S2x8192x64 .f32) (ix3 a t d) = (A.k a (bef t) d : EReal) := by
  pointwise [res_main_v2]
  unfold bef
  split <;> exact H.k _ _ _

theorem r26 (t : Fin 8192) (d : Fin 32) : (res_main_v26 W : FVec Ideal S8192x32 .f32) (ix2 t d) = (A.c (bef t) d : EReal) := by
  pointwise [res_main_v26]
  unfold bef
  split <;> exact H.c _ _

theorem r29 (t : Fin 8192) (d : Fin 32) : (res_main_v29 W : FVec Ideal S8192x32 .f32) (ix2 t d) = (A.s (bef t) d : EReal) := by
  pointwise [res_main_v29]
  unfold bef
  split <;> exact H.s _ _

theorem r69 (a : Fin 2) (n : Fin 64) (j : Fin 256) (d : Fin 64) : (res_main_v69 W : FVec Ideal S2x64x256x64 .f32) (ix4 a n j d) = (A.V a n j d : EReal) := by
  pointwise [res_main_v69]
  change _ = ((A.v a (tj n j) d : ℝ) : EReal)
  unfold tj
  split
  case isTrue h =>
    split
    case isTrue h' =>
      rw [H.v]
      have e : (⟨n.val * 128 + j.val, by omega⟩ : Fin 8192) = tp n ⟨j.val, h⟩ := Fin.ext (by dsimp only [tp]; omega)
      rw [e]
    case isFalse h' =>
      rw [H.v]
      have e : (⟨n.val * 128 + j.val - 128, by omega⟩ : Fin 8192) = tp n ⟨j.val, h⟩ := Fin.ext (by dsimp only [tp]; omega)
      rw [e]
  case isFalse h => rw [H.v]; rfl

theorem r66 (a : Fin 2) (n : Fin 64) (j : Fin 256) (d : Fin 64) : (res_main_v66 W : FVec Ideal S2x64x256x64 .f32) (ix4 a n j d) = (A.K a n j d : EReal) := by
  pointwise [res_main_v66, res_main_v30, res_main_v31, res_main_v32, res_main_v35, res_main_v39, res_main_v42, res_main_v48, res_main_v49, res_main_v50, res_main_v53, res_main_v57, res_main_v60]
  split
  case isTrue hj =>
    have e : (⟨n.val * 128 + j.val, by omega⟩ : Fin 8192) = tk n ⟨j.val, hj⟩ := rfl
    have t : tj n j = tp n ⟨j.val, hj⟩ := dif_pos hj
    have hK : A.K a n j d = rot (A.k a (tp n ⟨j.val, hj⟩)) (A.c (tp n ⟨j.val, hj⟩)) (A.s (tp n ⟨j.val, hj⟩)) d := by rw [← t]; rfl
    simp only [r2 H, r26 H, r29 H, e, bef_tk]
    refine Eq.trans ?_ (congrArg Real.toEReal hK).symm
    split
    case isTrue h' => exact (rot_lt _ _ _ d h').symm
    case isFalse h' => exact (rot_ge _ _ _ d h').symm
  case isFalse hj =>
    have t : tj n j = tk n ⟨j.val - 128, by omega⟩ := dif_neg hj
    have hK : A.K a n j d = rot (A.k a (tk n ⟨j.val - 128, by omega⟩)) (A.c (tk n ⟨j.val - 128, by omega⟩)) (A.s (tk n ⟨j.val - 128, by omega⟩)) d := by rw [← t]; rfl
    simp only [H.k, H.c, H.s]
    refine Eq.trans ?_ (congrArg Real.toEReal hK).symm
    split
    case isTrue h' => exact (rot_lt _ _ _ d h').symm
    case isFalse h' => exact (rot_ge _ _ _ d h').symm

theorem r106 (a : Fin 2) (h : Fin 8) (x y z : Fin 1) : (res_main_v106 W : FVec Ideal S2x8x1x1x1 .f32) (ix5 a h x y z) = (A.z (hd a h) : EReal) := by
  pointwise [res_main_v106]
  exact H.z _

omit H in
theorem r102b (a : Fin 2) (h : Fin 8) (n : Fin 64) (r : Fin 128) (j : Fin 256) : (res_main_v102_1 W : IVec S2x8x64x128x256 1) (ix5 a h n r j) = if ok n r j then 1#1 else 0#1 := by
  pointwise [res_main_v102_1, res_main_v75, res_main_v77]
  exact band_word n r j

theorem r102 (a : Fin 2) (h : Fin 8) (n : Fin 64) (r : Fin 128) (j : Fin 256) : (res_main_v102_0 W : FVec Ideal S2x8x64x128x256 .f32) (ix5 a h n r j) = if ok n r j then (A.S a h n r j : EReal) else ⊥ := by
  pointwise [res_main_v102_0]
  simp only [r102b, r66 H, r23 H, select_one, eighth, ← EReal.coe_mul, ← coe_sum]
  have e : (∑ i, A.K a n j i * A.Q a h n r i) * (1 / 8) = A.S a h n r j :=
    congrArg (· * (1 / 8 : ℝ)) (Finset.sum_congr rfl fun i _ => mul_comm _ _)
  rw [e]
  exact congrArg (fun b : EReal => if ok n r j then (A.S a h n r j : EReal) else b) bits_bot

theorem r107 (a : Fin 2) (h : Fin 8) (n : Fin 64) (r : Fin 128) : @LT.lt EReal _ ((res_main_v107 W : FVec Ideal S2x8x64x128 .f32) (ix4 a h n r)) ⊤ := by
  have hX : ∀ i, @LT.lt EReal _ ((res_main_v102_0 W : FVec Ideal S2x8x64x128x256 .f32) i) ⊤ := by
    intro i
    obtain ⟨a, h, n, r, j, rfl⟩ : ∃ (a : Fin 2) (h : Fin 8) (n : Fin 64) (r : Fin 128) (j : Fin 256), i = ix5 a h n r j := ⟨_, _, _, _, _, eq_ix5 (n0 := 2) (n1 := 8) (n2 := 64) (n3 := 128) (n4 := 256) i⟩
    rw [r102 H]
    exact masked_lt_top _ _
  unfold res_main_v107
  generalize (res_main_v102_0 W) = X at hX ⊢
  pointwise []
  rw [bits_bot]
  exact fold_lt_top _ _ hX

omit H in
theorem r115a (a : Fin 2) (h : Fin 8) (n : Fin 64) (r : Fin 128) : (res_main_v115 W : FVec Ideal S2x8x64x128x1 .f32) (ix5 a h n r 0)
    = @max EReal _ ((res_main_v107 W : FVec Ideal S2x8x64x128 .f32) (ix4 a h n r)) ((res_main_v106 W : FVec Ideal S2x8x1x1x1 .f32) (ix5 a h 0 0 0)) := by
  have e1 : (res_main_v113 W : FVec Ideal S2x8x64x128x1 .f32) (ix5 a h n r 0) = (res_main_v107 W : FVec Ideal S2x8x64x128 .f32) (ix4 a h n r) := by
    pointwise [res_main_v113]
  have e2 : ∀ Z : FVec Ideal S2x8x1x1x1 .f32, broadcastInDim S2x8x64x128x1 ![0, 1, 2, 3, 4] bcast_S2x8x1x1x1_S2x8x64x128x1_0_1_2_3_4 Z (ix5 a h n r 0) = Z (ix5 a h 0 0 0) := by
    intro Z
    pointwise []
  have e3 : ∀ (X Y : FVec Ideal S2x8x64x128x1 .f32) (i : S2x8x64x128x1.Idx), maximumf X Y i = @max EReal _ (X i) (Y i) := fun _ _ _ => rfl
  unfold res_main_v115
  exact (e3 _ _ _).trans (congrArg₂ (@max EReal _) e1 (e2 _))

theorem r115 (a : Fin 2) (h : Fin 8) (n : Fin 64) (r : Fin 128) : ∃ m : ℝ, (res_main_v115 W : FVec Ideal S2x8x64x128x1 .f32) (ix5 a h n r 0) = (m : EReal) := by
  have h1 := r107 H a h n r
  have h2 := r106 H a h 0 0 0
  obtain ⟨m, hm⟩ := real_of_ge (@max EReal _ ((res_main_v107 W : FVec Ideal S2x8x64x128 .f32) (ix4 a h n r)) (A.z (hd a h))) (A.z (hd a h)) (le_max_right _ _) (max_lt h1 (EReal.coe_lt_top _))
  exact ⟨m, (r115a a h n r).trans ((congrArg (@max EReal _ _) h2).trans hm)⟩

variable {m : Fin 2 → Fin 8 → Fin 64 → Fin 128 → ℝ} (hm : ∀ a h n r, (res_main_v115 W : FVec Ideal S2x8x64x128x1 .f32) (ix5 a h n r 0) = (m a h n r : EReal))
include hm

theorem r136 (a : Fin 2) (h : Fin 8) (n : Fin 64) (r : Fin 128) (j : Fin 256) : (res_main_v136 W : FVec Ideal S2x8x64x128x256 .f32) (ix5 a h n r j) = (wt (ok n r) (A.S a h n r) (m a h n r) j : EReal) := by
  pointwise [res_main_v136]
  simp only [r102 H, hm, exp_masked, wt]

theorem r141 (a : Fin 2) (h : Fin 8) (n : Fin 64) (r : Fin 128) (x : Fin 1) : (res_main_v141 W : FVec Ideal S2x8x64x128x1 .f32) (ix5 a h n r x) = (Real.exp (A.z (hd a h) - m a h n r) : EReal) := by
  obtain rfl : x = 0 := Subsingleton.elim _ _
  pointwise [res_main_v141]
  simp only [r106 H, hm, ← EReal.coe_sub, Ideal.exp_coe]

theorem r142 (a : Fin 2) (h : Fin 8) (n : Fin 64) (r : Fin 128) (x : Fin 1) : (res_main_v142 W : FVec Ideal S2x8x64x128x1 .f32) (ix5 a h n r x) = (den (ok n r) (A.S a h n r) (A.z (hd a h)) (m a h n r) : EReal) := by
  pointwise [res_main_v142]
  simp only [r136 H hm, r141 H hm, ← coe_sum, ← EReal.coe_add]
  rfl

theorem r144 (a : Fin 2) (h : Fin 8) (n : Fin 64) (r : Fin 128) (j : Fin 256) : (res_main_v144 W : FVec Ideal S2x8x64x128x256 .f32) (ix5 a h n r j) = (A.P a h n r j : EReal) := by
  pointwise [res_main_v144]
  simp only [r136 H hm, r142 H hm, Ideal.div_coe (den_pos _ _ _ _).ne', ← EReal.coe_mul]
  exact congrArg Real.toEReal ((mul_one_div _ _).trans (prob_eq _ _ _ _ _))

omit hm in
theorem r154 (a : Fin 2) (h : Fin 8) (n : Fin 64) (r : Fin 128) (j : Fin 256) : (res_main_v154 W : FVec Ideal S2x8x64x128x256 .f32) (ix5 a h n r j) = (A.E a h n r j : EReal) := by
  pointwise [res_main_v154, res_main_v152]
  simp only [H.g, r69 H, ← EReal.coe_mul, ← coe_sum]
  rfl

theorem r156 (a : Fin 2) (n : Fin 64) (j : Fin 256) (d : Fin 64) : (res_main_v156 W : FVec Ideal S2x64x256x64 .f32) (ix4 a n j d) = (A.dV a n j d : EReal) := by
  pointwise [res_main_v156, res_main_v152]
  simp only [H.g, r144 H hm, ← EReal.coe_mul, ← coe_sum]
  exact congrArg Real.toEReal (Finset.sum_congr rfl fun i _ => Finset.sum_congr rfl fun k _ => mul_comm _ _)

theorem r162 (a : Fin 2) (h : Fin 8) (n : Fin 64) (r : Fin 128) (x : Fin 1) : (res_main_v162 W : FVec Ideal S2x8x64x128x1 .f32) (ix5 a h n r x)
    = ((-(mean (ok n r) (A.S a h n r) (A.z (hd a h)) (A.E a h n r) / den (ok n r) (A.S a h n r) (A.z (hd a h)) (m a h n r)) : ℝ) : EReal) := by
  have hd := (den_pos (ok n r) (A.S a h n r) (A.z (hd a h)) (m a h n r)).ne'
  pointwise [res_main_v162]
  simp only [r154 H, r142 H hm, r136 H hm, ← EReal.coe_mul, Ideal.div_coe (mul_ne_zero hd hd), one_mul, ← coe_sum, ← EReal.coe_neg]
  rw [through]

theorem r165 (a : Fin 2) (h : Fin 8) (n : Fin 64) (r : Fin 128) (x : Fin 1) : (res_main_v165 W : FVec Ideal S2x8x64x128x1 .f32) (ix5 a h n r x) = (A.dZ a h n r : EReal) := by
  pointwise [res_main_v165]
  simp only [r162 H hm, r141 H hm, ← EReal.coe_mul, dsink_eq]
  rfl

theorem r172 (a : Fin 2) (h : Fin 8) (n : Fin 64) (r : Fin 128) (j : Fin 256) : (res_main_v172 W : FVec Ideal S2x8x64x128x256 .f32) (ix5 a h n r j)
    = (dsc (ok n r) (A.S a h n r) (A.z (hd a h)) (A.E a h n r) j : EReal) := by
  pointwise [res_main_v172]
  simp only [r154 H, r142 H hm, r136 H hm, r162 H hm, Ideal.div_coe (den_pos _ _ _ _).ne', ← EReal.coe_mul, Fin.sum_univ_one, ← EReal.coe_add]
  rw [mul_one_div, dsc_eq]

theorem r176 (a : Fin 2) (h : Fin 8) (n : Fin 64) (r : Fin 128) (x : Fin 1) : (res_main_v176 W : FVec Ideal S2x8x64x128x1 .f32) (ix5 a h n r x) = (0 : EReal) := by
  pointwise [res_main_v176]
  simp only [r165 H hm, r172 H hm, ← EReal.coe_neg, ← coe_sum, ← EReal.coe_add, Fin.sum_univ_one]
  exact (congrArg Real.toEReal (through_max _ _ _ _)).trans EReal.coe_zero

theorem nothing (Y : FVec Ideal S2x8x64x128x1 .f32) (a : Fin 2) (h : Fin 8) (n : Fin 64) (r : Fin 128) :
    (Host.reduceAdd (mulf (res_main_v176 W : FVec Ideal S2x8x64x128x1 .f32) Y) (constant S_ .f32 0x00000000#32) reducesTo_S2x8x64x128x1_S2x8x64x128_d4 h_S_ : FVec Ideal S2x8x64x128 .f32) (ix4 a h n r) = (0 : EReal) := by
  pointwise []
  simp only [r176 H hm, zero_mul, Finset.sum_const_zero]

omit H hm in
theorem r111 : ∃ f : S2x8x64x128x256.Idx → ℝ, (∀ i, (res_main_v111 W : FVec Ideal S2x8x64x128x256 .f32) i = (f i : EReal)) ∧ ∀ i, f i = 0 ∨ f i = 1 := by
  have e : ∃ b : IVec S2x8x64x128x256 1, (res_main_v111 W : FVec Ideal S2x8x64x128x256 .f32) = (uitofp .f32 b : FVec Ideal S2x8x64x128x256 .f32) := by
    unfold res_main_v111
    exact ⟨_, rfl⟩
  obtain ⟨b, e⟩ := e
  refine ⟨fun i => ((b i).toNat : ℝ), fun i => by rw [e]; rfl, fun i => ?_⟩
  have hb : (b i).toNat < 2 := (b i).isLt
  have : (b i).toNat = 0 ∨ (b i).toNat = 1 := by omega
  rcases this with h | h
  · exact Or.inl ((congrArg Nat.cast h).trans Nat.cast_zero)
  · exact Or.inr ((congrArg Nat.cast h).trans Nat.cast_one)

theorem r194 (a : Fin 2) (h : Fin 8) (n : Fin 64) (r : Fin 128) (j : Fin 256) : (res_main_v194 W : FVec Ideal S2x64x256x8x128 .f32) (ix5 a n j h r) = (A.D a h n r j : EReal) := by
  obtain ⟨f, hf, h01⟩ := r111 (W := W)
  unfold res_main_v194
  have hn := nothing H hm
  generalize (select (cmpf .ogt (res_main_v113 W) _) _ _ : FVec Ideal S2x8x64x128x1 .f32) = Y
  replace hn := hn Y
  generalize (Host.reduceAdd (mulf (res_main_v176 W : FVec Ideal S2x8x64x128x1 .f32) Y) (constant S_ .f32 0x00000000#32) reducesTo_S2x8x64x128x1_S2x8x64x128_d4 h_S_ : FVec Ideal S2x8x64x128 .f32) = N at hn ⊢
  generalize (res_main_v111 W : FVec Ideal S2x8x64x128x256 .f32) = I at hf ⊢
  pointwise []
  simp only [r102b, r172 H hm, hn, hf, select_one, eighth]
  have e : Ideal.div 0 (∑ x, (f (ix5 a h n r x) : EReal)) * (f (ix5 a h n r j) : EReal) = 0 := no_share (fun j => f (ix5 a h n r j)) (fun _ => h01 _) j
  simp only [e, add_zero]
  exact masked_scaled _ _ _ _ _

theorem r197 (a : Fin 2) (n : Fin 64) (j : Fin 256) (d : Fin 64) : (res_main_v197 W : FVec Ideal S2x64x256x64 .f32) (ix4 a n j d) = (A.dK a n j d : EReal) := by
  pointwise [res_main_v197]
  simp only [r194 H hm, r23 H, ← EReal.coe_mul, ← coe_sum]
  rfl

theorem r238 (a : Fin 2) (h : Fin 8) (n : Fin 64) (r : Fin 128) (d : Fin 64) : (res_main_v238 W : FVec Ideal S16x8192x64 .f32) (ix3 (hd a h) (tk n r) d) = (A.dQ a h n r d : EReal) := by
  have ea : (⟨(hd a h).val / 8, by have := (hd a h).isLt; omega⟩ : Fin 2) = a := Fin.ext (by dsimp only [hd]; omega)
  have eh : (⟨(hd a h).val % 8, by omega⟩ : Fin 8) = h := Fin.ext (by dsimp only [hd]; omega)
  have en : (⟨(tk n r).val / 128, by have := (tk n r).isLt; omega⟩ : Fin 64) = n := Fin.ext (by dsimp only [tk]; omega)
  have er : (⟨(tk n r).val % 128, by omega⟩ : Fin 128) = r := Fin.ext (by dsimp only [tk]; omega)
  pointwise [res_main_v238]
  rw [ea, eh, en, er]
  simp only [r194 H hm, r66 H, ← EReal.coe_mul, ← coe_sum]
  rfl

omit H hm in
/-- The second half of one of the results. -/
def resDqHi (W : Valuation τ sig (Elt Ideal)) : FVec Ideal S16x8192x32 .f32 := addf (mulf (res_main_v240 W) (broadcastInDim S16x8192x32 ![0, 1, 2] bcast_S1x8192x32_S16x8192x32_0_1_2 (res_main_v15 W))) (mulf (Host.negf (res_main_v239 W)) (broadcastInDim S16x8192x32 ![0, 1, 2] bcast_S1x8192x32_S16x8192x32_0_1_2 (res_main_v11 W)))

omit H hm in
/-- The first half of one of the results. -/
def resDqLo (W : Valuation τ sig (Elt Ideal)) : FVec Ideal S16x8192x32 .f32 := addf (mulf (res_main_v240 W) (broadcastInDim S16x8192x32 ![0, 1, 2] bcast_S1x8192x32_S16x8192x32_0_1_2 (res_main_v18 W))) (mulf (res_main_v239 W) (broadcastInDim S16x8192x32 ![0, 1, 2] bcast_S1x8192x32_S16x8192x32_0_1_2 (res_main_v8 W)))

omit H hm in
/-- One of the results. -/
def resDq (W : Valuation τ sig (Elt Ideal)) : FVec Ideal S16x8192x64 .f32 := addf (pad S16x8192x64 ![0, 0, 32] ![0, 0, 0] ![0, 0, 0] (resDqHi W) (constant S_ .f32 0x00000000#32) pads_S16x8192x32_S16x8192x64_000_000_3200 h_S_) (pad S16x8192x64 ![0, 0, 0] ![0, 0, 32] ![0, 0, 0] (resDqLo W) (constant S_ .f32 0x00000000#32) pads_S16x8192x32_S16x8192x64_000_000_0320 h_S_)

omit H hm in
/-- The second half of one of the results. -/
def resDkpHi (W : Valuation τ sig (Elt Ideal)) : FVec Ideal S2x8192x32 .f32 := addf (mulf (res_main_v223 W) (broadcastInDim S2x8192x32 ![0, 1, 2] bcast_S1x8192x32_S2x8192x32_0_1_2 (res_main_v39 W))) (mulf (Host.negf (res_main_v222 W)) (broadcastInDim S2x8192x32 ![0, 1, 2] bcast_S1x8192x32_S2x8192x32_0_1_2 (res_main_v35 W)))

omit H hm in
/-- The first half of one of the results. -/
def resDkpLo (W : Valuation τ sig (Elt Ideal)) : FVec Ideal S2x8192x32 .f32 := addf (mulf (res_main_v223 W) (broadcastInDim S2x8192x32 ![0, 1, 2] bcast_S1x8192x32_S2x8192x32_0_1_2 (res_main_v42 W))) (mulf (res_main_v222 W) (broadcastInDim S2x8192x32 ![0, 1, 2] bcast_S1x8192x32_S2x8192x32_0_1_2 (res_main_v32 W)))

omit H hm in
/-- One of the results. -/
def resDkp (W : Valuation τ sig (Elt Ideal)) : FVec Ideal S2x8192x64 .f32 := addf (pad S2x8192x64 ![0, 0, 32] ![0, 0, 0] ![0, 0, 0] (resDkpHi W) (constant S_ .f32 0x00000000#32) pads_S2x8192x32_S2x8192x64_000_000_3200 h_S_) (pad S2x8192x64 ![0, 0, 0] ![0, 0, 32] ![0, 0, 0] (resDkpLo W) (constant S_ .f32 0x00000000#32) pads_S2x8192x32_S2x8192x64_000_000_0320 h_S_)

omit H hm in
/-- The second half of one of the results. -/
def resDkcHi (W : Valuation τ sig (Elt Ideal)) : FVec Ideal S2x8192x32 .f32 := addf (mulf (res_main_v206 W) (broadcastInDim S2x8192x32 ![0, 1, 2] bcast_S1x8192x32_S2x8192x32_0_1_2 (res_main_v57 W))) (mulf (Host.negf (res_main_v205 W)) (broadcastInDim S2x8192x32 ![0, 1, 2] bcast_S1x8192x32_S2x8192x32_0_1_2 (res_main_v53 W)))

omit H hm in
/-- The first half of one of the results. -/
def resDkcLo (W : Valuation τ sig (Elt Ideal)) : FVec Ideal S2x8192x32 .f32 := addf (mulf (res_main_v206 W) (broadcastInDim S2x8192x32 ![0, 1, 2] bcast_S1x8192x32_S2x8192x32_0_1_2 (res_main_v60 W))) (mulf (res_main_v205 W) (broadcastInDim S2x8192x32 ![0, 1, 2] bcast_S1x8192x32_S2x8192x32_0_1_2 (res_main_v50 W)))

omit H hm in
/-- One of the results. -/
def resDkc (W : Valuation τ sig (Elt Ideal)) : FVec Ideal S2x8192x64 .f32 := addf (pad S2x8192x64 ![0, 0, 32] ![0, 0, 0] ![0, 0, 0] (resDkcHi W) (constant S_ .f32 0x00000000#32) pads_S2x8192x32_S2x8192x64_000_000_3200 h_S_) (pad S2x8192x64 ![0, 0, 0] ![0, 0, 32] ![0, 0, 0] (resDkcLo W) (constant S_ .f32 0x00000000#32) pads_S2x8192x32_S2x8192x64_000_000_0320 h_S_)

omit H hm in
/-- One of the results. -/
def resDvp (W : Valuation τ sig (Elt Ideal)) : FVec Ideal S2x8192x64 .f32 := shapeCast S2x8192x64 (extractStridedSlice S2x64x128x64 ![0, 0, 0, 0] (res_main_v156 W) slices_S2x64x256x64_S2x64x128x64_0_0_0_0) shapeCasts_S2x64x128x64_S2x8192x64

omit H hm in
/-- One of the results. -/
def resDvc (W : Valuation τ sig (Elt Ideal)) : FVec Ideal S2x8192x64 .f32 := shapeCast S2x8192x64 (extractStridedSlice S2x64x128x64 ![0, 0, 128, 0] (res_main_v156 W) slices_S2x64x256x64_S2x64x128x64_0_0_128_0) shapeCasts_S2x64x128x64_S2x8192x64

omit H hm in
/-- One of the results. -/
def resDsk (W : Valuation τ sig (Elt Ideal)) : FVec Ideal S16x1x128 .f32 := pad S16x1x128 ![0, 0, 0] ![0, 0, 127] ![0, 0, 0] (broadcastInDim S16x1x1 ![0] bcast_S16_S16x1x1_0 (shapeCast _ (Host.reduceAdd (addf (shapeCast _ (Host.reduceAdd (res_main_v165 W) (constant S_ .f32 0x00000000#32) reducesTo_S2x8x64x128x1_S2x8x1_d2_3 h_S_) shapeCasts_S2x8x1_S2x8x1x1x1) (shapeCast _ (Host.reduceAdd (mulf (res_main_v176 W) (select (cmpf .ogt (broadcastInDim S2x8x64x128x1 ![0, 1, 2, 3, 4] bcast_S2x8x1x1x1_S2x8x64x128x1_0_1_2_3_4 (res_main_v106 W)) (res_main_v113 W)) (broadcastInDim S2x8x64x128x1 ![] bcast_S_S2x8x64x128x1 (constant S_ .f32 0x3F800000#32)) (select (cmpf .oeq (broadcastInDim S2x8x64x128x1 ![0, 1, 2, 3, 4] bcast_S2x8x1x1x1_S2x8x64x128x1_0_1_2_3_4 (res_main_v106 W)) (res_main_v113 W)) (broadcastInDim S2x8x64x128x1 ![] bcast_S_S2x8x64x128x1 (constant S_ .f32 0x3F000000#32)) (broadcastInDim S2x8x64x128x1 ![] bcast_S_S2x8x64x128x1 (constant S_ .f32 0x00000000#32))))) (constant S_ .f32 0x00000000#32) reducesTo_S2x8x64x128x1_S2x8x1_d2_3 h_S_) shapeCasts_S2x8x1_S2x8x1x1x1)) (constant S_ .f32 0x00000000#32) reducesTo_S2x8x1x1x1_S2x8_d2_3_4 h_S_) shapeCasts_S2x8_S16)) (constant S_ .f32 0x00000000#32) pads_S16x1x1_S16x1x128_000_000_01270 h_S_

omit H hm in
/-- Two halves put side by side. -/
theorem pads16 (X Y : FVec Ideal S16x8192x32 .f32) (a : Fin 16) (t : Fin 8192) (d : Fin 64) :
    (addf (pad S16x8192x64 ![0, 0, 32] ![0, 0, 0] ![0, 0, 0] X (constant S_ .f32 0x00000000#32) pads_S16x8192x32_S16x8192x64_000_000_3200 h_S_)
      (pad S16x8192x64 ![0, 0, 0] ![0, 0, 32] ![0, 0, 0] Y (constant S_ .f32 0x00000000#32) pads_S16x8192x32_S16x8192x64_000_000_0320 h_S_) : FVec Ideal S16x8192x64 .f32) (ix3 a t d)
      = if h : d.val < 32 then Y (ix3 a t ⟨d.val, h⟩) else X (ix3 a t ⟨d.val - 32, by omega⟩) := by
  pointwise []
  by_cases h : d.val < 32
  · rw [dif_pos h, dif_pos h, dif_neg (by omega), zero_add]
  · rw [dif_neg h, dif_neg h, dif_pos (by omega), add_zero]

omit H hm in
/-- Two halves put side by side. -/
theorem pads2 (X Y : FVec Ideal S2x8192x32 .f32) (a : Fin 2) (t : Fin 8192) (d : Fin 64) :
    (addf (pad S2x8192x64 ![0, 0, 32] ![0, 0, 0] ![0, 0, 0] X (constant S_ .f32 0x00000000#32) pads_S2x8192x32_S2x8192x64_000_000_3200 h_S_)
      (pad S2x8192x64 ![0, 0, 0] ![0, 0, 32] ![0, 0, 0] Y (constant S_ .f32 0x00000000#32) pads_S2x8192x32_S2x8192x64_000_000_0320 h_S_) : FVec Ideal S2x8192x64 .f32) (ix3 a t d)
      = if h : d.val < 32 then Y (ix3 a t ⟨d.val, h⟩) else X (ix3 a t ⟨d.val - 32, by omega⟩) := by
  pointwise []
  by_cases h : d.val < 32
  · rw [dif_pos h, dif_pos h, dif_neg (by omega), zero_add]
  · rw [dif_neg h, dif_neg h, dif_pos (by omega), add_zero]

omit H hm in
theorem cut16_lo (X : FVec Ideal S16x8192x64 .f32) (a : Fin 16) (t : Fin 8192) (d : Fin 32) : extractStridedSlice S16x8192x32 ![0, 0, 0] X slices_S16x8192x64_S16x8192x32_0_0_0 (ix3 a t d) = X (ix3 a t ⟨d.val, by omega⟩) := by
  pointwise []

omit H hm in
theorem cut16_hi (X : FVec Ideal S16x8192x64 .f32) (a : Fin 16) (t : Fin 8192) (d : Fin 32) : extractStridedSlice S16x8192x32 ![0, 0, 32] X slices_S16x8192x64_S16x8192x32_0_0_32 (ix3 a t d) = X (ix3 a t ⟨d.val + 32, by omega⟩) := by
  have e : (⟨32 + d.val, by omega⟩ : Fin 64) = ⟨d.val + 32, by omega⟩ := Fin.ext (Nat.add_comm _ _)
  pointwise []
  rw [e]

omit H hm in
theorem cut2_lo (X : FVec Ideal S2x8192x64 .f32) (a : Fin 2) (t : Fin 8192) (d : Fin 32) : extractStridedSlice S2x8192x32 ![0, 0, 0] X slices_S2x8192x64_S2x8192x32_0_0_0 (ix3 a t d) = X (ix3 a t ⟨d.val, by omega⟩) := by
  pointwise []

omit H hm in
theorem cut2_hi (X : FVec Ideal S2x8192x64 .f32) (a : Fin 2) (t : Fin 8192) (d : Fin 32) : extractStridedSlice S2x8192x32 ![0, 0, 32] X slices_S2x8192x64_S2x8192x32_0_0_32 (ix3 a t d) = X (ix3 a t ⟨d.val + 32, by omega⟩) := by
  have e : (⟨32 + d.val, by omega⟩ : Fin 64) = ⟨d.val + 32, by omega⟩ := Fin.ext (Nat.add_comm _ _)
  pointwise []
  rw [e]

omit H hm in
theorem spread16 (X : FVec Ideal S8192x32 .f32) (a : Fin 16) (t : Fin 8192) (d : Fin 32) :
    broadcastInDim S16x8192x32 ![0, 1, 2] bcast_S1x8192x32_S16x8192x32_0_1_2 (broadcastInDim S1x8192x32 ![1, 2] bcast_S8192x32_S1x8192x32_1_2 X) (ix3 a t d) = X (ix2 t d) := by
  pointwise []

omit H hm in
theorem spread2 (X : FVec Ideal S8192x32 .f32) (a : Fin 2) (t : Fin 8192) (d : Fin 32) :
    broadcastInDim S2x8192x32 ![0, 1, 2] bcast_S1x8192x32_S2x8192x32_0_1_2 (broadcastInDim S1x8192x32 ![1, 2] bcast_S8192x32_S1x8192x32_1_2 X) (ix3 a t d) = X (ix2 t d) := by
  pointwise []

omit H hm in
theorem plus {s : Shape} (X Y Z T : FVec Ideal s .f32) (i : s.Idx) (x y z t : EReal) (hx : X i = x) (hy : Y i = y) (hz : Z i = z) (ht : T i = t) :
    addf (mulf X Y) (mulf Z T) i = (x * y + z * t : EReal) := by
  subst hx; subst hy; subst hz; subst ht; rfl

omit H hm in
theorem minus {s : Shape} (X : FVec Ideal s .f32) (i : s.Idx) (x : EReal) (hx : X i = x) : Host.negf X i = (-x : EReal) := by
  subst hx; rfl

theorem v204 (a : Fin 2) (n : Fin 64) (j : Fin 128) (d : Fin 64) : (res_main_v204 W : FVec Ideal S2x8192x64 .f32) (ix3 a (tk n j) d) = (A.dK a n (hi j) d : EReal) := by
  have en : (⟨(tk n j).val / 128, by have := (tk n j).isLt; omega⟩ : Fin 64) = n := Fin.ext (by dsimp only [tk]; omega)
  have er : (⟨128 + (tk n j).val % 128, by omega⟩ : Fin 256) = hi j := Fin.ext (by dsimp only [tk, lo, hi]; omega)
  pointwise [res_main_v204]
  rw [en, er, r197 H hm]

theorem v221 (a : Fin 2) (n : Fin 64) (j : Fin 128) (d : Fin 64) : (res_main_v221 W : FVec Ideal S2x8192x64 .f32) (ix3 a (tk n j) d) = (A.dK a n (lo j) d : EReal) := by
  have en : (⟨(tk n j).val / 128, by have := (tk n j).isLt; omega⟩ : Fin 64) = n := Fin.ext (by dsimp only [tk]; omega)
  have er : (⟨(tk n j).val % 128, by omega⟩ : Fin 256) = lo j := Fin.ext (by dsimp only [tk, lo, hi]; omega)
  pointwise [res_main_v221]
  rw [en, er, r197 H hm]

theorem dq_at_lo (a : Fin 2) (h : Fin 8) (n : Fin 64) (r : Fin 128) (d : Fin 32) : resDqLo W (ix3 (hd a h) (tk n r) d) = (A.dQ a h n r ⟨d.val, by omega⟩ : EReal) * (A.c (tk n r) d : EReal) + (A.dQ a h n r ⟨d.val + 32, by omega⟩ : EReal) * (A.s (tk n r) d : EReal) := by
  exact (plus _ _ _ _ _ _ _ _ _ ((cut16_hi _ _ _ _).trans (r238 H hm a h n r _)) ((spread16 _ _ _ _).trans (H.s _ _)) ((cut16_lo _ _ _ _).trans (r238 H hm a h n r _)) ((spread16 _ _ _ _).trans (H.c _ _))).trans (add_comm _ _)

theorem dq_at_hi (a : Fin 2) (h : Fin 8) (n : Fin 64) (r : Fin 128) (d : Fin 32) : resDqHi W (ix3 (hd a h) (tk n r) d) = (A.dQ a h n r ⟨d.val + 32, by omega⟩ : EReal) * (A.c (tk n r) d : EReal) + -(A.dQ a h n r ⟨d.val, by omega⟩ : EReal) * (A.s (tk n r) d : EReal) := by
  exact plus _ _ _ _ _ _ _ _ _ ((cut16_hi _ _ _ _).trans (r238 H hm a h n r _)) ((spread16 _ _ _ _).trans (H.c _ _)) (minus _ _ _ ((cut16_lo _ _ _ _).trans (r238 H hm a h n r _))) ((spread16 _ _ _ _).trans (H.s _ _))

theorem dq_at (a : Fin 2) (h : Fin 8) (n : Fin 64) (r : Fin 128) (d : Fin 64) : resDq W (ix3 (hd a h) (tk n r) d) = (tor (A.dQ a h n r) (A.c (tk n r)) (A.s (tk n r)) d : EReal) := by
  unfold resDq
  refine (pads16 _ _ _ _ _).trans ?_
  by_cases h' : d.val < 32
  · rw [dif_pos h', tor_lt _ _ _ _ h']
    exact dq_at_lo H hm a h n r ⟨d.val, h'⟩
  · rw [dif_neg h', tor_ge _ _ _ _ h']
    exact dq_at_hi H hm a h n r ⟨d.val - 32, by omega⟩

theorem dkp_at_lo (a : Fin 2) (n : Fin 64) (j : Fin 128) (d : Fin 32) : resDkpLo W (ix3 a (tk n j) d) = (A.dK a n (lo j) ⟨d.val, by omega⟩ : EReal) * (A.c (tp n j) d : EReal) + (A.dK a n (lo j) ⟨d.val + 32, by omega⟩ : EReal) * (A.s (tp n j) d : EReal) := by
  exact (plus _ _ _ _ _ _ _ _ _ ((cut2_hi _ _ _ _).trans (v221 H hm a n j _)) ((spread2 _ _ _ _).trans ((r29 H _ _).trans (congrArg (fun t => (A.s t d : EReal)) (bef_tk n j)))) ((cut2_lo _ _ _ _).trans (v221 H hm a n j _)) ((spread2 _ _ _ _).trans ((r26 H _ _).trans (congrArg (fun t => (A.c t d : EReal)) (bef_tk n j))))).trans (add_comm _ _)

theorem dkp_at_hi (a : Fin 2) (n : Fin 64) (j : Fin 128) (d : Fin 32) : resDkpHi W (ix3 a (tk n j) d) = (A.dK a n (lo j) ⟨d.val + 32, by omega⟩ : EReal) * (A.c (tp n j) d : EReal) + -(A.dK a n (lo j) ⟨d.val, by omega⟩ : EReal) * (A.s (tp n j) d : EReal) := by
  exact plus _ _ _ _ _ _ _ _ _ ((cut2_hi _ _ _ _).trans (v221 H hm a n j _)) ((spread2 _ _ _ _).trans ((r26 H _ _).trans (congrArg (fun t => (A.c t d : EReal)) (bef_tk n j)))) (minus _ _ _ ((cut2_lo _ _ _ _).trans (v221 H hm a n j _))) ((spread2 _ _ _ _).trans ((r29 H _ _).trans (congrArg (fun t => (A.s t d : EReal)) (bef_tk n j))))

theorem dkp_at (a : Fin 2) (n : Fin 64) (j : Fin 128) (d : Fin 64) : resDkp W (ix3 a (tk n j) d) = (tor (A.dK a n (lo j)) (A.c (tp n j)) (A.s (tp n j)) d : EReal) := by
  unfold resDkp
  refine (pads2 _ _ _ _ _).trans ?_
  by_cases h' : d.val < 32
  · rw [dif_pos h', tor_lt _ _ _ _ h']
    exact dkp_at_lo H hm a n j ⟨d.val, h'⟩
  · rw [dif_neg h', tor_ge _ _ _ _ h']
    exact dkp_at_hi H hm a n j ⟨d.val - 32, by omega⟩

theorem dkc_at_lo (a : Fin 2) (n : Fin 64) (j : Fin 128) (d : Fin 32) : resDkcLo W (ix3 a (tk n j) d) = (A.dK a n (hi j) ⟨d.val, by omega⟩ : EReal) * (A.c (tk n j) d : EReal) + (A.dK a n (hi j) ⟨d.val + 32, by omega⟩ : EReal) * (A.s (tk n j) d : EReal) := by
  exact (plus _ _ _ _ _ _ _ _ _ ((cut2_hi _ _ _ _).trans (v204 H hm a n j _)) ((spread2 _ _ _ _).trans (H.s _ _)) ((cut2_lo _ _ _ _).trans (v204 H hm a n j _)) ((spread2 _ _ _ _).trans (H.c _ _))).trans (add_comm _ _)

theorem dkc_at_hi (a : Fin 2) (n : Fin 64) (j : Fin 128) (d : Fin 32) : resDkcHi W (ix3 a (tk n j) d) = (A.dK a n (hi j) ⟨d.val + 32, by omega⟩ : EReal) * (A.c (tk n j) d : EReal) + -(A.dK a n (hi j) ⟨d.val, by omega⟩ : EReal) * (A.s (tk n j) d : EReal) := by
  exact plus _ _ _ _ _ _ _ _ _ ((cut2_hi _ _ _ _).trans (v204 H hm a n j _)) ((spread2 _ _ _ _).trans (H.c _ _)) (minus _ _ _ ((cut2_lo _ _ _ _).trans (v204 H hm a n j _))) ((spread2 _ _ _ _).trans (H.s _ _))

theorem dkc_at (a : Fin 2) (n : Fin 64) (j : Fin 128) (d : Fin 64) : resDkc W (ix3 a (tk n j) d) = (tor (A.dK a n (hi j)) (A.c (tk n j)) (A.s (tk n j)) d : EReal) := by
  unfold resDkc
  refine (pads2 _ _ _ _ _).trans ?_
  by_cases h' : d.val < 32
  · rw [dif_pos h', tor_lt _ _ _ _ h']
    exact dkc_at_lo H hm a n j ⟨d.val, h'⟩
  · rw [dif_neg h', tor_ge _ _ _ _ h']
    exact dkc_at_hi H hm a n j ⟨d.val - 32, by omega⟩

theorem dvp_at (a : Fin 2) (n : Fin 64) (j : Fin 128) (d : Fin 64) : resDvp W (ix3 a (tk n j) d) = (A.dV a n (lo j) d : EReal) := by
  have en : (⟨(tk n j).val / 128, by have := (tk n j).isLt; omega⟩ : Fin 64) = n := Fin.ext (by dsimp only [tk]; omega)
  have er : (⟨(tk n j).val % 128, by omega⟩ : Fin 256) = lo j := Fin.ext (by dsimp only [tk, lo, hi]; omega)
  pointwise [resDvp]
  rw [en, er, r156 H hm]

theorem dvc_at (a : Fin 2) (n : Fin 64) (j : Fin 128) (d : Fin 64) : resDvc W (ix3 a (tk n j) d) = (A.dV a n (hi j) d : EReal) := by
  have en : (⟨(tk n j).val / 128, by have := (tk n j).isLt; omega⟩ : Fin 64) = n := Fin.ext (by dsimp only [tk]; omega)
  have er : (⟨128 + (tk n j).val % 128, by omega⟩ : Fin 256) = hi j := Fin.ext (by dsimp only [tk, lo, hi]; omega)
  pointwise [resDvc]
  rw [en, er, r156 H hm]

theorem dsk_at (a : Fin 2) (h : Fin 8) (x : Fin 1) (l : Fin 128) : resDsk W (ix3 (hd a h) x l) = if l.val = 0 then ((∑ n, ∑ r, A.dZ a h n r : ℝ) : EReal) else 0 := by
  unfold resDsk
  have hz : ∀ (Y : FVec Ideal S2x8x64x128x1 .f32) (a : Fin 2) (h : Fin 8) (x : Fin 1), (Host.reduceAdd (mulf (res_main_v176 W : FVec Ideal S2x8x64x128x1 .f32) Y) (constant S_ .f32 0x00000000#32) reducesTo_S2x8x64x128x1_S2x8x1_d2_3 h_S_ : FVec Ideal S2x8x1 .f32) (ix3 a h x) = (0 : EReal) := by
    intro Y a h x
    pointwise []
    simp only [r176 H hm, zero_mul, Finset.sum_const_zero]
  generalize (select (cmpf .ogt _ (res_main_v113 W)) _ _ : FVec Ideal S2x8x64x128x1 .f32) = Y
  replace hz := hz Y
  generalize (Host.reduceAdd (mulf (res_main_v176 W : FVec Ideal S2x8x64x128x1 .f32) Y) (constant S_ .f32 0x00000000#32) reducesTo_S2x8x64x128x1_S2x8x1_d2_3 h_S_ : FVec Ideal S2x8x1 .f32) = N at hz ⊢
  pointwise []
  have ea : (⟨(hd a h).val / 8, by have := (hd a h).isLt; omega⟩ : Fin 2) = a := Fin.ext (by dsimp only [hd]; omega)
  have eh : (⟨(hd a h).val % 8, by omega⟩ : Fin 8) = h := Fin.ext (by dsimp only [hd]; omega)
  simp only [ea, eh, hz, r165 H hm, add_zero, ← coe_sum, Fin.sum_univ_one]
  by_cases hl : l.val = 0
  · rw [if_pos hl, dif_pos (by omega)]
  · rw [if_neg hl, dif_neg (by omega)]

end Cert.AttnBwdRefIdeal.Grad

end
-- ==== Proof.AttnBwd.lean ====
/- The gradient of the sliding-window attention with sinks: the run's results are the reference's. -/
module

public import proofs.«01_k».proof.Defs
public import proofs.«01_k».proof.Proof.AttnRun
public import proofs.«01_k».proof.Proof.AttnRef
public import proofs.«01_k».proof.Proof.Gen.AttnBwdIdeal.Frame
public import proofs.«01_k».proof.Proof.Gen.AttnBwdRefIdeal.Run
public import proofs.«01_k».proof.Proof.Gen.Pre_finite
public import Idealize.ShloMosaic.Lib.ReduceAll
public import Idealize.ShloMosaic.Lib.Pipeline.ReadBack
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.AttnBwdIdeal.Grad

open Cert.AttnBwdIdeal Cert.AttnBwdIdeal.Gen Cert.Attn

variable (m : (ℓ : Loc nD τ sig) → Buf (Elt Ideal) ℓ)

/-- What a point leaves of the gradients that it writes whole. -/
theorem wrote (c : Dev nD) (t : Fin cfg0.N) :
    (∀ e r d, (outsAt0 m c t.val t.isLt).1 (ix3 e r d) = (pt m c t).dq e (ix2 r d))
    ∧ (∀ r d, (outsAt0 m c t.val t.isLt).2.1 (ix3 0 r d) = (pt m c t).dkp (ix2 r d))
    ∧ (∀ r d, (outsAt0 m c t.val t.isLt).2.2.1 (ix3 0 r d) = (pt m c t).dkc (ix2 r d))
    ∧ (∀ r d, (outsAt0 m c t.val t.isLt).2.2.2.1 (ix3 0 r d) = (pt m c t).dvp (ix2 r d))
    ∧ (∀ r d, (outsAt0 m c t.val t.isLt).2.2.2.2.1 (ix3 0 r d) = (pt m c t).dvc (ix2 r d)) := by
  by_cases h : t.val % 64 = 0
  · rw [outs_A m c t h]
    dsimp only
    simp only [View.read_writes_junk_eq_canon, dqs_at, one_at, implies_true, and_self]
  · rw [outs_B m c t h]
    dsimp only
    simp only [View.read_writes_junk_eq_canon, dqs_at, one_at, implies_true, and_self]

/-- The first point of a run leaves its own part of the sinks' gradient. -/
theorem sinks_first (c : Dev nD) (t : Fin cfg0.N) (h : t.val % 64 = 0) (e : Fin 8) (l : Fin 128) :
    (outsAt0 m c t.val t.isLt).2.2.2.2.2 (ix3 e 0 l) = 0 + (pt m c t).dsk e (ix2 0 l) := by
  rw [outs_A m c t h]
  dsimp only
  exact (congrFun (View.read_writes_junk_eq_canon _ _) _).trans (firsts_at _ _ e l)

/-- Every other point adds its part. -/
theorem sinks_next (c : Dev nD) (t : Fin cfg0.N) (h : ¬ t.val % 64 = 0) (e : Fin 8) (l : Fin 128) :
    (outsAt0 m c t.val t.isLt).2.2.2.2.2 (ix3 e 0 l)
      = (outsAt0 m c (t.val - 1) (Nat.lt_of_le_of_lt (Nat.sub_le _ _) t.isLt)).2.2.2.2.2 (ix3 e 0 l) + (pt m c t).dsk e (ix2 0 l) := by
  rw [outs_B m c t h]
  dsimp only
  exact (congrFun (View.read_writes_junk_eq_canon _ _) _).trans (laters_at _ _ _ _ e l)

variable {m} {c : Dev nD}

/-- A run's parts of the sinks' gradient, added up. -/
theorem sink_parts {A : Args} (H : Held m A c) (t : Fin cfg0.N) (h3 : t.val % 64 = 63) (e : Fin 8) (l : Fin 128) :
    ∑ s : Fin 64, (pt m c ⟨64 * (t.val / 64) + s.val, Pipeline.run_point_lt_of_flush t h3 s⟩).dsk e (ix2 0 l)
      = if l.val = 0 then ((∑ n, ∑ r, A.dZ (kh t) e n r : ℝ) : EReal) else 0 := by
  have hk : ∀ s : Fin 64, kh ⟨64 * (t.val / 64) + s.val, Pipeline.run_point_lt_of_flush t h3 s⟩ = kh t := fun s => Fin.ext (by simp only [kh]; omega)
  have hw : ∀ s : Fin 64, wn ⟨64 * (t.val / 64) + s.val, Pipeline.run_point_lt_of_flush t h3 s⟩ = s := fun s => Fin.ext (by simp only [wn]; omega)
  simp only [dsk_pt H, hk, hw]
  split
  · exact (coe_sum _ _).symm
  · exact Finset.sum_const_zero

variable {A : Args} {W : Valuation Cert.AttnBwdRefIdeal.τ Cert.AttnBwdRefIdeal.sig (Elt Ideal)}

section Finals

variable (H : Held m A c) (R : Cert.AttnBwdRefIdeal.Grad.Holds W A)
include H R

theorem final12 : (dats m 0 c).arrAt 12 (cfgs 0).N = Cert.AttnBwdRefIdeal.Grad.resDq W := by
  refine (dats m 0 c).arrAt_eq_of_covers 12 _ (by decide +kernel) fun t hf y => ?_
  obtain ⟨e, r, d, rfl⟩ : ∃ (e : Fin 8) (r : Fin 128) (d : Fin 64), y = ix3 e r d := ⟨y 0, y 1, y 2, eq_ix3 y⟩
  refine Eq.trans ?_ (congrArg _ (place12 t e r d)).symm
  rw [after0_12]
  refine (((wrote m c t).1 e r d).trans (dq_pt H t e r d)).trans ?_
  exact (Cert.AttnBwdRefIdeal.Grad.dq_at R (fun a h n r => (Cert.AttnBwdRefIdeal.Grad.r115 R a h n r).choose_spec) _ _ _ _ _).symm

theorem final13 : (dats m 0 c).arrAt 13 (cfgs 0).N = Cert.AttnBwdRefIdeal.Grad.resDkp W := by
  refine (dats m 0 c).arrAt_eq_of_covers 13 _ (by decide +kernel) fun t hf y => ?_
  obtain ⟨r, d, rfl⟩ : ∃ (r : Fin 128) (d : Fin 64), y = ix3 0 r d := ⟨y 1, y 2, (eq_ix3 y).trans (congrArg (fun z => ix3 z (y 1) (y 2)) (Subsingleton.elim (α := Fin 1) _ _))⟩
  refine Eq.trans ?_ (congrArg _ (place13 t r d)).symm
  rw [after0_13]
  refine (((wrote m c t).2.1 r d).trans (dkp_pt H t r d)).trans ?_
  exact (Cert.AttnBwdRefIdeal.Grad.dkp_at R (fun a h n r => (Cert.AttnBwdRefIdeal.Grad.r115 R a h n r).choose_spec) _ _ _ _).symm

theorem final14 : (dats m 0 c).arrAt 14 (cfgs 0).N = Cert.AttnBwdRefIdeal.Grad.resDkc W := by
  refine (dats m 0 c).arrAt_eq_of_covers 14 _ (by decide +kernel) fun t hf y => ?_
  obtain ⟨r, d, rfl⟩ : ∃ (r : Fin 128) (d : Fin 64), y = ix3 0 r d := ⟨y 1, y 2, (eq_ix3 y).trans (congrArg (fun z => ix3 z (y 1) (y 2)) (Subsingleton.elim (α := Fin 1) _ _))⟩
  refine Eq.trans ?_ (congrArg _ (place14 t r d)).symm
  rw [after0_14]
  refine (((wrote m c t).2.2.1 r d).trans (dkc_pt H t r d)).trans ?_
  exact (Cert.AttnBwdRefIdeal.Grad.dkc_at R (fun a h n r => (Cert.AttnBwdRefIdeal.Grad.r115 R a h n r).choose_spec) _ _ _ _).symm

theorem final15 : (dats m 0 c).arrAt 15 (cfgs 0).N = Cert.AttnBwdRefIdeal.Grad.resDvp W := by
  refine (dats m 0 c).arrAt_eq_of_covers 15 _ (by decide +kernel) fun t hf y => ?_
  obtain ⟨r, d, rfl⟩ : ∃ (r : Fin 128) (d : Fin 64), y = ix3 0 r d := ⟨y 1, y 2, (eq_ix3 y).trans (congrArg (fun z => ix3 z (y 1) (y 2)) (Subsingleton.elim (α := Fin 1) _ _))⟩
  refine Eq.trans ?_ (congrArg _ (place15 t r d)).symm
  rw [after0_15]
  refine (((wrote m c t).2.2.2.1 r d).trans (dvp_pt H t r d)).trans ?_
  exact (Cert.AttnBwdRefIdeal.Grad.dvp_at R (fun a h n r => (Cert.AttnBwdRefIdeal.Grad.r115 R a h n r).choose_spec) _ _ _ _).symm

theorem final16 : (dats m 0 c).arrAt 16 (cfgs 0).N = Cert.AttnBwdRefIdeal.Grad.resDvc W := by
  refine (dats m 0 c).arrAt_eq_of_covers 16 _ (by decide +kernel) fun t hf y => ?_
  obtain ⟨r, d, rfl⟩ : ∃ (r : Fin 128) (d : Fin 64), y = ix3 0 r d := ⟨y 1, y 2, (eq_ix3 y).trans (congrArg (fun z => ix3 z (y 1) (y 2)) (Subsingleton.elim (α := Fin 1) _ _))⟩
  refine Eq.trans ?_ (congrArg _ (place16 t r d)).symm
  rw [after0_16]
  refine (((wrote m c t).2.2.2.2 r d).trans (dvc_pt H t r d)).trans ?_
  exact (Cert.AttnBwdRefIdeal.Grad.dvc_at R (fun a h n r => (Cert.AttnBwdRefIdeal.Grad.r115 R a h n r).choose_spec) _ _ _ _).symm

theorem final17 : (dats m 0 c).arrAt 17 (cfgs 0).N = Cert.AttnBwdRefIdeal.Grad.resDsk W := by
  refine (dats m 0 c).arrAt_eq_of_covers 17 _ (by decide +kernel) fun t hf y => ?_
  obtain ⟨e, l, rfl⟩ : ∃ (e : Fin 8) (l : Fin 128), y = ix3 e 0 l := ⟨y 0, y 2, (eq_ix3 y).trans (congrArg (fun z => ix3 (y 0) z (y 2)) (Subsingleton.elim (α := Fin 1) _ _))⟩
  have h3 := (flush0_17 t).mp hf
  refine Eq.trans ?_ (congrArg _ (place17 t e l)).symm
  rw [after0_17]
  refine (Pipeline.eq_sum_fin_of_reset_step_apply_of_flush (fun n h (p : Fin 8 × Fin 128) => (outsAt0 m c n h).2.2.2.2.2 (ix3 p.1 0 p.2)) 64 (fun _ => 0)
    (fun t p => (pt m c t).dsk p.1 (ix2 0 p.2)) (fun t h p => sinks_first m c t h p.1 p.2) (fun t h p => sinks_next m c t h p.1 p.2) t h3 (e, l)).trans ?_
  rw [zero_add]
  refine (sink_parts H t h3 e l).trans ?_
  exact (Cert.AttnBwdRefIdeal.Grad.dsk_at R (fun a h n r => (Cert.AttnBwdRefIdeal.Grad.r115 R a h n r).choose_spec) _ _ _ _).symm

end Finals

/-- The kernel's run: on arguments that hold reals the results are the reference's, and the arguments end unchanged. -/
theorem run (W : Dev nD → Valuation Cert.AttnBwdRefIdeal.τ Cert.AttnBwdRefIdeal.sig (Elt Ideal))
    (X : ∀ c, ∃ A, Held m A c ∧ Cert.AttnBwdRefIdeal.Grad.Holds (W c) A) (g : Dev nD → PrngReg) :
    θ_run (defs (F := Ideal)) (onTc (τ := τ) (main (F := Ideal))) ⟨m, fun _ => 0, g⟩ (fun r => ∀ c : Dev nD,
      r.2.mem ((c.tc : Thread nD τ).loc main_v21_0) = Cert.AttnBwdRefIdeal.Grad.resDq (W c)
      ∧ r.2.mem ((c.tc : Thread nD τ).loc main_v21_1) = Cert.AttnBwdRefIdeal.Grad.resDkp (W c)
      ∧ r.2.mem ((c.tc : Thread nD τ).loc main_v21_2) = Cert.AttnBwdRefIdeal.Grad.resDkc (W c)
      ∧ r.2.mem ((c.tc : Thread nD τ).loc main_v21_3) = Cert.AttnBwdRefIdeal.Grad.resDvp (W c)
      ∧ r.2.mem ((c.tc : Thread nD τ).loc main_v21_4) = Cert.AttnBwdRefIdeal.Grad.resDvc (W c)
      ∧ r.2.mem ((c.tc : Thread nD τ).loc main_v21_5) = Cert.AttnBwdRefIdeal.Grad.resDsk (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m g) (unchanged m g)) fun r h c =>
    (X c).elim fun A a =>
      ⟨((h.1 c).1 12).trans (final12 a.1 a.2), ((h.1 c).1 13).trans (final13 a.1 a.2), ((h.1 c).1 14).trans (final14 a.1 a.2),
        ((h.1 c).1 15).trans (final15 a.1 a.2), ((h.1 c).1 16).trans (final16 a.1 a.2), ((h.1 c).1 17).trans (final17 a.1 a.2), h.2 c⟩

end Cert.AttnBwdIdeal.Grad

namespace Cert.Proof

open Cert.Attn

theorem both {s : Shape} (a b : IVec s 1) (j : s.Idx) (h : andi a b j = 1#1) : a j = 1#1 ∧ b j = 1#1 := by
  have key : ∀ x y : BitVec 1, IntOp.andi x y = 1#1 → x = 1#1 ∧ y = 1#1 := by decide
  exact key _ _ h

/-- An extended real whose absolute value is below `⊤` is a real. -/
theorem real_of_lt {s : Shape} (x C : FVec Ideal s .f32) (hC : ∀ i, C i = ⊤) (i : s.Idx) (e : cmpf .olt (Host.absf x) C i = 1#1) :
    x i = ((x i).toReal : EReal) := by
  have h : max (x i) (-(x i)) < C i := by
    by_contra n
    have e' : BitVec.ofBool (decide (max (x i) (-(x i)) < C i)) = 1#1 := e
    rw [decide_eq_false n] at e'
    exact absurd e' (by decide)
  rw [hC, max_lt_iff] at h
  refine (EReal.coe_toReal h.1.ne fun b => ?_).symm
  rw [b] at h
  exact absurd h.2 (by simp)

/-- Arrays whose entries are all finite hold reals. -/
theorem reals {s t u : Shape} [Subsingleton t.Idx] {axes : List (Fin s.rank)} (x C : FVec Ideal s .f32) (hC : ∀ i, C i = ⊤) (init : IVec u 1) (h : s.ReducesTo axes t) (hu : 0 < u.numel)
    (j : t.Idx) (e : Host.reduce IntOp.andi (cmpf .olt (Host.absf x) C) init h hu j = 1#1) (i : s.Idx) : x i = ((x i).toReal : EReal) :=
  real_of_lt x C hC i (Host.reduce_andi_all _ init h hu j e i)

/-- The reals that finite arguments hold. -/
def held (q g : FVec Ideal Cert.Pre_finite.S16x8192x64 .f32) (k v : FVec Ideal Cert.Pre_finite.S2x8192x64 .f32) (z : FVec Ideal Cert.Pre_finite.S16x1x128 .f32)
    (c s : FVec Ideal Cert.Pre_finite.S8192x32 .f32) : Args where
  q a t d := (q (ix3 a t d)).toReal
  k a t d := (k (ix3 a t d)).toReal
  v a t d := (v (ix3 a t d)).toReal
  z a := (z (ix3 a 0 0)).toReal
  c t d := (c (ix2 t d)).toReal
  s t d := (s (ix2 t d)).toReal
  g a t d := (g (ix3 a t d)).toReal

theorem finite_reals (q : FVec Ideal Cert.Pre_finite.S16x8192x64 .f32) (k v : FVec Ideal Cert.Pre_finite.S2x8192x64 .f32) (z : FVec Ideal Cert.Pre_finite.S16x1x128 .f32)
    (c s : FVec Ideal Cert.Pre_finite.S8192x32 .f32) (g : FVec Ideal Cert.Pre_finite.S16x8192x64 .f32)
    (h : Cert.Pre_finite.fn (F := Ideal) q k v z c s g = fun _ => 1#1) :
    (∀ i, q i = ((q i).toReal : EReal)) ∧ (∀ i, k i = ((k i).toReal : EReal)) ∧ (∀ i, v i = ((v i).toReal : EReal)) ∧ (∀ i, z i = ((z i).toReal : EReal))
      ∧ (∀ i, c i = ((c i).toReal : EReal)) ∧ (∀ i, s i = ((s i).toReal : EReal)) ∧ (∀ i, g i = ((g i).toReal : EReal)) := by
  haveI : Subsingleton Cert.Pre_finite.S_.Idx := ⟨fun a b => funext fun i => i.elim0⟩
  have top : ∀ y, (constant Cert.Pre_finite.S_ .f32 0x7F800000#32 : FVec Ideal Cert.Pre_finite.S_ .f32) y = ⊤ := fun y => by
    show Ideal.ofBits .f32 0x7F800000#32 = ⊤
    simp [Ideal.ofBits, Ideal.ieee]
  have h0 := congrFun h (fun i => i.elim0)
  unfold Cert.Pre_finite.fn Cert.Pre_finite.fn_part1 at h0
  dsimp only at h0
  obtain ⟨h0, e6⟩ := both _ _ _ h0
  obtain ⟨h0, e5⟩ := both _ _ _ h0
  obtain ⟨h0, e4⟩ := both _ _ _ h0
  obtain ⟨h0, e3⟩ := both _ _ _ h0
  obtain ⟨h0, e2⟩ := both _ _ _ h0
  obtain ⟨e0, e1⟩ := both _ _ _ h0
  exact ⟨reals _ _ (fun i => top _) _ _ _ _ e0, reals _ _ (fun i => top _) _ _ _ _ e1, reals _ _ (fun i => top _) _ _ _ _ e2, reals _ _ (fun i => top _) _ _ _ _ e3,
    reals _ _ (fun i => top _) _ _ _ _ e4, reals _ _ (fun i => top _) _ _ _ _ e5, reals _ _ (fun i => top _) _ _ _ _ e6⟩

/-- The mask's constant is the table's. -/
theorem preserves_AttnBwd : Cert.preserves_AttnBwd_AttnBwdIdeal :=
  IdealRules.named_const.statement Cert.AttnBwdIdeal.κ "mask" .f32 0xF149F2CA#32 ⊥ rfl

/-- The kernel's results are the reference's, on the same finite arguments. -/
theorem algebraic_AttnBwd : Cert.algebraic_AttnBwdIdeal_AttnBwdRefIdeal_pre_finite := by
  intro m g m' g' hpre hagree
  have X : ∀ c, ∃ A, Cert.AttnBwdIdeal.Grad.Held m A c ∧ Cert.AttnBwdRefIdeal.Grad.Holds (StableHlo.launchContents m' c) A := by
    intro c
    obtain ⟨e0, e1, e2, e3, e4, e5, e6⟩ := hagree c
    obtain ⟨f0, f1, f2, f3, f4, f5, f6⟩ := finite_reals _ _ _ _ _ _ _ (hpre c)
    refine ⟨held _ _ _ _ _ _ _, ⟨fun a t d => f0 _, fun a t d => f1 _, fun a t d => f2 _, fun a => f3 _, fun t d => f4 _, fun t d => f5 _, fun a t d => f6 _⟩,
      ⟨fun a t d => ?_, fun a t d => ?_, fun a t d => ?_, fun a => ?_, fun t d => ?_, fun t d => ?_, fun a t d => ?_⟩⟩
    · exact (congrFun e0 _).trans (f0 _)
    · exact (congrFun e1 _).trans (f1 _)
    · exact (congrFun e2 _).trans (f2 _)
    · exact (congrFun e3 _).trans (f3 _)
    · exact (congrFun e4 _).trans (f4 _)
    · exact (congrFun e5 _).trans (f5 _)
    · exact (congrFun e6 _).trans (f6 _)
  refine ⟨fun c => Cert.AttnBwdRefIdeal.Grad.resDq (StableHlo.launchContents m' c), fun c => Cert.AttnBwdRefIdeal.Grad.resDkp (StableHlo.launchContents m' c),
    fun c => Cert.AttnBwdRefIdeal.Grad.resDkc (StableHlo.launchContents m' c), fun c => Cert.AttnBwdRefIdeal.Grad.resDvp (StableHlo.launchContents m' c),
    fun c => Cert.AttnBwdRefIdeal.Grad.resDvc (StableHlo.launchContents m' c), fun c => Cert.AttnBwdRefIdeal.Grad.resDsk (StableHlo.launchContents m' c), ?_, ?_⟩
  · exact Cert.AttnBwdIdeal.Grad.run (fun c => StableHlo.launchContents m' c) X g
  · exact Cert.AttnBwdRefIdeal.Value.run (F := Ideal) m' g'

end Cert.Proof

end
-- ==== Proof.lean ====
/- The certificate: the frames, the idealizations and the value claims of every call, put together. -/
module

public import proofs.«01_k».proof.Defs
public import proofs.«01_k».proof.Proof.Gen.WgDown.Frame
public import proofs.«01_k».proof.Proof.Gen.WgUp.Frame
public import proofs.«01_k».proof.Proof.Gen.WgOut.Frame
public import proofs.«01_k».proof.Proof.Gen.DgDown.Frame
public import proofs.«01_k».proof.Proof.Gen.DgGate.Frame
public import proofs.«01_k».proof.Proof.Gen.DgUp.Frame
public import proofs.«01_k».proof.Proof.Gen.DgOut.Frame
public import proofs.«01_k».proof.Proof.Gen.SwigluBwd.Frame
public import proofs.«01_k».proof.Proof.Gen.ResgateBwd.Frame
public import proofs.«01_k».proof.Proof.Gen.MmIn.Frame
public import proofs.«01_k».proof.Proof.Gen.MmGate.Frame
public import proofs.«01_k».proof.Proof.Gen.MmOutDn.Frame
public import proofs.«01_k».proof.Proof.Gen.MmOutAt.Frame
public import proofs.«01_k».proof.Proof.Gen.MmDown.Frame
public import proofs.«01_k».proof.Proof.Gen.Swiglu.Frame
public import proofs.«01_k».proof.Proof.Gen.NormmodBwd.Frame
public import proofs.«01_k».proof.Proof.Gen.Normmod.Frame
public import proofs.«01_k».proof.Proof.Gen.Dnpost.Frame
public import proofs.«01_k».proof.Proof.Gen.DnpostBwd.Frame
public import proofs.«01_k».proof.Proof.Gen.Dnpre.Frame
public import proofs.«01_k».proof.Proof.Gen.DnpreBwd.Frame
public import proofs.«01_k».proof.Proof.Gen.Conv.Frame
public import proofs.«01_k».proof.Proof.Gen.ConvBwd.Frame
public import proofs.«01_k».proof.Proof.Gen.KvCombine.Frame
public import proofs.«01_k».proof.Proof.Gen.Bg.Frame
public import proofs.«01_k».proof.Proof.Gen.LossRows.Frame
public import proofs.«01_k».proof.Proof.Gen.AdamwGu.Frame
public import proofs.«01_k».proof.Proof.Gen.AdamwIn.Frame
public import proofs.«01_k».proof.Proof.Gen.AdamwOut.Frame
public import proofs.«01_k».proof.Proof.Gen.AdamwDown.Frame
public import proofs.«01_k».proof.Proof.Gen.AttnBwd.Frame
public import proofs.«01_k».proof.Proof.Gen.Pre_finite
public import proofs.«01_k».proof.Proof.WgDown
public import proofs.«01_k».proof.Proof.WgUp
public import proofs.«01_k».proof.Proof.WgOut
public import proofs.«01_k».proof.Proof.DgDown
public import proofs.«01_k».proof.Proof.DgGate
public import proofs.«01_k».proof.Proof.DgUp
public import proofs.«01_k».proof.Proof.DgOut
public import proofs.«01_k».proof.Proof.SwigluBwd
public import proofs.«01_k».proof.Proof.ResgateBwd
public import proofs.«01_k».proof.Proof.MmIn
public import proofs.«01_k».proof.Proof.MmGate
public import proofs.«01_k».proof.Proof.MmOutDn
public import proofs.«01_k».proof.Proof.MmOutAt
public import proofs.«01_k».proof.Proof.MmDown
public import proofs.«01_k».proof.Proof.Swiglu
public import proofs.«01_k».proof.Proof.NormmodBwd
public import proofs.«01_k».proof.Proof.Normmod
public import proofs.«01_k».proof.Proof.Dnpost
public import proofs.«01_k».proof.Proof.DnpostBwd
public import proofs.«01_k».proof.Proof.Dnpre
public import proofs.«01_k».proof.Proof.DnpreBwd
public import proofs.«01_k».proof.Proof.Conv
public import proofs.«01_k».proof.Proof.ConvBwd
public import proofs.«01_k».proof.Proof.KvCombine
public import proofs.«01_k».proof.Proof.Bg
public import proofs.«01_k».proof.Proof.LossRows
public import proofs.«01_k».proof.Proof.Adamw
public import proofs.«01_k».proof.Proof.AttnBwd
public import Idealize.ShloMosaic.Adequacy
public import Idealize.ShloMosaic.Init
public import Idealize.ShloMosaic.Lib.Quiescent

@[expose] public section

noncomputable section

namespace Cert.Proof

open Idealize.ShloMosaic Idealize.SL.Sem

/-- The reference of `WgDown` ends with its arguments unchanged and no semaphore counted up. -/
theorem quiescent_WgDownRefIdeal : Cert.quiescent_WgDownRefIdeal := fun m ρ _ =>
  (θ_run Cert.WgDownRefIdeal.defs _ _).mono (fun r h => ⟨fun c => (h c).2, sem_eq_zero_of_no_sems (by decide) r.2⟩)
    (Cert.WgDownRefIdeal.Value.run (F := Ideal) m ρ)

/-- The reference of `WgUp` ends with its arguments unchanged and no semaphore counted up. -/
theorem quiescent_WgUpRefIdeal : Cert.quiescent_WgUpRefIdeal := fun m ρ _ =>
  (θ_run Cert.WgUpRefIdeal.defs _ _).mono (fun r h => ⟨fun c => (h c).2, sem_eq_zero_of_no_sems (by decide) r.2⟩)
    (Cert.WgUpRefIdeal.Value.run (F := Ideal) m ρ)

/-- The reference of `WgOut` ends with its arguments unchanged and no semaphore counted up. -/
theorem quiescent_WgOutRefIdeal : Cert.quiescent_WgOutRefIdeal := fun m ρ _ =>
  (θ_run Cert.WgOutRefIdeal.defs _ _).mono (fun r h => ⟨fun c => (h c).2, sem_eq_zero_of_no_sems (by decide) r.2⟩)
    (Cert.WgOutRefIdeal.Value.run (F := Ideal) m ρ)

/-- The reference of `DgDown` ends with its arguments unchanged and no semaphore counted up. -/
theorem quiescent_DgDownRefIdeal : Cert.quiescent_DgDownRefIdeal := fun m ρ _ =>
  (θ_run Cert.DgDownRefIdeal.defs _ _).mono (fun r h => ⟨fun c => (h c).2, sem_eq_zero_of_no_sems (by decide) r.2⟩)
    (Cert.DgDownRefIdeal.Value.run (F := Ideal) m ρ)

/-- The reference of `DgGate` ends with its arguments unchanged and no semaphore counted up. -/
theorem quiescent_DgGateRefIdeal : Cert.quiescent_DgGateRefIdeal := fun m ρ _ =>
  (θ_run Cert.DgGateRefIdeal.defs _ _).mono (fun r h => ⟨fun c => (h c).2, sem_eq_zero_of_no_sems (by decide) r.2⟩)
    (Cert.DgGateRefIdeal.Value.run (F := Ideal) m ρ)

/-- The reference of `DgUp` ends with its arguments unchanged and no semaphore counted up. -/
theorem quiescent_DgUpRefIdeal : Cert.quiescent_DgUpRefIdeal := fun m ρ _ =>
  (θ_run Cert.DgUpRefIdeal.defs _ _).mono (fun r h => ⟨fun c => (h c).2, sem_eq_zero_of_no_sems (by decide) r.2⟩)
    (Cert.DgUpRefIdeal.Value.run (F := Ideal) m ρ)

/-- The reference of `DgOut` ends with its arguments unchanged and no semaphore counted up. -/
theorem quiescent_DgOutRefIdeal : Cert.quiescent_DgOutRefIdeal := fun m ρ _ =>
  (θ_run Cert.DgOutRefIdeal.defs _ _).mono (fun r h => ⟨fun c => (h c).2, sem_eq_zero_of_no_sems (by decide) r.2⟩)
    (Cert.DgOutRefIdeal.Value.run (F := Ideal) m ρ)

/-- The reference of `SwigluBwd` ends with its arguments unchanged and no semaphore counted up. -/
theorem quiescent_SwigluBwdRefIdeal : Cert.quiescent_SwigluBwdRefIdeal := fun m ρ _ =>
  (θ_run Cert.SwigluBwdRefIdeal.defs _ _).mono (fun r h => ⟨fun c => (h c).2.2, sem_eq_zero_of_no_sems (by decide) r.2⟩)
    (Cert.SwigluBwdRefIdeal.Value.run (F := Ideal) m ρ)

/-- The reference of `ResgateBwd` ends with its arguments unchanged and no semaphore counted up. -/
theorem quiescent_ResgateBwdRefIdeal : Cert.quiescent_ResgateBwdRefIdeal := fun m ρ _ =>
  (θ_run Cert.ResgateBwdRefIdeal.defs _ _).mono (fun r h => ⟨fun c => (h c).2.2, sem_eq_zero_of_no_sems (by decide) r.2⟩)
    (Cert.ResgateBwdRefIdeal.Value.run (F := Ideal) m ρ)

/-- The reference of `MmIn` ends with its arguments unchanged and no semaphore counted up. -/
theorem quiescent_MmInRefIdeal : Cert.quiescent_MmInRefIdeal := fun m ρ _ =>
  (θ_run Cert.MmInRefIdeal.defs _ _).mono (fun r h => ⟨fun c => (h c).2, sem_eq_zero_of_no_sems (by decide) r.2⟩)
    (Cert.MmInRefIdeal.Value.run (F := Ideal) m ρ)

/-- The reference of `MmGate` ends with its arguments unchanged and no semaphore counted up. -/
theorem quiescent_MmGateRefIdeal : Cert.quiescent_MmGateRefIdeal := fun m ρ _ =>
  (θ_run Cert.MmGateRefIdeal.defs _ _).mono (fun r h => ⟨fun c => (h c).2, sem_eq_zero_of_no_sems (by decide) r.2⟩)
    (Cert.MmGateRefIdeal.Value.run (F := Ideal) m ρ)

/-- The reference of `MmOutDn` ends with its arguments unchanged and no semaphore counted up. -/
theorem quiescent_MmOutDnRefIdeal : Cert.quiescent_MmOutDnRefIdeal := fun m ρ _ =>
  (θ_run Cert.MmOutDnRefIdeal.defs _ _).mono (fun r h => ⟨fun c => (h c).2, sem_eq_zero_of_no_sems (by decide) r.2⟩)
    (Cert.MmOutDnRefIdeal.Value.run (F := Ideal) m ρ)

/-- The reference of `MmOutAt` ends with its arguments unchanged and no semaphore counted up. -/
theorem quiescent_MmOutAtRefIdeal : Cert.quiescent_MmOutAtRefIdeal := fun m ρ _ =>
  (θ_run Cert.MmOutAtRefIdeal.defs _ _).mono (fun r h => ⟨fun c => (h c).2.2, sem_eq_zero_of_no_sems (by decide) r.2⟩)
    (Cert.MmOutAtRefIdeal.Value.run (F := Ideal) m ρ)

/-- The reference of `MmDown` ends with its arguments unchanged and no semaphore counted up. -/
theorem quiescent_MmDownRefIdeal : Cert.quiescent_MmDownRefIdeal := fun m ρ _ =>
  (θ_run Cert.MmDownRefIdeal.defs _ _).mono (fun r h => ⟨fun c => (h c).2.2, sem_eq_zero_of_no_sems (by decide) r.2⟩)
    (Cert.MmDownRefIdeal.Value.run (F := Ideal) m ρ)

/-- The reference of `Swiglu` ends with its arguments unchanged and no semaphore counted up. -/
theorem quiescent_SwigluRefIdeal : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)

/-- The reference of `NormmodBwd` ends with its arguments unchanged and no semaphore counted up. -/
theorem quiescent_NormmodBwdRefIdeal : Cert.quiescent_NormmodBwdRefIdeal := fun m ρ _ =>
  (θ_run Cert.NormmodBwdRefIdeal.defs _ _).mono (fun r h => ⟨fun c => (h c).2.2.2.2, sem_eq_zero_of_no_sems (by decide) r.2⟩)
    (Cert.NormmodBwdRefIdeal.Value.run (F := Ideal) m ρ)

/-- The reference of `Normmod` ends with its arguments unchanged and no semaphore counted up. -/
theorem quiescent_NormmodRefIdeal : Cert.quiescent_NormmodRefIdeal := fun m ρ _ =>
  (θ_run Cert.NormmodRefIdeal.defs _ _).mono (fun r h => ⟨fun c => (h c).2, sem_eq_zero_of_no_sems (by decide) r.2⟩)
    (Cert.NormmodRefIdeal.Value.run (F := Ideal) m ρ)

/-- The reference of `Dnpost` ends with its arguments unchanged and no semaphore counted up. -/
theorem quiescent_DnpostRefIdeal : Cert.quiescent_DnpostRefIdeal := fun m ρ _ =>
  (θ_run Cert.DnpostRefIdeal.defs _ _).mono (fun r h => ⟨fun c => (h c).2, sem_eq_zero_of_no_sems (by decide) r.2⟩)
    (Cert.DnpostRefIdeal.Value.run (F := Ideal) m ρ)

/-- The reference of `DnpostBwd` ends with its arguments unchanged and no semaphore counted up. -/
theorem quiescent_DnpostBwdRefIdeal : Cert.quiescent_DnpostBwdRefIdeal := fun m ρ _ =>
  (θ_run Cert.DnpostBwdRefIdeal.defs _ _).mono (fun r h => ⟨fun c => (h c).2.2.2, sem_eq_zero_of_no_sems (by decide) r.2⟩)
    (Cert.DnpostBwdRefIdeal.Value.run (F := Ideal) m ρ)

/-- The reference of `Dnpre` ends with its arguments unchanged and no semaphore counted up. -/
theorem quiescent_DnpreRefIdeal : Cert.quiescent_DnpreRefIdeal := fun m ρ _ =>
  (θ_run Cert.DnpreRefIdeal.defs _ _).mono (fun r h => ⟨fun c => (h c).2, sem_eq_zero_of_no_sems (by decide) r.2⟩)
    (Cert.DnpreRefIdeal.Value.run (F := Ideal) m ρ)

/-- The reference of `DnpreBwd` ends with its arguments unchanged and no semaphore counted up. -/
theorem quiescent_DnpreBwdRefIdeal : Cert.quiescent_DnpreBwdRefIdeal := fun m ρ _ =>
  (θ_run Cert.DnpreBwdRefIdeal.defs _ _).mono (fun r h => ⟨fun c => (h c).2, sem_eq_zero_of_no_sems (by decide) r.2⟩)
    (Cert.DnpreBwdRefIdeal.Value.run (F := Ideal) m ρ)

/-- The reference of `Conv` ends with its arguments unchanged and no semaphore counted up. -/
theorem quiescent_ConvRefIdeal : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The reference of `ConvBwd` ends with its arguments unchanged and no semaphore counted up. -/
theorem quiescent_ConvBwdRefIdeal : Cert.quiescent_ConvBwdRefIdeal := fun m ρ _ =>
  (θ_run Cert.ConvBwdRefIdeal.defs _ _).mono (fun r h => ⟨fun c => (h c).2.2, sem_eq_zero_of_no_sems (by decide) r.2⟩)
    (Cert.ConvBwdRefIdeal.Value.run (F := Ideal) m ρ)

/-- The reference of `AttnBwd` ends with its arguments unchanged and no semaphore counted up. -/
theorem quiescent_AttnBwdRefIdeal : Cert.quiescent_AttnBwdRefIdeal := fun m ρ _ =>
  (θ_run Cert.AttnBwdRefIdeal.defs _ _).mono (fun r h => ⟨fun c => (h c).2.2.2.2.2.2, sem_eq_zero_of_no_sems (by decide) r.2⟩)
    (Cert.AttnBwdRefIdeal.Value.run (F := Ideal) m ρ)

/-- The reference of `KvCombine` ends with its arguments unchanged and no semaphore counted up. -/
theorem quiescent_KvCombineRefIdeal : Cert.quiescent_KvCombineRefIdeal := fun m ρ _ =>
  (θ_run Cert.KvCombineRefIdeal.defs _ _).mono (fun r h => ⟨fun c => (h c).2, sem_eq_zero_of_no_sems (by decide) r.2⟩)
    (Cert.KvCombineRefIdeal.Value.run (F := Ideal) m ρ)

/-- The reference of `Bg` ends with its arguments unchanged and no semaphore counted up. -/
theorem quiescent_BgRefIdeal : Cert.quiescent_BgRefIdeal := fun m ρ _ =>
  (θ_run Cert.BgRefIdeal.defs _ _).mono (fun r h => ⟨fun c => (h c).2, sem_eq_zero_of_no_sems (by decide) r.2⟩)
    (Cert.BgRefIdeal.Value.run (F := Ideal) m ρ)

/-- The reference of `LossRows` ends with its arguments unchanged and no semaphore counted up. -/
theorem quiescent_LossRowsRefIdeal : Cert.quiescent_LossRowsRefIdeal := fun m ρ _ =>
  (θ_run Cert.LossRowsRefIdeal.defs _ _).mono (fun r h => ⟨fun c => (h c).2, sem_eq_zero_of_no_sems (by decide) r.2⟩)
    (Cert.LossRowsRefIdeal.Value.run (F := Ideal) m ρ)

/-- The reference of `AdamwGu` ends with its arguments unchanged and no semaphore counted up. -/
theorem quiescent_AdamwGuRefIdeal : Cert.quiescent_AdamwGuRefIdeal := fun m ρ _ =>
  (θ_run Cert.AdamwGuRefIdeal.defs _ _).mono (fun r h => ⟨fun c => (h c).2.2.2.2, sem_eq_zero_of_no_sems (by decide) r.2⟩)
    (Cert.AdamwGuRefIdeal.Value.run (F := Ideal) m ρ)

/-- The reference of `AdamwIn` ends with its arguments unchanged and no semaphore counted up. -/
theorem quiescent_AdamwInRefIdeal : Cert.quiescent_AdamwInRefIdeal := fun m ρ _ =>
  (θ_run Cert.AdamwInRefIdeal.defs _ _).mono (fun r h => ⟨fun c => (h c).2.2.2.2, sem_eq_zero_of_no_sems (by decide) r.2⟩)
    (Cert.AdamwInRefIdeal.Value.run (F := Ideal) m ρ)

/-- The reference of `AdamwOut` ends with its arguments unchanged and no semaphore counted up. -/
theorem quiescent_AdamwOutRefIdeal : Cert.quiescent_AdamwOutRefIdeal := fun m ρ _ =>
  (θ_run Cert.AdamwOutRefIdeal.defs _ _).mono (fun r h => ⟨fun c => (h c).2.2.2.2, sem_eq_zero_of_no_sems (by decide) r.2⟩)
    (Cert.AdamwOutRefIdeal.Value.run (F := Ideal) m ρ)

/-- The reference of `AdamwDown` ends with its arguments unchanged and no semaphore counted up. -/
theorem quiescent_AdamwDownRefIdeal : Cert.quiescent_AdamwDownRefIdeal := fun m ρ _ =>
  (θ_run Cert.AdamwDownRefIdeal.defs _ _).mono (fun r h => ⟨fun c => (h c).2.2.2.2, sem_eq_zero_of_no_sems (by decide) r.2⟩)
    (Cert.AdamwDownRefIdeal.Value.run (F := Ideal) m ρ)

/-- Every claim. -/
theorem claim : Cert.Claim :=
  ⟨Cert.WgDown.Gen.facts,
    Cert.WgDownIdeal.Gen.facts,
    Cert.WgDownRefIdeal.Gen.facts,
    Cert.WgUp.Gen.facts,
    Cert.WgUpIdeal.Gen.facts,
    Cert.WgUpRefIdeal.Gen.facts,
    Cert.WgOut.Gen.facts,
    Cert.WgOutIdeal.Gen.facts,
    Cert.WgOutRefIdeal.Gen.facts,
    Cert.DgDown.Gen.facts,
    Cert.DgDownIdeal.Gen.facts,
    Cert.DgDownRefIdeal.Gen.facts,
    Cert.DgGate.Gen.facts,
    Cert.DgGateIdeal.Gen.facts,
    Cert.DgGateRefIdeal.Gen.facts,
    Cert.DgUp.Gen.facts,
    Cert.DgUpIdeal.Gen.facts,
    Cert.DgUpRefIdeal.Gen.facts,
    Cert.DgOut.Gen.facts,
    Cert.DgOutIdeal.Gen.facts,
    Cert.DgOutRefIdeal.Gen.facts,
    Cert.SwigluBwd.Gen.facts,
    Cert.SwigluBwdIdeal.Gen.facts,
    Cert.SwigluBwdRefIdeal.Gen.facts,
    Cert.ResgateBwd.Gen.facts,
    Cert.ResgateBwdIdeal.Gen.facts,
    Cert.ResgateBwdRefIdeal.Gen.facts,
    Cert.MmIn.Gen.facts,
    Cert.MmInIdeal.Gen.facts,
    Cert.MmInRefIdeal.Gen.facts,
    Cert.MmGate.Gen.facts,
    Cert.MmGateIdeal.Gen.facts,
    Cert.MmGateRefIdeal.Gen.facts,
    Cert.MmOutDn.Gen.facts,
    Cert.MmOutDnIdeal.Gen.facts,
    Cert.MmOutDnRefIdeal.Gen.facts,
    Cert.MmOutAt.Gen.facts,
    Cert.MmOutAtIdeal.Gen.facts,
    Cert.MmOutAtRefIdeal.Gen.facts,
    Cert.MmDown.Gen.facts,
    Cert.MmDownIdeal.Gen.facts,
    Cert.MmDownRefIdeal.Gen.facts,
    Cert.Swiglu.Gen.facts,
    Cert.SwigluIdeal.Gen.facts,
    Cert.SwigluRefIdeal.Gen.facts,
    Cert.NormmodBwd.Gen.facts,
    Cert.NormmodBwdIdeal.Gen.facts,
    Cert.NormmodBwdRefIdeal.Gen.facts,
    Cert.Normmod.Gen.facts,
    Cert.NormmodIdeal.Gen.facts,
    Cert.NormmodRefIdeal.Gen.facts,
    Cert.Dnpost.Gen.facts,
    Cert.DnpostIdeal.Gen.facts,
    Cert.DnpostRefIdeal.Gen.facts,
    Cert.DnpostBwd.Gen.facts,
    Cert.DnpostBwdIdeal.Gen.facts,
    Cert.DnpostBwdRefIdeal.Gen.facts,
    Cert.Dnpre.Gen.facts,
    Cert.DnpreIdeal.Gen.facts,
    Cert.DnpreRefIdeal.Gen.facts,
    Cert.DnpreBwd.Gen.facts,
    Cert.DnpreBwdIdeal.Gen.facts,
    Cert.DnpreBwdRefIdeal.Gen.facts,
    Cert.Conv.Gen.facts,
    Cert.ConvIdeal.Gen.facts,
    Cert.ConvRefIdeal.Gen.facts,
    Cert.ConvBwd.Gen.facts,
    Cert.ConvBwdIdeal.Gen.facts,
    Cert.ConvBwdRefIdeal.Gen.facts,
    Cert.KvCombine.Gen.facts,
    Cert.KvCombineIdeal.Gen.facts,
    Cert.KvCombineRefIdeal.Gen.facts,
    Cert.Bg.Gen.facts,
    Cert.BgIdeal.Gen.facts,
    Cert.BgRefIdeal.Gen.facts,
    Cert.LossRows.Gen.facts,
    Cert.LossRowsIdeal.Gen.facts,
    Cert.LossRowsRefIdeal.Gen.facts,
    Cert.AdamwGu.Gen.facts,
    Cert.AdamwGuIdeal.Gen.facts,
    Cert.AdamwGuRefIdeal.Gen.facts,
    Cert.AdamwIn.Gen.facts,
    Cert.AdamwInIdeal.Gen.facts,
    Cert.AdamwInRefIdeal.Gen.facts,
    Cert.AdamwOut.Gen.facts,
    Cert.AdamwOutIdeal.Gen.facts,
    Cert.AdamwOutRefIdeal.Gen.facts,
    Cert.AdamwDown.Gen.facts,
    Cert.AdamwDownIdeal.Gen.facts,
    Cert.AdamwDownRefIdeal.Gen.facts,
    Cert.AttnBwd.Gen.facts,
    Cert.AttnBwdIdeal.Gen.facts,
    Cert.AttnBwdRefIdeal.Gen.facts,
    Cert.Pre_finite.Gen.facts,
    fun m ρ _ => Cert.WgDown.Gen.frame m ρ,
    fun m ρ _ => Cert.WgDownIdeal.Gen.frame m ρ,
    quiescent_WgDownRefIdeal,
    fun m ρ _ => Cert.WgUp.Gen.frame m ρ,
    fun m ρ _ => Cert.WgUpIdeal.Gen.frame m ρ,
    quiescent_WgUpRefIdeal,
    fun m ρ _ => Cert.WgOut.Gen.frame m ρ,
    fun m ρ _ => Cert.WgOutIdeal.Gen.frame m ρ,
    quiescent_WgOutRefIdeal,
    fun m ρ _ => Cert.DgDown.Gen.frame m ρ,
    fun m ρ _ => Cert.DgDownIdeal.Gen.frame m ρ,
    quiescent_DgDownRefIdeal,
    fun m ρ _ => Cert.DgGate.Gen.frame m ρ,
    fun m ρ _ => Cert.DgGateIdeal.Gen.frame m ρ,
    quiescent_DgGateRefIdeal,
    fun m ρ _ => Cert.DgUp.Gen.frame m ρ,
    fun m ρ _ => Cert.DgUpIdeal.Gen.frame m ρ,
    quiescent_DgUpRefIdeal,
    fun m ρ _ => Cert.DgOut.Gen.frame m ρ,
    fun m ρ _ => Cert.DgOutIdeal.Gen.frame m ρ,
    quiescent_DgOutRefIdeal,
    fun m ρ _ => Cert.SwigluBwd.Gen.frame m ρ,
    fun m ρ _ => Cert.SwigluBwdIdeal.Gen.frame m ρ,
    quiescent_SwigluBwdRefIdeal,
    fun m ρ _ => Cert.ResgateBwd.Gen.frame m ρ,
    fun m ρ _ => Cert.ResgateBwdIdeal.Gen.frame m ρ,
    quiescent_ResgateBwdRefIdeal,
    fun m ρ _ => Cert.MmIn.Gen.frame m ρ,
    fun m ρ _ => Cert.MmInIdeal.Gen.frame m ρ,
    quiescent_MmInRefIdeal,
    fun m ρ _ => Cert.MmGate.Gen.frame m ρ,
    fun m ρ _ => Cert.MmGateIdeal.Gen.frame m ρ,
    quiescent_MmGateRefIdeal,
    fun m ρ _ => Cert.MmOutDn.Gen.frame m ρ,
    fun m ρ _ => Cert.MmOutDnIdeal.Gen.frame m ρ,
    quiescent_MmOutDnRefIdeal,
    fun m ρ _ => Cert.MmOutAt.Gen.frame m ρ,
    fun m ρ _ => Cert.MmOutAtIdeal.Gen.frame m ρ,
    quiescent_MmOutAtRefIdeal,
    fun m ρ _ => Cert.MmDown.Gen.frame m ρ,
    fun m ρ _ => Cert.MmDownIdeal.Gen.frame m ρ,
    quiescent_MmDownRefIdeal,
    fun m ρ _ => Cert.Swiglu.Gen.frame m ρ,
    fun m ρ _ => Cert.SwigluIdeal.Gen.frame m ρ,
    quiescent_SwigluRefIdeal,
    fun m ρ _ => Cert.NormmodBwd.Gen.frame m ρ,
    fun m ρ _ => Cert.NormmodBwdIdeal.Gen.frame m ρ,
    quiescent_NormmodBwdRefIdeal,
    fun m ρ _ => Cert.Normmod.Gen.frame m ρ,
    fun m ρ _ => Cert.NormmodIdeal.Gen.frame m ρ,
    quiescent_NormmodRefIdeal,
    fun m ρ _ => Cert.Dnpost.Gen.frame m ρ,
    fun m ρ _ => Cert.DnpostIdeal.Gen.frame m ρ,
    quiescent_DnpostRefIdeal,
    fun m ρ _ => Cert.DnpostBwd.Gen.frame m ρ,
    fun m ρ _ => Cert.DnpostBwdIdeal.Gen.frame m ρ,
    quiescent_DnpostBwdRefIdeal,
    fun m ρ _ => Cert.Dnpre.Gen.frame m ρ,
    fun m ρ _ => Cert.DnpreIdeal.Gen.frame m ρ,
    quiescent_DnpreRefIdeal,
    fun m ρ _ => Cert.DnpreBwd.Gen.frame m ρ,
    fun m ρ _ => Cert.DnpreBwdIdeal.Gen.frame m ρ,
    quiescent_DnpreBwdRefIdeal,
    fun m ρ _ => Cert.Conv.Gen.frame m ρ,
    fun m ρ _ => Cert.ConvIdeal.Gen.frame m ρ,
    quiescent_ConvRefIdeal,
    fun m ρ _ => Cert.ConvBwd.Gen.frame m ρ,
    fun m ρ _ => Cert.ConvBwdIdeal.Gen.frame m ρ,
    quiescent_ConvBwdRefIdeal,
    fun m ρ _ => Cert.KvCombine.Gen.frame m ρ,
    fun m ρ _ => Cert.KvCombineIdeal.Gen.frame m ρ,
    quiescent_KvCombineRefIdeal,
    fun m ρ _ => Cert.Bg.Gen.frame m ρ,
    fun m ρ _ => Cert.BgIdeal.Gen.frame m ρ,
    quiescent_BgRefIdeal,
    fun m ρ _ => Cert.LossRows.Gen.frame m ρ,
    fun m ρ _ => Cert.LossRowsIdeal.Gen.frame m ρ,
    quiescent_LossRowsRefIdeal,
    fun m ρ _ => Cert.AdamwGu.Gen.frame m ρ,
    fun m ρ _ => Cert.AdamwGuIdeal.Gen.frame m ρ,
    quiescent_AdamwGuRefIdeal,
    fun m ρ _ => Cert.AdamwIn.Gen.frame m ρ,
    fun m ρ _ => Cert.AdamwInIdeal.Gen.frame m ρ,
    quiescent_AdamwInRefIdeal,
    fun m ρ _ => Cert.AdamwOut.Gen.frame m ρ,
    fun m ρ _ => Cert.AdamwOutIdeal.Gen.frame m ρ,
    quiescent_AdamwOutRefIdeal,
    fun m ρ _ => Cert.AdamwDown.Gen.frame m ρ,
    fun m ρ _ => Cert.AdamwDownIdeal.Gen.frame m ρ,
    quiescent_AdamwDownRefIdeal,
    fun m ρ _ => Cert.AttnBwd.Gen.frame m ρ,
    fun m ρ _ => Cert.AttnBwdIdeal.Gen.frame m ρ,
    fun m ρ _ => Cert.AttnBwdIdeal.Gen.frame m ρ,
    quiescent_AttnBwdRefIdeal,
    fun m ρ _ => quiescent_AttnBwdRefIdeal m ρ trivial,
    (trivial : Cert.preserves_WgDown_WgDownIdeal),
    algebraic_WgDown,
    (trivial : Cert.preserves_WgUp_WgUpIdeal),
    algebraic_WgUp,
    (trivial : Cert.preserves_WgOut_WgOutIdeal),
    algebraic_WgOut,
    (trivial : Cert.preserves_DgDown_DgDownIdeal),
    algebraic_DgDown,
    (trivial : Cert.preserves_DgGate_DgGateIdeal),
    algebraic_DgGate,
    (trivial : Cert.preserves_DgUp_DgUpIdeal),
    algebraic_DgUp,
    (trivial : Cert.preserves_DgOut_DgOutIdeal),
    algebraic_DgOut,
    (trivial : Cert.preserves_SwigluBwd_SwigluBwdIdeal),
    algebraic_SwigluBwd,
    (trivial : Cert.preserves_ResgateBwd_ResgateBwdIdeal),
    algebraic_ResgateBwd,
    (trivial : Cert.preserves_MmIn_MmInIdeal),
    algebraic_MmIn,
    (trivial : Cert.preserves_MmGate_MmGateIdeal),
    algebraic_MmGate,
    (trivial : Cert.preserves_MmOutDn_MmOutDnIdeal),
    algebraic_MmOutDn,
    (trivial : Cert.preserves_MmOutAt_MmOutAtIdeal),
    algebraic_MmOutAt,
    (trivial : Cert.preserves_MmDown_MmDownIdeal),
    algebraic_MmDown,
    (trivial : Cert.preserves_Swiglu_SwigluIdeal),
    algebraic_Swiglu,
    (trivial : Cert.preserves_NormmodBwd_NormmodBwdIdeal),
    algebraic_NormmodBwd,
    (trivial : Cert.preserves_Normmod_NormmodIdeal),
    algebraic_Normmod,
    (trivial : Cert.preserves_Dnpost_DnpostIdeal),
    algebraic_Dnpost,
    (trivial : Cert.preserves_DnpostBwd_DnpostBwdIdeal),
    algebraic_DnpostBwd,
    (trivial : Cert.preserves_Dnpre_DnpreIdeal),
    algebraic_Dnpre,
    (trivial : Cert.preserves_DnpreBwd_DnpreBwdIdeal),
    algebraic_DnpreBwd,
    (trivial : Cert.preserves_Conv_ConvIdeal),
    algebraic_Conv,
    (trivial : Cert.preserves_ConvBwd_ConvBwdIdeal),
    algebraic_ConvBwd,
    (trivial : Cert.preserves_KvCombine_KvCombineIdeal),
    algebraic_KvCombine,
    (trivial : Cert.preserves_Bg_BgIdeal),
    algebraic_Bg,
    (trivial : Cert.preserves_LossRows_LossRowsIdeal),
    algebraic_LossRows,
    (trivial : Cert.preserves_AdamwGu_AdamwGuIdeal),
    algebraic_AdamwGu,
    (trivial : Cert.preserves_AdamwIn_AdamwInIdeal),
    algebraic_AdamwIn,
    (trivial : Cert.preserves_AdamwOut_AdamwOutIdeal),
    algebraic_AdamwOut,
    (trivial : Cert.preserves_AdamwDown_AdamwDownIdeal),
    algebraic_AdamwDown,
    preserves_AttnBwd,
    algebraic_AttnBwd⟩

end Cert.Proof
